-- ==== Defs.lean ====
def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvKernelIdeal_ct_finite [hPre_ct_finite : Cert.Pre_ct_finite.Facts] (m : (ℓ : Loc Cert.ConvKernelIdeal.nD Cert.ConvKernelIdeal.τ Cert.ConvKernelIdeal.sig) → Buf (Elt Ideal) ℓ) : Prop :=
  ∀ c : Dev Cert.ConvKernelIdeal.nD,
    (Cert.Pre_ct_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3))) = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_ct_finite [hPre_ct_finite : Cert.Pre_ct_finite.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_ct_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3))) = (fun _ => 1#1)

def Pre_FfKernel (m : (ℓ : Loc Cert.FfKernel.nD Cert.FfKernel.τ Cert.FfKernel.sig) → Buf (Elt Bits) ℓ) : Prop :=
  True

def Pre_FfKernelIdeal (m : (ℓ : Loc Cert.FfKernelIdeal.nD Cert.FfKernelIdeal.τ Cert.FfKernelIdeal.sig) → Buf (Elt Ideal) ℓ) : Prop :=
  True

def Pre_FfReferenceIdeal (m : (ℓ : Loc Cert.FfReferenceIdeal.nD Cert.FfReferenceIdeal.τ Cert.FfReferenceIdeal.sig) → Buf (Elt Ideal) ℓ) : Prop :=
  True

def Pre_PnKernel (m : (ℓ : Loc Cert.PnKernel.nD Cert.PnKernel.τ Cert.PnKernel.sig) → Buf (Elt Bits) ℓ) : Prop :=
  True

def Pre_PnKernelIdeal (m : (ℓ : Loc Cert.PnKernelIdeal.nD Cert.PnKernelIdeal.τ Cert.PnKernelIdeal.sig) → Buf (Elt Ideal) ℓ) : Prop :=
  True

def Pre_PnReferenceIdeal (m : (ℓ : Loc Cert.PnReferenceIdeal.nD Cert.PnReferenceIdeal.τ Cert.PnReferenceIdeal.sig) → Buf (Elt Ideal) ℓ) : Prop :=
  True

def Pre_RnKernel (m : (ℓ : Loc Cert.RnKernel.nD Cert.RnKernel.τ Cert.RnKernel.sig) → Buf (Elt Bits) ℓ) : Prop :=
  True

def Pre_RnKernelIdeal (m : (ℓ : Loc Cert.RnKernelIdeal.nD Cert.RnKernelIdeal.τ Cert.RnKernelIdeal.sig) → Buf (Elt Ideal) ℓ) : Prop :=
  True

def Pre_RnReferenceIdeal (m : (ℓ : Loc Cert.RnReferenceIdeal.nD Cert.RnReferenceIdeal.τ Cert.RnReferenceIdeal.sig) → Buf (Elt Ideal) ℓ) : Prop :=
  True

def Pre_RlKernel (m : (ℓ : Loc Cert.RlKernel.nD Cert.RlKernel.τ Cert.RlKernel.sig) → Buf (Elt Bits) ℓ) : Prop :=
  True

def Pre_RlKernelIdeal (m : (ℓ : Loc Cert.RlKernelIdeal.nD Cert.RlKernelIdeal.τ Cert.RlKernelIdeal.sig) → Buf (Elt Ideal) ℓ) : Prop :=
  True

def Pre_RlReferenceIdeal (m : (ℓ : Loc Cert.RlReferenceIdeal.nD Cert.RlReferenceIdeal.τ Cert.RlReferenceIdeal.sig) → Buf (Elt Ideal) ℓ) : Prop :=
  True

def Pre_SwaKernel (m : (ℓ : Loc Cert.SwaKernel.nD Cert.SwaKernel.τ Cert.SwaKernel.sig) → Buf (Elt Bits) ℓ) : Prop :=
  True

def Pre_SwaKernelIdeal (m : (ℓ : Loc Cert.SwaKernelIdeal.nD Cert.SwaKernelIdeal.τ Cert.SwaKernelIdeal.sig) → Buf (Elt Ideal) ℓ) : Prop :=
  True

def Pre_SwaKernelIdeal_swa_finite [hPre_swa_finite : Cert.Pre_swa_finite.Facts] (m : (ℓ : Loc Cert.SwaKernelIdeal.nD Cert.SwaKernelIdeal.τ Cert.SwaKernelIdeal.sig) → Buf (Elt Ideal) ℓ) : Prop :=
  ∀ c : Dev Cert.SwaKernelIdeal.nD,
    (Cert.Pre_swa_finite.fn (F := Ideal) (m ((c.tc : Thread Cert.SwaKernelIdeal.nD Cert.SwaKernelIdeal.τ).loc Cert.SwaKernelIdeal.main_arg0)) (m ((c.tc : Thread Cert.SwaKernelIdeal.nD Cert.SwaKernelIdeal.τ).loc Cert.SwaKernelIdeal.main_arg1)) (m ((c.tc : Thread Cert.SwaKernelIdeal.nD Cert.SwaKernelIdeal.τ).loc Cert.SwaKernelIdeal.main_arg2))) = (fun _ => 1#1)

def Pre_SwaReferenceIdeal (m : (ℓ : Loc Cert.SwaReferenceIdeal.nD Cert.SwaReferenceIdeal.τ Cert.SwaReferenceIdeal.sig) → Buf (Elt Ideal) ℓ) : Prop :=
  True

def Pre_SwaReferenceIdeal_swa_finite [hPre_swa_finite : Cert.Pre_swa_finite.Facts] (m : (ℓ : Loc Cert.SwaReferenceIdeal.nD Cert.SwaReferenceIdeal.τ Cert.SwaReferenceIdeal.sig) → Buf (Elt Ideal) ℓ) : Prop :=
  ∀ c : Dev Cert.SwaReferenceIdeal.nD,
    (Cert.Pre_swa_finite.fn (F := Ideal) (m ((c.tc : Thread Cert.SwaReferenceIdeal.nD Cert.SwaReferenceIdeal.τ).loc Cert.SwaReferenceIdeal.main_arg0)) (m ((c.tc : Thread Cert.SwaReferenceIdeal.nD Cert.SwaReferenceIdeal.τ).loc Cert.SwaReferenceIdeal.main_arg1)) (m ((c.tc : Thread Cert.SwaReferenceIdeal.nD Cert.SwaReferenceIdeal.τ).loc Cert.SwaReferenceIdeal.main_arg2))) = (fun _ => 1#1)

def Pre_SwafKernel (m : (ℓ : Loc Cert.SwafKernel.nD Cert.SwafKernel.τ Cert.SwafKernel.sig) → Buf (Elt Bits) ℓ) : Prop :=
  True

def Pre_SwafKernelIdeal (m : (ℓ : Loc Cert.SwafKernelIdeal.nD Cert.SwafKernelIdeal.τ Cert.SwafKernelIdeal.sig) → Buf (Elt Ideal) ℓ) : Prop :=
  True

def Pre_SwafKernelIdeal_proj_finite [hPre_proj_finite : Cert.Pre_proj_finite.Facts] (m : (ℓ : Loc Cert.SwafKernelIdeal.nD Cert.SwafKernelIdeal.τ Cert.SwafKernelIdeal.sig) → Buf (Elt Ideal) ℓ) : Prop :=
  ∀ c : Dev Cert.SwafKernelIdeal.nD,
    (Cert.Pre_proj_finite.fn (F := Ideal) (m ((c.tc : Thread Cert.SwafKernelIdeal.nD Cert.SwafKernelIdeal.τ).loc Cert.SwafKernelIdeal.main_arg0)) (m ((c.tc : Thread Cert.SwafKernelIdeal.nD Cert.SwafKernelIdeal.τ).loc Cert.SwafKernelIdeal.main_arg1))) = (fun _ => 1#1)

def Pre_SwafReferenceIdeal (m : (ℓ : Loc Cert.SwafReferenceIdeal.nD Cert.SwafReferenceIdeal.τ Cert.SwafReferenceIdeal.sig) → Buf (Elt Ideal) ℓ) : Prop :=
  True

def Pre_SwafReferenceIdeal_proj_finite [hPre_proj_finite : Cert.Pre_proj_finite.Facts] (m : (ℓ : Loc Cert.SwafReferenceIdeal.nD Cert.SwafReferenceIdeal.τ Cert.SwafReferenceIdeal.sig) → Buf (Elt Ideal) ℓ) : Prop :=
  ∀ c : Dev Cert.SwafReferenceIdeal.nD,
    (Cert.Pre_proj_finite.fn (F := Ideal) (m ((c.tc : Thread Cert.SwafReferenceIdeal.nD Cert.SwafReferenceIdeal.τ).loc Cert.SwafReferenceIdeal.main_arg0)) (m ((c.tc : Thread Cert.SwafReferenceIdeal.nD Cert.SwafReferenceIdeal.τ).loc Cert.SwafReferenceIdeal.main_arg1))) = (fun _ => 1#1)

def Pre_PnfKernel (m : (ℓ : Loc Cert.PnfKernel.nD Cert.PnfKernel.τ Cert.PnfKernel.sig) → Buf (Elt Bits) ℓ) : Prop :=
  True

def Pre_PnfKernelIdeal (m : (ℓ : Loc Cert.PnfKernelIdeal.nD Cert.PnfKernelIdeal.τ Cert.PnfKernelIdeal.sig) → Buf (Elt Ideal) ℓ) : Prop :=
  True

def Pre_PnfReferenceIdeal (m : (ℓ : Loc Cert.PnfReferenceIdeal.nD Cert.PnfReferenceIdeal.τ Cert.PnfReferenceIdeal.sig) → Buf (Elt Ideal) ℓ) : Prop :=
  True

def Pre_RnfKernel (m : (ℓ : Loc Cert.RnfKernel.nD Cert.RnfKernel.τ Cert.RnfKernel.sig) → Buf (Elt Bits) ℓ) : Prop :=
  True

def Pre_RnfKernelIdeal (m : (ℓ : Loc Cert.RnfKernelIdeal.nD Cert.RnfKernelIdeal.τ Cert.RnfKernelIdeal.sig) → Buf (Elt Ideal) ℓ) : Prop :=
  True

def Pre_RnfReferenceIdeal (m : (ℓ : Loc Cert.RnfReferenceIdeal.nD Cert.RnfReferenceIdeal.τ Cert.RnfReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_ConvfKernel (m : (ℓ : Loc Cert.ConvfKernel.nD Cert.ConvfKernel.τ Cert.ConvfKernel.sig) → Buf (Elt Bits) ℓ) : Prop :=
  True

def Pre_ConvfKernelIdeal (m : (ℓ : Loc Cert.ConvfKernelIdeal.nD Cert.ConvfKernelIdeal.τ Cert.ConvfKernelIdeal.sig) → Buf (Elt Ideal) ℓ) : Prop :=
  True

def Pre_ConvfReferenceIdeal (m : (ℓ : Loc Cert.ConvfReferenceIdeal.nD Cert.ConvfReferenceIdeal.τ Cert.ConvfReferenceIdeal.sig) → Buf (Elt Ideal) ℓ) : Prop :=
  True

def Pre_GconvfKernel (m : (ℓ : Loc Cert.GconvfKernel.nD Cert.GconvfKernel.τ Cert.GconvfKernel.sig) → Buf (Elt Bits) ℓ) : Prop :=
  True

def Pre_GconvfKernelIdeal (m : (ℓ : Loc Cert.GconvfKernelIdeal.nD Cert.GconvfKernelIdeal.τ Cert.GconvfKernelIdeal.sig) → Buf (Elt Ideal) ℓ) : Prop :=
  True

def Pre_GconvfReferenceIdeal (m : (ℓ : Loc Cert.GconvfReferenceIdeal.nD Cert.GconvfReferenceIdeal.τ Cert.GconvfReferenceIdeal.sig) → Buf (Elt Ideal) ℓ) : Prop :=
  True

def Pre_GconvKernel (m : (ℓ : Loc Cert.GconvKernel.nD Cert.GconvKernel.τ Cert.GconvKernel.sig) → Buf (Elt Bits) ℓ) : Prop :=
  True

def Pre_GconvKernelIdeal (m : (ℓ : Loc Cert.GconvKernelIdeal.nD Cert.GconvKernelIdeal.τ Cert.GconvKernelIdeal.sig) → Buf (Elt Ideal) ℓ) : Prop :=
  True

def Pre_GconvKernelIdeal_gct_finite [hPre_gct_finite : Cert.Pre_gct_finite.Facts] (m : (ℓ : Loc Cert.GconvKernelIdeal.nD Cert.GconvKernelIdeal.τ Cert.GconvKernelIdeal.sig) → Buf (Elt Ideal) ℓ) : Prop :=
  ∀ c : Dev Cert.GconvKernelIdeal.nD,
    (Cert.Pre_gct_finite.fn (F := Ideal) (m ((c.tc : Thread Cert.GconvKernelIdeal.nD Cert.GconvKernelIdeal.τ).loc Cert.GconvKernelIdeal.main_arg0)) (m ((c.tc : Thread Cert.GconvKernelIdeal.nD Cert.GconvKernelIdeal.τ).loc Cert.GconvKernelIdeal.main_arg1)) (m ((c.tc : Thread Cert.GconvKernelIdeal.nD Cert.GconvKernelIdeal.τ).loc Cert.GconvKernelIdeal.main_arg2))) = (fun _ => 1#1)

def Pre_GconvReferenceIdeal (m : (ℓ : Loc Cert.GconvReferenceIdeal.nD Cert.GconvReferenceIdeal.τ Cert.GconvReferenceIdeal.sig) → Buf (Elt Ideal) ℓ) : Prop :=
  True

def Pre_GconvReferenceIdeal_gct_finite [hPre_gct_finite : Cert.Pre_gct_finite.Facts] (m : (ℓ : Loc Cert.GconvReferenceIdeal.nD Cert.GconvReferenceIdeal.τ Cert.GconvReferenceIdeal.sig) → Buf (Elt Ideal) ℓ) : Prop :=
  ∀ c : Dev Cert.GconvReferenceIdeal.nD,
    (Cert.Pre_gct_finite.fn (F := Ideal) (m ((c.tc : Thread Cert.GconvReferenceIdeal.nD Cert.GconvReferenceIdeal.τ).loc Cert.GconvReferenceIdeal.main_arg0)) (m ((c.tc : Thread Cert.GconvReferenceIdeal.nD Cert.GconvReferenceIdeal.τ).loc Cert.GconvReferenceIdeal.main_arg1)) (m ((c.tc : Thread Cert.GconvReferenceIdeal.nD Cert.GconvReferenceIdeal.τ).loc Cert.GconvReferenceIdeal.main_arg2))) = (fun _ => 1#1)

def Pre_SsdfKernel (m : (ℓ : Loc Cert.SsdfKernel.nD Cert.SsdfKernel.τ Cert.SsdfKernel.sig) → Buf (Elt Bits) ℓ) : Prop :=
  True

def Pre_SsdfKernelIdeal (m : (ℓ : Loc Cert.SsdfKernelIdeal.nD Cert.SsdfKernelIdeal.τ Cert.SsdfKernelIdeal.sig) → Buf (Elt Ideal) ℓ) : Prop :=
  True

def Pre_SsdfKernelIdeal_ssd_finite [hPre_ssd_finite : Cert.Pre_ssd_finite.Facts] (m : (ℓ : Loc Cert.SsdfKernelIdeal.nD Cert.SsdfKernelIdeal.τ Cert.SsdfKernelIdeal.sig) → Buf (Elt Ideal) ℓ) : Prop :=
  ∀ c : Dev Cert.SsdfKernelIdeal.nD,
    (Cert.Pre_ssd_finite.fn (F := Ideal) (m ((c.tc : Thread Cert.SsdfKernelIdeal.nD Cert.SsdfKernelIdeal.τ).loc Cert.SsdfKernelIdeal.main_arg0)) (m ((c.tc : Thread Cert.SsdfKernelIdeal.nD Cert.SsdfKernelIdeal.τ).loc Cert.SsdfKernelIdeal.main_arg1)) (m ((c.tc : Thread Cert.SsdfKernelIdeal.nD Cert.SsdfKernelIdeal.τ).loc Cert.SsdfKernelIdeal.main_arg2)) (m ((c.tc : Thread Cert.SsdfKernelIdeal.nD Cert.SsdfKernelIdeal.τ).loc Cert.SsdfKernelIdeal.main_arg3)) (m ((c.tc : Thread Cert.SsdfKernelIdeal.nD Cert.SsdfKernelIdeal.τ).loc Cert.SsdfKernelIdeal.main_arg4)) (m ((c.tc : Thread Cert.SsdfKernelIdeal.nD Cert.SsdfKernelIdeal.τ).loc Cert.SsdfKernelIdeal.main_arg5))) = (fun _ => 1#1)

def Pre_SsdfReferenceIdeal (m : (ℓ : Loc Cert.SsdfReferenceIdeal.nD Cert.SsdfReferenceIdeal.τ Cert.SsdfReferenceIdeal.sig) → Buf (Elt Ideal) ℓ) : Prop :=
  True

def Pre_SsdfReferenceIdeal_ssd_finite [hPre_ssd_finite : Cert.Pre_ssd_finite.Facts] (m : (ℓ : Loc Cert.SsdfReferenceIdeal.nD Cert.SsdfReferenceIdeal.τ Cert.SsdfReferenceIdeal.sig) → Buf (Elt Ideal) ℓ) : Prop :=
  ∀ c : Dev Cert.SsdfReferenceIdeal.nD,
    (Cert.Pre_ssd_finite.fn (F := Ideal) (m ((c.tc : Thread Cert.SsdfReferenceIdeal.nD Cert.SsdfReferenceIdeal.τ).loc Cert.SsdfReferenceIdeal.main_arg0)) (m ((c.tc : Thread Cert.SsdfReferenceIdeal.nD Cert.SsdfReferenceIdeal.τ).loc Cert.SsdfReferenceIdeal.main_arg1)) (m ((c.tc : Thread Cert.SsdfReferenceIdeal.nD Cert.SsdfReferenceIdeal.τ).loc Cert.SsdfReferenceIdeal.main_arg2)) (m ((c.tc : Thread Cert.SsdfReferenceIdeal.nD Cert.SsdfReferenceIdeal.τ).loc Cert.SsdfReferenceIdeal.main_arg3)) (m ((c.tc : Thread Cert.SsdfReferenceIdeal.nD Cert.SsdfReferenceIdeal.τ).loc Cert.SsdfReferenceIdeal.main_arg4)) (m ((c.tc : Thread Cert.SsdfReferenceIdeal.nD Cert.SsdfReferenceIdeal.τ).loc Cert.SsdfReferenceIdeal.main_arg5))) = (fun _ => 1#1)

def Pre_SsdbKernel (m : (ℓ : Loc Cert.SsdbKernel.nD Cert.SsdbKernel.τ Cert.SsdbKernel.sig) → Buf (Elt Bits) ℓ) : Prop :=
  True

def Pre_SsdbKernelIdeal (m : (ℓ : Loc Cert.SsdbKernelIdeal.nD Cert.SsdbKernelIdeal.τ Cert.SsdbKernelIdeal.sig) → Buf (Elt Ideal) ℓ) : Prop :=
  True

def Pre_GdnbKernel (m : (ℓ : Loc Cert.GdnbKernel.nD Cert.GdnbKernel.τ Cert.GdnbKernel.sig) → Buf (Elt Bits) ℓ) : Prop :=
  True

def Pre_GdnbKernelIdeal (m : (ℓ : Loc Cert.GdnbKernelIdeal.nD Cert.GdnbKernelIdeal.τ Cert.GdnbKernelIdeal.sig) → Buf (Elt Ideal) ℓ) : Prop :=
  True

def Pre_GdnfKernel (m : (ℓ : Loc Cert.GdnfKernel.nD Cert.GdnfKernel.τ Cert.GdnfKernel.sig) → Buf (Elt Bits) ℓ) : Prop :=
  True

def Pre_GdnfKernelIdeal (m : (ℓ : Loc Cert.GdnfKernelIdeal.nD Cert.GdnfKernelIdeal.τ Cert.GdnfKernelIdeal.sig) → Buf (Elt Ideal) ℓ) : Prop :=
  True

def Pre_NnKernel (m : (ℓ : Loc Cert.NnKernel.nD Cert.NnKernel.τ Cert.NnKernel.sig) → Buf (Elt Bits) ℓ) : Prop :=
  True

def Pre_NnKernelIdeal (m : (ℓ : Loc Cert.NnKernelIdeal.nD Cert.NnKernelIdeal.τ Cert.NnKernelIdeal.sig) → Buf (Elt Ideal) ℓ) : Prop :=
  True

def Pre_NnReferenceIdeal (m : (ℓ : Loc Cert.NnReferenceIdeal.nD Cert.NnReferenceIdeal.τ Cert.NnReferenceIdeal.sig) → Buf (Elt Ideal) ℓ) : Prop :=
  True

def Pre_NtKernel (m : (ℓ : Loc Cert.NtKernel.nD Cert.NtKernel.τ Cert.NtKernel.sig) → Buf (Elt Bits) ℓ) : Prop :=
  True

def Pre_NtKernelIdeal (m : (ℓ : Loc Cert.NtKernelIdeal.nD Cert.NtKernelIdeal.τ Cert.NtKernelIdeal.sig) → Buf (Elt Ideal) ℓ) : Prop :=
  True

def Pre_NtReferenceIdeal (m : (ℓ : Loc Cert.NtReferenceIdeal.nD Cert.NtReferenceIdeal.τ Cert.NtReferenceIdeal.sig) → Buf (Elt Ideal) ℓ) : Prop :=
  True

def Pre_TnKernel (m : (ℓ : Loc Cert.TnKernel.nD Cert.TnKernel.τ Cert.TnKernel.sig) → Buf (Elt Bits) ℓ) : Prop :=
  True

def Pre_TnKernelIdeal (m : (ℓ : Loc Cert.TnKernelIdeal.nD Cert.TnKernelIdeal.τ Cert.TnKernelIdeal.sig) → Buf (Elt Ideal) ℓ) : Prop :=
  True

def Pre_TnReferenceIdeal (m : (ℓ : Loc Cert.TnReferenceIdeal.nD Cert.TnReferenceIdeal.τ Cert.TnReferenceIdeal.sig) → Buf (Elt Ideal) ℓ) : Prop :=
  True

def Pre_SumKernel (m : (ℓ : Loc Cert.SumKernel.nD Cert.SumKernel.τ Cert.SumKernel.sig) → Buf (Elt Bits) ℓ) : Prop :=
  True

def Pre_SumKernelIdeal (m : (ℓ : Loc Cert.SumKernelIdeal.nD Cert.SumKernelIdeal.τ Cert.SumKernelIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvKernelIdeal_pre_ct_finite [hConvKernelIdeal : Cert.ConvKernelIdeal.Facts] [hPre_ct_finite : Cert.Pre_ct_finite.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal_ct_finite m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_ConvReferenceIdeal_pre_ct_finite [hConvReferenceIdeal : Cert.ConvReferenceIdeal.Facts] [hPre_ct_finite : Cert.Pre_ct_finite.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_ct_finite m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_FfKernel [hFfKernel : Cert.FfKernel.Facts] : Prop :=
  ∀ (m : (ℓ : Loc Cert.FfKernel.nD Cert.FfKernel.τ Cert.FfKernel.sig) → Buf (Elt Bits) ℓ) (g : Dev Cert.FfKernel.nD → PrngReg), Pre_FfKernel m →
    θ_run (Cert.FfKernel.defs (F := Bits)) (onTc (τ := Cert.FfKernel.τ) (Cert.FfKernel.main (F := Bits))) ⟨m, fun _ => 0, g⟩ (fun r => (∀ c : Dev Cert.FfKernel.nD,
      r.2.mem ((c.tc : Thread Cert.FfKernel.nD Cert.FfKernel.τ).loc Cert.FfKernel.main_arg0) = m ((c.tc : Thread Cert.FfKernel.nD Cert.FfKernel.τ).loc Cert.FfKernel.main_arg0)
      ∧ r.2.mem ((c.tc : Thread Cert.FfKernel.nD Cert.FfKernel.τ).loc Cert.FfKernel.main_arg1) = m ((c.tc : Thread Cert.FfKernel.nD Cert.FfKernel.τ).loc Cert.FfKernel.main_arg1)
      ∧ r.2.mem ((c.tc : Thread Cert.FfKernel.nD Cert.FfKernel.τ).loc Cert.FfKernel.main_arg2) = m ((c.tc : Thread Cert.FfKernel.nD Cert.FfKernel.τ).loc Cert.FfKernel.main_arg2)
      ∧ r.2.mem ((c.tc : Thread Cert.FfKernel.nD Cert.FfKernel.τ).loc Cert.FfKernel.main_arg3) = m ((c.tc : Thread Cert.FfKernel.nD Cert.FfKernel.τ).loc Cert.FfKernel.main_arg3)
      ∧ r.2.mem ((c.tc : Thread Cert.FfKernel.nD Cert.FfKernel.τ).loc Cert.FfKernel.main_arg4) = m ((c.tc : Thread Cert.FfKernel.nD Cert.FfKernel.τ).loc Cert.FfKernel.main_arg4))
      ∧ r.2.sem = fun _ => 0)

def quiescent_FfKernelIdeal [hFfKernelIdeal : Cert.FfKernelIdeal.Facts] : Prop :=
  ∀ (m : (ℓ : Loc Cert.FfKernelIdeal.nD Cert.FfKernelIdeal.τ Cert.FfKernelIdeal.sig) → Buf (Elt Ideal) ℓ) (g : Dev Cert.FfKernelIdeal.nD → PrngReg), Pre_FfKernelIdeal m →
    θ_run (Cert.FfKernelIdeal.defs (F := Ideal)) (onTc (τ := Cert.FfKernelIdeal.τ) (Cert.FfKernelIdeal.main (F := Ideal))) ⟨m, fun _ => 0, g⟩ (fun r => (∀ c : Dev Cert.FfKernelIdeal.nD,
      r.2.mem ((c.tc : Thread Cert.FfKernelIdeal.nD Cert.FfKernelIdeal.τ).loc Cert.FfKernelIdeal.main_arg0) = m ((c.tc : Thread Cert.FfKernelIdeal.nD Cert.FfKernelIdeal.τ).loc Cert.FfKernelIdeal.main_arg0)
      ∧ r.2.mem ((c.tc : Thread Cert.FfKernelIdeal.nD Cert.FfKernelIdeal.τ).loc Cert.FfKernelIdeal.main_arg1) = m ((c.tc : Thread Cert.FfKernelIdeal.nD Cert.FfKernelIdeal.τ).loc Cert.FfKernelIdeal.main_arg1)
      ∧ r.2.mem ((c.tc : Thread Cert.FfKernelIdeal.nD Cert.FfKernelIdeal.τ).loc Cert.FfKernelIdeal.main_arg2) = m ((c.tc : Thread Cert.FfKernelIdeal.nD Cert.FfKernelIdeal.τ).loc Cert.FfKernelIdeal.main_arg2)
      ∧ r.2.mem ((c.tc : Thread Cert.FfKernelIdeal.nD Cert.FfKernelIdeal.τ).loc Cert.FfKernelIdeal.main_arg3) = m ((c.tc : Thread Cert.FfKernelIdeal.nD Cert.FfKernelIdeal.τ).loc Cert.FfKernelIdeal.main_arg3)
      ∧ r.2.mem ((c.tc : Thread Cert.FfKernelIdeal.nD Cert.FfKernelIdeal.τ).loc Cert.FfKernelIdeal.main_arg4) = m ((c.tc : Thread Cert.FfKernelIdeal.nD Cert.FfKernelIdeal.τ).loc Cert.FfKernelIdeal.main_arg4))
      ∧ r.2.sem = fun _ => 0)

def quiescent_FfReferenceIdeal [hFfReferenceIdeal : Cert.FfReferenceIdeal.Facts] : Prop :=
  ∀ (m : (ℓ : Loc Cert.FfReferenceIdeal.nD Cert.FfReferenceIdeal.τ Cert.FfReferenceIdeal.sig) → Buf (Elt Ideal) ℓ) (g : Dev Cert.FfReferenceIdeal.nD → PrngReg), Pre_FfReferenceIdeal m →
    θ_run (Cert.FfReferenceIdeal.defs (F := Ideal)) (onTc (τ := Cert.FfReferenceIdeal.τ) (Cert.FfReferenceIdeal.main (F := Ideal))) ⟨m, fun _ => 0, g⟩ (fun r => (∀ c : Dev Cert.FfReferenceIdeal.nD,
      r.2.mem ((c.tc : Thread Cert.FfReferenceIdeal.nD Cert.FfReferenceIdeal.τ).loc Cert.FfReferenceIdeal.main_arg0) = m ((c.tc : Thread Cert.FfReferenceIdeal.nD Cert.FfReferenceIdeal.τ).loc Cert.FfReferenceIdeal.main_arg0)
      ∧ r.2.mem ((c.tc : Thread Cert.FfReferenceIdeal.nD Cert.FfReferenceIdeal.τ).loc Cert.FfReferenceIdeal.main_arg1) = m ((c.tc : Thread Cert.FfReferenceIdeal.nD Cert.FfReferenceIdeal.τ).loc Cert.FfReferenceIdeal.main_arg1)
      ∧ r.2.mem ((c.tc : Thread Cert.FfReferenceIdeal.nD Cert.FfReferenceIdeal.τ).loc Cert.FfReferenceIdeal.main_arg2) = m ((c.tc : Thread Cert.FfReferenceIdeal.nD Cert.FfReferenceIdeal.τ).loc Cert.FfReferenceIdeal.main_arg2)
      ∧ r.2.mem ((c.tc : Thread Cert.FfReferenceIdeal.nD Cert.FfReferenceIdeal.τ).loc Cert.FfReferenceIdeal.main_arg3) = m ((c.tc : Thread Cert.FfReferenceIdeal.nD Cert.FfReferenceIdeal.τ).loc Cert.FfReferenceIdeal.main_arg3)
      ∧ r.2.mem ((c.tc : Thread Cert.FfReferenceIdeal.nD Cert.FfReferenceIdeal.τ).loc Cert.FfReferenceIdeal.main_arg4) = m ((c.tc : Thread Cert.FfReferenceIdeal.nD Cert.FfReferenceIdeal.τ).loc Cert.FfReferenceIdeal.main_arg4))
      ∧ r.2.sem = fun _ => 0)

def quiescent_PnKernel [hPnKernel : Cert.PnKernel.Facts] : Prop :=
  ∀ (m : (ℓ : Loc Cert.PnKernel.nD Cert.PnKernel.τ Cert.PnKernel.sig) → Buf (Elt Bits) ℓ) (g : Dev Cert.PnKernel.nD → PrngReg), Pre_PnKernel m →
    θ_run (Cert.PnKernel.defs (F := Bits)) (onTc (τ := Cert.PnKernel.τ) (Cert.PnKernel.main (F := Bits))) ⟨m, fun _ => 0, g⟩ (fun r => (∀ c : Dev Cert.PnKernel.nD,
      r.2.mem ((c.tc : Thread Cert.PnKernel.nD Cert.PnKernel.τ).loc Cert.PnKernel.main_arg0) = m ((c.tc : Thread Cert.PnKernel.nD Cert.PnKernel.τ).loc Cert.PnKernel.main_arg0)
      ∧ r.2.mem ((c.tc : Thread Cert.PnKernel.nD Cert.PnKernel.τ).loc Cert.PnKernel.main_arg1) = m ((c.tc : Thread Cert.PnKernel.nD Cert.PnKernel.τ).loc Cert.PnKernel.main_arg1)
      ∧ r.2.mem ((c.tc : Thread Cert.PnKernel.nD Cert.PnKernel.τ).loc Cert.PnKernel.main_arg2) = m ((c.tc : Thread Cert.PnKernel.nD Cert.PnKernel.τ).loc Cert.PnKernel.main_arg2)
      ∧ r.2.mem ((c.tc : Thread Cert.PnKernel.nD Cert.PnKernel.τ).loc Cert.PnKernel.main_arg3) = m ((c.tc : Thread Cert.PnKernel.nD Cert.PnKernel.τ).loc Cert.PnKernel.main_arg3))
      ∧ r.2.sem = fun _ => 0)

def quiescent_PnKernelIdeal [hPnKernelIdeal : Cert.PnKernelIdeal.Facts] : Prop :=
  ∀ (m : (ℓ : Loc Cert.PnKernelIdeal.nD Cert.PnKernelIdeal.τ Cert.PnKernelIdeal.sig) → Buf (Elt Ideal) ℓ) (g : Dev Cert.PnKernelIdeal.nD → PrngReg), Pre_PnKernelIdeal m →
    θ_run (Cert.PnKernelIdeal.defs (F := Ideal)) (onTc (τ := Cert.PnKernelIdeal.τ) (Cert.PnKernelIdeal.main (F := Ideal))) ⟨m, fun _ => 0, g⟩ (fun r => (∀ c : Dev Cert.PnKernelIdeal.nD,
      r.2.mem ((c.tc : Thread Cert.PnKernelIdeal.nD Cert.PnKernelIdeal.τ).loc Cert.PnKernelIdeal.main_arg0) = m ((c.tc : Thread Cert.PnKernelIdeal.nD Cert.PnKernelIdeal.τ).loc Cert.PnKernelIdeal.main_arg0)
      ∧ r.2.mem ((c.tc : Thread Cert.PnKernelIdeal.nD Cert.PnKernelIdeal.τ).loc Cert.PnKernelIdeal.main_arg1) = m ((c.tc : Thread Cert.PnKernelIdeal.nD Cert.PnKernelIdeal.τ).loc Cert.PnKernelIdeal.main_arg1)
      ∧ r.2.mem ((c.tc : Thread Cert.PnKernelIdeal.nD Cert.PnKernelIdeal.τ).loc Cert.PnKernelIdeal.main_arg2) = m ((c.tc : Thread Cert.PnKernelIdeal.nD Cert.PnKernelIdeal.τ).loc Cert.PnKernelIdeal.main_arg2)
      ∧ r.2.mem ((c.tc : Thread Cert.PnKernelIdeal.nD Cert.PnKernelIdeal.τ).loc Cert.PnKernelIdeal.main_arg3) = m ((c.tc : Thread Cert.PnKernelIdeal.nD Cert.PnKernelIdeal.τ).loc Cert.PnKernelIdeal.main_arg3))
      ∧ r.2.sem = fun _ => 0)

def quiescent_PnReferenceIdeal [hPnReferenceIdeal : Cert.PnReferenceIdeal.Facts] : Prop :=
  ∀ (m : (ℓ : Loc Cert.PnReferenceIdeal.nD Cert.PnReferenceIdeal.τ Cert.PnReferenceIdeal.sig) → Buf (Elt Ideal) ℓ) (g : Dev Cert.PnReferenceIdeal.nD → PrngReg), Pre_PnReferenceIdeal m →
    θ_run (Cert.PnReferenceIdeal.defs (F := Ideal)) (onTc (τ := Cert.PnReferenceIdeal.τ) (Cert.PnReferenceIdeal.main (F := Ideal))) ⟨m, fun _ => 0, g⟩ (fun r => (∀ c : Dev Cert.PnReferenceIdeal.nD,
      r.2.mem ((c.tc : Thread Cert.PnReferenceIdeal.nD Cert.PnReferenceIdeal.τ).loc Cert.PnReferenceIdeal.main_arg0) = m ((c.tc : Thread Cert.PnReferenceIdeal.nD Cert.PnReferenceIdeal.τ).loc Cert.PnReferenceIdeal.main_arg0)
      ∧ r.2.mem ((c.tc : Thread Cert.PnReferenceIdeal.nD Cert.PnReferenceIdeal.τ).loc Cert.PnReferenceIdeal.main_arg1) = m ((c.tc : Thread Cert.PnReferenceIdeal.nD Cert.PnReferenceIdeal.τ).loc Cert.PnReferenceIdeal.main_arg1)
      ∧ r.2.mem ((c.tc : Thread Cert.PnReferenceIdeal.nD Cert.PnReferenceIdeal.τ).loc Cert.PnReferenceIdeal.main_arg2) = m ((c.tc : Thread Cert.PnReferenceIdeal.nD Cert.PnReferenceIdeal.τ).loc Cert.PnReferenceIdeal.main_arg2)
      ∧ r.2.mem ((c.tc : Thread Cert.PnReferenceIdeal.nD Cert.PnReferenceIdeal.τ).loc Cert.PnReferenceIdeal.main_arg3) = m ((c.tc : Thread Cert.PnReferenceIdeal.nD Cert.PnReferenceIdeal.τ).loc Cert.PnReferenceIdeal.main_arg3))
      ∧ r.2.sem = fun _ => 0)

def quiescent_RnKernel [hRnKernel : Cert.RnKernel.Facts] : Prop :=
  ∀ (m : (ℓ : Loc Cert.RnKernel.nD Cert.RnKernel.τ Cert.RnKernel.sig) → Buf (Elt Bits) ℓ) (g : Dev Cert.RnKernel.nD → PrngReg), Pre_RnKernel m →
    θ_run (Cert.RnKernel.defs (F := Bits)) (onTc (τ := Cert.RnKernel.τ) (Cert.RnKernel.main (F := Bits))) ⟨m, fun _ => 0, g⟩ (fun r => (∀ c : Dev Cert.RnKernel.nD,
      r.2.mem ((c.tc : Thread Cert.RnKernel.nD Cert.RnKernel.τ).loc Cert.RnKernel.main_arg0) = m ((c.tc : Thread Cert.RnKernel.nD Cert.RnKernel.τ).loc Cert.RnKernel.main_arg0)
      ∧ r.2.mem ((c.tc : Thread Cert.RnKernel.nD Cert.RnKernel.τ).loc Cert.RnKernel.main_arg1) = m ((c.tc : Thread Cert.RnKernel.nD Cert.RnKernel.τ).loc Cert.RnKernel.main_arg1)
      ∧ r.2.mem ((c.tc : Thread Cert.RnKernel.nD Cert.RnKernel.τ).loc Cert.RnKernel.main_arg2) = m ((c.tc : Thread Cert.RnKernel.nD Cert.RnKernel.τ).loc Cert.RnKernel.main_arg2)
      ∧ r.2.mem ((c.tc : Thread Cert.RnKernel.nD Cert.RnKernel.τ).loc Cert.RnKernel.main_arg3) = m ((c.tc : Thread Cert.RnKernel.nD Cert.RnKernel.τ).loc Cert.RnKernel.main_arg3)
      ∧ r.2.mem ((c.tc : Thread Cert.RnKernel.nD Cert.RnKernel.τ).loc Cert.RnKernel.main_arg4) = m ((c.tc : Thread Cert.RnKernel.nD Cert.RnKernel.τ).loc Cert.RnKernel.main_arg4)
      ∧ r.2.mem ((c.tc : Thread Cert.RnKernel.nD Cert.RnKernel.τ).loc Cert.RnKernel.main_arg5) = m ((c.tc : Thread Cert.RnKernel.nD Cert.RnKernel.τ).loc Cert.RnKernel.main_arg5))
      ∧ r.2.sem = fun _ => 0)

def quiescent_RnKernelIdeal [hRnKernelIdeal : Cert.RnKernelIdeal.Facts] : Prop :=
  ∀ (m : (ℓ : Loc Cert.RnKernelIdeal.nD Cert.RnKernelIdeal.τ Cert.RnKernelIdeal.sig) → Buf (Elt Ideal) ℓ) (g : Dev Cert.RnKernelIdeal.nD → PrngReg), Pre_RnKernelIdeal m →
    θ_run (Cert.RnKernelIdeal.defs (F := Ideal)) (onTc (τ := Cert.RnKernelIdeal.τ) (Cert.RnKernelIdeal.main (F := Ideal))) ⟨m, fun _ => 0, g⟩ (fun r => (∀ c : Dev Cert.RnKernelIdeal.nD,
      r.2.mem ((c.tc : Thread Cert.RnKernelIdeal.nD Cert.RnKernelIdeal.τ).loc Cert.RnKernelIdeal.main_arg0) = m ((c.tc : Thread Cert.RnKernelIdeal.nD Cert.RnKernelIdeal.τ).loc Cert.RnKernelIdeal.main_arg0)
      ∧ r.2.mem ((c.tc : Thread Cert.RnKernelIdeal.nD Cert.RnKernelIdeal.τ).loc Cert.RnKernelIdeal.main_arg1) = m ((c.tc : Thread Cert.RnKernelIdeal.nD Cert.RnKernelIdeal.τ).loc Cert.RnKernelIdeal.main_arg1)
      ∧ r.2.mem ((c.tc : Thread Cert.RnKernelIdeal.nD Cert.RnKernelIdeal.τ).loc Cert.RnKernelIdeal.main_arg2) = m ((c.tc : Thread Cert.RnKernelIdeal.nD Cert.RnKernelIdeal.τ).loc Cert.RnKernelIdeal.main_arg2)
      ∧ r.2.mem ((c.tc : Thread Cert.RnKernelIdeal.nD Cert.RnKernelIdeal.τ).loc Cert.RnKernelIdeal.main_arg3) = m ((c.tc : Thread Cert.RnKernelIdeal.nD Cert.RnKernelIdeal.τ).loc Cert.RnKernelIdeal.main_arg3)
      ∧ r.2.mem ((c.tc : Thread Cert.RnKernelIdeal.nD Cert.RnKernelIdeal.τ).loc Cert.RnKernelIdeal.main_arg4) = m ((c.tc : Thread Cert.RnKernelIdeal.nD Cert.RnKernelIdeal.τ).loc Cert.RnKernelIdeal.main_arg4)
      ∧ r.2.mem ((c.tc : Thread Cert.RnKernelIdeal.nD Cert.RnKernelIdeal.τ).loc Cert.RnKernelIdeal.main_arg5) = m ((c.tc : Thread Cert.RnKernelIdeal.nD Cert.RnKernelIdeal.τ).loc Cert.RnKernelIdeal.main_arg5))
      ∧ r.2.sem = fun _ => 0)

def quiescent_RnReferenceIdeal [hRnReferenceIdeal : Cert.RnReferenceIdeal.Facts] : Prop :=
  ∀ (m : (ℓ : Loc Cert.RnReferenceIdeal.nD Cert.RnReferenceIdeal.τ Cert.RnReferenceIdeal.sig) → Buf (Elt Ideal) ℓ) (g : Dev Cert.RnReferenceIdeal.nD → PrngReg), Pre_RnReferenceIdeal m →
    θ_run (Cert.RnReferenceIdeal.defs (F := Ideal)) (onTc (τ := Cert.RnReferenceIdeal.τ) (Cert.RnReferenceIdeal.main (F := Ideal))) ⟨m, fun _ => 0, g⟩ (fun r => (∀ c : Dev Cert.RnReferenceIdeal.nD,
      r.2.mem ((c.tc : Thread Cert.RnReferenceIdeal.nD Cert.RnReferenceIdeal.τ).loc Cert.RnReferenceIdeal.main_arg0) = m ((c.tc : Thread Cert.RnReferenceIdeal.nD Cert.RnReferenceIdeal.τ).loc Cert.RnReferenceIdeal.main_arg0)
      ∧ r.2.mem ((c.tc : Thread Cert.RnReferenceIdeal.nD Cert.RnReferenceIdeal.τ).loc Cert.RnReferenceIdeal.main_arg1) = m ((c.tc : Thread Cert.RnReferenceIdeal.nD Cert.RnReferenceIdeal.τ).loc Cert.RnReferenceIdeal.main_arg1)
      ∧ r.2.mem ((c.tc : Thread Cert.RnReferenceIdeal.nD Cert.RnReferenceIdeal.τ).loc Cert.RnReferenceIdeal.main_arg2) = m ((c.tc : Thread Cert.RnReferenceIdeal.nD Cert.RnReferenceIdeal.τ).loc Cert.RnReferenceIdeal.main_arg2)
      ∧ r.2.mem ((c.tc : Thread Cert.RnReferenceIdeal.nD Cert.RnReferenceIdeal.τ).loc Cert.RnReferenceIdeal.main_arg3) = m ((c.tc : Thread Cert.RnReferenceIdeal.nD Cert.RnReferenceIdeal.τ).loc Cert.RnReferenceIdeal.main_arg3)
      ∧ r.2.mem ((c.tc : Thread Cert.RnReferenceIdeal.nD Cert.RnReferenceIdeal.τ).loc Cert.RnReferenceIdeal.main_arg4) = m ((c.tc : Thread Cert.RnReferenceIdeal.nD Cert.RnReferenceIdeal.τ).loc Cert.RnReferenceIdeal.main_arg4)
      ∧ r.2.mem ((c.tc : Thread Cert.RnReferenceIdeal.nD Cert.RnReferenceIdeal.τ).loc Cert.RnReferenceIdeal.main_arg5) = m ((c.tc : Thread Cert.RnReferenceIdeal.nD Cert.RnReferenceIdeal.τ).loc Cert.RnReferenceIdeal.main_arg5))
      ∧ r.2.sem = fun _ => 0)

def quiescent_RlKernel [hRlKernel : Cert.RlKernel.Facts] : Prop :=
  ∀ (m : (ℓ : Loc Cert.RlKernel.nD Cert.RlKernel.τ Cert.RlKernel.sig) → Buf (Elt Bits) ℓ) (g : Dev Cert.RlKernel.nD → PrngReg), Pre_RlKernel m →
    θ_run (Cert.RlKernel.defs (F := Bits)) (onTc (τ := Cert.RlKernel.τ) (Cert.RlKernel.main (F := Bits))) ⟨m, fun _ => 0, g⟩ (fun r => (∀ c : Dev Cert.RlKernel.nD,
      r.2.mem ((c.tc : Thread Cert.RlKernel.nD Cert.RlKernel.τ).loc Cert.RlKernel.main_arg0) = m ((c.tc : Thread Cert.RlKernel.nD Cert.RlKernel.τ).loc Cert.RlKernel.main_arg0)
      ∧ r.2.mem ((c.tc : Thread Cert.RlKernel.nD Cert.RlKernel.τ).loc Cert.RlKernel.main_arg1) = m ((c.tc : Thread Cert.RlKernel.nD Cert.RlKernel.τ).loc Cert.RlKernel.main_arg1)
      ∧ r.2.mem ((c.tc : Thread Cert.RlKernel.nD Cert.RlKernel.τ).loc Cert.RlKernel.main_arg2) = m ((c.tc : Thread Cert.RlKernel.nD Cert.RlKernel.τ).loc Cert.RlKernel.main_arg2)
      ∧ r.2.mem ((c.tc : Thread Cert.RlKernel.nD Cert.RlKernel.τ).loc Cert.RlKernel.main_arg3) = m ((c.tc : Thread Cert.RlKernel.nD Cert.RlKernel.τ).loc Cert.RlKernel.main_arg3))
      ∧ r.2.sem = fun _ => 0)

def quiescent_RlKernelIdeal [hRlKernelIdeal : Cert.RlKernelIdeal.Facts] : Prop :=
  ∀ (m : (ℓ : Loc Cert.RlKernelIdeal.nD Cert.RlKernelIdeal.τ Cert.RlKernelIdeal.sig) → Buf (Elt Ideal) ℓ) (g : Dev Cert.RlKernelIdeal.nD → PrngReg), Pre_RlKernelIdeal m →
    θ_run (Cert.RlKernelIdeal.defs (F := Ideal)) (onTc (τ := Cert.RlKernelIdeal.τ) (Cert.RlKernelIdeal.main (F := Ideal))) ⟨m, fun _ => 0, g⟩ (fun r => (∀ c : Dev Cert.RlKernelIdeal.nD,
      r.2.mem ((c.tc : Thread Cert.RlKernelIdeal.nD Cert.RlKernelIdeal.τ).loc Cert.RlKernelIdeal.main_arg0) = m ((c.tc : Thread Cert.RlKernelIdeal.nD Cert.RlKernelIdeal.τ).loc Cert.RlKernelIdeal.main_arg0)
      ∧ r.2.mem ((c.tc : Thread Cert.RlKernelIdeal.nD Cert.RlKernelIdeal.τ).loc Cert.RlKernelIdeal.main_arg1) = m ((c.tc : Thread Cert.RlKernelIdeal.nD Cert.RlKernelIdeal.τ).loc Cert.RlKernelIdeal.main_arg1)
      ∧ r.2.mem ((c.tc : Thread Cert.RlKernelIdeal.nD Cert.RlKernelIdeal.τ).loc Cert.RlKernelIdeal.main_arg2) = m ((c.tc : Thread Cert.RlKernelIdeal.nD Cert.RlKernelIdeal.τ).loc Cert.RlKernelIdeal.main_arg2)
      ∧ r.2.mem ((c.tc : Thread Cert.RlKernelIdeal.nD Cert.RlKernelIdeal.τ).loc Cert.RlKernelIdeal.main_arg3) = m ((c.tc : Thread Cert.RlKernelIdeal.nD Cert.RlKernelIdeal.τ).loc Cert.RlKernelIdeal.main_arg3))
      ∧ r.2.sem = fun _ => 0)

def quiescent_RlReferenceIdeal [hRlReferenceIdeal : Cert.RlReferenceIdeal.Facts] : Prop :=
  ∀ (m : (ℓ : Loc Cert.RlReferenceIdeal.nD Cert.RlReferenceIdeal.τ Cert.RlReferenceIdeal.sig) → Buf (Elt Ideal) ℓ) (g : Dev Cert.RlReferenceIdeal.nD → PrngReg), Pre_RlReferenceIdeal m →
    θ_run (Cert.RlReferenceIdeal.defs (F := Ideal)) (onTc (τ := Cert.RlReferenceIdeal.τ) (Cert.RlReferenceIdeal.main (F := Ideal))) ⟨m, fun _ => 0, g⟩ (fun r => (∀ c : Dev Cert.RlReferenceIdeal.nD,
      r.2.mem ((c.tc : Thread Cert.RlReferenceIdeal.nD Cert.RlReferenceIdeal.τ).loc Cert.RlReferenceIdeal.main_arg0) = m ((c.tc : Thread Cert.RlReferenceIdeal.nD Cert.RlReferenceIdeal.τ).loc Cert.RlReferenceIdeal.main_arg0)
      ∧ r.2.mem ((c.tc : Thread Cert.RlReferenceIdeal.nD Cert.RlReferenceIdeal.τ).loc Cert.RlReferenceIdeal.main_arg1) = m ((c.tc : Thread Cert.RlReferenceIdeal.nD Cert.RlReferenceIdeal.τ).loc Cert.RlReferenceIdeal.main_arg1)
      ∧ r.2.mem ((c.tc : Thread Cert.RlReferenceIdeal.nD Cert.RlReferenceIdeal.τ).loc Cert.RlReferenceIdeal.main_arg2) = m ((c.tc : Thread Cert.RlReferenceIdeal.nD Cert.RlReferenceIdeal.τ).loc Cert.RlReferenceIdeal.main_arg2)
      ∧ r.2.mem ((c.tc : Thread Cert.RlReferenceIdeal.nD Cert.RlReferenceIdeal.τ).loc Cert.RlReferenceIdeal.main_arg3) = m ((c.tc : Thread Cert.RlReferenceIdeal.nD Cert.RlReferenceIdeal.τ).loc Cert.RlReferenceIdeal.main_arg3))
      ∧ r.2.sem = fun _ => 0)

def quiescent_SwaKernel [hSwaKernel : Cert.SwaKernel.Facts] : Prop :=
  ∀ (m : (ℓ : Loc Cert.SwaKernel.nD Cert.SwaKernel.τ Cert.SwaKernel.sig) → Buf (Elt Bits) ℓ) (g : Dev Cert.SwaKernel.nD → PrngReg), Pre_SwaKernel m →
    θ_run (Cert.SwaKernel.defs (F := Bits)) (onTc (τ := Cert.SwaKernel.τ) (Cert.SwaKernel.main (F := Bits))) ⟨m, fun _ => 0, g⟩ (fun r => (∀ c : Dev Cert.SwaKernel.nD,
      r.2.mem ((c.tc : Thread Cert.SwaKernel.nD Cert.SwaKernel.τ).loc Cert.SwaKernel.main_arg0) = m ((c.tc : Thread Cert.SwaKernel.nD Cert.SwaKernel.τ).loc Cert.SwaKernel.main_arg0)
      ∧ r.2.mem ((c.tc : Thread Cert.SwaKernel.nD Cert.SwaKernel.τ).loc Cert.SwaKernel.main_arg1) = m ((c.tc : Thread Cert.SwaKernel.nD Cert.SwaKernel.τ).loc Cert.SwaKernel.main_arg1)
      ∧ r.2.mem ((c.tc : Thread Cert.SwaKernel.nD Cert.SwaKernel.τ).loc Cert.SwaKernel.main_arg2) = m ((c.tc : Thread Cert.SwaKernel.nD Cert.SwaKernel.τ).loc Cert.SwaKernel.main_arg2))
      ∧ r.2.sem = fun _ => 0)

def quiescent_SwaKernelIdeal [hSwaKernelIdeal : Cert.SwaKernelIdeal.Facts] : Prop :=
  ∀ (m : (ℓ : Loc Cert.SwaKernelIdeal.nD Cert.SwaKernelIdeal.τ Cert.SwaKernelIdeal.sig) → Buf (Elt Ideal) ℓ) (g : Dev Cert.SwaKernelIdeal.nD → PrngReg), Pre_SwaKernelIdeal m →
    θ_run (Cert.SwaKernelIdeal.defs (F := Ideal)) (onTc (τ := Cert.SwaKernelIdeal.τ) (Cert.SwaKernelIdeal.main (F := Ideal))) ⟨m, fun _ => 0, g⟩ (fun r => (∀ c : Dev Cert.SwaKernelIdeal.nD,
      r.2.mem ((c.tc : Thread Cert.SwaKernelIdeal.nD Cert.SwaKernelIdeal.τ).loc Cert.SwaKernelIdeal.main_arg0) = m ((c.tc : Thread Cert.SwaKernelIdeal.nD Cert.SwaKernelIdeal.τ).loc Cert.SwaKernelIdeal.main_arg0)
      ∧ r.2.mem ((c.tc : Thread Cert.SwaKernelIdeal.nD Cert.SwaKernelIdeal.τ).loc Cert.SwaKernelIdeal.main_arg1) = m ((c.tc : Thread Cert.SwaKernelIdeal.nD Cert.SwaKernelIdeal.τ).loc Cert.SwaKernelIdeal.main_arg1)
      ∧ r.2.mem ((c.tc : Thread Cert.SwaKernelIdeal.nD Cert.SwaKernelIdeal.τ).loc Cert.SwaKernelIdeal.main_arg2) = m ((c.tc : Thread Cert.SwaKernelIdeal.nD Cert.SwaKernelIdeal.τ).loc Cert.SwaKernelIdeal.main_arg2))
      ∧ r.2.sem = fun _ => 0)

def quiescent_SwaKernelIdeal_pre_swa_finite [hSwaKernelIdeal : Cert.SwaKernelIdeal.Facts] [hPre_swa_finite : Cert.Pre_swa_finite.Facts] : Prop :=
  ∀ (m : (ℓ : Loc Cert.SwaKernelIdeal.nD Cert.SwaKernelIdeal.τ Cert.SwaKernelIdeal.sig) → Buf (Elt Ideal) ℓ) (g : Dev Cert.SwaKernelIdeal.nD → PrngReg), Pre_SwaKernelIdeal_swa_finite m →
    θ_run (Cert.SwaKernelIdeal.defs (F := Ideal)) (onTc (τ := Cert.SwaKernelIdeal.τ) (Cert.SwaKernelIdeal.main (F := Ideal))) ⟨m, fun _ => 0, g⟩ (fun r => (∀ c : Dev Cert.SwaKernelIdeal.nD,
      r.2.mem ((c.tc : Thread Cert.SwaKernelIdeal.nD Cert.SwaKernelIdeal.τ).loc Cert.SwaKernelIdeal.main_arg0) = m ((c.tc : Thread Cert.SwaKernelIdeal.nD Cert.SwaKernelIdeal.τ).loc Cert.SwaKernelIdeal.main_arg0)
      ∧ r.2.mem ((c.tc : Thread Cert.SwaKernelIdeal.nD Cert.SwaKernelIdeal.τ).loc Cert.SwaKernelIdeal.main_arg1) = m ((c.tc : Thread Cert.SwaKernelIdeal.nD Cert.SwaKernelIdeal.τ).loc Cert.SwaKernelIdeal.main_arg1)
      ∧ r.2.mem ((c.tc : Thread Cert.SwaKernelIdeal.nD Cert.SwaKernelIdeal.τ).loc Cert.SwaKernelIdeal.main_arg2) = m ((c.tc : Thread Cert.SwaKernelIdeal.nD Cert.SwaKernelIdeal.τ).loc Cert.SwaKernelIdeal.main_arg2))
      ∧ r.2.sem = fun _ => 0)

def quiescent_SwaReferenceIdeal [hSwaReferenceIdeal : Cert.SwaReferenceIdeal.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2))
      ∧ r.2.sem = fun _ => 0)

def quiescent_SwaReferenceIdeal_pre_swa_finite [hSwaReferenceIdeal : Cert.SwaReferenceIdeal.Facts] [hPre_swa_finite : Cert.Pre_swa_finite.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal_swa_finite m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2))
      ∧ r.2.sem = fun _ => 0)

def quiescent_SwafKernel [hSwafKernel : Cert.SwafKernel.Facts] : Prop :=
  ∀ (m : (ℓ : Loc Cert.SwafKernel.nD Cert.SwafKernel.τ Cert.SwafKernel.sig) → Buf (Elt Bits) ℓ) (g : Dev Cert.SwafKernel.nD → PrngReg), Pre_SwafKernel m →
    θ_run (Cert.SwafKernel.defs (F := Bits)) (onTc (τ := Cert.SwafKernel.τ) (Cert.SwafKernel.main (F := Bits))) ⟨m, fun _ => 0, g⟩ (fun r => (∀ c : Dev Cert.SwafKernel.nD,
      r.2.mem ((c.tc : Thread Cert.SwafKernel.nD Cert.SwafKernel.τ).loc Cert.SwafKernel.main_arg0) = m ((c.tc : Thread Cert.SwafKernel.nD Cert.SwafKernel.τ).loc Cert.SwafKernel.main_arg0)
      ∧ r.2.mem ((c.tc : Thread Cert.SwafKernel.nD Cert.SwafKernel.τ).loc Cert.SwafKernel.main_arg1) = m ((c.tc : Thread Cert.SwafKernel.nD Cert.SwafKernel.τ).loc Cert.SwafKernel.main_arg1))
      ∧ r.2.sem = fun _ => 0)

def quiescent_SwafKernelIdeal [hSwafKernelIdeal : Cert.SwafKernelIdeal.Facts] : Prop :=
  ∀ (m : (ℓ : Loc Cert.SwafKernelIdeal.nD Cert.SwafKernelIdeal.τ Cert.SwafKernelIdeal.sig) → Buf (Elt Ideal) ℓ) (g : Dev Cert.SwafKernelIdeal.nD → PrngReg), Pre_SwafKernelIdeal m →
    θ_run (Cert.SwafKernelIdeal.defs (F := Ideal)) (onTc (τ := Cert.SwafKernelIdeal.τ) (Cert.SwafKernelIdeal.main (F := Ideal))) ⟨m, fun _ => 0, g⟩ (fun r => (∀ c : Dev Cert.SwafKernelIdeal.nD,
      r.2.mem ((c.tc : Thread Cert.SwafKernelIdeal.nD Cert.SwafKernelIdeal.τ).loc Cert.SwafKernelIdeal.main_arg0) = m ((c.tc : Thread Cert.SwafKernelIdeal.nD Cert.SwafKernelIdeal.τ).loc Cert.SwafKernelIdeal.main_arg0)
      ∧ r.2.mem ((c.tc : Thread Cert.SwafKernelIdeal.nD Cert.SwafKernelIdeal.τ).loc Cert.SwafKernelIdeal.main_arg1) = m ((c.tc : Thread Cert.SwafKernelIdeal.nD Cert.SwafKernelIdeal.τ).loc Cert.SwafKernelIdeal.main_arg1))
      ∧ r.2.sem = fun _ => 0)

def quiescent_SwafKernelIdeal_pre_proj_finite [hSwafKernelIdeal : Cert.SwafKernelIdeal.Facts] [hPre_proj_finite : Cert.Pre_proj_finite.Facts] : Prop :=
  ∀ (m : (ℓ : Loc Cert.SwafKernelIdeal.nD Cert.SwafKernelIdeal.τ Cert.SwafKernelIdeal.sig) → Buf (Elt Ideal) ℓ) (g : Dev Cert.SwafKernelIdeal.nD → PrngReg), Pre_SwafKernelIdeal_proj_finite m →
    θ_run (Cert.SwafKernelIdeal.defs (F := Ideal)) (onTc (τ := Cert.SwafKernelIdeal.τ) (Cert.SwafKernelIdeal.main (F := Ideal))) ⟨m, fun _ => 0, g⟩ (fun r => (∀ c : Dev Cert.SwafKernelIdeal.nD,
      r.2.mem ((c.tc : Thread Cert.SwafKernelIdeal.nD Cert.SwafKernelIdeal.τ).loc Cert.SwafKernelIdeal.main_arg0) = m ((c.tc : Thread Cert.SwafKernelIdeal.nD Cert.SwafKernelIdeal.τ).loc Cert.SwafKernelIdeal.main_arg0)
      ∧ r.2.mem ((c.tc : Thread Cert.SwafKernelIdeal.nD Cert.SwafKernelIdeal.τ).loc Cert.SwafKernelIdeal.main_arg1) = m ((c.tc : Thread Cert.SwafKernelIdeal.nD Cert.SwafKernelIdeal.τ).loc Cert.SwafKernelIdeal.main_arg1))
      ∧ r.2.sem = fun _ => 0)

def quiescent_SwafReferenceIdeal [hSwafReferenceIdeal : Cert.SwafReferenceIdeal.Facts] : Prop :=
  ∀ (m : (ℓ : Loc Cert.SwafReferenceIdeal.nD Cert.SwafReferenceIdeal.τ Cert.SwafReferenceIdeal.sig) → Buf (Elt Ideal) ℓ) (g : Dev Cert.SwafReferenceIdeal.nD → PrngReg), Pre_SwafReferenceIdeal m →
    θ_run (Cert.SwafReferenceIdeal.defs (F := Ideal)) (onTc (τ := Cert.SwafReferenceIdeal.τ) (Cert.SwafReferenceIdeal.main (F := Ideal))) ⟨m, fun _ => 0, g⟩ (fun r => (∀ c : Dev Cert.SwafReferenceIdeal.nD,
      r.2.mem ((c.tc : Thread Cert.SwafReferenceIdeal.nD Cert.SwafReferenceIdeal.τ).loc Cert.SwafReferenceIdeal.main_arg0) = m ((c.tc : Thread Cert.SwafReferenceIdeal.nD Cert.SwafReferenceIdeal.τ).loc Cert.SwafReferenceIdeal.main_arg0)
      ∧ r.2.mem ((c.tc : Thread Cert.SwafReferenceIdeal.nD Cert.SwafReferenceIdeal.τ).loc Cert.SwafReferenceIdeal.main_arg1) = m ((c.tc : Thread Cert.SwafReferenceIdeal.nD Cert.SwafReferenceIdeal.τ).loc Cert.SwafReferenceIdeal.main_arg1))
      ∧ r.2.sem = fun _ => 0)

def quiescent_SwafReferenceIdeal_pre_proj_finite [hSwafReferenceIdeal : Cert.SwafReferenceIdeal.Facts] [hPre_proj_finite : Cert.Pre_proj_finite.Facts] : Prop :=
  ∀ (m : (ℓ : Loc Cert.SwafReferenceIdeal.nD Cert.SwafReferenceIdeal.τ Cert.SwafReferenceIdeal.sig) → Buf (Elt Ideal) ℓ) (g : Dev Cert.SwafReferenceIdeal.nD → PrngReg), Pre_SwafReferenceIdeal_proj_finite m →
    θ_run (Cert.SwafReferenceIdeal.defs (F := Ideal)) (onTc (τ := Cert.SwafReferenceIdeal.τ) (Cert.SwafReferenceIdeal.main (F := Ideal))) ⟨m, fun _ => 0, g⟩ (fun r => (∀ c : Dev Cert.SwafReferenceIdeal.nD,
      r.2.mem ((c.tc : Thread Cert.SwafReferenceIdeal.nD Cert.SwafReferenceIdeal.τ).loc Cert.SwafReferenceIdeal.main_arg0) = m ((c.tc : Thread Cert.SwafReferenceIdeal.nD Cert.SwafReferenceIdeal.τ).loc Cert.SwafReferenceIdeal.main_arg0)
      ∧ r.2.mem ((c.tc : Thread Cert.SwafReferenceIdeal.nD Cert.SwafReferenceIdeal.τ).loc Cert.SwafReferenceIdeal.main_arg1) = m ((c.tc : Thread Cert.SwafReferenceIdeal.nD Cert.SwafReferenceIdeal.τ).loc Cert.SwafReferenceIdeal.main_arg1))
      ∧ r.2.sem = fun _ => 0)

def quiescent_PnfKernel [hPnfKernel : Cert.PnfKernel.Facts] : Prop :=
  ∀ (m : (ℓ : Loc Cert.PnfKernel.nD Cert.PnfKernel.τ Cert.PnfKernel.sig) → Buf (Elt Bits) ℓ) (g : Dev Cert.PnfKernel.nD → PrngReg), Pre_PnfKernel m →
    θ_run (Cert.PnfKernel.defs (F := Bits)) (onTc (τ := Cert.PnfKernel.τ) (Cert.PnfKernel.main (F := Bits))) ⟨m, fun _ => 0, g⟩ (fun r => (∀ c : Dev Cert.PnfKernel.nD,
      r.2.mem ((c.tc : Thread Cert.PnfKernel.nD Cert.PnfKernel.τ).loc Cert.PnfKernel.main_arg0) = m ((c.tc : Thread Cert.PnfKernel.nD Cert.PnfKernel.τ).loc Cert.PnfKernel.main_arg0)
      ∧ r.2.mem ((c.tc : Thread Cert.PnfKernel.nD Cert.PnfKernel.τ).loc Cert.PnfKernel.main_arg1) = m ((c.tc : Thread Cert.PnfKernel.nD Cert.PnfKernel.τ).loc Cert.PnfKernel.main_arg1))
      ∧ r.2.sem = fun _ => 0)

def quiescent_PnfKernelIdeal [hPnfKernelIdeal : Cert.PnfKernelIdeal.Facts] : Prop :=
  ∀ (m : (ℓ : Loc Cert.PnfKernelIdeal.nD Cert.PnfKernelIdeal.τ Cert.PnfKernelIdeal.sig) → Buf (Elt Ideal) ℓ) (g : Dev Cert.PnfKernelIdeal.nD → PrngReg), Pre_PnfKernelIdeal m →
    θ_run (Cert.PnfKernelIdeal.defs (F := Ideal)) (onTc (τ := Cert.PnfKernelIdeal.τ) (Cert.PnfKernelIdeal.main (F := Ideal))) ⟨m, fun _ => 0, g⟩ (fun r => (∀ c : Dev Cert.PnfKernelIdeal.nD,
      r.2.mem ((c.tc : Thread Cert.PnfKernelIdeal.nD Cert.PnfKernelIdeal.τ).loc Cert.PnfKernelIdeal.main_arg0) = m ((c.tc : Thread Cert.PnfKernelIdeal.nD Cert.PnfKernelIdeal.τ).loc Cert.PnfKernelIdeal.main_arg0)
      ∧ r.2.mem ((c.tc : Thread Cert.PnfKernelIdeal.nD Cert.PnfKernelIdeal.τ).loc Cert.PnfKernelIdeal.main_arg1) = m ((c.tc : Thread Cert.PnfKernelIdeal.nD Cert.PnfKernelIdeal.τ).loc Cert.PnfKernelIdeal.main_arg1))
      ∧ r.2.sem = fun _ => 0)

def quiescent_PnfReferenceIdeal [hPnfReferenceIdeal : Cert.PnfReferenceIdeal.Facts] : Prop :=
  ∀ (m : (ℓ : Loc Cert.PnfReferenceIdeal.nD Cert.PnfReferenceIdeal.τ Cert.PnfReferenceIdeal.sig) → Buf (Elt Ideal) ℓ) (g : Dev Cert.PnfReferenceIdeal.nD → PrngReg), Pre_PnfReferenceIdeal m →
    θ_run (Cert.PnfReferenceIdeal.defs (F := Ideal)) (onTc (τ := Cert.PnfReferenceIdeal.τ) (Cert.PnfReferenceIdeal.main (F := Ideal))) ⟨m, fun _ => 0, g⟩ (fun r => (∀ c : Dev Cert.PnfReferenceIdeal.nD,
      r.2.mem ((c.tc : Thread Cert.PnfReferenceIdeal.nD Cert.PnfReferenceIdeal.τ).loc Cert.PnfReferenceIdeal.main_arg0) = m ((c.tc : Thread Cert.PnfReferenceIdeal.nD Cert.PnfReferenceIdeal.τ).loc Cert.PnfReferenceIdeal.main_arg0)
      ∧ r.2.mem ((c.tc : Thread Cert.PnfReferenceIdeal.nD Cert.PnfReferenceIdeal.τ).loc Cert.PnfReferenceIdeal.main_arg1) = m ((c.tc : Thread Cert.PnfReferenceIdeal.nD Cert.PnfReferenceIdeal.τ).loc Cert.PnfReferenceIdeal.main_arg1))
      ∧ r.2.sem = fun _ => 0)

def quiescent_RnfKernel [hRnfKernel : Cert.RnfKernel.Facts] : Prop :=
  ∀ (m : (ℓ : Loc Cert.RnfKernel.nD Cert.RnfKernel.τ Cert.RnfKernel.sig) → Buf (Elt Bits) ℓ) (g : Dev Cert.RnfKernel.nD → PrngReg), Pre_RnfKernel m →
    θ_run (Cert.RnfKernel.defs (F := Bits)) (onTc (τ := Cert.RnfKernel.τ) (Cert.RnfKernel.main (F := Bits))) ⟨m, fun _ => 0, g⟩ (fun r => (∀ c : Dev Cert.RnfKernel.nD,
      r.2.mem ((c.tc : Thread Cert.RnfKernel.nD Cert.RnfKernel.τ).loc Cert.RnfKernel.main_arg0) = m ((c.tc : Thread Cert.RnfKernel.nD Cert.RnfKernel.τ).loc Cert.RnfKernel.main_arg0)
      ∧ r.2.mem ((c.tc : Thread Cert.RnfKernel.nD Cert.RnfKernel.τ).loc Cert.RnfKernel.main_arg1) = m ((c.tc : Thread Cert.RnfKernel.nD Cert.RnfKernel.τ).loc Cert.RnfKernel.main_arg1)
      ∧ r.2.mem ((c.tc : Thread Cert.RnfKernel.nD Cert.RnfKernel.τ).loc Cert.RnfKernel.main_arg2) = m ((c.tc : Thread Cert.RnfKernel.nD Cert.RnfKernel.τ).loc Cert.RnfKernel.main_arg2)
      ∧ r.2.mem ((c.tc : Thread Cert.RnfKernel.nD Cert.RnfKernel.τ).loc Cert.RnfKernel.main_arg3) = m ((c.tc : Thread Cert.RnfKernel.nD Cert.RnfKernel.τ).loc Cert.RnfKernel.main_arg3))
      ∧ r.2.sem = fun _ => 0)

def quiescent_RnfKernelIdeal [hRnfKernelIdeal : Cert.RnfKernelIdeal.Facts] : Prop :=
  ∀ (m : (ℓ : Loc Cert.RnfKernelIdeal.nD Cert.RnfKernelIdeal.τ Cert.RnfKernelIdeal.sig) → Buf (Elt Ideal) ℓ) (g : Dev Cert.RnfKernelIdeal.nD → PrngReg), Pre_RnfKernelIdeal m →
    θ_run (Cert.RnfKernelIdeal.defs (F := Ideal)) (onTc (τ := Cert.RnfKernelIdeal.τ) (Cert.RnfKernelIdeal.main (F := Ideal))) ⟨m, fun _ => 0, g⟩ (fun r => (∀ c : Dev Cert.RnfKernelIdeal.nD,
      r.2.mem ((c.tc : Thread Cert.RnfKernelIdeal.nD Cert.RnfKernelIdeal.τ).loc Cert.RnfKernelIdeal.main_arg0) = m ((c.tc : Thread Cert.RnfKernelIdeal.nD Cert.RnfKernelIdeal.τ).loc Cert.RnfKernelIdeal.main_arg0)
      ∧ r.2.mem ((c.tc : Thread Cert.RnfKernelIdeal.nD Cert.RnfKernelIdeal.τ).loc Cert.RnfKernelIdeal.main_arg1) = m ((c.tc : Thread Cert.RnfKernelIdeal.nD Cert.RnfKernelIdeal.τ).loc Cert.RnfKernelIdeal.main_arg1)
      ∧ r.2.mem ((c.tc : Thread Cert.RnfKernelIdeal.nD Cert.RnfKernelIdeal.τ).loc Cert.RnfKernelIdeal.main_arg2) = m ((c.tc : Thread Cert.RnfKernelIdeal.nD Cert.RnfKernelIdeal.τ).loc Cert.RnfKernelIdeal.main_arg2)
      ∧ r.2.mem ((c.tc : Thread Cert.RnfKernelIdeal.nD Cert.RnfKernelIdeal.τ).loc Cert.RnfKernelIdeal.main_arg3) = m ((c.tc : Thread Cert.RnfKernelIdeal.nD Cert.RnfKernelIdeal.τ).loc Cert.RnfKernelIdeal.main_arg3))
      ∧ r.2.sem = fun _ => 0)

def quiescent_RnfReferenceIdeal [hRnfReferenceIdeal : Cert.RnfReferenceIdeal.Facts] : Prop :=
  ∀ (m : (ℓ : Loc Cert.RnfReferenceIdeal.nD Cert.RnfReferenceIdeal.τ Cert.RnfReferenceIdeal.sig) → Buf (Elt Ideal) ℓ) (g : Dev Cert.RnfReferenceIdeal.nD → PrngReg), Pre_RnfReferenceIdeal m →
    θ_run (Cert.RnfReferenceIdeal.defs (F := Ideal)) (onTc (τ := Cert.RnfReferenceIdeal.τ) (Cert.RnfReferenceIdeal.main (F := Ideal))) ⟨m, fun _ => 0, g⟩ (fun r => (∀ c : Dev Cert.RnfReferenceIdeal.nD,
      r.2.mem ((c.tc : Thread Cert.RnfReferenceIdeal.nD Cert.RnfReferenceIdeal.τ).loc Cert.RnfReferenceIdeal.main_arg0) = m ((c.tc : Thread Cert.RnfReferenceIdeal.nD Cert.RnfReferenceIdeal.τ).loc Cert.RnfReferenceIdeal.main_arg0)
      ∧ r.2.mem ((c.tc : Thread Cert.RnfReferenceIdeal.nD Cert.RnfReferenceIdeal.τ).loc Cert.RnfReferenceIdeal.main_arg1) = m ((c.tc : Thread Cert.RnfReferenceIdeal.nD Cert.RnfReferenceIdeal.τ).loc Cert.RnfReferenceIdeal.main_arg1)
      ∧ r.2.mem ((c.tc : Thread Cert.RnfReferenceIdeal.nD Cert.RnfReferenceIdeal.τ).loc Cert.RnfReferenceIdeal.main_arg2) = m ((c.tc : Thread Cert.RnfReferenceIdeal.nD Cert.RnfReferenceIdeal.τ).loc Cert.RnfReferenceIdeal.main_arg2)
      ∧ r.2.mem ((c.tc : Thread Cert.RnfReferenceIdeal.nD Cert.RnfReferenceIdeal.τ).loc Cert.RnfReferenceIdeal.main_arg3) = m ((c.tc : Thread Cert.RnfReferenceIdeal.nD Cert.RnfReferenceIdeal.τ).loc Cert.RnfReferenceIdeal.main_arg3))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_ConvfKernel [hConvfKernel : Cert.ConvfKernel.Facts] : Prop :=
  ∀ (m : (ℓ : Loc Cert.ConvfKernel.nD Cert.ConvfKernel.τ Cert.ConvfKernel.sig) → Buf (Elt Bits) ℓ) (g : Dev Cert.ConvfKernel.nD → PrngReg), Pre_ConvfKernel m →
    θ_run (Cert.ConvfKernel.defs (F := Bits)) (onTc (τ := Cert.ConvfKernel.τ) (Cert.ConvfKernel.main (F := Bits))) ⟨m, fun _ => 0, g⟩ (fun r => (∀ c : Dev Cert.ConvfKernel.nD,
      r.2.mem ((c.tc : Thread Cert.ConvfKernel.nD Cert.ConvfKernel.τ).loc Cert.ConvfKernel.main_arg0) = m ((c.tc : Thread Cert.ConvfKernel.nD Cert.ConvfKernel.τ).loc Cert.ConvfKernel.main_arg0)
      ∧ r.2.mem ((c.tc : Thread Cert.ConvfKernel.nD Cert.ConvfKernel.τ).loc Cert.ConvfKernel.main_arg1) = m ((c.tc : Thread Cert.ConvfKernel.nD Cert.ConvfKernel.τ).loc Cert.ConvfKernel.main_arg1)
      ∧ r.2.mem ((c.tc : Thread Cert.ConvfKernel.nD Cert.ConvfKernel.τ).loc Cert.ConvfKernel.main_arg2) = m ((c.tc : Thread Cert.ConvfKernel.nD Cert.ConvfKernel.τ).loc Cert.ConvfKernel.main_arg2))
      ∧ r.2.sem = fun _ => 0)

def quiescent_ConvfKernelIdeal [hConvfKernelIdeal : Cert.ConvfKernelIdeal.Facts] : Prop :=
  ∀ (m : (ℓ : Loc Cert.ConvfKernelIdeal.nD Cert.ConvfKernelIdeal.τ Cert.ConvfKernelIdeal.sig) → Buf (Elt Ideal) ℓ) (g : Dev Cert.ConvfKernelIdeal.nD → PrngReg), Pre_ConvfKernelIdeal m →
    θ_run (Cert.ConvfKernelIdeal.defs (F := Ideal)) (onTc (τ := Cert.ConvfKernelIdeal.τ) (Cert.ConvfKernelIdeal.main (F := Ideal))) ⟨m, fun _ => 0, g⟩ (fun r => (∀ c : Dev Cert.ConvfKernelIdeal.nD,
      r.2.mem ((c.tc : Thread Cert.ConvfKernelIdeal.nD Cert.ConvfKernelIdeal.τ).loc Cert.ConvfKernelIdeal.main_arg0) = m ((c.tc : Thread Cert.ConvfKernelIdeal.nD Cert.ConvfKernelIdeal.τ).loc Cert.ConvfKernelIdeal.main_arg0)
      ∧ r.2.mem ((c.tc : Thread Cert.ConvfKernelIdeal.nD Cert.ConvfKernelIdeal.τ).loc Cert.ConvfKernelIdeal.main_arg1) = m ((c.tc : Thread Cert.ConvfKernelIdeal.nD Cert.ConvfKernelIdeal.τ).loc Cert.ConvfKernelIdeal.main_arg1)
      ∧ r.2.mem ((c.tc : Thread Cert.ConvfKernelIdeal.nD Cert.ConvfKernelIdeal.τ).loc Cert.ConvfKernelIdeal.main_arg2) = m ((c.tc : Thread Cert.ConvfKernelIdeal.nD Cert.ConvfKernelIdeal.τ).loc Cert.ConvfKernelIdeal.main_arg2))
      ∧ r.2.sem = fun _ => 0)

def quiescent_ConvfReferenceIdeal [hConvfReferenceIdeal : Cert.ConvfReferenceIdeal.Facts] : Prop :=
  ∀ (m : (ℓ : Loc Cert.ConvfReferenceIdeal.nD Cert.ConvfReferenceIdeal.τ Cert.ConvfReferenceIdeal.sig) → Buf (Elt Ideal) ℓ) (g : Dev Cert.ConvfReferenceIdeal.nD → PrngReg), Pre_ConvfReferenceIdeal m →
    θ_run (Cert.ConvfReferenceIdeal.defs (F := Ideal)) (onTc (τ := Cert.ConvfReferenceIdeal.τ) (Cert.ConvfReferenceIdeal.main (F := Ideal))) ⟨m, fun _ => 0, g⟩ (fun r => (∀ c : Dev Cert.ConvfReferenceIdeal.nD,
      r.2.mem ((c.tc : Thread Cert.ConvfReferenceIdeal.nD Cert.ConvfReferenceIdeal.τ).loc Cert.ConvfReferenceIdeal.main_arg0) = m ((c.tc : Thread Cert.ConvfReferenceIdeal.nD Cert.ConvfReferenceIdeal.τ).loc Cert.ConvfReferenceIdeal.main_arg0)
      ∧ r.2.mem ((c.tc : Thread Cert.ConvfReferenceIdeal.nD Cert.ConvfReferenceIdeal.τ).loc Cert.ConvfReferenceIdeal.main_arg1) = m ((c.tc : Thread Cert.ConvfReferenceIdeal.nD Cert.ConvfReferenceIdeal.τ).loc Cert.ConvfReferenceIdeal.main_arg1)
      ∧ r.2.mem ((c.tc : Thread Cert.ConvfReferenceIdeal.nD Cert.ConvfReferenceIdeal.τ).loc Cert.ConvfReferenceIdeal.main_arg2) = m ((c.tc : Thread Cert.ConvfReferenceIdeal.nD Cert.ConvfReferenceIdeal.τ).loc Cert.ConvfReferenceIdeal.main_arg2))
      ∧ r.2.sem = fun _ => 0)

def quiescent_GconvfKernel [hGconvfKernel : Cert.GconvfKernel.Facts] : Prop :=
  ∀ (m : (ℓ : Loc Cert.GconvfKernel.nD Cert.GconvfKernel.τ Cert.GconvfKernel.sig) → Buf (Elt Bits) ℓ) (g : Dev Cert.GconvfKernel.nD → PrngReg), Pre_GconvfKernel m →
    θ_run (Cert.GconvfKernel.defs (F := Bits)) (onTc (τ := Cert.GconvfKernel.τ) (Cert.GconvfKernel.main (F := Bits))) ⟨m, fun _ => 0, g⟩ (fun r => (∀ c : Dev Cert.GconvfKernel.nD,
      r.2.mem ((c.tc : Thread Cert.GconvfKernel.nD Cert.GconvfKernel.τ).loc Cert.GconvfKernel.main_arg0) = m ((c.tc : Thread Cert.GconvfKernel.nD Cert.GconvfKernel.τ).loc Cert.GconvfKernel.main_arg0)
      ∧ r.2.mem ((c.tc : Thread Cert.GconvfKernel.nD Cert.GconvfKernel.τ).loc Cert.GconvfKernel.main_arg1) = m ((c.tc : Thread Cert.GconvfKernel.nD Cert.GconvfKernel.τ).loc Cert.GconvfKernel.main_arg1))
      ∧ r.2.sem = fun _ => 0)

def quiescent_GconvfKernelIdeal [hGconvfKernelIdeal : Cert.GconvfKernelIdeal.Facts] : Prop :=
  ∀ (m : (ℓ : Loc Cert.GconvfKernelIdeal.nD Cert.GconvfKernelIdeal.τ Cert.GconvfKernelIdeal.sig) → Buf (Elt Ideal) ℓ) (g : Dev Cert.GconvfKernelIdeal.nD → PrngReg), Pre_GconvfKernelIdeal m →
    θ_run (Cert.GconvfKernelIdeal.defs (F := Ideal)) (onTc (τ := Cert.GconvfKernelIdeal.τ) (Cert.GconvfKernelIdeal.main (F := Ideal))) ⟨m, fun _ => 0, g⟩ (fun r => (∀ c : Dev Cert.GconvfKernelIdeal.nD,
      r.2.mem ((c.tc : Thread Cert.GconvfKernelIdeal.nD Cert.GconvfKernelIdeal.τ).loc Cert.GconvfKernelIdeal.main_arg0) = m ((c.tc : Thread Cert.GconvfKernelIdeal.nD Cert.GconvfKernelIdeal.τ).loc Cert.GconvfKernelIdeal.main_arg0)
      ∧ r.2.mem ((c.tc : Thread Cert.GconvfKernelIdeal.nD Cert.GconvfKernelIdeal.τ).loc Cert.GconvfKernelIdeal.main_arg1) = m ((c.tc : Thread Cert.GconvfKernelIdeal.nD Cert.GconvfKernelIdeal.τ).loc Cert.GconvfKernelIdeal.main_arg1))
      ∧ r.2.sem = fun _ => 0)

def quiescent_GconvfReferenceIdeal [hGconvfReferenceIdeal : Cert.GconvfReferenceIdeal.Facts] : Prop :=
  ∀ (m : (ℓ : Loc Cert.GconvfReferenceIdeal.nD Cert.GconvfReferenceIdeal.τ Cert.GconvfReferenceIdeal.sig) → Buf (Elt Ideal) ℓ) (g : Dev Cert.GconvfReferenceIdeal.nD → PrngReg), Pre_GconvfReferenceIdeal m →
    θ_run (Cert.GconvfReferenceIdeal.defs (F := Ideal)) (onTc (τ := Cert.GconvfReferenceIdeal.τ) (Cert.GconvfReferenceIdeal.main (F := Ideal))) ⟨m, fun _ => 0, g⟩ (fun r => (∀ c : Dev Cert.GconvfReferenceIdeal.nD,
      r.2.mem ((c.tc : Thread Cert.GconvfReferenceIdeal.nD Cert.GconvfReferenceIdeal.τ).loc Cert.GconvfReferenceIdeal.main_arg0) = m ((c.tc : Thread Cert.GconvfReferenceIdeal.nD Cert.GconvfReferenceIdeal.τ).loc Cert.GconvfReferenceIdeal.main_arg0)
      ∧ r.2.mem ((c.tc : Thread Cert.GconvfReferenceIdeal.nD Cert.GconvfReferenceIdeal.τ).loc Cert.GconvfReferenceIdeal.main_arg1) = m ((c.tc : Thread Cert.GconvfReferenceIdeal.nD Cert.GconvfReferenceIdeal.τ).loc Cert.GconvfReferenceIdeal.main_arg1))
      ∧ r.2.sem = fun _ => 0)

def quiescent_GconvKernel [hGconvKernel : Cert.GconvKernel.Facts] : Prop :=
  ∀ (m : (ℓ : Loc Cert.GconvKernel.nD Cert.GconvKernel.τ Cert.GconvKernel.sig) → Buf (Elt Bits) ℓ) (g : Dev Cert.GconvKernel.nD → PrngReg), Pre_GconvKernel m →
    θ_run (Cert.GconvKernel.defs (F := Bits)) (onTc (τ := Cert.GconvKernel.τ) (Cert.GconvKernel.main (F := Bits))) ⟨m, fun _ => 0, g⟩ (fun r => (∀ c : Dev Cert.GconvKernel.nD,
      r.2.mem ((c.tc : Thread Cert.GconvKernel.nD Cert.GconvKernel.τ).loc Cert.GconvKernel.main_arg0) = m ((c.tc : Thread Cert.GconvKernel.nD Cert.GconvKernel.τ).loc Cert.GconvKernel.main_arg0)
      ∧ r.2.mem ((c.tc : Thread Cert.GconvKernel.nD Cert.GconvKernel.τ).loc Cert.GconvKernel.main_arg1) = m ((c.tc : Thread Cert.GconvKernel.nD Cert.GconvKernel.τ).loc Cert.GconvKernel.main_arg1)
      ∧ r.2.mem ((c.tc : Thread Cert.GconvKernel.nD Cert.GconvKernel.τ).loc Cert.GconvKernel.main_arg2) = m ((c.tc : Thread Cert.GconvKernel.nD Cert.GconvKernel.τ).loc Cert.GconvKernel.main_arg2))
      ∧ r.2.sem = fun _ => 0)

def quiescent_GconvKernelIdeal [hGconvKernelIdeal : Cert.GconvKernelIdeal.Facts] : Prop :=
  ∀ (m : (ℓ : Loc Cert.GconvKernelIdeal.nD Cert.GconvKernelIdeal.τ Cert.GconvKernelIdeal.sig) → Buf (Elt Ideal) ℓ) (g : Dev Cert.GconvKernelIdeal.nD → PrngReg), Pre_GconvKernelIdeal m →
    θ_run (Cert.GconvKernelIdeal.defs (F := Ideal)) (onTc (τ := Cert.GconvKernelIdeal.τ) (Cert.GconvKernelIdeal.main (F := Ideal))) ⟨m, fun _ => 0, g⟩ (fun r => (∀ c : Dev Cert.GconvKernelIdeal.nD,
      r.2.mem ((c.tc : Thread Cert.GconvKernelIdeal.nD Cert.GconvKernelIdeal.τ).loc Cert.GconvKernelIdeal.main_arg0) = m ((c.tc : Thread Cert.GconvKernelIdeal.nD Cert.GconvKernelIdeal.τ).loc Cert.GconvKernelIdeal.main_arg0)
      ∧ r.2.mem ((c.tc : Thread Cert.GconvKernelIdeal.nD Cert.GconvKernelIdeal.τ).loc Cert.GconvKernelIdeal.main_arg1) = m ((c.tc : Thread Cert.GconvKernelIdeal.nD Cert.GconvKernelIdeal.τ).loc Cert.GconvKernelIdeal.main_arg1)
      ∧ r.2.mem ((c.tc : Thread Cert.GconvKernelIdeal.nD Cert.GconvKernelIdeal.τ).loc Cert.GconvKernelIdeal.main_arg2) = m ((c.tc : Thread Cert.GconvKernelIdeal.nD Cert.GconvKernelIdeal.τ).loc Cert.GconvKernelIdeal.main_arg2))
      ∧ r.2.sem = fun _ => 0)

def quiescent_GconvKernelIdeal_pre_gct_finite [hGconvKernelIdeal : Cert.GconvKernelIdeal.Facts] [hPre_gct_finite : Cert.Pre_gct_finite.Facts] : Prop :=
  ∀ (m : (ℓ : Loc Cert.GconvKernelIdeal.nD Cert.GconvKernelIdeal.τ Cert.GconvKernelIdeal.sig) → Buf (Elt Ideal) ℓ) (g : Dev Cert.GconvKernelIdeal.nD → PrngReg), Pre_GconvKernelIdeal_gct_finite m →
    θ_run (Cert.GconvKernelIdeal.defs (F := Ideal)) (onTc (τ := Cert.GconvKernelIdeal.τ) (Cert.GconvKernelIdeal.main (F := Ideal))) ⟨m, fun _ => 0, g⟩ (fun r => (∀ c : Dev Cert.GconvKernelIdeal.nD,
      r.2.mem ((c.tc : Thread Cert.GconvKernelIdeal.nD Cert.GconvKernelIdeal.τ).loc Cert.GconvKernelIdeal.main_arg0) = m ((c.tc : Thread Cert.GconvKernelIdeal.nD Cert.GconvKernelIdeal.τ).loc Cert.GconvKernelIdeal.main_arg0)
      ∧ r.2.mem ((c.tc : Thread Cert.GconvKernelIdeal.nD Cert.GconvKernelIdeal.τ).loc Cert.GconvKernelIdeal.main_arg1) = m ((c.tc : Thread Cert.GconvKernelIdeal.nD Cert.GconvKernelIdeal.τ).loc Cert.GconvKernelIdeal.main_arg1)
      ∧ r.2.mem ((c.tc : Thread Cert.GconvKernelIdeal.nD Cert.GconvKernelIdeal.τ).loc Cert.GconvKernelIdeal.main_arg2) = m ((c.tc : Thread Cert.GconvKernelIdeal.nD Cert.GconvKernelIdeal.τ).loc Cert.GconvKernelIdeal.main_arg2))
      ∧ r.2.sem = fun _ => 0)

def quiescent_GconvReferenceIdeal [hGconvReferenceIdeal : Cert.GconvReferenceIdeal.Facts] : Prop :=
  ∀ (m : (ℓ : Loc Cert.GconvReferenceIdeal.nD Cert.GconvReferenceIdeal.τ Cert.GconvReferenceIdeal.sig) → Buf (Elt Ideal) ℓ) (g : Dev Cert.GconvReferenceIdeal.nD → PrngReg), Pre_GconvReferenceIdeal m →
    θ_run (Cert.GconvReferenceIdeal.defs (F := Ideal)) (onTc (τ := Cert.GconvReferenceIdeal.τ) (Cert.GconvReferenceIdeal.main (F := Ideal))) ⟨m, fun _ => 0, g⟩ (fun r => (∀ c : Dev Cert.GconvReferenceIdeal.nD,
      r.2.mem ((c.tc : Thread Cert.GconvReferenceIdeal.nD Cert.GconvReferenceIdeal.τ).loc Cert.GconvReferenceIdeal.main_arg0) = m ((c.tc : Thread Cert.GconvReferenceIdeal.nD Cert.GconvReferenceIdeal.τ).loc Cert.GconvReferenceIdeal.main_arg0)
      ∧ r.2.mem ((c.tc : Thread Cert.GconvReferenceIdeal.nD Cert.GconvReferenceIdeal.τ).loc Cert.GconvReferenceIdeal.main_arg1) = m ((c.tc : Thread Cert.GconvReferenceIdeal.nD Cert.GconvReferenceIdeal.τ).loc Cert.GconvReferenceIdeal.main_arg1)
      ∧ r.2.mem ((c.tc : Thread Cert.GconvReferenceIdeal.nD Cert.GconvReferenceIdeal.τ).loc Cert.GconvReferenceIdeal.main_arg2) = m ((c.tc : Thread Cert.GconvReferenceIdeal.nD Cert.GconvReferenceIdeal.τ).loc Cert.GconvReferenceIdeal.main_arg2))
      ∧ r.2.sem = fun _ => 0)

def quiescent_GconvReferenceIdeal_pre_gct_finite [hGconvReferenceIdeal : Cert.GconvReferenceIdeal.Facts] [hPre_gct_finite : Cert.Pre_gct_finite.Facts] : Prop :=
  ∀ (m : (ℓ : Loc Cert.GconvReferenceIdeal.nD Cert.GconvReferenceIdeal.τ Cert.GconvReferenceIdeal.sig) → Buf (Elt Ideal) ℓ) (g : Dev Cert.GconvReferenceIdeal.nD → PrngReg), Pre_GconvReferenceIdeal_gct_finite m →
    θ_run (Cert.GconvReferenceIdeal.defs (F := Ideal)) (onTc (τ := Cert.GconvReferenceIdeal.τ) (Cert.GconvReferenceIdeal.main (F := Ideal))) ⟨m, fun _ => 0, g⟩ (fun r => (∀ c : Dev Cert.GconvReferenceIdeal.nD,
      r.2.mem ((c.tc : Thread Cert.GconvReferenceIdeal.nD Cert.GconvReferenceIdeal.τ).loc Cert.GconvReferenceIdeal.main_arg0) = m ((c.tc : Thread Cert.GconvReferenceIdeal.nD Cert.GconvReferenceIdeal.τ).loc Cert.GconvReferenceIdeal.main_arg0)
      ∧ r.2.mem ((c.tc : Thread Cert.GconvReferenceIdeal.nD Cert.GconvReferenceIdeal.τ).loc Cert.GconvReferenceIdeal.main_arg1) = m ((c.tc : Thread Cert.GconvReferenceIdeal.nD Cert.GconvReferenceIdeal.τ).loc Cert.GconvReferenceIdeal.main_arg1)
      ∧ r.2.mem ((c.tc : Thread Cert.GconvReferenceIdeal.nD Cert.GconvReferenceIdeal.τ).loc Cert.GconvReferenceIdeal.main_arg2) = m ((c.tc : Thread Cert.GconvReferenceIdeal.nD Cert.GconvReferenceIdeal.τ).loc Cert.GconvReferenceIdeal.main_arg2))
      ∧ r.2.sem = fun _ => 0)

def quiescent_SsdfKernel [hSsdfKernel : Cert.SsdfKernel.Facts] : Prop :=
  ∀ (m : (ℓ : Loc Cert.SsdfKernel.nD Cert.SsdfKernel.τ Cert.SsdfKernel.sig) → Buf (Elt Bits) ℓ) (g : Dev Cert.SsdfKernel.nD → PrngReg), Pre_SsdfKernel m →
    θ_run (Cert.SsdfKernel.defs (F := Bits)) (onTc (τ := Cert.SsdfKernel.τ) (Cert.SsdfKernel.main (F := Bits))) ⟨m, fun _ => 0, g⟩ (fun r => (∀ c : Dev Cert.SsdfKernel.nD,
      r.2.mem ((c.tc : Thread Cert.SsdfKernel.nD Cert.SsdfKernel.τ).loc Cert.SsdfKernel.main_arg0) = m ((c.tc : Thread Cert.SsdfKernel.nD Cert.SsdfKernel.τ).loc Cert.SsdfKernel.main_arg0)
      ∧ r.2.mem ((c.tc : Thread Cert.SsdfKernel.nD Cert.SsdfKernel.τ).loc Cert.SsdfKernel.main_arg1) = m ((c.tc : Thread Cert.SsdfKernel.nD Cert.SsdfKernel.τ).loc Cert.SsdfKernel.main_arg1)
      ∧ r.2.mem ((c.tc : Thread Cert.SsdfKernel.nD Cert.SsdfKernel.τ).loc Cert.SsdfKernel.main_arg2) = m ((c.tc : Thread Cert.SsdfKernel.nD Cert.SsdfKernel.τ).loc Cert.SsdfKernel.main_arg2)
      ∧ r.2.mem ((c.tc : Thread Cert.SsdfKernel.nD Cert.SsdfKernel.τ).loc Cert.SsdfKernel.main_arg3) = m ((c.tc : Thread Cert.SsdfKernel.nD Cert.SsdfKernel.τ).loc Cert.SsdfKernel.main_arg3)
      ∧ r.2.mem ((c.tc : Thread Cert.SsdfKernel.nD Cert.SsdfKernel.τ).loc Cert.SsdfKernel.main_arg4) = m ((c.tc : Thread Cert.SsdfKernel.nD Cert.SsdfKernel.τ).loc Cert.SsdfKernel.main_arg4)
      ∧ r.2.mem ((c.tc : Thread Cert.SsdfKernel.nD Cert.SsdfKernel.τ).loc Cert.SsdfKernel.main_arg5) = m ((c.tc : Thread Cert.SsdfKernel.nD Cert.SsdfKernel.τ).loc Cert.SsdfKernel.main_arg5))
      ∧ r.2.sem = fun _ => 0)

def quiescent_SsdfKernelIdeal [hSsdfKernelIdeal : Cert.SsdfKernelIdeal.Facts] : Prop :=
  ∀ (m : (ℓ : Loc Cert.SsdfKernelIdeal.nD Cert.SsdfKernelIdeal.τ Cert.SsdfKernelIdeal.sig) → Buf (Elt Ideal) ℓ) (g : Dev Cert.SsdfKernelIdeal.nD → PrngReg), Pre_SsdfKernelIdeal m →
    θ_run (Cert.SsdfKernelIdeal.defs (F := Ideal)) (onTc (τ := Cert.SsdfKernelIdeal.τ) (Cert.SsdfKernelIdeal.main (F := Ideal))) ⟨m, fun _ => 0, g⟩ (fun r => (∀ c : Dev Cert.SsdfKernelIdeal.nD,
      r.2.mem ((c.tc : Thread Cert.SsdfKernelIdeal.nD Cert.SsdfKernelIdeal.τ).loc Cert.SsdfKernelIdeal.main_arg0) = m ((c.tc : Thread Cert.SsdfKernelIdeal.nD Cert.SsdfKernelIdeal.τ).loc Cert.SsdfKernelIdeal.main_arg0)
      ∧ r.2.mem ((c.tc : Thread Cert.SsdfKernelIdeal.nD Cert.SsdfKernelIdeal.τ).loc Cert.SsdfKernelIdeal.main_arg1) = m ((c.tc : Thread Cert.SsdfKernelIdeal.nD Cert.SsdfKernelIdeal.τ).loc Cert.SsdfKernelIdeal.main_arg1)
      ∧ r.2.mem ((c.tc : Thread Cert.SsdfKernelIdeal.nD Cert.SsdfKernelIdeal.τ).loc Cert.SsdfKernelIdeal.main_arg2) = m ((c.tc : Thread Cert.SsdfKernelIdeal.nD Cert.SsdfKernelIdeal.τ).loc Cert.SsdfKernelIdeal.main_arg2)
      ∧ r.2.mem ((c.tc : Thread Cert.SsdfKernelIdeal.nD Cert.SsdfKernelIdeal.τ).loc Cert.SsdfKernelIdeal.main_arg3) = m ((c.tc : Thread Cert.SsdfKernelIdeal.nD Cert.SsdfKernelIdeal.τ).loc Cert.SsdfKernelIdeal.main_arg3)
      ∧ r.2.mem ((c.tc : Thread Cert.SsdfKernelIdeal.nD Cert.SsdfKernelIdeal.τ).loc Cert.SsdfKernelIdeal.main_arg4) = m ((c.tc : Thread Cert.SsdfKernelIdeal.nD Cert.SsdfKernelIdeal.τ).loc Cert.SsdfKernelIdeal.main_arg4)
      ∧ r.2.mem ((c.tc : Thread Cert.SsdfKernelIdeal.nD Cert.SsdfKernelIdeal.τ).loc Cert.SsdfKernelIdeal.main_arg5) = m ((c.tc : Thread Cert.SsdfKernelIdeal.nD Cert.SsdfKernelIdeal.τ).loc Cert.SsdfKernelIdeal.main_arg5))
      ∧ r.2.sem = fun _ => 0)

def quiescent_SsdfKernelIdeal_pre_ssd_finite [hSsdfKernelIdeal : Cert.SsdfKernelIdeal.Facts] [hPre_ssd_finite : Cert.Pre_ssd_finite.Facts] : Prop :=
  ∀ (m : (ℓ : Loc Cert.SsdfKernelIdeal.nD Cert.SsdfKernelIdeal.τ Cert.SsdfKernelIdeal.sig) → Buf (Elt Ideal) ℓ) (g : Dev Cert.SsdfKernelIdeal.nD → PrngReg), Pre_SsdfKernelIdeal_ssd_finite m →
    θ_run (Cert.SsdfKernelIdeal.defs (F := Ideal)) (onTc (τ := Cert.SsdfKernelIdeal.τ) (Cert.SsdfKernelIdeal.main (F := Ideal))) ⟨m, fun _ => 0, g⟩ (fun r => (∀ c : Dev Cert.SsdfKernelIdeal.nD,
      r.2.mem ((c.tc : Thread Cert.SsdfKernelIdeal.nD Cert.SsdfKernelIdeal.τ).loc Cert.SsdfKernelIdeal.main_arg0) = m ((c.tc : Thread Cert.SsdfKernelIdeal.nD Cert.SsdfKernelIdeal.τ).loc Cert.SsdfKernelIdeal.main_arg0)
      ∧ r.2.mem ((c.tc : Thread Cert.SsdfKernelIdeal.nD Cert.SsdfKernelIdeal.τ).loc Cert.SsdfKernelIdeal.main_arg1) = m ((c.tc : Thread Cert.SsdfKernelIdeal.nD Cert.SsdfKernelIdeal.τ).loc Cert.SsdfKernelIdeal.main_arg1)
      ∧ r.2.mem ((c.tc : Thread Cert.SsdfKernelIdeal.nD Cert.SsdfKernelIdeal.τ).loc Cert.SsdfKernelIdeal.main_arg2) = m ((c.tc : Thread Cert.SsdfKernelIdeal.nD Cert.SsdfKernelIdeal.τ).loc Cert.SsdfKernelIdeal.main_arg2)
      ∧ r.2.mem ((c.tc : Thread Cert.SsdfKernelIdeal.nD Cert.SsdfKernelIdeal.τ).loc Cert.SsdfKernelIdeal.main_arg3) = m ((c.tc : Thread Cert.SsdfKernelIdeal.nD Cert.SsdfKernelIdeal.τ).loc Cert.SsdfKernelIdeal.main_arg3)
      ∧ r.2.mem ((c.tc : Thread Cert.SsdfKernelIdeal.nD Cert.SsdfKernelIdeal.τ).loc Cert.SsdfKernelIdeal.main_arg4) = m ((c.tc : Thread Cert.SsdfKernelIdeal.nD Cert.SsdfKernelIdeal.τ).loc Cert.SsdfKernelIdeal.main_arg4)
      ∧ r.2.mem ((c.tc : Thread Cert.SsdfKernelIdeal.nD Cert.SsdfKernelIdeal.τ).loc Cert.SsdfKernelIdeal.main_arg5) = m ((c.tc : Thread Cert.SsdfKernelIdeal.nD Cert.SsdfKernelIdeal.τ).loc Cert.SsdfKernelIdeal.main_arg5))
      ∧ r.2.sem = fun _ => 0)

def quiescent_SsdfReferenceIdeal [hSsdfReferenceIdeal : Cert.SsdfReferenceIdeal.Facts] : Prop :=
  ∀ (m : (ℓ : Loc Cert.SsdfReferenceIdeal.nD Cert.SsdfReferenceIdeal.τ Cert.SsdfReferenceIdeal.sig) → Buf (Elt Ideal) ℓ) (g : Dev Cert.SsdfReferenceIdeal.nD → PrngReg), Pre_SsdfReferenceIdeal m →
    θ_run (Cert.SsdfReferenceIdeal.defs (F := Ideal)) (onTc (τ := Cert.SsdfReferenceIdeal.τ) (Cert.SsdfReferenceIdeal.main (F := Ideal))) ⟨m, fun _ => 0, g⟩ (fun r => (∀ c : Dev Cert.SsdfReferenceIdeal.nD,
      r.2.mem ((c.tc : Thread Cert.SsdfReferenceIdeal.nD Cert.SsdfReferenceIdeal.τ).loc Cert.SsdfReferenceIdeal.main_arg0) = m ((c.tc : Thread Cert.SsdfReferenceIdeal.nD Cert.SsdfReferenceIdeal.τ).loc Cert.SsdfReferenceIdeal.main_arg0)
      ∧ r.2.mem ((c.tc : Thread Cert.SsdfReferenceIdeal.nD Cert.SsdfReferenceIdeal.τ).loc Cert.SsdfReferenceIdeal.main_arg1) = m ((c.tc : Thread Cert.SsdfReferenceIdeal.nD Cert.SsdfReferenceIdeal.τ).loc Cert.SsdfReferenceIdeal.main_arg1)
      ∧ r.2.mem ((c.tc : Thread Cert.SsdfReferenceIdeal.nD Cert.SsdfReferenceIdeal.τ).loc Cert.SsdfReferenceIdeal.main_arg2) = m ((c.tc : Thread Cert.SsdfReferenceIdeal.nD Cert.SsdfReferenceIdeal.τ).loc Cert.SsdfReferenceIdeal.main_arg2)
      ∧ r.2.mem ((c.tc : Thread Cert.SsdfReferenceIdeal.nD Cert.SsdfReferenceIdeal.τ).loc Cert.SsdfReferenceIdeal.main_arg3) = m ((c.tc : Thread Cert.SsdfReferenceIdeal.nD Cert.SsdfReferenceIdeal.τ).loc Cert.SsdfReferenceIdeal.main_arg3)
      ∧ r.2.mem ((c.tc : Thread Cert.SsdfReferenceIdeal.nD Cert.SsdfReferenceIdeal.τ).loc Cert.SsdfReferenceIdeal.main_arg4) = m ((c.tc : Thread Cert.SsdfReferenceIdeal.nD Cert.SsdfReferenceIdeal.τ).loc Cert.SsdfReferenceIdeal.main_arg4)
      ∧ r.2.mem ((c.tc : Thread Cert.SsdfReferenceIdeal.nD Cert.SsdfReferenceIdeal.τ).loc Cert.SsdfReferenceIdeal.main_arg5) = m ((c.tc : Thread Cert.SsdfReferenceIdeal.nD Cert.SsdfReferenceIdeal.τ).loc Cert.SsdfReferenceIdeal.main_arg5))
      ∧ r.2.sem = fun _ => 0)

def quiescent_SsdfReferenceIdeal_pre_ssd_finite [hSsdfReferenceIdeal : Cert.SsdfReferenceIdeal.Facts] [hPre_ssd_finite : Cert.Pre_ssd_finite.Facts] : Prop :=
  ∀ (m : (ℓ : Loc Cert.SsdfReferenceIdeal.nD Cert.SsdfReferenceIdeal.τ Cert.SsdfReferenceIdeal.sig) → Buf (Elt Ideal) ℓ) (g : Dev Cert.SsdfReferenceIdeal.nD → PrngReg), Pre_SsdfReferenceIdeal_ssd_finite m →
    θ_run (Cert.SsdfReferenceIdeal.defs (F := Ideal)) (onTc (τ := Cert.SsdfReferenceIdeal.τ) (Cert.SsdfReferenceIdeal.main (F := Ideal))) ⟨m, fun _ => 0, g⟩ (fun r => (∀ c : Dev Cert.SsdfReferenceIdeal.nD,
      r.2.mem ((c.tc : Thread Cert.SsdfReferenceIdeal.nD Cert.SsdfReferenceIdeal.τ).loc Cert.SsdfReferenceIdeal.main_arg0) = m ((c.tc : Thread Cert.SsdfReferenceIdeal.nD Cert.SsdfReferenceIdeal.τ).loc Cert.SsdfReferenceIdeal.main_arg0)
      ∧ r.2.mem ((c.tc : Thread Cert.SsdfReferenceIdeal.nD Cert.SsdfReferenceIdeal.τ).loc Cert.SsdfReferenceIdeal.main_arg1) = m ((c.tc : Thread Cert.SsdfReferenceIdeal.nD Cert.SsdfReferenceIdeal.τ).loc Cert.SsdfReferenceIdeal.main_arg1)
      ∧ r.2.mem ((c.tc : Thread Cert.SsdfReferenceIdeal.nD Cert.SsdfReferenceIdeal.τ).loc Cert.SsdfReferenceIdeal.main_arg2) = m ((c.tc : Thread Cert.SsdfReferenceIdeal.nD Cert.SsdfReferenceIdeal.τ).loc Cert.SsdfReferenceIdeal.main_arg2)
      ∧ r.2.mem ((c.tc : Thread Cert.SsdfReferenceIdeal.nD Cert.SsdfReferenceIdeal.τ).loc Cert.SsdfReferenceIdeal.main_arg3) = m ((c.tc : Thread Cert.SsdfReferenceIdeal.nD Cert.SsdfReferenceIdeal.τ).loc Cert.SsdfReferenceIdeal.main_arg3)
      ∧ r.2.mem ((c.tc : Thread Cert.SsdfReferenceIdeal.nD Cert.SsdfReferenceIdeal.τ).loc Cert.SsdfReferenceIdeal.main_arg4) = m ((c.tc : Thread Cert.SsdfReferenceIdeal.nD Cert.SsdfReferenceIdeal.τ).loc Cert.SsdfReferenceIdeal.main_arg4)
      ∧ r.2.mem ((c.tc : Thread Cert.SsdfReferenceIdeal.nD Cert.SsdfReferenceIdeal.τ).loc Cert.SsdfReferenceIdeal.main_arg5) = m ((c.tc : Thread Cert.SsdfReferenceIdeal.nD Cert.SsdfReferenceIdeal.τ).loc Cert.SsdfReferenceIdeal.main_arg5))
      ∧ r.2.sem = fun _ => 0)

def quiescent_SsdbKernel [hSsdbKernel : Cert.SsdbKernel.Facts] : Prop :=
  ∀ (m : (ℓ : Loc Cert.SsdbKernel.nD Cert.SsdbKernel.τ Cert.SsdbKernel.sig) → Buf (Elt Bits) ℓ) (g : Dev Cert.SsdbKernel.nD → PrngReg), Pre_SsdbKernel m →
    θ_run (Cert.SsdbKernel.defs (F := Bits)) (onTc (τ := Cert.SsdbKernel.τ) (Cert.SsdbKernel.main (F := Bits))) ⟨m, fun _ => 0, g⟩ (fun r => (∀ c : Dev Cert.SsdbKernel.nD,
      r.2.mem ((c.tc : Thread Cert.SsdbKernel.nD Cert.SsdbKernel.τ).loc Cert.SsdbKernel.main_arg0) = m ((c.tc : Thread Cert.SsdbKernel.nD Cert.SsdbKernel.τ).loc Cert.SsdbKernel.main_arg0)
      ∧ r.2.mem ((c.tc : Thread Cert.SsdbKernel.nD Cert.SsdbKernel.τ).loc Cert.SsdbKernel.main_arg1) = m ((c.tc : Thread Cert.SsdbKernel.nD Cert.SsdbKernel.τ).loc Cert.SsdbKernel.main_arg1)
      ∧ r.2.mem ((c.tc : Thread Cert.SsdbKernel.nD Cert.SsdbKernel.τ).loc Cert.SsdbKernel.main_arg2) = m ((c.tc : Thread Cert.SsdbKernel.nD Cert.SsdbKernel.τ).loc Cert.SsdbKernel.main_arg2)
      ∧ r.2.mem ((c.tc : Thread Cert.SsdbKernel.nD Cert.SsdbKernel.τ).loc Cert.SsdbKernel.main_arg3) = m ((c.tc : Thread Cert.SsdbKernel.nD Cert.SsdbKernel.τ).loc Cert.SsdbKernel.main_arg3)
      ∧ r.2.mem ((c.tc : Thread Cert.SsdbKernel.nD Cert.SsdbKernel.τ).loc Cert.SsdbKernel.main_arg4) = m ((c.tc : Thread Cert.SsdbKernel.nD Cert.SsdbKernel.τ).loc Cert.SsdbKernel.main_arg4)
      ∧ r.2.mem ((c.tc : Thread Cert.SsdbKernel.nD Cert.SsdbKernel.τ).loc Cert.SsdbKernel.main_arg5) = m ((c.tc : Thread Cert.SsdbKernel.nD Cert.SsdbKernel.τ).loc Cert.SsdbKernel.main_arg5)
      ∧ r.2.mem ((c.tc : Thread Cert.SsdbKernel.nD Cert.SsdbKernel.τ).loc Cert.SsdbKernel.main_arg6) = m ((c.tc : Thread Cert.SsdbKernel.nD Cert.SsdbKernel.τ).loc Cert.SsdbKernel.main_arg6)
      ∧ r.2.mem ((c.tc : Thread Cert.SsdbKernel.nD Cert.SsdbKernel.τ).loc Cert.SsdbKernel.main_arg7) = m ((c.tc : Thread Cert.SsdbKernel.nD Cert.SsdbKernel.τ).loc Cert.SsdbKernel.main_arg7))
      ∧ r.2.sem = fun _ => 0)

def quiescent_SsdbKernelIdeal [hSsdbKernelIdeal : Cert.SsdbKernelIdeal.Facts] : Prop :=
  ∀ (m : (ℓ : Loc Cert.SsdbKernelIdeal.nD Cert.SsdbKernelIdeal.τ Cert.SsdbKernelIdeal.sig) → Buf (Elt Ideal) ℓ) (g : Dev Cert.SsdbKernelIdeal.nD → PrngReg), Pre_SsdbKernelIdeal m →
    θ_run (Cert.SsdbKernelIdeal.defs (F := Ideal)) (onTc (τ := Cert.SsdbKernelIdeal.τ) (Cert.SsdbKernelIdeal.main (F := Ideal))) ⟨m, fun _ => 0, g⟩ (fun r => (∀ c : Dev Cert.SsdbKernelIdeal.nD,
      r.2.mem ((c.tc : Thread Cert.SsdbKernelIdeal.nD Cert.SsdbKernelIdeal.τ).loc Cert.SsdbKernelIdeal.main_arg0) = m ((c.tc : Thread Cert.SsdbKernelIdeal.nD Cert.SsdbKernelIdeal.τ).loc Cert.SsdbKernelIdeal.main_arg0)
      ∧ r.2.mem ((c.tc : Thread Cert.SsdbKernelIdeal.nD Cert.SsdbKernelIdeal.τ).loc Cert.SsdbKernelIdeal.main_arg1) = m ((c.tc : Thread Cert.SsdbKernelIdeal.nD Cert.SsdbKernelIdeal.τ).loc Cert.SsdbKernelIdeal.main_arg1)
      ∧ r.2.mem ((c.tc : Thread Cert.SsdbKernelIdeal.nD Cert.SsdbKernelIdeal.τ).loc Cert.SsdbKernelIdeal.main_arg2) = m ((c.tc : Thread Cert.SsdbKernelIdeal.nD Cert.SsdbKernelIdeal.τ).loc Cert.SsdbKernelIdeal.main_arg2)
      ∧ r.2.mem ((c.tc : Thread Cert.SsdbKernelIdeal.nD Cert.SsdbKernelIdeal.τ).loc Cert.SsdbKernelIdeal.main_arg3) = m ((c.tc : Thread Cert.SsdbKernelIdeal.nD Cert.SsdbKernelIdeal.τ).loc Cert.SsdbKernelIdeal.main_arg3)
      ∧ r.2.mem ((c.tc : Thread Cert.SsdbKernelIdeal.nD Cert.SsdbKernelIdeal.τ).loc Cert.SsdbKernelIdeal.main_arg4) = m ((c.tc : Thread Cert.SsdbKernelIdeal.nD Cert.SsdbKernelIdeal.τ).loc Cert.SsdbKernelIdeal.main_arg4)
      ∧ r.2.mem ((c.tc : Thread Cert.SsdbKernelIdeal.nD Cert.SsdbKernelIdeal.τ).loc Cert.SsdbKernelIdeal.main_arg5) = m ((c.tc : Thread Cert.SsdbKernelIdeal.nD Cert.SsdbKernelIdeal.τ).loc Cert.SsdbKernelIdeal.main_arg5)
      ∧ r.2.mem ((c.tc : Thread Cert.SsdbKernelIdeal.nD Cert.SsdbKernelIdeal.τ).loc Cert.SsdbKernelIdeal.main_arg6) = m ((c.tc : Thread Cert.SsdbKernelIdeal.nD Cert.SsdbKernelIdeal.τ).loc Cert.SsdbKernelIdeal.main_arg6)
      ∧ r.2.mem ((c.tc : Thread Cert.SsdbKernelIdeal.nD Cert.SsdbKernelIdeal.τ).loc Cert.SsdbKernelIdeal.main_arg7) = m ((c.tc : Thread Cert.SsdbKernelIdeal.nD Cert.SsdbKernelIdeal.τ).loc Cert.SsdbKernelIdeal.main_arg7))
      ∧ r.2.sem = fun _ => 0)

def quiescent_GdnbKernel [hGdnbKernel : Cert.GdnbKernel.Facts] : Prop :=
  ∀ (m : (ℓ : Loc Cert.GdnbKernel.nD Cert.GdnbKernel.τ Cert.GdnbKernel.sig) → Buf (Elt Bits) ℓ) (g : Dev Cert.GdnbKernel.nD → PrngReg), Pre_GdnbKernel m →
    θ_run (Cert.GdnbKernel.defs (F := Bits)) (onTc (τ := Cert.GdnbKernel.τ) (Cert.GdnbKernel.main (F := Bits))) ⟨m, fun _ => 0, g⟩ (fun r => (∀ c : Dev Cert.GdnbKernel.nD,
      r.2.mem ((c.tc : Thread Cert.GdnbKernel.nD Cert.GdnbKernel.τ).loc Cert.GdnbKernel.main_arg0) = m ((c.tc : Thread Cert.GdnbKernel.nD Cert.GdnbKernel.τ).loc Cert.GdnbKernel.main_arg0)
      ∧ r.2.mem ((c.tc : Thread Cert.GdnbKernel.nD Cert.GdnbKernel.τ).loc Cert.GdnbKernel.main_arg1) = m ((c.tc : Thread Cert.GdnbKernel.nD Cert.GdnbKernel.τ).loc Cert.GdnbKernel.main_arg1)
      ∧ r.2.mem ((c.tc : Thread Cert.GdnbKernel.nD Cert.GdnbKernel.τ).loc Cert.GdnbKernel.main_arg2) = m ((c.tc : Thread Cert.GdnbKernel.nD Cert.GdnbKernel.τ).loc Cert.GdnbKernel.main_arg2)
      ∧ r.2.mem ((c.tc : Thread Cert.GdnbKernel.nD Cert.GdnbKernel.τ).loc Cert.GdnbKernel.main_arg3) = m ((c.tc : Thread Cert.GdnbKernel.nD Cert.GdnbKernel.τ).loc Cert.GdnbKernel.main_arg3)
      ∧ r.2.mem ((c.tc : Thread Cert.GdnbKernel.nD Cert.GdnbKernel.τ).loc Cert.GdnbKernel.main_arg4) = m ((c.tc : Thread Cert.GdnbKernel.nD Cert.GdnbKernel.τ).loc Cert.GdnbKernel.main_arg4)
      ∧ r.2.mem ((c.tc : Thread Cert.GdnbKernel.nD Cert.GdnbKernel.τ).loc Cert.GdnbKernel.main_arg5) = m ((c.tc : Thread Cert.GdnbKernel.nD Cert.GdnbKernel.τ).loc Cert.GdnbKernel.main_arg5)
      ∧ r.2.mem ((c.tc : Thread Cert.GdnbKernel.nD Cert.GdnbKernel.τ).loc Cert.GdnbKernel.main_arg6) = m ((c.tc : Thread Cert.GdnbKernel.nD Cert.GdnbKernel.τ).loc Cert.GdnbKernel.main_arg6)
      ∧ r.2.mem ((c.tc : Thread Cert.GdnbKernel.nD Cert.GdnbKernel.τ).loc Cert.GdnbKernel.main_arg7) = m ((c.tc : Thread Cert.GdnbKernel.nD Cert.GdnbKernel.τ).loc Cert.GdnbKernel.main_arg7))
      ∧ r.2.sem = fun _ => 0)

def quiescent_GdnbKernelIdeal [hGdnbKernelIdeal : Cert.GdnbKernelIdeal.Facts] : Prop :=
  ∀ (m : (ℓ : Loc Cert.GdnbKernelIdeal.nD Cert.GdnbKernelIdeal.τ Cert.GdnbKernelIdeal.sig) → Buf (Elt Ideal) ℓ) (g : Dev Cert.GdnbKernelIdeal.nD → PrngReg), Pre_GdnbKernelIdeal m →
    θ_run (Cert.GdnbKernelIdeal.defs (F := Ideal)) (onTc (τ := Cert.GdnbKernelIdeal.τ) (Cert.GdnbKernelIdeal.main (F := Ideal))) ⟨m, fun _ => 0, g⟩ (fun r => (∀ c : Dev Cert.GdnbKernelIdeal.nD,
      r.2.mem ((c.tc : Thread Cert.GdnbKernelIdeal.nD Cert.GdnbKernelIdeal.τ).loc Cert.GdnbKernelIdeal.main_arg0) = m ((c.tc : Thread Cert.GdnbKernelIdeal.nD Cert.GdnbKernelIdeal.τ).loc Cert.GdnbKernelIdeal.main_arg0)
      ∧ r.2.mem ((c.tc : Thread Cert.GdnbKernelIdeal.nD Cert.GdnbKernelIdeal.τ).loc Cert.GdnbKernelIdeal.main_arg1) = m ((c.tc : Thread Cert.GdnbKernelIdeal.nD Cert.GdnbKernelIdeal.τ).loc Cert.GdnbKernelIdeal.main_arg1)
      ∧ r.2.mem ((c.tc : Thread Cert.GdnbKernelIdeal.nD Cert.GdnbKernelIdeal.τ).loc Cert.GdnbKernelIdeal.main_arg2) = m ((c.tc : Thread Cert.GdnbKernelIdeal.nD Cert.GdnbKernelIdeal.τ).loc Cert.GdnbKernelIdeal.main_arg2)
      ∧ r.2.mem ((c.tc : Thread Cert.GdnbKernelIdeal.nD Cert.GdnbKernelIdeal.τ).loc Cert.GdnbKernelIdeal.main_arg3) = m ((c.tc : Thread Cert.GdnbKernelIdeal.nD Cert.GdnbKernelIdeal.τ).loc Cert.GdnbKernelIdeal.main_arg3)
      ∧ r.2.mem ((c.tc : Thread Cert.GdnbKernelIdeal.nD Cert.GdnbKernelIdeal.τ).loc Cert.GdnbKernelIdeal.main_arg4) = m ((c.tc : Thread Cert.GdnbKernelIdeal.nD Cert.GdnbKernelIdeal.τ).loc Cert.GdnbKernelIdeal.main_arg4)
      ∧ r.2.mem ((c.tc : Thread Cert.GdnbKernelIdeal.nD Cert.GdnbKernelIdeal.τ).loc Cert.GdnbKernelIdeal.main_arg5) = m ((c.tc : Thread Cert.GdnbKernelIdeal.nD Cert.GdnbKernelIdeal.τ).loc Cert.GdnbKernelIdeal.main_arg5)
      ∧ r.2.mem ((c.tc : Thread Cert.GdnbKernelIdeal.nD Cert.GdnbKernelIdeal.τ).loc Cert.GdnbKernelIdeal.main_arg6) = m ((c.tc : Thread Cert.GdnbKernelIdeal.nD Cert.GdnbKernelIdeal.τ).loc Cert.GdnbKernelIdeal.main_arg6)
      ∧ r.2.mem ((c.tc : Thread Cert.GdnbKernelIdeal.nD Cert.GdnbKernelIdeal.τ).loc Cert.GdnbKernelIdeal.main_arg7) = m ((c.tc : Thread Cert.GdnbKernelIdeal.nD Cert.GdnbKernelIdeal.τ).loc Cert.GdnbKernelIdeal.main_arg7))
      ∧ r.2.sem = fun _ => 0)

def quiescent_GdnfKernel [hGdnfKernel : Cert.GdnfKernel.Facts] : Prop :=
  ∀ (m : (ℓ : Loc Cert.GdnfKernel.nD Cert.GdnfKernel.τ Cert.GdnfKernel.sig) → Buf (Elt Bits) ℓ) (g : Dev Cert.GdnfKernel.nD → PrngReg), Pre_GdnfKernel m →
    θ_run (Cert.GdnfKernel.defs (F := Bits)) (onTc (τ := Cert.GdnfKernel.τ) (Cert.GdnfKernel.main (F := Bits))) ⟨m, fun _ => 0, g⟩ (fun r => (∀ c : Dev Cert.GdnfKernel.nD,
      r.2.mem ((c.tc : Thread Cert.GdnfKernel.nD Cert.GdnfKernel.τ).loc Cert.GdnfKernel.main_arg0) = m ((c.tc : Thread Cert.GdnfKernel.nD Cert.GdnfKernel.τ).loc Cert.GdnfKernel.main_arg0)
      ∧ r.2.mem ((c.tc : Thread Cert.GdnfKernel.nD Cert.GdnfKernel.τ).loc Cert.GdnfKernel.main_arg1) = m ((c.tc : Thread Cert.GdnfKernel.nD Cert.GdnfKernel.τ).loc Cert.GdnfKernel.main_arg1)
      ∧ r.2.mem ((c.tc : Thread Cert.GdnfKernel.nD Cert.GdnfKernel.τ).loc Cert.GdnfKernel.main_arg2) = m ((c.tc : Thread Cert.GdnfKernel.nD Cert.GdnfKernel.τ).loc Cert.GdnfKernel.main_arg2)
      ∧ r.2.mem ((c.tc : Thread Cert.GdnfKernel.nD Cert.GdnfKernel.τ).loc Cert.GdnfKernel.main_arg3) = m ((c.tc : Thread Cert.GdnfKernel.nD Cert.GdnfKernel.τ).loc Cert.GdnfKernel.main_arg3)
      ∧ r.2.mem ((c.tc : Thread Cert.GdnfKernel.nD Cert.GdnfKernel.τ).loc Cert.GdnfKernel.main_arg4) = m ((c.tc : Thread Cert.GdnfKernel.nD Cert.GdnfKernel.τ).loc Cert.GdnfKernel.main_arg4))
      ∧ r.2.sem = fun _ => 0)

def quiescent_GdnfKernelIdeal [hGdnfKernelIdeal : Cert.GdnfKernelIdeal.Facts] : Prop :=
  ∀ (m : (ℓ : Loc Cert.GdnfKernelIdeal.nD Cert.GdnfKernelIdeal.τ Cert.GdnfKernelIdeal.sig) → Buf (Elt Ideal) ℓ) (g : Dev Cert.GdnfKernelIdeal.nD → PrngReg), Pre_GdnfKernelIdeal m →
    θ_run (Cert.GdnfKernelIdeal.defs (F := Ideal)) (onTc (τ := Cert.GdnfKernelIdeal.τ) (Cert.GdnfKernelIdeal.main (F := Ideal))) ⟨m, fun _ => 0, g⟩ (fun r => (∀ c : Dev Cert.GdnfKernelIdeal.nD,
      r.2.mem ((c.tc : Thread Cert.GdnfKernelIdeal.nD Cert.GdnfKernelIdeal.τ).loc Cert.GdnfKernelIdeal.main_arg0) = m ((c.tc : Thread Cert.GdnfKernelIdeal.nD Cert.GdnfKernelIdeal.τ).loc Cert.GdnfKernelIdeal.main_arg0)
      ∧ r.2.mem ((c.tc : Thread Cert.GdnfKernelIdeal.nD Cert.GdnfKernelIdeal.τ).loc Cert.GdnfKernelIdeal.main_arg1) = m ((c.tc : Thread Cert.GdnfKernelIdeal.nD Cert.GdnfKernelIdeal.τ).loc Cert.GdnfKernelIdeal.main_arg1)
      ∧ r.2.mem ((c.tc : Thread Cert.GdnfKernelIdeal.nD Cert.GdnfKernelIdeal.τ).loc Cert.GdnfKernelIdeal.main_arg2) = m ((c.tc : Thread Cert.GdnfKernelIdeal.nD Cert.GdnfKernelIdeal.τ).loc Cert.GdnfKernelIdeal.main_arg2)
      ∧ r.2.mem ((c.tc : Thread Cert.GdnfKernelIdeal.nD Cert.GdnfKernelIdeal.τ).loc Cert.GdnfKernelIdeal.main_arg3) = m ((c.tc : Thread Cert.GdnfKernelIdeal.nD Cert.GdnfKernelIdeal.τ).loc Cert.GdnfKernelIdeal.main_arg3)
      ∧ r.2.mem ((c.tc : Thread Cert.GdnfKernelIdeal.nD Cert.GdnfKernelIdeal.τ).loc Cert.GdnfKernelIdeal.main_arg4) = m ((c.tc : Thread Cert.GdnfKernelIdeal.nD Cert.GdnfKernelIdeal.τ).loc Cert.GdnfKernelIdeal.main_arg4))
      ∧ r.2.sem = fun _ => 0)

def quiescent_NnKernel [hNnKernel : Cert.NnKernel.Facts] : Prop :=
  ∀ (m : (ℓ : Loc Cert.NnKernel.nD Cert.NnKernel.τ Cert.NnKernel.sig) → Buf (Elt Bits) ℓ) (g : Dev Cert.NnKernel.nD → PrngReg), Pre_NnKernel m →
    θ_run (Cert.NnKernel.defs (F := Bits)) (onTc (τ := Cert.NnKernel.τ) (Cert.NnKernel.main (F := Bits))) ⟨m, fun _ => 0, g⟩ (fun r => (∀ c : Dev Cert.NnKernel.nD,
      r.2.mem ((c.tc : Thread Cert.NnKernel.nD Cert.NnKernel.τ).loc Cert.NnKernel.main_arg0) = m ((c.tc : Thread Cert.NnKernel.nD Cert.NnKernel.τ).loc Cert.NnKernel.main_arg0)
      ∧ r.2.mem ((c.tc : Thread Cert.NnKernel.nD Cert.NnKernel.τ).loc Cert.NnKernel.main_arg1) = m ((c.tc : Thread Cert.NnKernel.nD Cert.NnKernel.τ).loc Cert.NnKernel.main_arg1)
      ∧ r.2.mem ((c.tc : Thread Cert.NnKernel.nD Cert.NnKernel.τ).loc Cert.NnKernel.main_arg2) = m ((c.tc : Thread Cert.NnKernel.nD Cert.NnKernel.τ).loc Cert.NnKernel.main_arg2))
      ∧ r.2.sem = fun _ => 0)

def quiescent_NnKernelIdeal [hNnKernelIdeal : Cert.NnKernelIdeal.Facts] : Prop :=
  ∀ (m : (ℓ : Loc Cert.NnKernelIdeal.nD Cert.NnKernelIdeal.τ Cert.NnKernelIdeal.sig) → Buf (Elt Ideal) ℓ) (g : Dev Cert.NnKernelIdeal.nD → PrngReg), Pre_NnKernelIdeal m →
    θ_run (Cert.NnKernelIdeal.defs (F := Ideal)) (onTc (τ := Cert.NnKernelIdeal.τ) (Cert.NnKernelIdeal.main (F := Ideal))) ⟨m, fun _ => 0, g⟩ (fun r => (∀ c : Dev Cert.NnKernelIdeal.nD,
      r.2.mem ((c.tc : Thread Cert.NnKernelIdeal.nD Cert.NnKernelIdeal.τ).loc Cert.NnKernelIdeal.main_arg0) = m ((c.tc : Thread Cert.NnKernelIdeal.nD Cert.NnKernelIdeal.τ).loc Cert.NnKernelIdeal.main_arg0)
      ∧ r.2.mem ((c.tc : Thread Cert.NnKernelIdeal.nD Cert.NnKernelIdeal.τ).loc Cert.NnKernelIdeal.main_arg1) = m ((c.tc : Thread Cert.NnKernelIdeal.nD Cert.NnKernelIdeal.τ).loc Cert.NnKernelIdeal.main_arg1)
      ∧ r.2.mem ((c.tc : Thread Cert.NnKernelIdeal.nD Cert.NnKernelIdeal.τ).loc Cert.NnKernelIdeal.main_arg2) = m ((c.tc : Thread Cert.NnKernelIdeal.nD Cert.NnKernelIdeal.τ).loc Cert.NnKernelIdeal.main_arg2))
      ∧ r.2.sem = fun _ => 0)

def quiescent_NnReferenceIdeal [hNnReferenceIdeal : Cert.NnReferenceIdeal.Facts] : Prop :=
  ∀ (m : (ℓ : Loc Cert.NnReferenceIdeal.nD Cert.NnReferenceIdeal.τ Cert.NnReferenceIdeal.sig) → Buf (Elt Ideal) ℓ) (g : Dev Cert.NnReferenceIdeal.nD → PrngReg), Pre_NnReferenceIdeal m →
    θ_run (Cert.NnReferenceIdeal.defs (F := Ideal)) (onTc (τ := Cert.NnReferenceIdeal.τ) (Cert.NnReferenceIdeal.main (F := Ideal))) ⟨m, fun _ => 0, g⟩ (fun r => (∀ c : Dev Cert.NnReferenceIdeal.nD,
      r.2.mem ((c.tc : Thread Cert.NnReferenceIdeal.nD Cert.NnReferenceIdeal.τ).loc Cert.NnReferenceIdeal.main_arg0) = m ((c.tc : Thread Cert.NnReferenceIdeal.nD Cert.NnReferenceIdeal.τ).loc Cert.NnReferenceIdeal.main_arg0)
      ∧ r.2.mem ((c.tc : Thread Cert.NnReferenceIdeal.nD Cert.NnReferenceIdeal.τ).loc Cert.NnReferenceIdeal.main_arg1) = m ((c.tc : Thread Cert.NnReferenceIdeal.nD Cert.NnReferenceIdeal.τ).loc Cert.NnReferenceIdeal.main_arg1)
      ∧ r.2.mem ((c.tc : Thread Cert.NnReferenceIdeal.nD Cert.NnReferenceIdeal.τ).loc Cert.NnReferenceIdeal.main_arg2) = m ((c.tc : Thread Cert.NnReferenceIdeal.nD Cert.NnReferenceIdeal.τ).loc Cert.NnReferenceIdeal.main_arg2))
      ∧ r.2.sem = fun _ => 0)

def quiescent_NtKernel [hNtKernel : Cert.NtKernel.Facts] : Prop :=
  ∀ (m : (ℓ : Loc Cert.NtKernel.nD Cert.NtKernel.τ Cert.NtKernel.sig) → Buf (Elt Bits) ℓ) (g : Dev Cert.NtKernel.nD → PrngReg), Pre_NtKernel m →
    θ_run (Cert.NtKernel.defs (F := Bits)) (onTc (τ := Cert.NtKernel.τ) (Cert.NtKernel.main (F := Bits))) ⟨m, fun _ => 0, g⟩ (fun r => (∀ c : Dev Cert.NtKernel.nD,
      r.2.mem ((c.tc : Thread Cert.NtKernel.nD Cert.NtKernel.τ).loc Cert.NtKernel.main_arg0) = m ((c.tc : Thread Cert.NtKernel.nD Cert.NtKernel.τ).loc Cert.NtKernel.main_arg0)
      ∧ r.2.mem ((c.tc : Thread Cert.NtKernel.nD Cert.NtKernel.τ).loc Cert.NtKernel.main_arg1) = m ((c.tc : Thread Cert.NtKernel.nD Cert.NtKernel.τ).loc Cert.NtKernel.main_arg1))
      ∧ r.2.sem = fun _ => 0)

def quiescent_NtKernelIdeal [hNtKernelIdeal : Cert.NtKernelIdeal.Facts] : Prop :=
  ∀ (m : (ℓ : Loc Cert.NtKernelIdeal.nD Cert.NtKernelIdeal.τ Cert.NtKernelIdeal.sig) → Buf (Elt Ideal) ℓ) (g : Dev Cert.NtKernelIdeal.nD → PrngReg), Pre_NtKernelIdeal m →
    θ_run (Cert.NtKernelIdeal.defs (F := Ideal)) (onTc (τ := Cert.NtKernelIdeal.τ) (Cert.NtKernelIdeal.main (F := Ideal))) ⟨m, fun _ => 0, g⟩ (fun r => (∀ c : Dev Cert.NtKernelIdeal.nD,
      r.2.mem ((c.tc : Thread Cert.NtKernelIdeal.nD Cert.NtKernelIdeal.τ).loc Cert.NtKernelIdeal.main_arg0) = m ((c.tc : Thread Cert.NtKernelIdeal.nD Cert.NtKernelIdeal.τ).loc Cert.NtKernelIdeal.main_arg0)
      ∧ r.2.mem ((c.tc : Thread Cert.NtKernelIdeal.nD Cert.NtKernelIdeal.τ).loc Cert.NtKernelIdeal.main_arg1) = m ((c.tc : Thread Cert.NtKernelIdeal.nD Cert.NtKernelIdeal.τ).loc Cert.NtKernelIdeal.main_arg1))
      ∧ r.2.sem = fun _ => 0)

def quiescent_NtReferenceIdeal [hNtReferenceIdeal : Cert.NtReferenceIdeal.Facts] : Prop :=
  ∀ (m : (ℓ : Loc Cert.NtReferenceIdeal.nD Cert.NtReferenceIdeal.τ Cert.NtReferenceIdeal.sig) → Buf (Elt Ideal) ℓ) (g : Dev Cert.NtReferenceIdeal.nD → PrngReg), Pre_NtReferenceIdeal m →
    θ_run (Cert.NtReferenceIdeal.defs (F := Ideal)) (onTc (τ := Cert.NtReferenceIdeal.τ) (Cert.NtReferenceIdeal.main (F := Ideal))) ⟨m, fun _ => 0, g⟩ (fun r => (∀ c : Dev Cert.NtReferenceIdeal.nD,
      r.2.mem ((c.tc : Thread Cert.NtReferenceIdeal.nD Cert.NtReferenceIdeal.τ).loc Cert.NtReferenceIdeal.main_arg0) = m ((c.tc : Thread Cert.NtReferenceIdeal.nD Cert.NtReferenceIdeal.τ).loc Cert.NtReferenceIdeal.main_arg0)
      ∧ r.2.mem ((c.tc : Thread Cert.NtReferenceIdeal.nD Cert.NtReferenceIdeal.τ).loc Cert.NtReferenceIdeal.main_arg1) = m ((c.tc : Thread Cert.NtReferenceIdeal.nD Cert.NtReferenceIdeal.τ).loc Cert.NtReferenceIdeal.main_arg1))
      ∧ r.2.sem = fun _ => 0)

def quiescent_TnKernel [hTnKernel : Cert.TnKernel.Facts] : Prop :=
  ∀ (m : (ℓ : Loc Cert.TnKernel.nD Cert.TnKernel.τ Cert.TnKernel.sig) → Buf (Elt Bits) ℓ) (g : Dev Cert.TnKernel.nD → PrngReg), Pre_TnKernel m →
    θ_run (Cert.TnKernel.defs (F := Bits)) (onTc (τ := Cert.TnKernel.τ) (Cert.TnKernel.main (F := Bits))) ⟨m, fun _ => 0, g⟩ (fun r => (∀ c : Dev Cert.TnKernel.nD,
      r.2.mem ((c.tc : Thread Cert.TnKernel.nD Cert.TnKernel.τ).loc Cert.TnKernel.main_arg0) = m ((c.tc : Thread Cert.TnKernel.nD Cert.TnKernel.τ).loc Cert.TnKernel.main_arg0)
      ∧ r.2.mem ((c.tc : Thread Cert.TnKernel.nD Cert.TnKernel.τ).loc Cert.TnKernel.main_arg1) = m ((c.tc : Thread Cert.TnKernel.nD Cert.TnKernel.τ).loc Cert.TnKernel.main_arg1))
      ∧ r.2.sem = fun _ => 0)

def quiescent_TnKernelIdeal [hTnKernelIdeal : Cert.TnKernelIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg), Pre_TnKernelIdeal m →
    θ_run (Cert.TnKernelIdeal.defs (F := Ideal)) (onTc (τ := Cert.TnKernelIdeal.τ) (Cert.TnKernelIdeal.main (F := Ideal))) ⟨m, fun _ => 0, g⟩ (fun r => (∀ c : Dev Cert.TnKernelIdeal.nD,
      r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
      ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1))
      ∧ r.2.sem = fun _ => 0)

def quiescent_TnReferenceIdeal [hTnReferenceIdeal : Cert.TnReferenceIdeal.Facts] : Prop :=
  ∀ (m : (ℓ : Loc Cert.TnReferenceIdeal.nD Cert.TnReferenceIdeal.τ Cert.TnReferenceIdeal.sig) → Buf (Elt Ideal) ℓ) (g : Dev Cert.TnReferenceIdeal.nD → PrngReg), Pre_TnReferenceIdeal m →
    θ_run (Cert.TnReferenceIdeal.defs (F := Ideal)) (onTc (τ := Cert.TnReferenceIdeal.τ) (Cert.TnReferenceIdeal.main (F := Ideal))) ⟨m, fun _ => 0, g⟩ (fun r => (∀ c : Dev Cert.TnReferenceIdeal.nD,
      r.2.mem ((c.tc : Thread Cert.TnReferenceIdeal.nD Cert.TnReferenceIdeal.τ).loc Cert.TnReferenceIdeal.main_arg0) = m ((c.tc : Thread Cert.TnReferenceIdeal.nD Cert.TnReferenceIdeal.τ).loc Cert.TnReferenceIdeal.main_arg0)
      ∧ r.2.mem ((c.tc : Thread Cert.TnReferenceIdeal.nD Cert.TnReferenceIdeal.τ).loc Cert.TnReferenceIdeal.main_arg1) = m ((c.tc : Thread Cert.TnReferenceIdeal.nD Cert.TnReferenceIdeal.τ).loc Cert.TnReferenceIdeal.main_arg1))
      ∧ r.2.sem = fun _ => 0)

def quiescent_SumKernel [hSumKernel : Cert.SumKernel.Facts] : Prop :=
  ∀ (m : (ℓ : Loc Cert.SumKernel.nD Cert.SumKernel.τ Cert.SumKernel.sig) → Buf (Elt Bits) ℓ) (g : Dev Cert.SumKernel.nD → PrngReg), Pre_SumKernel m →
    θ_run (Cert.SumKernel.defs (F := Bits)) (onTc (τ := Cert.SumKernel.τ) (Cert.SumKernel.main (F := Bits))) ⟨m, fun _ => 0, g⟩ (fun r => (∀ c : Dev Cert.SumKernel.nD,
      r.2.mem ((c.tc : Thread Cert.SumKernel.nD Cert.SumKernel.τ).loc Cert.SumKernel.main_arg0) = m ((c.tc : Thread Cert.SumKernel.nD Cert.SumKernel.τ).loc Cert.SumKernel.main_arg0))
      ∧ r.2.sem = fun _ => 0)

def quiescent_SumKernelIdeal [hSumKernelIdeal : Cert.SumKernelIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg), Pre_SumKernelIdeal m →
    θ_run (Cert.SumKernelIdeal.defs (F := Ideal)) (onTc (τ := Cert.SumKernelIdeal.τ) (Cert.SumKernelIdeal.main (F := Ideal))) ⟨m, fun _ => 0, g⟩ (fun r => (∀ c : Dev Cert.SumKernelIdeal.nD,
      r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def preserves_ConvKernel_ConvKernelIdeal : Prop :=
  True

def algebraic_ConvKernelIdeal_ConvReferenceIdeal_pre_ct_finite [hConvKernelIdeal : Cert.ConvKernelIdeal.Facts] [hConvReferenceIdeal : Cert.ConvReferenceIdeal.Facts] [hPre_ct_finite : Cert.Pre_ct_finite.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal_ct_finite m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)) →
    ∃ (v0 : (c : Dev Cert.ConvKernelIdeal.nD) → Buf (Elt Ideal) ((c.tc : Thread Cert.ConvKernelIdeal.nD Cert.ConvKernelIdeal.τ).loc Cert.ConvKernelIdeal.main_v10_0)) (v1 : (c : Dev Cert.ConvKernelIdeal.nD) → Buf (Elt Ideal) ((c.tc : Thread Cert.ConvKernelIdeal.nD Cert.ConvKernelIdeal.τ).loc Cert.ConvKernelIdeal.main_v10_1)) (v2 : (c : Dev Cert.ConvKernelIdeal.nD) → Buf (Elt Ideal) ((c.tc : Thread Cert.ConvKernelIdeal.nD Cert.ConvKernelIdeal.τ).loc Cert.ConvKernelIdeal.main_v10_2)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v10_0) = v0 c
          ∧ r.2.mem ((c.tc : Thread Cert.ConvKernelIdeal.nD Cert.ConvKernelIdeal.τ).loc Cert.ConvKernelIdeal.main_v10_1) = v1 c
          ∧ r.2.mem ((c.tc : Thread Cert.ConvKernelIdeal.nD Cert.ConvKernelIdeal.τ).loc Cert.ConvKernelIdeal.main_v10_2) = v2 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v86) = v0 c
          ∧ r.2.mem ((c.tc : Thread Cert.ConvReferenceIdeal.nD Cert.ConvReferenceIdeal.τ).loc Cert.ConvReferenceIdeal.main_v80) = v1 c
          ∧ r.2.mem ((c.tc : Thread Cert.ConvReferenceIdeal.nD Cert.ConvReferenceIdeal.τ).loc Cert.ConvReferenceIdeal.main_v87) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_FfKernel_FfKernelIdeal : Prop :=
  True

def algebraic_FfKernelIdeal_FfReferenceIdeal [hFfKernelIdeal : Cert.FfKernelIdeal.Facts] [hFfReferenceIdeal : Cert.FfReferenceIdeal.Facts] : Prop :=
  ∀ (m : (ℓ : Loc Cert.FfKernelIdeal.nD Cert.FfKernelIdeal.τ Cert.FfKernelIdeal.sig) → Buf (Elt Ideal) ℓ) (g : Dev Cert.FfKernelIdeal.nD → PrngReg)
    (m' : (ℓ : Loc Cert.FfReferenceIdeal.nD Cert.FfReferenceIdeal.τ Cert.FfReferenceIdeal.sig) → Buf (Elt Ideal) ℓ) (g' : Dev Cert.FfReferenceIdeal.nD → PrngReg), Pre_FfKernelIdeal m →
    (∀ c : Dev Cert.FfKernelIdeal.nD,
      m' ((c.tc : Thread Cert.FfReferenceIdeal.nD Cert.FfReferenceIdeal.τ).loc Cert.FfReferenceIdeal.main_arg0) = m ((c.tc : Thread Cert.FfKernelIdeal.nD Cert.FfKernelIdeal.τ).loc Cert.FfKernelIdeal.main_arg0)
      ∧ m' ((c.tc : Thread Cert.FfReferenceIdeal.nD Cert.FfReferenceIdeal.τ).loc Cert.FfReferenceIdeal.main_arg1) = m ((c.tc : Thread Cert.FfKernelIdeal.nD Cert.FfKernelIdeal.τ).loc Cert.FfKernelIdeal.main_arg1)
      ∧ m' ((c.tc : Thread Cert.FfReferenceIdeal.nD Cert.FfReferenceIdeal.τ).loc Cert.FfReferenceIdeal.main_arg2) = m ((c.tc : Thread Cert.FfKernelIdeal.nD Cert.FfKernelIdeal.τ).loc Cert.FfKernelIdeal.main_arg2)
      ∧ m' ((c.tc : Thread Cert.FfReferenceIdeal.nD Cert.FfReferenceIdeal.τ).loc Cert.FfReferenceIdeal.main_arg3) = m ((c.tc : Thread Cert.FfKernelIdeal.nD Cert.FfKernelIdeal.τ).loc Cert.FfKernelIdeal.main_arg3)
      ∧ m' ((c.tc : Thread Cert.FfReferenceIdeal.nD Cert.FfReferenceIdeal.τ).loc Cert.FfReferenceIdeal.main_arg4) = m ((c.tc : Thread Cert.FfKernelIdeal.nD Cert.FfKernelIdeal.τ).loc Cert.FfKernelIdeal.main_arg4)) →
    ∃ (v0 : (c : Dev Cert.FfKernelIdeal.nD) → Buf (Elt Ideal) ((c.tc : Thread Cert.FfKernelIdeal.nD Cert.FfKernelIdeal.τ).loc Cert.FfKernelIdeal.main_v13)),
      θ_run (Cert.FfKernelIdeal.defs (F := Ideal)) (onTc (τ := Cert.FfKernelIdeal.τ) (Cert.FfKernelIdeal.main (F := Ideal))) ⟨m, fun _ => 0, g⟩ (fun r => ∀ c : Dev Cert.FfKernelIdeal.nD,
          r.2.mem ((c.tc : Thread Cert.FfKernelIdeal.nD Cert.FfKernelIdeal.τ).loc Cert.FfKernelIdeal.main_v13) = v0 c
          ∧ r.2.mem ((c.tc : Thread Cert.FfKernelIdeal.nD Cert.FfKernelIdeal.τ).loc Cert.FfKernelIdeal.main_arg0) = m ((c.tc : Thread Cert.FfKernelIdeal.nD Cert.FfKernelIdeal.τ).loc Cert.FfKernelIdeal.main_arg0)
          ∧ r.2.mem ((c.tc : Thread Cert.FfKernelIdeal.nD Cert.FfKernelIdeal.τ).loc Cert.FfKernelIdeal.main_arg1) = m ((c.tc : Thread Cert.FfKernelIdeal.nD Cert.FfKernelIdeal.τ).loc Cert.FfKernelIdeal.main_arg1)
          ∧ r.2.mem ((c.tc : Thread Cert.FfKernelIdeal.nD Cert.FfKernelIdeal.τ).loc Cert.FfKernelIdeal.main_arg2) = m ((c.tc : Thread Cert.FfKernelIdeal.nD Cert.FfKernelIdeal.τ).loc Cert.FfKernelIdeal.main_arg2)
          ∧ r.2.mem ((c.tc : Thread Cert.FfKernelIdeal.nD Cert.FfKernelIdeal.τ).loc Cert.FfKernelIdeal.main_arg3) = m ((c.tc : Thread Cert.FfKernelIdeal.nD Cert.FfKernelIdeal.τ).loc Cert.FfKernelIdeal.main_arg3)
          ∧ r.2.mem ((c.tc : Thread Cert.FfKernelIdeal.nD Cert.FfKernelIdeal.τ).loc Cert.FfKernelIdeal.main_arg4) = m ((c.tc : Thread Cert.FfKernelIdeal.nD Cert.FfKernelIdeal.τ).loc Cert.FfKernelIdeal.main_arg4))
      ∧ θ_run (Cert.FfReferenceIdeal.defs (F := Ideal)) (onTc (τ := Cert.FfReferenceIdeal.τ) (Cert.FfReferenceIdeal.main (F := Ideal))) ⟨m', fun _ => 0, g'⟩ (fun r => ∀ c : Dev Cert.FfReferenceIdeal.nD,
          r.2.mem ((c.tc : Thread Cert.FfReferenceIdeal.nD Cert.FfReferenceIdeal.τ).loc Cert.FfReferenceIdeal.main_v16) = v0 c
          ∧ r.2.mem ((c.tc : Thread Cert.FfReferenceIdeal.nD Cert.FfReferenceIdeal.τ).loc Cert.FfReferenceIdeal.main_arg0) = m' ((c.tc : Thread Cert.FfReferenceIdeal.nD Cert.FfReferenceIdeal.τ).loc Cert.FfReferenceIdeal.main_arg0)
          ∧ r.2.mem ((c.tc : Thread Cert.FfReferenceIdeal.nD Cert.FfReferenceIdeal.τ).loc Cert.FfReferenceIdeal.main_arg1) = m' ((c.tc : Thread Cert.FfReferenceIdeal.nD Cert.FfReferenceIdeal.τ).loc Cert.FfReferenceIdeal.main_arg1)
          ∧ r.2.mem ((c.tc : Thread Cert.FfReferenceIdeal.nD Cert.FfReferenceIdeal.τ).loc Cert.FfReferenceIdeal.main_arg2) = m' ((c.tc : Thread Cert.FfReferenceIdeal.nD Cert.FfReferenceIdeal.τ).loc Cert.FfReferenceIdeal.main_arg2)
          ∧ r.2.mem ((c.tc : Thread Cert.FfReferenceIdeal.nD Cert.FfReferenceIdeal.τ).loc Cert.FfReferenceIdeal.main_arg3) = m' ((c.tc : Thread Cert.FfReferenceIdeal.nD Cert.FfReferenceIdeal.τ).loc Cert.FfReferenceIdeal.main_arg3)
          ∧ r.2.mem ((c.tc : Thread Cert.FfReferenceIdeal.nD Cert.FfReferenceIdeal.τ).loc Cert.FfReferenceIdeal.main_arg4) = m' ((c.tc : Thread Cert.FfReferenceIdeal.nD Cert.FfReferenceIdeal.τ).loc Cert.FfReferenceIdeal.main_arg4))

def preserves_PnKernel_PnKernelIdeal : Prop :=
  True

def algebraic_PnKernelIdeal_PnReferenceIdeal [hPnKernelIdeal : Cert.PnKernelIdeal.Facts] [hPnReferenceIdeal : Cert.PnReferenceIdeal.Facts] : Prop :=
  ∀ (m : (ℓ : Loc Cert.PnKernelIdeal.nD Cert.PnKernelIdeal.τ Cert.PnKernelIdeal.sig) → Buf (Elt Ideal) ℓ) (g : Dev Cert.PnKernelIdeal.nD → PrngReg)
    (m' : (ℓ : Loc Cert.PnReferenceIdeal.nD Cert.PnReferenceIdeal.τ Cert.PnReferenceIdeal.sig) → Buf (Elt Ideal) ℓ) (g' : Dev Cert.PnReferenceIdeal.nD → PrngReg), Pre_PnKernelIdeal m →
    (∀ c : Dev Cert.PnKernelIdeal.nD,
      m' ((c.tc : Thread Cert.PnReferenceIdeal.nD Cert.PnReferenceIdeal.τ).loc Cert.PnReferenceIdeal.main_arg0) = m ((c.tc : Thread Cert.PnKernelIdeal.nD Cert.PnKernelIdeal.τ).loc Cert.PnKernelIdeal.main_arg0)
      ∧ m' ((c.tc : Thread Cert.PnReferenceIdeal.nD Cert.PnReferenceIdeal.τ).loc Cert.PnReferenceIdeal.main_arg1) = m ((c.tc : Thread Cert.PnKernelIdeal.nD Cert.PnKernelIdeal.τ).loc Cert.PnKernelIdeal.main_arg1)
      ∧ m' ((c.tc : Thread Cert.PnReferenceIdeal.nD Cert.PnReferenceIdeal.τ).loc Cert.PnReferenceIdeal.main_arg2) = m ((c.tc : Thread Cert.PnKernelIdeal.nD Cert.PnKernelIdeal.τ).loc Cert.PnKernelIdeal.main_arg2)
      ∧ m' ((c.tc : Thread Cert.PnReferenceIdeal.nD Cert.PnReferenceIdeal.τ).loc Cert.PnReferenceIdeal.main_arg3) = m ((c.tc : Thread Cert.PnKernelIdeal.nD Cert.PnKernelIdeal.τ).loc Cert.PnKernelIdeal.main_arg3)) →
    ∃ (v0 : (c : Dev Cert.PnKernelIdeal.nD) → Buf (Elt Ideal) ((c.tc : Thread Cert.PnKernelIdeal.nD Cert.PnKernelIdeal.τ).loc Cert.PnKernelIdeal.main_v4_0)) (v1 : (c : Dev Cert.PnKernelIdeal.nD) → Buf (Elt Ideal) ((c.tc : Thread Cert.PnKernelIdeal.nD Cert.PnKernelIdeal.τ).loc Cert.PnKernelIdeal.main_v4_1)),
      θ_run (Cert.PnKernelIdeal.defs (F := Ideal)) (onTc (τ := Cert.PnKernelIdeal.τ) (Cert.PnKernelIdeal.main (F := Ideal))) ⟨m, fun _ => 0, g⟩ (fun r => ∀ c : Dev Cert.PnKernelIdeal.nD,
          r.2.mem ((c.tc : Thread Cert.PnKernelIdeal.nD Cert.PnKernelIdeal.τ).loc Cert.PnKernelIdeal.main_v4_0) = v0 c
          ∧ r.2.mem ((c.tc : Thread Cert.PnKernelIdeal.nD Cert.PnKernelIdeal.τ).loc Cert.PnKernelIdeal.main_v4_1) = v1 c
          ∧ r.2.mem ((c.tc : Thread Cert.PnKernelIdeal.nD Cert.PnKernelIdeal.τ).loc Cert.PnKernelIdeal.main_arg0) = m ((c.tc : Thread Cert.PnKernelIdeal.nD Cert.PnKernelIdeal.τ).loc Cert.PnKernelIdeal.main_arg0)
          ∧ r.2.mem ((c.tc : Thread Cert.PnKernelIdeal.nD Cert.PnKernelIdeal.τ).loc Cert.PnKernelIdeal.main_arg1) = m ((c.tc : Thread Cert.PnKernelIdeal.nD Cert.PnKernelIdeal.τ).loc Cert.PnKernelIdeal.main_arg1)
          ∧ r.2.mem ((c.tc : Thread Cert.PnKernelIdeal.nD Cert.PnKernelIdeal.τ).loc Cert.PnKernelIdeal.main_arg2) = m ((c.tc : Thread Cert.PnKernelIdeal.nD Cert.PnKernelIdeal.τ).loc Cert.PnKernelIdeal.main_arg2)
          ∧ r.2.mem ((c.tc : Thread Cert.PnKernelIdeal.nD Cert.PnKernelIdeal.τ).loc Cert.PnKernelIdeal.main_arg3) = m ((c.tc : Thread Cert.PnKernelIdeal.nD Cert.PnKernelIdeal.τ).loc Cert.PnKernelIdeal.main_arg3))
      ∧ θ_run (Cert.PnReferenceIdeal.defs (F := Ideal)) (onTc (τ := Cert.PnReferenceIdeal.τ) (Cert.PnReferenceIdeal.main (F := Ideal))) ⟨m', fun _ => 0, g'⟩ (fun r => ∀ c : Dev Cert.PnReferenceIdeal.nD,
          r.2.mem ((c.tc : Thread Cert.PnReferenceIdeal.nD Cert.PnReferenceIdeal.τ).loc Cert.PnReferenceIdeal.main_v38) = v0 c
          ∧ r.2.mem ((c.tc : Thread Cert.PnReferenceIdeal.nD Cert.PnReferenceIdeal.τ).loc Cert.PnReferenceIdeal.main_v39) = v1 c
          ∧ r.2.mem ((c.tc : Thread Cert.PnReferenceIdeal.nD Cert.PnReferenceIdeal.τ).loc Cert.PnReferenceIdeal.main_arg0) = m' ((c.tc : Thread Cert.PnReferenceIdeal.nD Cert.PnReferenceIdeal.τ).loc Cert.PnReferenceIdeal.main_arg0)
          ∧ r.2.mem ((c.tc : Thread Cert.PnReferenceIdeal.nD Cert.PnReferenceIdeal.τ).loc Cert.PnReferenceIdeal.main_arg1) = m' ((c.tc : Thread Cert.PnReferenceIdeal.nD Cert.PnReferenceIdeal.τ).loc Cert.PnReferenceIdeal.main_arg1)
          ∧ r.2.mem ((c.tc : Thread Cert.PnReferenceIdeal.nD Cert.PnReferenceIdeal.τ).loc Cert.PnReferenceIdeal.main_arg2) = m' ((c.tc : Thread Cert.PnReferenceIdeal.nD Cert.PnReferenceIdeal.τ).loc Cert.PnReferenceIdeal.main_arg2)
          ∧ r.2.mem ((c.tc : Thread Cert.PnReferenceIdeal.nD Cert.PnReferenceIdeal.τ).loc Cert.PnReferenceIdeal.main_arg3) = m' ((c.tc : Thread Cert.PnReferenceIdeal.nD Cert.PnReferenceIdeal.τ).loc Cert.PnReferenceIdeal.main_arg3))

def preserves_RnKernel_RnKernelIdeal : Prop :=
  True

def algebraic_RnKernelIdeal_RnReferenceIdeal [hRnKernelIdeal : Cert.RnKernelIdeal.Facts] [hRnReferenceIdeal : Cert.RnReferenceIdeal.Facts] : Prop :=
  ∀ (m : (ℓ : Loc Cert.RnKernelIdeal.nD Cert.RnKernelIdeal.τ Cert.RnKernelIdeal.sig) → Buf (Elt Ideal) ℓ) (g : Dev Cert.RnKernelIdeal.nD → PrngReg)
    (m' : (ℓ : Loc Cert.RnReferenceIdeal.nD Cert.RnReferenceIdeal.τ Cert.RnReferenceIdeal.sig) → Buf (Elt Ideal) ℓ) (g' : Dev Cert.RnReferenceIdeal.nD → PrngReg), Pre_RnKernelIdeal m →
    (∀ c : Dev Cert.RnKernelIdeal.nD,
      m' ((c.tc : Thread Cert.RnReferenceIdeal.nD Cert.RnReferenceIdeal.τ).loc Cert.RnReferenceIdeal.main_arg0) = m ((c.tc : Thread Cert.RnKernelIdeal.nD Cert.RnKernelIdeal.τ).loc Cert.RnKernelIdeal.main_arg0)
      ∧ m' ((c.tc : Thread Cert.RnReferenceIdeal.nD Cert.RnReferenceIdeal.τ).loc Cert.RnReferenceIdeal.main_arg1) = m ((c.tc : Thread Cert.RnKernelIdeal.nD Cert.RnKernelIdeal.τ).loc Cert.RnKernelIdeal.main_arg1)
      ∧ m' ((c.tc : Thread Cert.RnReferenceIdeal.nD Cert.RnReferenceIdeal.τ).loc Cert.RnReferenceIdeal.main_arg2) = m ((c.tc : Thread Cert.RnKernelIdeal.nD Cert.RnKernelIdeal.τ).loc Cert.RnKernelIdeal.main_arg2)
      ∧ m' ((c.tc : Thread Cert.RnReferenceIdeal.nD Cert.RnReferenceIdeal.τ).loc Cert.RnReferenceIdeal.main_arg3) = m ((c.tc : Thread Cert.RnKernelIdeal.nD Cert.RnKernelIdeal.τ).loc Cert.RnKernelIdeal.main_arg3)
      ∧ m' ((c.tc : Thread Cert.RnReferenceIdeal.nD Cert.RnReferenceIdeal.τ).loc Cert.RnReferenceIdeal.main_arg4) = m ((c.tc : Thread Cert.RnKernelIdeal.nD Cert.RnKernelIdeal.τ).loc Cert.RnKernelIdeal.main_arg4)
      ∧ m' ((c.tc : Thread Cert.RnReferenceIdeal.nD Cert.RnReferenceIdeal.τ).loc Cert.RnReferenceIdeal.main_arg5) = m ((c.tc : Thread Cert.RnKernelIdeal.nD Cert.RnKernelIdeal.τ).loc Cert.RnKernelIdeal.main_arg5)) →
    ∃ (v0 : (c : Dev Cert.RnKernelIdeal.nD) → Buf (Elt Ideal) ((c.tc : Thread Cert.RnKernelIdeal.nD Cert.RnKernelIdeal.τ).loc Cert.RnKernelIdeal.main_v21_0)) (v1 : (c : Dev Cert.RnKernelIdeal.nD) → Buf (Elt Ideal) ((c.tc : Thread Cert.RnKernelIdeal.nD Cert.RnKernelIdeal.τ).loc Cert.RnKernelIdeal.main_v21_1)) (v2 : (c : Dev Cert.RnKernelIdeal.nD) → Buf (Elt Ideal) ((c.tc : Thread Cert.RnKernelIdeal.nD Cert.RnKernelIdeal.τ).loc Cert.RnKernelIdeal.main_v21_2)) (v3 : (c : Dev Cert.RnKernelIdeal.nD) → Buf (Elt Ideal) ((c.tc : Thread Cert.RnKernelIdeal.nD Cert.RnKernelIdeal.τ).loc Cert.RnKernelIdeal.main_v21_3)),
      θ_run (Cert.RnKernelIdeal.defs (F := Ideal)) (onTc (τ := Cert.RnKernelIdeal.τ) (Cert.RnKernelIdeal.main (F := Ideal))) ⟨m, fun _ => 0, g⟩ (fun r => ∀ c : Dev Cert.RnKernelIdeal.nD,
          r.2.mem ((c.tc : Thread Cert.RnKernelIdeal.nD Cert.RnKernelIdeal.τ).loc Cert.RnKernelIdeal.main_v21_0) = v0 c
          ∧ r.2.mem ((c.tc : Thread Cert.RnKernelIdeal.nD Cert.RnKernelIdeal.τ).loc Cert.RnKernelIdeal.main_v21_1) = v1 c
          ∧ r.2.mem ((c.tc : Thread Cert.RnKernelIdeal.nD Cert.RnKernelIdeal.τ).loc Cert.RnKernelIdeal.main_v21_2) = v2 c
          ∧ r.2.mem ((c.tc : Thread Cert.RnKernelIdeal.nD Cert.RnKernelIdeal.τ).loc Cert.RnKernelIdeal.main_v21_3) = v3 c
          ∧ r.2.mem ((c.tc : Thread Cert.RnKernelIdeal.nD Cert.RnKernelIdeal.τ).loc Cert.RnKernelIdeal.main_arg0) = m ((c.tc : Thread Cert.RnKernelIdeal.nD Cert.RnKernelIdeal.τ).loc Cert.RnKernelIdeal.main_arg0)
          ∧ r.2.mem ((c.tc : Thread Cert.RnKernelIdeal.nD Cert.RnKernelIdeal.τ).loc Cert.RnKernelIdeal.main_arg1) = m ((c.tc : Thread Cert.RnKernelIdeal.nD Cert.RnKernelIdeal.τ).loc Cert.RnKernelIdeal.main_arg1)
          ∧ r.2.mem ((c.tc : Thread Cert.RnKernelIdeal.nD Cert.RnKernelIdeal.τ).loc Cert.RnKernelIdeal.main_arg2) = m ((c.tc : Thread Cert.RnKernelIdeal.nD Cert.RnKernelIdeal.τ).loc Cert.RnKernelIdeal.main_arg2)
          ∧ r.2.mem ((c.tc : Thread Cert.RnKernelIdeal.nD Cert.RnKernelIdeal.τ).loc Cert.RnKernelIdeal.main_arg3) = m ((c.tc : Thread Cert.RnKernelIdeal.nD Cert.RnKernelIdeal.τ).loc Cert.RnKernelIdeal.main_arg3)
          ∧ r.2.mem ((c.tc : Thread Cert.RnKernelIdeal.nD Cert.RnKernelIdeal.τ).loc Cert.RnKernelIdeal.main_arg4) = m ((c.tc : Thread Cert.RnKernelIdeal.nD Cert.RnKernelIdeal.τ).loc Cert.RnKernelIdeal.main_arg4)
          ∧ r.2.mem ((c.tc : Thread Cert.RnKernelIdeal.nD Cert.RnKernelIdeal.τ).loc Cert.RnKernelIdeal.main_arg5) = m ((c.tc : Thread Cert.RnKernelIdeal.nD Cert.RnKernelIdeal.τ).loc Cert.RnKernelIdeal.main_arg5))
      ∧ θ_run (Cert.RnReferenceIdeal.defs (F := Ideal)) (onTc (τ := Cert.RnReferenceIdeal.τ) (Cert.RnReferenceIdeal.main (F := Ideal))) ⟨m', fun _ => 0, g'⟩ (fun r => ∀ c : Dev Cert.RnReferenceIdeal.nD,
          r.2.mem ((c.tc : Thread Cert.RnReferenceIdeal.nD Cert.RnReferenceIdeal.τ).loc Cert.RnReferenceIdeal.main_v77) = v0 c
          ∧ r.2.mem ((c.tc : Thread Cert.RnReferenceIdeal.nD Cert.RnReferenceIdeal.τ).loc Cert.RnReferenceIdeal.main_v79) = v1 c
          ∧ r.2.mem ((c.tc : Thread Cert.RnReferenceIdeal.nD Cert.RnReferenceIdeal.τ).loc Cert.RnReferenceIdeal.main_v80) = v2 c
          ∧ r.2.mem ((c.tc : Thread Cert.RnReferenceIdeal.nD Cert.RnReferenceIdeal.τ).loc Cert.RnReferenceIdeal.main_v81) = v3 c
          ∧ r.2.mem ((c.tc : Thread Cert.RnReferenceIdeal.nD Cert.RnReferenceIdeal.τ).loc Cert.RnReferenceIdeal.main_arg0) = m' ((c.tc : Thread Cert.RnReferenceIdeal.nD Cert.RnReferenceIdeal.τ).loc Cert.RnReferenceIdeal.main_arg0)
          ∧ r.2.mem ((c.tc : Thread Cert.RnReferenceIdeal.nD Cert.RnReferenceIdeal.τ).loc Cert.RnReferenceIdeal.main_arg1) = m' ((c.tc : Thread Cert.RnReferenceIdeal.nD Cert.RnReferenceIdeal.τ).loc Cert.RnReferenceIdeal.main_arg1)
          ∧ r.2.mem ((c.tc : Thread Cert.RnReferenceIdeal.nD Cert.RnReferenceIdeal.τ).loc Cert.RnReferenceIdeal.main_arg2) = m' ((c.tc : Thread Cert.RnReferenceIdeal.nD Cert.RnReferenceIdeal.τ).loc Cert.RnReferenceIdeal.main_arg2)
          ∧ r.2.mem ((c.tc : Thread Cert.RnReferenceIdeal.nD Cert.RnReferenceIdeal.τ).loc Cert.RnReferenceIdeal.main_arg3) = m' ((c.tc : Thread Cert.RnReferenceIdeal.nD Cert.RnReferenceIdeal.τ).loc Cert.RnReferenceIdeal.main_arg3)
          ∧ r.2.mem ((c.tc : Thread Cert.RnReferenceIdeal.nD Cert.RnReferenceIdeal.τ).loc Cert.RnReferenceIdeal.main_arg4) = m' ((c.tc : Thread Cert.RnReferenceIdeal.nD Cert.RnReferenceIdeal.τ).loc Cert.RnReferenceIdeal.main_arg4)
          ∧ r.2.mem ((c.tc : Thread Cert.RnReferenceIdeal.nD Cert.RnReferenceIdeal.τ).loc Cert.RnReferenceIdeal.main_arg5) = m' ((c.tc : Thread Cert.RnReferenceIdeal.nD Cert.RnReferenceIdeal.τ).loc Cert.RnReferenceIdeal.main_arg5))

def preserves_RlKernel_RlKernelIdeal : Prop :=
  True

def algebraic_RlKernelIdeal_RlReferenceIdeal [hRlKernelIdeal : Cert.RlKernelIdeal.Facts] [hRlReferenceIdeal : Cert.RlReferenceIdeal.Facts] : Prop :=
  ∀ (m : (ℓ : Loc Cert.RlKernelIdeal.nD Cert.RlKernelIdeal.τ Cert.RlKernelIdeal.sig) → Buf (Elt Ideal) ℓ) (g : Dev Cert.RlKernelIdeal.nD → PrngReg)
    (m' : (ℓ : Loc Cert.RlReferenceIdeal.nD Cert.RlReferenceIdeal.τ Cert.RlReferenceIdeal.sig) → Buf (Elt Ideal) ℓ) (g' : Dev Cert.RlReferenceIdeal.nD → PrngReg), Pre_RlKernelIdeal m →
    (∀ c : Dev Cert.RlKernelIdeal.nD,
      m' ((c.tc : Thread Cert.RlReferenceIdeal.nD Cert.RlReferenceIdeal.τ).loc Cert.RlReferenceIdeal.main_arg0) = m ((c.tc : Thread Cert.RlKernelIdeal.nD Cert.RlKernelIdeal.τ).loc Cert.RlKernelIdeal.main_arg0)
      ∧ m' ((c.tc : Thread Cert.RlReferenceIdeal.nD Cert.RlReferenceIdeal.τ).loc Cert.RlReferenceIdeal.main_arg1) = m ((c.tc : Thread Cert.RlKernelIdeal.nD Cert.RlKernelIdeal.τ).loc Cert.RlKernelIdeal.main_arg1)
      ∧ m' ((c.tc : Thread Cert.RlReferenceIdeal.nD Cert.RlReferenceIdeal.τ).loc Cert.RlReferenceIdeal.main_arg2) = m ((c.tc : Thread Cert.RlKernelIdeal.nD Cert.RlKernelIdeal.τ).loc Cert.RlKernelIdeal.main_arg2)
      ∧ m' ((c.tc : Thread Cert.RlReferenceIdeal.nD Cert.RlReferenceIdeal.τ).loc Cert.RlReferenceIdeal.main_arg3) = m ((c.tc : Thread Cert.RlKernelIdeal.nD Cert.RlKernelIdeal.τ).loc Cert.RlKernelIdeal.main_arg3)) →
    ∃ (v0 : (c : Dev Cert.RlKernelIdeal.nD) → Buf (Elt Ideal) ((c.tc : Thread Cert.RlKernelIdeal.nD Cert.RlKernelIdeal.τ).loc Cert.RlKernelIdeal.main_v4_0)) (v1 : (c : Dev Cert.RlKernelIdeal.nD) → Buf (Elt Ideal) ((c.tc : Thread Cert.RlKernelIdeal.nD Cert.RlKernelIdeal.τ).loc Cert.RlKernelIdeal.main_v4_1)) (v2 : (c : Dev Cert.RlKernelIdeal.nD) → Buf (Elt Ideal) ((c.tc : Thread Cert.RlKernelIdeal.nD Cert.RlKernelIdeal.τ).loc Cert.RlKernelIdeal.main_v4_2)) (v3 : (c : Dev Cert.RlKernelIdeal.nD) → Buf (Elt Ideal) ((c.tc : Thread Cert.RlKernelIdeal.nD Cert.RlKernelIdeal.τ).loc Cert.RlKernelIdeal.main_v4_3)),
      θ_run (Cert.RlKernelIdeal.defs (F := Ideal)) (onTc (τ := Cert.RlKernelIdeal.τ) (Cert.RlKernelIdeal.main (F := Ideal))) ⟨m, fun _ => 0, g⟩ (fun r => ∀ c : Dev Cert.RlKernelIdeal.nD,
          r.2.mem ((c.tc : Thread Cert.RlKernelIdeal.nD Cert.RlKernelIdeal.τ).loc Cert.RlKernelIdeal.main_v4_0) = v0 c
          ∧ r.2.mem ((c.tc : Thread Cert.RlKernelIdeal.nD Cert.RlKernelIdeal.τ).loc Cert.RlKernelIdeal.main_v4_1) = v1 c
          ∧ r.2.mem ((c.tc : Thread Cert.RlKernelIdeal.nD Cert.RlKernelIdeal.τ).loc Cert.RlKernelIdeal.main_v4_2) = v2 c
          ∧ r.2.mem ((c.tc : Thread Cert.RlKernelIdeal.nD Cert.RlKernelIdeal.τ).loc Cert.RlKernelIdeal.main_v4_3) = v3 c
          ∧ r.2.mem ((c.tc : Thread Cert.RlKernelIdeal.nD Cert.RlKernelIdeal.τ).loc Cert.RlKernelIdeal.main_arg0) = m ((c.tc : Thread Cert.RlKernelIdeal.nD Cert.RlKernelIdeal.τ).loc Cert.RlKernelIdeal.main_arg0)
          ∧ r.2.mem ((c.tc : Thread Cert.RlKernelIdeal.nD Cert.RlKernelIdeal.τ).loc Cert.RlKernelIdeal.main_arg1) = m ((c.tc : Thread Cert.RlKernelIdeal.nD Cert.RlKernelIdeal.τ).loc Cert.RlKernelIdeal.main_arg1)
          ∧ r.2.mem ((c.tc : Thread Cert.RlKernelIdeal.nD Cert.RlKernelIdeal.τ).loc Cert.RlKernelIdeal.main_arg2) = m ((c.tc : Thread Cert.RlKernelIdeal.nD Cert.RlKernelIdeal.τ).loc Cert.RlKernelIdeal.main_arg2)
          ∧ r.2.mem ((c.tc : Thread Cert.RlKernelIdeal.nD Cert.RlKernelIdeal.τ).loc Cert.RlKernelIdeal.main_arg3) = m ((c.tc : Thread Cert.RlKernelIdeal.nD Cert.RlKernelIdeal.τ).loc Cert.RlKernelIdeal.main_arg3))
      ∧ θ_run (Cert.RlReferenceIdeal.defs (F := Ideal)) (onTc (τ := Cert.RlReferenceIdeal.τ) (Cert.RlReferenceIdeal.main (F := Ideal))) ⟨m', fun _ => 0, g'⟩ (fun r => ∀ c : Dev Cert.RlReferenceIdeal.nD,
          r.2.mem ((c.tc : Thread Cert.RlReferenceIdeal.nD Cert.RlReferenceIdeal.τ).loc Cert.RlReferenceIdeal.main_v53) = v0 c
          ∧ r.2.mem ((c.tc : Thread Cert.RlReferenceIdeal.nD Cert.RlReferenceIdeal.τ).loc Cert.RlReferenceIdeal.main_v55) = v1 c
          ∧ r.2.mem ((c.tc : Thread Cert.RlReferenceIdeal.nD Cert.RlReferenceIdeal.τ).loc Cert.RlReferenceIdeal.main_v57) = v2 c
          ∧ r.2.mem ((c.tc : Thread Cert.RlReferenceIdeal.nD Cert.RlReferenceIdeal.τ).loc Cert.RlReferenceIdeal.main_v58) = v3 c
          ∧ r.2.mem ((c.tc : Thread Cert.RlReferenceIdeal.nD Cert.RlReferenceIdeal.τ).loc Cert.RlReferenceIdeal.main_arg0) = m' ((c.tc : Thread Cert.RlReferenceIdeal.nD Cert.RlReferenceIdeal.τ).loc Cert.RlReferenceIdeal.main_arg0)
          ∧ r.2.mem ((c.tc : Thread Cert.RlReferenceIdeal.nD Cert.RlReferenceIdeal.τ).loc Cert.RlReferenceIdeal.main_arg1) = m' ((c.tc : Thread Cert.RlReferenceIdeal.nD Cert.RlReferenceIdeal.τ).loc Cert.RlReferenceIdeal.main_arg1)
          ∧ r.2.mem ((c.tc : Thread Cert.RlReferenceIdeal.nD Cert.RlReferenceIdeal.τ).loc Cert.RlReferenceIdeal.main_arg2) = m' ((c.tc : Thread Cert.RlReferenceIdeal.nD Cert.RlReferenceIdeal.τ).loc Cert.RlReferenceIdeal.main_arg2)
          ∧ r.2.mem ((c.tc : Thread Cert.RlReferenceIdeal.nD Cert.RlReferenceIdeal.τ).loc Cert.RlReferenceIdeal.main_arg3) = m' ((c.tc : Thread Cert.RlReferenceIdeal.nD Cert.RlReferenceIdeal.τ).loc Cert.RlReferenceIdeal.main_arg3))

def preserves_SwaKernel_SwaKernelIdeal : Prop :=
  IdealRules.named_const.Statement Cert.SwaKernelIdeal.κ "mask" .f32 0xF149F2CA#32 ⊥

def algebraic_SwaKernelIdeal_SwaReferenceIdeal_pre_swa_finite [hSwaKernelIdeal : Cert.SwaKernelIdeal.Facts] [hSwaReferenceIdeal : Cert.SwaReferenceIdeal.Facts] [hPre_swa_finite : Cert.Pre_swa_finite.Facts] : Prop :=
  ∀ (m : (ℓ : Loc Cert.SwaKernelIdeal.nD Cert.SwaKernelIdeal.τ Cert.SwaKernelIdeal.sig) → Buf (Elt Ideal) ℓ) (g : Dev Cert.SwaKernelIdeal.nD → PrngReg)
    (m' : (ℓ : Loc Cert.SwaReferenceIdeal.nD Cert.SwaReferenceIdeal.τ Cert.SwaReferenceIdeal.sig) → Buf (Elt Ideal) ℓ) (g' : Dev Cert.SwaReferenceIdeal.nD → PrngReg), Pre_SwaKernelIdeal_swa_finite m →
    (∀ c : Dev Cert.SwaKernelIdeal.nD,
      m' ((c.tc : Thread Cert.SwaReferenceIdeal.nD Cert.SwaReferenceIdeal.τ).loc Cert.SwaReferenceIdeal.main_arg0) = m ((c.tc : Thread Cert.SwaKernelIdeal.nD Cert.SwaKernelIdeal.τ).loc Cert.SwaKernelIdeal.main_arg0)
      ∧ m' ((c.tc : Thread Cert.SwaReferenceIdeal.nD Cert.SwaReferenceIdeal.τ).loc Cert.SwaReferenceIdeal.main_arg1) = m ((c.tc : Thread Cert.SwaKernelIdeal.nD Cert.SwaKernelIdeal.τ).loc Cert.SwaKernelIdeal.main_arg1)
      ∧ m' ((c.tc : Thread Cert.SwaReferenceIdeal.nD Cert.SwaReferenceIdeal.τ).loc Cert.SwaReferenceIdeal.main_arg2) = m ((c.tc : Thread Cert.SwaKernelIdeal.nD Cert.SwaKernelIdeal.τ).loc Cert.SwaKernelIdeal.main_arg2)) →
    ∃ (v0 : (c : Dev Cert.SwaKernelIdeal.nD) → Buf (Elt Ideal) ((c.tc : Thread Cert.SwaKernelIdeal.nD Cert.SwaKernelIdeal.τ).loc Cert.SwaKernelIdeal.main_v22_0)) (v1 : (c : Dev Cert.SwaKernelIdeal.nD) → Buf (Elt Ideal) ((c.tc : Thread Cert.SwaKernelIdeal.nD Cert.SwaKernelIdeal.τ).loc Cert.SwaKernelIdeal.main_v22_1)) (v2 : (c : Dev Cert.SwaKernelIdeal.nD) → Buf (Elt Ideal) ((c.tc : Thread Cert.SwaKernelIdeal.nD Cert.SwaKernelIdeal.τ).loc Cert.SwaKernelIdeal.main_v22_2)) (v3 : (c : Dev Cert.SwaKernelIdeal.nD) → Buf (Elt Ideal) ((c.tc : Thread Cert.SwaKernelIdeal.nD Cert.SwaKernelIdeal.τ).loc Cert.SwaKernelIdeal.main_v22_3)),
      θ_run (Cert.SwaKernelIdeal.defs (F := Ideal)) (onTc (τ := Cert.SwaKernelIdeal.τ) (Cert.SwaKernelIdeal.main (F := Ideal))) ⟨m, fun _ => 0, g⟩ (fun r => ∀ c : Dev Cert.SwaKernelIdeal.nD,
          r.2.mem ((c.tc : Thread Cert.SwaKernelIdeal.nD Cert.SwaKernelIdeal.τ).loc Cert.SwaKernelIdeal.main_v22_0) = v0 c
          ∧ r.2.mem ((c.tc : Thread Cert.SwaKernelIdeal.nD Cert.SwaKernelIdeal.τ).loc Cert.SwaKernelIdeal.main_v22_1) = v1 c
          ∧ r.2.mem ((c.tc : Thread Cert.SwaKernelIdeal.nD Cert.SwaKernelIdeal.τ).loc Cert.SwaKernelIdeal.main_v22_2) = v2 c
          ∧ r.2.mem ((c.tc : Thread Cert.SwaKernelIdeal.nD Cert.SwaKernelIdeal.τ).loc Cert.SwaKernelIdeal.main_v22_3) = v3 c
          ∧ r.2.mem ((c.tc : Thread Cert.SwaKernelIdeal.nD Cert.SwaKernelIdeal.τ).loc Cert.SwaKernelIdeal.main_arg0) = m ((c.tc : Thread Cert.SwaKernelIdeal.nD Cert.SwaKernelIdeal.τ).loc Cert.SwaKernelIdeal.main_arg0)
          ∧ r.2.mem ((c.tc : Thread Cert.SwaKernelIdeal.nD Cert.SwaKernelIdeal.τ).loc Cert.SwaKernelIdeal.main_arg1) = m ((c.tc : Thread Cert.SwaKernelIdeal.nD Cert.SwaKernelIdeal.τ).loc Cert.SwaKernelIdeal.main_arg1)
          ∧ r.2.mem ((c.tc : Thread Cert.SwaKernelIdeal.nD Cert.SwaKernelIdeal.τ).loc Cert.SwaKernelIdeal.main_arg2) = m ((c.tc : Thread Cert.SwaKernelIdeal.nD Cert.SwaKernelIdeal.τ).loc Cert.SwaKernelIdeal.main_arg2))
      ∧ θ_run (Cert.SwaReferenceIdeal.defs (F := Ideal)) (onTc (τ := Cert.SwaReferenceIdeal.τ) (Cert.SwaReferenceIdeal.main (F := Ideal))) ⟨m', fun _ => 0, g'⟩ (fun r => ∀ c : Dev Cert.SwaReferenceIdeal.nD,
          r.2.mem ((c.tc : Thread Cert.SwaReferenceIdeal.nD Cert.SwaReferenceIdeal.τ).loc Cert.SwaReferenceIdeal.main_v159) = v0 c
          ∧ r.2.mem ((c.tc : Thread Cert.SwaReferenceIdeal.nD Cert.SwaReferenceIdeal.τ).loc Cert.SwaReferenceIdeal.main_v161) = v1 c
          ∧ r.2.mem ((c.tc : Thread Cert.SwaReferenceIdeal.nD Cert.SwaReferenceIdeal.τ).loc Cert.SwaReferenceIdeal.main_v163) = v2 c
          ∧ r.2.mem ((c.tc : Thread Cert.SwaReferenceIdeal.nD Cert.SwaReferenceIdeal.τ).loc Cert.SwaReferenceIdeal.main_v166) = v3 c
          ∧ r.2.mem ((c.tc : Thread Cert.SwaReferenceIdeal.nD Cert.SwaReferenceIdeal.τ).loc Cert.SwaReferenceIdeal.main_arg0) = m' ((c.tc : Thread Cert.SwaReferenceIdeal.nD Cert.SwaReferenceIdeal.τ).loc Cert.SwaReferenceIdeal.main_arg0)
          ∧ r.2.mem ((c.tc : Thread Cert.SwaReferenceIdeal.nD Cert.SwaReferenceIdeal.τ).loc Cert.SwaReferenceIdeal.main_arg1) = m' ((c.tc : Thread Cert.SwaReferenceIdeal.nD Cert.SwaReferenceIdeal.τ).loc Cert.SwaReferenceIdeal.main_arg1)
          ∧ r.2.mem ((c.tc : Thread Cert.SwaReferenceIdeal.nD Cert.SwaReferenceIdeal.τ).loc Cert.SwaReferenceIdeal.main_arg2) = m' ((c.tc : Thread Cert.SwaReferenceIdeal.nD Cert.SwaReferenceIdeal.τ).loc Cert.SwaReferenceIdeal.main_arg2))

def preserves_SwafKernel_SwafKernelIdeal : Prop :=
  IdealRules.named_const.Statement Cert.SwafKernelIdeal.κ "mask" .f32 0xF149F2CA#32 ⊥

def algebraic_SwafKernelIdeal_SwafReferenceIdeal_pre_proj_finite [hSwafKernelIdeal : Cert.SwafKernelIdeal.Facts] [hSwafReferenceIdeal : Cert.SwafReferenceIdeal.Facts] [hPre_proj_finite : Cert.Pre_proj_finite.Facts] : Prop :=
  ∀ (m : (ℓ : Loc Cert.SwafKernelIdeal.nD Cert.SwafKernelIdeal.τ Cert.SwafKernelIdeal.sig) → Buf (Elt Ideal) ℓ) (g : Dev Cert.SwafKernelIdeal.nD → PrngReg)
    (m' : (ℓ : Loc Cert.SwafReferenceIdeal.nD Cert.SwafReferenceIdeal.τ Cert.SwafReferenceIdeal.sig) → Buf (Elt Ideal) ℓ) (g' : Dev Cert.SwafReferenceIdeal.nD → PrngReg), Pre_SwafKernelIdeal_proj_finite m →
    (∀ c : Dev Cert.SwafKernelIdeal.nD,
      m' ((c.tc : Thread Cert.SwafReferenceIdeal.nD Cert.SwafReferenceIdeal.τ).loc Cert.SwafReferenceIdeal.main_arg0) = m ((c.tc : Thread Cert.SwafKernelIdeal.nD Cert.SwafKernelIdeal.τ).loc Cert.SwafKernelIdeal.main_arg0)
      ∧ m' ((c.tc : Thread Cert.SwafReferenceIdeal.nD Cert.SwafReferenceIdeal.τ).loc Cert.SwafReferenceIdeal.main_arg1) = m ((c.tc : Thread Cert.SwafKernelIdeal.nD Cert.SwafKernelIdeal.τ).loc Cert.SwafKernelIdeal.main_arg1)) →
    ∃ (v0 : (c : Dev Cert.SwafKernelIdeal.nD) → Buf (Elt Ideal) ((c.tc : Thread Cert.SwafKernelIdeal.nD Cert.SwafKernelIdeal.τ).loc Cert.SwafKernelIdeal.main_v15)),
      θ_run (Cert.SwafKernelIdeal.defs (F := Ideal)) (onTc (τ := Cert.SwafKernelIdeal.τ) (Cert.SwafKernelIdeal.main (F := Ideal))) ⟨m, fun _ => 0, g⟩ (fun r => ∀ c : Dev Cert.SwafKernelIdeal.nD,
          r.2.mem ((c.tc : Thread Cert.SwafKernelIdeal.nD Cert.SwafKernelIdeal.τ).loc Cert.SwafKernelIdeal.main_v15) = v0 c
          ∧ r.2.mem ((c.tc : Thread Cert.SwafKernelIdeal.nD Cert.SwafKernelIdeal.τ).loc Cert.SwafKernelIdeal.main_arg0) = m ((c.tc : Thread Cert.SwafKernelIdeal.nD Cert.SwafKernelIdeal.τ).loc Cert.SwafKernelIdeal.main_arg0)
          ∧ r.2.mem ((c.tc : Thread Cert.SwafKernelIdeal.nD Cert.SwafKernelIdeal.τ).loc Cert.SwafKernelIdeal.main_arg1) = m ((c.tc : Thread Cert.SwafKernelIdeal.nD Cert.SwafKernelIdeal.τ).loc Cert.SwafKernelIdeal.main_arg1))
      ∧ θ_run (Cert.SwafReferenceIdeal.defs (F := Ideal)) (onTc (τ := Cert.SwafReferenceIdeal.τ) (Cert.SwafReferenceIdeal.main (F := Ideal))) ⟨m', fun _ => 0, g'⟩ (fun r => ∀ c : Dev Cert.SwafReferenceIdeal.nD,
          r.2.mem ((c.tc : Thread Cert.SwafReferenceIdeal.nD Cert.SwafReferenceIdeal.τ).loc Cert.SwafReferenceIdeal.main_v84) = v0 c
          ∧ r.2.mem ((c.tc : Thread Cert.SwafReferenceIdeal.nD Cert.SwafReferenceIdeal.τ).loc Cert.SwafReferenceIdeal.main_arg0) = m' ((c.tc : Thread Cert.SwafReferenceIdeal.nD Cert.SwafReferenceIdeal.τ).loc Cert.SwafReferenceIdeal.main_arg0)
          ∧ r.2.mem ((c.tc : Thread Cert.SwafReferenceIdeal.nD Cert.SwafReferenceIdeal.τ).loc Cert.SwafReferenceIdeal.main_arg1) = m' ((c.tc : Thread Cert.SwafReferenceIdeal.nD Cert.SwafReferenceIdeal.τ).loc Cert.SwafReferenceIdeal.main_arg1))

def preserves_PnfKernel_PnfKernelIdeal : Prop :=
  True

def algebraic_PnfKernelIdeal_PnfReferenceIdeal [hPnfKernelIdeal : Cert.PnfKernelIdeal.Facts] [hPnfReferenceIdeal : Cert.PnfReferenceIdeal.Facts] : Prop :=
  ∀ (m : (ℓ : Loc Cert.PnfKernelIdeal.nD Cert.PnfKernelIdeal.τ Cert.PnfKernelIdeal.sig) → Buf (Elt Ideal) ℓ) (g : Dev Cert.PnfKernelIdeal.nD → PrngReg)
    (m' : (ℓ : Loc Cert.PnfReferenceIdeal.nD Cert.PnfReferenceIdeal.τ Cert.PnfReferenceIdeal.sig) → Buf (Elt Ideal) ℓ) (g' : Dev Cert.PnfReferenceIdeal.nD → PrngReg), Pre_PnfKernelIdeal m →
    (∀ c : Dev Cert.PnfKernelIdeal.nD,
      m' ((c.tc : Thread Cert.PnfReferenceIdeal.nD Cert.PnfReferenceIdeal.τ).loc Cert.PnfReferenceIdeal.main_arg0) = m ((c.tc : Thread Cert.PnfKernelIdeal.nD Cert.PnfKernelIdeal.τ).loc Cert.PnfKernelIdeal.main_arg0)
      ∧ m' ((c.tc : Thread Cert.PnfReferenceIdeal.nD Cert.PnfReferenceIdeal.τ).loc Cert.PnfReferenceIdeal.main_arg1) = m ((c.tc : Thread Cert.PnfKernelIdeal.nD Cert.PnfKernelIdeal.τ).loc Cert.PnfKernelIdeal.main_arg1)) →
    ∃ (v0 : (c : Dev Cert.PnfKernelIdeal.nD) → Buf (Elt Ideal) ((c.tc : Thread Cert.PnfKernelIdeal.nD Cert.PnfKernelIdeal.τ).loc Cert.PnfKernelIdeal.main_v2)),
      θ_run (Cert.PnfKernelIdeal.defs (F := Ideal)) (onTc (τ := Cert.PnfKernelIdeal.τ) (Cert.PnfKernelIdeal.main (F := Ideal))) ⟨m, fun _ => 0, g⟩ (fun r => ∀ c : Dev Cert.PnfKernelIdeal.nD,
          r.2.mem ((c.tc : Thread Cert.PnfKernelIdeal.nD Cert.PnfKernelIdeal.τ).loc Cert.PnfKernelIdeal.main_v2) = v0 c
          ∧ r.2.mem ((c.tc : Thread Cert.PnfKernelIdeal.nD Cert.PnfKernelIdeal.τ).loc Cert.PnfKernelIdeal.main_arg0) = m ((c.tc : Thread Cert.PnfKernelIdeal.nD Cert.PnfKernelIdeal.τ).loc Cert.PnfKernelIdeal.main_arg0)
          ∧ r.2.mem ((c.tc : Thread Cert.PnfKernelIdeal.nD Cert.PnfKernelIdeal.τ).loc Cert.PnfKernelIdeal.main_arg1) = m ((c.tc : Thread Cert.PnfKernelIdeal.nD Cert.PnfKernelIdeal.τ).loc Cert.PnfKernelIdeal.main_arg1))
      ∧ θ_run (Cert.PnfReferenceIdeal.defs (F := Ideal)) (onTc (τ := Cert.PnfReferenceIdeal.τ) (Cert.PnfReferenceIdeal.main (F := Ideal))) ⟨m', fun _ => 0, g'⟩ (fun r => ∀ c : Dev Cert.PnfReferenceIdeal.nD,
          r.2.mem ((c.tc : Thread Cert.PnfReferenceIdeal.nD Cert.PnfReferenceIdeal.τ).loc Cert.PnfReferenceIdeal.main_v14) = v0 c
          ∧ r.2.mem ((c.tc : Thread Cert.PnfReferenceIdeal.nD Cert.PnfReferenceIdeal.τ).loc Cert.PnfReferenceIdeal.main_arg0) = m' ((c.tc : Thread Cert.PnfReferenceIdeal.nD Cert.PnfReferenceIdeal.τ).loc Cert.PnfReferenceIdeal.main_arg0)
          ∧ r.2.mem ((c.tc : Thread Cert.PnfReferenceIdeal.nD Cert.PnfReferenceIdeal.τ).loc Cert.PnfReferenceIdeal.main_arg1) = m' ((c.tc : Thread Cert.PnfReferenceIdeal.nD Cert.PnfReferenceIdeal.τ).loc Cert.PnfReferenceIdeal.main_arg1))

def preserves_RnfKernel_RnfKernelIdeal : Prop :=
  True

def algebraic_RnfKernelIdeal_RnfReferenceIdeal [hRnfKernelIdeal : Cert.RnfKernelIdeal.Facts] [hRnfReferenceIdeal : Cert.RnfReferenceIdeal.Facts] : Prop :=
  ∀ (m : (ℓ : Loc Cert.RnfKernelIdeal.nD Cert.RnfKernelIdeal.τ Cert.RnfKernelIdeal.sig) → Buf (Elt Ideal) ℓ) (g : Dev Cert.RnfKernelIdeal.nD → PrngReg)
    (m' : (ℓ : Loc Cert.RnfReferenceIdeal.nD Cert.RnfReferenceIdeal.τ Cert.RnfReferenceIdeal.sig) → Buf (Elt Ideal) ℓ) (g' : Dev Cert.RnfReferenceIdeal.nD → PrngReg), Pre_RnfKernelIdeal m →
    (∀ c : Dev Cert.RnfKernelIdeal.nD,
      m' ((c.tc : Thread Cert.RnfReferenceIdeal.nD Cert.RnfReferenceIdeal.τ).loc Cert.RnfReferenceIdeal.main_arg0) = m ((c.tc : Thread Cert.RnfKernelIdeal.nD Cert.RnfKernelIdeal.τ).loc Cert.RnfKernelIdeal.main_arg0)
      ∧ m' ((c.tc : Thread Cert.RnfReferenceIdeal.nD Cert.RnfReferenceIdeal.τ).loc Cert.RnfReferenceIdeal.main_arg1) = m ((c.tc : Thread Cert.RnfKernelIdeal.nD Cert.RnfKernelIdeal.τ).loc Cert.RnfKernelIdeal.main_arg1)
      ∧ m' ((c.tc : Thread Cert.RnfReferenceIdeal.nD Cert.RnfReferenceIdeal.τ).loc Cert.RnfReferenceIdeal.main_arg2) = m ((c.tc : Thread Cert.RnfKernelIdeal.nD Cert.RnfKernelIdeal.τ).loc Cert.RnfKernelIdeal.main_arg2)
      ∧ m' ((c.tc : Thread Cert.RnfReferenceIdeal.nD Cert.RnfReferenceIdeal.τ).loc Cert.RnfReferenceIdeal.main_arg3) = m ((c.tc : Thread Cert.RnfKernelIdeal.nD Cert.RnfKernelIdeal.τ).loc Cert.RnfKernelIdeal.main_arg3)) →
    ∃ (v0 : (c : Dev Cert.RnfKernelIdeal.nD) → Buf (Elt Ideal) ((c.tc : Thread Cert.RnfKernelIdeal.nD Cert.RnfKernelIdeal.τ).loc Cert.RnfKernelIdeal.main_v4_0)) (v1 : (c : Dev Cert.RnfKernelIdeal.nD) → Buf (Elt Ideal) ((c.tc : Thread Cert.RnfKernelIdeal.nD Cert.RnfKernelIdeal.τ).loc Cert.RnfKernelIdeal.main_v4_1)),
      θ_run (Cert.RnfKernelIdeal.defs (F := Ideal)) (onTc (τ := Cert.RnfKernelIdeal.τ) (Cert.RnfKernelIdeal.main (F := Ideal))) ⟨m, fun _ => 0, g⟩ (fun r => ∀ c : Dev Cert.RnfKernelIdeal.nD,
          r.2.mem ((c.tc : Thread Cert.RnfKernelIdeal.nD Cert.RnfKernelIdeal.τ).loc Cert.RnfKernelIdeal.main_v4_0) = v0 c
          ∧ r.2.mem ((c.tc : Thread Cert.RnfKernelIdeal.nD Cert.RnfKernelIdeal.τ).loc Cert.RnfKernelIdeal.main_v4_1) = v1 c
          ∧ r.2.mem ((c.tc : Thread Cert.RnfKernelIdeal.nD Cert.RnfKernelIdeal.τ).loc Cert.RnfKernelIdeal.main_arg0) = m ((c.tc : Thread Cert.RnfKernelIdeal.nD Cert.RnfKernelIdeal.τ).loc Cert.RnfKernelIdeal.main_arg0)
          ∧ r.2.mem ((c.tc : Thread Cert.RnfKernelIdeal.nD Cert.RnfKernelIdeal.τ).loc Cert.RnfKernelIdeal.main_arg1) = m ((c.tc : Thread Cert.RnfKernelIdeal.nD Cert.RnfKernelIdeal.τ).loc Cert.RnfKernelIdeal.main_arg1)
          ∧ r.2.mem ((c.tc : Thread Cert.RnfKernelIdeal.nD Cert.RnfKernelIdeal.τ).loc Cert.RnfKernelIdeal.main_arg2) = m ((c.tc : Thread Cert.RnfKernelIdeal.nD Cert.RnfKernelIdeal.τ).loc Cert.RnfKernelIdeal.main_arg2)
          ∧ r.2.mem ((c.tc : Thread Cert.RnfKernelIdeal.nD Cert.RnfKernelIdeal.τ).loc Cert.RnfKernelIdeal.main_arg3) = m ((c.tc : Thread Cert.RnfKernelIdeal.nD Cert.RnfKernelIdeal.τ).loc Cert.RnfKernelIdeal.main_arg3))
      ∧ θ_run (Cert.RnfReferenceIdeal.defs (F := Ideal)) (onTc (τ := Cert.RnfReferenceIdeal.τ) (Cert.RnfReferenceIdeal.main (F := Ideal))) ⟨m', fun _ => 0, g'⟩ (fun r => ∀ c : Dev Cert.RnfReferenceIdeal.nD,
          r.2.mem ((c.tc : Thread Cert.RnfReferenceIdeal.nD Cert.RnfReferenceIdeal.τ).loc Cert.RnfReferenceIdeal.main_v27) = v0 c
          ∧ r.2.mem ((c.tc : Thread Cert.RnfReferenceIdeal.nD Cert.RnfReferenceIdeal.τ).loc Cert.RnfReferenceIdeal.main_v29) = v1 c
          ∧ r.2.mem ((c.tc : Thread Cert.RnfReferenceIdeal.nD Cert.RnfReferenceIdeal.τ).loc Cert.RnfReferenceIdeal.main_arg0) = m' ((c.tc : Thread Cert.RnfReferenceIdeal.nD Cert.RnfReferenceIdeal.τ).loc Cert.RnfReferenceIdeal.main_arg0)
          ∧ r.2.mem ((c.tc : Thread Cert.RnfReferenceIdeal.nD Cert.RnfReferenceIdeal.τ).loc Cert.RnfReferenceIdeal.main_arg1) = m' ((c.tc : Thread Cert.RnfReferenceIdeal.nD Cert.RnfReferenceIdeal.τ).loc Cert.RnfReferenceIdeal.main_arg1)
          ∧ r.2.mem ((c.tc : Thread Cert.RnfReferenceIdeal.nD Cert.RnfReferenceIdeal.τ).loc Cert.RnfReferenceIdeal.main_arg2) = m' ((c.tc : Thread Cert.RnfReferenceIdeal.nD Cert.RnfReferenceIdeal.τ).loc Cert.RnfReferenceIdeal.main_arg2)
          ∧ r.2.mem ((c.tc : Thread Cert.RnfReferenceIdeal.nD Cert.RnfReferenceIdeal.τ).loc Cert.RnfReferenceIdeal.main_arg3) = m' ((c.tc : Thread Cert.RnfReferenceIdeal.nD Cert.RnfReferenceIdeal.τ).loc Cert.RnfReferenceIdeal.main_arg3))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v10_0)) (v1 : (c : Dev Cert.UpKernelIdeal.nD) → Buf (Elt Ideal) ((c.tc : Thread Cert.UpKernelIdeal.nD Cert.UpKernelIdeal.τ).loc Cert.UpKernelIdeal.main_v10_1)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v10_0) = v0 c
          ∧ r.2.mem ((c.tc : Thread Cert.UpKernelIdeal.nD Cert.UpKernelIdeal.τ).loc Cert.UpKernelIdeal.main_v10_1) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v11) = v0 c
          ∧ r.2.mem ((c.tc : Thread Cert.UpReferenceIdeal.nD Cert.UpReferenceIdeal.τ).loc Cert.UpReferenceIdeal.main_v13) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_ConvfKernel_ConvfKernelIdeal : Prop :=
  True

def algebraic_ConvfKernelIdeal_ConvfReferenceIdeal [hConvfKernelIdeal : Cert.ConvfKernelIdeal.Facts] [hConvfReferenceIdeal : Cert.ConvfReferenceIdeal.Facts] : Prop :=
  ∀ (m : (ℓ : Loc Cert.ConvfKernelIdeal.nD Cert.ConvfKernelIdeal.τ Cert.ConvfKernelIdeal.sig) → Buf (Elt Ideal) ℓ) (g : Dev Cert.ConvfKernelIdeal.nD → PrngReg)
    (m' : (ℓ : Loc Cert.ConvfReferenceIdeal.nD Cert.ConvfReferenceIdeal.τ Cert.ConvfReferenceIdeal.sig) → Buf (Elt Ideal) ℓ) (g' : Dev Cert.ConvfReferenceIdeal.nD → PrngReg), Pre_ConvfKernelIdeal m →
    (∀ c : Dev Cert.ConvfKernelIdeal.nD,
      m' ((c.tc : Thread Cert.ConvfReferenceIdeal.nD Cert.ConvfReferenceIdeal.τ).loc Cert.ConvfReferenceIdeal.main_arg0) = m ((c.tc : Thread Cert.ConvfKernelIdeal.nD Cert.ConvfKernelIdeal.τ).loc Cert.ConvfKernelIdeal.main_arg0)
      ∧ m' ((c.tc : Thread Cert.ConvfReferenceIdeal.nD Cert.ConvfReferenceIdeal.τ).loc Cert.ConvfReferenceIdeal.main_arg1) = m ((c.tc : Thread Cert.ConvfKernelIdeal.nD Cert.ConvfKernelIdeal.τ).loc Cert.ConvfKernelIdeal.main_arg1)
      ∧ m' ((c.tc : Thread Cert.ConvfReferenceIdeal.nD Cert.ConvfReferenceIdeal.τ).loc Cert.ConvfReferenceIdeal.main_arg2) = m ((c.tc : Thread Cert.ConvfKernelIdeal.nD Cert.ConvfKernelIdeal.τ).loc Cert.ConvfKernelIdeal.main_arg2)) →
    ∃ (v0 : (c : Dev Cert.ConvfKernelIdeal.nD) → Buf (Elt Ideal) ((c.tc : Thread Cert.ConvfKernelIdeal.nD Cert.ConvfKernelIdeal.τ).loc Cert.ConvfKernelIdeal.main_v11)),
      θ_run (Cert.ConvfKernelIdeal.defs (F := Ideal)) (onTc (τ := Cert.ConvfKernelIdeal.τ) (Cert.ConvfKernelIdeal.main (F := Ideal))) ⟨m, fun _ => 0, g⟩ (fun r => ∀ c : Dev Cert.ConvfKernelIdeal.nD,
          r.2.mem ((c.tc : Thread Cert.ConvfKernelIdeal.nD Cert.ConvfKernelIdeal.τ).loc Cert.ConvfKernelIdeal.main_v11) = v0 c
          ∧ r.2.mem ((c.tc : Thread Cert.ConvfKernelIdeal.nD Cert.ConvfKernelIdeal.τ).loc Cert.ConvfKernelIdeal.main_arg0) = m ((c.tc : Thread Cert.ConvfKernelIdeal.nD Cert.ConvfKernelIdeal.τ).loc Cert.ConvfKernelIdeal.main_arg0)
          ∧ r.2.mem ((c.tc : Thread Cert.ConvfKernelIdeal.nD Cert.ConvfKernelIdeal.τ).loc Cert.ConvfKernelIdeal.main_arg1) = m ((c.tc : Thread Cert.ConvfKernelIdeal.nD Cert.ConvfKernelIdeal.τ).loc Cert.ConvfKernelIdeal.main_arg1)
          ∧ r.2.mem ((c.tc : Thread Cert.ConvfKernelIdeal.nD Cert.ConvfKernelIdeal.τ).loc Cert.ConvfKernelIdeal.main_arg2) = m ((c.tc : Thread Cert.ConvfKernelIdeal.nD Cert.ConvfKernelIdeal.τ).loc Cert.ConvfKernelIdeal.main_arg2))
      ∧ θ_run (Cert.ConvfReferenceIdeal.defs (F := Ideal)) (onTc (τ := Cert.ConvfReferenceIdeal.τ) (Cert.ConvfReferenceIdeal.main (F := Ideal))) ⟨m', fun _ => 0, g'⟩ (fun r => ∀ c : Dev Cert.ConvfReferenceIdeal.nD,
          r.2.mem ((c.tc : Thread Cert.ConvfReferenceIdeal.nD Cert.ConvfReferenceIdeal.τ).loc Cert.ConvfReferenceIdeal.main_v34) = v0 c
          ∧ r.2.mem ((c.tc : Thread Cert.ConvfReferenceIdeal.nD Cert.ConvfReferenceIdeal.τ).loc Cert.ConvfReferenceIdeal.main_arg0) = m' ((c.tc : Thread Cert.ConvfReferenceIdeal.nD Cert.ConvfReferenceIdeal.τ).loc Cert.ConvfReferenceIdeal.main_arg0)
          ∧ r.2.mem ((c.tc : Thread Cert.ConvfReferenceIdeal.nD Cert.ConvfReferenceIdeal.τ).loc Cert.ConvfReferenceIdeal.main_arg1) = m' ((c.tc : Thread Cert.ConvfReferenceIdeal.nD Cert.ConvfReferenceIdeal.τ).loc Cert.ConvfReferenceIdeal.main_arg1)
          ∧ r.2.mem ((c.tc : Thread Cert.ConvfReferenceIdeal.nD Cert.ConvfReferenceIdeal.τ).loc Cert.ConvfReferenceIdeal.main_arg2) = m' ((c.tc : Thread Cert.ConvfReferenceIdeal.nD Cert.ConvfReferenceIdeal.τ).loc Cert.ConvfReferenceIdeal.main_arg2))

def preserves_GconvfKernel_GconvfKernelIdeal : Prop :=
  True

def algebraic_GconvfKernelIdeal_GconvfReferenceIdeal [hGconvfKernelIdeal : Cert.GconvfKernelIdeal.Facts] [hGconvfReferenceIdeal : Cert.GconvfReferenceIdeal.Facts] : Prop :=
  ∀ (m : (ℓ : Loc Cert.GconvfKernelIdeal.nD Cert.GconvfKernelIdeal.τ Cert.GconvfKernelIdeal.sig) → Buf (Elt Ideal) ℓ) (g : Dev Cert.GconvfKernelIdeal.nD → PrngReg)
    (m' : (ℓ : Loc Cert.GconvfReferenceIdeal.nD Cert.GconvfReferenceIdeal.τ Cert.GconvfReferenceIdeal.sig) → Buf (Elt Ideal) ℓ) (g' : Dev Cert.GconvfReferenceIdeal.nD → PrngReg), Pre_GconvfKernelIdeal m →
    (∀ c : Dev Cert.GconvfKernelIdeal.nD,
      m' ((c.tc : Thread Cert.GconvfReferenceIdeal.nD Cert.GconvfReferenceIdeal.τ).loc Cert.GconvfReferenceIdeal.main_arg0) = m ((c.tc : Thread Cert.GconvfKernelIdeal.nD Cert.GconvfKernelIdeal.τ).loc Cert.GconvfKernelIdeal.main_arg0)
      ∧ m' ((c.tc : Thread Cert.GconvfReferenceIdeal.nD Cert.GconvfReferenceIdeal.τ).loc Cert.GconvfReferenceIdeal.main_arg1) = m ((c.tc : Thread Cert.GconvfKernelIdeal.nD Cert.GconvfKernelIdeal.τ).loc Cert.GconvfKernelIdeal.main_arg1)) →
    ∃ (v0 : (c : Dev Cert.GconvfKernelIdeal.nD) → Buf (Elt Ideal) ((c.tc : Thread Cert.GconvfKernelIdeal.nD Cert.GconvfKernelIdeal.τ).loc Cert.GconvfKernelIdeal.main_v11)),
      θ_run (Cert.GconvfKernelIdeal.defs (F := Ideal)) (onTc (τ := Cert.GconvfKernelIdeal.τ) (Cert.GconvfKernelIdeal.main (F := Ideal))) ⟨m, fun _ => 0, g⟩ (fun r => ∀ c : Dev Cert.GconvfKernelIdeal.nD,
          r.2.mem ((c.tc : Thread Cert.GconvfKernelIdeal.nD Cert.GconvfKernelIdeal.τ).loc Cert.GconvfKernelIdeal.main_v11) = v0 c
          ∧ r.2.mem ((c.tc : Thread Cert.GconvfKernelIdeal.nD Cert.GconvfKernelIdeal.τ).loc Cert.GconvfKernelIdeal.main_arg0) = m ((c.tc : Thread Cert.GconvfKernelIdeal.nD Cert.GconvfKernelIdeal.τ).loc Cert.GconvfKernelIdeal.main_arg0)
          ∧ r.2.mem ((c.tc : Thread Cert.GconvfKernelIdeal.nD Cert.GconvfKernelIdeal.τ).loc Cert.GconvfKernelIdeal.main_arg1) = m ((c.tc : Thread Cert.GconvfKernelIdeal.nD Cert.GconvfKernelIdeal.τ).loc Cert.GconvfKernelIdeal.main_arg1))
      ∧ θ_run (Cert.GconvfReferenceIdeal.defs (F := Ideal)) (onTc (τ := Cert.GconvfReferenceIdeal.τ) (Cert.GconvfReferenceIdeal.main (F := Ideal))) ⟨m', fun _ => 0, g'⟩ (fun r => ∀ c : Dev Cert.GconvfReferenceIdeal.nD,
          r.2.mem ((c.tc : Thread Cert.GconvfReferenceIdeal.nD Cert.GconvfReferenceIdeal.τ).loc Cert.GconvfReferenceIdeal.main_v31) = v0 c
          ∧ r.2.mem ((c.tc : Thread Cert.GconvfReferenceIdeal.nD Cert.GconvfReferenceIdeal.τ).loc Cert.GconvfReferenceIdeal.main_arg0) = m' ((c.tc : Thread Cert.GconvfReferenceIdeal.nD Cert.GconvfReferenceIdeal.τ).loc Cert.GconvfReferenceIdeal.main_arg0)
          ∧ r.2.mem ((c.tc : Thread Cert.GconvfReferenceIdeal.nD Cert.GconvfReferenceIdeal.τ).loc Cert.GconvfReferenceIdeal.main_arg1) = m' ((c.tc : Thread Cert.GconvfReferenceIdeal.nD Cert.GconvfReferenceIdeal.τ).loc Cert.GconvfReferenceIdeal.main_arg1))

def preserves_GconvKernel_GconvKernelIdeal : Prop :=
  True

def algebraic_GconvKernelIdeal_GconvReferenceIdeal_pre_gct_finite [hGconvKernelIdeal : Cert.GconvKernelIdeal.Facts] [hGconvReferenceIdeal : Cert.GconvReferenceIdeal.Facts] [hPre_gct_finite : Cert.Pre_gct_finite.Facts] : Prop :=
  ∀ (m : (ℓ : Loc Cert.GconvKernelIdeal.nD Cert.GconvKernelIdeal.τ Cert.GconvKernelIdeal.sig) → Buf (Elt Ideal) ℓ) (g : Dev Cert.GconvKernelIdeal.nD → PrngReg)
    (m' : (ℓ : Loc Cert.GconvReferenceIdeal.nD Cert.GconvReferenceIdeal.τ Cert.GconvReferenceIdeal.sig) → Buf (Elt Ideal) ℓ) (g' : Dev Cert.GconvReferenceIdeal.nD → PrngReg), Pre_GconvKernelIdeal_gct_finite m →
    (∀ c : Dev Cert.GconvKernelIdeal.nD,
      m' ((c.tc : Thread Cert.GconvReferenceIdeal.nD Cert.GconvReferenceIdeal.τ).loc Cert.GconvReferenceIdeal.main_arg0) = m ((c.tc : Thread Cert.GconvKernelIdeal.nD Cert.GconvKernelIdeal.τ).loc Cert.GconvKernelIdeal.main_arg0)
      ∧ m' ((c.tc : Thread Cert.GconvReferenceIdeal.nD Cert.GconvReferenceIdeal.τ).loc Cert.GconvReferenceIdeal.main_arg1) = m ((c.tc : Thread Cert.GconvKernelIdeal.nD Cert.GconvKernelIdeal.τ).loc Cert.GconvKernelIdeal.main_arg1)
      ∧ m' ((c.tc : Thread Cert.GconvReferenceIdeal.nD Cert.GconvReferenceIdeal.τ).loc Cert.GconvReferenceIdeal.main_arg2) = m ((c.tc : Thread Cert.GconvKernelIdeal.nD Cert.GconvKernelIdeal.τ).loc Cert.GconvKernelIdeal.main_arg2)) →
    ∃ (v0 : (c : Dev Cert.GconvKernelIdeal.nD) → Buf (Elt Ideal) ((c.tc : Thread Cert.GconvKernelIdeal.nD Cert.GconvKernelIdeal.τ).loc Cert.GconvKernelIdeal.main_v10_0)) (v1 : (c : Dev Cert.GconvKernelIdeal.nD) → Buf (Elt Ideal) ((c.tc : Thread Cert.GconvKernelIdeal.nD Cert.GconvKernelIdeal.τ).loc Cert.GconvKernelIdeal.main_v10_1)),
      θ_run (Cert.GconvKernelIdeal.defs (F := Ideal)) (onTc (τ := Cert.GconvKernelIdeal.τ) (Cert.GconvKernelIdeal.main (F := Ideal))) ⟨m, fun _ => 0, g⟩ (fun r => ∀ c : Dev Cert.GconvKernelIdeal.nD,
          r.2.mem ((c.tc : Thread Cert.GconvKernelIdeal.nD Cert.GconvKernelIdeal.τ).loc Cert.GconvKernelIdeal.main_v10_0) = v0 c
          ∧ r.2.mem ((c.tc : Thread Cert.GconvKernelIdeal.nD Cert.GconvKernelIdeal.τ).loc Cert.GconvKernelIdeal.main_v10_1) = v1 c
          ∧ r.2.mem ((c.tc : Thread Cert.GconvKernelIdeal.nD Cert.GconvKernelIdeal.τ).loc Cert.GconvKernelIdeal.main_arg0) = m ((c.tc : Thread Cert.GconvKernelIdeal.nD Cert.GconvKernelIdeal.τ).loc Cert.GconvKernelIdeal.main_arg0)
          ∧ r.2.mem ((c.tc : Thread Cert.GconvKernelIdeal.nD Cert.GconvKernelIdeal.τ).loc Cert.GconvKernelIdeal.main_arg1) = m ((c.tc : Thread Cert.GconvKernelIdeal.nD Cert.GconvKernelIdeal.τ).loc Cert.GconvKernelIdeal.main_arg1)
          ∧ r.2.mem ((c.tc : Thread Cert.GconvKernelIdeal.nD Cert.GconvKernelIdeal.τ).loc Cert.GconvKernelIdeal.main_arg2) = m ((c.tc : Thread Cert.GconvKernelIdeal.nD Cert.GconvKernelIdeal.τ).loc Cert.GconvKernelIdeal.main_arg2))
      ∧ θ_run (Cert.GconvReferenceIdeal.defs (F := Ideal)) (onTc (τ := Cert.GconvReferenceIdeal.τ) (Cert.GconvReferenceIdeal.main (F := Ideal))) ⟨m', fun _ => 0, g'⟩ (fun r => ∀ c : Dev Cert.GconvReferenceIdeal.nD,
          r.2.mem ((c.tc : Thread Cert.GconvReferenceIdeal.nD Cert.GconvReferenceIdeal.τ).loc Cert.GconvReferenceIdeal.main_v80) = v0 c
          ∧ r.2.mem ((c.tc : Thread Cert.GconvReferenceIdeal.nD Cert.GconvReferenceIdeal.τ).loc Cert.GconvReferenceIdeal.main_v74) = v1 c
          ∧ r.2.mem ((c.tc : Thread Cert.GconvReferenceIdeal.nD Cert.GconvReferenceIdeal.τ).loc Cert.GconvReferenceIdeal.main_arg0) = m' ((c.tc : Thread Cert.GconvReferenceIdeal.nD Cert.GconvReferenceIdeal.τ).loc Cert.GconvReferenceIdeal.main_arg0)
          ∧ r.2.mem ((c.tc : Thread Cert.GconvReferenceIdeal.nD Cert.GconvReferenceIdeal.τ).loc Cert.GconvReferenceIdeal.main_arg1) = m' ((c.tc : Thread Cert.GconvReferenceIdeal.nD Cert.GconvReferenceIdeal.τ).loc Cert.GconvReferenceIdeal.main_arg1)
          ∧ r.2.mem ((c.tc : Thread Cert.GconvReferenceIdeal.nD Cert.GconvReferenceIdeal.τ).loc Cert.GconvReferenceIdeal.main_arg2) = m' ((c.tc : Thread Cert.GconvReferenceIdeal.nD Cert.GconvReferenceIdeal.τ).loc Cert.GconvReferenceIdeal.main_arg2))

def preserves_SsdfKernel_SsdfKernelIdeal : Prop :=
  True

def algebraic_SsdfKernelIdeal_SsdfReferenceIdeal_pre_ssd_finite [hSsdfKernelIdeal : Cert.SsdfKernelIdeal.Facts] [hSsdfReferenceIdeal : Cert.SsdfReferenceIdeal.Facts] [hPre_ssd_finite : Cert.Pre_ssd_finite.Facts] : Prop :=
  ∀ (m : (ℓ : Loc Cert.SsdfKernelIdeal.nD Cert.SsdfKernelIdeal.τ Cert.SsdfKernelIdeal.sig) → Buf (Elt Ideal) ℓ) (g : Dev Cert.SsdfKernelIdeal.nD → PrngReg)
    (m' : (ℓ : Loc Cert.SsdfReferenceIdeal.nD Cert.SsdfReferenceIdeal.τ Cert.SsdfReferenceIdeal.sig) → Buf (Elt Ideal) ℓ) (g' : Dev Cert.SsdfReferenceIdeal.nD → PrngReg), Pre_SsdfKernelIdeal_ssd_finite m →
    (∀ c : Dev Cert.SsdfKernelIdeal.nD,
      m' ((c.tc : Thread Cert.SsdfReferenceIdeal.nD Cert.SsdfReferenceIdeal.τ).loc Cert.SsdfReferenceIdeal.main_arg0) = m ((c.tc : Thread Cert.SsdfKernelIdeal.nD Cert.SsdfKernelIdeal.τ).loc Cert.SsdfKernelIdeal.main_arg0)
      ∧ m' ((c.tc : Thread Cert.SsdfReferenceIdeal.nD Cert.SsdfReferenceIdeal.τ).loc Cert.SsdfReferenceIdeal.main_arg1) = m ((c.tc : Thread Cert.SsdfKernelIdeal.nD Cert.SsdfKernelIdeal.τ).loc Cert.SsdfKernelIdeal.main_arg1)
      ∧ m' ((c.tc : Thread Cert.SsdfReferenceIdeal.nD Cert.SsdfReferenceIdeal.τ).loc Cert.SsdfReferenceIdeal.main_arg2) = m ((c.tc : Thread Cert.SsdfKernelIdeal.nD Cert.SsdfKernelIdeal.τ).loc Cert.SsdfKernelIdeal.main_arg2)
      ∧ m' ((c.tc : Thread Cert.SsdfReferenceIdeal.nD Cert.SsdfReferenceIdeal.τ).loc Cert.SsdfReferenceIdeal.main_arg3) = m ((c.tc : Thread Cert.SsdfKernelIdeal.nD Cert.SsdfKernelIdeal.τ).loc Cert.SsdfKernelIdeal.main_arg3)
      ∧ m' ((c.tc : Thread Cert.SsdfReferenceIdeal.nD Cert.SsdfReferenceIdeal.τ).loc Cert.SsdfReferenceIdeal.main_arg4) = m ((c.tc : Thread Cert.SsdfKernelIdeal.nD Cert.SsdfKernelIdeal.τ).loc Cert.SsdfKernelIdeal.main_arg4)
      ∧ m' ((c.tc : Thread Cert.SsdfReferenceIdeal.nD Cert.SsdfReferenceIdeal.τ).loc Cert.SsdfReferenceIdeal.main_arg5) = m ((c.tc : Thread Cert.SsdfKernelIdeal.nD Cert.SsdfKernelIdeal.τ).loc Cert.SsdfKernelIdeal.main_arg5)) →
    ∃ (v0 : (c : Dev Cert.SsdfKernelIdeal.nD) → Buf (Elt Ideal) ((c.tc : Thread Cert.SsdfKernelIdeal.nD Cert.SsdfKernelIdeal.τ).loc Cert.SsdfKernelIdeal.main_v27_0)) (v1 : (c : Dev Cert.SsdfKernelIdeal.nD) → Buf (Elt Ideal) ((c.tc : Thread Cert.SsdfKernelIdeal.nD Cert.SsdfKernelIdeal.τ).loc Cert.SsdfKernelIdeal.main_v27_1)),
      θ_run (Cert.SsdfKernelIdeal.defs (F := Ideal)) (onTc (τ := Cert.SsdfKernelIdeal.τ) (Cert.SsdfKernelIdeal.main (F := Ideal))) ⟨m, fun _ => 0, g⟩ (fun r => ∀ c : Dev Cert.SsdfKernelIdeal.nD,
          r.2.mem ((c.tc : Thread Cert.SsdfKernelIdeal.nD Cert.SsdfKernelIdeal.τ).loc Cert.SsdfKernelIdeal.main_v27_0) = v0 c
          ∧ r.2.mem ((c.tc : Thread Cert.SsdfKernelIdeal.nD Cert.SsdfKernelIdeal.τ).loc Cert.SsdfKernelIdeal.main_v27_1) = v1 c
          ∧ r.2.mem ((c.tc : Thread Cert.SsdfKernelIdeal.nD Cert.SsdfKernelIdeal.τ).loc Cert.SsdfKernelIdeal.main_arg0) = m ((c.tc : Thread Cert.SsdfKernelIdeal.nD Cert.SsdfKernelIdeal.τ).loc Cert.SsdfKernelIdeal.main_arg0)
          ∧ r.2.mem ((c.tc : Thread Cert.SsdfKernelIdeal.nD Cert.SsdfKernelIdeal.τ).loc Cert.SsdfKernelIdeal.main_arg1) = m ((c.tc : Thread Cert.SsdfKernelIdeal.nD Cert.SsdfKernelIdeal.τ).loc Cert.SsdfKernelIdeal.main_arg1)
          ∧ r.2.mem ((c.tc : Thread Cert.SsdfKernelIdeal.nD Cert.SsdfKernelIdeal.τ).loc Cert.SsdfKernelIdeal.main_arg2) = m ((c.tc : Thread Cert.SsdfKernelIdeal.nD Cert.SsdfKernelIdeal.τ).loc Cert.SsdfKernelIdeal.main_arg2)
          ∧ r.2.mem ((c.tc : Thread Cert.SsdfKernelIdeal.nD Cert.SsdfKernelIdeal.τ).loc Cert.SsdfKernelIdeal.main_arg3) = m ((c.tc : Thread Cert.SsdfKernelIdeal.nD Cert.SsdfKernelIdeal.τ).loc Cert.SsdfKernelIdeal.main_arg3)
          ∧ r.2.mem ((c.tc : Thread Cert.SsdfKernelIdeal.nD Cert.SsdfKernelIdeal.τ).loc Cert.SsdfKernelIdeal.main_arg4) = m ((c.tc : Thread Cert.SsdfKernelIdeal.nD Cert.SsdfKernelIdeal.τ).loc Cert.SsdfKernelIdeal.main_arg4)
          ∧ r.2.mem ((c.tc : Thread Cert.SsdfKernelIdeal.nD Cert.SsdfKernelIdeal.τ).loc Cert.SsdfKernelIdeal.main_arg5) = m ((c.tc : Thread Cert.SsdfKernelIdeal.nD Cert.SsdfKernelIdeal.τ).loc Cert.SsdfKernelIdeal.main_arg5))
      ∧ θ_run (Cert.SsdfReferenceIdeal.defs (F := Ideal)) (onTc (τ := Cert.SsdfReferenceIdeal.τ) (Cert.SsdfReferenceIdeal.main (F := Ideal))) ⟨m', fun _ => 0, g'⟩ (fun r => ∀ c : Dev Cert.SsdfReferenceIdeal.nD,
          r.2.mem ((c.tc : Thread Cert.SsdfReferenceIdeal.nD Cert.SsdfReferenceIdeal.τ).loc Cert.SsdfReferenceIdeal.main_v93) = v0 c
          ∧ r.2.mem ((c.tc : Thread Cert.SsdfReferenceIdeal.nD Cert.SsdfReferenceIdeal.τ).loc Cert.SsdfReferenceIdeal.main_v94) = v1 c
          ∧ r.2.mem ((c.tc : Thread Cert.SsdfReferenceIdeal.nD Cert.SsdfReferenceIdeal.τ).loc Cert.SsdfReferenceIdeal.main_arg0) = m' ((c.tc : Thread Cert.SsdfReferenceIdeal.nD Cert.SsdfReferenceIdeal.τ).loc Cert.SsdfReferenceIdeal.main_arg0)
          ∧ r.2.mem ((c.tc : Thread Cert.SsdfReferenceIdeal.nD Cert.SsdfReferenceIdeal.τ).loc Cert.SsdfReferenceIdeal.main_arg1) = m' ((c.tc : Thread Cert.SsdfReferenceIdeal.nD Cert.SsdfReferenceIdeal.τ).loc Cert.SsdfReferenceIdeal.main_arg1)
          ∧ r.2.mem ((c.tc : Thread Cert.SsdfReferenceIdeal.nD Cert.SsdfReferenceIdeal.τ).loc Cert.SsdfReferenceIdeal.main_arg2) = m' ((c.tc : Thread Cert.SsdfReferenceIdeal.nD Cert.SsdfReferenceIdeal.τ).loc Cert.SsdfReferenceIdeal.main_arg2)
          ∧ r.2.mem ((c.tc : Thread Cert.SsdfReferenceIdeal.nD Cert.SsdfReferenceIdeal.τ).loc Cert.SsdfReferenceIdeal.main_arg3) = m' ((c.tc : Thread Cert.SsdfReferenceIdeal.nD Cert.SsdfReferenceIdeal.τ).loc Cert.SsdfReferenceIdeal.main_arg3)
          ∧ r.2.mem ((c.tc : Thread Cert.SsdfReferenceIdeal.nD Cert.SsdfReferenceIdeal.τ).loc Cert.SsdfReferenceIdeal.main_arg4) = m' ((c.tc : Thread Cert.SsdfReferenceIdeal.nD Cert.SsdfReferenceIdeal.τ).loc Cert.SsdfReferenceIdeal.main_arg4)
          ∧ r.2.mem ((c.tc : Thread Cert.SsdfReferenceIdeal.nD Cert.SsdfReferenceIdeal.τ).loc Cert.SsdfReferenceIdeal.main_arg5) = m' ((c.tc : Thread Cert.SsdfReferenceIdeal.nD Cert.SsdfReferenceIdeal.τ).loc Cert.SsdfReferenceIdeal.main_arg5))

def preserves_SsdbKernel_SsdbKernelIdeal : Prop :=
  True

def preserves_GdnbKernel_GdnbKernelIdeal : Prop :=
  True

def preserves_GdnfKernel_GdnfKernelIdeal : Prop :=
  True

def preserves_NnKernel_NnKernelIdeal : Prop :=
  True

def algebraic_NnKernelIdeal_NnReferenceIdeal [hNnKernelIdeal : Cert.NnKernelIdeal.Facts] [hNnReferenceIdeal : Cert.NnReferenceIdeal.Facts] : Prop :=
  ∀ (m : (ℓ : Loc Cert.NnKernelIdeal.nD Cert.NnKernelIdeal.τ Cert.NnKernelIdeal.sig) → Buf (Elt Ideal) ℓ) (g : Dev Cert.NnKernelIdeal.nD → PrngReg)
    (m' : (ℓ : Loc Cert.NnReferenceIdeal.nD Cert.NnReferenceIdeal.τ Cert.NnReferenceIdeal.sig) → Buf (Elt Ideal) ℓ) (g' : Dev Cert.NnReferenceIdeal.nD → PrngReg), Pre_NnKernelIdeal m →
    (∀ c : Dev Cert.NnKernelIdeal.nD,
      m' ((c.tc : Thread Cert.NnReferenceIdeal.nD Cert.NnReferenceIdeal.τ).loc Cert.NnReferenceIdeal.main_arg0) = m ((c.tc : Thread Cert.NnKernelIdeal.nD Cert.NnKernelIdeal.τ).loc Cert.NnKernelIdeal.main_arg0)
      ∧ m' ((c.tc : Thread Cert.NnReferenceIdeal.nD Cert.NnReferenceIdeal.τ).loc Cert.NnReferenceIdeal.main_arg1) = m ((c.tc : Thread Cert.NnKernelIdeal.nD Cert.NnKernelIdeal.τ).loc Cert.NnKernelIdeal.main_arg1)
      ∧ m' ((c.tc : Thread Cert.NnReferenceIdeal.nD Cert.NnReferenceIdeal.τ).loc Cert.NnReferenceIdeal.main_arg2) = m ((c.tc : Thread Cert.NnKernelIdeal.nD Cert.NnKernelIdeal.τ).loc Cert.NnKernelIdeal.main_arg2)) →
    ∃ (v0 : (c : Dev Cert.NnKernelIdeal.nD) → Buf (Elt Ideal) ((c.tc : Thread Cert.NnKernelIdeal.nD Cert.NnKernelIdeal.τ).loc Cert.NnKernelIdeal.main_v9)),
      θ_run (Cert.NnKernelIdeal.defs (F := Ideal)) (onTc (τ := Cert.NnKernelIdeal.τ) (Cert.NnKernelIdeal.main (F := Ideal))) ⟨m, fun _ => 0, g⟩ (fun r => ∀ c : Dev Cert.NnKernelIdeal.nD,
          r.2.mem ((c.tc : Thread Cert.NnKernelIdeal.nD Cert.NnKernelIdeal.τ).loc Cert.NnKernelIdeal.main_v9) = v0 c
          ∧ r.2.mem ((c.tc : Thread Cert.NnKernelIdeal.nD Cert.NnKernelIdeal.τ).loc Cert.NnKernelIdeal.main_arg0) = m ((c.tc : Thread Cert.NnKernelIdeal.nD Cert.NnKernelIdeal.τ).loc Cert.NnKernelIdeal.main_arg0)
          ∧ r.2.mem ((c.tc : Thread Cert.NnKernelIdeal.nD Cert.NnKernelIdeal.τ).loc Cert.NnKernelIdeal.main_arg1) = m ((c.tc : Thread Cert.NnKernelIdeal.nD Cert.NnKernelIdeal.τ).loc Cert.NnKernelIdeal.main_arg1)
          ∧ r.2.mem ((c.tc : Thread Cert.NnKernelIdeal.nD Cert.NnKernelIdeal.τ).loc Cert.NnKernelIdeal.main_arg2) = m ((c.tc : Thread Cert.NnKernelIdeal.nD Cert.NnKernelIdeal.τ).loc Cert.NnKernelIdeal.main_arg2))
      ∧ θ_run (Cert.NnReferenceIdeal.defs (F := Ideal)) (onTc (τ := Cert.NnReferenceIdeal.τ) (Cert.NnReferenceIdeal.main (F := Ideal))) ⟨m', fun _ => 0, g'⟩ (fun r => ∀ c : Dev Cert.NnReferenceIdeal.nD,
          r.2.mem ((c.tc : Thread Cert.NnReferenceIdeal.nD Cert.NnReferenceIdeal.τ).loc Cert.NnReferenceIdeal.main_v10) = v0 c
          ∧ r.2.mem ((c.tc : Thread Cert.NnReferenceIdeal.nD Cert.NnReferenceIdeal.τ).loc Cert.NnReferenceIdeal.main_arg0) = m' ((c.tc : Thread Cert.NnReferenceIdeal.nD Cert.NnReferenceIdeal.τ).loc Cert.NnReferenceIdeal.main_arg0)
          ∧ r.2.mem ((c.tc : Thread Cert.NnReferenceIdeal.nD Cert.NnReferenceIdeal.τ).loc Cert.NnReferenceIdeal.main_arg1) = m' ((c.tc : Thread Cert.NnReferenceIdeal.nD Cert.NnReferenceIdeal.τ).loc Cert.NnReferenceIdeal.main_arg1)
          ∧ r.2.mem ((c.tc : Thread Cert.NnReferenceIdeal.nD Cert.NnReferenceIdeal.τ).loc Cert.NnReferenceIdeal.main_arg2) = m' ((c.tc : Thread Cert.NnReferenceIdeal.nD Cert.NnReferenceIdeal.τ).loc Cert.NnReferenceIdeal.main_arg2))

def preserves_NtKernel_NtKernelIdeal : Prop :=
  True

def algebraic_NtKernelIdeal_NtReferenceIdeal [hNtKernelIdeal : Cert.NtKernelIdeal.Facts] [hNtReferenceIdeal : Cert.NtReferenceIdeal.Facts] : Prop :=
  ∀ (m : (ℓ : Loc Cert.NtKernelIdeal.nD Cert.NtKernelIdeal.τ Cert.NtKernelIdeal.sig) → Buf (Elt Ideal) ℓ) (g : Dev Cert.NtKernelIdeal.nD → PrngReg)
    (m' : (ℓ : Loc Cert.NtReferenceIdeal.nD Cert.NtReferenceIdeal.τ Cert.NtReferenceIdeal.sig) → Buf (Elt Ideal) ℓ) (g' : Dev Cert.NtReferenceIdeal.nD → PrngReg), Pre_NtKernelIdeal m →
    (∀ c : Dev Cert.NtKernelIdeal.nD,
      m' ((c.tc : Thread Cert.NtReferenceIdeal.nD Cert.NtReferenceIdeal.τ).loc Cert.NtReferenceIdeal.main_arg0) = m ((c.tc : Thread Cert.NtKernelIdeal.nD Cert.NtKernelIdeal.τ).loc Cert.NtKernelIdeal.main_arg0)
      ∧ m' ((c.tc : Thread Cert.NtReferenceIdeal.nD Cert.NtReferenceIdeal.τ).loc Cert.NtReferenceIdeal.main_arg1) = m ((c.tc : Thread Cert.NtKernelIdeal.nD Cert.NtKernelIdeal.τ).loc Cert.NtKernelIdeal.main_arg1)) →
    ∃ (v0 : (c : Dev Cert.NtKernelIdeal.nD) → Buf (Elt Ideal) ((c.tc : Thread Cert.NtKernelIdeal.nD Cert.NtKernelIdeal.τ).loc Cert.NtKernelIdeal.main_v20)),
      θ_run (Cert.NtKernelIdeal.defs (F := Ideal)) (onTc (τ := Cert.NtKernelIdeal.τ) (Cert.NtKernelIdeal.main (F := Ideal))) ⟨m, fun _ => 0, g⟩ (fun r => ∀ c : Dev Cert.NtKernelIdeal.nD,
          r.2.mem ((c.tc : Thread Cert.NtKernelIdeal.nD Cert.NtKernelIdeal.τ).loc Cert.NtKernelIdeal.main_v20) = v0 c
          ∧ r.2.mem ((c.tc : Thread Cert.NtKernelIdeal.nD Cert.NtKernelIdeal.τ).loc Cert.NtKernelIdeal.main_arg0) = m ((c.tc : Thread Cert.NtKernelIdeal.nD Cert.NtKernelIdeal.τ).loc Cert.NtKernelIdeal.main_arg0)
          ∧ r.2.mem ((c.tc : Thread Cert.NtKernelIdeal.nD Cert.NtKernelIdeal.τ).loc Cert.NtKernelIdeal.main_arg1) = m ((c.tc : Thread Cert.NtKernelIdeal.nD Cert.NtKernelIdeal.τ).loc Cert.NtKernelIdeal.main_arg1))
      ∧ θ_run (Cert.NtReferenceIdeal.defs (F := Ideal)) (onTc (τ := Cert.NtReferenceIdeal.τ) (Cert.NtReferenceIdeal.main (F := Ideal))) ⟨m', fun _ => 0, g'⟩ (fun r => ∀ c : Dev Cert.NtReferenceIdeal.nD,
          r.2.mem ((c.tc : Thread Cert.NtReferenceIdeal.nD Cert.NtReferenceIdeal.τ).loc Cert.NtReferenceIdeal.main_v1) = v0 c
          ∧ r.2.mem ((c.tc : Thread Cert.NtReferenceIdeal.nD Cert.NtReferenceIdeal.τ).loc Cert.NtReferenceIdeal.main_arg0) = m' ((c.tc : Thread Cert.NtReferenceIdeal.nD Cert.NtReferenceIdeal.τ).loc Cert.NtReferenceIdeal.main_arg0)
          ∧ r.2.mem ((c.tc : Thread Cert.NtReferenceIdeal.nD Cert.NtReferenceIdeal.τ).loc Cert.NtReferenceIdeal.main_arg1) = m' ((c.tc : Thread Cert.NtReferenceIdeal.nD Cert.NtReferenceIdeal.τ).loc Cert.NtReferenceIdeal.main_arg1))

def preserves_TnKernel_TnKernelIdeal : Prop :=
  True

def algebraic_TnKernelIdeal_TnReferenceIdeal [hTnKernelIdeal : Cert.TnKernelIdeal.Facts] [hTnReferenceIdeal : Cert.TnReferenceIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg)
    (m' : (ℓ : Loc Cert.TnReferenceIdeal.nD Cert.TnReferenceIdeal.τ Cert.TnReferenceIdeal.sig) → Buf (Elt Ideal) ℓ) (g' : Dev Cert.TnReferenceIdeal.nD → PrngReg), Pre_TnKernelIdeal m →
    (∀ c : Dev Cert.TnKernelIdeal.nD,
      m' ((c.tc : Thread Cert.TnReferenceIdeal.nD Cert.TnReferenceIdeal.τ).loc Cert.TnReferenceIdeal.main_arg0) = m ((c.tc : Thread Cert.TnKernelIdeal.nD Cert.TnKernelIdeal.τ).loc Cert.TnKernelIdeal.main_arg0)
      ∧ m' ((c.tc : Thread Cert.TnReferenceIdeal.nD Cert.TnReferenceIdeal.τ).loc Cert.TnReferenceIdeal.main_arg1) = m ((c.tc : Thread Cert.TnKernelIdeal.nD Cert.TnKernelIdeal.τ).loc Cert.TnKernelIdeal.main_arg1)) →
    ∃ (v0 : (c : Dev Cert.TnKernelIdeal.nD) → Buf (Elt Ideal) ((c.tc : Thread Cert.TnKernelIdeal.nD Cert.TnKernelIdeal.τ).loc Cert.TnKernelIdeal.main_v2)),
      θ_run (Cert.TnKernelIdeal.defs (F := Ideal)) (onTc (τ := Cert.TnKernelIdeal.τ) (Cert.TnKernelIdeal.main (F := Ideal))) ⟨m, fun _ => 0, g⟩ (fun r => ∀ c : Dev Cert.TnKernelIdeal.nD,
          r.2.mem ((c.tc : Thread Cert.TnKernelIdeal.nD Cert.TnKernelIdeal.τ).loc Cert.TnKernelIdeal.main_v2) = v0 c
          ∧ r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
          ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1))
      ∧ θ_run (Cert.TnReferenceIdeal.defs (F := Ideal)) (onTc (τ := Cert.TnReferenceIdeal.τ) (Cert.TnReferenceIdeal.main (F := Ideal))) ⟨m', fun _ => 0, g'⟩ (fun r => ∀ c : Dev Cert.TnReferenceIdeal.nD,
          r.2.mem ((c.tc : Thread Cert.TnReferenceIdeal.nD Cert.TnReferenceIdeal.τ).loc Cert.TnReferenceIdeal.main_v1) = v0 c
          ∧ r.2.mem ((c.tc : Thread Cert.TnReferenceIdeal.nD Cert.TnReferenceIdeal.τ).loc Cert.TnReferenceIdeal.main_arg0) = m' ((c.tc : Thread Cert.TnReferenceIdeal.nD Cert.TnReferenceIdeal.τ).loc Cert.TnReferenceIdeal.main_arg0)
          ∧ r.2.mem ((c.tc : Thread Cert.TnReferenceIdeal.nD Cert.TnReferenceIdeal.τ).loc Cert.TnReferenceIdeal.main_arg1) = m' ((c.tc : Thread Cert.TnReferenceIdeal.nD Cert.TnReferenceIdeal.τ).loc Cert.TnReferenceIdeal.main_arg1))

def preserves_SumKernel_SumKernelIdeal : Prop :=
  True

def algebraic_SumKernelIdeal_SumReferenceIdeal [hSumKernelIdeal : Cert.SumKernelIdeal.Facts] [hSumReferenceIdeal : Cert.SumReferenceIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumKernelIdeal m →
    (∀ c : Dev Cert.SumKernelIdeal.nD,
      m' ((c.tc : Thread Cert.SumReferenceIdeal.nD Cert.SumReferenceIdeal.τ).loc Cert.SumReferenceIdeal.main_arg0) = m ((c.tc : Thread Cert.SumKernelIdeal.nD Cert.SumKernelIdeal.τ).loc Cert.SumKernelIdeal.main_arg0)) →
    ∃ (v0 : (c : Dev Cert.SumKernelIdeal.nD) → Buf (Elt Ideal) ((c.tc : Thread Cert.SumKernelIdeal.nD Cert.SumKernelIdeal.τ).loc Cert.SumKernelIdeal.main_v0)),
      θ_run (Cert.SumKernelIdeal.defs (F := Ideal)) (onTc (τ := Cert.SumKernelIdeal.τ) (Cert.SumKernelIdeal.main (F := Ideal))) ⟨m, fun _ => 0, g⟩ (fun r => ∀ c : Dev Cert.SumKernelIdeal.nD,
          r.2.mem ((c.tc : Thread Cert.SumKernelIdeal.nD Cert.SumKernelIdeal.τ).loc Cert.SumKernelIdeal.main_v0) = v0 c
          ∧ r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v0) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v4_0)) (v1 : (c : Dev Cert.AdamKernelIdeal.nD) → Buf (Elt Ideal) ((c.tc : Thread Cert.AdamKernelIdeal.nD Cert.AdamKernelIdeal.τ).loc Cert.AdamKernelIdeal.main_v4_1)) (v2 : (c : Dev Cert.AdamKernelIdeal.nD) → Buf (Elt Ideal) ((c.tc : Thread Cert.AdamKernelIdeal.nD Cert.AdamKernelIdeal.τ).loc Cert.AdamKernelIdeal.main_v4_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v4_0) = v0 c
          ∧ r.2.mem ((c.tc : Thread Cert.AdamKernelIdeal.nD Cert.AdamKernelIdeal.τ).loc Cert.AdamKernelIdeal.main_v4_1) = v1 c
          ∧ r.2.mem ((c.tc : Thread Cert.AdamKernelIdeal.nD Cert.AdamKernelIdeal.τ).loc Cert.AdamKernelIdeal.main_v4_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v24) = v0 c
          ∧ r.2.mem ((c.tc : Thread Cert.AdamReferenceIdeal.nD Cert.AdamReferenceIdeal.τ).loc Cert.AdamReferenceIdeal.main_v25) = v1 c
          ∧ r.2.mem ((c.tc : Thread Cert.AdamReferenceIdeal.nD Cert.AdamReferenceIdeal.τ).loc Cert.AdamReferenceIdeal.main_v26) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def Claim : Prop :=
  ∃ (hConvKernel : Cert.ConvKernel.Facts) (hConvKernelIdeal : Cert.ConvKernelIdeal.Facts) (hConvReferenceIdeal : Cert.ConvReferenceIdeal.Facts) (hFfKernel : Cert.FfKernel.Facts) (hFfKernelIdeal : Cert.FfKernelIdeal.Facts) (hFfReferenceIdeal : Cert.FfReferenceIdeal.Facts) (hPnKernel : Cert.PnKernel.Facts) (hPnKernelIdeal : Cert.PnKernelIdeal.Facts) (hPnReferenceIdeal : Cert.PnReferenceIdeal.Facts) (hRnKernel : Cert.RnKernel.Facts) (hRnKernelIdeal : Cert.RnKernelIdeal.Facts) (hRnReferenceIdeal : Cert.RnReferenceIdeal.Facts) (hRlKernel : Cert.RlKernel.Facts) (hRlKernelIdeal : Cert.RlKernelIdeal.Facts) (hRlReferenceIdeal : Cert.RlReferenceIdeal.Facts) (hSwaKernel : Cert.SwaKernel.Facts) (hSwaKernelIdeal : Cert.SwaKernelIdeal.Facts) (hSwaReferenceIdeal : Cert.SwaReferenceIdeal.Facts) (hSwafKernel : Cert.SwafKernel.Facts) (hSwafKernelIdeal : Cert.SwafKernelIdeal.Facts) (hSwafReferenceIdeal : Cert.SwafReferenceIdeal.Facts) (hPnfKernel : Cert.PnfKernel.Facts) (hPnfKernelIdeal : Cert.PnfKernelIdeal.Facts) (hPnfReferenceIdeal : Cert.PnfReferenceIdeal.Facts) (hRnfKernel : Cert.RnfKernel.Facts) (hRnfKernelIdeal : Cert.RnfKernelIdeal.Facts) (hRnfReferenceIdeal : Cert.RnfReferenceIdeal.Facts) (hUpKernel : Cert.UpKernel.Facts) (hUpKernelIdeal : Cert.UpKernelIdeal.Facts) (hUpReferenceIdeal : Cert.UpReferenceIdeal.Facts) (hConvfKernel : Cert.ConvfKernel.Facts) (hConvfKernelIdeal : Cert.ConvfKernelIdeal.Facts) (hConvfReferenceIdeal : Cert.ConvfReferenceIdeal.Facts) (hGconvfKernel : Cert.GconvfKernel.Facts) (hGconvfKernelIdeal : Cert.GconvfKernelIdeal.Facts) (hGconvfReferenceIdeal : Cert.GconvfReferenceIdeal.Facts) (hGconvKernel : Cert.GconvKernel.Facts) (hGconvKernelIdeal : Cert.GconvKernelIdeal.Facts) (hGconvReferenceIdeal : Cert.GconvReferenceIdeal.Facts) (hSsdfKernel : Cert.SsdfKernel.Facts) (hSsdfKernelIdeal : Cert.SsdfKernelIdeal.Facts) (hSsdfReferenceIdeal : Cert.SsdfReferenceIdeal.Facts) (hSsdbKernel : Cert.SsdbKernel.Facts) (hSsdbKernelIdeal : Cert.SsdbKernelIdeal.Facts) (hGdnbKernel : Cert.GdnbKernel.Facts) (hGdnbKernelIdeal : Cert.GdnbKernelIdeal.Facts) (hGdnfKernel : Cert.GdnfKernel.Facts) (hGdnfKernelIdeal : Cert.GdnfKernelIdeal.Facts) (hNnKernel : Cert.NnKernel.Facts) (hNnKernelIdeal : Cert.NnKernelIdeal.Facts) (hNnReferenceIdeal : Cert.NnReferenceIdeal.Facts) (hNtKernel : Cert.NtKernel.Facts) (hNtKernelIdeal : Cert.NtKernelIdeal.Facts) (hNtReferenceIdeal : Cert.NtReferenceIdeal.Facts) (hTnKernel : Cert.TnKernel.Facts) (hTnKernelIdeal : Cert.TnKernelIdeal.Facts) (hTnReferenceIdeal : Cert.TnReferenceIdeal.Facts) (hSumKernel : Cert.SumKernel.Facts) (hSumKernelIdeal : Cert.SumKernelIdeal.Facts) (hSumReferenceIdeal : Cert.SumReferenceIdeal.Facts) (hAdamKernel : Cert.AdamKernel.Facts) (hAdamKernelIdeal : Cert.AdamKernelIdeal.Facts) (hAdamReferenceIdeal : Cert.AdamReferenceIdeal.Facts) (hPre_ct_finite : Cert.Pre_ct_finite.Facts) (hPre_swa_finite : Cert.Pre_swa_finite.Facts) (hPre_proj_finite : Cert.Pre_proj_finite.Facts) (hPre_gct_finite : Cert.Pre_gct_finite.Facts) (hPre_ssd_finite : Cert.Pre_ssd_finite.Facts),
    quiescent_ConvKernel (hConvKernel := hConvKernel)
    ∧ quiescent_ConvKernelIdeal (hConvKernelIdeal := hConvKernelIdeal)
    ∧ quiescent_ConvKernelIdeal_pre_ct_finite (hConvKernelIdeal := hConvKernelIdeal) (hPre_ct_finite := hPre_ct_finite)
    ∧ quiescent_ConvReferenceIdeal (hConvReferenceIdeal := hConvReferenceIdeal)
    ∧ quiescent_ConvReferenceIdeal_pre_ct_finite (hConvReferenceIdeal := hConvReferenceIdeal) (hPre_ct_finite := hPre_ct_finite)
    ∧ quiescent_FfKernel (hFfKernel := hFfKernel)
    ∧ quiescent_FfKernelIdeal (hFfKernelIdeal := hFfKernelIdeal)
    ∧ quiescent_FfReferenceIdeal (hFfReferenceIdeal := hFfReferenceIdeal)
    ∧ quiescent_PnKernel (hPnKernel := hPnKernel)
    ∧ quiescent_PnKernelIdeal (hPnKernelIdeal := hPnKernelIdeal)
    ∧ quiescent_PnReferenceIdeal (hPnReferenceIdeal := hPnReferenceIdeal)
    ∧ quiescent_RnKernel (hRnKernel := hRnKernel)
    ∧ quiescent_RnKernelIdeal (hRnKernelIdeal := hRnKernelIdeal)
    ∧ quiescent_RnReferenceIdeal (hRnReferenceIdeal := hRnReferenceIdeal)
    ∧ quiescent_RlKernel (hRlKernel := hRlKernel)
    ∧ quiescent_RlKernelIdeal (hRlKernelIdeal := hRlKernelIdeal)
    ∧ quiescent_RlReferenceIdeal (hRlReferenceIdeal := hRlReferenceIdeal)
    ∧ quiescent_SwaKernel (hSwaKernel := hSwaKernel)
    ∧ quiescent_SwaKernelIdeal (hSwaKernelIdeal := hSwaKernelIdeal)
    ∧ quiescent_SwaKernelIdeal_pre_swa_finite (hSwaKernelIdeal := hSwaKernelIdeal) (hPre_swa_finite := hPre_swa_finite)
    ∧ quiescent_SwaReferenceIdeal (hSwaReferenceIdeal := hSwaReferenceIdeal)
    ∧ quiescent_SwaReferenceIdeal_pre_swa_finite (hSwaReferenceIdeal := hSwaReferenceIdeal) (hPre_swa_finite := hPre_swa_finite)
    ∧ quiescent_SwafKernel (hSwafKernel := hSwafKernel)
    ∧ quiescent_SwafKernelIdeal (hSwafKernelIdeal := hSwafKernelIdeal)
    ∧ quiescent_SwafKernelIdeal_pre_proj_finite (hSwafKernelIdeal := hSwafKernelIdeal) (hPre_proj_finite := hPre_proj_finite)
    ∧ quiescent_SwafReferenceIdeal (hSwafReferenceIdeal := hSwafReferenceIdeal)
    ∧ quiescent_SwafReferenceIdeal_pre_proj_finite (hSwafReferenceIdeal := hSwafReferenceIdeal) (hPre_proj_finite := hPre_proj_finite)
    ∧ quiescent_PnfKernel (hPnfKernel := hPnfKernel)
    ∧ quiescent_PnfKernelIdeal (hPnfKernelIdeal := hPnfKernelIdeal)
    ∧ quiescent_PnfReferenceIdeal (hPnfReferenceIdeal := hPnfReferenceIdeal)
    ∧ quiescent_RnfKernel (hRnfKernel := hRnfKernel)
    ∧ quiescent_RnfKernelIdeal (hRnfKernelIdeal := hRnfKernelIdeal)
    ∧ quiescent_RnfReferenceIdeal (hRnfReferenceIdeal := hRnfReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_ConvfKernel (hConvfKernel := hConvfKernel)
    ∧ quiescent_ConvfKernelIdeal (hConvfKernelIdeal := hConvfKernelIdeal)
    ∧ quiescent_ConvfReferenceIdeal (hConvfReferenceIdeal := hConvfReferenceIdeal)
    ∧ quiescent_GconvfKernel (hGconvfKernel := hGconvfKernel)
    ∧ quiescent_GconvfKernelIdeal (hGconvfKernelIdeal := hGconvfKernelIdeal)
    ∧ quiescent_GconvfReferenceIdeal (hGconvfReferenceIdeal := hGconvfReferenceIdeal)
    ∧ quiescent_GconvKernel (hGconvKernel := hGconvKernel)
    ∧ quiescent_GconvKernelIdeal (hGconvKernelIdeal := hGconvKernelIdeal)
    ∧ quiescent_GconvKernelIdeal_pre_gct_finite (hGconvKernelIdeal := hGconvKernelIdeal) (hPre_gct_finite := hPre_gct_finite)
    ∧ quiescent_GconvReferenceIdeal (hGconvReferenceIdeal := hGconvReferenceIdeal)
    ∧ quiescent_GconvReferenceIdeal_pre_gct_finite (hGconvReferenceIdeal := hGconvReferenceIdeal) (hPre_gct_finite := hPre_gct_finite)
    ∧ quiescent_SsdfKernel (hSsdfKernel := hSsdfKernel)
    ∧ quiescent_SsdfKernelIdeal (hSsdfKernelIdeal := hSsdfKernelIdeal)
    ∧ quiescent_SsdfKernelIdeal_pre_ssd_finite (hSsdfKernelIdeal := hSsdfKernelIdeal) (hPre_ssd_finite := hPre_ssd_finite)
    ∧ quiescent_SsdfReferenceIdeal (hSsdfReferenceIdeal := hSsdfReferenceIdeal)
    ∧ quiescent_SsdfReferenceIdeal_pre_ssd_finite (hSsdfReferenceIdeal := hSsdfReferenceIdeal) (hPre_ssd_finite := hPre_ssd_finite)
    ∧ quiescent_SsdbKernel (hSsdbKernel := hSsdbKernel)
    ∧ quiescent_SsdbKernelIdeal (hSsdbKernelIdeal := hSsdbKernelIdeal)
    ∧ quiescent_GdnbKernel (hGdnbKernel := hGdnbKernel)
    ∧ quiescent_GdnbKernelIdeal (hGdnbKernelIdeal := hGdnbKernelIdeal)
    ∧ quiescent_GdnfKernel (hGdnfKernel := hGdnfKernel)
    ∧ quiescent_GdnfKernelIdeal (hGdnfKernelIdeal := hGdnfKernelIdeal)
    ∧ quiescent_NnKernel (hNnKernel := hNnKernel)
    ∧ quiescent_NnKernelIdeal (hNnKernelIdeal := hNnKernelIdeal)
    ∧ quiescent_NnReferenceIdeal (hNnReferenceIdeal := hNnReferenceIdeal)
    ∧ quiescent_NtKernel (hNtKernel := hNtKernel)
    ∧ quiescent_NtKernelIdeal (hNtKernelIdeal := hNtKernelIdeal)
    ∧ quiescent_NtReferenceIdeal (hNtReferenceIdeal := hNtReferenceIdeal)
    ∧ quiescent_TnKernel (hTnKernel := hTnKernel)
    ∧ quiescent_TnKernelIdeal (hTnKernelIdeal := hTnKernelIdeal)
    ∧ quiescent_TnReferenceIdeal (hTnReferenceIdeal := hTnReferenceIdeal)
    ∧ quiescent_SumKernel (hSumKernel := hSumKernel)
    ∧ quiescent_SumKernelIdeal (hSumKernelIdeal := hSumKernelIdeal)
    ∧ quiescent_SumReferenceIdeal (hSumReferenceIdeal := hSumReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ preserves_ConvKernel_ConvKernelIdeal
    ∧ algebraic_ConvKernelIdeal_ConvReferenceIdeal_pre_ct_finite (hConvKernelIdeal := hConvKernelIdeal) (hConvReferenceIdeal := hConvReferenceIdeal) (hPre_ct_finite := hPre_ct_finite)
    ∧ preserves_FfKernel_FfKernelIdeal
    ∧ algebraic_FfKernelIdeal_FfReferenceIdeal (hFfKernelIdeal := hFfKernelIdeal) (hFfReferenceIdeal := hFfReferenceIdeal)
    ∧ preserves_PnKernel_PnKernelIdeal
    ∧ algebraic_PnKernelIdeal_PnReferenceIdeal (hPnKernelIdeal := hPnKernelIdeal) (hPnReferenceIdeal := hPnReferenceIdeal)
    ∧ preserves_RnKernel_RnKernelIdeal
    ∧ algebraic_RnKernelIdeal_RnReferenceIdeal (hRnKernelIdeal := hRnKernelIdeal) (hRnReferenceIdeal := hRnReferenceIdeal)
    ∧ preserves_RlKernel_RlKernelIdeal
    ∧ algebraic_RlKernelIdeal_RlReferenceIdeal (hRlKernelIdeal := hRlKernelIdeal) (hRlReferenceIdeal := hRlReferenceIdeal)
    ∧ preserves_SwaKernel_SwaKernelIdeal
    ∧ algebraic_SwaKernelIdeal_SwaReferenceIdeal_pre_swa_finite (hSwaKernelIdeal := hSwaKernelIdeal) (hSwaReferenceIdeal := hSwaReferenceIdeal) (hPre_swa_finite := hPre_swa_finite)
    ∧ preserves_SwafKernel_SwafKernelIdeal
    ∧ algebraic_SwafKernelIdeal_SwafReferenceIdeal_pre_proj_finite (hSwafKernelIdeal := hSwafKernelIdeal) (hSwafReferenceIdeal := hSwafReferenceIdeal) (hPre_proj_finite := hPre_proj_finite)
    ∧ preserves_PnfKernel_PnfKernelIdeal
    ∧ algebraic_PnfKernelIdeal_PnfReferenceIdeal (hPnfKernelIdeal := hPnfKernelIdeal) (hPnfReferenceIdeal := hPnfReferenceIdeal)
    ∧ preserves_RnfKernel_RnfKernelIdeal
    ∧ algebraic_RnfKernelIdeal_RnfReferenceIdeal (hRnfKernelIdeal := hRnfKernelIdeal) (hRnfReferenceIdeal := hRnfReferenceIdeal)
    ∧ preserves_UpKernel_UpKernelIdeal
    ∧ algebraic_UpKernelIdeal_UpReferenceIdeal (hUpKernelIdeal := hUpKernelIdeal) (hUpReferenceIdeal := hUpReferenceIdeal)
    ∧ preserves_ConvfKernel_ConvfKernelIdeal
    ∧ algebraic_ConvfKernelIdeal_ConvfReferenceIdeal (hConvfKernelIdeal := hConvfKernelIdeal) (hConvfReferenceIdeal := hConvfReferenceIdeal)
    ∧ preserves_GconvfKernel_GconvfKernelIdeal
    ∧ algebraic_GconvfKernelIdeal_GconvfReferenceIdeal (hGconvfKernelIdeal := hGconvfKernelIdeal) (hGconvfReferenceIdeal := hGconvfReferenceIdeal)
    ∧ preserves_GconvKernel_GconvKernelIdeal
    ∧ algebraic_GconvKernelIdeal_GconvReferenceIdeal_pre_gct_finite (hGconvKernelIdeal := hGconvKernelIdeal) (hGconvReferenceIdeal := hGconvReferenceIdeal) (hPre_gct_finite := hPre_gct_finite)
    ∧ preserves_SsdfKernel_SsdfKernelIdeal
    ∧ algebraic_SsdfKernelIdeal_SsdfReferenceIdeal_pre_ssd_finite (hSsdfKernelIdeal := hSsdfKernelIdeal) (hSsdfReferenceIdeal := hSsdfReferenceIdeal) (hPre_ssd_finite := hPre_ssd_finite)
    ∧ preserves_SsdbKernel_SsdbKernelIdeal
    ∧ preserves_GdnbKernel_GdnbKernelIdeal
    ∧ preserves_GdnfKernel_GdnfKernelIdeal
    ∧ preserves_NnKernel_NnKernelIdeal
    ∧ algebraic_NnKernelIdeal_NnReferenceIdeal (hNnKernelIdeal := hNnKernelIdeal) (hNnReferenceIdeal := hNnReferenceIdeal)
    ∧ preserves_NtKernel_NtKernelIdeal
    ∧ algebraic_NtKernelIdeal_NtReferenceIdeal (hNtKernelIdeal := hNtKernelIdeal) (hNtReferenceIdeal := hNtReferenceIdeal)
    ∧ preserves_TnKernel_TnKernelIdeal
    ∧ algebraic_TnKernelIdeal_TnReferenceIdeal (hTnKernelIdeal := hTnKernelIdeal) (hTnReferenceIdeal := hTnReferenceIdeal)
    ∧ preserves_SumKernel_SumKernelIdeal
    ∧ algebraic_SumKernelIdeal_SumReferenceIdeal (hSumKernelIdeal := hSumKernelIdeal) (hSumReferenceIdeal := hSumReferenceIdeal)
    ∧ preserves_AdamKernel_AdamKernelIdeal
    ∧ algebraic_AdamKernelIdeal_AdamReferenceIdeal (hAdamKernelIdeal := hAdamKernelIdeal) (hAdamReferenceIdeal := hAdamReferenceIdeal)
-- ==== Pre_ct_finite.lean ====
abbrev S4096x3088 : Shape := ⟨2, ![4096, 3088]⟩
abbrev S4x1024 : Shape := ⟨2, ![4, 1024]⟩
abbrev S1024 : Shape := ⟨1, ![1024]⟩
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x3088 .f32) (main_arg1 : FVec F S4x1024 .f32) (main_arg2 : FVec F S1024 .f32) (main_arg3 : FVec F S4096x1024 .f32) : IVec S4096x1024 1 :=
  let main_cst : FVec F S_ .f32 := constant S_ .f32 0x7F800000#32
  let main_v0 : FVec F S4096x1024 .f32 := broadcastInDim S4096x1024 ![] bcast_S_S4096x1024 main_cst
  let main_v1 : IVec S4096x1024 1 := cmpf .olt main_arg3 main_v0
  let main_cst_0 : FVec F S_ .f32 := constant S_ .f32 0xFF800000#32
  let main_v2 : FVec F S4096x1024 .f32 := broadcastInDim S4096x1024 ![] bcast_S_S4096x1024 main_cst_0
  let main_v3 : IVec S4096x1024 1 := cmpf .ogt main_arg3 main_v2
  let main_v4 : IVec S4096x1024 1 := andi main_v1 main_v3
  main_v4
-- ==== Pre_gct_finite.lean ====
abbrev S4096x3088 : Shape := ⟨2, ![4096, 3088]⟩
abbrev S4x768 : Shape := ⟨2, ![4, 768]⟩
abbrev S4096x768 : Shape := ⟨2, ![4096, 768]⟩
abbrev S_ : Shape := ⟨0, ![]⟩

class Facts : Prop where
  bcast_S_S4096x768 : S_.BroadcastsInDim S4096x768 (![] : Fin 0 → Fin S4096x768.rank)

variable [Facts]

def fn {F : FTy → Type} [FloatOps F] (main_arg0 : FVec F S4096x3088 .f32) (main_arg1 : FVec F S4x768 .f32) (main_arg2 : FVec F S4096x768 .f32) : IVec S4096x768 1 :=
  let main_cst : FVec F S_ .f32 := constant S_ .f32 0x7F800000#32
  let main_v0 : FVec F S4096x768 .f32 := broadcastInDim S4096x768 ![] bcast_S_S4096x768 main_cst
  let main_v1 : IVec S4096x768 1 := cmpf .olt main_arg2 main_v0
  let main_cst_0 : FVec F S_ .f32 := constant S_ .f32 0xFF800000#32
  let main_v2 : FVec F S4096x768 .f32 := broadcastInDim S4096x768 ![] bcast_S_S4096x768 main_cst_0
  let main_v3 : IVec S4096x768 1 := cmpf .ogt main_arg2 main_v2
  let main_v4 : IVec S4096x768 1 := andi main_v1 main_v3
  main_v4
-- ==== Pre_proj_finite.lean ====
abbrev S1x4096x3088 : Shape := ⟨3, ![1, 4096, 3088]⟩
abbrev S4 : Shape := ⟨1, ![4]⟩
abbrev S_ : Shape := ⟨0, ![]⟩

class Facts : Prop where
  bcast_S_S1x4096x3088 : S_.BroadcastsInDim S1x4096x3088 (![] : Fin 0 → Fin S1x4096x3088.rank)
  reducesTo_S1x4096x3088_S_d0_1_2 : S1x4096x3088.ReducesTo [0, 1, 2] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S1x4096x3088 .f32) (main_arg1 : FVec F S4 .f32) : IVec S_ 1 :=
  let main_cst : FVec F S_ .f32 := constant S_ .f32 0x7F800000#32
  let main_v0 : FVec F S1x4096x3088 .f32 := broadcastInDim S1x4096x3088 ![] bcast_S_S1x4096x3088 main_cst
  let main_v1 : IVec S1x4096x3088 1 := cmpf .olt main_arg0 main_v0
  let main_cst_0 : FVec F S_ .f32 := constant S_ .f32 0xFF800000#32
  let main_v2 : FVec F S1x4096x3088 .f32 := broadcastInDim S1x4096x3088 ![] bcast_S_S1x4096x3088 main_cst_0
  let main_v3 : IVec S1x4096x3088 1 := cmpf .ogt main_arg0 main_v2
  let main_v4 : IVec S1x4096x3088 1 := andi main_v1 main_v3
  let main_c : IVec S_ 1 := constantI S_ 1 1#1
  let main_v5 : IVec S_ 1 := (fun x v => Host.reduce IntOp.andi x v reducesTo_S1x4096x3088_S_d0_1_2 h_S_) main_v4 main_c
  let main_cst_1 : FVec F S_ .f32 := constant S_ .f32 0x7F800000#32
  let main_v6 : FVec F S4 .f32 := broadcastInDim S4 ![] bcast_S_S4 main_cst_1
  let main_v7 : IVec S4 1 := cmpf .olt main_arg1 main_v6
  let main_cst_2 : FVec F S_ .f32 := constant S_ .f32 0xFF800000#32
  let main_v8 : FVec F S4 .f32 := broadcastInDim S4 ![] bcast_S_S4 main_cst_2
  let main_v9 : IVec S4 1 := cmpf .ogt main_arg1 main_v8
  let main_v10 : IVec S4 1 := andi main_v7 main_v9
  let main_c_3 : IVec S_ 1 := constantI S_ 1 1#1
  let main_v11 : IVec S_ 1 := (fun x v => Host.reduce IntOp.andi x v reducesTo_S4_S_d0 h_S_) main_v10 main_c_3
  let main_v12 : IVec S_ 1 := andi main_v5 main_v11
  main_v12
-- ==== Pre_ssd_finite.lean ====
abbrev S1x4096x3088 : Shape := ⟨3, ![1, 4096, 3088]⟩
abbrev S1x4096x1024 : Shape := ⟨3, ![1, 4096, 1024]⟩
abbrev S8 : Shape := ⟨1, ![8]⟩
abbrev S512 : Shape := ⟨1, ![512]⟩
abbrev S_ : Shape := ⟨0, ![]⟩

class Facts : Prop where
  bcast_S_S1x4096x3088 : S_.BroadcastsInDim S1x4096x3088 (![] : Fin 0 → Fin S1x4096x3088.rank)
  reducesTo_S1x4096x3088_S_d0_1_2 : S1x4096x3088.ReducesTo [0, 1, 2] S_
  h_S_ : 0 < S_.numel
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_arg2 : FVec F S8 .f32) (main_arg3 : FVec F S8 .f32) (main_v12 : IVec S_ 1) (main_v14 : IVec S8 1) (main_v15 : FVec F S8 .f32) : IVec S_ 1 :=
  let main_v16 : IVec S8 1 := cmpf .ogt main_arg2 main_v15
  let main_v17 : IVec S8 1 := andi main_v14 main_v16
  let main_c_6 : IVec S_ 1 := constantI S_ 1 1#1
  let main_v18 : IVec S_ 1 := (fun x v => Host.reduce IntOp.andi x v reducesTo_S8_S_d0 h_S_) main_v17 main_c_6
  let main_v19 : IVec S_ 1 := andi main_v12 main_v18
  let main_cst_7 : FVec F S_ .f32 := constant S_ .f32 0x7F800000#32
  let main_v20 : FVec F S8 .f32 := broadcastInDim S8 ![] bcast_S_S8 main_cst_7
  let main_v21 : IVec S8 1 := cmpf .olt main_arg3 main_v20
  let main_cst_8 : FVec F S_ .f32 := constant S_ .f32 0xFF800000#32
  let main_v22 : FVec F S8 .f32 := broadcastInDim S8 ![] bcast_S_S8 main_cst_8
  let main_v23 : IVec S8 1 := cmpf .ogt main_arg3 main_v22
  let main_v24 : IVec S8 1 := andi main_v21 main_v23
  let main_c_9 : IVec S_ 1 := constantI S_ 1 1#1
  let main_v25 : IVec S_ 1 := (fun x v => Host.reduce IntOp.andi x v reducesTo_S8_S_d0 h_S_) main_v24 main_c_9
  let main_v26 : IVec S_ 1 := andi main_v19 main_v25
  main_v26

def fn {F : FTy → Type} [FloatOps F] (main_arg0 : FVec F S1x4096x3088 .f32) (main_arg1 : FVec F S1x4096x1024 .f32) (main_arg2 : FVec F S8 .f32) (main_arg3 : FVec F S8 .f32) (main_arg4 : FVec F S8 .f32) (main_arg5 : FVec F S512 .f32) : IVec S_ 1 :=
  let main_cst : FVec F S_ .f32 := constant S_ .f32 0x7F800000#32
  let main_v0 : FVec F S1x4096x3088 .f32 := broadcastInDim S1x4096x3088 ![] bcast_S_S1x4096x3088 main_cst
  let main_v1 : IVec S1x4096x3088 1 := cmpf .olt main_arg0 main_v0
  let main_cst_0 : FVec F S_ .f32 := constant S_ .f32 0xFF800000#32
  let main_v2 : FVec F S1x4096x3088 .f32 := broadcastInDim S1x4096x3088 ![] bcast_S_S1x4096x3088 main_cst_0
  let main_v3 : IVec S1x4096x3088 1 := cmpf .ogt main_arg0 main_v2
  let main_v4 : IVec S1x4096x3088 1 := andi main_v1 main_v3
  let main_c : IVec S_ 1 := constantI S_ 1 1#1
  let main_v5 : IVec S_ 1 := (fun x v => Host.reduce IntOp.andi x v reducesTo_S1x4096x3088_S_d0_1_2 h_S_) main_v4 main_c
  let main_cst_1 : FVec F S_ .f32 := constant S_ .f32 0x7F800000#32
  let main_v6 : FVec F S1x4096x1024 .f32 := broadcastInDim S1x4096x1024 ![] bcast_S_S1x4096x1024 main_cst_1
  let main_v7 : IVec S1x4096x1024 1 := cmpf .olt main_arg1 main_v6
  let main_cst_2 : FVec F S_ .f32 := constant S_ .f32 0xFF800000#32
  let main_v8 : FVec F S1x4096x1024 .f32 := broadcastInDim S1x4096x1024 ![] bcast_S_S1x4096x1024 main_cst_2
  let main_v9 : IVec S1x4096x1024 1 := cmpf .ogt main_arg1 main_v8
  let main_v10 : IVec S1x4096x1024 1 := andi main_v7 main_v9
  let main_c_3 : IVec S_ 1 := constantI S_ 1 1#1
  let main_v11 : IVec S_ 1 := (fun x v => Host.reduce IntOp.andi x v reducesTo_S1x4096x1024_S_d0_1_2 h_S_) main_v10 main_c_3
  let main_v12 : IVec S_ 1 := andi main_v5 main_v11
  let main_cst_4 : FVec F S_ .f32 := constant S_ .f32 0x7F800000#32
  let main_v13 : FVec F S8 .f32 := broadcastInDim S8 ![] bcast_S_S8 main_cst_4
  let main_v14 : IVec S8 1 := cmpf .olt main_arg2 main_v13
  let main_cst_5 : FVec F S_ .f32 := constant S_ .f32 0xFF800000#32
  let main_v15 : FVec F S8 .f32 := broadcastInDim S8 ![] bcast_S_S8 main_cst_5
  fn_part1 (F := F) main_arg2 main_arg3 main_v12 main_v14 main_v15
-- ==== Pre_swa_finite.lean ====
abbrev S1x4096x3088 : Shape := ⟨3, ![1, 4096, 3088]⟩
abbrev S4 : Shape := ⟨1, ![4]⟩
abbrev S1x4096x1024 : Shape := ⟨3, ![1, 4096, 1024]⟩
abbrev S_ : Shape := ⟨0, ![]⟩

class Facts : Prop where
  bcast_S_S1x4096x3088 : S_.BroadcastsInDim S1x4096x3088 (![] : Fin 0 → Fin S1x4096x3088.rank)
  reducesTo_S1x4096x3088_S_d0_1_2 : S1x4096x3088.ReducesTo [0, 1, 2] S_
  h_S_ : 0 < S_.numel
  bcast_S_S4 : S_.BroadcastsInDim S4 (![] : Fin 0 → Fin S4.rank)
  reducesTo_S4_S_d0 : S4.ReducesTo [0] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_arg2 : FVec F S1x4096x1024 .f32) (main_v12 : IVec S_ 1) (main_v14 : IVec S1x4096x1024 1) (main_v15 : FVec F S1x4096x1024 .f32) : IVec S_ 1 :=
  let main_v16 : IVec S1x4096x1024 1 := cmpf .ogt main_arg2 main_v15
  let main_v17 : IVec S1x4096x1024 1 := andi main_v14 main_v16
  let main_c_6 : IVec S_ 1 := constantI S_ 1 1#1
  let main_v18 : IVec S_ 1 := (fun x v => Host.reduce IntOp.andi x v reducesTo_S1x4096x1024_S_d0_1_2 h_S_) main_v17 main_c_6
  let main_v19 : IVec S_ 1 := andi main_v12 main_v18
  main_v19

def fn {F : FTy → Type} [FloatOps F] (main_arg0 : FVec F S1x4096x3088 .f32) (main_arg1 : FVec F S4 .f32) (main_arg2 : FVec F S1x4096x1024 .f32) : IVec S_ 1 :=
  let main_cst : FVec F S_ .f32 := constant S_ .f32 0x7F800000#32
  let main_v0 : FVec F S1x4096x3088 .f32 := broadcastInDim S1x4096x3088 ![] bcast_S_S1x4096x3088 main_cst
  let main_v1 : IVec S1x4096x3088 1 := cmpf .olt main_arg0 main_v0
  let main_cst_0 : FVec F S_ .f32 := constant S_ .f32 0xFF800000#32
  let main_v2 : FVec F S1x4096x3088 .f32 := broadcastInDim S1x4096x3088 ![] bcast_S_S1x4096x3088 main_cst_0
  let main_v3 : IVec S1x4096x3088 1 := cmpf .ogt main_arg0 main_v2
  let main_v4 : IVec S1x4096x3088 1 := andi main_v1 main_v3
  let main_c : IVec S_ 1 := constantI S_ 1 1#1
  let main_v5 : IVec S_ 1 := (fun x v => Host.reduce IntOp.andi x v reducesTo_S1x4096x3088_S_d0_1_2 h_S_) main_v4 main_c
  let main_cst_1 : FVec F S_ .f32 := constant S_ .f32 0x7F800000#32
  let main_v6 : FVec F S4 .f32 := broadcastInDim S4 ![] bcast_S_S4 main_cst_1
  let main_v7 : IVec S4 1 := cmpf .olt main_arg1 main_v6
  let main_cst_2 : FVec F S_ .f32 := constant S_ .f32 0xFF800000#32
  let main_v8 : FVec F S4 .f32 := broadcastInDim S4 ![] bcast_S_S4 main_cst_2
  let main_v9 : IVec S4 1 := cmpf .ogt main_arg1 main_v8
  let main_v10 : IVec S4 1 := andi main_v7 main_v9
  let main_c_3 : IVec S_ 1 := constantI S_ 1 1#1
  let main_v11 : IVec S_ 1 := (fun x v => Host.reduce IntOp.andi x v reducesTo_S4_S_d0 h_S_) main_v10 main_c_3
  let main_v12 : IVec S_ 1 := andi main_v5 main_v11
  let main_cst_4 : FVec F S_ .f32 := constant S_ .f32 0x7F800000#32
  let main_v13 : FVec F S1x4096x1024 .f32 := broadcastInDim S1x4096x1024 ![] bcast_S_S1x4096x1024 main_cst_4
  let main_v14 : IVec S1x4096x1024 1 := cmpf .olt main_arg2 main_v13
  let main_cst_5 : FVec F S_ .f32 := constant S_ .f32 0xFF800000#32
  let main_v15 : FVec F S1x4096x1024 .f32 := broadcastInDim S1x4096x1024 ![] bcast_S_S1x4096x1024 main_cst_5
  fn_part1 (F := F) main_arg2 main_v12 main_v14 main_v15
-- ==== ConvKernel.lean ====
abbrev S4096x3088 : Shape := ⟨2, ![4096, 3088]⟩
abbrev S4x1024 : Shape := ⟨2, ![4, 1024]⟩
abbrev S1024 : Shape := ⟨1, ![1024]⟩
abbrev S4096x1024 : Shape := ⟨2, ![4096, 1024]⟩
abbrev S_ : Shape := ⟨0, ![]⟩
abbrev S4096x120 : Shape := ⟨2, ![4096, 120]⟩
abbrev S4096x768 : Shape := ⟨2, ![4096, 768]⟩
abbrev S4096x256 : Shape := ⟨2, ![4096, 256]⟩
abbrev S4096x512 : Shape := ⟨2, ![4096, 512]⟩
abbrev S4096x8 : Shape := ⟨2, ![4096, 8]⟩
abbrev S4096x3328 : Shape := ⟨2, ![4096, 3328]⟩
abbrev S1x1024 : Shape := ⟨2, ![1, 1024]⟩
abbrev S512x1024 : Shape := ⟨2, ![512, 1024]⟩
abbrev S8x1024 : Shape := ⟨2, ![8, 1024]⟩
abbrev S520x1024 : Shape := ⟨2, ![520, 1024]⟩

abbrev nBuf : Space → Nat
  | .hbm => 18
  | .vmem => 14
  | .smem => 0
  | _ => 0

abbrev bufTy : (tb : Table) → Fin (tcTables nBuf tb) → BufTy
  | .hbm, ⟨0, _⟩ => ⟨S4096x3088, .f32⟩
  | .hbm, ⟨1, _⟩ => ⟨S4x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096x120, .f32⟩
  | .hbm, ⟨6, _⟩ => ⟨S4096x768, .f32⟩
  | .hbm, ⟨7, _⟩ => ⟨S4096x256, .f32⟩
  | .hbm, ⟨8, _⟩ => ⟨S4096x1024, .f32⟩
  | .hbm, ⟨9, _⟩ => ⟨S4096x512, .f32⟩
  | .hbm, ⟨10, _⟩ => ⟨S4096x512, .f32⟩
  | .hbm, ⟨11, _⟩ => ⟨S4096x8, .f32⟩
  | .hbm, ⟨12, _⟩ => ⟨S4096x8, .f32⟩
  | .hbm, ⟨13, _⟩ => ⟨S4096x3328, .f32⟩
  | .hbm, ⟨14, _⟩ => ⟨S1x1024, .f32⟩
  | .hbm, ⟨15, _⟩ => ⟨S4096x1024, .bf16⟩
  | .hbm, ⟨16, _⟩ => ⟨S4x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S512x1024, .f32⟩
  | .local _ .vmem, ⟨5, _⟩ => ⟨S512x1024, .f32⟩
  | .local _ .vmem, ⟨6, _⟩ => ⟨S4x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S4x1024, .f32⟩
  | .local _ .vmem, ⟨11, _⟩ => ⟨S1x1024, .f32⟩
  | .local _ .vmem, ⟨12, _⟩ => ⟨S520x1024, .f32⟩
  | .local _ .vmem, ⟨13, _⟩ => ⟨S520x1024, .f32⟩
  | _, _ => ⟨S4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvReferenceIdeal.lean ====
abbrev S4096x3088 : Shape := ⟨2, ![4096, 3088]⟩
abbrev S4x1024 : Shape := ⟨2, ![4, 1024]⟩
abbrev S1024 : Shape := ⟨1, ![1024]⟩
abbrev S4096x1024 : Shape := ⟨2, ![4096, 1024]⟩
abbrev S1x4096x1024 : Shape := ⟨3, ![1, 4096, 1024]⟩
abbrev S_ : Shape := ⟨0, ![]⟩
abbrev S1x3x1024 : Shape := ⟨3, ![1, 3, 1024]⟩
abbrev S1x4099x1024 : Shape := ⟨3, ![1, 4099, 1024]⟩
abbrev S1x1024 : Shape := ⟨2, ![1, 1024]⟩
abbrev S1x1x1024 : Shape := ⟨3, ![1, 1, 1024]⟩

abbrev nBuf : Space → Nat
  | .hbm => 127
  | .vmem => 0
  | .smem => 0
  | _ => 0

abbrev bufTy : (tb : Table) → Fin (tcTables nBuf tb) → BufTy
  | .hbm, ⟨0, _⟩ => ⟨S4096x3088, .f32⟩
  | .hbm, ⟨1, _⟩ => ⟨S4x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S1x4096x1024, .f32⟩
  | .hbm, ⟨6, _⟩ => ⟨S_, .f32⟩
  | .hbm, ⟨7, _⟩ => ⟨S1x3x1024, .f32⟩
  | .hbm, ⟨8, _⟩ => ⟨S1x4099x1024, .f32⟩
  | .hbm, ⟨9, _⟩ => ⟨S_, .f32⟩
  | .hbm, ⟨10, _⟩ => ⟨S1x3x1024, .f32⟩
  | .hbm, ⟨11, _⟩ => ⟨S1x4096x1024, .f32⟩
  | .hbm, ⟨12, _⟩ => ⟨S1x1024, .f32⟩
  | .hbm, ⟨13, _⟩ => ⟨S1024, .f32⟩
  | .hbm, ⟨14, _⟩ => ⟨S1x1x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S1x1024, .f32⟩
  | .hbm, ⟨33, _⟩ => ⟨S1024, .f32⟩
  | .hbm, ⟨34, _⟩ => ⟨S1x1x1024, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S1x1x1024, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x4096x1024, .f32⟩
  | .hbm, ⟨43, _⟩ => ⟨S_, .f32⟩
  | .hbm, ⟨44, _⟩ => ⟨S1x4096x1024, .f32⟩
  | .hbm, ⟨45, _⟩ => ⟨S1x4096x1024, .f32⟩
  | .hbm, ⟨46, _⟩ => ⟨S_, .f32⟩
  | .hbm, ⟨47, _⟩ => ⟨S1x4096x1024, .f32⟩
  | .hbm, ⟨48, _⟩ => ⟨S1x4096x1024, .f32⟩
  | .hbm, ⟨49, _⟩ => ⟨S_, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S_, .f32⟩
  | .hbm, ⟨60, _⟩ => ⟨S1x1024, .f32⟩
  | .hbm, ⟨61, _⟩ => ⟨S1x1x1024, .f32⟩
  | .hbm, ⟨62, _⟩ => ⟨S_, .f32⟩
  | .hbm, ⟨63, _⟩ => ⟨S1024, .f32⟩
  | .hbm, ⟨64, _⟩ => ⟨S1x4096x1024, .f32⟩
  | .hbm, ⟨65, _⟩ => ⟨S_, .f32⟩
  | .hbm, ⟨66, _⟩ => ⟨S1x1024, .f32⟩
  | .hbm, ⟨67, _⟩ => ⟨S1x1x1024, .f32⟩
  | .hbm, ⟨68, _⟩ => ⟨S1x4096x1024, .f32⟩
  | .hbm, ⟨69, _⟩ => ⟨S1x4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S4x1024, .f32⟩
  | .hbm, ⟨75, _⟩ => ⟨S_, .f32⟩
  | .hbm, ⟨76, _⟩ => ⟨S1x4099x1024, .f32⟩
  | .hbm, ⟨77, _⟩ => ⟨S1x4096x1024, .f32⟩
  | .hbm, ⟨78, _⟩ => ⟨S_, .f32⟩
  | .hbm, ⟨79, _⟩ => ⟨S1x1024, .f32⟩
  | .hbm, ⟨80, _⟩ => ⟨S1x1x1024, .f32⟩
  | .hbm, ⟨81, _⟩ => ⟨S1x4096x1024, .f32⟩
  | .hbm, ⟨82, _⟩ => ⟨S1x4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S_, .f32⟩
  | .hbm, ⟨87, _⟩ => ⟨S4x1024, .f32⟩
  | .hbm, ⟨88, _⟩ => ⟨S4x1024, .f32⟩
  | .hbm, ⟨89, _⟩ => ⟨S_, .f32⟩
  | .hbm, ⟨90, _⟩ => ⟨S1x4099x1024, .f32⟩
  | .hbm, ⟨91, _⟩ => ⟨S1x4099x1024, .f32⟩
  | .hbm, ⟨92, _⟩ => ⟨S1x4096x1024, .f32⟩
  | .hbm, ⟨93, _⟩ => ⟨S_, .f32⟩
  | .hbm, ⟨94, _⟩ => ⟨S1x1024, .f32⟩
  | .hbm, ⟨95, _⟩ => ⟨S1x1x1024, .f32⟩
  | .hbm, ⟨96, _⟩ => ⟨S1x4096x1024, .f32⟩
  | .hbm, ⟨97, _⟩ => ⟨S1x4096x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S_, .f32⟩
  | .hbm, ⟨102, _⟩ => ⟨S4x1024, .f32⟩
  | .hbm, ⟨103, _⟩ => ⟨S4x1024, .f32⟩
  | .hbm, ⟨104, _⟩ => ⟨S_, .f32⟩
  | .hbm, ⟨105, _⟩ => ⟨S1x4099x1024, .f32⟩
  | .hbm, ⟨106, _⟩ => ⟨S1x4099x1024, .f32⟩
  | .hbm, ⟨107, _⟩ => ⟨S1x4096x1024, .f32⟩
  | .hbm, ⟨108, _⟩ => ⟨S_, .f32⟩
  | .hbm, ⟨109, _⟩ => ⟨S1x1024, .f32⟩
  | .hbm, ⟨110, _⟩ => ⟨S1x1x1024, .f32⟩
  | .hbm, ⟨111, _⟩ => ⟨S1x4096x1024, .f32⟩
  | .hbm, ⟨112, _⟩ => ⟨S1x4096x1024, .f32⟩
  | .hbm, ⟨113, _⟩ => ⟨S_, .f32⟩
  | .hbm, ⟨114, _⟩ => ⟨S1024, .f32⟩
  | .hbm, ⟨115, _⟩ => ⟨S1x1024, .f32⟩
  | .hbm, ⟨116, _⟩ => ⟨S_, .f32⟩
  | .hbm, ⟨117, _⟩ => ⟨S4x1024, .f32⟩
  | .hbm, ⟨118, _⟩ => ⟨S4x1024, .f32⟩
  | .hbm, ⟨119, _⟩ => ⟨S_, .f32⟩
  | .hbm, ⟨120, _⟩ => ⟨S1x4099x1024, .f32⟩
  | .hbm, ⟨121, _⟩ => ⟨S1x4099x1024, .f32⟩
  | .hbm, ⟨122, _⟩ => ⟨S1x3x1024, .f32⟩
  | .hbm, ⟨123, _⟩ => ⟨S1x4096x1024, .f32⟩
  | .hbm, ⟨124, _⟩ => ⟨S4096x1024, .f32⟩
  | .hbm, ⟨125, _⟩ => ⟨S4096x1024, .bf16⟩
  | .hbm, ⟨126, _⟩ => ⟨S1x1024, .f32⟩
  | _, _ => ⟨S4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v35_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v35_1 : Ref sig .tc := ⟨.hbm, 52, rfl⟩
abbrev main_v35_0 : Ref sig .tc := ⟨.hbm, 53, rfl⟩
abbrev main_v36 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v37 : Ref sig .tc := ⟨.hbm, 58, rfl⟩
abbrev main_cst_1 : Ref sig .tc := ⟨.hbm, 59, rfl⟩
abbrev main_v38 : Ref sig .tc := ⟨.hbm, 60, rfl⟩
abbrev main_v39 : Ref sig .tc := ⟨.hbm, 61, rfl⟩
abbrev main_cst_2 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_v80 : Ref sig .tc := ⟨.hbm, 118, rfl⟩
abbrev main_cst_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩

abbrev nD : Nat := 1
abbrev τ : Topo := Topo.v7x

variable {F : FTy → Type} [FloatOps F]
-- ==== FfKernel.lean ====
abbrev S1x4096x1024 : Shape := ⟨3, ![1, 4096, 1024]⟩
abbrev S1024x2816 : Shape := ⟨2, ![1024, 2816]⟩
abbrev S2816x1024 : Shape := ⟨2, ![2816, 1024]⟩
abbrev S1x4096x2816 : Shape := ⟨3, ![1, 4096, 2816]⟩
abbrev S4096x2816 : Shape := ⟨2, ![4096, 2816]⟩
abbrev S4096x1408 : Shape := ⟨2, ![4096, 1408]⟩
abbrev S4096x5632 : Shape := ⟨2, ![4096, 5632]⟩
abbrev S4096x1024 : Shape := ⟨2, ![4096, 1024]⟩
abbrev S512x1024 : Shape := ⟨2, ![512, 1024]⟩
abbrev S1408x1024 : Shape := ⟨2, ![1408, 1024]⟩
abbrev S512x2816 : Shape := ⟨2, ![512, 2816]⟩
abbrev S512x1408 : Shape := ⟨2, ![512, 1408]⟩

abbrev nBuf : Space → Nat
  | .hbm => 19
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x4096x1024, .f32⟩
  | .hbm, ⟨5, _⟩ => ⟨S1x4096x2816, .f32⟩
  | .hbm, ⟨6, _⟩ => ⟨S1x4096x2816, .f32⟩
  | .hbm, ⟨7, _⟩ => ⟨S4096x2816, .f32⟩
  | .hbm, ⟨8, _⟩ => ⟨S4096x2816, .f32⟩
  | .hbm, ⟨9, _⟩ => ⟨S4096x1408, .f32⟩
  | .hbm, ⟨10, _⟩ => ⟨S4096x1408, .f32⟩
  | .hbm, ⟨11, _⟩ => ⟨S4096x1408, .f32⟩
  | .hbm, ⟨12, _⟩ => ⟨S4096x1408, .f32⟩
  | .hbm, ⟨13, _⟩ => ⟨S4096x5632, .f32⟩
  | .hbm, ⟨14, _⟩ => ⟨S4096x5632, .bf16⟩
  | .hbm, ⟨15, _⟩ => ⟨S4096x1024, .f32⟩
  | .hbm, ⟨16, _⟩ => ⟨S4096x1024, .bf16⟩
  | .hbm, ⟨17, _⟩ => ⟨S2816x1024, .bf16⟩
  | .hbm, ⟨18, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfReferenceIdeal.lean ====
abbrev S1x4096x1024 : Shape := ⟨3, ![1, 4096, 1024]⟩
abbrev S1024x2816 : Shape := ⟨2, ![1024, 2816]⟩
abbrev S2816x1024 : Shape := ⟨2, ![2816, 1024]⟩
abbrev S1x4096x2816 : Shape := ⟨3, ![1, 4096, 2816]⟩
abbrev S_ : Shape := ⟨0, ![]⟩
abbrev S4096x2816 : Shape := ⟨2, ![4096, 2816]⟩
abbrev S4096x1408 : Shape := ⟨2, ![4096, 1408]⟩
abbrev S4096x5632 : Shape := ⟨2, ![4096, 5632]⟩

abbrev nBuf : Space → Nat
  | .hbm => 37
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x4096x1024, .f32⟩
  | .hbm, ⟨5, _⟩ => ⟨S1x4096x2816, .f32⟩
  | .hbm, ⟨6, _⟩ => ⟨S1x4096x2816, .f32⟩
  | .hbm, ⟨7, _⟩ => ⟨S1x4096x2816, .f32⟩
  | .hbm, ⟨8, _⟩ => ⟨S1x4096x2816, .f32⟩
  | .hbm, ⟨9, _⟩ => ⟨S_, .f32⟩
  | .hbm, ⟨10, _⟩ => ⟨S1x4096x2816, .f32⟩
  | .hbm, ⟨11, _⟩ => ⟨S1x4096x2816, .f32⟩
  | .hbm, ⟨12, _⟩ => ⟨S_, .f32⟩
  | .hbm, ⟨13, _⟩ => ⟨S1x4096x2816, .f32⟩
  | .hbm, ⟨14, _⟩ => ⟨S1x4096x2816, .f32⟩
  | .hbm, ⟨15, _⟩ => ⟨S_, .f32⟩
  | .hbm, ⟨16, _⟩ => ⟨S1x4096x2816, .f32⟩
  | .hbm, ⟨17, _⟩ => ⟨S1x4096x2816, .f32⟩
  | .hbm, ⟨18, _⟩ => ⟨S1x4096x2816, .f32⟩
  | .hbm, ⟨19, _⟩ => ⟨S1x4096x2816, .f32⟩
  | .hbm, ⟨20, _⟩ => ⟨S1x4096x2816, .f32⟩
  | .hbm, ⟨21, _⟩ => ⟨S1x4096x1024, .f32⟩
  | .hbm, ⟨22, _⟩ => ⟨S1x4096x2816, .f32⟩
  | .hbm, ⟨23, _⟩ => ⟨S1x4096x2816, .f32⟩
  | .hbm, ⟨24, _⟩ => ⟨S1x4096x2816, .f32⟩
  | .hbm, ⟨25, _⟩ => ⟨S1x4096x2816, .f32⟩
  | .hbm, ⟨26, _⟩ => ⟨S1x4096x2816, .f32⟩
  | .hbm, ⟨27, _⟩ => ⟨S1x4096x2816, .f32⟩
  | .hbm, ⟨28, _⟩ => ⟨S1x4096x2816, .f32⟩
  | .hbm, ⟨29, _⟩ => ⟨S4096x2816, .f32⟩
  | .hbm, ⟨30, _⟩ => ⟨S4096x1408, .f32⟩
  | .hbm, ⟨31, _⟩ => ⟨S4096x1408, .f32⟩
  | .hbm, ⟨32, _⟩ => ⟨S4096x2816, .f32⟩
  | .hbm, ⟨33, _⟩ => ⟨S4096x1408, .f32⟩
  | .hbm, ⟨34, _⟩ => ⟨S4096x1408, .f32⟩
  | .hbm, ⟨35, _⟩ => ⟨S4096x5632, .f32⟩
  | .hbm, ⟨36, _⟩ => ⟨S4096x5632, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== PnKernel.lean ====
abbrev S1x4096x1024 : Shape := ⟨3, ![1, 4096, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_16 : BitVec 32 := 0#32
  let v45 : BitVec 1 := Scalar.cmpi .ne v44 c0_i32_16
  v45

def k0_cond2 (i : grid0.Coords) : BitVec 1 :=
  let arg0 : BitVec 32 := BitVec.ofNat 32 (i 0).val
  let c0_i32_17 : BitVec 32 := 0#32
  let v46 : BitVec 1 := Scalar.cmpi .sgt arg0 c0_i32_17
  let v47 : BitVec 32 := Scalar.extui v46
  let c0_i32_18 : BitVec 32 := 0#32
  let v48 : BitVec 1 := Scalar.cmpi .ne v47 c0_i32_18
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PnReferenceIdeal.lean ====
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1024, .f32⟩
  | .hbm, ⟨20, _⟩ => ⟨S1x4096x1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x1024, .f32⟩
  | .hbm, ⟨27, _⟩ => ⟨S1x1x1024, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1024, .f32⟩
  | .hbm, ⟨32, _⟩ => ⟨S1x4096x1024, .f32⟩
  | .hbm, ⟨33, _⟩ => ⟨S_, .f32⟩
  | .hbm, ⟨34, _⟩ => ⟨S1x4096, .f32⟩
  | .hbm, ⟨35, _⟩ => ⟨S1x4096x1, .f32⟩
  | .hbm, ⟨36, _⟩ => ⟨S1x4096x1024, .f32⟩
  | .hbm, ⟨37, _⟩ => ⟨S1x4096x1024, .f32⟩
  | .hbm, ⟨38, _⟩ => ⟨S1x4096x1024, .f32⟩
  | .hbm, ⟨39, _⟩ => ⟨S1x4096x1, .f32⟩
  | .hbm, ⟨40, _⟩ => ⟨S_, .f32⟩
  | .hbm, ⟨41, _⟩ => ⟨S1x4096x1, .f32⟩
  | .hbm, ⟨42, _⟩ => ⟨S1x4096x1, .f32⟩
  | .hbm, ⟨43, _⟩ => ⟨S_, .f32⟩
  | .hbm, ⟨44, _⟩ => ⟨S4096, .f32⟩
  | .hbm, ⟨45, _⟩ => ⟨S1x4096, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S4096x1024, .f32⟩
  | .hbm, ⟨52, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== RnKernel.lean ====
abbrev S1x4096x1024 : Shape := ⟨3, ![1, 4096, 1024]⟩
abbrev S1024 : Shape := ⟨1, ![1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512 : Shape := ⟨1, ![512]⟩
abbrev S512x1 : Shape := ⟨2, ![512, 1]⟩

abbrev nBuf : Space → Nat
  | .hbm => 34
  | .vmem => 16
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .bf16⟩
  | .hbm, ⟨32, _⟩ => ⟨S1x1024, .f32⟩
  | .hbm, ⟨33, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_30 : BitVec 32 := 0#32
  let v84 : BitVec 1 := Scalar.cmpi .ne v83 c0_i32_30
  v84

def k0_cond2 (i : grid0.Coords) : BitVec 1 :=
  let arg0 : BitVec 32 := BitVec.ofNat 32 (i 0).val
  let c0_i32_31 : BitVec 32 := 0#32
  let v85 : BitVec 1 := Scalar.cmpi .sgt arg0 c0_i32_31
  let v86 : BitVec 32 := Scalar.extui v85
  let c0_i32_32 : BitVec 32 := 0#32
  let v87 : BitVec 1 := Scalar.cmpi .ne v86 c0_i32_32
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RnReferenceIdeal.lean ====
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 106
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096, .f32⟩
  | .hbm, ⟨30, _⟩ => ⟨S1x4096x1, .f32⟩
  | .hbm, ⟨31, _⟩ => ⟨S_, .f32⟩
  | .hbm, ⟨32, _⟩ => ⟨S1x4096x1, .f32⟩
  | .hbm, ⟨33, _⟩ => ⟨S1x4096x1, .f32⟩
  | .hbm, ⟨34, _⟩ => ⟨S_, .f32⟩
  | .hbm, ⟨35, _⟩ => ⟨S1x4096x1, .f32⟩
  | .hbm, ⟨36, _⟩ => ⟨S1x4096x1, .f32⟩
  | .hbm, ⟨37, _⟩ => ⟨S1x4096x1, .f32⟩
  | .hbm, ⟨38, _⟩ => ⟨S1x4096x1, .f32⟩
  | .hbm, ⟨39, _⟩ => ⟨S_, .f32⟩
  | .hbm, ⟨40, _⟩ => ⟨S1x4096x1, .f32⟩
  | .hbm, ⟨41, _⟩ => ⟨S1x4096x1, .f32⟩
  | .hbm, ⟨42, _⟩ => ⟨S1x4096x1024, .f32⟩
  | .hbm, ⟨43, _⟩ => ⟨S1x4096x1024, .f32⟩
  | .hbm, ⟨44, _⟩ => ⟨S1x1x1024, .f32⟩
  | .hbm, ⟨45, _⟩ => ⟨S1x4096x1024, .f32⟩
  | .hbm, ⟨46, _⟩ => ⟨S1x4096x1024, .f32⟩
  | .hbm, ⟨47, _⟩ => ⟨S1x4096x1024, .f32⟩
  | .hbm, ⟨48, _⟩ => ⟨S_, .f32⟩
  | .hbm, ⟨49, _⟩ => ⟨S1x1024, .f32⟩
  | .hbm, ⟨50, _⟩ => ⟨S1x1x1024, .f32⟩
  | .hbm, ⟨51, _⟩ => ⟨S1x4096x1024, .f32⟩
  | .hbm, ⟨52, _⟩ => ⟨S1x4096x1024, .f32⟩
  | .hbm, ⟨53, _⟩ => ⟨S_, .f32⟩
  | .hbm, ⟨54, _⟩ => ⟨S1024, .f32⟩
  | .hbm, ⟨55, _⟩ => ⟨S1x4096x1024, .f32⟩
  | .hbm, ⟨56, _⟩ => ⟨S_, .f32⟩
  | .hbm, ⟨57, _⟩ => ⟨S1x4096, .f32⟩
  | .hbm, ⟨58, _⟩ => ⟨S1x4096x1, .f32⟩
  | .hbm, ⟨59, _⟩ => ⟨S1x4096x1024, .f32⟩
  | .hbm, ⟨60, _⟩ => ⟨S1x4096x1024, .f32⟩
  | .hbm, ⟨61, _⟩ => ⟨S1x4096x1024, .f32⟩
  | .hbm, ⟨62, _⟩ => ⟨S1x4096x1, .f32⟩
  | .hbm, ⟨63, _⟩ => ⟨S_, .f32⟩
  | .hbm, ⟨64, _⟩ => ⟨S1x4096x1, .f32⟩
  | .hbm, ⟨65, _⟩ => ⟨S1x4096x1, .f32⟩
  | .hbm, ⟨66, _⟩ => ⟨S_, .f32⟩
  | .hbm, ⟨67, _⟩ => ⟨S4096, .f32⟩
  | .hbm, ⟨68, _⟩ => ⟨S1x4096, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S1x4096x1024, .f32⟩
  | .hbm, ⟨73, _⟩ => ⟨S1x4096x1024, .f32⟩
  | .hbm, ⟨74, _⟩ => ⟨S1x4096x1024, .f32⟩
  | .hbm, ⟨75, _⟩ => ⟨S1x4096x1024, .f32⟩
  | .hbm, ⟨76, _⟩ => ⟨S_, .f32⟩
  | .hbm, ⟨77, _⟩ => ⟨S1x1024, .f32⟩
  | .hbm, ⟨78, _⟩ => ⟨S1x1x1024, .f32⟩
  | .hbm, ⟨79, _⟩ => ⟨S1x4096x1024, .f32⟩
  | .hbm, ⟨80, _⟩ => ⟨S1x4096x1024, .f32⟩
  | .hbm, ⟨81, _⟩ => ⟨S_, .f32⟩
  | .hbm, ⟨82, _⟩ => ⟨S1024, .f32⟩
  | .hbm, ⟨83, _⟩ => ⟨S1x4096x1024, .f32⟩
  | .hbm, ⟨84, _⟩ => ⟨S_, .f32⟩
  | .hbm, ⟨85, _⟩ => ⟨S1x4096, .f32⟩
  | .hbm, ⟨86, _⟩ => ⟨S1x4096x1, .f32⟩
  | .hbm, ⟨87, _⟩ => ⟨S1x4096x1024, .f32⟩
  | .hbm, ⟨88, _⟩ => ⟨S1x4096x1024, .f32⟩
  | .hbm, ⟨89, _⟩ => ⟨S1x4096x1, .f32⟩
  | .hbm, ⟨90, _⟩ => ⟨S_, .f32⟩
  | .hbm, ⟨91, _⟩ => ⟨S1x4096x1, .f32⟩
  | .hbm, ⟨92, _⟩ => ⟨S1x4096x1, .f32⟩
  | .hbm, ⟨93, _⟩ => ⟨S_, .f32⟩
  | .hbm, ⟨94, _⟩ => ⟨S4096, .f32⟩
  | .hbm, ⟨95, _⟩ => ⟨S1x4096, .f32⟩
  | .hbm, ⟨96, _⟩ => ⟨S1x4096x1024, .f32⟩
  | .hbm, ⟨97, _⟩ => ⟨S1x4096x1024, .f32⟩
  | .hbm, ⟨98, _⟩ => ⟨S1x4096x1024, .f32⟩
  | .hbm, ⟨99, _⟩ => ⟨S1x4096x1024, .f32⟩
  | .hbm, ⟨100, _⟩ => ⟨S1x4096x1024, .f32⟩
  | .hbm, ⟨101, _⟩ => ⟨S4096x1024, .f32⟩
  | .hbm, ⟨102, _⟩ => ⟨S4096x1024, .f32⟩
  | .hbm, ⟨103, _⟩ => ⟨S4096x1024, .bf16⟩
  | .hbm, ⟨104, _⟩ => ⟨S1x1024, .f32⟩
  | .hbm, ⟨105, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_v69 : Ref sig .tc := ⟨.hbm, 92, rfl⟩
abbrev main_cst_16 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩

abbrev nD : Nat := 1
abbrev τ : Topo := Topo.v7x

variable {F : FTy → Type} [FloatOps F]
-- ==== RlKernel.lean ====
abbrev S1x4096x1024 : Shape := ⟨3, ![1, 4096, 1024]⟩
abbrev S1024 : Shape := ⟨1, ![1024]⟩
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1024, .f32⟩
  | .hbm, ⟨3, _⟩ => ⟨S1x4096x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S1x128, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | .local _ .vmem, ⟨12, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_23 : BitVec 32 := 0#32
  let v64 : BitVec 1 := Scalar.cmpi .eq arg0 c0_i32_23
  let v65 : BitVec 32 := Scalar.extui v64
  let c0_i32_24 : BitVec 32 := 0#32
  let v66 : BitVec 1 := Scalar.cmpi .ne v65 c0_i32_24
  v66

def k0_cond2 (i : grid0.Coords) : BitVec 1 :=
  let arg0 : BitVec 32 := BitVec.ofNat 32 (i 0).val
  let c0_i32_25 : BitVec 32 := 0#32
  let v67 : BitVec 1 := Scalar.cmpi .sgt arg0 c0_i32_25
  let v68 : BitVec 32 := Scalar.extui v67
  let c0_i32_26 : BitVec 32 := 0#32
  let v69 : BitVec 1 := Scalar.cmpi .ne v68 c0_i32_26
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RlReferenceIdeal.lean ====
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩
abbrev S1x1 : Shape := ⟨2, ![1, 1]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1024, .f32⟩
  | .hbm, ⟨3, _⟩ => ⟨S1x4096x1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1024, .f32⟩
  | .hbm, ⟨20, _⟩ => ⟨S1x4096x1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S_, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x4096, .f32⟩
  | .hbm, ⟨43, _⟩ => ⟨S_, .f32⟩
  | .hbm, ⟨44, _⟩ => ⟨S1x4096, .f32⟩
  | .hbm, ⟨45, _⟩ => ⟨S1x4096, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S_, .f32⟩
  | .hbm, ⟨50, _⟩ => ⟨S1x1024, .f32⟩
  | .hbm, ⟨51, _⟩ => ⟨S1x1x1024, .f32⟩
  | .hbm, ⟨52, _⟩ => ⟨S1x4096x1024, .f32⟩
  | .hbm, ⟨53, _⟩ => ⟨S1x4096x1024, .f32⟩
  | .hbm, ⟨54, _⟩ => ⟨S_, .f32⟩
  | .hbm, ⟨55, _⟩ => ⟨S1024, .f32⟩
  | .hbm, ⟨56, _⟩ => ⟨S1x4096x1024, .f32⟩
  | .hbm, ⟨57, _⟩ => ⟨S_, .f32⟩
  | .hbm, ⟨58, _⟩ => ⟨S1x4096, .f32⟩
  | .hbm, ⟨59, _⟩ => ⟨S1x4096x1, .f32⟩
  | .hbm, ⟨60, _⟩ => ⟨S1x4096x1024, .f32⟩
  | .hbm, ⟨61, _⟩ => ⟨S1x4096x1024, .f32⟩
  | .hbm, ⟨62, _⟩ => ⟨S1x4096x1, .f32⟩
  | .hbm, ⟨63, _⟩ => ⟨S_, .f32⟩
  | .hbm, ⟨64, _⟩ => ⟨S1x4096x1, .f32⟩
  | .hbm, ⟨65, _⟩ => ⟨S1x4096x1, .f32⟩
  | .hbm, ⟨66, _⟩ => ⟨S_, .f32⟩
  | .hbm, ⟨67, _⟩ => ⟨S4096, .f32⟩
  | .hbm, ⟨68, _⟩ => ⟨S1x4096, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S1x4096x1024, .f32⟩
  | .hbm, ⟨73, _⟩ => ⟨S1x4096x1024, .f32⟩
  | .hbm, ⟨74, _⟩ => ⟨S4096x1024, .f32⟩
  | .hbm, ⟨75, _⟩ => ⟨S4096x1024, .f32⟩
  | .hbm, ⟨76, _⟩ => ⟨S4096x1024, .bf16⟩
  | .hbm, ⟨77, _⟩ => ⟨S1x1, .f32⟩
  | .hbm, ⟨78, _⟩ => ⟨S_, .i32⟩
  | .hbm, ⟨79, _⟩ => ⟨S_, .f32⟩
  | .hbm, ⟨80, _⟩ => ⟨S1x128, .f32⟩
  | .hbm, ⟨81, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c : Ref sig .tc := ⟨.hbm, 78, rfl⟩
abbrev main_call0_v0 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== SwaKernel.lean ====
abbrev S1x4096x3088 : Shape := ⟨3, ![1, 4096, 3088]⟩
abbrev S4 : Shape := ⟨1, ![4]⟩
abbrev S1x4096x1024 : Shape := ⟨3, ![1, 4096, 1024]⟩
abbrev S1x4096x512 : Shape := ⟨3, ![1, 4096, 512]⟩
abbrev S4096x512 : Shape := ⟨2, ![4096, 512]⟩
abbrev S1x4096x256 : Shape := ⟨3, ![1, 4096, 256]⟩
abbrev S4096x256 : Shape := ⟨2, ![4096, 256]⟩
abbrev S4096x1024 : Shape := ⟨2, ![4096, 1024]⟩
abbrev S4096x3088 : Shape := ⟨2, ![4096, 3088]⟩
abbrev S_ : Shape := ⟨0, ![]⟩
abbrev S4096x120 : Shape := ⟨2, ![4096, 120]⟩
abbrev S4096x768 : Shape := ⟨2, ![4096, 768]⟩
abbrev S4096x8 : Shape := ⟨2, ![4096, 8]⟩
abbrev S4096x3328 : Shape := ⟨2, ![4096, 3328]⟩
abbrev S1x128 : Shape := ⟨2, ![1, 128]⟩
abbrev S1 : Shape := ⟨1, ![1]⟩
abbrev S2 : Shape := ⟨1, ![2]⟩
abbrev S4096x128 : Shape := ⟨2, ![4096, 128]⟩
abbrev S256x256 : Shape := ⟨2, ![256, 256]⟩
abbrev S4224x128 : Shape := ⟨2, ![4224, 128]⟩
abbrev S128x128 : Shape := ⟨2, ![128, 128]⟩
abbrev S384x128 : Shape := ⟨2, ![384, 128]⟩
abbrev S256x384 : Shape := ⟨2, ![256, 384]⟩
abbrev S256x64 : Shape := ⟨2, ![256, 64]⟩
abbrev S384x64 : Shape := ⟨2, ![384, 64]⟩
abbrev S1x1 : Shape := ⟨2, ![1, 1]⟩
abbrev S256 : Shape := ⟨1, ![256]⟩
abbrev S256x1 : Shape := ⟨2, ![256, 1]⟩
abbrev S64x384 : Shape := ⟨2, ![64, 384]⟩
abbrev S1x1x1 : Shape := ⟨3, ![1, 1, 1]⟩
abbrev S256x192 : Shape := ⟨2, ![256, 192]⟩
abbrev S256x128 : Shape := ⟨2, ![256, 128]⟩

abbrev nBuf : Space → Nat
  | .hbm => 33
  | .vmem => 16
  | .smem => 0
  | _ => 0

abbrev bufTy : (tb : Table) → Fin (tcTables nBuf tb) → BufTy
  | .hbm, ⟨0, _⟩ => ⟨S1x4096x3088, .f32⟩
  | .hbm, ⟨1, _⟩ => ⟨S4, .f32⟩
  | .hbm, ⟨2, _⟩ => ⟨S1x4096x1024, .f32⟩
  | .hbm, ⟨3, _⟩ => ⟨S1x4096x512, .f32⟩
  | .hbm, ⟨4, _⟩ => ⟨S4096x512, .f32⟩
  | .hbm, ⟨5, _⟩ => ⟨S1x4096x256, .f32⟩
  | .hbm, ⟨6, _⟩ => ⟨S4096x256, .f32⟩
  | .hbm, ⟨7, _⟩ => ⟨S1x4096x256, .f32⟩
  | .hbm, ⟨8, _⟩ => ⟨S4096x256, .f32⟩
  | .hbm, ⟨9, _⟩ => ⟨S4096x1024, .f32⟩
  | .hbm, ⟨10, _⟩ => ⟨S4096x3088, .f32⟩
  | .hbm, ⟨11, _⟩ => ⟨S_, .f32⟩
  | .hbm, ⟨12, _⟩ => ⟨S4096x120, .f32⟩
  | .hbm, ⟨13, _⟩ => ⟨S4096x768, .f32⟩
  | .hbm, ⟨14, _⟩ => ⟨S4096x256, .f32⟩
  | .hbm, ⟨15, _⟩ => ⟨S4096x1024, .f32⟩
  | .hbm, ⟨16, _⟩ => ⟨S4096x512, .f32⟩
  | .hbm, ⟨17, _⟩ => ⟨S4096x512, .f32⟩
  | .hbm, ⟨18, _⟩ => ⟨S4096x8, .f32⟩
  | .hbm, ⟨19, _⟩ => ⟨S4096x8, .f32⟩
  | .hbm, ⟨20, _⟩ => ⟨S4096x3328, .f32⟩
  | .hbm, ⟨21, _⟩ => ⟨S_, .f32⟩
  | .hbm, ⟨22, _⟩ => ⟨S1x128, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1x128, .f32⟩
  | .hbm, ⟨29, _⟩ => ⟨S4096x256, .bf16⟩
  | .hbm, ⟨30, _⟩ => ⟨S4096x128, .bf16⟩
  | .hbm, ⟨31, _⟩ => ⟨S4096x128, .bf16⟩
  | .hbm, ⟨32, _⟩ => ⟨S1x128, .f32⟩
  | .local _ .vmem, ⟨0, _⟩ => ⟨S256x256, .f32⟩
  | .local _ .vmem, ⟨1, _⟩ => ⟨S256x256, .f32⟩
  | .local _ .vmem, ⟨2, _⟩ => ⟨S4096x128, .f32⟩
  | .local _ .vmem, ⟨3, _⟩ => ⟨S4096x128, .f32⟩
  | .local _ .vmem, ⟨4, _⟩ => ⟨S1x128, .f32⟩
  | .local _ .vmem, ⟨5, _⟩ => ⟨S256x256, .f32⟩
  | .local _ .vmem, ⟨6, _⟩ => ⟨S256x256, .f32⟩
  | .local _ .vmem, ⟨7, _⟩ => ⟨S256x256, .bf16⟩
  | .local _ .vmem, ⟨8, _⟩ => ⟨S256x256, .bf16⟩
  | .local _ .vmem, ⟨9, _⟩ => ⟨S4096x128, .bf16⟩
  | .local _ .vmem, ⟨10, _⟩ => ⟨S4096x128, .bf16⟩
  | .local _ .vmem, ⟨11, _⟩ => ⟨S1x128, .f32⟩
  | .local _ .vmem, ⟨12, _⟩ => ⟨S4224x128, .f32⟩
  | .local _ .vmem, ⟨13, _⟩ => ⟨S4224x128, .f32⟩
  | .local _ .vmem, ⟨14, _⟩ => ⟨S4224x128, .f32⟩
  | .local _ .vmem, ⟨15, _⟩ => ⟨S4224x128, .f32⟩
  | _, _ => ⟨S1x4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev main_v22_2 : Ref sig .tc := ⟨.hbm, 31, rfl⟩
abbrev main_v22_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v3 : BitVec 32 := Scalar.muli arg0 c256_i32
  v3
def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v7 : Index := Scalar.indexCast v4
  let c0_2 : Index := 0#32
  ![v7.toNat, 0]
def k0_cond2 (i : grid0.Coords) : BitVec 1 :=
  let arg0 : BitVec 32 := BitVec.ofNat 32 (i 0).val
  let c15_i32 : BitVec 32 := 15#32
  let v674 : BitVec 1 := Scalar.cmpi .eq arg0 c15_i32
  let v675 : BitVec 32 := Scalar.extui v674
  let c0_i32_187 : BitVec 32 := 0#32
  let v676 : BitVec 1 := Scalar.cmpi .ne v675 c0_i32_187
  v676

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c18_i32 : BitVec 32 := 18#32
  let c0_i32_0 : BitVec 32 := 0#32
  ![c0_i32.toNat, c18_i32.toNat]

def cc0_transform_2 (i : grid0.Coords) : Fin 2 → Nat :=
  let arg0 : BitVec 32 := BitVec.ofNat 32 (i 0).val
  let c0_i32 : BitVec 32 := 0#32
  let c19_i32 : BitVec 32 := 19#32
  let c0_i32_0 : BitVec 32 := 0#32
  ![c0_i32.toNat, c19_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== SwaKernelIdeal.lean ====
variable {F : FTy → Type} [FloatOps F] [Named F]
def κ : String → Option EReal := fun
  | "mask" => some ⊥
  | _ => none
-- ==== SwaReferenceIdeal.lean ====
abbrev S1x4096x3088 : Shape := ⟨3, ![1, 4096, 3088]⟩
abbrev S4 : Shape := ⟨1, ![4]⟩
abbrev S1x4096x1024 : Shape := ⟨3, ![1, 4096, 1024]⟩
abbrev S1x4096x256 : Shape := ⟨3, ![1, 4096, 256]⟩
abbrev S1x4096x128 : Shape := ⟨3, ![1, 4096, 128]⟩
abbrev S1x64x64x2x2x64 : Shape := ⟨6, ![1, 64, 64, 2, 2, 64]⟩
abbrev S_ : Shape := ⟨0, ![]⟩
abbrev S1x128x128 : Shape := ⟨3, ![1, 128, 128]⟩
abbrev S1x4224x128 : Shape := ⟨3, ![1, 4224, 128]⟩
abbrev S1x66x64x2x64 : Shape := ⟨5, ![1, 66, 64, 2, 64]⟩
abbrev S1x64x64x2x64 : Shape := ⟨5, ![1, 64, 64, 2, 64]⟩
abbrev S1x64x192x2x64 : Shape := ⟨5, ![1, 64, 192, 2, 64]⟩
abbrev S1x64x2x192x64x2 : Shape := ⟨6, ![1, 64, 2, 192, 64, 2]⟩
abbrev S1x64x2x2x64x192 : Shape := ⟨6, ![1, 64, 2, 2, 64, 192]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S2x2 : Shape := ⟨2, ![2, 2]⟩
abbrev S2x2x1x1 : Shape := ⟨4, ![2, 2, 1, 1]⟩
abbrev S1x1x64x192 : Shape := ⟨4, ![1, 1, 64, 192]⟩
abbrev S2x2x64x192 : Shape := ⟨4, ![2, 2, 64, 192]⟩
abbrev S1x1x2x2x64x192 : Shape := ⟨6, ![1, 1, 2, 2, 64, 192]⟩
abbrev S1x64x1x1x1x192 : Shape := ⟨6, ![1, 64, 1, 1, 1, 192]⟩
abbrev S1x1x2x2x1x1 : Shape := ⟨6, ![1, 1, 2, 2, 1, 1]⟩
abbrev S1x64x2x2x64x1 : Shape := ⟨6, ![1, 64, 2, 2, 64, 1]⟩
abbrev S1x64x2x2x64x193 : Shape := ⟨6, ![1, 64, 2, 2, 64, 193]⟩
abbrev S1x64x2x2x64 : Shape := ⟨5, ![1, 64, 2, 2, 64]⟩
abbrev S1x64x2x64x2x64 : Shape := ⟨6, ![1, 64, 2, 64, 2, 64]⟩
abbrev S1x64x2x64x192 : Shape := ⟨5, ![1, 64, 2, 64, 192]⟩
abbrev S64x2x2x64 : Shape := ⟨4, ![64, 2, 2, 64]⟩
abbrev S1x64x2x192x64 : Shape := ⟨5, ![1, 64, 2, 192, 64]⟩
abbrev S4096x256 : Shape := ⟨2, ![4096, 256]⟩
abbrev S4096x128 : Shape := ⟨2, ![4096, 128]⟩
abbrev S124 : Shape := ⟨1, ![124]⟩
abbrev S128 : Shape := ⟨1, ![128]⟩
abbrev S1x128 : Shape := ⟨2, ![1, 128]⟩

abbrev nBuf : Space → Nat
  | .hbm => 229
  | .vmem => 0
  | .smem => 0
  | _ => 0

abbrev hbmTy0_0 (i : Nat) : BufTy := match i % 128 with
  | 0 => ⟨S1x4096x3088, .f32⟩
  | 1 => ⟨S4, .f32⟩
  | 2 => ⟨S1x4096x1024, .f32⟩
  | 3 => ⟨S1x4096x256, .f32⟩
  | 4 => ⟨S1x4096x128, .f32⟩
  | 5 => ⟨S1x4096x128, .f32⟩
  | 6 => ⟨S1x64x64x2x2x64, .f32⟩
  | 7 => ⟨S_, .f32⟩
  | 8 => ⟨S1x128x128, .f32⟩
  | 9 => ⟨S1x4224x128, .f32⟩
  | 10 => ⟨S_, .f32⟩
  | 11 => ⟨S1x128x128, .f32⟩
  | 12 => ⟨S1x66x64x2x64, .f32⟩
  | 13 => ⟨S_, .f32⟩
  | 14 => ⟨S1x128x128, .f32⟩
  | 15 => ⟨S1x4224x128, .f32⟩
  | 16 => ⟨S_, .f32⟩
  | 17 => ⟨S1x128x128, .f32⟩
  | 18 => ⟨S1x66x64x2x64, .f32⟩
  | 19 => ⟨S1x64x64x2x64, .f32⟩
  | 20 => ⟨S1x64x64x2x64, .f32⟩
  | 21 => ⟨S1x64x64x2x64, .f32⟩
  | 22 => ⟨S1x64x192x2x64, .f32⟩
  | 23 => ⟨S1x64x64x2x64, .f32⟩
  | 24 => ⟨S1x64x64x2x64, .f32⟩
  | 25 => ⟨S1x64x64x2x64, .f32⟩
  | 26 => ⟨S1x64x192x2x64, .f32⟩
  | 27 => ⟨S1x64x2x192x64x2, .f32⟩
  | 28 => ⟨S1x64x2x2x64x192, .f32⟩
  | 29 => ⟨S_, .f32⟩
  | 30 => ⟨S1x64x2x2x64x192, .f32⟩
  | 31 => ⟨S1x64x2x2x64x192, .f32⟩
  | 32 => ⟨S64, .i32⟩
  | 33 => ⟨S64x1, .i32⟩
  | 34 => ⟨S192, .i32⟩
  | 35 => ⟨S1x192, .i32⟩
  | 36 => ⟨S_, .i32⟩
  | 37 => ⟨S64x1, .i32⟩
  | 38 => ⟨S64x1, .i32⟩
  | 39 => ⟨S64x192, .i32⟩
  | 40 => ⟨S64x192, .i32⟩
  | 41 => ⟨S64x192, .i32⟩
  | 42 => ⟨S64x192, .i32⟩
  | 43 => ⟨S64x192, .f32⟩
  | 44 => ⟨S4, .f32⟩
  | 45 => ⟨S_, .f32⟩
  | 46 => ⟨S4, .f32⟩
  | 47 => ⟨S4, .f32⟩
  | 48 => ⟨S_, .f32⟩
  | 49 => ⟨S4, .f32⟩
  | 50 => ⟨S4, .f32⟩
  | 51 => ⟨S_, .f32⟩
  | 52 => ⟨S4, .f32⟩
  | 53 => ⟨S4, .f32⟩
  | 54 => ⟨S_, .f32⟩
  | 55 => ⟨S4, .f32⟩
  | 56 => ⟨S4, .f32⟩
  | 57 => ⟨S2x2, .f32⟩
  | 58 => ⟨S2x2x1x1, .f32⟩
  | 59 => ⟨S1x1x64x192, .f32⟩
  | 60 => ⟨S2x2x64x192, .f32⟩
  | 61 => ⟨S2x2x64x192, .f32⟩
  | 62 => ⟨S2x2x64x192, .f32⟩
  | 63 => ⟨S1x1x2x2x64x192, .f32⟩
  | 64 => ⟨S1x64x2x2x64x192, .f32⟩
  | 65 => ⟨S1x64x2x2x64x192, .f32⟩
  | 66 => ⟨S64, .i32⟩
  | 67 => ⟨S64x1, .i32⟩
  | 68 => ⟨S_, .i32⟩
  | 69 => ⟨S64x1, .i32⟩
  | 70 => ⟨S64x1, .i32⟩
  | 71 => ⟨S192, .i32⟩
  | 72 => ⟨S_, .i32⟩
  | 73 => ⟨S_, .i32⟩
  | 74 => ⟨S192, .i32⟩
  | 75 => ⟨S192, .i32⟩
  | 76 => ⟨S192, .i32⟩
  | 77 => ⟨S_, .i32⟩
  | 78 => ⟨S192, .i32⟩
  | 79 => ⟨S192, .i1⟩
  | 80 => ⟨S192, .i32⟩
  | 81 => ⟨S192, .i32⟩
  | 82 => ⟨S_, .i32⟩
  | 83 => ⟨S192, .i32⟩
  | 84 => ⟨S192, .i1⟩
  | 85 => ⟨S192, .i1⟩
  | 86 => ⟨S_, .i32⟩
  | 87 => ⟨S192, .i32⟩
  | 88 => ⟨S192, .i32⟩
  | 89 => ⟨S192, .i32⟩
  | 90 => ⟨S1x192, .i32⟩
  | 91 => ⟨S64x192, .i32⟩
  | 92 => ⟨S64x192, .i32⟩
  | 93 => ⟨S64x192, .i32⟩
  | 94 => ⟨S_, .i32⟩
  | 95 => ⟨S64x192, .i32⟩
  | 96 => ⟨S64x192, .i1⟩
  | 97 => ⟨S1x64x1x1x1x192, .i1⟩
  | 98 => ⟨S_, .f32⟩
  | 99 => ⟨S_, .f32⟩
  | 100 => ⟨S1x64x2x2x64x192, .i1⟩
  | 101 => ⟨S1x64x2x2x64x192, .f32⟩
  | 102 => ⟨S1x64x2x2x64x192, .f32⟩
  | 103 => ⟨S_, .f32⟩
  | 104 => ⟨S1x64x2x2x64x192, .f32⟩
  | 105 => ⟨S1x1x2x2x1x1, .f32⟩
  | 106 => ⟨S1x64x2x2x64x1, .f32⟩
  | 107 => ⟨S1x64x2x2x64x193, .f32⟩
  | 108 => ⟨S_, .f32⟩
  | 109 => ⟨S1x64x2x2x64, .f32⟩
  | 110 => ⟨S1x64x2x2x64x1, .f32⟩
  | 111 => ⟨S1x64x2x2x64x193, .f32⟩
  | 112 => ⟨S1x64x2x2x64x193, .i1⟩
  | 113 => ⟨S1x64x2x2x64x193, .f32⟩
  | 114 => ⟨S_, .f32⟩
  | 115 => ⟨S1x64x2x2x64, .f32⟩
  | 116 => ⟨S_, .f32⟩
  | 117 => ⟨S1x64x2x2x64, .f32⟩
  | 118 => ⟨S1x64x2x2x64, .f32⟩
  | 119 => ⟨S_, .f32⟩
  | 120 => ⟨S1x64x2x2x64, .f32⟩
  | 121 => ⟨S1x64x2x2x64, .i1⟩
  | 122 => ⟨S_, .f32⟩
  | 123 => ⟨S1x64x2x2x64, .f32⟩
  | 124 => ⟨S1x64x2x2x64, .i1⟩
  | 125 => ⟨S_, .f32⟩
  | 126 => ⟨S1x64x2x2x64, .f32⟩
  | 127 => ⟨S_, .f32⟩
  | _ => ⟨S1x4096x3088, .f32⟩

abbrev hbmTy0_1 (i : Nat) : BufTy := match i % 128 with
  | 0 => ⟨S1x64x2x2x64, .f32⟩
  | 1 => ⟨S_, .f32⟩
  | 2 => ⟨S1x64x2x2x64, .f32⟩
  | 3 => ⟨S1x64x2x2x64, .f32⟩
  | 4 => ⟨S1x64x2x2x64, .f32⟩
  | 5 => ⟨S1x64x2x2x64x1, .f32⟩
  | 6 => ⟨S1x64x2x2x64x193, .f32⟩
  | 7 => ⟨S1x64x2x2x64x193, .f32⟩
  | 8 => ⟨S1x64x2x2x64x193, .f32⟩
  | 9 => ⟨S_, .f32⟩
  | 10 => ⟨S1x64x2x2x64, .f32⟩
  | 11 => ⟨S1x64x2x2x64x1, .f32⟩
  | 12 => ⟨S1x64x2x2x64x193, .f32⟩
  | 13 => ⟨S1x64x2x2x64x193, .f32⟩
  | 14 => ⟨S1x64x2x2x64x1, .f32⟩
  | 15 => ⟨S_, .f32⟩
  | 16 => ⟨S1x64x2x2x64x1, .f32⟩
  | 17 => ⟨S1x64x2x2x64x1, .f32⟩
  | 18 => ⟨S1x64x2x2x64x192, .f32⟩
  | 19 => ⟨S1x64x2x64x2x64, .f32⟩
  | 20 => ⟨S1x64x64x2x2x64, .f32⟩
  | 21 => ⟨S1x4096x256, .f32⟩
  | 22 => ⟨S1x4096x256, .f32⟩
  | 23 => ⟨S1x64x64x2x2x64, .f32⟩
  | 24 => ⟨S1x64x2x64x2x64, .f32⟩
  | 25 => ⟨S1x64x2x2x64x192, .f32⟩
  | 26 => ⟨S1x64x2x64x192, .f32⟩
  | 27 => ⟨S1x64x192x2x64, .f32⟩
  | 28 => ⟨S_, .f32⟩
  | 29 => ⟨S1x64x2x2x64x193, .f32⟩
  | 30 => ⟨S1x64x2x2x64x193, .f32⟩
  | 31 => ⟨S1x64x2x2x64x193, .f32⟩
  | 32 => ⟨S1x64x2x2x64x193, .f32⟩
  | 33 => ⟨S_, .f32⟩
  | 34 => ⟨S1x64x2x2x64, .f32⟩
  | 35 => ⟨S1x64x2x2x64x1, .f32⟩
  | 36 => ⟨S1x64x2x2x64x1, .f32⟩
  | 37 => ⟨S1x64x2x2x64x193, .f32⟩
  | 38 => ⟨S1x64x2x2x64x193, .f32⟩
  | 39 => ⟨S_, .f32⟩
  | 40 => ⟨S64x2x2x64, .f32⟩
  | 41 => ⟨S1x64x2x2x64, .f32⟩
  | 42 => ⟨S1x64x2x2x64x193, .f32⟩
  | 43 => ⟨S1x64x2x2x64x193, .f32⟩
  | 44 => ⟨S1x64x2x2x64x193, .f32⟩
  | 45 => ⟨S1x64x2x2x64x192, .f32⟩
  | 46 => ⟨S1x64x2x2x64x1, .f32⟩
  | 47 => ⟨S_, .f32⟩
  | 48 => ⟨S2x2, .f32⟩
  | 49 => ⟨S1x1x2x2x1x1, .f32⟩
  | 50 => ⟨S4, .f32⟩
  | 51 => ⟨S_, .f32⟩
  | 52 => ⟨S1x64x2x2x64x192, .f32⟩
  | 53 => ⟨S1x64x2x2x64x192, .f32⟩
  | 54 => ⟨S_, .f32⟩
  | 55 => ⟨S1x64x2x2x64x192, .f32⟩
  | 56 => ⟨S1x64x2x2x64x192, .f32⟩
  | 57 => ⟨S1x64x2x192x64x2, .f32⟩
  | 58 => ⟨S1x64x2x64x2x64, .f32⟩
  | 59 => ⟨S1x64x64x2x2x64, .f32⟩
  | 60 => ⟨S1x64x2x192x64, .f32⟩
  | 61 => ⟨S1x64x192x2x64, .f32⟩
  | 62 => ⟨S1x64x64x2x64, .f32⟩
  | 63 => ⟨S1x64x64x2x64, .f32⟩
  | 64 => ⟨S1x64x64x2x64, .f32⟩
  | 65 => ⟨S_, .f32⟩
  | 66 => ⟨S1x66x64x2x64, .f32⟩
  | 67 => ⟨S_, .f32⟩
  | 68 => ⟨S1x66x64x2x64, .f32⟩
  | 69 => ⟨S1x66x64x2x64, .f32⟩
  | 70 => ⟨S_, .f32⟩
  | 71 => ⟨S1x66x64x2x64, .f32⟩
  | 72 => ⟨S1x66x64x2x64, .f32⟩
  | 73 => ⟨S1x64x64x2x64, .f32⟩
  | 74 => ⟨S1x64x64x2x64, .f32⟩
  | 75 => ⟨S1x64x64x2x64, .f32⟩
  | 76 => ⟨S_, .f32⟩
  | 77 => ⟨S1x66x64x2x64, .f32⟩
  | 78 => ⟨S_, .f32⟩
  | 79 => ⟨S1x66x64x2x64, .f32⟩
  | 80 => ⟨S1x66x64x2x64, .f32⟩
  | 81 => ⟨S_, .f32⟩
  | 82 => ⟨S1x66x64x2x64, .f32⟩
  | 83 => ⟨S1x66x64x2x64, .f32⟩
  | 84 => ⟨S1x4224x128, .f32⟩
  | 85 => ⟨S1x128x128, .f32⟩
  | 86 => ⟨S1x4096x128, .f32⟩
  | 87 => ⟨S1x4224x128, .f32⟩
  | 88 => ⟨S1x128x128, .f32⟩
  | 89 => ⟨S1x4096x128, .f32⟩
  | 90 => ⟨S1x4096x256, .f32⟩
  | 91 => ⟨S4096x256, .f32⟩
  | 92 => ⟨S4096x256, .bf16⟩
  | 93 => ⟨S4096x128, .f32⟩
  | 94 => ⟨S4096x128, .bf16⟩
  | 95 => ⟨S4096x128, .f32⟩
  | 96 => ⟨S4096x128, .bf16⟩
  | 97 => ⟨S_, .f32⟩
  | 98 => ⟨S124, .f32⟩
  | 99 => ⟨S128, .f32⟩
  | 100 => ⟨S1x128, .f32⟩
  | _ => ⟨S1x4096x3088, .f32⟩

abbrev hbmTy (i : Nat) : BufTy := match i / 128 with
  | 0 => hbmTy0_0 i
  | 1 => hbmTy0_1 i
  | _ => ⟨S1x4096x3088, .f32⟩

abbrev bufTy : (tb : Table) → Fin (tcTables nBuf tb) → BufTy
  | .hbm, ⟨i, _⟩ => hbmTy i
  | _, _ => ⟨S1x4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_c_9 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_v8 : Ref sig .tc := ⟨.hbm, 81, rfl⟩
abbrev main_call0_c : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_c_0 : Ref sig .tc := ⟨.hbm, 86, rfl⟩
abbrev main_call0_v12 : Ref sig .tc := ⟨.hbm, 87, rfl⟩
abbrev main_call0_v13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_10 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_11 : Ref sig .tc := ⟨.hbm, 98, rfl⟩
abbrev main_call1_v0 : Ref sig .tc := ⟨.hbm, 99, rfl⟩
abbrev main_v66_1 : Ref sig .tc := ⟨.hbm, 100, rfl⟩
abbrev main_call1_v2 : Ref sig .tc := ⟨.hbm, 101, rfl⟩
abbrev main_v66_0 : Ref sig .tc := ⟨.hbm, 102, rfl⟩
abbrev main_call1_cst : Ref sig .tc := ⟨.hbm, 103, rfl⟩
abbrev main_v66_2 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_12 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_13 : Ref sig .tc := ⟨.hbm, 114, rfl⟩
abbrev main_v75 : Ref sig .tc := ⟨.hbm, 115, rfl⟩
abbrev main_cst_14 : Ref sig .tc := ⟨.hbm, 116, rfl⟩
abbrev main_v76 : Ref sig .tc := ⟨.hbm, 117, rfl⟩
abbrev main_v77 : Ref sig .tc := ⟨.hbm, 118, rfl⟩
abbrev main_cst_15 : Ref sig .tc := ⟨.hbm, 119, rfl⟩
abbrev main_v78 : Ref sig .tc := ⟨.hbm, 120, rfl⟩
abbrev main_v79 : Ref sig .tc := ⟨.hbm, 121, rfl⟩
abbrev main_cst_16 : Ref sig .tc := ⟨.hbm, 122, rfl⟩
abbrev main_v80 : Ref sig .tc := ⟨.hbm, 123, rfl⟩
abbrev main_v81 : Ref sig .tc := ⟨.hbm, 124, rfl⟩
abbrev main_cst_17 : Ref sig .tc := ⟨.hbm, 125, rfl⟩
abbrev main_v82 : Ref sig .tc := ⟨.hbm, 126, rfl⟩
abbrev main_cst_18 : Ref sig .tc := ⟨.hbm, 127, rfl⟩
abbrev main_v83 : Ref sig .tc := ⟨.hbm, 128, rfl⟩
abbrev main_cst_19 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_20 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_21 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_22 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_23 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_24 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_25 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_call2_cst : Ref sig .tc := ⟨.hbm, 179, rfl⟩
abbrev main_call2_v0 : Ref sig .tc := ⟨.hbm, 180, rfl⟩
abbrev main_v127 : Ref sig .tc := ⟨.hbm, 181, rfl⟩
abbrev main_cst_26 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_27 : Ref sig .tc := ⟨.hbm, 193, rfl⟩
abbrev main_v138 : Ref sig .tc := ⟨.hbm, 194, rfl⟩
abbrev main_cst_28 : Ref sig .tc := ⟨.hbm, 195, rfl⟩
abbrev main_v139 : Ref sig .tc := ⟨.hbm, 196, rfl⟩
abbrev main_v140 : Ref sig .tc := ⟨.hbm, 197, rfl⟩
abbrev main_cst_29 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_cst_30 : Ref sig .tc := ⟨.hbm, 204, rfl⟩
abbrev main_v146 : Ref sig .tc := ⟨.hbm, 205, rfl⟩
abbrev main_cst_31 : Ref sig .tc := ⟨.hbm, 206, rfl⟩
abbrev main_v147 : Ref sig .tc := ⟨.hbm, 207, rfl⟩
abbrev main_v148 : Ref sig .tc := ⟨.hbm, 208, rfl⟩
abbrev main_cst_32 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_cst_33 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩

abbrev nD : Nat := 1
abbrev τ : Topo := Topo.v7x

variable {F : FTy → Type} [FloatOps F]
-- ==== SwafKernel.lean ====
abbrev S1x4096x3088 : Shape := ⟨3, ![1, 4096, 3088]⟩
abbrev S4 : Shape := ⟨1, ![4]⟩
abbrev S4096x3088 : Shape := ⟨2, ![4096, 3088]⟩
abbrev S_ : Shape := ⟨0, ![]⟩
abbrev S4096x120 : Shape := ⟨2, ![4096, 120]⟩
abbrev S4096x768 : Shape := ⟨2, ![4096, 768]⟩
abbrev S4096x256 : Shape := ⟨2, ![4096, 256]⟩
abbrev S4096x1024 : Shape := ⟨2, ![4096, 1024]⟩
abbrev S4096x512 : Shape := ⟨2, ![4096, 512]⟩
abbrev S4096x8 : Shape := ⟨2, ![4096, 8]⟩
abbrev S4096x3328 : Shape := ⟨2, ![4096, 3328]⟩
abbrev S1x128 : Shape := ⟨2, ![1, 128]⟩
abbrev S1 : Shape := ⟨1, ![1]⟩
abbrev S2 : Shape := ⟨1, ![2]⟩
abbrev S256x256 : Shape := ⟨2, ![256, 256]⟩
abbrev S4096x128 : Shape := ⟨2, ![4096, 128]⟩
abbrev S4224x128 : Shape := ⟨2, ![4224, 128]⟩
abbrev S128x128 : Shape := ⟨2, ![128, 128]⟩
abbrev S384x128 : Shape := ⟨2, ![384, 128]⟩
abbrev S256x384 : Shape := ⟨2, ![256, 384]⟩
abbrev S256x64 : Shape := ⟨2, ![256, 64]⟩
abbrev S384x64 : Shape := ⟨2, ![384, 64]⟩
abbrev S1x1 : Shape := ⟨2, ![1, 1]⟩
abbrev S256 : Shape := ⟨1, ![256]⟩
abbrev S256x1 : Shape := ⟨2, ![256, 1]⟩

abbrev nBuf : Space → Nat
  | .hbm => 22
  | .vmem => 9
  | .smem => 0
  | _ => 0

abbrev bufTy : (tb : Table) → Fin (tcTables nBuf tb) → BufTy
  | .hbm, ⟨0, _⟩ => ⟨S1x4096x3088, .f32⟩
  | .hbm, ⟨1, _⟩ => ⟨S4, .f32⟩
  | .hbm, ⟨2, _⟩ => ⟨S4096x3088, .f32⟩
  | .hbm, ⟨3, _⟩ => ⟨S_, .f32⟩
  | .hbm, ⟨4, _⟩ => ⟨S4096x120, .f32⟩
  | .hbm, ⟨5, _⟩ => ⟨S4096x768, .f32⟩
  | .hbm, ⟨6, _⟩ => ⟨S4096x256, .f32⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S4096x8, .f32⟩
  | .hbm, ⟨11, _⟩ => ⟨S4096x8, .f32⟩
  | .hbm, ⟨12, _⟩ => ⟨S4096x3328, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S4096x256, .bf16⟩
  | .local _ .vmem, ⟨0, _⟩ => ⟨S256x256, .f32⟩
  | .local _ .vmem, ⟨1, _⟩ => ⟨S256x256, .f32⟩
  | .local _ .vmem, ⟨2, _⟩ => ⟨S4096x128, .f32⟩
  | .local _ .vmem, ⟨3, _⟩ => ⟨S4096x128, .f32⟩
  | .local _ .vmem, ⟨4, _⟩ => ⟨S1x128, .f32⟩
  | .local _ .vmem, ⟨5, _⟩ => ⟨S256x256, .bf16⟩
  | .local _ .vmem, ⟨6, _⟩ => ⟨S256x256, .bf16⟩
  | .local _ .vmem, ⟨7, _⟩ => ⟨S4224x128, .f32⟩
  | .local _ .vmem, ⟨8, _⟩ => ⟨S4224x128, .f32⟩
  | _, _ => ⟨S1x4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v3 : BitVec 32 := Scalar.muli arg0 c256_i32
  v3
def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v7 : Index := Scalar.indexCast v4
  let c0_2 : Index := 0#32
  ![v7.toNat, 0]
def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c18_i32 : BitVec 32 := 18#32
  let c0_i32_0 : BitVec 32 := 0#32
  ![c0_i32.toNat, c18_i32.toNat]

def cc0_transform_2 (i : grid0.Coords) : Fin 2 → Nat :=
  let arg0 : BitVec 32 := BitVec.ofNat 32 (i 0).val
  let c0_i32 : BitVec 32 := 0#32
  let c19_i32 : BitVec 32 := 19#32
  let c0_i32_0 : BitVec 32 := 0#32
  ![c0_i32.toNat, c19_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwafKernelIdeal.lean ====
variable {F : FTy → Type} [FloatOps F] [Named F]
def κ : String → Option EReal := fun
  | "mask" => some ⊥
  | _ => none
-- ==== SwafReferenceIdeal.lean ====
abbrev S1x4096x3088 : Shape := ⟨3, ![1, 4096, 3088]⟩
abbrev S4 : Shape := ⟨1, ![4]⟩
abbrev S1x4096x256 : Shape := ⟨3, ![1, 4096, 256]⟩
abbrev S1x4096x128 : Shape := ⟨3, ![1, 4096, 128]⟩
abbrev S1x64x64x2x2x64 : Shape := ⟨6, ![1, 64, 64, 2, 2, 64]⟩
abbrev S_ : Shape := ⟨0, ![]⟩
abbrev S1x128x128 : Shape := ⟨3, ![1, 128, 128]⟩
abbrev S1x4224x128 : Shape := ⟨3, ![1, 4224, 128]⟩
abbrev S1x66x64x2x64 : Shape := ⟨5, ![1, 66, 64, 2, 64]⟩
abbrev S1x64x64x2x64 : Shape := ⟨5, ![1, 64, 64, 2, 64]⟩
abbrev S1x64x192x2x64 : Shape := ⟨5, ![1, 64, 192, 2, 64]⟩
abbrev S1x64x2x192x64x2 : Shape := ⟨6, ![1, 64, 2, 192, 64, 2]⟩
abbrev S1x64x2x2x64x192 : Shape := ⟨6, ![1, 64, 2, 2, 64, 192]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S2x2 : Shape := ⟨2, ![2, 2]⟩
abbrev S2x2x1x1 : Shape := ⟨4, ![2, 2, 1, 1]⟩
abbrev S1x1x64x192 : Shape := ⟨4, ![1, 1, 64, 192]⟩
abbrev S2x2x64x192 : Shape := ⟨4, ![2, 2, 64, 192]⟩
abbrev S1x1x2x2x64x192 : Shape := ⟨6, ![1, 1, 2, 2, 64, 192]⟩
abbrev S1x64x1x1x1x192 : Shape := ⟨6, ![1, 64, 1, 1, 1, 192]⟩
abbrev S1x1x2x2x1x1 : Shape := ⟨6, ![1, 1, 2, 2, 1, 1]⟩
abbrev S1x64x2x2x64x1 : Shape := ⟨6, ![1, 64, 2, 2, 64, 1]⟩
abbrev S1x64x2x2x64x193 : Shape := ⟨6, ![1, 64, 2, 2, 64, 193]⟩
abbrev S1x64x2x2x64 : Shape := ⟨5, ![1, 64, 2, 2, 64]⟩
abbrev S1x64x2x64x2x64 : Shape := ⟨6, ![1, 64, 2, 64, 2, 64]⟩
abbrev S4096x256 : Shape := ⟨2, ![4096, 256]⟩

abbrev nBuf : Space → Nat
  | .hbm => 121
  | .vmem => 0
  | .smem => 0
  | _ => 0

abbrev bufTy : (tb : Table) → Fin (tcTables nBuf tb) → BufTy
  | .hbm, ⟨0, _⟩ => ⟨S1x4096x3088, .f32⟩
  | .hbm, ⟨1, _⟩ => ⟨S4, .f32⟩
  | .hbm, ⟨2, _⟩ => ⟨S1x4096x256, .f32⟩
  | .hbm, ⟨3, _⟩ => ⟨S1x4096x128, .f32⟩
  | .hbm, ⟨4, _⟩ => ⟨S1x4096x128, .f32⟩
  | .hbm, ⟨5, _⟩ => ⟨S1x64x64x2x2x64, .f32⟩
  | .hbm, ⟨6, _⟩ => ⟨S_, .f32⟩
  | .hbm, ⟨7, _⟩ => ⟨S1x128x128, .f32⟩
  | .hbm, ⟨8, _⟩ => ⟨S1x4224x128, .f32⟩
  | .hbm, ⟨9, _⟩ => ⟨S1x66x64x2x64, .f32⟩
  | .hbm, ⟨10, _⟩ => ⟨S_, .f32⟩
  | .hbm, ⟨11, _⟩ => ⟨S1x128x128, .f32⟩
  | .hbm, ⟨12, _⟩ => ⟨S1x4224x128, .f32⟩
  | .hbm, ⟨13, _⟩ => ⟨S1x66x64x2x64, .f32⟩
  | .hbm, ⟨14, _⟩ => ⟨S1x64x64x2x64, .f32⟩
  | .hbm, ⟨15, _⟩ => ⟨S1x64x64x2x64, .f32⟩
  | .hbm, ⟨16, _⟩ => ⟨S1x64x64x2x64, .f32⟩
  | .hbm, ⟨17, _⟩ => ⟨S1x64x192x2x64, .f32⟩
  | .hbm, ⟨18, _⟩ => ⟨S1x64x64x2x64, .f32⟩
  | .hbm, ⟨19, _⟩ => ⟨S1x64x64x2x64, .f32⟩
  | .hbm, ⟨20, _⟩ => ⟨S1x64x64x2x64, .f32⟩
  | .hbm, ⟨21, _⟩ => ⟨S1x64x192x2x64, .f32⟩
  | .hbm, ⟨22, _⟩ => ⟨S1x64x2x192x64x2, .f32⟩
  | .hbm, ⟨23, _⟩ => ⟨S1x64x2x2x64x192, .f32⟩
  | .hbm, ⟨24, _⟩ => ⟨S_, .f32⟩
  | .hbm, ⟨25, _⟩ => ⟨S1x64x2x2x64x192, .f32⟩
  | .hbm, ⟨26, _⟩ => ⟨S1x64x2x2x64x192, .f32⟩
  | .hbm, ⟨27, _⟩ => ⟨S64, .i32⟩
  | .hbm, ⟨28, _⟩ => ⟨S64x1, .i32⟩
  | .hbm, ⟨29, _⟩ => ⟨S192, .i32⟩
  | .hbm, ⟨30, _⟩ => ⟨S1x192, .i32⟩
  | .hbm, ⟨31, _⟩ => ⟨S_, .i32⟩
  | .hbm, ⟨32, _⟩ => ⟨S64x1, .i32⟩
  | .hbm, ⟨33, _⟩ => ⟨S64x1, .i32⟩
  | .hbm, ⟨34, _⟩ => ⟨S64x192, .i32⟩
  | .hbm, ⟨35, _⟩ => ⟨S64x192, .i32⟩
  | .hbm, ⟨36, _⟩ => ⟨S64x192, .i32⟩
  | .hbm, ⟨37, _⟩ => ⟨S64x192, .i32⟩
  | .hbm, ⟨38, _⟩ => ⟨S64x192, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S_, .f32⟩
  | .hbm, ⟨50, _⟩ => ⟨S4, .f32⟩
  | .hbm, ⟨51, _⟩ => ⟨S4, .f32⟩
  | .hbm, ⟨52, _⟩ => ⟨S2x2, .f32⟩
  | .hbm, ⟨53, _⟩ => ⟨S2x2x1x1, .f32⟩
  | .hbm, ⟨54, _⟩ => ⟨S1x1x64x192, .f32⟩
  | .hbm, ⟨55, _⟩ => ⟨S2x2x64x192, .f32⟩
  | .hbm, ⟨56, _⟩ => ⟨S2x2x64x192, .f32⟩
  | .hbm, ⟨57, _⟩ => ⟨S2x2x64x192, .f32⟩
  | .hbm, ⟨58, _⟩ => ⟨S1x1x2x2x64x192, .f32⟩
  | .hbm, ⟨59, _⟩ => ⟨S1x64x2x2x64x192, .f32⟩
  | .hbm, ⟨60, _⟩ => ⟨S1x64x2x2x64x192, .f32⟩
  | .hbm, ⟨61, _⟩ => ⟨S64, .i32⟩
  | .hbm, ⟨62, _⟩ => ⟨S64x1, .i32⟩
  | .hbm, ⟨63, _⟩ => ⟨S_, .i32⟩
  | .hbm, ⟨64, _⟩ => ⟨S64x1, .i32⟩
  | .hbm, ⟨65, _⟩ => ⟨S64x1, .i32⟩
  | .hbm, ⟨66, _⟩ => ⟨S192, .i32⟩
  | .hbm, ⟨67, _⟩ => ⟨S_, .i32⟩
  | .hbm, ⟨68, _⟩ => ⟨S_, .i32⟩
  | .hbm, ⟨69, _⟩ => ⟨S192, .i32⟩
  | .hbm, ⟨70, _⟩ => ⟨S192, .i32⟩
  | .hbm, ⟨71, _⟩ => ⟨S192, .i32⟩
  | .hbm, ⟨72, _⟩ => ⟨S_, .i32⟩
  | .hbm, ⟨73, _⟩ => ⟨S192, .i32⟩
  | .hbm, ⟨74, _⟩ => ⟨S192, .i1⟩
  | .hbm, ⟨75, _⟩ => ⟨S192, .i32⟩
  | .hbm, ⟨76, _⟩ => ⟨S192, .i32⟩
  | .hbm, ⟨77, _⟩ => ⟨S_, .i32⟩
  | .hbm, ⟨78, _⟩ => ⟨S192, .i32⟩
  | .hbm, ⟨79, _⟩ => ⟨S192, .i1⟩
  | .hbm, ⟨80, _⟩ => ⟨S192, .i1⟩
  | .hbm, ⟨81, _⟩ => ⟨S_, .i32⟩
  | .hbm, ⟨82, _⟩ => ⟨S192, .i32⟩
  | .hbm, ⟨83, _⟩ => ⟨S192, .i32⟩
  | .hbm, ⟨84, _⟩ => ⟨S192, .i32⟩
  | .hbm, ⟨85, _⟩ => ⟨S1x192, .i32⟩
  | .hbm, ⟨86, _⟩ => ⟨S64x192, .i32⟩
  | .hbm, ⟨87, _⟩ => ⟨S64x192, .i32⟩
  | .hbm, ⟨88, _⟩ => ⟨S64x192, .i32⟩
  | .hbm, ⟨89, _⟩ => ⟨S_, .i32⟩
  | .hbm, ⟨90, _⟩ => ⟨S64x192, .i32⟩
  | .hbm, ⟨91, _⟩ => ⟨S64x192, .i1⟩
  | .hbm, ⟨92, _⟩ => ⟨S1x64x1x1x1x192, .i1⟩
  | .hbm, ⟨93, _⟩ => ⟨S_, .f32⟩
  | .hbm, ⟨94, _⟩ => ⟨S_, .f32⟩
  | .hbm, ⟨95, _⟩ => ⟨S1x64x2x2x64x192, .i1⟩
  | .hbm, ⟨96, _⟩ => ⟨S1x64x2x2x64x192, .f32⟩
  | .hbm, ⟨97, _⟩ => ⟨S1x64x2x2x64x192, .f32⟩
  | .hbm, ⟨98, _⟩ => ⟨S1x1x2x2x1x1, .f32⟩
  | .hbm, ⟨99, _⟩ => ⟨S1x64x2x2x64x1, .f32⟩
  | .hbm, ⟨100, _⟩ => ⟨S1x64x2x2x64x193, .f32⟩
  | .hbm, ⟨101, _⟩ => ⟨S_, .f32⟩
  | .hbm, ⟨102, _⟩ => ⟨S1x64x2x2x64, .f32⟩
  | .hbm, ⟨103, _⟩ => ⟨S_, .f32⟩
  | .hbm, ⟨104, _⟩ => ⟨S1x64x2x2x64, .f32⟩
  | .hbm, ⟨105, _⟩ => ⟨S1x64x2x2x64, .f32⟩
  | .hbm, ⟨106, _⟩ => ⟨S1x64x2x2x64x1, .f32⟩
  | .hbm, ⟨107, _⟩ => ⟨S1x64x2x2x64x193, .f32⟩
  | .hbm, ⟨108, _⟩ => ⟨S1x64x2x2x64x193, .f32⟩
  | .hbm, ⟨109, _⟩ => ⟨S1x64x2x2x64x193, .f32⟩
  | .hbm, ⟨110, _⟩ => ⟨S_, .f32⟩
  | .hbm, ⟨111, _⟩ => ⟨S1x64x2x2x64, .f32⟩
  | .hbm, ⟨112, _⟩ => ⟨S1x64x2x2x64x1, .f32⟩
  | .hbm, ⟨113, _⟩ => ⟨S1x64x2x2x64x193, .f32⟩
  | .hbm, ⟨114, _⟩ => ⟨S1x64x2x2x64x193, .f32⟩
  | .hbm, ⟨115, _⟩ => ⟨S1x64x2x2x64x192, .f32⟩
  | .hbm, ⟨116, _⟩ => ⟨S1x64x2x64x2x64, .f32⟩
  | .hbm, ⟨117, _⟩ => ⟨S1x64x64x2x2x64, .f32⟩
  | .hbm, ⟨118, _⟩ => ⟨S1x4096x256, .f32⟩
  | .hbm, ⟨119, _⟩ => ⟨S4096x256, .f32⟩
  | .hbm, ⟨120, _⟩ => ⟨S4096x256, .bf16⟩
  | _, _ => ⟨S1x4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_c_6 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_c_7 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_v8 : Ref sig .tc := ⟨.hbm, 76, rfl⟩
abbrev main_call0_c : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_c_0 : Ref sig .tc := ⟨.hbm, 81, rfl⟩
abbrev main_call0_v12 : Ref sig .tc := ⟨.hbm, 82, rfl⟩
abbrev main_call0_v13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_8 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_9 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_10 : Ref sig .tc := ⟨.hbm, 101, rfl⟩
abbrev main_v68 : Ref sig .tc := ⟨.hbm, 102, rfl⟩
abbrev main_cst_11 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_12 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]
-- ==== PnfKernel.lean ====
abbrev S1x4096x1024 : Shape := ⟨3, ![1, 4096, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PnfReferenceIdeal.lean ====
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1x4096x1024, .f32⟩
  | .hbm, ⟨3, _⟩ => ⟨S_, .f32⟩
  | .hbm, ⟨4, _⟩ => ⟨S1x4096, .f32⟩
  | .hbm, ⟨5, _⟩ => ⟨S1x4096x1, .f32⟩
  | .hbm, ⟨6, _⟩ => ⟨S_, .f32⟩
  | .hbm, ⟨7, _⟩ => ⟨S1x4096x1, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S1x4096x1, .f32⟩
  | .hbm, ⟨13, _⟩ => ⟨S1x4096x1024, .f32⟩
  | .hbm, ⟨14, _⟩ => ⟨S1x4096x1024, .f32⟩
  | .hbm, ⟨15, _⟩ => ⟨S1x1x1024, .f32⟩
  | .hbm, ⟨16, _⟩ => ⟨S1x4096x1024, .f32⟩
  | .hbm, ⟨17, _⟩ => ⟨S1x4096x1024, .f32⟩
  | .hbm, ⟨18, _⟩ => ⟨S4096x1024, .f32⟩
  | .hbm, ⟨19, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== RnfKernel.lean ====
abbrev S1x4096x1024 : Shape := ⟨3, ![1, 4096, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RnfReferenceIdeal.lean ====
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1024, .f32⟩
  | .hbm, ⟨3, _⟩ => ⟨S1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S_, .f32⟩
  | .hbm, ⟨23, _⟩ => ⟨S1x4096, .f32⟩
  | .hbm, ⟨24, _⟩ => ⟨S1x4096x1, .f32⟩
  | .hbm, ⟨25, _⟩ => ⟨S_, .f32⟩
  | .hbm, ⟨26, _⟩ => ⟨S1x4096x1, .f32⟩
  | .hbm, ⟨27, _⟩ => ⟨S1x4096x1, .f32⟩
  | .hbm, ⟨28, _⟩ => ⟨S_, .f32⟩
  | .hbm, ⟨29, _⟩ => ⟨S1x4096x1, .f32⟩
  | .hbm, ⟨30, _⟩ => ⟨S1x4096x1, .f32⟩
  | .hbm, ⟨31, _⟩ => ⟨S1x4096x1, .f32⟩
  | .hbm, ⟨32, _⟩ => ⟨S1x4096x1024, .f32⟩
  | .hbm, ⟨33, _⟩ => ⟨S1x4096x1024, .f32⟩
  | .hbm, ⟨34, _⟩ => ⟨S1x1x1024, .f32⟩
  | .hbm, ⟨35, _⟩ => ⟨S1x4096x1024, .f32⟩
  | .hbm, ⟨36, _⟩ => ⟨S1x4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== UpKernel.lean ====
abbrev S1x4096x1024 : Shape := ⟨3, ![1, 4096, 1024]⟩
abbrev S1024x2816 : Shape := ⟨2, ![1024, 2816]⟩
abbrev S4096x1024 : Shape := ⟨2, ![4096, 1024]⟩
abbrev S2816x1024 : Shape := ⟨2, ![2816, 1024]⟩
abbrev S1408x1024 : Shape := ⟨2, ![1408, 1024]⟩
abbrev S5632x1024 : Shape := ⟨2, ![5632, 1024]⟩
abbrev S4096x5632 : Shape := ⟨2, ![4096, 5632]⟩
abbrev S4096x2816 : Shape := ⟨2, ![4096, 2816]⟩
abbrev S512x1024 : Shape := ⟨2, ![512, 1024]⟩
abbrev S512x2816 : Shape := ⟨2, ![512, 2816]⟩
abbrev S512x1408 : Shape := ⟨2, ![512, 1408]⟩

abbrev nBuf : Space → Nat
  | .hbm => 15
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S4096x1024, .bf16⟩
  | .hbm, ⟨5, _⟩ => ⟨S2816x1024, .f32⟩
  | .hbm, ⟨6, _⟩ => ⟨S2816x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S5632x1024, .f32⟩
  | .hbm, ⟨12, _⟩ => ⟨S5632x1024, .bf16⟩
  | .hbm, ⟨13, _⟩ => ⟨S4096x5632, .bf16⟩
  | .hbm, ⟨14, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S1x4096x1024 : Shape := ⟨3, ![1, 4096, 1024]⟩
abbrev S1024x2816 : Shape := ⟨2, ![1024, 2816]⟩
abbrev S1x4096x2816 : Shape := ⟨3, ![1, 4096, 2816]⟩
abbrev S_ : Shape := ⟨0, ![]⟩
abbrev S4096x2816 : Shape := ⟨2, ![4096, 2816]⟩
abbrev S4096x1408 : Shape := ⟨2, ![4096, 1408]⟩
abbrev S4096x5632 : Shape := ⟨2, ![4096, 5632]⟩

abbrev nBuf : Space → Nat
  | .hbm => 25
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x2816, .f32⟩
  | .hbm, ⟨2, _⟩ => ⟨S1024x2816, .f32⟩
  | .hbm, ⟨3, _⟩ => ⟨S1x4096x2816, .f32⟩
  | .hbm, ⟨4, _⟩ => ⟨S1x4096x2816, .f32⟩
  | .hbm, ⟨5, _⟩ => ⟨S1x4096x2816, .f32⟩
  | .hbm, ⟨6, _⟩ => ⟨S1x4096x2816, .f32⟩
  | .hbm, ⟨7, _⟩ => ⟨S_, .f32⟩
  | .hbm, ⟨8, _⟩ => ⟨S1x4096x2816, .f32⟩
  | .hbm, ⟨9, _⟩ => ⟨S1x4096x2816, .f32⟩
  | .hbm, ⟨10, _⟩ => ⟨S_, .f32⟩
  | .hbm, ⟨11, _⟩ => ⟨S1x4096x2816, .f32⟩
  | .hbm, ⟨12, _⟩ => ⟨S1x4096x2816, .f32⟩
  | .hbm, ⟨13, _⟩ => ⟨S1x4096x2816, .f32⟩
  | .hbm, ⟨14, _⟩ => ⟨S1x4096x2816, .f32⟩
  | .hbm, ⟨15, _⟩ => ⟨S4096x2816, .f32⟩
  | .hbm, ⟨16, _⟩ => ⟨S4096x1408, .f32⟩
  | .hbm, ⟨17, _⟩ => ⟨S4096x1408, .f32⟩
  | .hbm, ⟨18, _⟩ => ⟨S4096x2816, .f32⟩
  | .hbm, ⟨19, _⟩ => ⟨S4096x1408, .f32⟩
  | .hbm, ⟨20, _⟩ => ⟨S4096x1408, .f32⟩
  | .hbm, ⟨21, _⟩ => ⟨S4096x5632, .f32⟩
  | .hbm, ⟨22, _⟩ => ⟨S4096x5632, .bf16⟩
  | .hbm, ⟨23, _⟩ => ⟨S4096x2816, .f32⟩
  | .hbm, ⟨24, _⟩ => ⟨S4096x2816, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== ConvfKernel.lean ====
abbrev S1x4096x3088 : Shape := ⟨3, ![1, 4096, 3088]⟩
abbrev S4x1024 : Shape := ⟨2, ![4, 1024]⟩
abbrev S1024 : Shape := ⟨1, ![1024]⟩
abbrev S4096x3088 : Shape := ⟨2, ![4096, 3088]⟩
abbrev S_ : Shape := ⟨0, ![]⟩
abbrev S4096x120 : Shape := ⟨2, ![4096, 120]⟩
abbrev S4096x768 : Shape := ⟨2, ![4096, 768]⟩
abbrev S4096x256 : Shape := ⟨2, ![4096, 256]⟩
abbrev S4096x1024 : Shape := ⟨2, ![4096, 1024]⟩
abbrev S4096x512 : Shape := ⟨2, ![4096, 512]⟩
abbrev S4096x8 : Shape := ⟨2, ![4096, 8]⟩
abbrev S4096x3328 : Shape := ⟨2, ![4096, 3328]⟩
abbrev S1x1024 : Shape := ⟨2, ![1, 1024]⟩
abbrev S512x1024 : Shape := ⟨2, ![512, 1024]⟩
abbrev S520x1024 : Shape := ⟨2, ![520, 1024]⟩
abbrev S8x1024 : Shape := ⟨2, ![8, 1024]⟩

abbrev nBuf : Space → Nat
  | .hbm => 16
  | .vmem => 7
  | .smem => 0
  | _ => 0

abbrev bufTy : (tb : Table) → Fin (tcTables nBuf tb) → BufTy
  | .hbm, ⟨0, _⟩ => ⟨S1x4096x3088, .f32⟩
  | .hbm, ⟨1, _⟩ => ⟨S4x1024, .f32⟩
  | .hbm, ⟨2, _⟩ => ⟨S1024, .f32⟩
  | .hbm, ⟨3, _⟩ => ⟨S4096x3088, .f32⟩
  | .hbm, ⟨4, _⟩ => ⟨S_, .f32⟩
  | .hbm, ⟨5, _⟩ => ⟨S4096x120, .f32⟩
  | .hbm, ⟨6, _⟩ => ⟨S4096x768, .f32⟩
  | .hbm, ⟨7, _⟩ => ⟨S4096x256, .f32⟩
  | .hbm, ⟨8, _⟩ => ⟨S4096x1024, .f32⟩
  | .hbm, ⟨9, _⟩ => ⟨S4096x512, .f32⟩
  | .hbm, ⟨10, _⟩ => ⟨S4096x512, .f32⟩
  | .hbm, ⟨11, _⟩ => ⟨S4096x8, .f32⟩
  | .hbm, ⟨12, _⟩ => ⟨S4096x8, .f32⟩
  | .hbm, ⟨13, _⟩ => ⟨S4096x3328, .f32⟩
  | .hbm, ⟨14, _⟩ => ⟨S1x1024, .f32⟩
  | .hbm, ⟨15, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S4x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S520x1024, .f32⟩
  | _, _ => ⟨S1x4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvfReferenceIdeal.lean ====
abbrev S1x4096x3088 : Shape := ⟨3, ![1, 4096, 3088]⟩
abbrev S4x1024 : Shape := ⟨2, ![4, 1024]⟩
abbrev S1024 : Shape := ⟨1, ![1024]⟩
abbrev S1x4096x1024 : Shape := ⟨3, ![1, 4096, 1024]⟩
abbrev S_ : Shape := ⟨0, ![]⟩
abbrev S1x3x1024 : Shape := ⟨3, ![1, 3, 1024]⟩
abbrev S1x4099x1024 : Shape := ⟨3, ![1, 4099, 1024]⟩
abbrev S1x1024 : Shape := ⟨2, ![1, 1024]⟩
abbrev S1x1x1024 : Shape := ⟨3, ![1, 1, 1024]⟩
abbrev S4096x1024 : Shape := ⟨2, ![4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1x4096x3088, .f32⟩
  | .hbm, ⟨1, _⟩ => ⟨S4x1024, .f32⟩
  | .hbm, ⟨2, _⟩ => ⟨S1024, .f32⟩
  | .hbm, ⟨3, _⟩ => ⟨S1x4096x1024, .f32⟩
  | .hbm, ⟨4, _⟩ => ⟨S_, .f32⟩
  | .hbm, ⟨5, _⟩ => ⟨S1x3x1024, .f32⟩
  | .hbm, ⟨6, _⟩ => ⟨S1x4099x1024, .f32⟩
  | .hbm, ⟨7, _⟩ => ⟨S1x4096x1024, .f32⟩
  | .hbm, ⟨8, _⟩ => ⟨S1x1024, .f32⟩
  | .hbm, ⟨9, _⟩ => ⟨S1024, .f32⟩
  | .hbm, ⟨10, _⟩ => ⟨S1x1x1024, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S1x4096x1024, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S1x1024, .f32⟩
  | .hbm, ⟨22, _⟩ => ⟨S1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S1x1x1024, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S1x4096x1024, .f32⟩
  | .hbm, ⟨39, _⟩ => ⟨S_, .f32⟩
  | .hbm, ⟨40, _⟩ => ⟨S1x4096x1024, .f32⟩
  | .hbm, ⟨41, _⟩ => ⟨S1x4096x1024, .f32⟩
  | .hbm, ⟨42, _⟩ => ⟨S_, .f32⟩
  | .hbm, ⟨43, _⟩ => ⟨S1x4096x1024, .f32⟩
  | .hbm, ⟨44, _⟩ => ⟨S1x4096x1024, .f32⟩
  | .hbm, ⟨45, _⟩ => ⟨S1x4096x1024, .f32⟩
  | .hbm, ⟨46, _⟩ => ⟨S4096x1024, .f32⟩
  | _, _ => ⟨S1x4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== GconvfKernel.lean ====
abbrev S1x4096x3088 : Shape := ⟨3, ![1, 4096, 3088]⟩
abbrev S4x768 : Shape := ⟨2, ![4, 768]⟩
abbrev S4096x3088 : Shape := ⟨2, ![4096, 3088]⟩
abbrev S_ : Shape := ⟨0, ![]⟩
abbrev S4096x120 : Shape := ⟨2, ![4096, 120]⟩
abbrev S4096x768 : Shape := ⟨2, ![4096, 768]⟩
abbrev S4096x256 : Shape := ⟨2, ![4096, 256]⟩
abbrev S4096x1024 : Shape := ⟨2, ![4096, 1024]⟩
abbrev S4096x512 : Shape := ⟨2, ![4096, 512]⟩
abbrev S4096x8 : Shape := ⟨2, ![4096, 8]⟩
abbrev S4096x3328 : Shape := ⟨2, ![4096, 3328]⟩
abbrev S1x768 : Shape := ⟨2, ![1, 768]⟩
abbrev S512x768 : Shape := ⟨2, ![512, 768]⟩
abbrev S520x768 : Shape := ⟨2, ![520, 768]⟩
abbrev S8x768 : Shape := ⟨2, ![8, 768]⟩

abbrev nBuf : Space → Nat
  | .hbm => 16
  | .vmem => 7
  | .smem => 0
  | _ => 0

abbrev bufTy : (tb : Table) → Fin (tcTables nBuf tb) → BufTy
  | .hbm, ⟨0, _⟩ => ⟨S1x4096x3088, .f32⟩
  | .hbm, ⟨1, _⟩ => ⟨S4x768, .f32⟩
  | .hbm, ⟨2, _⟩ => ⟨S4096x3088, .f32⟩
  | .hbm, ⟨3, _⟩ => ⟨S_, .f32⟩
  | .hbm, ⟨4, _⟩ => ⟨S4096x120, .f32⟩
  | .hbm, ⟨5, _⟩ => ⟨S4096x768, .f32⟩
  | .hbm, ⟨6, _⟩ => ⟨S4096x256, .f32⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S4096x8, .f32⟩
  | .hbm, ⟨11, _⟩ => ⟨S4096x8, .f32⟩
  | .hbm, ⟨12, _⟩ => ⟨S4096x3328, .f32⟩
  | .hbm, ⟨13, _⟩ => ⟨S_, .f32⟩
  | .hbm, ⟨14, _⟩ => ⟨S1x768, .f32⟩
  | .hbm, ⟨15, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S4x768, .f32⟩
  | .local _ .vmem, ⟨3, _⟩ => ⟨S1x768, .f32⟩
  | .local _ .vmem, ⟨4, _⟩ => ⟨S512x768, .f32⟩
  | .local _ .vmem, ⟨5, _⟩ => ⟨S512x768, .f32⟩
  | .local _ .vmem, ⟨6, _⟩ => ⟨S520x768, .f32⟩
  | _, _ => ⟨S1x4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GconvfReferenceIdeal.lean ====
abbrev S1x4096x3088 : Shape := ⟨3, ![1, 4096, 3088]⟩
abbrev S4x768 : Shape := ⟨2, ![4, 768]⟩
abbrev S1x4096x768 : Shape := ⟨3, ![1, 4096, 768]⟩
abbrev S_ : Shape := ⟨0, ![]⟩
abbrev S1x3x768 : Shape := ⟨3, ![1, 3, 768]⟩
abbrev S1x4099x768 : Shape := ⟨3, ![1, 4099, 768]⟩
abbrev S1x768 : Shape := ⟨2, ![1, 768]⟩
abbrev S768 : Shape := ⟨1, ![768]⟩
abbrev S1x1x768 : Shape := ⟨3, ![1, 1, 768]⟩
abbrev S4096x768 : Shape := ⟨2, ![4096, 768]⟩

abbrev nBuf : Space → Nat
  | .hbm => 43
  | .vmem => 0
  | .smem => 0
  | _ => 0

abbrev bufTy : (tb : Table) → Fin (tcTables nBuf tb) → BufTy
  | .hbm, ⟨0, _⟩ => ⟨S1x4096x3088, .f32⟩
  | .hbm, ⟨1, _⟩ => ⟨S4x768, .f32⟩
  | .hbm, ⟨2, _⟩ => ⟨S1x4096x768, .f32⟩
  | .hbm, ⟨3, _⟩ => ⟨S_, .f32⟩
  | .hbm, ⟨4, _⟩ => ⟨S1x3x768, .f32⟩
  | .hbm, ⟨5, _⟩ => ⟨S1x4099x768, .f32⟩
  | .hbm, ⟨6, _⟩ => ⟨S1x4096x768, .f32⟩
  | .hbm, ⟨7, _⟩ => ⟨S1x768, .f32⟩
  | .hbm, ⟨8, _⟩ => ⟨S768, .f32⟩
  | .hbm, ⟨9, _⟩ => ⟨S1x1x768, .f32⟩
  | .hbm, ⟨10, _⟩ => ⟨S1x4096x768, .f32⟩
  | .hbm, ⟨11, _⟩ => ⟨S1x4096x768, .f32⟩
  | .hbm, ⟨12, _⟩ => ⟨S1x4096x768, .f32⟩
  | .hbm, ⟨13, _⟩ => ⟨S1x768, .f32⟩
  | .hbm, ⟨14, _⟩ => ⟨S768, .f32⟩
  | .hbm, ⟨15, _⟩ => ⟨S1x1x768, .f32⟩
  | .hbm, ⟨16, _⟩ => ⟨S1x4096x768, .f32⟩
  | .hbm, ⟨17, _⟩ => ⟨S1x4096x768, .f32⟩
  | .hbm, ⟨18, _⟩ => ⟨S1x4096x768, .f32⟩
  | .hbm, ⟨19, _⟩ => ⟨S1x4096x768, .f32⟩
  | .hbm, ⟨20, _⟩ => ⟨S1x768, .f32⟩
  | .hbm, ⟨21, _⟩ => ⟨S768, .f32⟩
  | .hbm, ⟨22, _⟩ => ⟨S1x1x768, .f32⟩
  | .hbm, ⟨23, _⟩ => ⟨S1x4096x768, .f32⟩
  | .hbm, ⟨24, _⟩ => ⟨S1x4096x768, .f32⟩
  | .hbm, ⟨25, _⟩ => ⟨S1x4096x768, .f32⟩
  | .hbm, ⟨26, _⟩ => ⟨S1x4096x768, .f32⟩
  | .hbm, ⟨27, _⟩ => ⟨S1x768, .f32⟩
  | .hbm, ⟨28, _⟩ => ⟨S768, .f32⟩
  | .hbm, ⟨29, _⟩ => ⟨S1x1x768, .f32⟩
  | .hbm, ⟨30, _⟩ => ⟨S1x4096x768, .f32⟩
  | .hbm, ⟨31, _⟩ => ⟨S1x4096x768, .f32⟩
  | .hbm, ⟨32, _⟩ => ⟨S1x4096x768, .f32⟩
  | .hbm, ⟨33, _⟩ => ⟨S1x4096x768, .f32⟩
  | .hbm, ⟨34, _⟩ => ⟨S1x4096x768, .f32⟩
  | .hbm, ⟨35, _⟩ => ⟨S_, .f32⟩
  | .hbm, ⟨36, _⟩ => ⟨S1x4096x768, .f32⟩
  | .hbm, ⟨37, _⟩ => ⟨S1x4096x768, .f32⟩
  | .hbm, ⟨38, _⟩ => ⟨S_, .f32⟩
  | .hbm, ⟨39, _⟩ => ⟨S1x4096x768, .f32⟩
  | .hbm, ⟨40, _⟩ => ⟨S1x4096x768, .f32⟩
  | .hbm, ⟨41, _⟩ => ⟨S1x4096x768, .f32⟩
  | .hbm, ⟨42, _⟩ => ⟨S4096x768, .f32⟩
  | _, _ => ⟨S1x4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== GconvKernel.lean ====
abbrev S4096x3088 : Shape := ⟨2, ![4096, 3088]⟩
abbrev S4x768 : Shape := ⟨2, ![4, 768]⟩
abbrev S4096x768 : Shape := ⟨2, ![4096, 768]⟩
abbrev S_ : Shape := ⟨0, ![]⟩
abbrev S4096x120 : Shape := ⟨2, ![4096, 120]⟩
abbrev S4096x256 : Shape := ⟨2, ![4096, 256]⟩
abbrev S4096x1024 : Shape := ⟨2, ![4096, 1024]⟩
abbrev S4096x512 : Shape := ⟨2, ![4096, 512]⟩
abbrev S4096x8 : Shape := ⟨2, ![4096, 8]⟩
abbrev S4096x3328 : Shape := ⟨2, ![4096, 3328]⟩
abbrev S1x768 : Shape := ⟨2, ![1, 768]⟩
abbrev S512x768 : Shape := ⟨2, ![512, 768]⟩
abbrev S8x768 : Shape := ⟨2, ![8, 768]⟩
abbrev S520x768 : Shape := ⟨2, ![520, 768]⟩
abbrev S768 : Shape := ⟨1, ![768]⟩

abbrev nBuf : Space → Nat
  | .hbm => 18
  | .vmem => 14
  | .smem => 0
  | _ => 0

abbrev bufTy : (tb : Table) → Fin (tcTables nBuf tb) → BufTy
  | .hbm, ⟨0, _⟩ => ⟨S4096x3088, .f32⟩
  | .hbm, ⟨1, _⟩ => ⟨S4x768, .f32⟩
  | .hbm, ⟨2, _⟩ => ⟨S4096x768, .f32⟩
  | .hbm, ⟨3, _⟩ => ⟨S_, .f32⟩
  | .hbm, ⟨4, _⟩ => ⟨S4096x120, .f32⟩
  | .hbm, ⟨5, _⟩ => ⟨S4096x768, .f32⟩
  | .hbm, ⟨6, _⟩ => ⟨S4096x256, .f32⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S4096x8, .f32⟩
  | .hbm, ⟨11, _⟩ => ⟨S4096x8, .f32⟩
  | .hbm, ⟨12, _⟩ => ⟨S4096x3328, .f32⟩
  | .hbm, ⟨13, _⟩ => ⟨S_, .f32⟩
  | .hbm, ⟨14, _⟩ => ⟨S1x768, .f32⟩
  | .hbm, ⟨15, _⟩ => ⟨S4096x768, .bf16⟩
  | .hbm, ⟨16, _⟩ => ⟨S4x768, .f32⟩
  | .hbm, ⟨17, _⟩ => ⟨S1x768, .f32⟩
  | .local _ .vmem, ⟨0, _⟩ => ⟨S512x768, .f32⟩
  | .local _ .vmem, ⟨1, _⟩ => ⟨S512x768, .f32⟩
  | .local _ .vmem, ⟨2, _⟩ => ⟨S8x768, .f32⟩
  | .local _ .vmem, ⟨3, _⟩ => ⟨S8x768, .f32⟩
  | .local _ .vmem, ⟨4, _⟩ => ⟨S512x768, .f32⟩
  | .local _ .vmem, ⟨5, _⟩ => ⟨S512x768, .f32⟩
  | .local _ .vmem, ⟨6, _⟩ => ⟨S4x768, .f32⟩
  | .local _ .vmem, ⟨7, _⟩ => ⟨S1x768, .f32⟩
  | .local _ .vmem, ⟨8, _⟩ => ⟨S512x768, .bf16⟩
  | .local _ .vmem, ⟨9, _⟩ => ⟨S512x768, .bf16⟩
  | .local _ .vmem, ⟨10, _⟩ => ⟨S4x768, .f32⟩
  | .local _ .vmem, ⟨11, _⟩ => ⟨S1x768, .f32⟩
  | .local _ .vmem, ⟨12, _⟩ => ⟨S520x768, .f32⟩
  | .local _ .vmem, ⟨13, _⟩ => ⟨S520x768, .f32⟩
  | _, _ => ⟨S4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GconvReferenceIdeal.lean ====
abbrev S4096x3088 : Shape := ⟨2, ![4096, 3088]⟩
abbrev S4x768 : Shape := ⟨2, ![4, 768]⟩
abbrev S4096x768 : Shape := ⟨2, ![4096, 768]⟩
abbrev S1x4096x768 : Shape := ⟨3, ![1, 4096, 768]⟩
abbrev S_ : Shape := ⟨0, ![]⟩
abbrev S1x3x768 : Shape := ⟨3, ![1, 3, 768]⟩
abbrev S1x4099x768 : Shape := ⟨3, ![1, 4099, 768]⟩
abbrev S1x768 : Shape := ⟨2, ![1, 768]⟩
abbrev S768 : Shape := ⟨1, ![768]⟩
abbrev S1x1x768 : Shape := ⟨3, ![1, 1, 768]⟩

abbrev nBuf : Space → Nat
  | .hbm => 117
  | .vmem => 0
  | .smem => 0
  | _ => 0

abbrev bufTy : (tb : Table) → Fin (tcTables nBuf tb) → BufTy
  | .hbm, ⟨0, _⟩ => ⟨S4096x3088, .f32⟩
  | .hbm, ⟨1, _⟩ => ⟨S4x768, .f32⟩
  | .hbm, ⟨2, _⟩ => ⟨S4096x768, .f32⟩
  | .hbm, ⟨3, _⟩ => ⟨S4096x768, .f32⟩
  | .hbm, ⟨4, _⟩ => ⟨S1x4096x768, .f32⟩
  | .hbm, ⟨5, _⟩ => ⟨S_, .f32⟩
  | .hbm, ⟨6, _⟩ => ⟨S1x3x768, .f32⟩
  | .hbm, ⟨7, _⟩ => ⟨S1x4099x768, .f32⟩
  | .hbm, ⟨8, _⟩ => ⟨S_, .f32⟩
  | .hbm, ⟨9, _⟩ => ⟨S1x3x768, .f32⟩
  | .hbm, ⟨10, _⟩ => ⟨S1x4096x768, .f32⟩
  | .hbm, ⟨11, _⟩ => ⟨S1x768, .f32⟩
  | .hbm, ⟨12, _⟩ => ⟨S768, .f32⟩
  | .hbm, ⟨13, _⟩ => ⟨S1x1x768, .f32⟩
  | .hbm, ⟨14, _⟩ => ⟨S1x4096x768, .f32⟩
  | .hbm, ⟨15, _⟩ => ⟨S1x4096x768, .f32⟩
  | .hbm, ⟨16, _⟩ => ⟨S1x4096x768, .f32⟩
  | .hbm, ⟨17, _⟩ => ⟨S1x768, .f32⟩
  | .hbm, ⟨18, _⟩ => ⟨S768, .f32⟩
  | .hbm, ⟨19, _⟩ => ⟨S1x1x768, .f32⟩
  | .hbm, ⟨20, _⟩ => ⟨S1x4096x768, .f32⟩
  | .hbm, ⟨21, _⟩ => ⟨S1x4096x768, .f32⟩
  | .hbm, ⟨22, _⟩ => ⟨S1x4096x768, .f32⟩
  | .hbm, ⟨23, _⟩ => ⟨S1x4096x768, .f32⟩
  | .hbm, ⟨24, _⟩ => ⟨S1x768, .f32⟩
  | .hbm, ⟨25, _⟩ => ⟨S768, .f32⟩
  | .hbm, ⟨26, _⟩ => ⟨S1x1x768, .f32⟩
  | .hbm, ⟨27, _⟩ => ⟨S1x4096x768, .f32⟩
  | .hbm, ⟨28, _⟩ => ⟨S1x4096x768, .f32⟩
  | .hbm, ⟨29, _⟩ => ⟨S1x4096x768, .f32⟩
  | .hbm, ⟨30, _⟩ => ⟨S1x4096x768, .f32⟩
  | .hbm, ⟨31, _⟩ => ⟨S1x768, .f32⟩
  | .hbm, ⟨32, _⟩ => ⟨S768, .f32⟩
  | .hbm, ⟨33, _⟩ => ⟨S1x1x768, .f32⟩
  | .hbm, ⟨34, _⟩ => ⟨S1x4096x768, .f32⟩
  | .hbm, ⟨35, _⟩ => ⟨S1x4096x768, .f32⟩
  | .hbm, ⟨36, _⟩ => ⟨S1x4096x768, .f32⟩
  | .hbm, ⟨37, _⟩ => ⟨S1x4096x768, .f32⟩
  | .hbm, ⟨38, _⟩ => ⟨S1x4096x768, .f32⟩
  | .hbm, ⟨39, _⟩ => ⟨S_, .f32⟩
  | .hbm, ⟨40, _⟩ => ⟨S1x4096x768, .f32⟩
  | .hbm, ⟨41, _⟩ => ⟨S1x4096x768, .f32⟩
  | .hbm, ⟨42, _⟩ => ⟨S_, .f32⟩
  | .hbm, ⟨43, _⟩ => ⟨S1x4096x768, .f32⟩
  | .hbm, ⟨44, _⟩ => ⟨S1x4096x768, .f32⟩
  | .hbm, ⟨45, _⟩ => ⟨S_, .f32⟩
  | .hbm, ⟨46, _⟩ => ⟨S1x4096x768, .f32⟩
  | .hbm, ⟨47, _⟩ => ⟨S1x4096x768, .f32⟩
  | .hbm, ⟨48, _⟩ => ⟨S1x4096x768, .f32⟩
  | .hbm, ⟨49, _⟩ => ⟨S1x4096x768, .f32⟩
  | .hbm, ⟨50, _⟩ => ⟨S1x4096x768, .f32⟩
  | .hbm, ⟨51, _⟩ => ⟨S1x4096x768, .f32⟩
  | .hbm, ⟨52, _⟩ => ⟨S1x4096x768, .f32⟩
  | .hbm, ⟨53, _⟩ => ⟨S1x4096x768, .f32⟩
  | .hbm, ⟨54, _⟩ => ⟨S1x4096x768, .f32⟩
  | .hbm, ⟨55, _⟩ => ⟨S1x4096x768, .f32⟩
  | .hbm, ⟨56, _⟩ => ⟨S_, .f32⟩
  | .hbm, ⟨57, _⟩ => ⟨S1x768, .f32⟩
  | .hbm, ⟨58, _⟩ => ⟨S1x1x768, .f32⟩
  | .hbm, ⟨59, _⟩ => ⟨S1x4096x768, .f32⟩
  | .hbm, ⟨60, _⟩ => ⟨S1x4096x768, .f32⟩
  | .hbm, ⟨61, _⟩ => ⟨S_, .f32⟩
  | .hbm, ⟨62, _⟩ => ⟨S768, .f32⟩
  | .hbm, ⟨63, _⟩ => ⟨S1x768, .f32⟩
  | .hbm, ⟨64, _⟩ => ⟨S_, .f32⟩
  | .hbm, ⟨65, _⟩ => ⟨S4x768, .f32⟩
  | .hbm, ⟨66, _⟩ => ⟨S_, .f32⟩
  | .hbm, ⟨67, _⟩ => ⟨S1x4099x768, .f32⟩
  | .hbm, ⟨68, _⟩ => ⟨S1x4096x768, .f32⟩
  | .hbm, ⟨69, _⟩ => ⟨S_, .f32⟩
  | .hbm, ⟨70, _⟩ => ⟨S1x768, .f32⟩
  | .hbm, ⟨71, _⟩ => ⟨S1x1x768, .f32⟩
  | .hbm, ⟨72, _⟩ => ⟨S1x4096x768, .f32⟩
  | .hbm, ⟨73, _⟩ => ⟨S1x4096x768, .f32⟩
  | .hbm, ⟨74, _⟩ => ⟨S_, .f32⟩
  | .hbm, ⟨75, _⟩ => ⟨S768, .f32⟩
  | .hbm, ⟨76, _⟩ => ⟨S1x768, .f32⟩
  | .hbm, ⟨77, _⟩ => ⟨S_, .f32⟩
  | .hbm, ⟨78, _⟩ => ⟨S4x768, .f32⟩
  | .hbm, ⟨79, _⟩ => ⟨S4x768, .f32⟩
  | .hbm, ⟨80, _⟩ => ⟨S_, .f32⟩
  | .hbm, ⟨81, _⟩ => ⟨S1x4099x768, .f32⟩
  | .hbm, ⟨82, _⟩ => ⟨S1x4099x768, .f32⟩
  | .hbm, ⟨83, _⟩ => ⟨S1x4096x768, .f32⟩
  | .hbm, ⟨84, _⟩ => ⟨S_, .f32⟩
  | .hbm, ⟨85, _⟩ => ⟨S1x768, .f32⟩
  | .hbm, ⟨86, _⟩ => ⟨S1x1x768, .f32⟩
  | .hbm, ⟨87, _⟩ => ⟨S1x4096x768, .f32⟩
  | .hbm, ⟨88, _⟩ => ⟨S1x4096x768, .f32⟩
  | .hbm, ⟨89, _⟩ => ⟨S_, .f32⟩
  | .hbm, ⟨90, _⟩ => ⟨S768, .f32⟩
  | .hbm, ⟨91, _⟩ => ⟨S1x768, .f32⟩
  | .hbm, ⟨92, _⟩ => ⟨S_, .f32⟩
  | .hbm, ⟨93, _⟩ => ⟨S4x768, .f32⟩
  | .hbm, ⟨94, _⟩ => ⟨S4x768, .f32⟩
  | .hbm, ⟨95, _⟩ => ⟨S_, .f32⟩
  | .hbm, ⟨96, _⟩ => ⟨S1x4099x768, .f32⟩
  | .hbm, ⟨97, _⟩ => ⟨S1x4099x768, .f32⟩
  | .hbm, ⟨98, _⟩ => ⟨S1x4096x768, .f32⟩
  | .hbm, ⟨99, _⟩ => ⟨S_, .f32⟩
  | .hbm, ⟨100, _⟩ => ⟨S1x768, .f32⟩
  | .hbm, ⟨101, _⟩ => ⟨S1x1x768, .f32⟩
  | .hbm, ⟨102, _⟩ => ⟨S1x4096x768, .f32⟩
  | .hbm, ⟨103, _⟩ => ⟨S1x4096x768, .f32⟩
  | .hbm, ⟨104, _⟩ => ⟨S_, .f32⟩
  | .hbm, ⟨105, _⟩ => ⟨S768, .f32⟩
  | .hbm, ⟨106, _⟩ => ⟨S1x768, .f32⟩
  | .hbm, ⟨107, _⟩ => ⟨S_, .f32⟩
  | .hbm, ⟨108, _⟩ => ⟨S4x768, .f32⟩
  | .hbm, ⟨109, _⟩ => ⟨S4x768, .f32⟩
  | .hbm, ⟨110, _⟩ => ⟨S_, .f32⟩
  | .hbm, ⟨111, _⟩ => ⟨S1x4099x768, .f32⟩
  | .hbm, ⟨112, _⟩ => ⟨S1x4099x768, .f32⟩
  | .hbm, ⟨113, _⟩ => ⟨S1x3x768, .f32⟩
  | .hbm, ⟨114, _⟩ => ⟨S1x4096x768, .f32⟩
  | .hbm, ⟨115, _⟩ => ⟨S4096x768, .f32⟩
  | .hbm, ⟨116, _⟩ => ⟨S4096x768, .bf16⟩
  | _, _ => ⟨S4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v32_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v32_1 : Ref sig .tc := ⟨.hbm, 48, rfl⟩
abbrev main_v32_0 : Ref sig .tc := ⟨.hbm, 49, rfl⟩
abbrev main_v33 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_2 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_cst_7 : Ref sig .tc := ⟨.hbm, 77, rfl⟩
abbrev main_v51 : Ref sig .tc := ⟨.hbm, 78, rfl⟩
abbrev main_v52 : Ref sig .tc := ⟨.hbm, 79, rfl⟩
abbrev main_cst_8 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_cst_15 : Ref sig .tc := ⟨.hbm, 107, rfl⟩
abbrev main_v73 : Ref sig .tc := ⟨.hbm, 108, rfl⟩
abbrev main_v74 : Ref sig .tc := ⟨.hbm, 109, rfl⟩
abbrev main_cst_16 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== SsdfKernel.lean ====
abbrev S1x4096x3088 : Shape := ⟨3, ![1, 4096, 3088]⟩
abbrev S1x4096x1024 : Shape := ⟨3, ![1, 4096, 1024]⟩
abbrev S8 : Shape := ⟨1, ![8]⟩
abbrev S512 : Shape := ⟨1, ![512]⟩
abbrev S4096x3088 : Shape := ⟨2, ![4096, 3088]⟩
abbrev S_ : Shape := ⟨0, ![]⟩
abbrev S4096x120 : Shape := ⟨2, ![4096, 120]⟩
abbrev S4096x768 : Shape := ⟨2, ![4096, 768]⟩
abbrev S4096x256 : Shape := ⟨2, ![4096, 256]⟩
abbrev S4096x1024 : Shape := ⟨2, ![4096, 1024]⟩
abbrev S4096x512 : Shape := ⟨2, ![4096, 512]⟩
abbrev S4096x8 : Shape := ⟨2, ![4096, 8]⟩
abbrev S4096x3328 : Shape := ⟨2, ![4096, 3328]⟩
abbrev S1x128 : Shape := ⟨2, ![1, 128]⟩
abbrev S1 : Shape := ⟨1, ![1]⟩
abbrev S2 : Shape := ⟨1, ![2]⟩
abbrev S1x512 : Shape := ⟨2, ![1, 512]⟩
abbrev S16x512x128 : Shape := ⟨3, ![16, 512, 128]⟩
abbrev S256x512 : Shape := ⟨2, ![256, 512]⟩
abbrev S256x1024 : Shape := ⟨2, ![256, 1024]⟩
abbrev S256x128 : Shape := ⟨2, ![256, 128]⟩
abbrev S1x512x128 : Shape := ⟨3, ![1, 512, 128]⟩
abbrev S512x128 : Shape := ⟨2, ![512, 128]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S256x64 : Shape := ⟨2, ![256, 64]⟩
abbrev S64x128 : Shape := ⟨2, ![64, 128]⟩
abbrev S1x1 : Shape := ⟨2, ![1, 1]⟩

abbrev nBuf : Space → Nat
  | .hbm => 45
  | .vmem => 15
  | .smem => 0
  | _ => 0

abbrev bufTy : (tb : Table) → Fin (tcTables nBuf tb) → BufTy
  | .hbm, ⟨0, _⟩ => ⟨S1x4096x3088, .f32⟩
  | .hbm, ⟨1, _⟩ => ⟨S1x4096x1024, .f32⟩
  | .hbm, ⟨2, _⟩ => ⟨S8, .f32⟩
  | .hbm, ⟨3, _⟩ => ⟨S8, .f32⟩
  | .hbm, ⟨4, _⟩ => ⟨S8, .f32⟩
  | .hbm, ⟨5, _⟩ => ⟨S512, .f32⟩
  | .hbm, ⟨6, _⟩ => ⟨S4096x3088, .f32⟩
  | .hbm, ⟨7, _⟩ => ⟨S_, .f32⟩
  | .hbm, ⟨8, _⟩ => ⟨S4096x120, .f32⟩
  | .hbm, ⟨9, _⟩ => ⟨S4096x768, .f32⟩
  | .hbm, ⟨10, _⟩ => ⟨S4096x256, .f32⟩
  | .hbm, ⟨11, _⟩ => ⟨S4096x1024, .f32⟩
  | .hbm, ⟨12, _⟩ => ⟨S4096x512, .f32⟩
  | .hbm, ⟨13, _⟩ => ⟨S4096x512, .f32⟩
  | .hbm, ⟨14, _⟩ => ⟨S4096x8, .f32⟩
  | .hbm, ⟨15, _⟩ => ⟨S4096x8, .f32⟩
  | .hbm, ⟨16, _⟩ => ⟨S4096x3328, .f32⟩
  | .hbm, ⟨17, _⟩ => ⟨S4096x1024, .f32⟩
  | .hbm, ⟨18, _⟩ => ⟨S_, .f32⟩
  | .hbm, ⟨19, _⟩ => ⟨S1x128, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S1x128, .f32⟩
  | .hbm, ⟨42, _⟩ => ⟨S1x512, .f32⟩
  | .hbm, ⟨43, _⟩ => ⟨S4096x512, .bf16⟩
  | .hbm, ⟨44, _⟩ => ⟨S16x512x128, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | .local _ .vmem, ⟨12, _⟩ => ⟨S1x512x128, .f32⟩
  | .local _ .vmem, ⟨13, _⟩ => ⟨S1x512x128, .f32⟩
  | .local _ .vmem, ⟨14, _⟩ => ⟨S512x128, .f32⟩
  | _, _ => ⟨S1x4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_c_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SsdfReferenceIdeal.lean ====
abbrev S1x4096x3088 : Shape := ⟨3, ![1, 4096, 3088]⟩
abbrev S1x4096x1024 : Shape := ⟨3, ![1, 4096, 1024]⟩
abbrev S8 : Shape := ⟨1, ![8]⟩
abbrev S512 : Shape := ⟨1, ![512]⟩
abbrev S1x4096x512 : Shape := ⟨3, ![1, 4096, 512]⟩
abbrev S4096x512 : Shape := ⟨2, ![4096, 512]⟩
abbrev S4096x1024 : Shape := ⟨2, ![4096, 1024]⟩
abbrev S4096x8x64 : Shape := ⟨3, ![4096, 8, 64]⟩
abbrev S4096x256 : Shape := ⟨2, ![4096, 256]⟩
abbrev S4096x2x128 : Shape := ⟨3, ![4096, 2, 128]⟩
abbrev S4096x2x4x128 : Shape := ⟨4, ![4096, 2, 4, 128]⟩
abbrev S4096x8x128 : Shape := ⟨3, ![4096, 8, 128]⟩
abbrev S1x4096x8 : Shape := ⟨3, ![1, 4096, 8]⟩
abbrev S4096x8 : Shape := ⟨2, ![4096, 8]⟩
abbrev S1x8 : Shape := ⟨2, ![1, 8]⟩
abbrev S_ : Shape := ⟨0, ![]⟩
abbrev S4096x8x1 : Shape := ⟨3, ![4096, 8, 1]⟩
abbrev S8x4096 : Shape := ⟨2, ![8, 4096]⟩
abbrev S4096x4096 : Shape := ⟨2, ![4096, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S8x64x4096 : Shape := ⟨3, ![8, 64, 4096]⟩
abbrev S8x1 : Shape := ⟨2, ![8, 1]⟩
abbrev S1x8x1 : Shape := ⟨3, ![1, 8, 1]⟩
abbrev S4096x2x256 : Shape := ⟨3, ![4096, 2, 256]⟩
abbrev S4096x2 : Shape := ⟨2, ![4096, 2]⟩
abbrev S4096x2x1 : Shape := ⟨3, ![4096, 2, 1]⟩
abbrev S4096 : Shape := ⟨1, ![4096]⟩
abbrev S16 : Shape := ⟨1, ![16]⟩
abbrev S16x1 : Shape := ⟨2, ![16, 1]⟩
abbrev S1x4096 : Shape := ⟨2, ![1, 4096]⟩
abbrev S16x4096 : Shape := ⟨2, ![16, 4096]⟩
abbrev S16x4096x1 : Shape := ⟨3, ![16, 4096, 1]⟩
abbrev S16x8 : Shape := ⟨2, ![16, 8]⟩
abbrev S16x1x8 : Shape := ⟨3, ![16, 1, 8]⟩
abbrev S16x4096x8 : Shape := ⟨3, ![16, 4096, 8]⟩
abbrev S16x4096x8x1 : Shape := ⟨4, ![16, 4096, 8, 1]⟩
abbrev S1x4096x8x64 : Shape := ⟨4, ![1, 4096, 8, 64]⟩
abbrev S16x4096x8x64 : Shape := ⟨4, ![16, 4096, 8, 64]⟩
abbrev S8x128x16x64 : Shape := ⟨4, ![8, 128, 16, 64]⟩
abbrev S16x8x64x128 : Shape := ⟨4, ![16, 8, 64, 128]⟩
abbrev S1x512 : Shape := ⟨2, ![1, 512]⟩
abbrev S16x512x128 : Shape := ⟨3, ![16, 512, 128]⟩

abbrev nBuf : Space → Nat
  | .hbm => 153
  | .vmem => 0
  | .smem => 0
  | _ => 0

abbrev hbmTy0_0 (i : Nat) : BufTy := match i % 128 with
  | 0 => ⟨S1x4096x3088, .f32⟩
  | 1 => ⟨S1x4096x1024, .f32⟩
  | 2 => ⟨S8, .f32⟩
  | 3 => ⟨S8, .f32⟩
  | 4 => ⟨S8, .f32⟩
  | 5 => ⟨S512, .f32⟩
  | 6 => ⟨S1x4096x512, .f32⟩
  | 7 => ⟨S4096x512, .f32⟩
  | 8 => ⟨S4096x1024, .f32⟩
  | 9 => ⟨S4096x512, .f32⟩
  | 10 => ⟨S4096x8x64, .f32⟩
  | 11 => ⟨S4096x256, .f32⟩
  | 12 => ⟨S4096x2x128, .f32⟩
  | 13 => ⟨S4096x2x4x128, .f32⟩
  | 14 => ⟨S4096x8x128, .f32⟩
  | 15 => ⟨S4096x256, .f32⟩
  | 16 => ⟨S4096x2x128, .f32⟩
  | 17 => ⟨S4096x2x4x128, .f32⟩
  | 18 => ⟨S4096x8x128, .f32⟩
  | 19 => ⟨S1x4096x8, .f32⟩
  | 20 => ⟨S4096x8, .f32⟩
  | 21 => ⟨S1x8, .f32⟩
  | 22 => ⟨S4096x8, .f32⟩
  | 23 => ⟨S4096x8, .f32⟩
  | 24 => ⟨S_, .f32⟩
  | 25 => ⟨S4096x8, .f32⟩
  | 26 => ⟨S4096x8, .f32⟩
  | 27 => ⟨S4096x8, .f32⟩
  | 28 => ⟨S4096x8, .f32⟩
  | 29 => ⟨S4096x8, .i1⟩
  | 30 => ⟨S4096x8, .f32⟩
  | 31 => ⟨S4096x8, .f32⟩
  | 32 => ⟨S4096x8, .f32⟩
  | 33 => ⟨S4096x8, .f32⟩
  | 34 => ⟨S4096x8, .f32⟩
  | 35 => ⟨S4096x8, .f32⟩
  | 36 => ⟨S4096x8, .f32⟩
  | 37 => ⟨S4096x8, .f32⟩
  | 38 => ⟨S4096x8x1, .f32⟩
  | 39 => ⟨S4096x8x64, .f32⟩
  | 40 => ⟨S4096x8x64, .f32⟩
  | 41 => ⟨S8, .f32⟩
  | 42 => ⟨S8, .f32⟩
  | 43 => ⟨S1x8, .f32⟩
  | 44 => ⟨S4096x8, .f32⟩
  | 45 => ⟨S4096x8, .f32⟩
  | 46 => ⟨S_, .f32⟩
  | 47 => ⟨S_, .f32⟩
  | 48 => ⟨S4096x8, .f32⟩
  | 49 => ⟨S8x4096, .f32⟩
  | 50 => ⟨S_, .i1⟩
  | 51 => ⟨S4096x4096, .i1⟩
  | 52 => ⟨S4096x4096, .i32⟩
  | 53 => ⟨S_, .i32⟩
  | 54 => ⟨S4096x4096, .i32⟩
  | 55 => ⟨S4096x4096, .i32⟩
  | 56 => ⟨S4096x4096, .i32⟩
  | 57 => ⟨S4096x4096, .i1⟩
  | 58 => ⟨S_, .i1⟩
  | 59 => ⟨S4096x4096, .i1⟩
  | 60 => ⟨S4096x4096, .i1⟩
  | 61 => ⟨S8x4096x1, .f32⟩
  | 62 => ⟨S8x1x4096, .f32⟩
  | 63 => ⟨S8x4096x4096, .f32⟩
  | 64 => ⟨S8x4096x4096, .f32⟩
  | 65 => ⟨S8x4096x4096, .f32⟩
  | 66 => ⟨S_, .f32⟩
  | 67 => ⟨S_, .f32⟩
  | 68 => ⟨S8x4096x4096, .i1⟩
  | 69 => ⟨S8x4096x4096, .f32⟩
  | 70 => ⟨S8x4096x4096, .f32⟩
  | 71 => ⟨S8x4096x4096, .f32⟩
  | 72 => ⟨S_, .f32⟩
  | 73 => ⟨S_, .f32⟩
  | 74 => ⟨S8x4096x4096, .i1⟩
  | 75 => ⟨S8x4096x4096, .f32⟩
  | 76 => ⟨S8x4096x4096, .f32⟩
  | 77 => ⟨S8x4096x4096, .f32⟩
  | 78 => ⟨S8x4096x4096, .f32⟩
  | 79 => ⟨S8x64x4096, .f32⟩
  | 80 => ⟨S4096x8x64, .f32⟩
  | 81 => ⟨S8x1, .f32⟩
  | 82 => ⟨S1x8x1, .f32⟩
  | 83 => ⟨S4096x8x64, .f32⟩
  | 84 => ⟨S4096x8x64, .f32⟩
  | 85 => ⟨S4096x8x64, .f32⟩
  | 86 => ⟨S4096x512, .f32⟩
  | 87 => ⟨S4096x512, .f32⟩
  | 88 => ⟨S4096x512, .f32⟩
  | 89 => ⟨S_, .f32⟩
  | 90 => ⟨S4096x512, .f32⟩
  | 91 => ⟨S4096x512, .f32⟩
  | 92 => ⟨S_, .f32⟩
  | 93 => ⟨S4096x512, .f32⟩
  | 94 => ⟨S4096x512, .f32⟩
  | 95 => ⟨S4096x512, .f32⟩
  | 96 => ⟨S4096x512, .f32⟩
  | 97 => ⟨S4096x2x256, .f32⟩
  | 98 => ⟨S4096x2x256, .f32⟩
  | 99 => ⟨S_, .f32⟩
  | 100 => ⟨S4096x2, .f32⟩
  | 101 => ⟨S4096x2x1, .f32⟩
  | 102 => ⟨S_, .f32⟩
  | 103 => ⟨S4096x2x1, .f32⟩
  | 104 => ⟨S4096x2x1, .f32⟩
  | 105 => ⟨S_, .f32⟩
  | 106 => ⟨S4096x2x1, .f32⟩
  | 107 => ⟨S4096x2x1, .f32⟩
  | 108 => ⟨S4096x2x1, .f32⟩
  | 109 => ⟨S4096x2x256, .f32⟩
  | 110 => ⟨S4096x2x256, .f32⟩
  | 111 => ⟨S4096, .i32⟩
  | 112 => ⟨S16, .i32⟩
  | 113 => ⟨S16x1, .i32⟩
  | 114 => ⟨S_, .i32⟩
  | 115 => ⟨S16x1, .i32⟩
  | 116 => ⟨S16x1, .i32⟩
  | 117 => ⟨S1x4096, .i32⟩
  | 118 => ⟨S16x4096, .i32⟩
  | 119 => ⟨S16x4096, .i32⟩
  | 120 => ⟨S16x4096, .i1⟩
  | 121 => ⟨S16x4096x1, .i1⟩
  | 122 => ⟨S4096x8, .f32⟩
  | 123 => ⟨S16x8, .f32⟩
  | 124 => ⟨S16x1x8, .f32⟩
  | 125 => ⟨S1x4096x8, .f32⟩
  | 126 => ⟨S16x4096x8, .f32⟩
  | 127 => ⟨S16x4096x8, .f32⟩
  | _ => ⟨S1x4096x3088, .f32⟩

abbrev hbmTy0_1 (i : Nat) : BufTy := match i % 128 with
  | 0 => ⟨S16x4096x8, .f32⟩
  | 1 => ⟨S_, .f32⟩
  | 2 => ⟨S_, .f32⟩
  | 3 => ⟨S16x4096x8, .i1⟩
  | 4 => ⟨S16x4096x8, .f32⟩
  | 5 => ⟨S16x4096x8, .f32⟩
  | 6 => ⟨S16x4096x8, .f32⟩
  | 7 => ⟨S_, .f32⟩
  | 8 => ⟨S_, .f32⟩
  | 9 => ⟨S16x4096x8, .i1⟩
  | 10 => ⟨S16x4096x8, .f32⟩
  | 11 => ⟨S16x4096x8, .f32⟩
  | 12 => ⟨S16x4096x8x1, .f32⟩
  | 13 => ⟨S1x4096x8x64, .f32⟩
  | 14 => ⟨S16x4096x8x64, .f32⟩
  | 15 => ⟨S16x4096x8x64, .f32⟩
  | 16 => ⟨S16x4096x8x64, .f32⟩
  | 17 => ⟨S8x128x16x64, .f32⟩
  | 18 => ⟨S16x8x64x128, .f32⟩
  | 19 => ⟨S4096x512, .f32⟩
  | 20 => ⟨S1x512, .f32⟩
  | 21 => ⟨S4096x512, .f32⟩
  | 22 => ⟨S4096x512, .f32⟩
  | 23 => ⟨S4096x512, .bf16⟩
  | 24 => ⟨S16x512x128, .f32⟩
  | _ => ⟨S1x4096x3088, .f32⟩

abbrev hbmTy (i : Nat) : BufTy := match i / 128 with
  | 0 => hbmTy0_0 i
  | 1 => hbmTy0_1 i
  | _ => ⟨S1x4096x3088, .f32⟩

abbrev bufTy : (tb : Table) → Fin (tcTables nBuf tb) → BufTy
  | .hbm, ⟨i, _⟩ => hbmTy i
  | _, _ => ⟨S1x4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_call0_cst : Ref sig .tc := ⟨.hbm, 46, rfl⟩
abbrev main_call1_call0_v0 : Ref sig .tc := ⟨.hbm, 47, rfl⟩
abbrev main_v27 : Ref sig .tc := ⟨.hbm, 48, rfl⟩
abbrev main_v28 : Ref sig .tc := ⟨.hbm, 49, rfl⟩
abbrev main_c : Ref sig .tc := ⟨.hbm, 50, rfl⟩
abbrev main_v29 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_0 : Ref sig .tc := ⟨.hbm, 58, rfl⟩
abbrev main_call2_v5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v36 : Ref sig .tc := ⟨.hbm, 70, rfl⟩
abbrev main_v37 : Ref sig .tc := ⟨.hbm, 71, rfl⟩
abbrev main_cst_0 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_call5_v0 : Ref sig .tc := ⟨.hbm, 87, rfl⟩
abbrev main_call5_v1 : Ref sig .tc := ⟨.hbm, 88, rfl⟩
abbrev main_call5_cst : Ref sig .tc := ⟨.hbm, 89, rfl⟩
abbrev main_call5_v2 : Ref sig .tc := ⟨.hbm, 90, rfl⟩
abbrev main_call5_v3 : Ref sig .tc := ⟨.hbm, 91, rfl⟩
abbrev main_call5_cst_0 : Ref sig .tc := ⟨.hbm, 92, rfl⟩
abbrev main_call5_v4 : Ref sig .tc := ⟨.hbm, 93, rfl⟩
abbrev main_call5_v5 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_cst_1 : Ref sig .tc := ⟨.hbm, 99, rfl⟩
abbrev main_v53 : Ref sig .tc := ⟨.hbm, 100, rfl⟩
abbrev main_v54 : Ref sig .tc := ⟨.hbm, 101, rfl⟩
abbrev main_cst_2 : Ref sig .tc := ⟨.hbm, 102, rfl⟩
abbrev main_v55 : Ref sig .tc := ⟨.hbm, 103, rfl⟩
abbrev main_v56 : Ref sig .tc := ⟨.hbm, 104, rfl⟩
abbrev main_cst_3 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_c_4 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_5 : Ref sig .tc := ⟨.hbm, 129, rfl⟩
abbrev main_call6_v0 : Ref sig .tc := ⟨.hbm, 130, rfl⟩
abbrev main_call6_v1 : Ref sig .tc := ⟨.hbm, 131, rfl⟩
abbrev main_call6_v2 : Ref sig .tc := ⟨.hbm, 132, rfl⟩
abbrev main_v79 : Ref sig .tc := ⟨.hbm, 133, rfl⟩
abbrev main_v80 : Ref sig .tc := ⟨.hbm, 134, rfl⟩
abbrev main_cst_6 : Ref sig .tc := ⟨.hbm, 135, rfl⟩
abbrev main_call7_v0 : Ref sig .tc := ⟨.hbm, 136, rfl⟩
abbrev main_call7_v1 : Ref sig .tc := ⟨.hbm, 137, rfl⟩
abbrev main_call7_v2 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩

abbrev nD : Nat := 1
abbrev τ : Topo := Topo.v7x

variable {F : FTy → Type} [FloatOps F]
-- ==== SsdbKernel.lean ====
abbrev S1x4096x3088 : Shape := ⟨3, ![1, 4096, 3088]⟩
abbrev S1x4096x1024 : Shape := ⟨3, ![1, 4096, 1024]⟩
abbrev S16x512x128 : Shape := ⟨3, ![16, 512, 128]⟩
abbrev S8 : Shape := ⟨1, ![8]⟩
abbrev S512 : Shape := ⟨1, ![512]⟩
abbrev S1x4096x512 : Shape := ⟨3, ![1, 4096, 512]⟩
abbrev S4096x512 : Shape := ⟨2, ![4096, 512]⟩
abbrev S1x4096x256 : Shape := ⟨3, ![1, 4096, 256]⟩
abbrev S4096x256 : Shape := ⟨2, ![4096, 256]⟩
abbrev S4096x1024 : Shape := ⟨2, ![4096, 1024]⟩
abbrev S4096x3088 : Shape := ⟨2, ![4096, 3088]⟩
abbrev S_ : Shape := ⟨0, ![]⟩
abbrev S4096x120 : Shape := ⟨2, ![4096, 120]⟩
abbrev S4096x768 : Shape := ⟨2, ![4096, 768]⟩
abbrev S4096x8 : Shape := ⟨2, ![4096, 8]⟩
abbrev S4096x3328 : Shape := ⟨2, ![4096, 3328]⟩
abbrev S1x128 : Shape := ⟨2, ![1, 128]⟩
abbrev S1 : Shape := ⟨1, ![1]⟩
abbrev S2 : Shape := ⟨1, ![2]⟩
abbrev S1x512 : Shape := ⟨2, ![1, 512]⟩
abbrev S4096x128 : Shape := ⟨2, ![4096, 128]⟩
abbrev S256x512 : Shape := ⟨2, ![256, 512]⟩
abbrev S256x1024 : Shape := ⟨2, ![256, 1024]⟩
abbrev S256x128 : Shape := ⟨2, ![256, 128]⟩
abbrev S1x512x128 : Shape := ⟨3, ![1, 512, 128]⟩
abbrev S512x128 : Shape := ⟨2, ![512, 128]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S256x64 : Shape := ⟨2, ![256, 64]⟩
abbrev S64x128 : Shape := ⟨2, ![64, 128]⟩
abbrev S1x1 : Shape := ⟨2, ![1, 1]⟩
abbrev S128x256 : Shape := ⟨2, ![128, 256]⟩
abbrev S64x256 : Shape := ⟨2, ![64, 256]⟩
abbrev S1x64x128 : Shape := ⟨3, ![1, 64, 128]⟩
abbrev S1x1x1 : Shape := ⟨3, ![1, 1, 1]⟩
abbrev S1x256x64 : Shape := ⟨3, ![1, 256, 64]⟩
abbrev S448x128 : Shape := ⟨2, ![448, 128]⟩
abbrev S384x128 : Shape := ⟨2, ![384, 128]⟩
abbrev S320x128 : Shape := ⟨2, ![320, 128]⟩
abbrev S128x128 : Shape := ⟨2, ![128, 128]⟩
abbrev S192x128 : Shape := ⟨2, ![192, 128]⟩
abbrev S256x448 : Shape := ⟨2, ![256, 448]⟩
abbrev S256x384 : Shape := ⟨2, ![256, 384]⟩
abbrev S256x320 : Shape := ⟨2, ![256, 320]⟩
abbrev S256x192 : Shape := ⟨2, ![256, 192]⟩
abbrev S256x768 : Shape := ⟨2, ![256, 768]⟩
abbrev S128 : Shape := ⟨1, ![128]⟩

abbrev nBuf : Space → Nat
  | .hbm => 59
  | .vmem => 25
  | .smem => 0
  | _ => 0

abbrev bufTy : (tb : Table) → Fin (tcTables nBuf tb) → BufTy
  | .hbm, ⟨0, _⟩ => ⟨S1x4096x3088, .f32⟩
  | .hbm, ⟨1, _⟩ => ⟨S1x4096x1024, .f32⟩
  | .hbm, ⟨2, _⟩ => ⟨S16x512x128, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S512, .f32⟩
  | .hbm, ⟨7, _⟩ => ⟨S1x4096x1024, .f32⟩
  | .hbm, ⟨8, _⟩ => ⟨S1x4096x512, .f32⟩
  | .hbm, ⟨9, _⟩ => ⟨S4096x512, .f32⟩
  | .hbm, ⟨10, _⟩ => ⟨S1x4096x256, .f32⟩
  | .hbm, ⟨11, _⟩ => ⟨S4096x256, .f32⟩
  | .hbm, ⟨12, _⟩ => ⟨S1x4096x256, .f32⟩
  | .hbm, ⟨13, _⟩ => ⟨S4096x256, .f32⟩
  | .hbm, ⟨14, _⟩ => ⟨S4096x1024, .f32⟩
  | .hbm, ⟨15, _⟩ => ⟨S4096x3088, .f32⟩
  | .hbm, ⟨16, _⟩ => ⟨S_, .f32⟩
  | .hbm, ⟨17, _⟩ => ⟨S4096x120, .f32⟩
  | .hbm, ⟨18, _⟩ => ⟨S4096x768, .f32⟩
  | .hbm, ⟨19, _⟩ => ⟨S4096x256, .f32⟩
  | .hbm, ⟨20, _⟩ => ⟨S4096x1024, .f32⟩
  | .hbm, ⟨21, _⟩ => ⟨S4096x512, .f32⟩
  | .hbm, ⟨22, _⟩ => ⟨S4096x512, .f32⟩
  | .hbm, ⟨23, _⟩ => ⟨S4096x8, .f32⟩
  | .hbm, ⟨24, _⟩ => ⟨S4096x8, .f32⟩
  | .hbm, ⟨25, _⟩ => ⟨S4096x3328, .f32⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S1x128, .f32⟩
  | .hbm, ⟨50, _⟩ => ⟨S1x512, .f32⟩
  | .hbm, ⟨51, _⟩ => ⟨S4096x1024, .f32⟩
  | .hbm, ⟨52, _⟩ => ⟨S4096x512, .bf16⟩
  | .hbm, ⟨53, _⟩ => ⟨S4096x1024, .f32⟩
  | .hbm, ⟨54, _⟩ => ⟨S4096x128, .bf16⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S1x512x128, .f32⟩
  | .local _ .vmem, ⟨7, _⟩ => ⟨S1x512x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x1024, .f32⟩
  | .local _ .vmem, ⟨17, _⟩ => ⟨S256x1024, .f32⟩
  | .local _ .vmem, ⟨18, _⟩ => ⟨S256x128, .bf16⟩
  | .local _ .vmem, ⟨19, _⟩ => ⟨S256x128, .bf16⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x512, .f32⟩
  | .local _ .vmem, ⟨24, _⟩ => ⟨S512x128, .f32⟩
  | _, _ => ⟨S1x4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev main_v34_2 : Ref sig .tc := ⟨.hbm, 54, rfl⟩
abbrev main_v34_3 : Ref sig .tc := ⟨.hbm, 55, rfl⟩
abbrev main_v34_4 : Ref sig .tc := ⟨.hbm, 56, rfl⟩
abbrev main_v34_5 : Ref sig .tc := ⟨.hbm, 57, rfl⟩
abbrev main_v34_6 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c24_i32 : BitVec 32 := 24#32
  let c0_i32 : BitVec 32 := 0#32
  ![v0.toNat, c24_i32.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== GdnbKernel.lean ====
abbrev S1x4096x3088 : Shape := ⟨3, ![1, 4096, 3088]⟩
abbrev S1x4096x768 : Shape := ⟨3, ![1, 4096, 768]⟩
abbrev S32x256x64 : Shape := ⟨3, ![32, 256, 64]⟩
abbrev S32x512x128 : Shape := ⟨3, ![32, 512, 128]⟩
abbrev S4 : Shape := ⟨1, ![4]⟩
abbrev S64 : Shape := ⟨1, ![64]⟩
abbrev S1x4096x1024 : Shape := ⟨3, ![1, 4096, 1024]⟩
abbrev S1x4096x512 : Shape := ⟨3, ![1, 4096, 512]⟩
abbrev S4096x512 : Shape := ⟨2, ![4096, 512]⟩
abbrev S1x4096x256 : Shape := ⟨3, ![1, 4096, 256]⟩
abbrev S4096x256 : Shape := ⟨2, ![4096, 256]⟩
abbrev S4096x1024 : Shape := ⟨2, ![4096, 1024]⟩
abbrev S4096x3088 : Shape := ⟨2, ![4096, 3088]⟩
abbrev S_ : Shape := ⟨0, ![]⟩
abbrev S4096x120 : Shape := ⟨2, ![4096, 120]⟩
abbrev S4096x768 : Shape := ⟨2, ![4096, 768]⟩
abbrev S4096x8 : Shape := ⟨2, ![4096, 8]⟩
abbrev S4096x3328 : Shape := ⟨2, ![4096, 3328]⟩
abbrev S1x128 : Shape := ⟨2, ![1, 128]⟩
abbrev S1 : Shape := ⟨1, ![1]⟩
abbrev S2 : Shape := ⟨1, ![2]⟩
abbrev S1x64 : Shape := ⟨2, ![1, 64]⟩
abbrev S4096x128 : Shape := ⟨2, ![4096, 128]⟩
abbrev S128x768 : Shape := ⟨2, ![128, 768]⟩
abbrev S128x256 : Shape := ⟨2, ![128, 256]⟩
abbrev S128x128 : Shape := ⟨2, ![128, 128]⟩
abbrev S1x256x64 : Shape := ⟨3, ![1, 256, 64]⟩
abbrev S1x512x128 : Shape := ⟨3, ![1, 512, 128]⟩
abbrev S256x64 : Shape := ⟨2, ![256, 64]⟩
abbrev S512x128 : Shape := ⟨2, ![512, 128]⟩
abbrev S128x64 : Shape := ⟨2, ![128, 64]⟩
abbrev S128 : Shape := ⟨1, ![128]⟩
abbrev S128x1 : Shape := ⟨2, ![128, 1]⟩
abbrev S64x64 : Shape := ⟨2, ![64, 64]⟩
abbrev S1x1 : Shape := ⟨2, ![1, 1]⟩
abbrev S128x192 : Shape := ⟨2, ![128, 192]⟩
abbrev S64x128 : Shape := ⟨2, ![64, 128]⟩
abbrev S1x64x64 : Shape := ⟨3, ![1, 64, 64]⟩
abbrev S1x1x1 : Shape := ⟨3, ![1, 1, 1]⟩
abbrev S192x64 : Shape := ⟨2, ![192, 64]⟩
abbrev S128x704 : Shape := ⟨2, ![128, 704]⟩
abbrev S128x640 : Shape := ⟨2, ![128, 640]⟩
abbrev S128x576 : Shape := ⟨2, ![128, 576]⟩
abbrev S128x512 : Shape := ⟨2, ![128, 512]⟩
abbrev S128x448 : Shape := ⟨2, ![128, 448]⟩
abbrev S128x384 : Shape := ⟨2, ![128, 384]⟩
abbrev S128x320 : Shape := ⟨2, ![128, 320]⟩

abbrev nBuf : Space → Nat
  | .hbm => 50
  | .vmem => 25
  | .smem => 0
  | _ => 0

abbrev bufTy : (tb : Table) → Fin (tcTables nBuf tb) → BufTy
  | .hbm, ⟨0, _⟩ => ⟨S1x4096x3088, .f32⟩
  | .hbm, ⟨1, _⟩ => ⟨S1x4096x768, .f32⟩
  | .hbm, ⟨2, _⟩ => ⟨S32x256x64, .f32⟩
  | .hbm, ⟨3, _⟩ => ⟨S32x512x128, .f32⟩
  | .hbm, ⟨4, _⟩ => ⟨S4, .f32⟩
  | .hbm, ⟨5, _⟩ => ⟨S4, .f32⟩
  | .hbm, ⟨6, _⟩ => ⟨S64, .f32⟩
  | .hbm, ⟨7, _⟩ => ⟨S1x4096x1024, .f32⟩
  | .hbm, ⟨8, _⟩ => ⟨S1x4096x512, .f32⟩
  | .hbm, ⟨9, _⟩ => ⟨S4096x512, .f32⟩
  | .hbm, ⟨10, _⟩ => ⟨S1x4096x256, .f32⟩
  | .hbm, ⟨11, _⟩ => ⟨S4096x256, .f32⟩
  | .hbm, ⟨12, _⟩ => ⟨S1x4096x256, .f32⟩
  | .hbm, ⟨13, _⟩ => ⟨S4096x256, .f32⟩
  | .hbm, ⟨14, _⟩ => ⟨S4096x1024, .f32⟩
  | .hbm, ⟨15, _⟩ => ⟨S4096x3088, .f32⟩
  | .hbm, ⟨16, _⟩ => ⟨S_, .f32⟩
  | .hbm, ⟨17, _⟩ => ⟨S4096x120, .f32⟩
  | .hbm, ⟨18, _⟩ => ⟨S4096x768, .f32⟩
  | .hbm, ⟨19, _⟩ => ⟨S4096x256, .f32⟩
  | .hbm, ⟨20, _⟩ => ⟨S4096x1024, .f32⟩
  | .hbm, ⟨21, _⟩ => ⟨S4096x512, .f32⟩
  | .hbm, ⟨22, _⟩ => ⟨S4096x512, .f32⟩
  | .hbm, ⟨23, _⟩ => ⟨S4096x8, .f32⟩
  | .hbm, ⟨24, _⟩ => ⟨S4096x8, .f32⟩
  | .hbm, ⟨25, _⟩ => ⟨S4096x3328, .f32⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S1x128, .f32⟩
  | .hbm, ⟨42, _⟩ => ⟨S1x64, .f32⟩
  | .hbm, ⟨43, _⟩ => ⟨S4096x768, .f32⟩
  | .hbm, ⟨44, _⟩ => ⟨S4096x768, .f32⟩
  | .hbm, ⟨45, _⟩ => ⟨S4096x256, .bf16⟩
  | .hbm, ⟨46, _⟩ => ⟨S4096x128, .bf16⟩
  | .hbm, ⟨47, _⟩ => ⟨S1x128, .f32⟩
  | .hbm, ⟨48, _⟩ => ⟨S1x128, .f32⟩
  | .hbm, ⟨49, _⟩ => ⟨S1x64, .f32⟩
  | .local _ .vmem, ⟨0, _⟩ => ⟨S128x768, .f32⟩
  | .local _ .vmem, ⟨1, _⟩ => ⟨S128x768, .f32⟩
  | .local _ .vmem, ⟨2, _⟩ => ⟨S128x256, .f32⟩
  | .local _ .vmem, ⟨3, _⟩ => ⟨S128x256, .f32⟩
  | .local _ .vmem, ⟨4, _⟩ => ⟨S128x128, .f32⟩
  | .local _ .vmem, ⟨5, _⟩ => ⟨S128x128, .f32⟩
  | .local _ .vmem, ⟨6, _⟩ => ⟨S1x256x64, .f32⟩
  | .local _ .vmem, ⟨7, _⟩ => ⟨S1x256x64, .f32⟩
  | .local _ .vmem, ⟨8, _⟩ => ⟨S1x512x128, .f32⟩
  | .local _ .vmem, ⟨9, _⟩ => ⟨S1x512x128, .f32⟩
  | .local _ .vmem, ⟨10, _⟩ => ⟨S1x128, .f32⟩
  | .local _ .vmem, ⟨11, _⟩ => ⟨S1x128, .f32⟩
  | .local _ .vmem, ⟨12, _⟩ => ⟨S1x64, .f32⟩
  | .local _ .vmem, ⟨13, _⟩ => ⟨S128x256, .f32⟩
  | .local _ .vmem, ⟨14, _⟩ => ⟨S128x256, .f32⟩
  | .local _ .vmem, ⟨15, _⟩ => ⟨S128x768, .f32⟩
  | .local _ .vmem, ⟨16, _⟩ => ⟨S128x768, .f32⟩
  | .local _ .vmem, ⟨17, _⟩ => ⟨S128x256, .bf16⟩
  | .local _ .vmem, ⟨18, _⟩ => ⟨S128x256, .bf16⟩
  | .local _ .vmem, ⟨19, _⟩ => ⟨S128x128, .bf16⟩
  | .local _ .vmem, ⟨20, _⟩ => ⟨S128x128, .bf16⟩
  | .local _ .vmem, ⟨21, _⟩ => ⟨S1x128, .f32⟩
  | .local _ .vmem, ⟨22, _⟩ => ⟨S1x128, .f32⟩
  | .local _ .vmem, ⟨23, _⟩ => ⟨S1x64, .f32⟩
  | .local _ .vmem, ⟨24, _⟩ => ⟨S256x64, .f32⟩
  | _, _ => ⟨S1x4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29_0 : Ref sig .tc := ⟨.hbm, 44, rfl⟩
abbrev main_v29_1 : Ref sig .tc := ⟨.hbm, 45, rfl⟩
abbrev main_v29_2 : Ref sig .tc := ⟨.hbm, 46, rfl⟩
abbrev main_v29_3 : Ref sig .tc := ⟨.hbm, 47, rfl⟩
abbrev main_v29_4 : Ref sig .tc := ⟨.hbm, 48, rfl⟩
abbrev main_v29_5 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c25_i32 : BitVec 32 := 25#32
  let c0_i32 : BitVec 32 := 0#32
  ![v0.toNat, c25_i32.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== GdnfKernel.lean ====
abbrev S1x4096x3088 : Shape := ⟨3, ![1, 4096, 3088]⟩
abbrev S1x4096x768 : Shape := ⟨3, ![1, 4096, 768]⟩
abbrev S4 : Shape := ⟨1, ![4]⟩
abbrev S64 : Shape := ⟨1, ![64]⟩
abbrev S4096x3088 : Shape := ⟨2, ![4096, 3088]⟩
abbrev S_ : Shape := ⟨0, ![]⟩
abbrev S4096x120 : Shape := ⟨2, ![4096, 120]⟩
abbrev S4096x768 : Shape := ⟨2, ![4096, 768]⟩
abbrev S4096x256 : Shape := ⟨2, ![4096, 256]⟩
abbrev S4096x1024 : Shape := ⟨2, ![4096, 1024]⟩
abbrev S4096x512 : Shape := ⟨2, ![4096, 512]⟩
abbrev S4096x8 : Shape := ⟨2, ![4096, 8]⟩
abbrev S4096x3328 : Shape := ⟨2, ![4096, 3328]⟩
abbrev S1x128 : Shape := ⟨2, ![1, 128]⟩
abbrev S1 : Shape := ⟨1, ![1]⟩
abbrev S2 : Shape := ⟨1, ![2]⟩
abbrev S1x64 : Shape := ⟨2, ![1, 64]⟩
abbrev S32x256x64 : Shape := ⟨3, ![32, 256, 64]⟩
abbrev S32x512x128 : Shape := ⟨3, ![32, 512, 128]⟩
abbrev S128x768 : Shape := ⟨2, ![128, 768]⟩
abbrev S128x256 : Shape := ⟨2, ![128, 256]⟩
abbrev S128x128 : Shape := ⟨2, ![128, 128]⟩
abbrev S1x256x64 : Shape := ⟨3, ![1, 256, 64]⟩
abbrev S1x512x128 : Shape := ⟨3, ![1, 512, 128]⟩
abbrev S256x64 : Shape := ⟨2, ![256, 64]⟩
abbrev S128x64 : Shape := ⟨2, ![128, 64]⟩
abbrev S128 : Shape := ⟨1, ![128]⟩
abbrev S128x1 : Shape := ⟨2, ![128, 1]⟩
abbrev S64x64 : Shape := ⟨2, ![64, 64]⟩
abbrev S1x1 : Shape := ⟨2, ![1, 1]⟩
abbrev S512x128 : Shape := ⟨2, ![512, 128]⟩

abbrev nBuf : Space → Nat
  | .hbm => 37
  | .vmem => 16
  | .smem => 0
  | _ => 0

abbrev bufTy : (tb : Table) → Fin (tcTables nBuf tb) → BufTy
  | .hbm, ⟨0, _⟩ => ⟨S1x4096x3088, .f32⟩
  | .hbm, ⟨1, _⟩ => ⟨S1x4096x768, .f32⟩
  | .hbm, ⟨2, _⟩ => ⟨S4, .f32⟩
  | .hbm, ⟨3, _⟩ => ⟨S4, .f32⟩
  | .hbm, ⟨4, _⟩ => ⟨S64, .f32⟩
  | .hbm, ⟨5, _⟩ => ⟨S4096x3088, .f32⟩
  | .hbm, ⟨6, _⟩ => ⟨S_, .f32⟩
  | .hbm, ⟨7, _⟩ => ⟨S4096x120, .f32⟩
  | .hbm, ⟨8, _⟩ => ⟨S4096x768, .f32⟩
  | .hbm, ⟨9, _⟩ => ⟨S4096x256, .f32⟩
  | .hbm, ⟨10, _⟩ => ⟨S4096x1024, .f32⟩
  | .hbm, ⟨11, _⟩ => ⟨S4096x512, .f32⟩
  | .hbm, ⟨12, _⟩ => ⟨S4096x512, .f32⟩
  | .hbm, ⟨13, _⟩ => ⟨S4096x8, .f32⟩
  | .hbm, ⟨14, _⟩ => ⟨S4096x8, .f32⟩
  | .hbm, ⟨15, _⟩ => ⟨S4096x3328, .f32⟩
  | .hbm, ⟨16, _⟩ => ⟨S4096x768, .f32⟩
  | .hbm, ⟨17, _⟩ => ⟨S_, .f32⟩
  | .hbm, ⟨18, _⟩ => ⟨S1x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S1x64, .f32⟩
  | .hbm, ⟨34, _⟩ => ⟨S4096x256, .bf16⟩
  | .hbm, ⟨35, _⟩ => ⟨S32x256x64, .f32⟩
  | .hbm, ⟨36, _⟩ => ⟨S32x512x128, .f32⟩
  | .local _ .vmem, ⟨0, _⟩ => ⟨S128x768, .f32⟩
  | .local _ .vmem, ⟨1, _⟩ => ⟨S128x768, .f32⟩
  | .local _ .vmem, ⟨2, _⟩ => ⟨S128x256, .f32⟩
  | .local _ .vmem, ⟨3, _⟩ => ⟨S128x256, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x64, .f32⟩
  | .local _ .vmem, ⟨9, _⟩ => ⟨S128x256, .bf16⟩
  | .local _ .vmem, ⟨10, _⟩ => ⟨S128x256, .bf16⟩
  | .local _ .vmem, ⟨11, _⟩ => ⟨S1x256x64, .f32⟩
  | .local _ .vmem, ⟨12, _⟩ => ⟨S1x256x64, .f32⟩
  | .local _ .vmem, ⟨13, _⟩ => ⟨S1x512x128, .f32⟩
  | .local _ .vmem, ⟨14, _⟩ => ⟨S1x512x128, .f32⟩
  | .local _ .vmem, ⟨15, _⟩ => ⟨S256x64, .f32⟩
  | _, _ => ⟨S1x4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NnKernel.lean ====
abbrev S4096x5632 : Shape := ⟨2, ![4096, 5632]⟩
abbrev S1024x2816 : Shape := ⟨2, ![1024, 2816]⟩
abbrev S2816x1024 : Shape := ⟨2, ![2816, 1024]⟩
abbrev S1408x1024 : Shape := ⟨2, ![1408, 1024]⟩
abbrev S5632x1024 : Shape := ⟨2, ![5632, 1024]⟩
abbrev S4096x1024 : Shape := ⟨2, ![4096, 1024]⟩
abbrev S512x5632 : Shape := ⟨2, ![512, 5632]⟩
abbrev S512x1024 : Shape := ⟨2, ![512, 1024]⟩

abbrev nBuf : Space → Nat
  | .hbm => 13
  | .vmem => 5
  | .smem => 0
  | _ => 0

abbrev bufTy : (tb : Table) → Fin (tcTables nBuf tb) → BufTy
  | .hbm, ⟨0, _⟩ => ⟨S4096x5632, .f32⟩
  | .hbm, ⟨1, _⟩ => ⟨S1024x2816, .f32⟩
  | .hbm, ⟨2, _⟩ => ⟨S1024x2816, .f32⟩
  | .hbm, ⟨3, _⟩ => ⟨S4096x5632, .bf16⟩
  | .hbm, ⟨4, _⟩ => ⟨S2816x1024, .f32⟩
  | .hbm, ⟨5, _⟩ => ⟨S2816x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S5632x1024, .f32⟩
  | .hbm, ⟨11, _⟩ => ⟨S5632x1024, .bf16⟩
  | .hbm, ⟨12, _⟩ => ⟨S4096x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NnReferenceIdeal.lean ====
abbrev S4096x5632 : Shape := ⟨2, ![4096, 5632]⟩
abbrev S1024x2816 : Shape := ⟨2, ![1024, 2816]⟩
abbrev S4096x1408 : Shape := ⟨2, ![4096, 1408]⟩
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x2816, .f32⟩
  | .hbm, ⟨2, _⟩ => ⟨S1024x2816, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x2816, .f32⟩
  | .hbm, ⟨8, _⟩ => ⟨S2816x1024, .f32⟩
  | .hbm, ⟨9, _⟩ => ⟨S4096x1024, .f32⟩
  | .hbm, ⟨10, _⟩ => ⟨S4096x2816, .f32⟩
  | .hbm, ⟨11, _⟩ => ⟨S2816x1024, .f32⟩
  | .hbm, ⟨12, _⟩ => ⟨S4096x1024, .f32⟩
  | .hbm, ⟨13, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== NtKernel.lean ====
abbrev S4096x3088 : Shape := ⟨2, ![4096, 3088]⟩
abbrev S1024x3088 : Shape := ⟨2, ![1024, 3088]⟩
abbrev S_ : Shape := ⟨0, ![]⟩
abbrev S4096x120 : Shape := ⟨2, ![4096, 120]⟩
abbrev S4096x768 : Shape := ⟨2, ![4096, 768]⟩
abbrev S4096x256 : Shape := ⟨2, ![4096, 256]⟩
abbrev S4096x1024 : Shape := ⟨2, ![4096, 1024]⟩
abbrev S4096x512 : Shape := ⟨2, ![4096, 512]⟩
abbrev S4096x8 : Shape := ⟨2, ![4096, 8]⟩
abbrev S4096x3328 : Shape := ⟨2, ![4096, 3328]⟩
abbrev S1024x120 : Shape := ⟨2, ![1024, 120]⟩
abbrev S1024x768 : Shape := ⟨2, ![1024, 768]⟩
abbrev S1024x256 : Shape := ⟨2, ![1024, 256]⟩
abbrev S1024x1024 : Shape := ⟨2, ![1024, 1024]⟩
abbrev S1024x512 : Shape := ⟨2, ![1024, 512]⟩
abbrev S1024x8 : Shape := ⟨2, ![1024, 8]⟩
abbrev S1024x3328 : Shape := ⟨2, ![1024, 3328]⟩
abbrev S512x3328 : Shape := ⟨2, ![512, 3328]⟩
abbrev S512x1024 : Shape := ⟨2, ![512, 1024]⟩

abbrev nBuf : Space → Nat
  | .hbm => 25
  | .vmem => 5
  | .smem => 0
  | _ => 0

abbrev bufTy : (tb : Table) → Fin (tcTables nBuf tb) → BufTy
  | .hbm, ⟨0, _⟩ => ⟨S4096x3088, .f32⟩
  | .hbm, ⟨1, _⟩ => ⟨S1024x3088, .f32⟩
  | .hbm, ⟨2, _⟩ => ⟨S_, .f32⟩
  | .hbm, ⟨3, _⟩ => ⟨S4096x120, .f32⟩
  | .hbm, ⟨4, _⟩ => ⟨S4096x768, .f32⟩
  | .hbm, ⟨5, _⟩ => ⟨S4096x256, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4096x8, .f32⟩
  | .hbm, ⟨10, _⟩ => ⟨S4096x8, .f32⟩
  | .hbm, ⟨11, _⟩ => ⟨S4096x3328, .f32⟩
  | .hbm, ⟨12, _⟩ => ⟨S4096x3328, .bf16⟩
  | .hbm, ⟨13, _⟩ => ⟨S_, .f32⟩
  | .hbm, ⟨14, _⟩ => ⟨S1024x120, .f32⟩
  | .hbm, ⟨15, _⟩ => ⟨S1024x768, .f32⟩
  | .hbm, ⟨16, _⟩ => ⟨S1024x256, .f32⟩
  | .hbm, ⟨17, _⟩ => ⟨S1024x1024, .f32⟩
  | .hbm, ⟨18, _⟩ => ⟨S1024x512, .f32⟩
  | .hbm, ⟨19, _⟩ => ⟨S1024x512, .f32⟩
  | .hbm, ⟨20, _⟩ => ⟨S1024x8, .f32⟩
  | .hbm, ⟨21, _⟩ => ⟨S1024x8, .f32⟩
  | .hbm, ⟨22, _⟩ => ⟨S1024x3328, .f32⟩
  | .hbm, ⟨23, _⟩ => ⟨S1024x3328, .bf16⟩
  | .hbm, ⟨24, _⟩ => ⟨S4096x1024, .f32⟩
  | .local _ .vmem, ⟨0, _⟩ => ⟨S512x3328, .bf16⟩
  | .local _ .vmem, ⟨1, _⟩ => ⟨S512x3328, .bf16⟩
  | .local _ .vmem, ⟨2, _⟩ => ⟨S1024x3328, .bf16⟩
  | .local _ .vmem, ⟨3, _⟩ => ⟨S512x1024, .f32⟩
  | .local _ .vmem, ⟨4, _⟩ => ⟨S512x1024, .f32⟩
  | _, _ => ⟨S4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NtReferenceIdeal.lean ====
abbrev S4096x3088 : Shape := ⟨2, ![4096, 3088]⟩
abbrev S1024x3088 : Shape := ⟨2, ![1024, 3088]⟩
abbrev S3088x1024 : Shape := ⟨2, ![3088, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x3088, .f32⟩
  | .hbm, ⟨1, _⟩ => ⟨S1024x3088, .f32⟩
  | .hbm, ⟨2, _⟩ => ⟨S3088x1024, .f32⟩
  | .hbm, ⟨3, _⟩ => ⟨S4096x1024, .f32⟩
  | _, _ => ⟨S4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== TnKernel.lean ====
abbrev S4096x5632 : Shape := ⟨2, ![4096, 5632]⟩
abbrev S4096x1024 : Shape := ⟨2, ![4096, 1024]⟩
abbrev S5632x1024 : Shape := ⟨2, ![5632, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S4096x5632, .bf16⟩
  | .hbm, ⟨3, _⟩ => ⟨S4096x1024, .bf16⟩
  | .hbm, ⟨4, _⟩ => ⟨S5632x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnReferenceIdeal.lean ====
abbrev S4096x5632 : Shape := ⟨2, ![4096, 5632]⟩
abbrev S4096x1024 : Shape := ⟨2, ![4096, 1024]⟩
abbrev S5632x4096 : Shape := ⟨2, ![5632, 4096]⟩
abbrev S5632x1024 : Shape := ⟨2, ![5632, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S5632x4096, .f32⟩
  | .hbm, ⟨3, _⟩ => ⟨S5632x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumKernel.lean ====
abbrev S8x264x128 : Shape := ⟨3, ![8, 264, 128]⟩
abbrev S264x128 : Shape := ⟨2, ![264, 128]⟩
abbrev S1x264x128 : Shape := ⟨3, ![1, 264, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x264x128, .f32⟩
  | .hbm, ⟨1, _⟩ => ⟨S264x128, .f32⟩
  | .local _ .vmem, ⟨0, _⟩ => ⟨S8x264x128, .f32⟩
  | .local _ .vmem, ⟨1, _⟩ => ⟨S264x128, .f32⟩
  | _, _ => ⟨S8x264x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x264x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S264x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumReferenceIdeal.lean ====
abbrev S8x264x128 : Shape := ⟨3, ![8, 264, 128]⟩
abbrev S_ : Shape := ⟨0, ![]⟩
abbrev S264x128 : Shape := ⟨2, ![264, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x264x128, .f32⟩
  | .hbm, ⟨1, _⟩ => ⟨S_, .f32⟩
  | .hbm, ⟨2, _⟩ => ⟨S264x128, .f32⟩
  | _, _ => ⟨S8x264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamKernel.lean ====
abbrev S2x1024x772 : Shape := ⟨3, ![2, 1024, 772]⟩
abbrev S2048x772 : Shape := ⟨2, ![2048, 772]⟩
abbrev S512x772 : Shape := ⟨2, ![512, 772]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x772, .f32⟩
  | .hbm, ⟨1, _⟩ => ⟨S2x1024x772, .f32⟩
  | .hbm, ⟨2, _⟩ => ⟨S2x1024x772, .f32⟩
  | .hbm, ⟨3, _⟩ => ⟨S2x1024x772, .f32⟩
  | .hbm, ⟨4, _⟩ => ⟨S2048x772, .f32⟩
  | .hbm, ⟨5, _⟩ => ⟨S2048x772, .f32⟩
  | .hbm, ⟨6, _⟩ => ⟨S2048x772, .f32⟩
  | .hbm, ⟨7, _⟩ => ⟨S2048x772, .f32⟩
  | .hbm, ⟨8, _⟩ => ⟨S2048x772, .f32⟩
  | .hbm, ⟨9, _⟩ => ⟨S2048x772, .f32⟩
  | .hbm, ⟨10, _⟩ => ⟨S2048x772, .f32⟩
  | .local _ .vmem, ⟨0, _⟩ => ⟨S512x772, .f32⟩
  | .local _ .vmem, ⟨1, _⟩ => ⟨S512x772, .f32⟩
  | .local _ .vmem, ⟨2, _⟩ => ⟨S512x772, .f32⟩
  | .local _ .vmem, ⟨3, _⟩ => ⟨S512x772, .f32⟩
  | .local _ .vmem, ⟨4, _⟩ => ⟨S512x772, .f32⟩
  | .local _ .vmem, ⟨5, _⟩ => ⟨S512x772, .f32⟩
  | .local _ .vmem, ⟨6, _⟩ => ⟨S512x772, .f32⟩
  | .local _ .vmem, ⟨7, _⟩ => ⟨S512x772, .f32⟩
  | .local _ .vmem, ⟨8, _⟩ => ⟨S512x772, .f32⟩
  | .local _ .vmem, ⟨9, _⟩ => ⟨S512x772, .f32⟩
  | .local _ .vmem, ⟨10, _⟩ => ⟨S512x772, .f32⟩
  | .local _ .vmem, ⟨11, _⟩ => ⟨S512x772, .f32⟩
  | .local _ .vmem, ⟨12, _⟩ => ⟨S512x772, .f32⟩
  | .local _ .vmem, ⟨13, _⟩ => ⟨S512x772, .f32⟩
  | _, _ => ⟨S2x1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamReferenceIdeal.lean ====
abbrev S2x1024x772 : Shape := ⟨3, ![2, 1024, 772]⟩
abbrev S_ : Shape := ⟨0, ![]⟩
abbrev S2048x772 : Shape := ⟨2, ![2048, 772]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x772, .f32⟩
  | .hbm, ⟨1, _⟩ => ⟨S2x1024x772, .f32⟩
  | .hbm, ⟨2, _⟩ => ⟨S2x1024x772, .f32⟩
  | .hbm, ⟨3, _⟩ => ⟨S2x1024x772, .f32⟩
  | .hbm, ⟨4, _⟩ => ⟨S_, .f32⟩
  | .hbm, ⟨5, _⟩ => ⟨S2x1024x772, .f32⟩
  | .hbm, ⟨6, _⟩ => ⟨S2x1024x772, .f32⟩
  | .hbm, ⟨7, _⟩ => ⟨S_, .f32⟩
  | .hbm, ⟨8, _⟩ => ⟨S2x1024x772, .f32⟩
  | .hbm, ⟨9, _⟩ => ⟨S2x1024x772, .f32⟩
  | .hbm, ⟨10, _⟩ => ⟨S2x1024x772, .f32⟩
  | .hbm, ⟨11, _⟩ => ⟨S_, .f32⟩
  | .hbm, ⟨12, _⟩ => ⟨S2x1024x772, .f32⟩
  | .hbm, ⟨13, _⟩ => ⟨S2x1024x772, .f32⟩
  | .hbm, ⟨14, _⟩ => ⟨S2x1024x772, .f32⟩
  | .hbm, ⟨15, _⟩ => ⟨S_, .f32⟩
  | .hbm, ⟨16, _⟩ => ⟨S2x1024x772, .f32⟩
  | .hbm, ⟨17, _⟩ => ⟨S2x1024x772, .f32⟩
  | .hbm, ⟨18, _⟩ => ⟨S2x1024x772, .f32⟩
  | .hbm, ⟨19, _⟩ => ⟨S_, .f32⟩
  | .hbm, ⟨20, _⟩ => ⟨S2x1024x772, .f32⟩
  | .hbm, ⟨21, _⟩ => ⟨S2x1024x772, .f32⟩
  | .hbm, ⟨22, _⟩ => ⟨S_, .f32⟩
  | .hbm, ⟨23, _⟩ => ⟨S2x1024x772, .f32⟩
  | .hbm, ⟨24, _⟩ => ⟨S2x1024x772, .f32⟩
  | .hbm, ⟨25, _⟩ => ⟨S2x1024x772, .f32⟩
  | .hbm, ⟨26, _⟩ => ⟨S_, .f32⟩
  | .hbm, ⟨27, _⟩ => ⟨S2x1024x772, .f32⟩
  | .hbm, ⟨28, _⟩ => ⟨S2x1024x772, .f32⟩
  | .hbm, ⟨29, _⟩ => ⟨S2x1024x772, .f32⟩
  | .hbm, ⟨30, _⟩ => ⟨S_, .f32⟩
  | .hbm, ⟨31, _⟩ => ⟨S2x1024x772, .f32⟩
  | .hbm, ⟨32, _⟩ => ⟨S2x1024x772, .f32⟩
  | .hbm, ⟨33, _⟩ => ⟨S2x1024x772, .f32⟩
  | .hbm, ⟨34, _⟩ => ⟨S_, .f32⟩
  | .hbm, ⟨35, _⟩ => ⟨S2x1024x772, .f32⟩
  | .hbm, ⟨36, _⟩ => ⟨S2x1024x772, .f32⟩
  | .hbm, ⟨37, _⟩ => ⟨S2048x772, .f32⟩
  | .hbm, ⟨38, _⟩ => ⟨S2048x772, .f32⟩
  | .hbm, ⟨39, _⟩ => ⟨S2048x772, .f32⟩
  | _, _ => ⟨S2x1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.ConvValue.lean ====
module

public import proofs.«01_k».proof.Proof.Gen.ConvKernelIdeal.Value
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section
set_option maxRecDepth 16384
noncomputable section
namespace Cert.ConvKernelIdeal.Value
open Cert.ConvKernelIdeal Cert.ConvKernelIdeal.Gen Idealize.ShloMosaic Idealize.ShloMosaic.TcCoe Idealize.SL.Sem
open Idealize.ShloMosaic.Pipeline (Dat)

/-! ## The convolution and its gradient, entry by entry -/

/-- The input with eight rows of zeros put before it, in the columns the convolution reads. -/
def xp (X : FVec Ideal S4096x3088 .f32) (n : ℕ) (l : Fin 1024) : EReal :=
  if h : 8 ≤ n ∧ n < 4104 then X (ix2 ⟨n - 8, by omega⟩ ⟨1024 + l.val, by omega⟩) else 0

/-- The convolution's value before the activation. -/
def yv (X : FVec Ideal S4096x3088 .f32) (W : FVec Ideal S4x1024 .f32) (B : FVec Ideal S1024 .f32) (r : ℕ) (l : Fin 1024) : EReal :=
  B (ix1 l) + W (ix2 0 l) * xp X (r + 5) l + W (ix2 1 l) * xp X (r + 6) l + W (ix2 2 l) * xp X (r + 7) l + W (ix2 3 l) * xp X (r + 8) l

/-- The cotangent carried through the activation, as the kernel multiplies it out; zero past the last row. -/
def dyv (X : FVec Ideal S4096x3088 .f32) (W : FVec Ideal S4x1024 .f32) (B : FVec Ideal S1024 .f32) (D : FVec Ideal S4096x1024 .f32)
    (r : ℕ) (l : Fin 1024) : EReal :=
  if h : r < 4096 then
    D (ix2 ⟨r, h⟩ l) * (Ideal.logistic (yv X W B r l) * (1 + yv X W B r l * (1 - Ideal.logistic (yv X W B r l))))
  else 0

/-- Stores that are blocks of `G` and cover an index leave `G` there. -/
theorem canon_blocks {s : Shape} {e : EltTy} (G : s.Idx → Elt Ideal e) (L : List (View.Piece (Elt Ideal) s e))
    (h : View.PiecesOf G L) (y : s.Idx) (hc : ∃ p ∈ L, y ∈ p.1.set) : View.canon L y = G y := by
  have := View.canon_append_of_piecesOf G [] L h y hc
  rwa [List.append_nil] at this

variable (m : (ℓ : Loc nD τ sig) → Buf (Elt Ideal) ℓ)

theorem idx : ∀ t : Fin cfg0.N, win0_0.index t = ![7 - t.val, 1] ∧ win0_1.index t = ![(7 - t.val) * 64 - 1, 1]
    ∧ win0_2.index t = ![7 - t.val, 0] ∧ win0_3.index t = ![0, 0] ∧ win0_4.index t = ![0, 0]
    ∧ win0_5.index t = ![7 - t.val, 0] ∧ win0_6.index t = ![0, 0] ∧ win0_7.index t = ![0, 0] ∧ (grid0.coords t 0).val = t.val :=
  (by decide +kernel : ∀ t : Fin grid0.N, _)

/-- The last point of the walk is the first block of rows. -/
theorem first_block : ∀ t : Fin cfg0.N, Scalar.cmpi .eq (Scalar.subi 7#32 (BitVec.ofNat 32 (grid0.coords t 0).val)) 0#32 = if t.val = 7 then 1#1 else 0#1 :=
  (by decide +kernel : ∀ t : Fin grid0.N, _)

set_option maxHeartbeats 1600000 in
/-- The repacked input, read in the columns the convolution takes. -/
theorem packed_at (c : Dev nD) (R : Fin 4096) (l : Fin 1024) :
    V m c main_v8 (ix2 R (⟨1024 + l.val, by omega⟩ : Fin 3328)) = m ((c : Thread nD τ).loc main_arg0) (ix2 R ⟨1024 + l.val, by omega⟩) := by
  unfold_abbrev_sides
  after_reads_simp
  pointwise
  rw [dif_neg (by omega), dif_neg (by omega), dif_pos (by omega)]
  after_reads_simp
  pointwise
  blk_ext []

theorem x0_at (c : Dev nD) (t : Fin cfg0.N) (r : Fin 512) (l : Fin 1024) :
    X0_0 m c t (ix2 r l) = xp (m ((c : Thread nD τ).loc main_arg0)) ((7 - t.val) * 512 + (8 + r.val)) l := by
  unfold X0_0 xp Pipeline.Window.fill
  rw [dif_pos (moved0_0 t _), dif_pos (by omega)]
  refine Eq.trans ?_ (packed_at m c ⟨(7 - t.val) * 512 + (8 + r.val) - 8, by omega⟩ l)
  blk_ext [iblk, idx t]

theorem x1_at (c : Dev nD) (t : Fin cfg0.N) (r : Fin 8) (l : Fin 1024) (h : t.val < 7) :
    X0_1 m c t (ix2 r l) = xp (m ((c : Thread nD τ).loc main_arg0)) ((7 - t.val) * 512 + r.val) l := by
  unfold X0_1 xp Pipeline.Window.fill
  rw [dif_pos (moved0_1 t _), dif_pos (by omega)]
  refine Eq.trans ?_ (packed_at m c ⟨(7 - t.val) * 512 + r.val - 8, by omega⟩ l)
  blk_ext [iblk, idx t]

/-- The scratch that holds a block's input rows with the eight before them. -/
theorem ext_canon (c : Dev nD) (t : Fin cfg0.N) (y : S520x1024.Idx) :
    View.canon (Val := Elt Ideal) (s := S520x1024) (e := .f32)
      [⟨Rect.unit ![8, 0] ![512, 1024] inb_S520x1024_S512x1024_8_0, k0_pay8 (X0_0 m c t)⟩,
        ⟨Rect.unit ![0, 0] ![8, 1024] inb_S520x1024_S8x1024_0_0, k0_pay7 (grid0.coords t) (X0_1 m c t)⟩] y
      = xp (m ((c : Thread nD τ).loc main_arg0)) ((7 - t.val) * 512 + (y 0).val) (y 1) := by
  refine canon_blocks (e := .f32) (fun y : S520x1024.Idx => xp (m ((c : Thread nD τ).loc main_arg0)) ((7 - t.val) * 512 + (y 0).val) (y 1))
    [⟨Rect.unit ![8, 0] ![512, 1024] inb_S520x1024_S512x1024_8_0, k0_pay8 (X0_0 m c t)⟩,
        ⟨Rect.unit ![0, 0] ![8, 1024] inb_S520x1024_S8x1024_0_0, k0_pay7 (grid0.coords t) (X0_1 m c t)⟩] ⟨fun x => ?_, fun x => ?_, trivial⟩ y ?_
  · have e0 : ((Rect.unit (s := S520x1024) ![8, 0] ![512, 1024] inb_S520x1024_S512x1024_8_0).emb x 0).val = 8 + (x 0).val := ValueKit.rect_emb_unit_val (s := S520x1024) _ _ _ x 0
    have e1 : (Rect.unit (s := S520x1024) ![8, 0] ![512, 1024] inb_S520x1024_S512x1024_8_0).emb x 1 = x 1 := Fin.ext ((ValueKit.rect_emb_unit_val (s := S520x1024) _ _ _ x 1).trans (Nat.zero_add _))
    show k0_pay8 (X0_0 m c t) x = xp _ ((7 - t.val) * 512 + _) _
    rw [e0, e1]
    obtain ⟨x0, x1, rfl⟩ : ∃ (x0 : Fin 512) (x1 : Fin 1024), x = ix2 x0 x1 := ⟨x 0, x 1, eq_ix2 x⟩
    unfold k0_pay8
    rw [shapeCast_self, shapeCast_self]
    exact x0_at m c t x0 x1
  · have e0 : ((Rect.unit (s := S520x1024) ![0, 0] ![8, 1024] inb_S520x1024_S8x1024_0_0).emb x 0).val = 0 + (x 0).val := ValueKit.rect_emb_unit_val (s := S520x1024) _ _ _ x 0
    have e1 : (Rect.unit (s := S520x1024) ![0, 0] ![8, 1024] inb_S520x1024_S8x1024_0_0).emb x 1 = x 1 := Fin.ext ((ValueKit.rect_emb_unit_val (s := S520x1024) _ _ _ x 1).trans (Nat.zero_add _))
    show k0_pay7 (grid0.coords t) (X0_1 m c t) x = xp _ ((7 - t.val) * 512 + _) _
    rw [e0, e1]
    obtain ⟨x0, x1, rfl⟩ : ∃ (x0 : Fin 8) (x1 : Fin 1024), x = ix2 x0 x1 := ⟨x 0, x 1, eq_ix2 x⟩
    pointwise [k0_pay7]
    rw [first_block t]
    by_cases h : t.val = 7
    · rw [if_pos h]
      show (0 : EReal) = _
      unfold xp
      rw [dif_neg (by omega)]
    · rw [if_neg h]
      show X0_1 m c t (ix2 x0 x1) = _
      rw [x1_at m c t x0 x1 (by have h8 : t.val < 8 := lt_of_lt_of_eq t.isLt N_0; omega)]
  · simp only [List.mem_cons, List.not_mem_nil, or_false, exists_eq_or_imp, exists_eq_left, Rect.mem_set_unit]
    rcases Nat.lt_or_ge (y 0).val 8 with h | h
    · exact Or.inr (Fin.forall_fin_two.2 ⟨⟨Nat.zero_le _, h⟩, Nat.zero_le _, (y 1).isLt⟩)
    · exact Or.inl (Fin.forall_fin_two.2 ⟨⟨h, (y 0).isLt⟩, Nat.zero_le _, (y 1).isLt⟩)

set_option maxHeartbeats 1600000 in
/-- The bias, as the row the launch reads. -/
theorem bias_at (c : Dev nD) (l : Fin 1024) : V m c main_v9 (ix2 (0 : Fin 1) l) = m ((c : Thread nD τ).loc main_arg2) (ix1 l) := by
  unfold_abbrev_sides
  after_reads_simp
  pointwise

/-- A block's input rows, moved by the rows a load starts at. -/
def rows (c : Dev nD) (t : Fin cfg0.N) (k : ℕ) : FVec Ideal S512x1024 .f32 :=
  fun j => xp (m ((c : Thread nD τ).loc main_arg0)) ((7 - t.val) * 512 + (j 0).val + k) (j 1)

/-- A block's rows of the cotangent carried through the activation. -/
def dyb (c : Dev nD) (t : Fin cfg0.N) : FVec Ideal S512x1024 .f32 :=
  fun j => dyv (m ((c : Thread nD τ).loc main_arg0)) (m ((c : Thread nD τ).loc main_arg1)) (m ((c : Thread nD τ).loc main_arg2)) (m ((c : Thread nD τ).loc main_arg3))
    ((7 - t.val) * 512 + (j 0).val) (j 1)

theorem rows_eq (c : Dev nD) (t : Fin cfg0.N) (k : ℕ) (inb) :
    (fun j => xp (m ((c : Thread nD τ).loc main_arg0)) ((7 - t.val) * 512 + ((Rect.unit (s := S520x1024) ![k, 0] ![512, 1024] inb).idx j 0).val)
      ((Rect.unit (s := S520x1024) ![k, 0] ![512, 1024] inb).idx j 1)) = rows m c t k := by
  funext j
  have e0 : ((Rect.unit (s := S520x1024) ![k, 0] ![512, 1024] inb).idx j 0).val = k + (j 0).val := ValueKit.rect_emb_unit_val (s := S520x1024) ![k, 0] ![512, 1024] inb j 0
  have e1 : (Rect.unit (s := S520x1024) ![k, 0] ![512, 1024] inb).idx j 1 = j 1 := Fin.ext ((ValueKit.rect_emb_unit_val _ _ _ j 1).trans (Nat.zero_add _))
  rw [e0, e1, Nat.add_comm k, ← Nat.add_assoc]
  rfl

theorem dy_pay (c : Dev nD) (t : Fin cfg0.N) :
    k0_pay10
        (k0_pay9 (iblk m c 4 t) (View.ld (iblk m c 3 t) (Rect.unit (s := S4x1024) ![0, 0] ![1, 1024] inb_S4x1024_S1x1024_0_0)) (rows m c t 5)
          (View.ld (iblk m c 3 t) (Rect.unit (s := S4x1024) ![1, 0] ![1, 1024] inb_S4x1024_S1x1024_1_0)) (rows m c t 6))
        (View.ld (iblk m c 3 t) (Rect.unit (s := S4x1024) ![2, 0] ![1, 1024] inb_S4x1024_S1x1024_2_0)) (rows m c t 7)
        (View.ld (iblk m c 3 t) (Rect.unit (s := S4x1024) ![3, 0] ![1, 1024] inb_S4x1024_S1x1024_3_0)) (rows m c t 8)
        (iblk m c 2 t) = dyb m c t := by
  funext j
  idx_vars j
  unfold dyb dyv yv
  rw [dif_pos (by show (7 - t.val) * 512 + j0.val < 4096; omega)]
  pointwise [k0_pay10, k0_pay9, rows]
  blk_point [iblk, V, idx t]

theorem dy_pay' (v) (w0) (x0) (w1) (x1) (d) :
    k0_pay11 (F := Ideal) v w0 x0 w1 x1 d = k0_pay10 v w0 x0 w1 x1 d := by
  unfold k0_pay11
  exact shapeCast_self _ _

end Cert.ConvKernelIdeal.Value
-- ==== Proof.ConvGrad.lean ====
module

public import proofs.«01_k».proof.Proof.ConvValue
public import Idealize.ShloMosaic.Lib.WritesUnit

@[expose] public section
set_option maxRecDepth 16384
noncomputable section
namespace Cert.ConvKernelIdeal.Value
open Cert.ConvKernelIdeal Cert.ConvKernelIdeal.Gen Idealize.ShloMosaic Idealize.ShloMosaic.TcCoe Idealize.SL.Sem
open Idealize.ShloMosaic.Pipeline (Dat)
variable (m : (ℓ : Loc nD τ sig) → Buf (Elt Ideal) ℓ)

/-- The taps. -/
abbrev wA (c : Dev nD) : FVec Ideal S4x1024 .f32 := m ((c : Thread nD τ).loc main_arg1)

/-- The gradient before the activation, at the arguments. -/
abbrev dyA (c : Dev nD) (r : ℕ) (l : Fin 1024) : Ideal .f32 :=
  dyv (m ((c : Thread nD τ).loc main_arg0)) (m ((c : Thread nD τ).loc main_arg1)) (m ((c : Thread nD τ).loc main_arg2)) (m ((c : Thread nD τ).loc main_arg3)) r l

/-- Rows of the cotangent past a block's end as well as in it. -/
def dyx (c : Dev nD) (t : Fin cfg0.N) : FVec Ideal S520x1024 .f32 :=
  fun j => dyA m c ((7 - t.val) * 512 + (j 0).val) (j 1)

theorem dyx_emb (c : Dev nD) (t : Fin cfg0.N) (k n : ℕ) (inb) (x : (Rect.unit (s := S520x1024) ![k, 0] ![n, 1024] inb).shape.Idx) :
    dyx m c t ((Rect.unit (s := S520x1024) ![k, 0] ![n, 1024] inb).emb x)
      = dyA m c ((7 - t.val) * 512 + (k + (x 0).val)) (x 1) := by
  have e0 : ((Rect.unit (s := S520x1024) ![k, 0] ![n, 1024] inb).emb x 0).val = k + (x 0).val := ValueKit.rect_emb_unit_val (s := S520x1024) _ _ _ x 0
  have e1 : (Rect.unit (s := S520x1024) ![k, 0] ![n, 1024] inb).emb x 1 = x 1 := Fin.ext ((ValueKit.rect_emb_unit_val (s := S520x1024) _ _ _ x 1).trans (Nat.zero_add _))
  unfold dyx
  rw [e0, e1]

/-- The first point: nothing lies past the last row. -/
theorem dyx_first (c : Dev nD) (t : Fin cfg0.N) (h : t.val % 8 = 0) (y : S520x1024.Idx) :
    View.canon (Val := Elt Ideal) (s := S520x1024) (e := .f32)
      [⟨Rect.unit ![0, 0] ![512, 1024] inb_S520x1024_S512x1024_0_0, dyb m c t⟩,
        ⟨Rect.unit ![512, 0] ![8, 1024] inb_S520x1024_S8x1024_512_0, k0_pay4 (F := Ideal)⟩] y = dyx m c t y := by
  refine canon_blocks (e := .f32) (dyx m c t)
    [⟨Rect.unit ![0, 0] ![512, 1024] inb_S520x1024_S512x1024_0_0, dyb m c t⟩,
        ⟨Rect.unit ![512, 0] ![8, 1024] inb_S520x1024_S8x1024_512_0, k0_pay4 (F := Ideal)⟩] ⟨fun x => ?_, fun x => ?_, trivial⟩ y ?_
  · refine Eq.trans ?_ (dyx_emb m c t 0 512 inb_S520x1024_S512x1024_0_0 x).symm
    rw [Nat.zero_add]; rfl
  · refine Eq.trans ?_ (dyx_emb m c t 512 8 inb_S520x1024_S8x1024_512_0 x).symm
    have h8 : t.val < 8 := lt_of_lt_of_eq t.isLt N_0
    unfold dyA dyv
    rw [dif_neg (by omega)]
    exact (by pointwise [k0_pay4] : (k0_pay4 (F := Ideal)) x = 0)
  · simp only [List.mem_cons, List.not_mem_nil, or_false, exists_eq_or_imp, exists_eq_left, Rect.mem_set_unit]
    rcases Nat.lt_or_ge (y 0).val 512 with h | h
    · exact Or.inl (Fin.forall_fin_two.2 ⟨⟨Nat.zero_le _, h⟩, Nat.zero_le _, (y 1).isLt⟩)
    · exact Or.inr (Fin.forall_fin_two.2 ⟨⟨h, (y 0).isLt⟩, Nat.zero_le _, (y 1).isLt⟩)

/-- A later point: past the block lie the rows the point before left. -/
theorem dyx_later (c : Dev nD) (t : Fin cfg0.N) (X : FVec Ideal S520x1024 .f32) (f : (View.whole cc0_scratch1).ty.Contents (Elt Ideal)) (hf : View.read (Elt Ideal) (View.whole cc0_scratch1) f = X)
    (hX : ∀ (r : Fin 8) (l : Fin 1024), X (ix2 ⟨512 + r.val, by omega⟩ l)
      = dyA m c ((7 - t.val) * 512 + (512 + r.val)) l) :
    View.read (Elt Ideal) (View.whole cc0_scratch1) ((View.whole cc0_scratch1).writes (Elt Ideal) f
      [⟨Rect.unit (s := S520x1024) ![0, 0] ![512, 1024] inb_S520x1024_S512x1024_0_0, dyb m c t⟩]) = dyx m c t := by
  funext y
  obtain ⟨y0, y1, rfl⟩ : ∃ (y0 : Fin 520) (y1 : Fin 1024), y = ix2 y0 y1 := ⟨y 0, y 1, eq_ix2 y⟩
  rcases Nat.lt_or_ge y0.val 512 with h | h
  · have e : (ix2 y0 y1 : S520x1024.Idx) = (Rect.unit (s := S520x1024) ![0, 0] ![512, 1024] inb_S520x1024_S512x1024_0_0).emb (ix2 ⟨y0.val, h⟩ y1) := by
      blk_ext []
    rw [e]
    refine (View.read_writes_cons_emb _ _ _ _ _ _).trans ?_
    refine Eq.trans ?_ (dyx_emb m c t 0 512 _ _).symm
    rw [Nat.zero_add]; rfl
  · refine (View.read_writes_cons_unit_of_not_mem (s := S520x1024) (e := .f32) _ _ _ _ _ _ rfl 0 (Or.inr h)).trans ?_
    rw [View.writes_nil, hf]
    obtain ⟨r, hr⟩ : ∃ r : Fin 8, y0 = ⟨512 + r.val, by omega⟩ := ⟨⟨y0.val - 512, by omega⟩, Fin.ext (by show y0.val = 512 + (y0.val - 512); omega)⟩
    rw [hr]
    exact hX r y1

/-- What a point leaves for the next: its block's first eight rows. -/
theorem left_at (c : Dev nD) (t : Fin cfg0.N) (r : Fin 8) (l : Fin 1024) :
    (outsAt0 m c t.val t.isLt).2.2.2 (ix2 ⟨512 + r.val, by omega⟩ l)
      = dyA m c ((7 - t.val) * 512 + r.val) l := by
  have key : ∀ (P : FVec Ideal S8x1024 .f32) (L : List (View.Piece (Elt Ideal) S520x1024 .f32)), P (ix2 r l) = dyA m c ((7 - t.val) * 512 + r.val) l →
      View.canon (Val := Elt Ideal) (s := S520x1024) (e := .f32) (⟨Rect.unit ![512, 0] ![8, 1024] inb_S520x1024_S8x1024_512_0, P⟩ :: L) (ix2 ⟨512 + r.val, by omega⟩ l) = dyA m c ((7 - t.val) * 512 + r.val) l := by
    intro P L hP
    have e : (ix2 (⟨512 + r.val, by omega⟩ : Fin 520) l : S520x1024.Idx) = (Rect.unit (s := S520x1024) ![512, 0] ![8, 1024] inb_S520x1024_S8x1024_512_0).emb (ix2 r l) := by
      blk_ext []
    rw [e]
    exact (View.canon_cons_emb _ _ _ _).trans hP
  have e : (Rect.unit (s := S520x1024) ![0, 0] ![8, 1024] inb_S520x1024_S8x1024_0_0).emb (ix2 r l)
     = (Rect.unit (s := S520x1024) ![0, 0] ![512, 1024] inb_S520x1024_S512x1024_0_0).emb (ix2 (⟨r.val, by omega⟩ : Fin 512) l) := by
      blk_ext []
  by_cases h : t.val % 8 = 0
  · rw [outsAt0_A m c t h]; frame_out; simp only [View.readCov_eq_canon', ext_canon, rows_eq, dy_pay']; erw [dy_pay m c t]
    refine key _ _ ?_
    unfold k0_pay3
    rw [shapeCast_self]
    refine (dyx_first m c t h _).trans ?_
    refine (dyx_emb m c t 0 8 _ _).trans ?_
    rw [Nat.zero_add]; rfl
  · rw [outsAt0_B m c t h]; frame_out; simp only [View.readCov_eq_canon', ext_canon, rows_eq, dy_pay']; erw [dy_pay m c t]
    refine key _ _ ?_
    unfold k0_pay3
    rw [shapeCast_self]
    show View.canon _ ((Rect.unit (s := S520x1024) ![0, 0] ![8, 1024] inb_S520x1024_S8x1024_0_0).emb (ix2 r l)) = _
    rw [e]
    exact View.canon_cons_emb _ _ _ _

/-- A block of the gradient to the input. -/
theorem dx_at (c : Dev nD) (t : Fin cfg0.N) (r : Fin 512) (l : Fin 1024) :
    (outsAt0 m c t.val t.isLt).1 (ix2 r l)
      = wA m c (ix2 (0 : Fin 4) l) * dyx m c t (ix2 ⟨3 + r.val, by omega⟩ l)
        + wA m c (ix2 (1 : Fin 4) l) * dyx m c t (ix2 ⟨2 + r.val, by omega⟩ l)
        + wA m c (ix2 (2 : Fin 4) l) * dyx m c t (ix2 ⟨1 + r.val, by omega⟩ l)
        + wA m c (ix2 (3 : Fin 4) l) * dyx m c t (ix2 ⟨r.val, by omega⟩ l) := by
  have hw : ∀ k : Fin 4, iblk m c 3 t (ix2 k l) = wA m c (ix2 k l) := fun k => by blk_point [iblk, V, idx t]
  by_cases h : t.val % 8 = 0
  · rw [outsAt0_A m c t h]; frame_out; simp only [View.readCov_eq_canon', ext_canon, rows_eq, dy_pay']; erw [dy_pay m c t]
    simp only [dyx_first m c t h]
    pointwise [k0_pay13, k0_pay12]
    rw [hw, hw, hw, hw]
  · rw [outsAt0_B m c t h]; frame_out; simp only [View.readCov_eq_canon', ext_canon, rows_eq, dy_pay']; erw [dy_pay m c t]
    have h8 : t.val < 8 := lt_of_lt_of_eq t.isLt N_0
    have hX : ∀ (r : Fin 8) (l : Fin 1024), (outsAt0 m c (t.val - 1) (Nat.lt_of_le_of_lt (Nat.sub_le _ _) t.isLt)).2.2.2 (ix2 ⟨512 + r.val, by omega⟩ l)
        = dyA m c ((7 - t.val) * 512 + (512 + r.val)) l := fun r l => by
      refine (left_at m c ⟨t.val - 1, Nat.lt_of_le_of_lt (Nat.sub_le _ _) t.isLt⟩ r l).trans ?_
      show dyA m c ((7 - (t.val - 1)) * 512 + r.val) l = _
      rw [show (7 - (t.val - 1)) * 512 + r.val = (7 - t.val) * 512 + (512 + r.val) from by omega]
    erw [dyx_later m c t _ _ (read_unread_whole _ _ _) hX]
    pointwise [k0_pay13, k0_pay12]
    rw [hw, hw, hw, hw]
    have e : (ix2 (⟨r.val, by omega⟩ : Fin 520) l : S520x1024.Idx) = (Rect.unit (s := S520x1024) ![0, 0] ![512, 1024] inb_S520x1024_S512x1024_0_0).emb (ix2 r l) := by
      blk_ext []
    rw [e, dyx_emb m c t 0 512 _ _]
    erw [View.canon_cons_emb]
    rw [Nat.zero_add]; rfl

/-- The sum a point adds to the bias gradient. -/
def dbT (c : Dev nD) (t : Fin cfg0.N) : FVec Ideal S1x1024 .f32 :=
  fun j => ∑ r : Fin 512, dyb m c t (ix2 r (j 1))

/-- The sums a point adds to the tap gradients. -/
def dwT (c : Dev nD) (t : Fin cfg0.N) : FVec Ideal S4x1024 .f32 :=
  fun y => ∑ r : Fin 512, dyb m c t (ix2 r (y 1)) * rows m c t (5 + (y 0).val) (ix2 r (y 1))

theorem db_step (c : Dev nD) (t : Fin cfg0.N) (acc : FVec Ideal S1x1024 .f32) (j : S1x1024.Idx) :
    k0_pay2 (dyb m c t) acc j = acc j + dbT m c t j := by
  idx_vars j
  pointwise [k0_pay2, dbT]

/-- One tap's row. -/
theorem dw_row (c : Dev nD) (t : Fin cfg0.N) (acc : FVec Ideal S4x1024 .f32) (k : ℕ) (hk : k < 4) (inb) (x : (Rect.unit (s := S4x1024) ![k, 0] ![1, 1024] inb).shape.Idx) :
    k0_pay14 (dyb m c t) (View.ld (Val := Elt Ideal) (S := S4x1024) (e' := .f32) acc (Rect.unit (s := S4x1024) ![k, 0] ![1, 1024] inb)) (rows m c t (5 + k)) x
      = (fun y => acc y + dwT m c t y) ((Rect.unit (s := S4x1024) ![k, 0] ![1, 1024] inb).emb x) := by
  have e0 : ((Rect.unit (s := S4x1024) ![k, 0] ![1, 1024] inb).emb x 0).val = k + (x 0).val := ValueKit.rect_emb_unit_val (s := S4x1024) _ _ _ x 0
  have e1 : (Rect.unit (s := S4x1024) ![k, 0] ![1, 1024] inb).emb x 1 = x 1 := Fin.ext ((ValueKit.rect_emb_unit_val (s := S4x1024) _ _ _ x 1).trans (Nat.zero_add _))
  show _ = acc ((Rect.unit (s := S4x1024) ![k, 0] ![1, 1024] inb).emb x) + dwT m c t ((Rect.unit (s := S4x1024) ![k, 0] ![1, 1024] inb).emb x)
  have ed : dwT m c t ((Rect.unit (s := S4x1024) ![k, 0] ![1, 1024] inb).emb x)
      = ∑ r : Fin 512, dyb m c t (ix2 r (x 1)) * rows m c t (5 + k) (ix2 r (x 1)) := by
    unfold dwT
    rw [e0, e1, show (x 0).val = 0 from Nat.lt_one_iff.1 (x 0).isLt, Nat.add_zero]
  rw [ed]
  generalize hA : View.ld (Val := Elt Ideal) (S := S4x1024) (e' := .f32) acc (Rect.unit (s := S4x1024) ![k, 0] ![1, 1024] inb) = A
  have hx : acc ((Rect.unit (s := S4x1024) ![k, 0] ![1, 1024] inb).emb x) = A x := by rw [← hA]; rfl
  rw [hx]
  obtain ⟨x0, x1, rfl⟩ : ∃ (x0 : Fin 1) (x1 : Fin 1024), x = ix2 x0 x1 := ⟨x 0, x 1, eq_ix2 x⟩
  pointwise [k0_pay14]

theorem dw_step (c : Dev nD) (t : Fin cfg0.N) (acc : FVec Ideal S4x1024 .f32) (L : List (View.Piece (Elt Ideal) S4x1024 .f32)) (y : S4x1024.Idx) :
    View.canon (Val := Elt Ideal) (s := S4x1024) (e := .f32)
      ([⟨Rect.unit ![3, 0] ![1, 1024] inb_S4x1024_S1x1024_3_0, k0_pay1 (dyb m c t) (View.ld (Val := Elt Ideal) (S := S4x1024) (e' := .f32) acc (Rect.unit (s := S4x1024) ![3, 0] ![1, 1024] inb_S4x1024_S1x1024_3_0)) (rows m c t 8)⟩,
        ⟨Rect.unit ![2, 0] ![1, 1024] inb_S4x1024_S1x1024_2_0, k0_pay16 (dyb m c t) (View.ld (Val := Elt Ideal) (S := S4x1024) (e' := .f32) acc (Rect.unit (s := S4x1024) ![2, 0] ![1, 1024] inb_S4x1024_S1x1024_2_0)) (rows m c t 7)⟩,
        ⟨Rect.unit ![1, 0] ![1, 1024] inb_S4x1024_S1x1024_1_0, k0_pay15 (dyb m c t) (View.ld (Val := Elt Ideal) (S := S4x1024) (e' := .f32) acc (Rect.unit (s := S4x1024) ![1, 0] ![1, 1024] inb_S4x1024_S1x1024_1_0)) (rows m c t 6)⟩,
        ⟨Rect.unit ![0, 0] ![1, 1024] inb_S4x1024_S1x1024_0_0, k0_pay14 (dyb m c t) (View.ld (Val := Elt Ideal) (S := S4x1024) (e' := .f32) acc (Rect.unit (s := S4x1024) ![0, 0] ![1, 1024] inb_S4x1024_S1x1024_0_0)) (rows m c t 5)⟩] ++ L) y
      = acc y + dwT m c t y := by
  refine View.canon_append_of_piecesOf (e := .f32) (fun y => acc y + dwT m c t y) L _ ?_ y ?_
  · exact ⟨fun x => dw_row m c t acc 3 (by omega) _ x, fun x => dw_row m c t acc 2 (by omega) _ x,
      fun x => dw_row m c t acc 1 (by omega) _ x, fun x => dw_row m c t acc 0 (by omega) _ x, trivial⟩
  simp only [List.mem_cons, List.not_mem_nil, or_false, exists_eq_or_imp, exists_eq_left, Rect.mem_set_unit]
  have h1 : ∀ a, (y 0).val = a → ∀ a', (![a, 0] : Fin 2 → ℕ) a' ≤ (y a').val ∧ (y a').val < (![a, 0] : Fin 2 → ℕ) a' + (![1, 1024] : Fin 2 → ℕ) a' := fun a e =>
    Fin.forall_fin_two.2 ⟨⟨e.ge, by rw [e]; exact Nat.lt_succ_self a⟩, Nat.zero_le _, (y 1).isLt⟩
  have h4 : (y 0).val < 4 := (y 0).isLt
  rcases (by omega : (y 0).val = 3 ∨ (y 0).val = 2 ∨ (y 0).val = 1 ∨ (y 0).val = 0) with h | h | h | h
  · exact Or.inl (h1 3 h)
  · exact Or.inr (Or.inl (h1 2 h))
  · exact Or.inr (Or.inr (Or.inl (h1 1 h)))
  · exact Or.inr (Or.inr (Or.inr (h1 0 h)))

theorem dw_first (c : Dev nD) (t : Fin cfg0.N) (h : t.val % 8 = 0) (y : S4x1024.Idx) :
    (outsAt0 m c t.val t.isLt).2.1 y = 0 + dwT m c t y := by
  rw [outsAt0_A m c t h]; frame_out
  simp (disch := decide) only [↓ View.readCov_skip, ↓ View.readCov_fill]
  simp only [View.readCov_eq_canon', ext_canon, rows_eq, dy_pay']; erw [dy_pay m c t]
  have e := dw_step m c t (k0_pay5 (F := Ideal)) [⟨Rect.unit (s := S4x1024) ![0, 0] ![4, 1024] inb_S4x1024_S4x1024_0_0, k0_pay5 (F := Ideal)⟩] y
  rw [(by pointwise [k0_pay5] : (k0_pay5 (F := Ideal)) y = 0)] at e
  exact e

theorem dw_later (c : Dev nD) (t : Fin cfg0.N) (h : ¬ t.val % 8 = 0) (y : S4x1024.Idx) :
    (outsAt0 m c t.val t.isLt).2.1 y = (outsAt0 m c (t.val - 1) (Nat.lt_of_le_of_lt (Nat.sub_le _ _) t.isLt)).2.1 y + dwT m c t y := by
  rw [outsAt0_B m c t h]; frame_out; simp only [View.readCov_eq_canon', ext_canon, rows_eq, dy_pay']; erw [dy_pay m c t]
  exact dw_step m c t _ [] y

theorem db_first (c : Dev nD) (t : Fin cfg0.N) (h : t.val % 8 = 0) (j : S1x1024.Idx) :
    (outsAt0 m c t.val t.isLt).2.2.1 j = 0 + dbT m c t j := by
  rw [outsAt0_A m c t h]; frame_out
  simp only [View.readCov_eq_canon', ext_canon, rows_eq, dy_pay']; erw [dy_pay m c t]
  refine (db_step m c t _ j).trans ?_
  rw [(by pointwise [k0_pay6] : (k0_pay6 (F := Ideal)) j = 0)]

theorem db_later (c : Dev nD) (t : Fin cfg0.N) (h : ¬ t.val % 8 = 0) (j : S1x1024.Idx) :
    (outsAt0 m c t.val t.isLt).2.2.1 j = (outsAt0 m c (t.val - 1) (Nat.lt_of_le_of_lt (Nat.sub_le _ _) t.isLt)).2.2.1 j + dbT m c t j := by
  rw [outsAt0_B m c t h]; frame_out; simp only [View.readCov_eq_canon', ext_canon, rows_eq, dy_pay']; erw [dy_pay m c t]
  exact db_step m c t _ j

/-- The eight blocks, last first, are the rows. -/
theorem sum_blocks (f : ℕ → EReal) : ∑ t : Fin cfg0.N, ∑ r : Fin 512, f ((7 - t.val) * 512 + r.val) = ∑ n : Fin 4096, f n.val := by
  refine Eq.trans ?_ (Fin.sum_mul_add_congr (S := 8) (n := 512) (F := fun t r => f (t.val * 512 + r.val)) (f := fun n : Fin 4096 => f n.val) fun s k hl => rfl)
  refine Fintype.sum_equiv ((finCongr N_0).trans Fin.revPerm) _ _ fun t => ?_
  refine Finset.sum_congr rfl fun r _ => ?_
  rw [show (((finCongr N_0).trans Fin.revPerm) t).val = 7 - t.val from by
    show (Fin.rev (Fin.cast N_0 t)).val = _
    rw [Fin.val_rev]; show 8 - (t.val + 1) = _; omega]

/-- The gradient to the taps, summed over all rows. -/
def dwF (c : Dev nD) : FVec Ideal S4x1024 .f32 :=
  fun j => ∑ n : Fin 4096, dyA m c n.val (j 1) * xp (m ((c : Thread nD τ).loc main_arg0)) (n.val + (5 + (j 0).val)) (j 1)

/-- The gradient to the bias, summed over all rows. -/
def dbF (c : Dev nD) : FVec Ideal S1x1024 .f32 :=
  fun j => ∑ n : Fin 4096, dyA m c n.val (j 1)

/-- The gradient to the input. -/
def dxF (c : Dev nD) : FVec Ideal S4096x1024 .bf16 :=
  fun j => wA m c (ix2 (0 : Fin 4) (j 1)) * dyA m c ((j 0).val + 3) (j 1) + wA m c (ix2 (1 : Fin 4) (j 1)) * dyA m c ((j 0).val + 2) (j 1)
      + wA m c (ix2 (2 : Fin 4) (j 1)) * dyA m c ((j 0).val + 1) (j 1) + wA m c (ix2 (3 : Fin 4) (j 1)) * dyA m c ((j 0).val) (j 1)

theorem final_6 (c : Dev nD) : (dats m 0 c).arrAt 6 (cfgs 0).N = dwF m c := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) (dwT m c) (dw_first m c) (dw_later m c) (le_of_eq N_0) t0_7 rfl j, zero_add]
  obtain ⟨y0, y1, rfl⟩ : ∃ (y0 : Fin 4) (y1 : Fin 1024), j = ix2 y0 y1 := ⟨j 0, j 1, eq_ix2 j⟩
  refine Eq.trans ?_ (sum_blocks fun n => dyA m c n y1 * xp (m ((c : Thread nD τ).loc main_arg0)) (n + (5 + y0.val)) y1)
  rfl

theorem final_7 (c : Dev nD) : (dats m 0 c).arrAt 7 (cfgs 0).N = dbF m c := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0) (dbT m c) (db_first m c) (db_later m c) (le_of_eq N_0) t0_7 rfl j, zero_add]
  obtain ⟨y0, y1, rfl⟩ : ∃ (y0 : Fin 1) (y1 : Fin 1024), j = ix2 y0 y1 := ⟨j 0, j 1, eq_ix2 j⟩
  exact sum_blocks fun n => dyA m c n y1

theorem final_5 (c : Dev nD) : (dats m 0 c).arrAt 5 (cfgs 0).N = dxF m c := by
  refine (dats m 0 c).arrAt_eq_of_covers 5 _ (by decide +kernel) fun t hf y => ?_
  blk_simp; rw [after0_5]
  obtain ⟨y0, y1, rfl⟩ : ∃ (y0 : Fin 512) (y1 : Fin 1024), y = ix2 y0 y1 := ⟨y 0, y 1, eq_ix2 y⟩
  have e : ((cfg0.win 5).blk t).view.emb (ix2 y0 y1) = (ix2 (⟨(7 - t.val) * 512 + y0.val, by omega⟩ : Fin 4096) y1 : S4096x1024.Idx) := by blk_ext [idx t]
  refine (dx_at m c t y0 y1).trans (Eq.trans ?_ (congrArg (dxF m c) e.symm))
  unfold dxF dyx
  show wA m c (ix2 0 y1) * dyA m c ((7 - t.val) * 512 + (3 + y0.val)) y1 + wA m c (ix2 1 y1) * dyA m c ((7 - t.val) * 512 + (2 + y0.val)) y1
     + wA m c (ix2 2 y1) * dyA m c ((7 - t.val) * 512 + (1 + y0.val)) y1 + wA m c (ix2 3 y1) * dyA m c ((7 - t.val) * 512 + y0.val) y1
    = wA m c (ix2 0 y1) * dyA m c ((7 - t.val) * 512 + y0.val + 3) y1 + wA m c (ix2 1 y1) * dyA m c ((7 - t.val) * 512 + y0.val + 2) y1
     + wA m c (ix2 2 y1) * dyA m c ((7 - t.val) * 512 + y0.val + 1) y1 + wA m c (ix2 3 y1) * dyA m c ((7 - t.val) * 512 + y0.val) y1
  rw [Nat.add_comm 3, Nat.add_comm 2, Nat.add_comm 1]
  simp only [Nat.add_assoc]
end Cert.ConvKernelIdeal.Value
-- ==== Proof.ConvRef.lean ====
module

public import proofs.«01_k».proof.Proof.ConvGrad
public import proofs.«01_k».proof.Proof.Gen.ConvReferenceIdeal.Read

@[expose] public section

set_option maxRecDepth 16384

noncomputable section

namespace Cert.ConvReferenceIdeal.Read

open Cert.ConvReferenceIdeal Cert.ConvReferenceIdeal.Gen Idealize.ShloMosaic Idealize.ShloMosaic.TcCoe Idealize.SL.Sem Idealize.ShloMosaic.StableHlo Idealize.ShloMosaic.Pipeline
open Cert.ConvKernelIdeal.Value (xp yv dyv)

variable (X : FVec Ideal S4096x3088 .f32) (W : FVec Ideal S4x1024 .f32) (B : FVec Ideal S1024 .f32) (D : FVec Ideal S4096x1024 .f32)

/-- The input with three zero rows before it. -/
theorem v3_at (n : Fin 4099) (l : Fin 1024) : val_main_v3 (F := Ideal) X (ix3 (0 : Fin 1) n l) = xp X (n.val + 5) l := by
  pointwise [val_main_v3, val_main_v2, val_main_v1, val_main_v0, val_main_cst]
  unfold xp
  by_cases h : n.val < 3
  · rw [dif_pos h, dif_neg (by omega)]
  · rw [dif_neg h, dif_pos (by omega)]
    have e : n.val + 5 - 8 = n.val - 3 := by omega
    simp only [e]

/-- The convolution's value. -/
theorem v34_at (r : Fin 4096) (l : Fin 1024) : val_main_v34 (F := Ideal) X W B (ix3 (0 : Fin 1) r l) = yv X W B r.val l := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5]
  rw [v3_at, v3_at, v3_at, v3_at]
  unfold yv
  rw [show 1 + r.val + 5 = r.val + 6 from by omega, show 2 + r.val + 5 = r.val + 7 from by omega, show 3 + r.val + 5 = r.val + 8 from by omega,
    mul_comm (xp X (r.val + 5) l), mul_comm (xp X (r.val + 6) l), mul_comm (xp X (r.val + 7) l), mul_comm (xp X (r.val + 8) l)]
  abel

/-- A sum over two axes of size one is the one entry. -/
theorem sum_unit (x : S1x1x1024.Idx → EReal) (l : Fin 1024) :
    Ideal.hostReduceAdd reducesTo_S1x1x1024_S1024_d0_1 x 0 (ix1 l) = x (ix3 (0 : Fin 1) (0 : Fin 1) l) := by
  unfold Ideal.hostReduceAdd
  rw [zero_add, show Finset.univ.filter (fun i => reducesTo_S1x1x1024_S1024_d0_1.drop i = ix1 l) = {ix3 (0 : Fin 1) (0 : Fin 1) l} from ?_, Finset.sum_singleton]
  ext i
  rw [Finset.mem_filter, Finset.mem_singleton]
  have e : ∀ (a b : Fin 1) (k : Fin 1024), reducesTo_S1x1x1024_S1024_d0_1.drop (ix3 a b k) = ix1 k := fun a b k => by
    funext q
    match q with
    | ⟨0, _⟩ => rfl
  obtain ⟨a, b, k, rfl⟩ : ∃ (a b : Fin 1) (k : Fin 1024), i = ix3 a b k := ⟨i 0, i 1, i 2, eq_ix3 i⟩
  rw [e]
  constructor
  · rintro ⟨-, h⟩
    have : k = l := congrFun h 0
    rw [this, Subsingleton.elim a 0, Subsingleton.elim b 0]
  · intro h
    have : k = l := congrFun h 2
    exact ⟨Finset.mem_univ _, by rw [this]⟩

/-- The two ways of multiplying the activation's derivative out agree at a finite cotangent. -/
theorem silu_grad (d : ℝ) (y : EReal) :
    (d : EReal) * Ideal.logistic y + y * d * (Ideal.logistic y * (1 - Ideal.logistic y))
      = d * (Ideal.logistic y * (1 + y * (1 - Ideal.logistic y))) := by
  induction y with
  | bot =>
    rw [Ideal.logistic_bot]; simp
  | top =>
    rw [Ideal.logistic_top]
    have : (1 : EReal) - 1 = 0 := by rw [← EReal.coe_one, ← EReal.coe_sub, sub_self, EReal.coe_zero]
    rw [this]; simp
  | coe y =>
    rw [Ideal.logistic_coe, ← EReal.coe_one]
    norm_cast
    ring

theorem v37_at (hD : ∀ j, ∃ d : ℝ, D j = d) (r : Fin 4096) (l : Fin 1024) : val_main_v37 (F := Ideal) X W B D (ix3 (0 : Fin 1) r l) = dyv X W B D r.val l := by
  pointwise [val_main_v37, val_main_call1_v2, val_main_call1_v1, val_main_call1_v0, val_main_v36, val_main_v35_2, val_main_v35_1, val_main_call0_v7, val_main_call0_v6, val_main_call0_cst_1, val_main_call0_v4, val_main_call0_v3, val_main_call0_v2, val_main_call0_v1, val_main_call0_v0, val_main_call0_cst, val_main_call0_cst_0]
  unfold dyv
  rw [dif_pos r.isLt, v34_at]
  obtain ⟨d, hd⟩ := hD (ix2 r l)
  rw [hd]
  exact silu_grad d _

theorem v87_at (hD : ∀ j, ∃ d : ℝ, D j = d) (j : S1x1024.Idx) : val_main_v87 (F := Ideal) X W B D j = ∑ r : Fin 4096, dyv X W B D r.val (j 1) := by
  idx_vars j
  pointwise [val_main_v87, val_main_v40, val_main_v39, val_main_v38, val_main_cst_1, val_main_cst_2]
  rw [sum_unit]
  pointwise
  exact Finset.sum_congr rfl fun r _ => v37_at X W B D hD r j1

theorem tap_sum (hD : ∀ j, ∃ d : ℝ, D j = d) (l : Fin 1024) :
    val_main_v46 (F := Ideal) X W B D (ix1 l) = ∑ r : Fin 4096, dyv X W B D r.val l * xp X (r.val + 8) l
    ∧ val_main_v55 (F := Ideal) X W B D (ix1 l) = ∑ r : Fin 4096, dyv X W B D r.val l * xp X (r.val + 7) l
    ∧ val_main_v66 (F := Ideal) X W B D (ix1 l) = ∑ r : Fin 4096, dyv X W B D r.val l * xp X (r.val + 6) l
    ∧ val_main_v77 (F := Ideal) X W B D (ix1 l) = ∑ r : Fin 4096, dyv X W B D r.val l * xp X (r.val + 5) l := by
  refine ⟨?_, ?_, ?_, ?_⟩
  · pointwise [val_main_v46, val_main_v43, val_main_v42, val_main_v41, val_main_v25, val_main_cst_3, val_main_cst_4]
    rw [sum_unit]
    pointwise
    refine Finset.sum_congr rfl fun r _ => ?_
    rw [v3_at, v37_at X W B D hD, mul_comm]
    exact congrArg (fun n => dyv X W B D r.val l * xp X n l) (by show 3 + r.val + 5 = r.val + 8; omega)
  · pointwise [val_main_v55, val_main_v52, val_main_v51, val_main_v50, val_main_v18, val_main_cst_7, val_main_cst_8]
    rw [sum_unit]
    pointwise
    refine Finset.sum_congr rfl fun r _ => ?_
    rw [v3_at, v37_at X W B D hD, mul_comm]
    exact congrArg (fun n => dyv X W B D r.val l * xp X n l) (by show 2 + r.val + 5 = r.val + 7; omega)
  · pointwise [val_main_v66, val_main_v63, val_main_v62, val_main_v61, val_main_v11, val_main_cst_11, val_main_cst_12]
    rw [sum_unit]
    pointwise
    refine Finset.sum_congr rfl fun r _ => ?_
    rw [v3_at, v37_at X W B D hD, mul_comm]
    exact congrArg (fun n => dyv X W B D r.val l * xp X n l) (by show 1 + r.val + 5 = r.val + 6; omega)
  · pointwise [val_main_v77, val_main_v74, val_main_v73, val_main_v72, val_main_v5, val_main_cst_15, val_main_cst_16]
    rw [sum_unit]
    pointwise
    refine Finset.sum_congr rfl fun r _ => ?_
    rw [v3_at, v37_at X W B D hD, mul_comm]

theorem v80_at (hD : ∀ j, ∃ d : ℝ, D j = d) (j : S4x1024.Idx) :
    val_main_v80 (F := Ideal) X W B D j = ∑ r : Fin 4096, dyv X W B D r.val (j 1) * xp X (r.val + (5 + (j 0).val)) (j 1) := by
  idx_vars j
  pointwise [val_main_v80, val_main_v79, val_main_v78,  val_main_v69, val_main_v68, val_main_v67, val_main_v58, val_main_v57, val_main_v56, val_main_v48, val_main_v47, val_main_cst_17, val_main_cst_13, val_main_cst_9, val_main_cst_5]
  obtain ⟨h3, h2, h1, h0⟩ := tap_sum X W B D hD j1
  rw [h3, h2, h1, h0]
  fin_cases j0 <;> simp

theorem v86_at (hD : ∀ j, ∃ d : ℝ, D j = d) (j : S4096x1024.Idx) : val_main_v86 (F := Ideal) X W B D j =
    W (ix2 (0 : Fin 4) (j 1)) * dyv X W B D ((j 0).val + 3) (j 1) + W (ix2 (1 : Fin 4) (j 1)) * dyv X W B D ((j 0).val + 2) (j 1)
      + W (ix2 (2 : Fin 4) (j 1)) * dyv X W B D ((j 0).val + 1) (j 1) + W (ix2 (3 : Fin 4) (j 1)) * dyv X W B D ((j 0).val) (j 1) := by
  obtain ⟨r, l, rfl⟩ : ∃ (r : Fin 4096) (l : Fin 1024), j = ix2 r l := ⟨j 0, j 1, eq_ix2 j⟩
  have key : ∀ (n k : ℕ) (w : EReal) (hn : n = r.val + k), (if h : n < 4096 then val_main_v37 (F := Ideal) X W B D (ix3 (0 : Fin 1) ⟨n, h⟩ l) * w else 0) = w * dyv X W B D (r.val + k) l := by
    rintro n k w rfl
    by_cases h : r.val + k < 4096
    · rw [dif_pos h, v37_at X W B D hD, mul_comm]
    · rw [dif_neg h]; unfold dyv; rw [dif_neg h, mul_zero]
  pointwise [val_main_v86, val_main_v85, val_main_v84,  val_main_v82, val_main_v81, val_main_v71, val_main_v70, val_main_v60, val_main_v59, val_main_v49, val_main_v76, val_main_v75, val_main_v65, val_main_v64, val_main_v54, val_main_v53, val_main_v45, val_main_v44, val_main_cst_18, val_main_cst_14, val_main_cst_10, val_main_cst_6,
    val_main_v28, val_main_v27, val_main_v26, val_main_v21, val_main_v20, val_main_v19, val_main_v14, val_main_v13, val_main_v12, val_main_v8, val_main_v7, val_main_v6]
  simp only [show 2 ≤ 3 + r.val from by omega, show 1 ≤ 3 + r.val from by omega, true_and]
  rw [key (3 + r.val) 3 _ (by omega), key (3 + r.val - 2) 1 _ (by omega), key (3 + r.val - 1) 2 _ (by omega), v37_at X W B D hD, mul_comm (dyv X W B D r.val l)]
  abel

end Cert.ConvReferenceIdeal.Read
-- ==== Proof.Reals.lean ====
module

public import Idealize.ShloMosaic.PureOps.Ideal.Laws
public import Idealize.ShloMosaic.Lib.Pipeline.ValueKit
public import Idealize.ShloMosaic.Lib.Pointwise

@[expose] public section

noncomputable section

namespace Cert.Proof

open Idealize.ShloMosaic

/-! ## Facts on extended reals that several pairs use -/

/-- The two comparisons of a finiteness precondition say that the number is real. -/
theorem real_of_bounds {x : EReal}
    (h : IntOp.andi (BitVec.ofBool (decide (x < Ideal.ofBits FTy.f32 2139095040#32))) (BitVec.ofBool (decide (Ideal.ofBits FTy.f32 4286578688#32 < x))) = 1#1) :
    ∃ d : ℝ, x = d := by
  have top : Ideal.ofBits FTy.f32 2139095040#32 = ⊤ := by simp [Ideal.ofBits, Ideal.ieee]
  have bot : Ideal.ofBits FTy.f32 4286578688#32 = ⊥ := by simp [Ideal.ofBits, Ideal.ieee]
  rw [top, bot] at h
  induction x with
  | bot => exact absurd h (by simp [IntOp.andi])
  | top => exact absurd h (by simp [IntOp.andi])
  | coe d => exact ⟨d, rfl⟩

theorem half_bits : Ideal.ofBits FTy.f32 0x3F000000#32 = ((1 / 2 : ℝ) : EReal) := by
  simp [Ideal.ofBits, Ideal.ieee]; norm_num; rw [← EReal.coe_mul]; norm_num

theorem eighth_bits : Ideal.ofBits FTy.f32 0x3E000000#32 = ((1 / 8 : ℝ) : EReal) := by
  simp [Ideal.ofBits, Ideal.ieee]; norm_num; rw [← EReal.coe_mul]; norm_num

theorem two_bits : Ideal.ofBits FTy.f32 0x40000000#32 = ((2 : ℝ) : EReal) := by
  simp [Ideal.ofBits, Ideal.ieee]; norm_num; rw [← EReal.coe_mul]; norm_num

theorem width_bits : Ideal.ofBits FTy.f32 0x44800000#32 = ((1024 : ℝ) : EReal) := by
  simp [Ideal.ofBits, Ideal.ieee]; norm_num; rw [← EReal.coe_mul]; norm_num

theorem grad_bits : Ideal.ofBits FTy.f32 0x3A800000#32 = ((1 / 1024 : ℝ) : EReal) := by
  simp [Ideal.ofBits, Ideal.ieee]; norm_num; rw [← EReal.coe_mul]; norm_num

theorem loss_bits : Ideal.ofBits FTy.f32 0x3A000000#32 = ((1 / 2048 : ℝ) : EReal) := by
  simp [Ideal.ofBits, Ideal.ieee]; norm_num; rw [← EReal.coe_mul]; norm_num

/-- Division by a real number that is not zero is a product. -/
theorem div_real (x : EReal) {r : ℝ} (h : r ≠ 0) : Ideal.div x (r : EReal) = x * ((r⁻¹ : ℝ) : EReal) := by
  unfold Ideal.div
  rw [if_neg (by exact_mod_cast h), EReal.coe_inv]

/-- A factor that is a real number, not negative, may be taken out of a sum, whatever the sum's terms. -/
theorem sum_mul_real {K : Type} [Fintype K] (f : K → EReal) {r : ℝ} (h : 0 ≤ r) : (∑ k, f k) * (r : EReal) = ∑ k, f k * (r : EReal) := by
  classical
  have step : ∀ s : Finset K, (∑ k ∈ s, f k) * (r : EReal) = ∑ k ∈ s, f k * (r : EReal) := by
    intro s
    induction s using Finset.induction_on with
    | empty => simp
    | insert a s ha ih =>
      rw [Finset.sum_insert ha, Finset.sum_insert ha, ← ih]
      exact EReal.right_distrib_of_nonneg_of_ne_top (by exact_mod_cast h) (EReal.coe_ne_top r) _ _
  exact step Finset.univ

/-- The loss's factor taken out of a sum. -/
theorem sum_mul_scale {K : Type} [Fintype K] (f : K → EReal) :
    (∑ k, f k) * Ideal.ofBits FTy.f32 0x3A000000#32 = ∑ k, f k * Ideal.ofBits FTy.f32 0x3A000000#32 := by
  rw [loss_bits]
  exact sum_mul_real f (by norm_num)

/-- The gradient of half the mean square is the error over the row's length. -/
theorem grad_scale (e : EReal) :
    Ideal.div (Ideal.ofBits FTy.f32 0x3F000000#32) (Ideal.ofBits FTy.f32 0x44800000#32) * (Ideal.ofBits FTy.f32 0x40000000#32 * e)
      = e * Ideal.ofBits FTy.f32 0x3A800000#32 := by
  rw [half_bits, two_bits, width_bits, grad_bits, div_real _ (by norm_num), ← mul_assoc, ← EReal.coe_mul, ← EReal.coe_mul, mul_comm]
  norm_num

/-- Half the sum of the rows' mean squares, as one factor on each row's sum. -/
theorem loss_scale {K : Type} [Fintype K] (f : K → EReal) :
    Ideal.ofBits FTy.f32 0x3F000000#32 * ∑ k, Ideal.div (f k) (Ideal.ofBits FTy.f32 0x44800000#32) = ∑ k, f k * Ideal.ofBits FTy.f32 0x3A000000#32 := by
  rw [half_bits, width_bits, loss_bits, mul_comm, sum_mul_real _ (by norm_num)]
  refine Finset.sum_congr rfl fun k _ => ?_
  rw [div_real _ (by norm_num), mul_assoc, ← EReal.coe_mul]
  norm_num

end Cert.Proof
end
-- ==== Proof.ConvPair.lean ====
module

public import proofs.«01_k».proof.Defs
public import proofs.«01_k».proof.Proof.ConvRef
public import proofs.«01_k».proof.Proof.Reals
public import proofs.«01_k».proof.Proof.Gen.Pre_ct_finite
public import Idealize.ShloMosaic.Lib.Quiescent

@[expose] public section

set_option maxRecDepth 16384

noncomputable section

namespace Cert.Proof

open Idealize.ShloMosaic Idealize.SL.Sem Idealize.ShloMosaic.Pipeline

/-- The precondition's reading: every entry of the cotangent is a real number. -/
theorem ct_real (a b c) (D : FVec Ideal Cert.Pre_ct_finite.S4096x1024 .f32) (h : Cert.Pre_ct_finite.fn (F := Ideal) a b c D = fun _ => 1#1)
    (j : Cert.Pre_ct_finite.S4096x1024.Idx) : ∃ d : ℝ, D j = d := by
  have h := congrFun h j
  idx_vars j
  unfold Cert.Pre_ct_finite.fn at h
  pointwise at h
  exact real_of_bounds h

theorem conv_ref_frame : quiescent_ConvReferenceIdeal := fun m g _ =>
  (θ_run _ _ _).mono (fun r h => ⟨fun c => (h c).2.2.2, sem_eq_zero_of_no_sems rfl r.2⟩) (Cert.ConvReferenceIdeal.Value.run m g)

theorem conv_pair : algebraic_ConvKernelIdeal_ConvReferenceIdeal_pre_ct_finite := by
  pair_intro
  · run_from Cert.ConvKernelIdeal.Value.run_blocks m g
  · run_from Cert.ConvReferenceIdeal.Value.run m' g'
    · obtain ⟨h0, h1, h2, h3⟩ := hagree c
      rw [Cert.ConvReferenceIdeal.Read.val_main_v86_eq, h0, h1, h2, h3, Cert.ConvKernelIdeal.Value.final_5 m c]
      funext j
      exact Cert.ConvReferenceIdeal.Read.v86_at _ _ _ _ (ct_real _ _ _ _ (hpre c)) j
    · obtain ⟨h0, h1, h2, h3⟩ := hagree c
      rw [Cert.ConvReferenceIdeal.Read.val_main_v80_eq, h0, h1, h2, h3, Cert.ConvKernelIdeal.Value.final_6 m c]
      funext j
      exact Cert.ConvReferenceIdeal.Read.v80_at _ _ _ _ (ct_real _ _ _ _ (hpre c)) j
    · obtain ⟨h0, h1, h2, h3⟩ := hagree c
      rw [Cert.ConvReferenceIdeal.Read.val_main_v87_eq, h0, h1, h2, h3, Cert.ConvKernelIdeal.Value.final_7 m c]
      funext j
      exact Cert.ConvReferenceIdeal.Read.v87_at _ _ _ _ (ct_real _ _ _ _ (hpre c)) j

end Cert.Proof
end
-- ==== Proof.FfValue.lean ====
module

public import proofs.«01_k».proof.Proof.Gen.FfKernelIdeal.Value
public import proofs.«01_k».proof.Proof.Gen.FfReferenceIdeal.Read
public import proofs.«01_k».proof.Proof.Reals
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section
set_option maxRecDepth 16384
noncomputable section
namespace Cert.FfKernelIdeal.Value
open Cert.FfKernelIdeal Cert.FfKernelIdeal.Gen Idealize.ShloMosaic Idealize.ShloMosaic.TcCoe Idealize.SL.Sem
open Idealize.ShloMosaic.Pipeline (Dat)
variable (m : (ℓ : Loc nD τ sig) → Buf (Elt Ideal) ℓ)

/-! ## The gradient through the gated product and the down projection -/

abbrev a0 (c : Dev nD) : FVec Ideal S1x4096x1024 .f32 := m ((c : Thread nD τ).loc main_arg0)
abbrev a1 (c : Dev nD) : FVec Ideal S1024x2816 .f32 := m ((c : Thread nD τ).loc main_arg1)
abbrev a2 (c : Dev nD) : FVec Ideal S1024x2816 .f32 := m ((c : Thread nD τ).loc main_arg2)
abbrev a3 (c : Dev nD) : FVec Ideal S2816x1024 .f32 := m ((c : Thread nD τ).loc main_arg3)
abbrev a4 (c : Dev nD) : FVec Ideal S1x4096x1024 .f32 := m ((c : Thread nD τ).loc main_arg4)

/-- The gradient to the gate at the gate `g`, the other factor `u` and the cotangent `d` of their product. -/
def toGate (g u d : EReal) : EReal :=
  d * u * Ideal.logistic g + g * (d * u) * (Ideal.logistic g * (1 - Ideal.logistic g))

/-- The gradient to the other factor. -/
def toUp (g d : EReal) : EReal := g * Ideal.logistic g * d

theorem block (a : FVec Ideal S512x1024 .bf16) (b : FVec Ideal S1408x1024 .bf16) (g : FVec Ideal S512x2816 .bf16) (r : Fin 512) (l : Fin 2816) :
    k0_pay1 (F := Ideal) a b g (ix2 r l) = if h : l.val < 1408 then
        toGate (g (ix2 r ⟨l.val, by omega⟩)) (g (ix2 r ⟨1408 + l.val, by omega⟩)) (∑ k : Fin 1024, a (ix2 r k) * b (ix2 ⟨l.val, h⟩ k))
      else toUp (g (ix2 r ⟨l.val - 1408, by omega⟩)) (∑ k : Fin 1024, a (ix2 r k) * b (ix2 ⟨l.val - 1408, by omega⟩ k)) := by
  pointwise [k0_pay1]
  by_cases h : l.val < 1408
  · simp only [dif_pos h, zero_add]
    rfl
  · simp only [dif_neg h, add_zero]
    rfl

theorem idx : ∀ t : Fin cfg0.N, win0_0.index t = ![t.val % 8, 0] ∧ win0_1.index t = ![t.val / 8, 0] ∧ win0_2.index t = ![t.val % 8, t.val / 8]
    ∧ win0_3.index t = ![t.val % 8, t.val / 8] :=
  (by decide +kernel : ∀ t : Fin grid0.N, _)

theorem c_at (c : Dev nD) (t : Fin cfg0.N) (r : Fin 512) (k : Fin 1024) :
    iblk m c 0 t (ix2 r k) = a4 m c (ix3 (0 : Fin 1) (⟨t.val % 8 * 512 + r.val, by omega⟩ : Fin 4096) k) := by
  blk_simp [iblk]; entry_read; pointwise; blk_ext [idx t]

theorem w_at (c : Dev nD) (t : Fin cfg0.N) (q : Fin 1408) (k : Fin 1024) :
    iblk m c 1 t (ix2 q k) = a3 m c (ix2 (⟨t.val / 8 * 1408 + q.val, by have h := lt_of_lt_of_eq t.isLt N_0; omega⟩ : Fin 2816) k) := by
  blk_simp [iblk]; entry_read; pointwise; blk_ext [idx t]

/-- An entry of a projection of the layer's input. -/
def proj (H : FVec Ideal S1x4096x1024 .f32) (W : FVec Ideal S1024x2816 .f32) (n : Fin 4096) (q : Fin 2816) : EReal :=
  ∑ k : Fin 1024, H (ix3 (0 : Fin 1) n k) * W (ix2 k q)

/-- The two projections, packed half by half. -/
def packed (G U : Fin 4096 → Fin 2816 → EReal) (n : Fin 4096) (q : Fin 5632) : EReal :=
  if h : q.val < 1408 then G n ⟨q.val, by omega⟩
  else if h : q.val - 1408 < 1408 then U n ⟨q.val - 1408, by omega⟩
  else if h : q.val - 1408 - 1408 < 1408 then G n ⟨1408 + (q.val - 1408 - 1408), by omega⟩
  else U n ⟨1408 + (q.val - 1408 - 1408 - 1408), by omega⟩

set_option maxHeartbeats 1600000 in
theorem gu_at (c : Dev nD) (n : Fin 4096) (q : Fin 5632) :
    (V m c main_v9 : FVec Ideal S4096x5632 .bf16) (ix2 n q) = packed (proj (a0 m c) (a1 m c)) (proj (a0 m c) (a2 m c)) n q := by
  unfold_abbrev_sides; after_reads_simp; pointwise
  unfold packed
  by_cases h : q.val < 1408
  · simp only [dif_pos h]
    after_reads_simp; pointwise [proj]
  · simp only [dif_neg h]
    by_cases h' : q.val - 1408 < 1408
    · simp only [dif_pos h']
      after_reads_simp; pointwise [proj]
    · simp only [dif_neg h']
      by_cases h'' : q.val - 1408 - 1408 < 1408
      · simp only [dif_pos h'']
        after_reads_simp; pointwise [proj]
      · simp only [dif_neg h'']
        after_reads_simp; pointwise [proj]

theorem g_at (c : Dev nD) (t : Fin cfg0.N) (r : Fin 512) (l : Fin 2816) :
    iblk m c 2 t (ix2 r l) = packed (proj (a0 m c) (a1 m c)) (proj (a0 m c) (a2 m c)) (⟨t.val % 8 * 512 + r.val, by omega⟩ : Fin 4096)
      (⟨t.val / 8 * 2816 + l.val, by have h := lt_of_lt_of_eq t.isLt N_0; omega⟩ : Fin 5632) := by
  have h16 : t.val < 16 := lt_of_lt_of_eq t.isLt N_0
  have e : ((cfg0.win 2).blk t).view.emb (ix2 r l) = (ix2 (⟨t.val % 8 * 512 + r.val, by omega⟩ : Fin 4096) (⟨t.val / 8 * 2816 + l.val, by omega⟩ : Fin 5632) : S4096x5632.Idx) := by
    blk_ext [idx t]
  refine Eq.trans ?_ (gu_at m c _ _)
  blk_simp [iblk]; rw [e]

/-- An entry of the cotangent of the gated product. -/
def dAct (D : FVec Ideal S1x4096x1024 .f32) (W : FVec Ideal S2816x1024 .f32) (n : Fin 4096) (q : Fin 2816) : EReal :=
  ∑ k : Fin 1024, D (ix3 (0 : Fin 1) n k) * W (ix2 q k)

/-- The two gradients, packed half by half. -/
def ffF (H : FVec Ideal S1x4096x1024 .f32) (A B : FVec Ideal S1024x2816 .f32) (W : FVec Ideal S2816x1024 .f32) (D : FVec Ideal S1x4096x1024 .f32) :
    FVec Ideal S4096x5632 .bf16 := fun j =>
  packed (fun n q => toGate (proj H A n q) (proj H B n q) (dAct D W n q)) (fun n q => toUp (proj H A n q) (dAct D W n q)) (j 0) (j 1)

theorem packed_0 (G U : Fin 4096 → Fin 2816 → EReal) (n : Fin 4096) (t : ℕ) (ht : t < 2) (l : ℕ) (hl : l < 1408) :
    packed G U n ⟨t * 2816 + l, by omega⟩ = G n ⟨t * 1408 + l, by omega⟩ := by
  unfold packed
  obtain rfl | rfl : t = 0 ∨ t = 1 := by omega
  · rw [dif_pos (show 0 * 2816 + l < 1408 by omega)]
  · rw [dif_neg (show ¬1 * 2816 + l < 1408 by omega), dif_neg (show ¬1 * 2816 + l - 1408 < 1408 by omega), dif_pos (show 1 * 2816 + l - 1408 - 1408 < 1408 by omega)]
    exact congrArg (G n) (Fin.ext (show 1408 + (1 * 2816 + l - 1408 - 1408) = 1 * 1408 + l by omega))

theorem packed_1 (G U : Fin 4096 → Fin 2816 → EReal) (n : Fin 4096) (t : ℕ) (ht : t < 2) (l : ℕ) (hl : l < 1408) :
    packed G U n ⟨t * 2816 + (1408 + l), by omega⟩ = U n ⟨t * 1408 + l, by omega⟩ := by
  unfold packed
  obtain rfl | rfl : t = 0 ∨ t = 1 := by omega
  · rw [dif_neg (show ¬0 * 2816 + (1408 + l) < 1408 by omega), dif_pos (show 0 * 2816 + (1408 + l) - 1408 < 1408 by omega)]
    exact congrArg (U n) (Fin.ext (show 0 * 2816 + (1408 + l) - 1408 = 0 * 1408 + l by omega))
  · rw [dif_neg (show ¬1 * 2816 + (1408 + l) < 1408 by omega), dif_neg (show ¬1 * 2816 + (1408 + l) - 1408 < 1408 by omega),
      dif_neg (show ¬1 * 2816 + (1408 + l) - 1408 - 1408 < 1408 by omega)]
    exact congrArg (U n) (Fin.ext (show 1408 + (1 * 2816 + (1408 + l) - 1408 - 1408 - 1408) = 1 * 1408 + l by omega))

theorem ffF_0 (H : FVec Ideal S1x4096x1024 .f32) (A B : FVec Ideal S1024x2816 .f32) (W : FVec Ideal S2816x1024 .f32) (D : FVec Ideal S1x4096x1024 .f32)
    (n : Fin 4096) (t : ℕ) (ht : t < 2) (l : ℕ) (hl : l < 1408) (h : t * 2816 + l < 5632) :
    ffF H A B W D (ix2 n ⟨t * 2816 + l, h⟩) = toGate (proj H A n ⟨t * 1408 + l, by omega⟩) (proj H B n ⟨t * 1408 + l, by omega⟩)
      (dAct D W n ⟨t * 1408 + l, by omega⟩) :=
  packed_0 _ _ n t ht l hl

theorem ffF_1 (H : FVec Ideal S1x4096x1024 .f32) (A B : FVec Ideal S1024x2816 .f32) (W : FVec Ideal S2816x1024 .f32) (D : FVec Ideal S1x4096x1024 .f32)
    (n : Fin 4096) (t : ℕ) (ht : t < 2) (l : ℕ) (hl : l < 1408) (h : t * 2816 + (1408 + l) < 5632) :
    ffF H A B W D (ix2 n ⟨t * 2816 + (1408 + l), h⟩) = toUp (proj H A n ⟨t * 1408 + l, by omega⟩) (dAct D W n ⟨t * 1408 + l, by omega⟩) :=
  packed_1 _ _ n t ht l hl

theorem final_3 (c : Dev nD) : (dats m 0 c).arrAt 3 (cfgs 0).N = ffF (a0 m c) (a1 m c) (a2 m c) (a3 m c) (a4 m c) := by
  refine (dats m 0 c).arrAt_eq_of_covers 3 _ (by decide +kernel) fun t hf y => ?_
  blk_simp; rw [after0_3]; frame_out
  have h16 : t.val < 16 := lt_of_lt_of_eq t.isLt N_0
  obtain ⟨r, l, rfl⟩ : ∃ (y0 : Fin 512) (y1 : Fin 2816), y = ix2 y0 y1 := ⟨y 0, y 1, eq_ix2 y⟩
  have e : ((cfg0.win 3).blk t).view.emb (ix2 r l) = (ix2 (⟨t.val % 8 * 512 + r.val, by omega⟩ : Fin 4096) (⟨t.val / 8 * 2816 + l.val, by omega⟩ : Fin 5632) : S4096x5632.Idx) := by
    blk_ext [idx t]
  refine Eq.trans ?_ (congrArg (ffF (a0 m c) (a1 m c) (a2 m c) (a3 m c) (a4 m c)) e.symm)
  refine (block _ _ _ r l).trans ?_
  by_cases h : l.val < 1408
  · rw [dif_pos h, g_at, g_at]
    simp only [c_at, w_at]
    rw [packed_0 _ _ _ (t.val / 8) (by omega) l.val h, packed_1 _ _ _ (t.val / 8) (by omega) l.val h]
    exact (ffF_0 _ _ _ _ _ _ (t.val / 8) (by omega) l.val h _).symm
  · obtain ⟨l, hl⟩ := l
    obtain ⟨l', rfl⟩ : ∃ l' : ℕ, l = 1408 + l' := ⟨l - 1408, by have : ¬l < 1408 := h; omega⟩
    have k : 1408 + l' - 1408 = l' := by omega
    rw [dif_neg h, g_at]
    simp only [c_at, w_at, k]
    rw [packed_0 _ _ _ (t.val / 8) (by omega) l' (by omega)]
    exact (ffF_1 _ _ _ _ _ _ (t.val / 8) (by omega) l' (by omega) _).symm

end Cert.FfKernelIdeal.Value

namespace Cert.FfReferenceIdeal.Read
open Cert.FfReferenceIdeal Cert.FfReferenceIdeal.Gen Idealize.ShloMosaic Idealize.ShloMosaic.TcCoe Idealize.SL.Sem Idealize.ShloMosaic.StableHlo Idealize.ShloMosaic.Pipeline
open Cert.FfKernelIdeal.Value (proj dAct toGate toUp packed ffF)

variable (H : FVec Ideal S1x4096x1024 .f32) (A B : FVec Ideal S1024x2816 .f32) (W : FVec Ideal S2816x1024 .f32) (D : FVec Ideal S1x4096x1024 .f32)

theorem sig_at (n : Fin 4096) (q : Fin 2816) : val_main_v2_2 (F := Ideal) H A (ix3 (0 : Fin 1) n q) = Ideal.logistic (proj H A n q) := by
  pointwise [val_main_v2_2, val_main_call0_v4, val_main_call0_v3, val_main_call0_v2, val_main_call0_v1, val_main_call0_v0, val_main_call0_cst,
    val_main_call0_cst_0, val_main_v0, proj]
  rfl

theorem v5_at (n : Fin 4096) (q : Fin 2816) : val_main_v5 (F := Ideal) W D (ix3 (0 : Fin 1) n q) = dAct D W n q := by
  pointwise [val_main_v5, dAct]

theorem v9_at (n : Fin 4096) (q : Fin 2816) : val_main_v9 (F := Ideal) H A B W D (ix2 n q) = toGate (proj H A n q) (proj H B n q) (dAct D W n q) := by
  pointwise [val_main_v9, val_main_v8, val_main_call1_v2, val_main_call1_v1, val_main_call1_v0, val_main_v7, val_main_v2_1, val_main_call0_v7, val_main_call0_v6,
    val_main_call0_cst_1]
  rw [sig_at, v5_at]
  pointwise [val_main_v0, val_main_v1, toGate, proj]

theorem v12_at (n : Fin 4096) (q : Fin 2816) : val_main_v12 (F := Ideal) H A W D (ix2 n q) = toUp (proj H A n q) (dAct D W n q) := by
  pointwise [val_main_v12, val_main_v6, val_main_v2_0]
  rw [sig_at, v5_at]
  pointwise [val_main_v0, toUp, proj]

theorem v16_at (j : S4096x5632.Idx) : val_main_v16 (F := Ideal) H A B W D j = ffF H A B W D j := by
  idx_vars j
  pointwise [val_main_v16, val_main_v15, val_main_v14, val_main_v13, val_main_v11, val_main_v10]
  simp only [v9_at, v12_at]
  rfl

end Cert.FfReferenceIdeal.Read
-- ==== Proof.FfPair.lean ====
module

public import proofs.«01_k».proof.Defs
public import proofs.«01_k».proof.Proof.FfValue
public import Idealize.ShloMosaic.Lib.Quiescent

@[expose] public section
set_option maxRecDepth 16384
noncomputable section
namespace Cert.Proof
open Idealize.ShloMosaic Idealize.SL.Sem Idealize.ShloMosaic.Pipeline

theorem ff_ref_frame : quiescent_FfReferenceIdeal := fun m g _ =>
  (θ_run _ _ _).mono (fun r h => ⟨fun c => (h c).2, sem_eq_zero_of_no_sems rfl r.2⟩) (Cert.FfReferenceIdeal.Value.run m g)

theorem ff_pair : algebraic_FfKernelIdeal_FfReferenceIdeal := by
  pair_intro
  · run_from Cert.FfKernelIdeal.Value.run_blocks m g
  · run_from Cert.FfReferenceIdeal.Value.run m' g'
    · obtain ⟨h0, h1, h2, h3, h4⟩ := hagree c
      rw [Cert.FfReferenceIdeal.Read.val_main_v16_eq, h0, h1, h2, h3, h4, Cert.FfKernelIdeal.Value.final_3 m c]
      funext j
      exact Cert.FfReferenceIdeal.Read.v16_at _ _ _ _ _ j

end Cert.Proof
end
-- ==== Proof.Norm.lean ====
module

public import Idealize.ShloMosaic.PureOps.Ideal.Laws
public import Idealize.ShloMosaic.Lib.Pipeline.ValueKit
public import Idealize.ShloMosaic.Lib.Pointwise

@[expose] public section

noncomputable section

namespace Cert.Proof

open Idealize.ShloMosaic

/-! ## A row's root-mean-square norm and its gradient, as both sides compute them -/

/-- The mean square of a row of 1024 numbers, with the small constant added. -/
def ms (x : Fin 1024 → EReal) : EReal :=
  Ideal.div (∑ k, x k * x k) (Ideal.ofBits FTy.f32 1149239296#32) + Ideal.ofBits FTy.f32 897988541#32

/-- The factor that all entries of a row share in the gradient's second part: `p` is the sum of products of the row
with its cotangent. -/
def shared (x : Fin 1024 → EReal) (p : EReal) : EReal :=
  Ideal.div (p * (Ideal.ofBits FTy.f32 3204448256#32 * Ideal.div (Ideal.rsqrt (ms x)) (ms x))) (Ideal.ofBits FTy.f32 1149239296#32)

/-- The gradient to a row of the norm's input, at the cotangent `g` and the weights `w`. -/
def normGrad (x g w : Fin 1024 → EReal) (l : Fin 1024) : EReal :=
  g l * w l * Ideal.rsqrt (ms x) + x l * shared x (∑ k, x k * (g k * w k)) + shared x (∑ k, x k * (g k * w k)) * x l

/-- One row's part of the gradient to a weight. -/
def weightGrad (x g : Fin 1024 → EReal) (l : Fin 1024) : EReal :=
  x l * Ideal.rsqrt (ms x) * g l

/-- A row of the norm itself. -/
def normed (x w : Fin 1024 → EReal) (l : Fin 1024) : EReal :=
  x l * Ideal.rsqrt (ms x) * w l

/-- A sum that the host takes over several axes, read at an index through a listing of the indexes it sums. -/
theorem reduce_listed {s t : Shape} {axes : List (Fin s.rank)} (h : s.ReducesTo axes t) {K : Type} [Fintype K] (f : K → s.Idx)
    (hf : Function.Injective f) (j : t.Idx) (hd : ∀ i, h.drop i = j ↔ ∃ k, f k = i) (x : s.Idx → EReal) (z : EReal) :
    Ideal.hostReduceAdd h x z j = z + ∑ k, x (f k) := by
  classical
  unfold Ideal.hostReduceAdd
  rw [show Finset.univ.filter (fun i => h.drop i = j) = Finset.univ.image f from by
    ext i
    rw [Finset.mem_filter, Finset.mem_image, hd]
    exact ⟨fun ⟨_, k, e⟩ => ⟨k, Finset.mem_univ _, e⟩, fun ⟨k, _, e⟩ => ⟨Finset.mem_univ _, k, e⟩⟩,
    Finset.sum_image fun a _ b _ e => hf e]

/-- A sum over two axes of size one, around an axis that stays. -/
theorem reduce_middle {n : ℕ} (h : (⟨3, ![1, n, 1]⟩ : Shape).ReducesTo [0, 2] ⟨1, ![n]⟩) (x : (⟨3, ![1, n, 1]⟩ : Shape).Idx → EReal) (z : EReal) (r : Fin n) :
    Ideal.hostReduceAdd h x z (ix1 r) = z + x (ix3 (0 : Fin 1) r (0 : Fin 1)) := by
  have e : ∀ i, (h.drop i 0).val = (i 1).val := fun i => rfl
  rw [reduce_listed h (fun _ : Unit => ix3 (0 : Fin 1) r (0 : Fin 1)) (fun _ _ _ => rfl) (ix1 r) (fun i => ?_) x z]
  · rw [Fintype.sum_unique]
  · obtain ⟨a, b, k, rfl⟩ : ∃ (a : Fin 1) (b : Fin n) (k : Fin 1), i = ix3 a b k := ⟨i 0, i 1, i 2, eq_ix3 i⟩
    constructor
    · intro q
      have q' := congrArg (fun u => (u 0).val) q
      have : b.val = r.val := (e (ix3 a b k)).symm.trans q'
      exact ⟨(), by rw [Subsingleton.elim a 0, Subsingleton.elim k 0, Fin.ext this]⟩
    · rintro ⟨-, q⟩
      have q' : r = b := congrFun q 1
      rw [q']
      funext u
      match u with
      | ⟨0, _⟩ => rfl

/-- A sum over two leading axes of size one. -/
theorem reduce_lead {n : ℕ} (h : (⟨3, ![1, 1, n]⟩ : Shape).ReducesTo [0, 1] ⟨1, ![n]⟩) (x : (⟨3, ![1, 1, n]⟩ : Shape).Idx → EReal) (z : EReal) (r : Fin n) :
    Ideal.hostReduceAdd h x z (ix1 r) = z + x (ix3 (0 : Fin 1) (0 : Fin 1) r) := by
  have e : ∀ i, (h.drop i 0).val = (i 2).val := fun i => rfl
  rw [reduce_listed h (fun _ : Unit => ix3 (0 : Fin 1) (0 : Fin 1) r) (fun _ _ _ => rfl) (ix1 r) (fun i => ?_) x z]
  · rw [Fintype.sum_unique]
  · obtain ⟨a, b, k, rfl⟩ : ∃ (a : Fin 1) (b : Fin 1) (k : Fin n), i = ix3 a b k := ⟨i 0, i 1, i 2, eq_ix3 i⟩
    constructor
    · intro q
      have q' := congrArg (fun u => (u 0).val) q
      have : k.val = r.val := (e (ix3 a b k)).symm.trans q'
      exact ⟨(), by rw [Subsingleton.elim a 0, Subsingleton.elim b 0, Fin.ext this]⟩
    · rintro ⟨-, q⟩
      have q' : r = k := congrFun q 2
      rw [q']
      funext u
      match u with
      | ⟨0, _⟩ => rfl

/-- The row of the whole array that row `r` of block `t` is. -/
def blockRow (t : Fin 8) (r : Fin 512) : Fin 4096 := ⟨t.val * 512 + r.val, by omega⟩

/-- The sums of eight blocks of 512 rows are the sum of all rows. -/
theorem sum_blocks (f : Fin 4096 → EReal) : ∑ t : Fin 8, ∑ r : Fin 512, f (blockRow t r) = ∑ n : Fin 4096, f n :=
  Fin.sum_mul_add_congr (S := 8) (n := 512) (F := fun t r => f (blockRow t r)) (f := f) fun s k hl => rfl

end Cert.Proof
end
-- ==== Proof.PnValue.lean ====
module

public import proofs.«01_k».proof.Proof.Gen.PnKernelIdeal.Value
public import proofs.«01_k».proof.Proof.Gen.PnReferenceIdeal.Read
public import proofs.«01_k».proof.Proof.Norm
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section
set_option maxRecDepth 16384
noncomputable section
namespace Cert.PnKernelIdeal.Value
open Cert.PnKernelIdeal Cert.PnKernelIdeal.Gen Idealize.ShloMosaic Idealize.ShloMosaic.TcCoe Idealize.SL.Sem
open Idealize.ShloMosaic.Pipeline (Dat)
open Cert.Proof (ms shared normGrad weightGrad)
variable (m : (ℓ : Loc nD τ sig) → Buf (Elt Ideal) ℓ)

/-! ## The gradient of the norm before a sub-layer -/

/-- A row of an argument of shape 1×4096×1024. -/
abbrev row (X : FVec Ideal S1x4096x1024 .f32) (n : Fin 4096) : Fin 1024 → EReal := fun k => X (ix3 (0 : Fin 1) n k)

abbrev xA (c : Dev nD) : FVec Ideal S1x4096x1024 .f32 := m ((c : Thread nD τ).loc main_arg0)
abbrev dA (c : Dev nD) : FVec Ideal S1x4096x1024 .f32 := m ((c : Thread nD τ).loc main_arg1)
abbrev gA (c : Dev nD) : FVec Ideal S1x4096x1024 .f32 := m ((c : Thread nD τ).loc main_arg2)
abbrev wA (c : Dev nD) : FVec Ideal S1024 .f32 := m ((c : Thread nD τ).loc main_arg3)

/-- The row of the whole array that a block's row is. -/
def at_ (t : Fin cfg0.N) (r : Fin 512) : Fin 4096 := Cert.Proof.blockRow (finCongr N_0 t) r

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

theorem dx_block (x d g : FVec Ideal S512x1024 .f32) (w : FVec Ideal S1x1024 .f32) (r : Fin 512) (l : Fin 1024) :
    k0_pay7 x d g w (ix2 r l) = d (ix2 r l) + normGrad (fun k => x (ix2 r k)) (fun k => g (ix2 r k)) (fun k => w (ix2 0 k)) l := by
  pointwise [k0_pay7, k0_pay2, k0_pay3, k0_pay4, k0_pay5, normGrad, shared, ms]
  simp only [Finset.univ_unique, Finset.sum_singleton]

theorem dw_block (x g : FVec Ideal S512x1024 .f32) (j : S1x1024.Idx) :
    k0_pay6 (F := Ideal) x g j = ∑ r : Fin 512, weightGrad (fun k => x (ix2 r k)) (fun k => g (ix2 r k)) (j 1) := by
  idx_vars j
  pointwise [k0_pay6, k0_pay2, k0_pay3, k0_pay4, k0_pay5, weightGrad, ms]

theorem x_at (c : Dev nD) (t : Fin cfg0.N) (r : Fin 512) (l : Fin 1024) : iblk m c 0 t (ix2 r l) = xA m c (ix3 (0 : Fin 1) (at_ t r) l) := by
  blk_simp [iblk]; entry_read; pointwise; blk_ext [idx t] <;> rfl

theorem d_at (c : Dev nD) (t : Fin cfg0.N) (r : Fin 512) (l : Fin 1024) : iblk m c 1 t (ix2 r l) = dA m c (ix3 (0 : Fin 1) (at_ t r) l) := by
  blk_simp [iblk]; entry_read; pointwise; blk_ext [idx t] <;> rfl

theorem g_at (c : Dev nD) (t : Fin cfg0.N) (r : Fin 512) (l : Fin 1024) : iblk m c 2 t (ix2 r l) = gA m c (ix3 (0 : Fin 1) (at_ t r) l) := by
  blk_simp [iblk]; entry_read; pointwise; blk_ext [idx t] <;> rfl

theorem w_at (c : Dev nD) (t : Fin cfg0.N) (l : Fin 1024) : iblk m c 3 t (ix2 (0 : Fin 1) l) = wA m c (ix1 l) := by
  blk_simp [iblk]; entry_read; pointwise; blk_ext [idx t]

/-- The gradient to the norm's input, added to the one that comes past it. -/
def dxF (X D G : FVec Ideal S1x4096x1024 .f32) (W : FVec Ideal S1024 .f32) : FVec Ideal S4096x1024 .f32 :=
  fun j => D (ix3 (0 : Fin 1) (j 0) (j 1)) + normGrad (row X (j 0)) (row G (j 0)) (fun k => W (ix1 k)) (j 1)

/-- The gradient to the weights. -/
def dwF (X G : FVec Ideal S1x4096x1024 .f32) : FVec Ideal S1x1024 .f32 :=
  fun j => ∑ n : Fin 4096, weightGrad (row X n) (row G n) (j 1)

/-- What a point adds to the gradient to the weights. -/
def dwT (c : Dev nD) (t : Fin cfg0.N) : FVec Ideal S1x1024 .f32 :=
  fun j => ∑ r : Fin 512, weightGrad (row (xA m c) (at_ t r)) (row (gA m c) (at_ t r)) (j 1)

theorem dw_sum (c : Dev nD) (j : S1x1024.Idx) : ∑ t : Fin grid0.N, dwT m c t j = dwF (xA m c) (gA m c) j :=
  (Fintype.sum_equiv (finCongr N_0) _ (fun t => ∑ r, weightGrad (row (xA m c) (Cert.Proof.blockRow t r)) (row (gA m c) (Cert.Proof.blockRow t r)) (j 1))
    fun t => rfl).trans (Cert.Proof.sum_blocks fun n => weightGrad (row (xA m c) n) (row (gA m c) n) (j 1))

theorem dx_at (c : Dev nD) (t : Fin cfg0.N) (r : Fin 512) (l : Fin 1024) :
    k0_pay7 (iblk m c 0 t) (iblk m c 1 t) (iblk m c 2 t) (iblk m c 3 t) (ix2 r l) = dxF (xA m c) (dA m c) (gA m c) (wA m c) (ix2 (at_ t r) l) := by
  refine (dx_block _ _ _ _ r l).trans ?_
  simp only [x_at, d_at, g_at, w_at]
  rfl

theorem dw_at (c : Dev nD) (t : Fin cfg0.N) (j : S1x1024.Idx) : k0_pay6 (F := Ideal) (iblk m c 0 t) (iblk m c 2 t) j = dwT m c t j := by
  refine (dw_block _ _ j).trans ?_
  simp only [x_at, g_at]
  rfl

theorem final_4 (c : Dev nD) : (dats m 0 c).arrAt 4 (cfgs 0).N = dxF (xA m c) (dA m c) (gA m c) (wA m c) := by
  refine (dats m 0 c).arrAt_eq_of_covers 4 _ (by decide +kernel) fun t hf y => ?_
  blk_simp; rw [after0_4]
  obtain ⟨y0, y1, rfl⟩ : ∃ (y0 : Fin 512) (y1 : Fin 1024), y = ix2 y0 y1 := ⟨y 0, y 1, eq_ix2 y⟩
  have e : ((cfg0.win 4).blk t).view.emb (ix2 y0 y1) = (ix2 (at_ t y0) y1 : S4096x1024.Idx) := by blk_ext [idx t] <;> rfl
  refine Eq.trans ?_ (congrArg (dxF (xA m c) (dA m c) (gA m c) (wA m c)) e.symm)
  have h8 : t.val < 8 := lt_of_lt_of_eq t.isLt N_0
  by_cases h : t.val % 8 = 0
  · rw [outsAt0_A m c t h]; frame_out
    · exact dx_at m c t y0 y1
    all_goals omega
  · rw [outsAt0_B m c t h]; frame_out
    · exact dx_at m c t y0 y1
    all_goals omega

theorem final_5 (c : Dev nD) : (dats m 0 c).arrAt 5 (cfgs 0).N = dwF (xA m c) (gA m c) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0) (dwT m c)
    (fun t h j => by
      have h8 : t.val < 8 := lt_of_lt_of_eq t.isLt N_0
      rw [outsAt0_A m c t h]; frame_out
      · exact (dw_at m c t j).trans (zero_add _).symm
      all_goals omega)
    (fun t h j => by
      have h8 : t.val < 8 := lt_of_lt_of_eq t.isLt N_0
      rw [outsAt0_B m c t h]; frame_out
      · unfold k0_pay1; rw [shapeCast_self]; exact congrArg _ (dw_at m c t j)
      all_goals omega)
    (le_of_eq N_0) t0_7 rfl j, zero_add]
  exact dw_sum m c j

end Cert.PnKernelIdeal.Value

namespace Cert.PnReferenceIdeal.Read
open Cert.PnReferenceIdeal Cert.PnReferenceIdeal.Gen Idealize.ShloMosaic Idealize.ShloMosaic.TcCoe Idealize.SL.Sem Idealize.ShloMosaic.StableHlo Idealize.ShloMosaic.Pipeline
open Cert.Proof (ms shared normGrad weightGrad)
open Cert.PnKernelIdeal.Value (row dxF dwF)

variable (X D G : FVec Ideal S1x4096x1024 .f32) (W : FVec Ideal S1024 .f32)

theorem v6_at (n : Fin 4096) : val_main_v6 (F := Ideal) X (ix3 (0 : Fin 1) n (0 : Fin 1)) = ms (row X n) := by
  pointwise [val_main_v6, val_main_v5, val_main_v4, val_main_v3, val_main_v2, val_main_v1, val_main_v0, val_main_cst, val_main_cst_0, val_main_cst_1, ms]

theorem v31_at (n : Fin 4096) : val_main_v31 (F := Ideal) X G W (ix1 n) = shared (row X n) (∑ k, row X n k * (row G n k * W (ix1 k))) := by
  unfold val_main_v31
  simp only [Host.reduceAdd, Ideal.hostReduceAdd_def]
  rw [Cert.Proof.reduce_middle]
  pointwise [val_main_cst_7, val_main_v30, val_main_v29, val_main_cst_6, val_main_v28, val_main_v24, val_main_v23, val_main_cst_5, val_main_v22, val_main_v20, val_main_v19, val_main_v13, val_main_v10, val_main_v9, val_main_cst_2, val_main_v8, val_main_v7]
  rw [v6_at]
  rfl

theorem v38_at (j : S4096x1024.Idx) : val_main_v38 (F := Ideal) X D G W j = dxF X D G W j := by
  idx_vars j
  pointwise [val_main_v38, val_main_v37, val_main_v36, val_main_v35, val_main_v34, val_main_v33, val_main_v32, val_main_v27, val_main_v26, val_main_v25, val_main_v7, val_main_v20, val_main_v19, val_main_v13]
  rw [v31_at, v6_at, add_assoc, add_assoc]
  unfold dxF normGrad
  rw [add_assoc]
  rfl

theorem v39_at (j : S1x1024.Idx) : val_main_v39 (F := Ideal) X G j = dwF X G j := by
  idx_vars j
  pointwise [val_main_v39, val_main_v21, val_main_cst_4]
  rw [Cert.Proof.reduce_lead]
  pointwise [val_main_v18, val_main_v17, val_main_cst_3, val_main_v16, val_main_v12, val_main_v11, val_main_v7]
  unfold dwF weightGrad
  exact Finset.sum_congr rfl fun n _ => by rw [v6_at]; rfl

end Cert.PnReferenceIdeal.Read
-- ==== Proof.PnPair.lean ====
module

public import proofs.«01_k».proof.Defs
public import proofs.«01_k».proof.Proof.PnValue
public import Idealize.ShloMosaic.Lib.Quiescent

@[expose] public section
set_option maxRecDepth 16384
noncomputable section
namespace Cert.Proof
open Idealize.ShloMosaic Idealize.SL.Sem Idealize.ShloMosaic.Pipeline

theorem pn_ref_frame : quiescent_PnReferenceIdeal := fun m g _ =>
  (θ_run _ _ _).mono (fun r h => ⟨fun c => (h c).2.2, sem_eq_zero_of_no_sems rfl r.2⟩) (Cert.PnReferenceIdeal.Value.run m g)

theorem pn_pair : algebraic_PnKernelIdeal_PnReferenceIdeal := by
  pair_intro
  · run_from Cert.PnKernelIdeal.Value.run_blocks m g
  · run_from Cert.PnReferenceIdeal.Value.run m' g'
    · obtain ⟨h0, h1, h2, h3⟩ := hagree c
      rw [Cert.PnReferenceIdeal.Read.val_main_v38_eq, h0, h1, h2, h3, Cert.PnKernelIdeal.Value.final_4 m c]
      funext j
      exact Cert.PnReferenceIdeal.Read.v38_at _ _ _ _ j
    · obtain ⟨h0, h1, h2, h3⟩ := hagree c
      rw [Cert.PnReferenceIdeal.Read.val_main_v39_eq, Cert.PnKernelIdeal.Value.final_5 m c]
      funext j
      exact Cert.PnReferenceIdeal.Read.v39_at _ _ j

end Cert.Proof
end
-- ==== Proof.RnValue.lean ====
module

public import proofs.«01_k».proof.Proof.Gen.RnKernelIdeal.Value
public import proofs.«01_k».proof.Proof.Gen.RnReferenceIdeal.Read
public import proofs.«01_k».proof.Proof.Norm
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section
set_option maxRecDepth 16384
noncomputable section
namespace Cert.RnKernelIdeal.Value
open Cert.RnKernelIdeal Cert.RnKernelIdeal.Gen Idealize.ShloMosaic Idealize.ShloMosaic.TcCoe Idealize.SL.Sem
open Idealize.ShloMosaic.Pipeline (Dat)
open Cert.Proof (ms shared normGrad weightGrad normed blockRow sum_blocks)
variable (m : (ℓ : Loc nD τ sig) → Buf (Elt Ideal) ℓ)

/-! ## The gradients of a sub-layer's two norms: the one of its output and the next sub-layer's -/

/-- A row of an argument of shape 1×4096×1024. -/
abbrev row (X : FVec Ideal S1x4096x1024 .f32) (n : Fin 4096) : Fin 1024 → EReal := fun k => X (ix3 (0 : Fin 1) n k)

/-- A weight vector. -/
abbrev wts (W : FVec Ideal S1024 .f32) : Fin 1024 → EReal := fun k => W (ix1 k)

abbrev a0 (c : Dev nD) : FVec Ideal S1x4096x1024 .f32 := m ((c : Thread nD τ).loc main_arg0)
abbrev a1 (c : Dev nD) : FVec Ideal S1x4096x1024 .f32 := m ((c : Thread nD τ).loc main_arg1)
abbrev a2 (c : Dev nD) : FVec Ideal S1x4096x1024 .f32 := m ((c : Thread nD τ).loc main_arg2)
abbrev a3 (c : Dev nD) : FVec Ideal S1x4096x1024 .f32 := m ((c : Thread nD τ).loc main_arg3)
abbrev a4 (c : Dev nD) : FVec Ideal S1024 .f32 := m ((c : Thread nD τ).loc main_arg4)
abbrev a5 (c : Dev nD) : FVec Ideal S1024 .f32 := m ((c : Thread nD τ).loc main_arg5)

/-- A row of the residual stream after the sub-layer: its input and the normed output. -/
def outRow (X M : FVec Ideal S1x4096x1024 .f32) (P : FVec Ideal S1024 .f32) (n : Fin 4096) : Fin 1024 → EReal :=
  fun k => row X n k + normed (row M n) (wts P) k

/-- A row of the whole gradient to the residual stream. -/
def totRow (X M D G : FVec Ideal S1x4096x1024 .f32) (P W : FVec Ideal S1024 .f32) (n : Fin 4096) : Fin 1024 → EReal :=
  fun k => row D n k + normGrad (outRow X M P n) (row G n) (wts W) k

def dxF (X M D G : FVec Ideal S1x4096x1024 .f32) (P W : FVec Ideal S1024 .f32) : FVec Ideal S4096x1024 .f32 :=
  fun j => totRow X M D G P W (j 0) (j 1)

def dmF (X M D G : FVec Ideal S1x4096x1024 .f32) (P W : FVec Ideal S1024 .f32) : FVec Ideal S4096x1024 .bf16 :=
  fun j => normGrad (row M (j 0)) (totRow X M D G P W (j 0)) (wts P) (j 1)

def dwnF (X M G : FVec Ideal S1x4096x1024 .f32) (P : FVec Ideal S1024 .f32) : FVec Ideal S1x1024 .f32 :=
  fun j => ∑ n : Fin 4096, weightGrad (outRow X M P n) (row G n) (j 1)

def dwpF (X M D G : FVec Ideal S1x4096x1024 .f32) (P W : FVec Ideal S1024 .f32) : FVec Ideal S1x1024 .f32 :=
  fun j => ∑ n : Fin 4096, weightGrad (row M n) (totRow X M D G P W n) (j 1)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

/-- The row of the whole array that a block's row is. -/
def at_ (t : Fin cfg0.N) (r : Fin 512) : Fin 4096 := blockRow (finCongr N_0 t) r

/-- The gradient to the residual stream in one block. -/
def totB (x d g : FVec Ideal S512x1024 .f32) (w : FVec Ideal S1x1024 .f32) : FVec Ideal S512x1024 .f32 :=
  k0_pay14 (F := Ideal) (k0_pay3 x) (k0_pay5 d) (k0_pay12 x g w) (k0_pay13 x g w)

theorem dx_block (x d g : FVec Ideal S512x1024 .f32) (w : FVec Ideal S1x1024 .f32) (r : Fin 512) (l : Fin 1024) :
    totB x d g w (ix2 r l) = d (ix2 r l) + normGrad (fun k => x (ix2 r k)) (fun k => g (ix2 r k)) (fun k => w (ix2 0 k)) l := by
  pointwise [totB, k0_pay14, k0_pay13, k0_pay12, k0_pay11, k0_pay9, k0_pay8, k0_pay3, k0_pay5, k0_pay6, normGrad, shared, ms]
  simp only [Finset.univ_unique, Finset.sum_singleton]

theorem dm_block (v1 y v5 v34 : FVec Ideal S512x1024 .f32) (p : FVec Ideal S1x1024 .f32) (v38 : FVec Ideal S512 .f32) (r : Fin 512) (l : Fin 1024) :
    k0_pay18 (F := Ideal) v1 (k0_pay4 y) v5 (k0_pay7 p) v34 v38 (ix2 r l)
      = normGrad (fun k => y (ix2 r k)) (fun k => k0_pay14 (F := Ideal) v1 v5 v34 v38 (ix2 r k)) (fun k => p (ix2 0 k)) l := by
  pointwise [k0_pay18, k0_pay16, k0_pay15, k0_pay4, k0_pay7, normGrad, shared, ms]
  simp only [Finset.univ_unique, Finset.sum_singleton]

theorem dwn_block (x g : FVec Ideal S512x1024 .f32) (j : S1x1024.Idx) :
    k0_pay10 (F := Ideal) x g j = ∑ r : Fin 512, weightGrad (fun k => x (ix2 r k)) (fun k => g (ix2 r k)) (j 1) := by
  idx_vars j
  pointwise [k0_pay10, k0_pay9, k0_pay8, k0_pay3, k0_pay6, weightGrad, ms]

theorem dwp_block (v1 y v5 v34 : FVec Ideal S512x1024 .f32) (v38 : FVec Ideal S512 .f32) (j : S1x1024.Idx) :
    k0_pay17 (F := Ideal) v1 (k0_pay4 y) v5 v34 v38 j
      = ∑ r : Fin 512, weightGrad (fun k => y (ix2 r k)) (fun k => k0_pay14 (F := Ideal) v1 v5 v34 v38 (ix2 r k)) (j 1) := by
  idx_vars j
  pointwise [k0_pay17, k0_pay16, k0_pay15, k0_pay4, weightGrad, ms]

theorem x_at (c : Dev nD) (t : Fin cfg0.N) (r : Fin 512) (l : Fin 1024) : iblk m c 0 t (ix2 r l) = outRow (a0 m c) (a1 m c) (a4 m c) (at_ t r) l := by
  have e : ((cfg0.win 0).blk t).view.emb (ix2 r l) = (ix2 (at_ t r) l : S4096x1024.Idx) := by blk_ext [idx t] <;> rfl
  blk_simp [iblk]; rw [e]; entry_read; pointwise [outRow, normed, ms]

theorem m_at (c : Dev nD) (t : Fin cfg0.N) (r : Fin 512) (l : Fin 1024) : iblk m c 1 t (ix2 r l) = row (a1 m c) (at_ t r) l := by
  blk_simp [iblk]; entry_read; pointwise; blk_ext [idx t] <;> rfl

theorem d_at (c : Dev nD) (t : Fin cfg0.N) (r : Fin 512) (l : Fin 1024) : iblk m c 2 t (ix2 r l) = row (a2 m c) (at_ t r) l := by
  blk_simp [iblk]; entry_read; pointwise; blk_ext [idx t] <;> rfl

theorem g_at (c : Dev nD) (t : Fin cfg0.N) (r : Fin 512) (l : Fin 1024) : iblk m c 3 t (ix2 r l) = row (a3 m c) (at_ t r) l := by
  blk_simp [iblk]; entry_read; pointwise; blk_ext [idx t] <;> rfl

theorem p_at (c : Dev nD) (t : Fin cfg0.N) (l : Fin 1024) : iblk m c 4 t (ix2 (0 : Fin 1) l) = wts (a4 m c) l := by
  blk_simp [iblk]; entry_read; pointwise; blk_ext [idx t]

theorem w_at (c : Dev nD) (t : Fin cfg0.N) (l : Fin 1024) : iblk m c 5 t (ix2 (0 : Fin 1) l) = wts (a5 m c) l := by
  blk_simp [iblk]; entry_read; pointwise; blk_ext [idx t]

theorem tot_at (c : Dev nD) (t : Fin cfg0.N) (r : Fin 512) (l : Fin 1024) :
    totB (iblk m c 0 t) (iblk m c 2 t) (iblk m c 3 t) (iblk m c 5 t) (ix2 r l)
      = totRow (a0 m c) (a1 m c) (a2 m c) (a3 m c) (a4 m c) (a5 m c) (at_ t r) l := by
  refine (dx_block _ _ _ _ r l).trans ?_
  simp only [x_at, d_at, g_at, w_at]
  rfl

theorem dm_at (c : Dev nD) (t : Fin cfg0.N) (r : Fin 512) (l : Fin 1024) :
    k0_pay18 (F := Ideal) (k0_pay3 (iblk m c 0 t)) (k0_pay4 (iblk m c 1 t)) (k0_pay5 (iblk m c 2 t)) (k0_pay7 (iblk m c 4 t))
        (k0_pay12 (iblk m c 0 t) (iblk m c 3 t) (iblk m c 5 t)) (k0_pay13 (iblk m c 0 t) (iblk m c 3 t) (iblk m c 5 t)) (ix2 r l)
      = dmF (a0 m c) (a1 m c) (a2 m c) (a3 m c) (a4 m c) (a5 m c) (ix2 (at_ t r) l) := by
  refine (dm_block _ _ _ _ _ _ r l).trans ?_
  have e := fun k => tot_at m c t r k
  unfold totB at e
  simp only [m_at, p_at, e]
  rfl

/-- What a point adds to the gradient to the next norm's weights. -/
def dwnT (c : Dev nD) (t : Fin cfg0.N) : FVec Ideal S1x1024 .f32 :=
  fun j => ∑ r : Fin 512, weightGrad (outRow (a0 m c) (a1 m c) (a4 m c) (at_ t r)) (row (a3 m c) (at_ t r)) (j 1)

/-- What a point adds to the gradient to the output norm's weights. -/
def dwpT (c : Dev nD) (t : Fin cfg0.N) : FVec Ideal S1x1024 .f32 :=
  fun j => ∑ r : Fin 512, weightGrad (row (a1 m c) (at_ t r)) (totRow (a0 m c) (a1 m c) (a2 m c) (a3 m c) (a4 m c) (a5 m c) (at_ t r)) (j 1)

theorem dwn_at (c : Dev nD) (t : Fin cfg0.N) (j : S1x1024.Idx) : k0_pay10 (F := Ideal) (iblk m c 0 t) (iblk m c 3 t) j = dwnT m c t j := by
  refine (dwn_block _ _ j).trans ?_
  simp only [x_at, g_at]
  rfl

theorem dwp_at (c : Dev nD) (t : Fin cfg0.N) (j : S1x1024.Idx) :
    k0_pay17 (F := Ideal) (k0_pay3 (iblk m c 0 t)) (k0_pay4 (iblk m c 1 t)) (k0_pay5 (iblk m c 2 t))
      (k0_pay12 (iblk m c 0 t) (iblk m c 3 t) (iblk m c 5 t)) (k0_pay13 (iblk m c 0 t) (iblk m c 3 t) (iblk m c 5 t)) j = dwpT m c t j := by
  refine (dwp_block _ _ _ _ _ j).trans ?_
  have e := fun r k => tot_at m c t r k
  unfold totB at e
  simp only [m_at, e]
  rfl

theorem dwn_sum (c : Dev nD) (j : S1x1024.Idx) : ∑ t : Fin grid0.N, dwnT m c t j = dwnF (a0 m c) (a1 m c) (a3 m c) (a4 m c) j :=
  (Fintype.sum_equiv (finCongr N_0) _ (fun t => ∑ r, weightGrad (outRow (a0 m c) (a1 m c) (a4 m c) (blockRow t r)) (row (a3 m c) (blockRow t r)) (j 1))
    fun t => rfl).trans (sum_blocks fun n => weightGrad (outRow (a0 m c) (a1 m c) (a4 m c) n) (row (a3 m c) n) (j 1))

theorem dwp_sum (c : Dev nD) (j : S1x1024.Idx) :
    ∑ t : Fin grid0.N, dwpT m c t j = dwpF (a0 m c) (a1 m c) (a2 m c) (a3 m c) (a4 m c) (a5 m c) j :=
  (Fintype.sum_equiv (finCongr N_0) _ (fun t => ∑ r, weightGrad (row (a1 m c) (blockRow t r))
      (totRow (a0 m c) (a1 m c) (a2 m c) (a3 m c) (a4 m c) (a5 m c) (blockRow t r)) (j 1))
    fun t => rfl).trans (sum_blocks fun n => weightGrad (row (a1 m c) n) (totRow (a0 m c) (a1 m c) (a2 m c) (a3 m c) (a4 m c) (a5 m c) n) (j 1))

theorem final_6 (c : Dev nD) : (dats m 0 c).arrAt 6 (cfgs 0).N = dxF (a0 m c) (a1 m c) (a2 m c) (a3 m c) (a4 m c) (a5 m c) := by
  refine (dats m 0 c).arrAt_eq_of_covers 6 _ (by decide +kernel) fun t hf y => ?_
  blk_simp; rw [after0_6]
  obtain ⟨y0, y1, rfl⟩ : ∃ (y0 : Fin 512) (y1 : Fin 1024), y = ix2 y0 y1 := ⟨y 0, y 1, eq_ix2 y⟩
  have e : ((cfg0.win 6).blk t).view.emb (ix2 y0 y1) = (ix2 (at_ t y0) y1 : S4096x1024.Idx) := by blk_ext [idx t] <;> rfl
  refine Eq.trans ?_ (congrArg (dxF (a0 m c) (a1 m c) (a2 m c) (a3 m c) (a4 m c) (a5 m c)) e.symm)
  have h8 : t.val < 8 := lt_of_lt_of_eq t.isLt N_0
  by_cases h : t.val % 8 = 0
  · rw [outsAt0_A m c t h]; frame_out
    · exact tot_at m c t y0 y1
    all_goals omega
  · rw [outsAt0_B m c t h]; frame_out
    · exact tot_at m c t y0 y1
    all_goals omega

theorem final_7 (c : Dev nD) : (dats m 0 c).arrAt 7 (cfgs 0).N = dmF (a0 m c) (a1 m c) (a2 m c) (a3 m c) (a4 m c) (a5 m c) := by
  refine (dats m 0 c).arrAt_eq_of_covers 7 _ (by decide +kernel) fun t hf y => ?_
  blk_simp; rw [after0_7]
  obtain ⟨y0, y1, rfl⟩ : ∃ (y0 : Fin 512) (y1 : Fin 1024), y = ix2 y0 y1 := ⟨y 0, y 1, eq_ix2 y⟩
  have e : ((cfg0.win 7).blk t).view.emb (ix2 y0 y1) = (ix2 (at_ t y0) y1 : S4096x1024.Idx) := by blk_ext [idx t] <;> rfl
  refine Eq.trans ?_ (congrArg (dmF (a0 m c) (a1 m c) (a2 m c) (a3 m c) (a4 m c) (a5 m c)) e.symm)
  have h8 : t.val < 8 := lt_of_lt_of_eq t.isLt N_0
  by_cases h : t.val % 8 = 0
  · rw [outsAt0_A m c t h]; frame_out
    · exact dm_at m c t y0 y1
    all_goals omega
  · rw [outsAt0_B m c t h]; frame_out
    · exact dm_at m c t y0 y1
    all_goals omega

theorem final_8 (c : Dev nD) : (dats m 0 c).arrAt 8 (cfgs 0).N = dwnF (a0 m c) (a1 m c) (a3 m c) (a4 m c) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0) (dwnT m c)
    (fun t h j => by
      have h8 : t.val < 8 := lt_of_lt_of_eq t.isLt N_0
      rw [outsAt0_A m c t h]; frame_out
      · exact (dwn_at m c t j).trans (zero_add _).symm
      all_goals omega)
    (fun t h j => by
      have h8 : t.val < 8 := lt_of_lt_of_eq t.isLt N_0
      rw [outsAt0_B m c t h]; frame_out
      · unfold k0_pay1; rw [shapeCast_self]; exact congrArg _ (dwn_at m c t j)
      all_goals omega)
    (le_of_eq N_0) t0_7 rfl j, zero_add]
  exact dwn_sum m c j

theorem final_9 (c : Dev nD) : (dats m 0 c).arrAt 9 (cfgs 0).N = dwpF (a0 m c) (a1 m c) (a2 m c) (a3 m c) (a4 m c) (a5 m c) := by
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => 0) (dwpT m c)
    (fun t h j => by
      have h8 : t.val < 8 := lt_of_lt_of_eq t.isLt N_0
      rw [outsAt0_A m c t h]; frame_out
      · exact (dwp_at m c t j).trans (zero_add _).symm
      all_goals omega)
    (fun t h j => by
      have h8 : t.val < 8 := lt_of_lt_of_eq t.isLt N_0
      rw [outsAt0_B m c t h]; frame_out
      · unfold k0_pay2; rw [shapeCast_self]; exact congrArg _ (dwp_at m c t j)
      all_goals omega)
    (le_of_eq N_0) t0_7 rfl j, zero_add]
  exact dwp_sum m c j

end Cert.RnKernelIdeal.Value

namespace Cert.RnReferenceIdeal.Read
open Cert.RnReferenceIdeal Cert.RnReferenceIdeal.Gen Idealize.ShloMosaic Idealize.ShloMosaic.TcCoe Idealize.SL.Sem Idealize.ShloMosaic.StableHlo Idealize.ShloMosaic.Pipeline
open Cert.Proof (ms shared normGrad weightGrad normed)
open Cert.RnKernelIdeal.Value (row wts outRow totRow dxF dmF dwnF dwpF)

variable (X M D G : FVec Ideal S1x4096x1024 .f32) (P W : FVec Ideal S1024 .f32)

theorem v6_at (n : Fin 4096) : val_main_v6 (F := Ideal) M (ix3 (0 : Fin 1) n (0 : Fin 1)) = ms (row M n) := by
  pointwise [val_main_v6, val_main_v5, val_main_v4, val_main_v3, val_main_v2, val_main_v1, val_main_v0, val_main_cst, val_main_cst_0, val_main_cst_1, ms]

theorem v16_at (n : Fin 4096) (k : Fin 1024) : val_main_v16 (F := Ideal) X M P (ix3 (0 : Fin 1) n k) = outRow X M P n k := by
  pointwise [val_main_v16, val_main_v15, val_main_v14, val_main_v13, val_main_v12, val_main_v11, val_main_v7]
  rw [v6_at]
  rfl

theorem v23_at (n : Fin 4096) : val_main_v23 (F := Ideal) X M P (ix3 (0 : Fin 1) n (0 : Fin 1)) = ms (outRow X M P n) := by
  pointwise [val_main_v23, val_main_v22, val_main_v21, val_main_v20, val_main_v19, val_main_v18, val_main_v17, val_main_cst_3, val_main_cst_4, val_main_cst_5]
  simp only [v16_at]
  rfl

theorem v48_at (n : Fin 4096) : val_main_v48 (F := Ideal) X M G P W (ix1 n) = shared (outRow X M P n) (∑ k, outRow X M P n k * (row G n k * wts W k)) := by
  unfold val_main_v48
  simp only [Host.reduceAdd, Ideal.hostReduceAdd_def]
  rw [Cert.Proof.reduce_middle]
  pointwise [val_main_v47, val_main_v46, val_main_v45, val_main_v41, val_main_v40, val_main_v39, val_main_v37, val_main_v36, val_main_v30,
    val_main_v27, val_main_v26, val_main_v25, val_main_v24, val_main_cst_6, val_main_cst_9, val_main_cst_10, val_main_cst_11]
  simp only [v16_at, v23_at]
  rfl

theorem v54_at (n : Fin 4096) (k : Fin 1024) : val_main_v54 (F := Ideal) X M D G P W (ix3 (0 : Fin 1) n k) = totRow X M D G P W n k := by
  pointwise [val_main_v54, val_main_v53, val_main_v52, val_main_v51, val_main_v50, val_main_v49, val_main_v44, val_main_v43, val_main_v42, val_main_v37,
    val_main_v36, val_main_v30, val_main_v24]
  rw [v48_at, v16_at, v23_at, add_assoc, add_assoc]
  unfold totRow normGrad
  rw [add_assoc]

theorem v70_at (n : Fin 4096) : val_main_v70 (F := Ideal) X M D G P W (ix1 n)
    = shared (row M n) (∑ k, row M n k * (totRow X M D G P W n k * wts P k)) := by
  unfold val_main_v70
  simp only [Host.reduceAdd, Ideal.hostReduceAdd_def]
  rw [Cert.Proof.reduce_middle]
  pointwise [val_main_v69, val_main_v68, val_main_v67, val_main_v64, val_main_v63, val_main_v62, val_main_v60, val_main_v59, val_main_v13,
    val_main_v55, val_main_v10, val_main_v9, val_main_v8, val_main_v7, val_main_cst_2, val_main_cst_14, val_main_cst_15, val_main_cst_16]
  simp only [v54_at, v6_at]
  rfl

theorem v77_at (j : S4096x1024.Idx) : val_main_v77 (F := Ideal) X M D G P W j = dxF X M D G P W j := by
  idx_vars j
  pointwise [val_main_v77]
  rw [v54_at]
  rfl

theorem v79_at (j : S4096x1024.Idx) : val_main_v79 (F := Ideal) X M D G P W j = dmF X M D G P W j := by
  idx_vars j
  pointwise [val_main_v79, val_main_v78, val_main_v76, val_main_v75, val_main_v74, val_main_v73, val_main_v72, val_main_v71, val_main_v66, val_main_v65,
    val_main_v60, val_main_v59, val_main_v13, val_main_v55, val_main_v7]
  rw [v70_at, v6_at, v54_at]
  rfl

theorem v80_at (j : S1x1024.Idx) : val_main_v80 (F := Ideal) X M G P j = dwnF X M G P j := by
  idx_vars j
  pointwise [val_main_v80, val_main_v38, val_main_cst_8]
  rw [Cert.Proof.reduce_lead]
  pointwise [val_main_v35, val_main_v34, val_main_cst_7, val_main_v33, val_main_v29, val_main_v28, val_main_v24]
  unfold dwnF weightGrad
  exact Finset.sum_congr rfl fun n _ => by rw [v16_at, v23_at]; rfl

theorem v81_at (j : S1x1024.Idx) : val_main_v81 (F := Ideal) X M D G P W j = dwpF X M D G P W j := by
  idx_vars j
  pointwise [val_main_v81, val_main_v61, val_main_cst_13]
  rw [Cert.Proof.reduce_lead]
  pointwise [val_main_v58, val_main_v57, val_main_cst_12, val_main_v56, val_main_v55, val_main_v12, val_main_v11, val_main_v7]
  unfold dwpF weightGrad
  exact Finset.sum_congr rfl fun n _ => by rw [v6_at, v54_at]; rfl

end Cert.RnReferenceIdeal.Read
-- ==== Proof.RnPair.lean ====
module

public import proofs.«01_k».proof.Defs
public import proofs.«01_k».proof.Proof.RnValue
public import Idealize.ShloMosaic.Lib.Quiescent

@[expose] public section
set_option maxRecDepth 16384
noncomputable section
namespace Cert.Proof
open Idealize.ShloMosaic Idealize.SL.Sem Idealize.ShloMosaic.Pipeline

theorem rn_ref_frame : quiescent_RnReferenceIdeal := fun m g _ =>
  (θ_run _ _ _).mono (fun r h => ⟨fun c => (h c).2.2.2.2, sem_eq_zero_of_no_sems rfl r.2⟩) (Cert.RnReferenceIdeal.Value.run m g)

theorem rn_pair : algebraic_RnKernelIdeal_RnReferenceIdeal := by
  pair_intro
  · run_from Cert.RnKernelIdeal.Value.run_blocks m g
  · run_from Cert.RnReferenceIdeal.Value.run m' g'
    · obtain ⟨h0, h1, h2, h3, h4, h5⟩ := hagree c
      rw [Cert.RnReferenceIdeal.Read.val_main_v77_eq, h0, h1, h2, h3, h4, h5, Cert.RnKernelIdeal.Value.final_6 m c]
      funext j
      exact Cert.RnReferenceIdeal.Read.v77_at _ _ _ _ _ _ j
    · obtain ⟨h0, h1, h2, h3, h4, h5⟩ := hagree c
      rw [Cert.RnReferenceIdeal.Read.val_main_v79_eq, h0, h1, h2, h3, h4, h5, Cert.RnKernelIdeal.Value.final_7 m c]
      funext j
      exact Cert.RnReferenceIdeal.Read.v79_at _ _ _ _ _ _ j
    · obtain ⟨h0, h1, h2, h3, h4, h5⟩ := hagree c
      rw [Cert.RnReferenceIdeal.Read.val_main_v80_eq, Cert.RnKernelIdeal.Value.final_8 m c]
      funext j
      exact Cert.RnReferenceIdeal.Read.v80_at _ _ _ _ j
    · obtain ⟨h0, h1, h2, h3, h4, h5⟩ := hagree c
      rw [Cert.RnReferenceIdeal.Read.val_main_v81_eq, h0, h1, h2, h3, h4, h5, Cert.RnKernelIdeal.Value.final_9 m c]
      funext j
      exact Cert.RnReferenceIdeal.Read.v81_at _ _ _ _ _ _ j

end Cert.Proof
end
-- ==== Proof.RlValue.lean ====
module

public import proofs.«01_k».proof.Proof.Gen.RlKernelIdeal.Value
public import proofs.«01_k».proof.Proof.Gen.RlReferenceIdeal.Read
public import proofs.«01_k».proof.Proof.Norm
public import proofs.«01_k».proof.Proof.Reals
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section
set_option maxRecDepth 16384
noncomputable section
namespace Cert.RlKernelIdeal.Value
open Cert.RlKernelIdeal Cert.RlKernelIdeal.Gen Idealize.ShloMosaic Idealize.ShloMosaic.TcCoe Idealize.SL.Sem
open Idealize.ShloMosaic.Pipeline (Dat)
open Cert.Proof (ms shared normGrad weightGrad normed blockRow sum_blocks)
variable (m : (ℓ : Loc nD τ sig) → Buf (Elt Ideal) ℓ)

/-! ## The loss and the last sub-layer's norm -/

/-- A row of an argument of shape 1×4096×1024. -/
abbrev row (X : FVec Ideal S1x4096x1024 .f32) (n : Fin 4096) : Fin 1024 → EReal := fun k => X (ix3 (0 : Fin 1) n k)

/-- A weight vector. -/
abbrev wts (W : FVec Ideal S1024 .f32) : Fin 1024 → EReal := fun k => W (ix1 k)

abbrev a0 (c : Dev nD) : FVec Ideal S1x4096x1024 .f32 := m ((c : Thread nD τ).loc main_arg0)
abbrev a1 (c : Dev nD) : FVec Ideal S1x4096x1024 .f32 := m ((c : Thread nD τ).loc main_arg1)
abbrev a2 (c : Dev nD) : FVec Ideal S1024 .f32 := m ((c : Thread nD τ).loc main_arg2)
abbrev a3 (c : Dev nD) : FVec Ideal S1x4096x1024 .f32 := m ((c : Thread nD τ).loc main_arg3)

/-- A row of the error: the last sub-layer's result less the target. -/
def errRow (X M : FVec Ideal S1x4096x1024 .f32) (P : FVec Ideal S1024 .f32) (T : FVec Ideal S1x4096x1024 .f32) (n : Fin 4096) : Fin 1024 → EReal :=
  fun k => row X n k + normed (row M n) (wts P) k - row T n k

/-- A row of the loss's gradient. -/
def dyRow (X M : FVec Ideal S1x4096x1024 .f32) (P : FVec Ideal S1024 .f32) (T : FVec Ideal S1x4096x1024 .f32) (n : Fin 4096) : Fin 1024 → EReal :=
  fun k => errRow X M P T n k * Ideal.ofBits FTy.f32 0x3A800000#32

def dyF (X M : FVec Ideal S1x4096x1024 .f32) (P : FVec Ideal S1024 .f32) (T : FVec Ideal S1x4096x1024 .f32) : FVec Ideal S4096x1024 .f32 :=
  fun j => dyRow X M P T (j 0) (j 1)

def dmF (X M : FVec Ideal S1x4096x1024 .f32) (P : FVec Ideal S1024 .f32) (T : FVec Ideal S1x4096x1024 .f32) : FVec Ideal S4096x1024 .bf16 :=
  fun j => normGrad (row M (j 0)) (dyRow X M P T (j 0)) (wts P) (j 1)

/-- The loss in lane 0, zero in the others. -/
def lossF (X M : FVec Ideal S1x4096x1024 .f32) (P : FVec Ideal S1024 .f32) (T : FVec Ideal S1x4096x1024 .f32) : FVec Ideal S1x128 .f32 :=
  fun j => if (j 1).val = 0 then ∑ n : Fin 4096, (∑ k, errRow X M P T n k * errRow X M P T n k) * Ideal.ofBits FTy.f32 0x3A000000#32 else 0

def dwF (X M : FVec Ideal S1x4096x1024 .f32) (P : FVec Ideal S1024 .f32) (T : FVec Ideal S1x4096x1024 .f32) : FVec Ideal S1x1024 .f32 :=
  fun j => ∑ n : Fin 4096, weightGrad (row M n) (dyRow X M P T n) (j 1)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] :=
  (by decide +kernel : ∀ t : Fin grid0.N, _)

/-- The row of the whole array that a block's row is. -/
def at_ (t : Fin cfg0.N) (r : Fin 512) : Fin 4096 := blockRow (finCongr N_0 t) r

theorem err_block (x y t : FVec Ideal S512x1024 .f32) (p : FVec Ideal S1x1024 .f32) (r : Fin 512) (l : Fin 1024) :
    k0_pay10 x y t p (ix2 r l) = x (ix2 r l) + normed (fun k => y (ix2 r k)) (fun k => p (ix2 0 k)) l - t (ix2 r l) := by
  pointwise [k0_pay10, k0_pay9, k0_pay8, k0_pay7, k0_pay6, k0_pay5, normed, ms]

theorem dy_block (x y t : FVec Ideal S512x1024 .f32) (p : FVec Ideal S1x1024 .f32) (r : Fin 512) (l : Fin 1024) :
    k0_pay11 x y t p (ix2 r l) = k0_pay10 x y t p (ix2 r l) * Ideal.ofBits FTy.f32 0x3A800000#32 := by
  pointwise [k0_pay11]

theorem dm_block (x y t : FVec Ideal S512x1024 .f32) (p : FVec Ideal S1x1024 .f32) (r : Fin 512) (l : Fin 1024) :
    k0_pay2 (F := Ideal) (k0_pay5 y) (k0_pay14 x y t p) (k0_pay15 x y t p) (ix2 r l)
      = normGrad (fun k => y (ix2 r k)) (fun k => k0_pay11 (F := Ideal) x y t p (ix2 r k)) (fun k => p (ix2 0 k)) l := by
  pointwise [k0_pay2, k0_pay14, k0_pay15, k0_pay13, k0_pay8, k0_pay7, k0_pay6, k0_pay5, normGrad, shared, ms]
  simp only [Finset.univ_unique, Finset.sum_singleton]

theorem loss_block (e : FVec Ideal S512x1024 .f32) (j : S1x128.Idx) :
    k0_pay1 e j = if (j 1).val = 0 then (∑ r : Fin 512, ∑ k : Fin 1024, e (ix2 r k) * e (ix2 r k)) * Ideal.ofBits FTy.f32 0x3A000000#32 else 0 := by
  idx_vars j
  pointwise [k0_pay1]
  have c : IntOp.cmpi CmpIPredicate.eq (BitVec.ofNat 32 j1.val) 0#32 = BitVec.ofBool (decide (j1.val = 0)) :=
    (by decide +kernel : ∀ i : Fin 128, IntOp.cmpi CmpIPredicate.eq (BitVec.ofNat 32 i.val) 0#32 = BitVec.ofBool (decide (i.val = 0))) j1
  rw [c]
  by_cases h : j1.val = 0
  · simp [Scalar.select, h]
  · simp [Scalar.select, h]

theorem dw_block (x y t : FVec Ideal S512x1024 .f32) (p : FVec Ideal S1x1024 .f32) (j : S1x1024.Idx) :
    k0_pay12 (F := Ideal) x y t p j = ∑ r : Fin 512, weightGrad (fun k => y (ix2 r k)) (fun k => k0_pay11 (F := Ideal) x y t p (ix2 r k)) (j 1) := by
  idx_vars j
  pointwise [k0_pay12, k0_pay9, k0_pay8, k0_pay7, k0_pay5, weightGrad, ms]

theorem x_at (c : Dev nD) (t : Fin cfg0.N) (r : Fin 512) (l : Fin 1024) : iblk m c 0 t (ix2 r l) = row (a0 m c) (at_ t r) l := by
  blk_simp [iblk]; entry_read; pointwise; blk_ext [idx t] <;> rfl

theorem m_at (c : Dev nD) (t : Fin cfg0.N) (r : Fin 512) (l : Fin 1024) : iblk m c 1 t (ix2 r l) = row (a1 m c) (at_ t r) l := by
  blk_simp [iblk]; entry_read; pointwise; blk_ext [idx t] <;> rfl

theorem t_at (c : Dev nD) (t : Fin cfg0.N) (r : Fin 512) (l : Fin 1024) : iblk m c 2 t (ix2 r l) = row (a3 m c) (at_ t r) l := by
  blk_simp [iblk]; entry_read; pointwise; blk_ext [idx t] <;> rfl

theorem p_at (c : Dev nD) (t : Fin cfg0.N) (l : Fin 1024) : iblk m c 3 t (ix2 (0 : Fin 1) l) = wts (a2 m c) l := by
  blk_simp [iblk]; entry_read; pointwise; blk_ext [idx t]

theorem err_at (c : Dev nD) (t : Fin cfg0.N) (r : Fin 512) (l : Fin 1024) :
    k0_pay10 (iblk m c 0 t) (iblk m c 1 t) (iblk m c 2 t) (iblk m c 3 t) (ix2 r l) = errRow (a0 m c) (a1 m c) (a2 m c) (a3 m c) (at_ t r) l := by
  refine (err_block _ _ _ _ r l).trans ?_
  simp only [x_at, m_at, t_at, p_at]
  rfl

theorem dy_at (c : Dev nD) (t : Fin cfg0.N) (r : Fin 512) (l : Fin 1024) :
    k0_pay11 (iblk m c 0 t) (iblk m c 1 t) (iblk m c 2 t) (iblk m c 3 t) (ix2 r l) = dyRow (a0 m c) (a1 m c) (a2 m c) (a3 m c) (at_ t r) l := by
  refine (dy_block _ _ _ _ r l).trans ?_
  rw [err_at]
  rfl

theorem dm_at (c : Dev nD) (t : Fin cfg0.N) (r : Fin 512) (l : Fin 1024) :
    k0_pay2 (F := Ideal) (k0_pay5 (iblk m c 1 t)) (k0_pay14 (iblk m c 0 t) (iblk m c 1 t) (iblk m c 2 t) (iblk m c 3 t))
        (k0_pay15 (iblk m c 0 t) (iblk m c 1 t) (iblk m c 2 t) (iblk m c 3 t)) (ix2 r l)
      = dmF (a0 m c) (a1 m c) (a2 m c) (a3 m c) (ix2 (at_ t r) l) := by
  refine (dm_block _ _ _ _ r l).trans ?_
  simp only [m_at, p_at, dy_at]
  rfl

/-- What a point adds to the loss. -/
def lossT (c : Dev nD) (t : Fin cfg0.N) : FVec Ideal S1x128 .f32 :=
  fun j => if (j 1).val = 0 then (∑ r : Fin 512, ∑ k : Fin 1024, errRow (a0 m c) (a1 m c) (a2 m c) (a3 m c) (at_ t r) k
    * errRow (a0 m c) (a1 m c) (a2 m c) (a3 m c) (at_ t r) k) * Ideal.ofBits FTy.f32 0x3A000000#32 else 0

/-- What a point adds to the gradient to the weights. -/
def dwT (c : Dev nD) (t : Fin cfg0.N) : FVec Ideal S1x1024 .f32 :=
  fun j => ∑ r : Fin 512, weightGrad (row (a1 m c) (at_ t r)) (dyRow (a0 m c) (a1 m c) (a2 m c) (a3 m c) (at_ t r)) (j 1)

theorem loss_at (c : Dev nD) (t : Fin cfg0.N) (j : S1x128.Idx) :
    k0_pay1 (F := Ideal) (k0_pay10 (iblk m c 0 t) (iblk m c 1 t) (iblk m c 2 t) (iblk m c 3 t)) j = lossT m c t j := by
  refine (loss_block _ j).trans ?_
  simp only [err_at]
  rfl

theorem dw_at (c : Dev nD) (t : Fin cfg0.N) (j : S1x1024.Idx) :
    k0_pay12 (iblk m c 0 t) (iblk m c 1 t) (iblk m c 2 t) (iblk m c 3 t) j = dwT m c t j := by
  refine (dw_block _ _ _ _ j).trans ?_
  simp only [m_at, dy_at]
  rfl

theorem dw_sum (c : Dev nD) (j : S1x1024.Idx) : ∑ t : Fin grid0.N, dwT m c t j = dwF (a0 m c) (a1 m c) (a2 m c) (a3 m c) j :=
  (Fintype.sum_equiv (finCongr N_0) _ (fun t => ∑ r, weightGrad (row (a1 m c) (blockRow t r)) (dyRow (a0 m c) (a1 m c) (a2 m c) (a3 m c) (blockRow t r)) (j 1))
    fun t => rfl).trans (sum_blocks fun n => weightGrad (row (a1 m c) n) (dyRow (a0 m c) (a1 m c) (a2 m c) (a3 m c) n) (j 1))

theorem loss_sum (c : Dev nD) (j : S1x128.Idx) : ∑ t : Fin grid0.N, lossT m c t j = lossF (a0 m c) (a1 m c) (a2 m c) (a3 m c) j := by
  unfold lossT lossF
  by_cases h : (j 1).val = 0
  · simp only [if_pos h, ← Cert.Proof.sum_mul_scale]
    refine congrArg (· * _) ?_
    exact (Fintype.sum_equiv (finCongr N_0) _ (fun t => ∑ r, ∑ k, errRow (a0 m c) (a1 m c) (a2 m c) (a3 m c) (blockRow t r) k * errRow (a0 m c) (a1 m c) (a2 m c) (a3 m c) (blockRow t r) k)
      fun t => rfl).trans (sum_blocks fun n => ∑ k, errRow (a0 m c) (a1 m c) (a2 m c) (a3 m c) n k * errRow (a0 m c) (a1 m c) (a2 m c) (a3 m c) n k)
  · simp only [if_neg h, Finset.sum_const_zero]

theorem final_4 (c : Dev nD) : (dats m 0 c).arrAt 4 (cfgs 0).N = dyF (a0 m c) (a1 m c) (a2 m c) (a3 m c) := by
  refine (dats m 0 c).arrAt_eq_of_covers 4 _ (by decide +kernel) fun t hf y => ?_
  blk_simp; rw [after0_4]
  obtain ⟨y0, y1, rfl⟩ : ∃ (y0 : Fin 512) (y1 : Fin 1024), y = ix2 y0 y1 := ⟨y 0, y 1, eq_ix2 y⟩
  have e : ((cfg0.win 4).blk t).view.emb (ix2 y0 y1) = (ix2 (at_ t y0) y1 : S4096x1024.Idx) := by blk_ext [idx t] <;> rfl
  refine Eq.trans ?_ (congrArg (dyF (a0 m c) (a1 m c) (a2 m c) (a3 m c)) e.symm)
  have h8 : t.val < 8 := lt_of_lt_of_eq t.isLt N_0
  by_cases h : t.val % 8 = 0
  · rw [outsAt0_A m c t h]; frame_out
    · exact dy_at m c t y0 y1
    all_goals omega
  · rw [outsAt0_B m c t h]; frame_out
    · exact dy_at m c t y0 y1
    all_goals omega

theorem final_5 (c : Dev nD) : (dats m 0 c).arrAt 5 (cfgs 0).N = dmF (a0 m c) (a1 m c) (a2 m c) (a3 m c) := by
  refine (dats m 0 c).arrAt_eq_of_covers 5 _ (by decide +kernel) fun t hf y => ?_
  blk_simp; rw [after0_5]
  obtain ⟨y0, y1, rfl⟩ : ∃ (y0 : Fin 512) (y1 : Fin 1024), y = ix2 y0 y1 := ⟨y 0, y 1, eq_ix2 y⟩
  have e : ((cfg0.win 5).blk t).view.emb (ix2 y0 y1) = (ix2 (at_ t y0) y1 : S4096x1024.Idx) := by blk_ext [idx t] <;> rfl
  refine Eq.trans ?_ (congrArg (dmF (a0 m c) (a1 m c) (a2 m c) (a3 m c)) e.symm)
  have h8 : t.val < 8 := lt_of_lt_of_eq t.isLt N_0
  by_cases h : t.val % 8 = 0
  · rw [outsAt0_A m c t h]; frame_out
    · exact dm_at m c t y0 y1
    all_goals omega
  · rw [outsAt0_B m c t h]; frame_out
    · exact dm_at m c t y0 y1
    all_goals omega

theorem final_6 (c : Dev nD) : (dats m 0 c).arrAt 6 (cfgs 0).N = lossF (a0 m c) (a1 m c) (a2 m c) (a3 m c) := by
  refine (dats m 0 c).arrAt_eq_of_after_last 6 t0_7 (by decide +kernel) _ fun j => ?_
  blk_simp
  rw [after0_6, Pipeline.eq_sum_fin_of_reset_step_apply_last (fun n h => (outsAt0 m c n h).2.2.1) 8 (fun _ => 0) (lossT m c)
    (fun t h j => by
      have h8 : t.val < 8 := lt_of_lt_of_eq t.isLt N_0
      rw [outsAt0_A m c t h]; frame_out
      · exact (loss_at m c t j).trans (zero_add _).symm
      all_goals omega)
    (fun t h j => by
      have h8 : t.val < 8 := lt_of_lt_of_eq t.isLt N_0
      rw [outsAt0_B m c t h]; frame_out
      · unfold k0_pay3; rw [shapeCast_self]; exact congrArg _ (loss_at m c t j)
      all_goals omega)
    (le_of_eq N_0) t0_7 rfl j, zero_add]
  exact loss_sum m c j

theorem final_7 (c : Dev nD) : (dats m 0 c).arrAt 7 (cfgs 0).N = dwF (a0 m c) (a1 m c) (a2 m c) (a3 m c) := by
  refine (dats m 0 c).arrAt_eq_of_after_last 7 t0_7 (by decide +kernel) _ fun j => ?_
  blk_simp
  rw [after0_7, Pipeline.eq_sum_fin_of_reset_step_apply_last (fun n h => (outsAt0 m c n h).2.2.2) 8 (fun _ => 0) (dwT m c)
    (fun t h j => by
      have h8 : t.val < 8 := lt_of_lt_of_eq t.isLt N_0
      rw [outsAt0_A m c t h]; frame_out
      · exact (dw_at m c t j).trans (zero_add _).symm
      all_goals omega)
    (fun t h j => by
      have h8 : t.val < 8 := lt_of_lt_of_eq t.isLt N_0
      rw [outsAt0_B m c t h]; frame_out
      · unfold k0_pay4; rw [shapeCast_self]; exact congrArg _ (dw_at m c t j)
      all_goals omega)
    (le_of_eq N_0) t0_7 rfl j, zero_add]
  exact dw_sum m c j

end Cert.RlKernelIdeal.Value

namespace Cert.RlReferenceIdeal.Read
open Cert.RlReferenceIdeal Cert.RlReferenceIdeal.Gen Idealize.ShloMosaic Idealize.ShloMosaic.TcCoe Idealize.SL.Sem Idealize.ShloMosaic.StableHlo Idealize.ShloMosaic.Pipeline
open Cert.Proof (ms shared normGrad weightGrad normed)
open Cert.RlKernelIdeal.Value (row wts errRow dyRow dyF dmF lossF dwF)

variable (X M : FVec Ideal S1x4096x1024 .f32) (P : FVec Ideal S1024 .f32) (T : FVec Ideal S1x4096x1024 .f32)

theorem v6_at (n : Fin 4096) : val_main_v6 (F := Ideal) M (ix3 (0 : Fin 1) n (0 : Fin 1)) = ms (row M n) := by
  pointwise [val_main_v6, val_main_v5, val_main_v4, val_main_v3, val_main_v2, val_main_v1, val_main_v0, val_main_cst, val_main_cst_0, val_main_cst_1, ms]

theorem v17_at (n : Fin 4096) (k : Fin 1024) : val_main_v17 (F := Ideal) X M P T (ix3 (0 : Fin 1) n k) = errRow X M P T n k := by
  pointwise [val_main_v17, val_main_v16, val_main_v15, val_main_v14, val_main_v13, val_main_v12, val_main_v11, val_main_v7]
  rw [v6_at]
  rfl

theorem v31_at (n : Fin 4096) (k : Fin 1024) : val_main_v31 (F := Ideal) X M P T (ix3 (0 : Fin 1) n k) = dyRow X M P T n k := by
  pointwise [val_main_v31, val_main_v30, val_main_v29, val_main_v28, val_main_v27, val_main_v26, val_main_v20, val_main_v19, val_main_cst_3,
    val_main_cst_8, val_main_cst_9, val_main_cst_10]
  rw [v17_at]
  exact Cert.Proof.grad_scale _

theorem v46_at (n : Fin 4096) : val_main_v46 (F := Ideal) X M P T (ix1 n)
    = shared (row M n) (∑ k, row M n k * (dyRow X M P T n k * wts P k)) := by
  unfold val_main_v46
  simp only [Host.reduceAdd, Ideal.hostReduceAdd_def]
  rw [Cert.Proof.reduce_middle]
  pointwise [val_main_v45, val_main_v44, val_main_v43, val_main_v40, val_main_v39, val_main_v38, val_main_v36, val_main_v35, val_main_v13,
    val_main_v10, val_main_v9, val_main_v8, val_main_v7, val_main_cst_2, val_main_cst_13, val_main_cst_14, val_main_cst_15]
  simp only [v31_at, v6_at]
  rfl

theorem v53_at (j : S4096x1024.Idx) : val_main_v53 (F := Ideal) X M P T j = dyF X M P T j := by
  idx_vars j
  pointwise [val_main_v53]
  rw [v31_at]
  rfl

theorem v55_at (j : S4096x1024.Idx) : val_main_v55 (F := Ideal) X M P T j = dmF X M P T j := by
  idx_vars j
  pointwise [val_main_v55, val_main_v54, val_main_v52, val_main_v51, val_main_v50, val_main_v49, val_main_v48, val_main_v47, val_main_v42, val_main_v41,
    val_main_v36, val_main_v35, val_main_v13, val_main_v7]
  rw [v46_at, v6_at, v31_at]
  rfl

theorem v57_at (j : S1x128.Idx) : val_main_v57 (F := Ideal) X M P T j = lossF X M P T j := by
  idx_vars j
  pointwise [val_main_v57, val_main_v56, val_main_v25, val_main_v24, val_main_v23, val_main_v22, val_main_v21, val_main_v18, val_main_cst_4, val_main_cst_5,
    val_main_cst_6, val_main_cst_7]
  unfold lossF
  by_cases h : j1.val = 0
  · rw [dif_pos (by omega)]
    refine Eq.trans ?_ (if_pos h).symm
    simp only [v17_at, Finset.univ_unique, Finset.sum_singleton]
    exact Cert.Proof.loss_scale _
  · rw [dif_neg (by omega)]
    refine Eq.trans ?_ (if_neg h).symm
    pointwise [val_main_call0_v0, val_main_c]
    show ((((0#32 : BitVec 32).toInt : ℝ)) : EReal) = 0
    simp

theorem v58_at (j : S1x1024.Idx) : val_main_v58 (F := Ideal) X M P T j = dwF X M P T j := by
  idx_vars j
  pointwise [val_main_v58, val_main_v37, val_main_cst_12]
  rw [Cert.Proof.reduce_lead]
  pointwise [val_main_v34, val_main_v33, val_main_cst_11, val_main_v32, val_main_v12, val_main_v11, val_main_v7]
  unfold dwF weightGrad
  exact Finset.sum_congr rfl fun n _ => by rw [v6_at, v31_at]; rfl

end Cert.RlReferenceIdeal.Read
-- ==== Proof.RlPair.lean ====
module

public import proofs.«01_k».proof.Defs
public import proofs.«01_k».proof.Proof.RlValue
public import Idealize.ShloMosaic.Lib.Quiescent

@[expose] public section
set_option maxRecDepth 16384
noncomputable section
namespace Cert.Proof
open Idealize.ShloMosaic Idealize.SL.Sem Idealize.ShloMosaic.Pipeline

theorem rl_ref_frame : quiescent_RlReferenceIdeal := fun m g _ =>
  (θ_run _ _ _).mono (fun r h => ⟨fun c => (h c).2.2.2.2, sem_eq_zero_of_no_sems rfl r.2⟩) (Cert.RlReferenceIdeal.Value.run m g)

theorem rl_pair : algebraic_RlKernelIdeal_RlReferenceIdeal := by
  pair_intro
  · run_from Cert.RlKernelIdeal.Value.run_blocks m g
  · run_from Cert.RlReferenceIdeal.Value.run m' g'
    · obtain ⟨h0, h1, h2, h3⟩ := hagree c
      rw [Cert.RlReferenceIdeal.Read.val_main_v53_eq, Cert.RlKernelIdeal.Value.final_4 m c]
      funext j
      exact Cert.RlReferenceIdeal.Read.v53_at _ _ _ _ j
    · obtain ⟨h0, h1, h2, h3⟩ := hagree c
      rw [Cert.RlReferenceIdeal.Read.val_main_v55_eq, h0, h1, h2, h3, Cert.RlKernelIdeal.Value.final_5 m c]
      funext j
      exact Cert.RlReferenceIdeal.Read.v55_at _ _ _ _ j
    · obtain ⟨h0, h1, h2, h3⟩ := hagree c
      rw [Cert.RlReferenceIdeal.Read.val_main_v57_eq, Cert.RlKernelIdeal.Value.final_6 m c]
      funext j
      exact Cert.RlReferenceIdeal.Read.v57_at _ _ _ _ j
    · obtain ⟨h0, h1, h2, h3⟩ := hagree c
      rw [Cert.RlReferenceIdeal.Read.val_main_v58_eq, Cert.RlKernelIdeal.Value.final_7 m c]
      funext j
      exact Cert.RlReferenceIdeal.Read.v58_at _ _ _ _ j

end Cert.Proof
end
-- ==== Proof.Soft.lean ====
module

public import proofs.«01_k».proof.Proof.Reals

@[expose] public section

noncomputable section

namespace Cert.Proof

open Idealize.ShloMosaic

/-! ## Rows of a softmax with one extra score, and their gradient, over the real numbers -/

theorem coe_sum {K : Type} [Fintype K] (f : K → ℝ) : ∑ k, (f k : EReal) = ((∑ k, f k : ℝ) : EReal) := by
  classical
  have step : ∀ s : Finset K, ∑ k ∈ s, (f k : EReal) = ((∑ k ∈ s, f k : ℝ) : EReal) := by
    intro s
    induction s using Finset.induction_on with
    | empty => simp
    | insert a s ha ih => rw [Finset.sum_insert ha, Finset.sum_insert ha, ih, EReal.coe_add]
  exact step Finset.univ

theorem div_coe (x : ℝ) {y : ℝ} (h : y ≠ 0) : Ideal.div (x : EReal) (y : EReal) = ((x / y : ℝ) : EReal) := by
  rw [div_real _ h, ← EReal.coe_mul, div_eq_mul_inv]

theorem exp_coe (x : ℝ) : Ideal.exp (x : EReal) = ((Real.exp x : ℝ) : EReal) := rfl

/-- The weight of a score: nothing where the score is masked. -/
def weight (p : Prop) [Decidable p] (x : ℝ) : ℝ := if p then Real.exp x else 0

/-- A score less a real number, exponentiated: the weight up to a factor. -/
theorem exp_seen (p : Prop) [Decidable p] (x m : ℝ) :
    Ideal.exp ((if p then (x : EReal) else ⊥) - (m : EReal)) = ((weight p x * Real.exp (-m) : ℝ) : EReal) := by
  unfold weight
  split
  · rw [← EReal.coe_sub, exp_coe, sub_eq_add_neg, Real.exp_add]
  · rw [EReal.bot_sub, zero_mul]; rfl

theorem exp_shift (x m : ℝ) : Ideal.exp ((x : EReal) - (m : EReal)) = ((Real.exp x * Real.exp (-m) : ℝ) : EReal) := by
  rw [← EReal.coe_sub, exp_coe, sub_eq_add_neg, Real.exp_add]

theorem weight_nonneg (p : Prop) [Decidable p] (x : ℝ) : 0 ≤ weight p x := by
  unfold weight
  split
  · exact (Real.exp_pos x).le
  · exact le_rfl

section
variable {K : Type} [Fintype K] (w g : K → ℝ) (T M c : ℝ)

/-- The mean of `g` under the row's weights. -/
def mean : ℝ := ∑ k, w k / M * g k

theorem dden_real (hc : c ≠ 0) (hM : M ≠ 0) : (0 : ℝ) - ∑ k, g k * (1 / (M * c * (M * c))) * (w k * c) = -(mean w g M / (M * c)) := by
  unfold mean
  rw [zero_sub, Finset.sum_div]
  congr 1
  refine Finset.sum_congr rfl fun k _ => ?_
  field_simp

theorem de_real (hc : c ≠ 0) (hM : M ≠ 0) (k : K) : (g k / (M * c) + -(mean w g M / (M * c))) * (w k * c) = w k / M * (g k - mean w g M) := by
  field_simp
  ring

theorem dexk_real (hc : c ≠ 0) (hM : M ≠ 0) : -(mean w g M / (M * c)) * (T * c) = -(T / M * mean w g M) := by
  field_simp

theorem dmax_real (hM : M ≠ 0) (h : M = ∑ k, w k + T) :
    ((0 : ℝ) - -(T / M * mean w g M)) + ∑ k, ((0 : ℝ) - w k / M * (g k - mean w g M)) = 0 := by
  have e : ∑ k, ((0 : ℝ) - w k / M * (g k - mean w g M)) = -mean w g M + (∑ k, w k) / M * mean w g M := by
    unfold mean
    rw [Finset.sum_div, Finset.sum_mul, ← Finset.sum_neg_distrib, ← Finset.sum_add_distrib]
    refine Finset.sum_congr rfl fun k _ => ?_
    ring
  have f : ∑ k, w k = M - T := by rw [h]; ring
  rw [e, f]
  field_simp
  ring

end

/-- A sum over a range where only one window counts. -/
theorem sum_window (f : ℕ → ℝ) (N a w : ℕ) (h : a + w ≤ N) (z : ∀ u, u < N → (u < a ∨ a + w ≤ u) → f u = 0) :
    ∑ u ∈ Finset.range N, f u = ∑ l : Fin w, f (a + l.val) := by
  rw [Fin.sum_univ_eq_sum_range (fun l => f (a + l)) w]
  have e : ∑ l ∈ Finset.range w, f (a + l) = ∑ u ∈ Finset.Ico a (a + w), f u := by
    rw [Finset.sum_Ico_eq_sum_range, Nat.add_sub_cancel_left]
  rw [e]
  symm
  refine Finset.sum_subset (fun u hu => ?_) fun u hu hn => ?_
  · rw [Finset.mem_Ico] at hu; rw [Finset.mem_range]; omega
  · rw [Finset.mem_range] at hu
    rw [Finset.mem_Ico] at hn
    exact z u hu (by omega)

/-- A sum over rows, block by block. -/
theorem sum_tiles (f : ℕ → ℝ) (n b : ℕ) : ∑ u ∈ Finset.range (n * b), f u = ∑ i : Fin n, ∑ r : Fin b, f (b * i.val + r.val) := by
  rw [Fin.sum_univ_eq_sum_range (fun i => ∑ r : Fin b, f (b * i + r.val)) n]
  induction n with
  | zero => simp
  | succ n ih =>
    rw [Finset.sum_range_succ, ← ih, Nat.succ_mul, Finset.sum_range_add, Fin.sum_univ_eq_sum_range (fun r => f (b * n + r)) b, mul_comm n b]

/-- The largest of finitely many real numbers and masked scores, and one real number more, is real. -/
theorem max_real {K : Type} [Fintype K] (s : K → EReal) (h : ∀ k, s k ≠ ⊤) (τ : ℝ) : ∃ m : ℝ, max (Finset.univ.sup s) (τ : EReal) = (m : EReal) := by
  have t : max (Finset.univ.sup s) (τ : EReal) ≠ ⊤ := by
    have u : Finset.univ.sup s < ⊤ := by
      rw [Finset.sup_lt_iff (by exact bot_lt_top)]
      exact fun k _ => lt_top_iff_ne_top.mpr (h k)
    exact ne_of_lt (max_lt u (EReal.coe_lt_top τ))
  have b : max (Finset.univ.sup s) (τ : EReal) ≠ ⊥ := ne_of_gt (lt_of_lt_of_le (EReal.bot_lt_coe τ) (le_max_right _ _))
  exact ⟨_, (EReal.coe_toReal t b).symm⟩

end Cert.Proof
end
-- ==== Proof.Band.lean ====
module

public import proofs.«01_k».proof.Proof.Soft

@[expose] public section

noncomputable section

namespace Cert.Proof

open Idealize.ShloMosaic

/-! ## Banded attention of one head with a sink score, and its gradients, over the real numbers

Queries are numbered from 0. Keys are numbered from 128, so that a row's band never starts before 0. -/

/-- Key `u` is seen from row `t`: it lies in the row's chunk of 64 or the two before, and is a real key. -/
abbrev sees (t u : ℕ) : Prop := 64 * (t / 64) ≤ u ∧ u < 64 * (t / 64) + 192 ∧ 128 ≤ u

/-- One head: queries, keys, values, cotangent, the slope of the distance and the sink's score. -/
structure Head where
  q : ℕ → ℕ → ℝ
  k : ℕ → ℕ → ℝ
  v : ℕ → ℕ → ℝ
  g : ℕ → ℕ → ℝ
  slope : ℝ
  sink : ℝ

namespace Head
variable (H : Head)

def far (t u : ℕ) : ℝ := ((((t : ℤ) + 128 - (u : ℤ)).natAbs : ℕ) : ℝ)

def score (t u : ℕ) : ℝ := (∑ d : Fin 64, H.q t d.val * H.k u d.val) * (1 / 8) - H.slope * far t u

def wt (t u : ℕ) : ℝ := weight (sees t u) (H.score t u)

def mass (t : ℕ) : ℝ := ∑ u ∈ Finset.range 4224, H.wt t u + Real.exp H.sink

def prob (t u : ℕ) : ℝ := H.wt t u / H.mass t

def gv (t u : ℕ) : ℝ := ∑ d : Fin 64, H.g t d.val * H.v u d.val

def avg (t : ℕ) : ℝ := ∑ u ∈ Finset.range 4224, H.prob t u * H.gv t u

/-- The gradient to the score. -/
def ds (t u : ℕ) : ℝ := H.prob t u * (H.gv t u - H.avg t)

def dq (t d : ℕ) : ℝ := ∑ u ∈ Finset.range 4224, H.ds t u * (1 / 8) * H.k u d

def dk (u d : ℕ) : ℝ := ∑ t ∈ Finset.range 4096, H.ds t u * (1 / 8) * H.q t d

def dv (u d : ℕ) : ℝ := ∑ t ∈ Finset.range 4096, H.prob t u * H.g t d

/-- One row's part of the gradient to the sink's score. -/
def dsink (t : ℕ) : ℝ := -(Real.exp H.sink / H.mass t * H.avg t)

theorem wt_nonneg (t u : ℕ) : 0 ≤ H.wt t u := weight_nonneg _ _

theorem mass_pos (t : ℕ) : 0 < H.mass t :=
  add_pos_of_nonneg_of_pos (Finset.sum_nonneg fun u _ => H.wt_nonneg t u) (Real.exp_pos _)

theorem mass_ne (t : ℕ) : H.mass t ≠ 0 := (H.mass_pos t).ne'

theorem wt_unseen {t u : ℕ} (h : ¬sees t u) : H.wt t u = 0 := if_neg h

theorem prob_unseen {t u : ℕ} (h : ¬sees t u) : H.prob t u = 0 := by rw [prob, H.wt_unseen h, zero_div]

theorem ds_unseen {t u : ℕ} (h : ¬sees t u) : H.ds t u = 0 := by rw [ds, H.prob_unseen h, zero_mul]

/-- A sum over the keys is a sum over any window that holds the row's band. -/
theorem keys (f : ℕ → ℝ) (t a w : ℕ) (f0 : ∀ u, ¬sees t u → f u = 0) (ha : a ≤ 64 * (t / 64)) (hw : 64 * (t / 64) + 192 ≤ a + w) (h : a + w ≤ 4224) :
    ∑ u ∈ Finset.range 4224, f u = ∑ l : Fin w, f (a + l.val) := by
  refine sum_window f 4224 a w h fun u _ hu => f0 u fun s => ?_
  obtain ⟨s0, s1, _⟩ := s
  omega

section
variable (t a w : ℕ) (ha : a ≤ 64 * (t / 64)) (hw : 64 * (t / 64) + 192 ≤ a + w) (h : a + w ≤ 4224)
include ha hw h

theorem mass_window : H.mass t = ∑ l : Fin w, H.wt t (a + l.val) + Real.exp H.sink := by
  rw [mass, keys _ t a w (fun u s => H.wt_unseen s) ha hw h]

theorem avg_window : H.avg t = mean (fun l : Fin w => H.wt t (a + l.val)) (fun l => H.gv t (a + l.val)) (H.mass t) := by
  rw [avg, keys _ t a w (fun u s => by rw [H.prob_unseen s, zero_mul]) ha hw h]
  rfl

theorem dq_window (d : ℕ) : H.dq t d = ∑ l : Fin w, H.ds t (a + l.val) * (1 / 8) * H.k (a + l.val) d := by
  rw [dq, keys _ t a w (fun u s => by rw [H.ds_unseen s, zero_mul, zero_mul]) ha hw h]

end

/-! ### Its blocks of 256 rows -/

def dkPart (i u d : ℕ) : ℝ := ∑ r : Fin 256, H.ds (256 * i + r.val) u * (1 / 8) * H.q (256 * i + r.val) d

def dvPart (i u d : ℕ) : ℝ := ∑ r : Fin 256, H.prob (256 * i + r.val) u * H.g (256 * i + r.val) d

theorem part_zero (f : ℕ → ℕ → ℝ) (f0 : ∀ t u, ¬sees t u → f t u = 0) (i u : ℕ) (h : ¬(256 * i ≤ u ∧ u < 256 * i + 384)) :
    ∑ r : Fin 256, f (256 * i + r.val) u = 0 := by
  refine Finset.sum_eq_zero fun r _ => f0 _ _ fun s => ?_
  have hr := r.isLt
  obtain ⟨s0, s1, _⟩ := s
  omega

theorem dk_blocks (u d : ℕ) : H.dk u d = ∑ i : Fin 16, if 256 * i.val ≤ u ∧ u < 256 * i.val + 384 then H.dkPart i.val u d else 0 := by
  rw [dk, sum_tiles _ 16 256]
  refine Finset.sum_congr rfl fun i _ => ?_
  split
  · rfl
  · next h => exact part_zero (fun t u => H.ds t u * (1 / 8) * H.q t d) (fun t u s => by rw [H.ds_unseen s, zero_mul, zero_mul]) i.val u h

theorem dv_blocks (u d : ℕ) : H.dv u d = ∑ i : Fin 16, if 256 * i.val ≤ u ∧ u < 256 * i.val + 384 then H.dvPart i.val u d else 0 := by
  rw [dv, sum_tiles _ 16 256]
  refine Finset.sum_congr rfl fun i _ => ?_
  split
  · rfl
  · next h => exact part_zero (fun t u => H.prob t u * H.g t d) (fun t u s => by rw [H.prob_unseen s, zero_mul]) i.val u h

end Head

/-- Four heads in pairs on two key heads, as columns. -/
structure Attn where
  q : ℕ → ℕ → ℝ
  k : ℕ → ℕ → ℝ
  v : ℕ → ℕ → ℝ
  g : ℕ → ℕ → ℝ
  sink : ℕ → ℝ

namespace Attn
variable (A : Attn)

def head (h : ℕ) : Head where
  q t d := A.q t (64 * h + d)
  k u d := A.k u (64 * (h / 2) + d)
  v u d := A.v u (64 * (h / 2) + d)
  g t d := A.g t (64 * h + d)
  slope := (1 / 4) ^ (h + 1)
  sink := A.sink h

def dq (t c : ℕ) : ℝ := (A.head (c / 64)).dq t (c % 64)

def dk (u c : ℕ) : ℝ := (A.head (2 * (c / 64))).dk u (c % 64) + (A.head (2 * (c / 64) + 1)).dk u (c % 64)

def dv (u c : ℕ) : ℝ := (A.head (2 * (c / 64))).dv u (c % 64) + (A.head (2 * (c / 64) + 1)).dv u (c % 64)

def dsink (h : ℕ) : ℝ := ∑ t ∈ Finset.range 4096, (A.head h).dsink t

def dkPart (i u c : ℕ) : ℝ := (A.head (2 * (c / 64))).dkPart i u (c % 64) + (A.head (2 * (c / 64) + 1)).dkPart i u (c % 64)

def dvPart (i u c : ℕ) : ℝ := (A.head (2 * (c / 64))).dvPart i u (c % 64) + (A.head (2 * (c / 64) + 1)).dvPart i u (c % 64)

def dsinkPart (i h : ℕ) : ℝ := ∑ r : Fin 256, (A.head h).dsink (256 * i + r.val)

theorem dk_blocks (u c : ℕ) : A.dk u c = ∑ i : Fin 16, if 256 * i.val ≤ u ∧ u < 256 * i.val + 384 then A.dkPart i.val u c else 0 := by
  rw [dk, Head.dk_blocks, Head.dk_blocks, ← Finset.sum_add_distrib]
  refine Finset.sum_congr rfl fun i _ => ?_
  split
  · rfl
  · rw [add_zero]

theorem dv_blocks (u c : ℕ) : A.dv u c = ∑ i : Fin 16, if 256 * i.val ≤ u ∧ u < 256 * i.val + 384 then A.dvPart i.val u c else 0 := by
  rw [dv, Head.dv_blocks, Head.dv_blocks, ← Finset.sum_add_distrib]
  refine Finset.sum_congr rfl fun i _ => ?_
  split
  · rfl
  · rw [add_zero]

theorem dsink_blocks (h : ℕ) : A.dsink h = ∑ i : Fin 16, A.dsinkPart i.val h := sum_tiles _ 16 256

end Attn

end Cert.Proof
end
-- ==== Proof.SwaRow.lean ====
module

public import proofs.«01_k».proof.Proof.Gen.SwaKernelIdeal.Skeleton
public import proofs.«01_k».proof.Proof.Band
public import Idealize.ShloMosaic.Lib.Pipeline.ValueKit
public import Idealize.ShloMosaic.Lib.Pointwise

@[expose] public section
set_option maxRecDepth 16384
noncomputable section
namespace Cert.SwaKernelIdeal.Value
open Cert.SwaKernelIdeal Cert.SwaKernelIdeal.Gen Idealize.ShloMosaic Cert.Proof

/-! ## One head of the banded attention's gradient, as the kernel's vectors -/

local notation "Rows" => FVec Ideal S256x384 FTy.f32
local notation "Col" => FVec Ideal S256x1 FTy.f32

def spread (v : Col) : Rows := broadcastTo S256x384 v broadcasts_S256x1_S256x384
def rowSum (v : Rows) : Col := shapeCast S256x1 (multiReduction .add [1] S256 v 0x00000000#32 reduces_S256x384_S256 (.inl rfl) rfl) shapeCasts_S256_S256x1
def unitSum (v : Col) : Col := shapeCast S256x1 (multiReduction .add [1] S256 v 0x00000000#32 reduces_S256x1_S256 (.inl rfl) rfl) shapeCasts_S256_S256x1
def colSum (v : Col) : FVec Ideal S1x1 .f32 := shapeCast S1x1 (multiReduction .add [0] S1 v 0x00000000#32 reduces_S256x1_S1 (.inl rfl) rfl) shapeCasts_S1_S1x1
def zeros : Rows := broadcast S256x384 (Scalar.ofBits (F := Ideal) .f32 0x00000000#32)
def zerosCol : Col := broadcast S256x1 (Scalar.ofBits (F := Ideal) .f32 0x00000000#32)

/-- The scaled products of queries and keys less the distance's part, masked. -/
def scores (ok : IVec S256x384 1) (far : Rows) (q : FVec Ideal S256x64 .bf16) (k : FVec Ideal S384x64 .bf16) (sl : BitVec 32) : Rows :=
  select ok (subf (mulf (matmul dot_S256x64_S384x64_S256x384_1_1_0_0_n_n none q k (constant S256x384 .f32 0x00000000#32))
      (broadcast S256x384 (Scalar.ofBits (F := Ideal) .f32 0x3E000000#32)))
    (mulf (broadcast S256x384 (Scalar.ofBits (F := Ideal) .f32 sl)) far))
    (broadcast S256x384 (Named.named κ "mask" 0xF149F2CA#32 : Ideal .f32))

def rowMax (s : Rows) : Col :=
  shapeCast S256x1 (multiReduction .maximumf [1] S256 s 0xFF800000#32 reduces_S256x384_S256 (.inl rfl) rfl) shapeCasts_S256_S256x1
def atMax (s : Rows) : Rows := sitofp .f32 (extui 32 (cmpf .oeq s (spread (rowMax s))) natLt_1_32)
def atMaxCount (s : Rows) : FVec Ideal S256 .f32 := multiReduction .add [1] S256 (atMax s) 0x00000000#32 reduces_S256x384_S256 (.inl rfl) rfl
def down (e : FVec Ideal S1x1 .f32) : Col := broadcastTo S256x1 e broadcasts_S1x1_S256x1
def top (s : Rows) (e : FVec Ideal S1x1 .f32) : Col := maximumf (rowMax s) (down e)
/-- How much of the maximum's gradient goes to the first of two. -/
def portion (a b : Col) : Col :=
  select (cmpf .ogt a b) (broadcast S256x1 (Scalar.ofBits (F := Ideal) .f32 0x3F800000#32))
    (select (cmpf .oeq a b) (broadcast S256x1 (Scalar.ofBits (F := Ideal) .f32 0x3F000000#32)) zerosCol)
def expo (s : Rows) (t : Col) : Rows := exp (subf s (spread t))
def expoSink (e : FVec Ideal S1x1 .f32) (t : Col) : Col := exp (subf (down e) t)
def den (x : Rows) (y : Col) : Col := addf (rowSum x) y
def recip (n : Col) : Col := divf (broadcast S256x1 (Scalar.ofBits (F := Ideal) .f32 0x3F800000#32)) (mulf n n)
def probs (x : Rows) (n : Col) : FVec Ideal S256x384 .bf16 := truncf .bf16 (divf x (spread n)) bitsLt_bf16_f32

/-- The cotangent against the values. -/
def dprobs (d : FVec Ideal S256x64 .f32) (v : FVec Ideal S384x64 .bf16) : Rows :=
  extf .f32 (truncf .bf16 (matmul dot_S256x64_S384x64_S256x384_1_1_0_0_n_n none d v (constant S256x384 .f32 0x00000000#32)) bitsLt_bf16_f32) bitsLt_bf16_f32
def dden (g x : Rows) (r : Col) : Col := subf zerosCol (rowSum (mulf (mulf g (spread r)) x))
def dexpo (g x : Rows) (n z : Col) : Rows := mulf (addf (divf g (spread n)) (spread (unitSum z))) x
def dtop (de : Rows) (y z : Col) : Col := addf (subf zerosCol (mulf z y)) (rowSum (subf zeros de))
def dscores (s de : Rows) (dt p : Col) : Rows :=
  addf de (mulf (spread (shapeCast S256x1 (divf (multiReduction .add [1] S256 (mulf dt p) 0x00000000#32 reduces_S256x1_S256 (.inl rfl) rfl) (atMaxCount s)) shapeCasts_S256_S256x1))
    (atMax s))
def masked (ok : IVec S256x384 1) (d : Rows) : Rows := mulf (select ok d zeros) (broadcast S256x384 (Scalar.ofBits (F := Ideal) .f32 0x3E000000#32))
def sinkPart (z y dt p : Col) : FVec Ideal S1x1 .f32 := addf (colSum (mulf z y)) (colSum (mulf dt p))

/-! ### The vectors at an index -/

section
variable {i : ℕ} (hi : i < 16) (H : Head)

/-- The row and key numbers of a block's entry. -/
abbrev row (i : ℕ) (r : Fin 256) : ℕ := 256 * i + r.val
abbrev key (i : ℕ) (l : Fin 384) : ℕ := 256 * i + l.val

theorem row_lo (i : ℕ) (r : Fin 256) : 256 * i ≤ 64 * (row i r / 64) := by unfold row; omega
theorem row_hi (i : ℕ) (r : Fin 256) : 64 * (row i r / 64) + 192 ≤ 256 * i + 384 := by unfold row; omega

theorem scores_at (ok : IVec S256x384 1) (far : Rows) (q : FVec Ideal S256x64 .bf16) (k : FVec Ideal S384x64 .bf16) (sl : BitVec 32) (r : Fin 256) (l : Fin 384)
    (hok : ok (ix2 r l) = BitVec.ofBool (decide (sees (row i r) (key i l)))) (hfar : far (ix2 r l) = ((Head.far (row i r) (key i l) : ℝ) : EReal))
    (hq : ∀ d, q (ix2 r d) = ((H.q (row i r) d.val : ℝ) : EReal)) (hk : ∀ d, k (ix2 l d) = ((H.k (key i l) d.val : ℝ) : EReal))
    (hsl : Ideal.ofBits .f32 sl = ((H.slope : ℝ) : EReal)) :
    scores ok far q k sl (ix2 r l) = if sees (row i r) (key i l) then ((H.score (row i r) (key i l) : ℝ) : EReal) else ⊥ := by
  have hm : (Named.named κ "mask" 0xF149F2CA#32 : Ideal .f32) = ⊥ := rfl
  pointwise [scores]
  rw [hm, hok, hfar, hsl, show Ideal.ofBits FTy.f32 1040187392#32 = ((1 / 8 : ℝ) : EReal) from eighth_bits]
  simp only [hq, hk, ← EReal.coe_mul, coe_sum, ← EReal.coe_sub]
  by_cases h : sees (row i r) (key i l)
  · rw [decide_eq_true h, if_pos h]; rfl
  · rw [decide_eq_false h, if_neg h]; rfl

theorem rowMax_at (s : Rows) (r : Fin 256) (z : Fin 1) : rowMax s (ix2 r z) = Finset.univ.sup fun l : Fin 384 => s (ix2 r l) := by
  pointwise [rowMax]
  rw [show Ideal.ofBits FTy.f32 4286578688#32 = ⊥ from by simp [Ideal.ofBits, Ideal.ieee]]
  rfl

theorem atMax_at (s : Rows) (r : Fin 256) (l : Fin 384) : atMax s (ix2 r l) = if s (ix2 r l) = rowMax s (ix2 r 0) then 1 else 0 := by
  pointwise [atMax, spread]
  by_cases h : s (ix2 r l) = rowMax s (ix2 r 0)
  · simp only [h, decide_true, if_true]
    show ((((1#32 : BitVec 32).toInt : ℝ)) : EReal) = 1
    simp
  · simp only [h, decide_false, if_false]
    show ((((0#32 : BitVec 32).toInt : ℝ)) : EReal) = 0
    simp

/-- The maximum is reached, so the number of places that reach it is not zero. -/
theorem count_ne (s : Rows) (r : Fin 256) : ∑ l : Fin 384, atMax s (ix2 r l) ≠ 0 := by
  obtain ⟨l, _, hl⟩ := Finset.exists_mem_eq_sup (Finset.univ : Finset (Fin 384)) ⟨0, Finset.mem_univ _⟩ fun l => s (ix2 r l)
  have one : atMax s (ix2 r l) = 1 := by rw [atMax_at, rowMax_at, if_pos hl.symm]
  have nn : ∀ l, 0 ≤ atMax s (ix2 r l) := fun l => by
    rw [atMax_at]; split
    · exact zero_le_one
    · exact le_rfl
  have le : (1 : EReal) ≤ ∑ l : Fin 384, atMax s (ix2 r l) := by
    rw [← one]
    exact Finset.single_le_sum (f := fun l => atMax s (ix2 r l)) (fun l _ => nn l) (Finset.mem_univ l)
  exact ne_of_gt (lt_of_lt_of_le zero_lt_one le)

theorem dscores_at (s de : Rows) (dt p : Col) (r : Fin 256) (l : Fin 384) (h : dt (ix2 r 0) = 0) : dscores s de dt p (ix2 r l) = de (ix2 r l) := by
  pointwise [dscores, spread, atMaxCount]
  simp only [Finset.univ_unique, Finset.sum_singleton]
  rw [show (default : Fin 1) = 0 from rfl, h, zero_mul, Ideal.div, if_neg (count_ne s r), zero_mul, zero_mul, add_zero]

theorem dden_at (g x : Rows) (rc : Col) (r : Fin 256) (z : Fin 1) : dden g x rc (ix2 r z) = 0 - ∑ l : Fin 384, g (ix2 r l) * rc (ix2 r 0) * x (ix2 r l) := by
  pointwise [dden, spread, zerosCol, rowSum]

theorem dexpo_at (g x : Rows) (n z : Col) (r : Fin 256) (l : Fin 384) :
    dexpo g x n z (ix2 r l) = (Ideal.div (g (ix2 r l)) (n (ix2 r 0)) + z (ix2 r 0)) * x (ix2 r l) := by
  pointwise [dexpo, spread, unitSum]
  simp only [Finset.univ_unique, Finset.sum_singleton]
  rfl

theorem dtop_at (de : Rows) (y z : Col) (r : Fin 256) :
    dtop de y z (ix2 r 0) = (0 - z (ix2 r 0) * y (ix2 r 0)) + ∑ l : Fin 384, (0 - de (ix2 r l)) := by
  pointwise [dtop, zerosCol, rowSum, zeros]

theorem sinkPart_at (z y dt p : Col) (h : ∀ r, dt (ix2 r 0) = 0) : sinkPart z y dt p (ix2 0 0) = ∑ r : Fin 256, z (ix2 r 0) * y (ix2 r 0) := by
  pointwise [sinkPart, colSum]
  simp only [h, zero_mul, Finset.sum_const_zero, add_zero]

theorem top_at (s : Rows) (e : FVec Ideal S1x1 .f32) (r : Fin 256) :
    top s e (ix2 r 0) = max (Finset.univ.sup fun l : Fin 384 => s (ix2 r l)) (e (ix2 0 0)) := by
  rw [← rowMax_at s r 0]
  pointwise [top, down]

theorem expo_at (s : Rows) (t : Col) (r : Fin 256) (l : Fin 384) : expo s t (ix2 r l) = Ideal.exp (s (ix2 r l) - t (ix2 r 0)) := by
  pointwise [expo, spread]

theorem expoSink_at (e : FVec Ideal S1x1 .f32) (t : Col) (r : Fin 256) : expoSink e t (ix2 r 0) = Ideal.exp (e (ix2 0 0) - t (ix2 r 0)) := by
  pointwise [expoSink, down]

theorem den_at (x : Rows) (y : Col) (r : Fin 256) : den x y (ix2 r 0) = ∑ l : Fin 384, x (ix2 r l) + y (ix2 r 0) := by
  pointwise [den, rowSum]

theorem recip_at (n : Col) (r : Fin 256) : recip n (ix2 r 0) = Ideal.div 1 (n (ix2 r 0) * n (ix2 r 0)) := by
  pointwise [recip]

theorem probs_at (x : Rows) (n : Col) (r : Fin 256) (l : Fin 384) : probs x n (ix2 r l) = Ideal.div (x (ix2 r l)) (n (ix2 r 0)) := by
  pointwise [probs, spread]

theorem dprobs_at (d : FVec Ideal S256x64 .f32) (v : FVec Ideal S384x64 .bf16) (r : Fin 256) (l : Fin 384) :
    dprobs d v (ix2 r l) = ∑ k : Fin 64, d (ix2 r k) * v (ix2 l k) := by
  pointwise [dprobs]

theorem masked_at (ok : IVec S256x384 1) (d : Rows) (r : Fin 256) (l : Fin 384) (x : ℝ) (h : d (ix2 r l) = x)
    (hok : ok (ix2 r l) = BitVec.ofBool (decide (sees (row i r) (key i l)))) (h0 : ¬sees (row i r) (key i l) → x = 0) :
    masked ok d (ix2 r l) = ((x * (1 / 8) : ℝ) : EReal) := by
  pointwise [masked, zeros]
  rw [hok, h, show Ideal.ofBits FTy.f32 1040187392#32 = ((1 / 8 : ℝ) : EReal) from eighth_bits]
  by_cases hs : sees (row i r) (key i l)
  · rw [decide_eq_true hs, EReal.coe_mul]; rfl
  · rw [decide_eq_false hs, h0 hs, zero_mul, EReal.coe_zero]
    rfl

end

/-! ### One head's chain at an index -/

section
variable {i : ℕ} (hi : i < 16) (H : Head) (s g : Rows) (e : FVec Ideal S1x1 .f32) (r : Fin 256)
  (hs : ∀ l, s (ix2 r l) = if sees (row i r) (key i l) then ((H.score (row i r) (key i l) : ℝ) : EReal) else ⊥)
  (he : e (ix2 0 0) = ((H.sink : ℝ) : EReal))
  (hg : ∀ l, g (ix2 r l) = ((H.gv (row i r) (key i l) : ℝ) : EReal))
include hi hs he

theorem chain_real : ∃ c : ℝ, c ≠ 0 ∧ (∀ l, expo s (top s e) (ix2 r l) = ((H.wt (row i r) (key i l) * c : ℝ) : EReal))
    ∧ expoSink e (top s e) (ix2 r 0) = ((Real.exp H.sink * c : ℝ) : EReal)
    ∧ den (expo s (top s e)) (expoSink e (top s e)) (ix2 r 0) = ((H.mass (row i r) * c : ℝ) : EReal) := by
  obtain ⟨m, hm⟩ := max_real (fun l : Fin 384 => s (ix2 r l)) (fun l => by
    show s (ix2 r l) ≠ ⊤
    rw [hs l]; split
    · exact EReal.coe_ne_top _
    · exact bot_ne_top) H.sink
  have ht : top s e (ix2 r 0) = (m : EReal) := by rw [top_at, he, hm]
  have hx : ∀ l, expo s (top s e) (ix2 r l) = ((H.wt (row i r) (key i l) * Real.exp (-m) : ℝ) : EReal) := fun l => by
    rw [expo_at, ht, hs l, exp_seen]; rfl
  have hy : expoSink e (top s e) (ix2 r 0) = ((Real.exp H.sink * Real.exp (-m) : ℝ) : EReal) := by
    rw [expoSink_at, ht, he, exp_shift]
  refine ⟨Real.exp (-m), (Real.exp_pos _).ne', hx, hy, ?_⟩
  rw [den_at, hy]
  simp only [hx]
  rw [coe_sum, ← EReal.coe_add, ← Finset.sum_mul, ← add_mul,
    H.mass_window (row i r) (256 * i) 384 (row_lo i r) (row_hi i r) (by omega)]

theorem probs_real (l : Fin 384) : probs (expo s (top s e)) (den (expo s (top s e)) (expoSink e (top s e))) (ix2 r l)
    = ((H.prob (row i r) (key i l) : ℝ) : EReal) := by
  obtain ⟨c, hc, hx, hy, hn⟩ := chain_real hi H s e r hs he
  rw [probs_at, hx, hn, div_coe _ (mul_ne_zero (H.mass_ne _) hc), mul_div_mul_right _ _ hc]
  rfl

include hg in
theorem back_real :
    let x := expo s (top s e)
    let y := expoSink e (top s e)
    let n := den x y
    let z := dden g x (recip n)
    (∀ l, dexpo g x n z (ix2 r l) = ((H.ds (row i r) (key i l) : ℝ) : EReal)) ∧ z (ix2 r 0) * y (ix2 r 0) = ((H.dsink (row i r) : ℝ) : EReal)
      ∧ dtop (dexpo g x n z) y z (ix2 r 0) = 0 := by
  intro x y n z
  obtain ⟨c, hc, hx, hy, hn⟩ := chain_real hi H s e r hs he
  have hM := H.mass_ne (row i r)
  have hMc := mul_ne_zero hM hc
  have ha := H.avg_window (row i r) (256 * i) 384 (row_lo i r) (row_hi i r) (by omega)
  have hz : z (ix2 r 0) = ((-(H.avg (row i r) / (H.mass (row i r) * c)) : ℝ) : EReal) := by
    show dden g x (recip n) (ix2 r 0) = _
    rw [dden_at, recip_at, show n (ix2 r 0) = _ from hn, ← EReal.coe_mul, ← EReal.coe_one, div_coe _ (mul_ne_zero hMc hMc)]
    simp only [hg, show ∀ l, x (ix2 r l) = _ from hx, ← EReal.coe_mul, coe_sum]
    rw [← EReal.coe_zero, ← EReal.coe_sub, ha, dden_real _ _ _ _ hc hM]
  have hde : ∀ l, dexpo g x n z (ix2 r l) = ((H.ds (row i r) (key i l) : ℝ) : EReal) := fun l => by
    rw [dexpo_at, hz, show n (ix2 r 0) = _ from hn, hg, show x (ix2 r l) = _ from hx l, div_coe _ hMc, ← EReal.coe_add, ← EReal.coe_mul, ha,
      de_real (fun l : Fin 384 => H.wt (row i r) (256 * i + l.val)) (fun l => H.gv (row i r) (256 * i + l.val)) _ _ hc hM l, ← ha]
    rfl
  have hzy : z (ix2 r 0) * y (ix2 r 0) = ((H.dsink (row i r) : ℝ) : EReal) := by
    rw [hz, show y (ix2 r 0) = _ from hy, ← EReal.coe_mul, ha, dexk_real _ _ _ _ _ hc hM, ← ha]
    rfl
  refine ⟨hde, hzy, ?_⟩
  rw [dtop_at, hzy]
  simp only [hde]
  rw [← EReal.coe_zero]
  simp only [← EReal.coe_sub, coe_sum, ← EReal.coe_add]
  congr 1
  have e0 := dmax_real (fun l : Fin 384 => H.wt (row i r) (256 * i + l.val)) (fun l => H.gv (row i r) (256 * i + l.val)) (Real.exp H.sink)
    (H.mass (row i r)) hM (H.mass_window (row i r) (256 * i) 384 (row_lo i r) (row_hi i r) (by omega))
  rw [← ha] at e0
  exact e0

end

end Cert.SwaKernelIdeal.Value
end
-- ==== Proof.SwaBlock.lean ====
module

public import proofs.«01_k».proof.Proof.SwaRow

@[expose] public section
set_option maxRecDepth 16384
noncomputable section
namespace Cert.SwaKernelIdeal.Value
open Cert.SwaKernelIdeal Cert.SwaKernelIdeal.Gen Idealize.ShloMosaic Cert.Proof

/-! ## The four heads of one block of rows -/

local notation "Rows" => FVec Ideal S256x384 FTy.f32
local notation "Col" => FVec Ideal S256x1 FTy.f32

/-- What one head reads: the mask, the distances, its queries, keys, values, cotangent, slope and sink. -/
structure Ins where
  ok : IVec S256x384 1
  far : Rows
  q : FVec Ideal S256x64 .bf16
  k : FVec Ideal S384x64 .bf16
  v : FVec Ideal S384x64 .bf16
  d : FVec Ideal S256x64 .f32
  slope : BitVec 32
  sink : FVec Ideal S1x1 .f32

namespace Ins
variable (I : Ins)
def s : Rows := scores I.ok I.far I.q I.k I.slope
def t : Col := top I.s I.sink
def x : Rows := expo I.s I.t
def y : Col := expoSink I.sink I.t
def n : Col := den I.x I.y
def g : Rows := dprobs I.d I.v
def z : Col := dden I.g I.x (recip I.n)
def de : Rows := dexpo I.g I.x I.n I.z
def dt : Col := dtop I.de I.y I.z
def dsc : Rows := masked I.ok (dscores I.s I.de I.dt (portion (rowMax I.s) (down I.sink)))
def dq : FVec Ideal S256x64 .f32 :=
  extf .f32 (truncf .bf16 (matmul dot_S256x384_S384x64_S256x64_1_0_0_1_n_n none I.dsc I.k (constant S256x64 .f32 0x00000000#32)) bitsLt_bf16_f32) bitsLt_bf16_f32
def dk : FVec Ideal S384x64 .f32 :=
  extf .f32 (truncf .bf16 (matmul dot_S256x384_S256x64_S384x64_0_0_1_1_n_n none I.dsc I.q (constant S384x64 .f32 0x00000000#32)) bitsLt_bf16_f32) bitsLt_bf16_f32
def dv : FVec Ideal S384x64 .f32 :=
  extf .f32 (truncf .bf16 (transpose S384x64 [1, 0] (matmul dot_S256x64_S256x384_S64x384_0_0_1_1_n_n none I.d (probs I.x I.n) (constant S64x384 .f32 0x00000000#32))
    transposes_S64x384_p1_0_S384x64) bitsLt_bf16_f32) bitsLt_bf16_f32
def dsink : FVec Ideal S1x1 .f32 := sinkPart I.z I.y I.dt (portion (down I.sink) (rowMax I.s))
def dsinkLanes : FVec Ideal S1x128 .f32 :=
  broadcastTo S1x128 (shapeCast S1x1 (broadcast S1 (extractAt ![0, 0, 0] (shapeCast S1x1x1 (multiReduction .add [1, 2] S1
    (shapeCast S1x1x1 I.dsink shapeCasts_S1x1_S1x1x1) 0x00000000#32 reduces_S1x1x1_S1 (.inl rfl) rfl) shapeCasts_S1_S1x1x1) inpos_S1x1x1_p0_0_0)) shapeCasts_S1_S1x1)
    broadcasts_S1x1_S1x128
end Ins

/-- The block's mask. -/
def okOf (i : grid0.Coords) : IVec S256x384 1 :=
  k0_pay20 (iota Kind.tc S256x384 32 [1] iota_S256x384_d1_w32) (k0_pay17 (iota Kind.tc S256x384 32 [1] iota_S256x384_d1_w32) k0_pay16)
    (Scalar.muli (BitVec.ofNat 32 (i 0).val) 4#32) 64#32 (k0_pay18 (iota Kind.tc S256x384 32 [1] iota_S256x384_d1_w32))
    (k0_pay19 (iota Kind.tc S256x384 32 [1] iota_S256x384_d1_w32)) 1#32

def farOf : Rows := k0_pay21 (iota Kind.tc S256x384 32 [0] iota_S256x384_d0_w32) (iota Kind.tc S256x384 32 [1] iota_S256x384_d1_w32)

def lane (b : BitVec 32) : IVec S1x128 1 := cmpi .eq (iota .tc S1x128 32 [1] iota_S1x128_d1_w32) (broadcast S1x128 b)
def zeroLanes : FVec Ideal S1x128 .f32 := broadcast S1x128 (Scalar.ofBits (F := Ideal) .f32 0x00000000#32)
def pick (b : BitVec 32) (e : FVec Ideal S1x128 .f32) : FVec Ideal S1x1 .f32 :=
  shapeCast S1x1 (multiReduction .add [1] S1 (select (lane b) e zeroLanes) 0x00000000#32 reduces_S1x128_S1 (.inl rfl) rfl) shapeCasts_S1_S1x1

section
variable (i : grid0.Coords) (q : FVec Ideal S256x256 .f32) (k v : FVec Ideal S384x128 .f32) (e : FVec Ideal S1x128 .f32) (d : FVec Ideal S256x256 .f32)

def head0 : Ins where
  ok := okOf i
  far := farOf
  q := truncf .bf16 (extractStridedSlice S256x64 ![0, 0] q slices_S256x256_o0_0_S256x64) bitsLt_bf16_f32
  k := truncf .bf16 (extractStridedSlice S384x64 ![0, 0] k slices_S384x128_o0_0_S384x64) bitsLt_bf16_f32
  v := truncf .bf16 (extractStridedSlice S384x64 ![0, 0] v slices_S384x128_o0_0_S384x64) bitsLt_bf16_f32
  d := extractStridedSlice S256x64 ![0, 0] d slices_S256x256_o0_0_S256x64
  slope := 0x3E800000#32
  sink := pick 0#32 e

def head1 : Ins where
  ok := okOf i
  far := farOf
  q := truncf .bf16 (extractStridedSlice S256x64 ![0, 64] q slices_S256x256_o0_64_S256x64) bitsLt_bf16_f32
  k := truncf .bf16 (extractStridedSlice S384x64 ![0, 0] k slices_S384x128_o0_0_S384x64) bitsLt_bf16_f32
  v := truncf .bf16 (extractStridedSlice S384x64 ![0, 0] v slices_S384x128_o0_0_S384x64) bitsLt_bf16_f32
  d := extractStridedSlice S256x64 ![0, 64] d slices_S256x256_o0_64_S256x64
  slope := 0x3D800000#32
  sink := pick 1#32 e

def head2 : Ins where
  ok := okOf i
  far := farOf
  q := truncf .bf16 (extractStridedSlice S256x64 ![0, 128] q slices_S256x256_o0_128_S256x64) bitsLt_bf16_f32
  k := truncf .bf16 (extractStridedSlice S384x64 ![0, 64] k slices_S384x128_o0_64_S384x64) bitsLt_bf16_f32
  v := truncf .bf16 (extractStridedSlice S384x64 ![0, 64] v slices_S384x128_o0_64_S384x64) bitsLt_bf16_f32
  d := extractStridedSlice S256x64 ![0, 128] d slices_S256x256_o0_128_S256x64
  slope := 0x3C800000#32
  sink := pick 2#32 e

def head3 : Ins where
  ok := okOf i
  far := farOf
  q := truncf .bf16 (extractStridedSlice S256x64 ![0, 192] q slices_S256x256_o0_192_S256x64) bitsLt_bf16_f32
  k := truncf .bf16 (extractStridedSlice S384x64 ![0, 64] k slices_S384x128_o0_64_S384x64) bitsLt_bf16_f32
  v := truncf .bf16 (extractStridedSlice S384x64 ![0, 64] v slices_S384x128_o0_64_S384x64) bitsLt_bf16_f32
  d := extractStridedSlice S256x64 ![0, 192] d slices_S256x256_o0_192_S256x64
  slope := 0x3B800000#32
  sink := pick 3#32 e

/-- The sum of the heads' gradients, each at its place among zeros. -/
def dqBlock : FVec Ideal S256x256 .bf16 :=
  let z64 : FVec Ideal S256x64 .f32 := broadcast S256x64 (Scalar.ofBits (F := Ideal) .f32 0x00000000#32)
  let z128 : FVec Ideal S256x128 .f32 := broadcast S256x128 (Scalar.ofBits (F := Ideal) .f32 0x00000000#32)
  let z192 : FVec Ideal S256x192 .f32 := broadcast S256x192 (Scalar.ofBits (F := Ideal) .f32 0x00000000#32)
  truncf .bf16 (addf (addf (addf
    (concatenate S256x256 1 [⟨S256x192, z192⟩, ⟨S256x64, (head3 i q k v e d).dq⟩] concatenates_S256x192_S256x64_S256x256_d1)
    (concatenate S256x256 1 [⟨S256x192, concatenate S256x192 1 [⟨S256x128, z128⟩, ⟨S256x64, (head2 i q k v e d).dq⟩] concatenates_S256x128_S256x64_S256x192_d1⟩,
      ⟨S256x64, z64⟩] concatenates_S256x192_S256x64_S256x256_d1))
    (concatenate S256x256 1 [⟨S256x128, concatenate S256x128 1 [⟨S256x64, z64⟩, ⟨S256x64, (head1 i q k v e d).dq⟩] concatenates_S256x64_S256x64_S256x128_d1⟩,
      ⟨S256x128, z128⟩] concatenates_S256x128_S256x128_S256x256_d1))
    (concatenate S256x256 1 [⟨S256x64, (head0 i q k v e d).dq⟩, ⟨S256x192, z192⟩] concatenates_S256x64_S256x192_S256x256_d1)) bitsLt_bf16_f32

def pairUp (a0 a1 a2 a3 : FVec Ideal S384x64 .f32) : FVec Ideal S384x128 .f32 :=
  let z : FVec Ideal S384x64 .f32 := broadcast S384x64 (Scalar.ofBits (F := Ideal) .f32 0x00000000#32)
  addf (addf (addf (concatenate S384x128 1 [⟨S384x64, z⟩, ⟨S384x64, a3⟩] concatenates_S384x64_S384x64_S384x128_d1)
    (concatenate S384x128 1 [⟨S384x64, z⟩, ⟨S384x64, a2⟩] concatenates_S384x64_S384x64_S384x128_d1))
    (concatenate S384x128 1 [⟨S384x64, a1⟩, ⟨S384x64, z⟩] concatenates_S384x64_S384x64_S384x128_d1))
    (concatenate S384x128 1 [⟨S384x64, a0⟩, ⟨S384x64, z⟩] concatenates_S384x64_S384x64_S384x128_d1)

def dkBlock : FVec Ideal S384x128 .f32 := pairUp (head0 i q k v e d).dk (head1 i q k v e d).dk (head2 i q k v e d).dk (head3 i q k v e d).dk
def dvBlock : FVec Ideal S384x128 .f32 := pairUp (head0 i q k v e d).dv (head1 i q k v e d).dv (head2 i q k v e d).dv (head3 i q k v e d).dv
def sinkBlock : FVec Ideal S1x128 .f32 :=
  addf (addf (addf (select (lane 3#32) (head3 i q k v e d).dsinkLanes zeroLanes) (select (lane 2#32) (head2 i q k v e d).dsinkLanes zeroLanes))
    (select (lane 1#32) (head1 i q k v e d).dsinkLanes zeroLanes)) (select (lane 0#32) (head0 i q k v e d).dsinkLanes zeroLanes)

end

/-- The keys and values of a block's window of the padded array. -/
def windowOf (X : FVec Ideal S4224x128 .f32) (i : grid0.Coords) : FVec Ideal S384x128 .f32 :=
  fun x => X ((Rect.unit (s := S4224x128) (k0_off1 i) S384x128.size (k0_off1_inb i)).idx x)

/-! ### The mask and the distances -/

/-- A number's chunk of 64, as the kernel computes it. -/
def chunk64 (x : BitVec 32) : BitVec 32 :=
  Scalar.select (IntOp.andi
    (IntOp.cmpi .ne (IntOp.subi (BitVec.setWidth 32 (IntOp.cmpi .sgt x 0#32)) (BitVec.setWidth 32 (IntOp.cmpi .slt x 0#32))) 1#32)
    (IntOp.cmpi .ne (IntOp.remsi .vector x 64#32) 0#32)) (IntOp.subi (IntOp.divsi .vector x 64#32) 1#32) (IntOp.divsi .vector x 64#32)

theorem chunk64_at : ∀ n : Fin 384, chunk64 (BitVec.ofNat 32 n.val) = BitVec.ofNat 32 (n.val / 64) := by decide +kernel

theorem band_bits : ∀ (i : Fin 16) (a : Fin 4) (b : Fin 6),
    IntOp.andi (IntOp.andi (IntOp.cmpi .sge (IntOp.subi (IntOp.addi (BitVec.ofNat 32 a.val) 2#32) (BitVec.ofNat 32 b.val)) 0#32)
        (IntOp.cmpi .sle (IntOp.subi (IntOp.addi (BitVec.ofNat 32 a.val) 2#32) (BitVec.ofNat 32 b.val)) 2#32))
      (IntOp.cmpi .sge (IntOp.subi (IntOp.addi (Scalar.muli (BitVec.ofNat 32 i.val) 4#32) (BitVec.ofNat 32 b.val)) 2#32) 0#32)
    = BitVec.ofBool (decide (a.val ≤ b.val ∧ b.val ≤ a.val + 2 ∧ 2 ≤ 4 * i.val + b.val)) := by decide +kernel

theorem okOf_at (i : grid0.Coords) (r : Fin 256) (l : Fin 384) :
    okOf i (ix2 r l) = BitVec.ofBool (decide (sees (row (i 0).val r) (key (i 0).val l))) := by
  have hr := r.isLt
  have hl := l.isLt
  have hi : (i 0).val < 16 := (i 0).isLt
  have cr : chunk64 (BitVec.ofNat 32 r.val) = BitVec.ofNat 32 (r.val / 64) := chunk64_at ⟨r.val, by omega⟩
  have cl := chunk64_at l
  have e : okOf i (ix2 r l) = IntOp.andi (IntOp.andi (IntOp.cmpi .sge (IntOp.subi (IntOp.addi (chunk64 (BitVec.ofNat 32 r.val)) 2#32) (chunk64 (BitVec.ofNat 32 l.val))) 0#32)
        (IntOp.cmpi .sle (IntOp.subi (IntOp.addi (chunk64 (BitVec.ofNat 32 r.val)) 2#32) (chunk64 (BitVec.ofNat 32 l.val))) 2#32))
      (IntOp.cmpi .sge (IntOp.subi (IntOp.addi (Scalar.muli (BitVec.ofNat 32 (i 0).val) 4#32) (chunk64 (BitVec.ofNat 32 l.val))) 2#32) 0#32) := by
    have sg : Scalar.subi (Scalar.extui (Scalar.cmpi .sgt 64#32 0#32)) (Scalar.extui (Scalar.cmpi .slt 64#32 0#32)) = 1#32 := by decide
    pointwise [okOf, k0_pay16, k0_pay17, k0_pay18, k0_pay19, k0_pay20]
    rw [sg]
    rfl
  rw [e, cr, cl]
  refine (band_bits ⟨(i 0).val, hi⟩ ⟨r.val / 64, by omega⟩ ⟨l.val / 64, by omega⟩).trans ?_
  congr 1
  refine decide_eq_decide.mpr ?_
  show r.val / 64 ≤ l.val / 64 ∧ l.val / 64 ≤ r.val / 64 + 2 ∧ 2 ≤ 4 * (i 0).val + l.val / 64 ↔ _
  unfold sees row key
  omega

theorem far_bits : ∀ n : Fin 639, (IntOp.absi (IntOp.subi (BitVec.ofNat 32 n.val) 255#32)).toInt = (((n.val : ℤ) - 255).natAbs : ℤ) := by decide +kernel

theorem farOf_at (i : ℕ) (r : Fin 256) (l : Fin 384) : farOf (ix2 r l) = ((Head.far (row i r) (key i l) : ℝ) : EReal) := by
  have hr := r.isLt
  have hl := l.isLt
  have e : IntOp.subi (IntOp.addi (BitVec.ofNat 32 r.val) 128#32) (BitVec.ofNat 32 l.val) = IntOp.subi (BitVec.ofNat 32 (r.val + 383 - l.val)) 255#32 := by
    show BitVec.ofNat 32 r.val + 128#32 - BitVec.ofNat 32 l.val = BitVec.ofNat 32 (r.val + 383 - l.val) - 255#32
    apply BitVec.eq_of_toNat_eq
    simp only [BitVec.toNat_sub, BitVec.toNat_add, BitVec.toNat_ofNat]
    omega
  pointwise [farOf, k0_pay21]
  rw [e]
  show (((IntOp.absi (IntOp.subi (BitVec.ofNat 32 (r.val + 383 - l.val)) 255#32)).toInt : ℝ) : EReal) = _
  rw [far_bits ⟨r.val + 383 - l.val, by omega⟩]
  unfold Head.far row key
  have n : (((r.val + 383 - l.val : ℕ) : ℤ) - 255).natAbs = (((256 * i + r.val : ℕ) : ℤ) + 128 - ((256 * i + l.val : ℕ) : ℤ)).natAbs := by omega
  show ((((((r.val + 383 - l.val : ℕ) : ℤ) - 255).natAbs : ℤ) : ℝ) : EReal) = _
  rw [n, Int.cast_natCast]

theorem lane_sel (x j : Fin 128) (a : EReal) :
    Scalar.select (IntOp.cmpi .eq (BitVec.ofNat 32 x.val) (BitVec.ofNat 32 j.val)) a 0 = if x.val = j.val then a else 0 := by
  have hx := x.isLt
  have hj := j.isLt
  by_cases h : x.val = j.val
  · rw [if_pos h, h]
    simp [Scalar.select, IntOp.cmpi]
  · have n : ¬BitVec.ofNat 32 x.val = BitVec.ofNat 32 j.val := by
      intro q
      apply h
      have := congrArg BitVec.toNat q
      simp only [BitVec.toNat_ofNat] at this
      omega
    rw [if_neg h]
    simp [Scalar.select, IntOp.cmpi, beq_eq_false_iff_ne.mpr n]

theorem pick_at (e : FVec Ideal S1x128 .f32) (j : Fin 128) : pick (BitVec.ofNat 32 j.val) e (ix2 0 0) = e (ix2 0 j) := by
  pointwise [pick, lane, zeroLanes]
  rw [Finset.sum_congr rfl fun x _ => lane_sel x j _]
  simp only [Fin.val_inj]
  rw [Finset.sum_ite_eq' Finset.univ j, if_pos (Finset.mem_univ _)]

theorem lanes_at (I : Ins) (j : Fin 128) : I.dsinkLanes (ix2 0 j) = I.dsink (ix2 0 0) := by
  pointwise [Ins.dsinkLanes]
  simp only [Finset.univ_unique, Finset.sum_singleton]

/-! ### A head's results at an index -/

/-- The vectors a head reads hold the block's part of `H`. -/
structure Ins.Reads (I : Ins) (i : ℕ) (H : Head) : Prop where
  ok : ∀ r l, I.ok (ix2 r l) = BitVec.ofBool (decide (sees (row i r) (key i l)))
  far : ∀ r l, I.far (ix2 r l) = ((Head.far (row i r) (key i l) : ℝ) : EReal)
  q : ∀ r (d : Fin 64), I.q (ix2 r d) = ((H.q (row i r) d.val : ℝ) : EReal)
  k : ∀ l (d : Fin 64), I.k (ix2 l d) = ((H.k (key i l) d.val : ℝ) : EReal)
  v : ∀ l (d : Fin 64), I.v (ix2 l d) = ((H.v (key i l) d.val : ℝ) : EReal)
  d : ∀ r (d : Fin 64), I.d (ix2 r d) = ((H.g (row i r) d.val : ℝ) : EReal)
  slope : Ideal.ofBits .f32 I.slope = ((H.slope : ℝ) : EReal)
  sink : I.sink (ix2 0 0) = ((H.sink : ℝ) : EReal)

namespace Ins
variable {I : Ins} {i : ℕ} {H : Head} (hi : i < 16) (h : I.Reads i H)
include hi h

theorem s_at (r : Fin 256) (l : Fin 384) : I.s (ix2 r l) = if sees (row i r) (key i l) then ((H.score (row i r) (key i l) : ℝ) : EReal) else ⊥ :=
  scores_at H I.ok I.far I.q I.k I.slope r l (h.ok r l) (h.far r l) (h.q r) (h.k l) h.slope

theorem g_at (r : Fin 256) (l : Fin 384) : I.g (ix2 r l) = ((H.gv (row i r) (key i l) : ℝ) : EReal) := by
  show dprobs I.d I.v (ix2 r l) = _
  rw [dprobs_at]
  simp only [h.d, h.v, ← EReal.coe_mul, coe_sum]
  rfl

theorem de_at (r : Fin 256) (l : Fin 384) : I.de (ix2 r l) = ((H.ds (row i r) (key i l) : ℝ) : EReal) :=
  (back_real hi H I.s I.g I.sink r (s_at hi h r) h.sink (g_at hi h r)).1 l

theorem dt_at (r : Fin 256) : I.dt (ix2 r 0) = 0 := (back_real hi H I.s I.g I.sink r (s_at hi h r) h.sink (g_at hi h r)).2.2

theorem dsc_at (r : Fin 256) (l : Fin 384) : I.dsc (ix2 r l) = ((H.ds (row i r) (key i l) * (1 / 8) : ℝ) : EReal) :=
  masked_at (i := i) I.ok _ r l _ ((dscores_at I.s I.de I.dt _ r l (dt_at hi h r)).trans (de_at hi h r l)) (h.ok r l) fun n => H.ds_unseen n

theorem pr_at (r : Fin 256) (l : Fin 384) : probs I.x I.n (ix2 r l) = ((H.prob (row i r) (key i l) : ℝ) : EReal) :=
  probs_real hi H I.s I.sink r (s_at hi h r) h.sink l

theorem dq_at (r : Fin 256) (d : Fin 64) : I.dq (ix2 r d) = ((H.dq (row i r) d.val : ℝ) : EReal) := by
  pointwise [Ins.dq]
  simp only [dsc_at hi h, h.k, ← EReal.coe_mul, coe_sum]
  rw [H.dq_window (row i r) (256 * i) 384 (row_lo i r) (row_hi i r) (by omega)]

theorem dk_at (l : Fin 384) (d : Fin 64) :
    I.dk (ix2 l d) = ((∑ r : Fin 256, H.ds (row i r) (key i l) * (1 / 8) * H.q (row i r) d.val : ℝ) : EReal) := by
  pointwise [Ins.dk]
  simp only [dsc_at hi h, h.q, ← EReal.coe_mul, coe_sum]

theorem dv_at (l : Fin 384) (d : Fin 64) :
    I.dv (ix2 l d) = ((∑ r : Fin 256, H.prob (row i r) (key i l) * H.g (row i r) d.val : ℝ) : EReal) := by
  pointwise [Ins.dv]
  simp only [pr_at hi h, h.d, ← EReal.coe_mul, coe_sum]
  simp only [mul_comm]

theorem dsink_at : I.dsink (ix2 0 0) = ((∑ r : Fin 256, H.dsink (row i r) : ℝ) : EReal) := by
  show sinkPart I.z I.y I.dt _ (ix2 0 0) = _
  rw [sinkPart_at _ _ _ _ (dt_at hi h)]
  simp only [show ∀ r, I.z (ix2 r 0) * I.y (ix2 r 0) = _ from fun r => (back_real hi H I.s I.g I.sink r (s_at hi h r) h.sink (g_at hi h r)).2.1, coe_sum]

end Ins

/-! ### A block's results at an index -/

theorem quarter_bits : Ideal.ofBits .f32 0x3E800000#32 = (((1 / 4 : ℝ) ^ (0 + 1) : ℝ) : EReal) := by
  simp [Ideal.ofBits, Ideal.ieee]; norm_num; rw [← EReal.coe_mul]; norm_num
theorem quarter2_bits : Ideal.ofBits .f32 0x3D800000#32 = (((1 / 4 : ℝ) ^ (1 + 1) : ℝ) : EReal) := by
  simp [Ideal.ofBits, Ideal.ieee]; norm_num; rw [← EReal.coe_mul]; norm_num
theorem quarter3_bits : Ideal.ofBits .f32 0x3C800000#32 = (((1 / 4 : ℝ) ^ (2 + 1) : ℝ) : EReal) := by
  simp [Ideal.ofBits, Ideal.ieee]; norm_num; rw [← EReal.coe_mul]; norm_num
theorem quarter4_bits : Ideal.ofBits .f32 0x3B800000#32 = (((1 / 4 : ℝ) ^ (3 + 1) : ℝ) : EReal) := by
  simp [Ideal.ofBits, Ideal.ieee]; norm_num; rw [← EReal.coe_mul]; norm_num

/-- The block's vectors hold block `i`'s part of `A`. -/
structure Fits (A : Attn) (i : ℕ) (q : FVec Ideal S256x256 .f32) (k v : FVec Ideal S384x128 .f32) (e : FVec Ideal S1x128 .f32) (d : FVec Ideal S256x256 .f32) : Prop where
  q : ∀ r (c : Fin 256), q (ix2 r c) = ((A.q (row i r) c.val : ℝ) : EReal)
  k : ∀ l (c : Fin 128), k (ix2 l c) = ((A.k (key i l) c.val : ℝ) : EReal)
  v : ∀ l (c : Fin 128), v (ix2 l c) = ((A.v (key i l) c.val : ℝ) : EReal)
  e : ∀ j : Fin 4, e (ix2 0 (Fin.castLE (by decide) j)) = ((A.sink j.val : ℝ) : EReal)
  d : ∀ r (c : Fin 256), d (ix2 r c) = ((A.g (row i r) c.val : ℝ) : EReal)

section
variable {A : Attn} {i : grid0.Coords} {q : FVec Ideal S256x256 .f32} {k v : FVec Ideal S384x128 .f32} {e : FVec Ideal S1x128 .f32} {d : FVec Ideal S256x256 .f32}
  (h : Fits A (i 0).val q k v e d)
include h

theorem reads0 : (head0 i q k v e d).Reads (i 0).val (A.head 0) where
  ok := okOf_at i
  far := farOf_at _
  q r x := by pointwise [head0]; rw [h.q]; congr 2; simp
  k l x := by pointwise [head0]; rw [h.k]; congr 2; simp
  v l x := by pointwise [head0]; rw [h.v]; congr 2; simp
  d r x := by pointwise [head0]; rw [h.d]; congr 2; simp
  slope := quarter_bits
  sink := (pick_at e 0).trans (h.e 0)

theorem reads1 : (head1 i q k v e d).Reads (i 0).val (A.head 1) where
  ok := okOf_at i
  far := farOf_at _
  q r x := by pointwise [head1]; rw [h.q]; rfl
  k l x := by pointwise [head1]; rw [h.k]; congr 2; simp
  v l x := by pointwise [head1]; rw [h.v]; congr 2; simp
  d r x := by pointwise [head1]; rw [h.d]; rfl
  slope := quarter2_bits
  sink := (pick_at e 1).trans (h.e 1)

theorem reads2 : (head2 i q k v e d).Reads (i 0).val (A.head 2) where
  ok := okOf_at i
  far := farOf_at _
  q r x := by pointwise [head2]; rw [h.q]; rfl
  k l x := by pointwise [head2]; rw [h.k]; rfl
  v l x := by pointwise [head2]; rw [h.v]; rfl
  d r x := by pointwise [head2]; rw [h.d]; rfl
  slope := quarter3_bits
  sink := (pick_at e 2).trans (h.e 2)

theorem reads3 : (head3 i q k v e d).Reads (i 0).val (A.head 3) where
  ok := okOf_at i
  far := farOf_at _
  q r x := by pointwise [head3]; rw [h.q]; rfl
  k l x := by pointwise [head3]; rw [h.k]; rfl
  v l x := by pointwise [head3]; rw [h.v]; rfl
  d r x := by pointwise [head3]; rw [h.d]; rfl
  slope := quarter4_bits
  sink := (pick_at e 3).trans (h.e 3)

theorem dqBlock_at (r : Fin 256) (c : Fin 256) : dqBlock i q k v e d (ix2 r c) = ((A.dq (row (i 0).val r) c.val : ℝ) : EReal) := by
  have hi : (i 0).val < 16 := (i 0).isLt
  have hc := c.isLt
  pointwise [dqBlock]
  unfold Attn.dq
  by_cases h0 : c.val < 64
  · rw [dif_pos (show c.val < 192 by omega), dif_pos (show c.val < 192 by omega), dif_pos (show c.val < 128 by omega), dif_pos (show c.val < 128 by omega),
      dif_pos h0, dif_pos h0, Ins.dq_at hi (reads0 h), zero_add, zero_add, zero_add, show c.val / 64 = 0 by omega, show c.val % 64 = c.val by omega]
  · by_cases h1 : c.val < 128
    · rw [dif_pos (show c.val < 192 by omega), dif_pos (show c.val < 192 by omega), dif_pos h1, dif_pos h1,
        dif_neg h0, dif_neg h0, Ins.dq_at hi (reads1 h), zero_add, zero_add, add_zero, show c.val / 64 = 1 by omega, show c.val % 64 = c.val - 64 by omega]
    · by_cases h2 : c.val < 192
      · rw [dif_pos h2, dif_pos h2, dif_neg h1, dif_neg h1, dif_neg h0, Ins.dq_at hi (reads2 h), zero_add, add_zero, add_zero,
          show c.val / 64 = 2 by omega, show c.val % 64 = c.val - 128 by omega]
      · rw [dif_neg h2, dif_neg h2, dif_neg h1, dif_neg h0, Ins.dq_at hi (reads3 h), add_zero, add_zero, add_zero,
          show c.val / 64 = 3 by omega, show c.val % 64 = c.val - 192 by omega]

theorem dkBlock_at (l : Fin 384) (c : Fin 128) : dkBlock i q k v e d (ix2 l c) = ((A.dkPart (i 0).val (key (i 0).val l) c.val : ℝ) : EReal) := by
  have hi : (i 0).val < 16 := (i 0).isLt
  have hc := c.isLt
  pointwise [dkBlock, pairUp]
  unfold Attn.dkPart
  by_cases h0 : c.val < 64
  · rw [dif_pos h0, dif_pos h0, dif_pos h0, dif_pos h0, Ins.dk_at hi (reads1 h), Ins.dk_at hi (reads0 h), zero_add, zero_add, ← EReal.coe_add,
      add_comm, show c.val / 64 = 0 by omega, show c.val % 64 = c.val by omega]
    rfl
  · rw [dif_neg h0, dif_neg h0, dif_neg h0, dif_neg h0, Ins.dk_at hi (reads3 h), Ins.dk_at hi (reads2 h), add_zero, add_zero, ← EReal.coe_add,
      add_comm, show c.val / 64 = 1 by omega, show c.val % 64 = c.val - 64 by omega]
    rfl

theorem dvBlock_at (l : Fin 384) (c : Fin 128) : dvBlock i q k v e d (ix2 l c) = ((A.dvPart (i 0).val (key (i 0).val l) c.val : ℝ) : EReal) := by
  have hi : (i 0).val < 16 := (i 0).isLt
  have hc := c.isLt
  pointwise [dvBlock, pairUp]
  unfold Attn.dvPart
  by_cases h0 : c.val < 64
  · rw [dif_pos h0, dif_pos h0, dif_pos h0, dif_pos h0, Ins.dv_at hi (reads1 h), Ins.dv_at hi (reads0 h), zero_add, zero_add, ← EReal.coe_add,
      add_comm, show c.val / 64 = 0 by omega, show c.val % 64 = c.val by omega]
    rfl
  · rw [dif_neg h0, dif_neg h0, dif_neg h0, dif_neg h0, Ins.dv_at hi (reads3 h), Ins.dv_at hi (reads2 h), add_zero, add_zero, ← EReal.coe_add,
      add_comm, show c.val / 64 = 1 by omega, show c.val % 64 = c.val - 64 by omega]
    rfl

theorem sinkBlock_at (j : Fin 128) :
    sinkBlock i q k v e d (ix2 0 j) = ((if j.val < 4 then A.dsinkPart (i 0).val j.val else 0 : ℝ) : EReal) := by
  have hi : (i 0).val < 16 := (i 0).isLt
  pointwise [sinkBlock, lane, zeroLanes]
  rw [lanes_at, lanes_at, lanes_at, lanes_at, Ins.dsink_at hi (reads0 h), Ins.dsink_at hi (reads1 h), Ins.dsink_at hi (reads2 h), Ins.dsink_at hi (reads3 h)]
  have e0 := lane_sel j 0 ((A.dsinkPart (i 0).val 0 : ℝ) : EReal)
  have e1 := lane_sel j 1 ((A.dsinkPart (i 0).val 1 : ℝ) : EReal)
  have e2 := lane_sel j 2 ((A.dsinkPart (i 0).val 2 : ℝ) : EReal)
  have e3 := lane_sel j 3 ((A.dsinkPart (i 0).val 3 : ℝ) : EReal)
  refine (congrArg₂ (· + ·) (congrArg₂ (· + ·) (congrArg₂ (· + ·) e3 e2) e1) e0).trans ?_
  show (if j.val = 3 then _ else 0) + (if j.val = 2 then _ else 0) + (if j.val = 1 then _ else 0) + (if j.val = 0 then _ else (0 : EReal)) = _
  by_cases h4 : j.val < 4
  · rw [if_pos h4]
    have c4 : j.val = 0 ∨ j.val = 1 ∨ j.val = 2 ∨ j.val = 3 := by omega
    rcases c4 with q | q | q | q <;> simp [q]
  · rw [if_neg h4, if_neg (by omega), if_neg (by omega), if_neg (by omega), if_neg (by omega)]
    simp

end

end Cert.SwaKernelIdeal.Value
end
-- ==== Proof.SwaRead.lean ====
module

public import proofs.«01_k».proof.Proof.Gen.SwaKernelIdeal.Value
public import proofs.«01_k».proof.Proof.SwaBlock
public import Idealize.ShloMosaic.Lib.Pipeline.ValueKit
public import Idealize.ShloMosaic.Lib.Pipeline.ReadBack
public import Idealize.ShloMosaic.Lib.Routing.OpsSet
public import Idealize.ShloMosaic.Lib.Pointwise
public import Idealize.ShloMosaic.Lib.StableHlo.RunRead

@[expose] public section
set_option maxRecDepth 16384
noncomputable section
namespace Cert.SwaKernelIdeal.Value
open Cert.SwaKernelIdeal Cert.SwaKernelIdeal.Gen Idealize.ShloMosaic Idealize.ShloMosaic.TcCoe Idealize.SL.Sem Cert.Proof
open Idealize.ShloMosaic.Pipeline (Dat)
variable (m : (ℓ : Loc nD τ sig) → Buf (Elt Ideal) ℓ)

/-! ## What the attention's gradient reads -/

abbrev a0 (c : Dev nD) : FVec Ideal S1x4096x3088 .f32 := m ((c : Thread nD τ).loc main_arg0)
abbrev a1 (c : Dev nD) : FVec Ideal S4 .f32 := m ((c : Thread nD τ).loc main_arg1)
abbrev a2 (c : Dev nD) : FVec Ideal S1x4096x1024 .f32 := m ((c : Thread nD τ).loc main_arg2)

/-- The attention of the projected rows `P`, the sinks `e` and the cotangent `D`: keys and values stand behind 128 rows of zeros. -/
def attnOf (P : FVec Ideal S1x4096x3088 .f32) (e : FVec Ideal S4 .f32) (D : FVec Ideal S1x4096x1024 .f32) : Attn where
  q t c := (P (ix3 (0 : Fin 1) (Fin.ofNat 4096 t) (Fin.ofNat 3088 c))).toReal
  k u c := if u < 128 then 0 else (P (ix3 (0 : Fin 1) (Fin.ofNat 4096 (u - 128)) (Fin.ofNat 3088 (256 + c)))).toReal
  v u c := if u < 128 then 0 else (P (ix3 (0 : Fin 1) (Fin.ofNat 4096 (u - 128)) (Fin.ofNat 3088 (384 + c)))).toReal
  g t c := (D (ix3 (0 : Fin 1) (Fin.ofNat 4096 t) (Fin.ofNat 1024 c))).toReal
  sink h := (e (ix1 (Fin.ofNat 4 h))).toReal

section
variable (P : FVec Ideal S1x4096x3088 .f32) (e : FVec Ideal S4 .f32) (D : FVec Ideal S1x4096x1024 .f32)

theorem attnOf_q (t c : ℕ) (ht : t < 4096) (hc : c < 3088) : (attnOf P e D).q t c = (P (ix3 (0 : Fin 1) ⟨t, ht⟩ ⟨c, hc⟩)).toReal := by
  have h0 : Fin.ofNat 4096 t = ⟨t, ht⟩ := Fin.ext (Nat.mod_eq_of_lt ht)
  have h1 : Fin.ofNat 3088 c = ⟨c, hc⟩ := Fin.ext (Nat.mod_eq_of_lt hc)
  unfold attnOf
  simp only [h0, h1]

theorem attnOf_k (t c : ℕ) (ht : t < 4096) (hc : 256 + c < 3088) : (attnOf P e D).k (t + 128) c = (P (ix3 (0 : Fin 1) ⟨t, ht⟩ ⟨256 + c, hc⟩)).toReal := by
  have h0 : Fin.ofNat 4096 (t + 128 - 128) = ⟨t, ht⟩ := Fin.ext (by show (t + 128 - 128) % 4096 = t; omega)
  have h1 : Fin.ofNat 3088 (256 + c) = ⟨256 + c, hc⟩ := Fin.ext (Nat.mod_eq_of_lt hc)
  unfold attnOf
  simp only [h0, h1, if_neg (show ¬t + 128 < 128 by omega)]

theorem attnOf_v (t c : ℕ) (ht : t < 4096) (hc : 384 + c < 3088) : (attnOf P e D).v (t + 128) c = (P (ix3 (0 : Fin 1) ⟨t, ht⟩ ⟨384 + c, hc⟩)).toReal := by
  have h0 : Fin.ofNat 4096 (t + 128 - 128) = ⟨t, ht⟩ := Fin.ext (by show (t + 128 - 128) % 4096 = t; omega)
  have h1 : Fin.ofNat 3088 (384 + c) = ⟨384 + c, hc⟩ := Fin.ext (Nat.mod_eq_of_lt hc)
  unfold attnOf
  simp only [h0, h1, if_neg (show ¬t + 128 < 128 by omega)]

theorem attnOf_k0 (u c : ℕ) (hu : u < 128) : (attnOf P e D).k u c = 0 := if_pos hu

theorem attnOf_v0 (u c : ℕ) (hu : u < 128) : (attnOf P e D).v u c = 0 := if_pos hu

theorem attnOf_g (t c : ℕ) (ht : t < 4096) (hc : c < 1024) : (attnOf P e D).g t c = (D (ix3 (0 : Fin 1) ⟨t, ht⟩ ⟨c, hc⟩)).toReal := by
  have h0 : Fin.ofNat 4096 t = ⟨t, ht⟩ := Fin.ext (Nat.mod_eq_of_lt ht)
  have h1 : Fin.ofNat 1024 c = ⟨c, hc⟩ := Fin.ext (Nat.mod_eq_of_lt hc)
  unfold attnOf
  simp only [h0, h1]

theorem attnOf_sink (j : Fin 4) : (attnOf P e D).sink j.val = (e (ix1 j)).toReal := by
  have h0 : Fin.ofNat 4 j.val = j := Fin.ext (Nat.mod_eq_of_lt j.isLt)
  unfold attnOf
  simp only [h0]

end

/-- Arguments without infinite entries. -/
structure Finite (P : FVec Ideal S1x4096x3088 .f32) (e : FVec Ideal S4 .f32) (D : FVec Ideal S1x4096x1024 .f32) : Prop where
  p : ∀ x, P x = (((P x).toReal : ℝ) : EReal)
  e : ∀ x, e x = (((e x).toReal : ℝ) : EReal)
  d : ∀ x, D x = (((D x).toReal : ℝ) : EReal)

theorem idx : ∀ t : Fin cfg0.N, win0_0.index t = ![t.val, 8] ∧ win0_1.index t = ![0, 18] ∧ win0_2.index t = ![0, 19] ∧ win0_3.index t = ![0, 0]
    ∧ win0_4.index t = ![t.val, 2] ∧ win0_5.index t = ![t.val, 0] ∧ win0_6.index t = ![0, 0] ∧ win0_7.index t = ![0, 0] ∧ win0_8.index t = ![0, 0] :=
  (by decide +kernel : ∀ t : Fin grid0.N, _)

theorem coord : ∀ t : Fin cfg0.N, (grid0.coords t 0).val = t.val := (by decide +kernel : ∀ t : Fin grid0.N, _)

theorem lt16 (t : Fin cfg0.N) : t.val < 16 := lt_of_lt_of_eq t.isLt N_0

/-- The columns of the attention, in the middle of the packed rows. -/
theorem cols (c : Dev nD) (n : Fin 4096) (q : ℕ) (hq : q < 512) :
    (V m c main_v16 : FVec Ideal S4096x3328 .f32) (ix2 n ⟨2048 + q, by omega⟩) = a0 m c (ix3 (0 : Fin 1) n (⟨q, by omega⟩ : Fin 3088)) := by
  unfold_abbrev_sides; after_reads_simp; pointwise
  rw [dif_neg (show ¬2048 + q < 768 by omega), dif_neg (show ¬2048 + q - 768 < 256 by omega), dif_neg (show ¬2048 + q - 768 - 256 < 1024 by omega),
    dif_pos (show 2048 + q - 768 - 256 - 1024 < 512 by omega)]
  after_reads_simp; pointwise
  exact congrArg (fun q' => a0 m c (ix3 (0 : Fin 1) n q')) (Fin.ext (show 2048 + q - 768 - 256 - 1024 = q by omega))

theorem cot (c : Dev nD) (n : Fin 4096) (q : ℕ) (hq : q < 256) :
    (V m c main_v6 : FVec Ideal S4096x1024 .f32) (ix2 n ⟨512 + q, by omega⟩) = a2 m c (ix3 (0 : Fin 1) n (⟨q, by omega⟩ : Fin 1024)) := by
  unfold_abbrev_sides; after_reads_simp; pointwise
  simp only [dif_pos hq]
  after_reads_simp; pointwise

theorem scat : ∀ k : Fin 4, scatter_S1x128_S2_S4_0_0_01_0.resultIdx? (ix1 k : S4.Idx) (fun _ => 0#32 : IVec S2 32) = some (ix2 (0 : Fin 1) (Fin.castLE (by decide) k : Fin 128)) := by
  decide +kernel

theorem scatter_lane (x : FVec Ideal S1x128 .f32) (i : IVec S2 32) (hi : ∀ p, i (ix1 p) = 0#32) (u : FVec Ideal S4 .f32) (j : Fin 4) :
    Host.scatter scatter_S1x128_S2_S4_0_0_01_0 (fun _ b => b) x i u (ix2 (0 : Fin 1) (Fin.castLE (by decide) j : Fin 128)) = u (ix1 j) := by
  obtain rfl : i = fun _ => 0#32 := funext fun p => by rw [eq_ix1 p]; exact hi _
  refine Routing.scatter_set_hit _ _ _ _ _ _ (fun k hk => ?_) (ix1 j) (scat j)
  obtain ⟨k, rfl⟩ : ∃ k0 : Fin 4, k = ix1 k0 := ⟨k 0, eq_ix1 k⟩
  rw [scat k] at hk
  have h := congrArg (fun z : S1x128.Idx => (z 1).val) (Option.some.inj hk)
  change k.val = j.val at h
  rw [Fin.ext h]

theorem sinks (c : Dev nD) (j : Fin 4) :
    (V m c main_v21 : FVec Ideal S1x128 .f32) (ix2 (0 : Fin 1) (Fin.castLE (by decide) j : Fin 128)) = a1 m c (ix1 j) := by
  unfold_abbrev_sides; after_reads_simp
  refine scatter_lane _ _ (fun p => ?_) _ j
  pointwise
  split
  · after_reads_simp; pointwise
  · after_reads_simp; pointwise

theorem qB_at (c : Dev nD) (t : Fin cfg0.N) (r : Fin 256) (l : Fin 256) :
    k0_pay14 (F := Ideal) (iblk m c 0 t) (ix2 r l) = a0 m c (ix3 (0 : Fin 1) (⟨256 * t.val + r.val, by have := lt16 t; omega⟩ : Fin 4096) (⟨l.val, by omega⟩ : Fin 3088)) := by
  have h16 := lt16 t
  pointwise [k0_pay14]
  have e : ((cfg0.win 0).blk t).view.emb (ix2 r l) = (ix2 (⟨256 * t.val + r.val, by omega⟩ : Fin 4096) (⟨2048 + l.val, by omega⟩ : Fin 3328) : S4096x3328.Idx) := by
    blk_ext [idx t]
  refine Eq.trans ?_ (cols m c _ l.val (by omega))
  blk_simp [iblk]; rw [e]

theorem kB_at (c : Dev nD) (t : Fin cfg0.N) (n : Fin 4096) (l : Fin 128) :
    k0_pay9 (F := Ideal) (iblk m c 1 t) (ix2 n l) = a0 m c (ix3 (0 : Fin 1) n (⟨256 + l.val, by omega⟩ : Fin 3088)) := by
  pointwise [k0_pay9]
  have e : ((cfg0.win 1).blk t).view.emb (ix2 n l) = (ix2 n (⟨2048 + (256 + l.val), by omega⟩ : Fin 3328) : S4096x3328.Idx) := by
    blk_ext [idx t]
  refine Eq.trans ?_ (cols m c _ (256 + l.val) (by omega))
  blk_simp [iblk]; rw [e]

theorem vB_at (c : Dev nD) (t : Fin cfg0.N) (n : Fin 4096) (l : Fin 128) :
    k0_pay10 (F := Ideal) (iblk m c 2 t) (ix2 n l) = a0 m c (ix3 (0 : Fin 1) n (⟨384 + l.val, by omega⟩ : Fin 3088)) := by
  pointwise [k0_pay10]
  have e : ((cfg0.win 2).blk t).view.emb (ix2 n l) = (ix2 n (⟨2048 + (384 + l.val), by omega⟩ : Fin 3328) : S4096x3328.Idx) := by
    blk_ext [idx t]
  refine Eq.trans ?_ (cols m c _ (384 + l.val) (by omega))
  blk_simp [iblk]; rw [e]

theorem eB_at (c : Dev nD) (t : Fin cfg0.N) (j : Fin 4) :
    k0_pay15 (F := Ideal) (iblk m c 3 t) (ix2 (0 : Fin 1) (Fin.castLE (by decide) j : Fin 128)) = a1 m c (ix1 j) := by
  pointwise [k0_pay15]
  have e : ((cfg0.win 3).blk t).view.emb (ix2 (0 : Fin 1) (Fin.castLE (by decide) j : Fin 128)) = (ix2 (0 : Fin 1) (Fin.castLE (by decide) j : Fin 128) : S1x128.Idx) := by
    blk_ext [idx t]
  refine Eq.trans ?_ (sinks m c j)
  blk_simp [iblk]; rw [e]

theorem gB_at (c : Dev nD) (t : Fin cfg0.N) (r : Fin 256) (l : Fin 256) :
    k0_pay103 (F := Ideal) (iblk m c 4 t) (ix2 r l) = a2 m c (ix3 (0 : Fin 1) (⟨256 * t.val + r.val, by have := lt16 t; omega⟩ : Fin 4096) (⟨l.val, by omega⟩ : Fin 1024)) := by
  have h16 := lt16 t
  pointwise [k0_pay103]
  have e : ((cfg0.win 4).blk t).view.emb (ix2 r l) = (ix2 (⟨256 * t.val + r.val, by omega⟩ : Fin 4096) (⟨512 + l.val, by omega⟩ : Fin 1024) : S4096x1024.Idx) := by
    blk_ext [idx t]
  refine Eq.trans ?_ (cot m c _ l.val (by omega))
  blk_simp [iblk]; rw [e]

end Cert.SwaKernelIdeal.Value
end
-- ==== Proof.SwaRef.lean ====
module

public import proofs.«01_k».proof.Proof.Gen.SwaReferenceIdeal.Read
public import proofs.«01_k».proof.Proof.SwaRead
public import Idealize.ShloMosaic.Lib.Pointwise

@[expose] public section
set_option maxRecDepth 16384
noncomputable section
namespace Cert.SwaReferenceIdeal.Read
open Cert.SwaReferenceIdeal Cert.SwaReferenceIdeal.Gen Idealize.ShloMosaic Idealize.ShloMosaic.TcCoe Cert.Proof
open Cert.SwaKernelIdeal.Value (attnOf Finite attnOf_q attnOf_k attnOf_v attnOf_k0 attnOf_v0 attnOf_g attnOf_sink)

/-! ## What the plain attention reads: a chunk of 64 queries against its own and the two chunks before -/

variable (P : FVec Ideal S1x4096x3088 .f32) (e : FVec Ideal S4 .f32) (D : FVec Ideal S1x4096x1024 .f32) (F : Finite P e D)
include F

theorem q_at (c i : Fin 64) (h g : Fin 2) (d : Fin 64) : val_main_v3 (F := Ideal) P (ix6 (0 : Fin 1) c i h g d)
    = (((attnOf P e D).q (64 * c.val + i.val) (64 * (2 * h.val + g.val) + d.val) : ℝ) : EReal) := by
  rw [attnOf_q P e D _ _ (by omega) (by omega), ← F.p]
  pointwise [val_main_v3, val_main_v0]
  exact congrArg₂ (fun a b => P (ix3 (0 : Fin 1) a b)) (Fin.ext (by simp; omega)) (Fin.ext (by simp; omega))

theorem g_at (c : Fin 64) (h : Fin 2) (d : Fin 64) (g : Fin 2) (i : Fin 64) : val_main_v104 (F := Ideal) D (ix6 (0 : Fin 1) c h d g i)
    = (((attnOf P e D).g (64 * c.val + i.val) (64 * (2 * h.val + g.val) + d.val) : ℝ) : EReal) := by
  rw [attnOf_g P e D _ _ (by omega) (by omega), ← F.d]
  pointwise [val_main_v104, val_main_v103, val_main_v102]
  exact congrArg₂ (fun a b => D (ix3 (0 : Fin 1) a b)) (Fin.ext (by simp; omega)) (Fin.ext (by simp; omega))

theorem k_pad (u : Fin 4224) (l : Fin 128) : val_main_v5 (F := Ideal) P (ix3 (0 : Fin 1) u l) = (((attnOf P e D).k u.val l.val : ℝ) : EReal) := by
  pointwise [val_main_v5, val_main_v4, val_main_v1, val_main_cst]
  by_cases hu : u.val < 128
  · rw [dif_pos hu, attnOf_k0 P e D _ _ hu]; rfl
  · rw [dif_neg hu]
    have h := attnOf_k P e D (u.val - 128) l.val (by omega) (by omega)
    rw [Nat.sub_add_cancel (by omega)] at h
    rw [h, ← F.p]

theorem v_pad (u : Fin 4224) (l : Fin 128) : val_main_v9 (F := Ideal) P (ix3 (0 : Fin 1) u l) = (((attnOf P e D).v u.val l.val : ℝ) : EReal) := by
  pointwise [val_main_v9, val_main_v8, val_main_v2, val_main_cst_1]
  by_cases hu : u.val < 128
  · rw [dif_pos hu, attnOf_v0 P e D _ _ hu]; rfl
  · rw [dif_neg hu]
    have h := attnOf_v P e D (u.val - 128) l.val (by omega) (by omega)
    rw [Nat.sub_add_cancel (by omega)] at h
    rw [h, ← F.p]

theorem k_at (c : Fin 64) (j : Fin 192) (h : Fin 2) (d : Fin 64) : val_main_v15 (F := Ideal) P (ix5 (0 : Fin 1) c j h d)
    = (((attnOf P e D).k (64 * c.val + j.val) (64 * h.val + d.val) : ℝ) : EReal) := by
  refine Eq.trans ?_ (k_pad P e D F ⟨64 * c.val + j.val, by omega⟩ ⟨64 * h.val + d.val, by omega⟩)
  pointwise [val_main_v15, val_main_v12, val_main_v13, val_main_v14, val_main_v7]
  split
  · exact congrArg₂ (fun a b => val_main_v5 (F := Ideal) P (ix3 (0 : Fin 1) a b)) (Fin.ext (by simp; omega)) (Fin.ext (by simp; omega))
  split
  · exact congrArg₂ (fun a b => val_main_v5 (F := Ideal) P (ix3 (0 : Fin 1) a b)) (Fin.ext (by simp; omega)) (Fin.ext (by simp; omega))
  · exact congrArg₂ (fun a b => val_main_v5 (F := Ideal) P (ix3 (0 : Fin 1) a b)) (Fin.ext (by simp; omega)) (Fin.ext (by simp; omega))

theorem v_at (c : Fin 64) (j : Fin 192) (h : Fin 2) (d : Fin 64) : val_main_v19 (F := Ideal) P (ix5 (0 : Fin 1) c j h d)
    = (((attnOf P e D).v (64 * c.val + j.val) (64 * h.val + d.val) : ℝ) : EReal) := by
  refine Eq.trans ?_ (v_pad P e D F ⟨64 * c.val + j.val, by omega⟩ ⟨64 * h.val + d.val, by omega⟩)
  pointwise [val_main_v19, val_main_v16, val_main_v17, val_main_v18, val_main_v11]
  split
  · exact congrArg₂ (fun a b => val_main_v9 (F := Ideal) P (ix3 (0 : Fin 1) a b)) (Fin.ext (by simp; omega)) (Fin.ext (by simp; omega))
  split
  · exact congrArg₂ (fun a b => val_main_v9 (F := Ideal) P (ix3 (0 : Fin 1) a b)) (Fin.ext (by simp; omega)) (Fin.ext (by simp; omega))
  · exact congrArg₂ (fun a b => val_main_v9 (F := Ideal) P (ix3 (0 : Fin 1) a b)) (Fin.ext (by simp; omega)) (Fin.ext (by simp; omega))

omit F

theorem minus_eight_bits : Ideal.ofBits FTy.f32 0xC1000000#32 = ((-8 : ℝ) : EReal) := by
  simp [Ideal.ofBits, Ideal.ieee]; norm_num; rw [← EReal.coe_mul]; norm_num

theorem four_bits : Ideal.ofBits FTy.f32 0x40800000#32 = ((4 : ℝ) : EReal) := by
  simp [Ideal.ofBits, Ideal.ieee]; norm_num; rw [← EReal.coe_mul]; norm_num

theorem int_bits : ∀ n < 4, (FloatOps.sitofp FTy.f32 (BitVec.ofNat 32 n) : Ideal .f32) = ((n : ℝ) : EReal) := by
  intro n hn
  show (((BitVec.ofNat 32 n).toInt : ℝ) : EReal) = _
  rw [(by decide : ∀ n : Fin 4, (BitVec.ofNat 32 n.val).toInt = (n.val : ℤ)) ⟨n, hn⟩]
  rfl

theorem dist_bits : ∀ (i : Fin 64) (j : Fin 192),
    (IntOp.absi (IntOp.subi (IntOp.addi (BitVec.ofNat 32 i.val) 128#32) (BitVec.ofNat 32 j.val))).toInt = ((((i.val : ℤ) + 128 - (j.val : ℤ)).natAbs : ℕ) : ℤ) := by
  decide +kernel

theorem chunk_at : ∀ j : Fin 192, val_main_v58 (F := Ideal) (ix1 j) = BitVec.ofNat 32 (j.val / 64) := by
  decide +kernel

theorem mask_bits : ∀ (c : Fin 64) (j : Fin 192),
    IntOp.cmpi CmpIPredicate.sge (IntOp.addi (IntOp.subi (BitVec.ofNat 32 c.val) 2#32) (BitVec.ofNat 32 (j.val / 64))) 0#32
      = BitVec.ofBool (decide (128 ≤ 64 * c.val + j.val)) := by
  decide +kernel

theorem slope_at (h g : Fin 2) : val_main_v44 (F := Ideal) (ix2 h g) = (((1 / 4 : ℝ) ^ (2 * h.val + g.val + 1) : ℝ) : EReal) := by
  pointwise [val_main_v44, val_main_v43, val_main_v42, val_main_v41, val_main_v40, val_main_v39, val_main_v38, val_main_v37, val_main_v36, val_main_v35,
    val_main_cst_4, val_main_cst_5, val_main_cst_6, val_main_cst_7]
  rw [show (FloatOps.sitofp FTy.f32 (BitVec.ofNat 32 (h.val * 2 + g.val)) : Ideal .f32) = (((2 * h.val + g.val : ℕ) : ℝ) : EReal) from by
      rw [show h.val * 2 + g.val = 2 * h.val + g.val by omega]; exact int_bits _ (by omega),
    show Ideal.ofBits FTy.f32 1073741824#32 = ((2 : ℝ) : EReal) from two_bits, show Ideal.ofBits FTy.f32 3238002688#32 = ((-8 : ℝ) : EReal) from minus_eight_bits,
    show Ideal.ofBits FTy.f32 1082130432#32 = ((4 : ℝ) : EReal) from four_bits, ← EReal.coe_one, ← EReal.coe_add, ← EReal.coe_mul, div_coe _ (by norm_num)]
  show ((Real.rpow 2 _ : ℝ) : EReal) = _
  congr 1
  rw [show (-8 : ℝ) * (1 + ((2 * h.val + g.val : ℕ) : ℝ)) / 4 = -(2 * ((2 * h.val + g.val + 1 : ℕ) : ℝ)) by push_cast; ring]
  show (2 : ℝ) ^ (-(2 * ((2 * h.val + g.val + 1 : ℕ) : ℝ)) : ℝ) = _
  rw [Real.rpow_neg (by norm_num), Real.rpow_mul (by norm_num), Real.rpow_natCast, show ((2 : ℝ) ^ (2 : ℝ)) = 4 by rw [Real.rpow_ofNat]; norm_num, one_div, inv_pow]

theorem dist_at (i : Fin 64) (j : Fin 192) : val_main_v34 (F := Ideal) (ix2 i j) = (((((i.val : ℤ) + 128 - (j.val : ℤ)).natAbs : ℕ) : ℝ) : EReal) := by
  pointwise [val_main_v34, val_main_v33, val_main_v32, val_main_v31, val_main_v30, val_main_v29, val_main_v28, val_main_v27, val_main_v26, val_main_v25,
    val_main_v24, val_main_c]
  show (((IntOp.absi (IntOp.subi (IntOp.addi (BitVec.ofNat 32 i.val) 128#32) (BitVec.ofNat 32 j.val))).toInt : ℝ) : EReal) = _
  rw [dist_bits i j]
  rfl

theorem mask_at (c : Fin 64) (j : Fin 192) (h g : Fin 2) (i : Fin 64) :
    val_main_v66_1 (F := Ideal) (ix6 (0 : Fin 1) c h g i j) = BitVec.ofBool (decide (128 ≤ 64 * c.val + j.val)) := by
  pointwise [val_main_v66_1, val_main_v65, val_main_v64, val_main_v63, val_main_v62, val_main_v61, val_main_v60, val_main_v59, val_main_v57, val_main_v56,
    val_main_v55, val_main_v54, val_main_v53, val_main_c_8, val_main_c_10]
  rw [show val_main_v58 (F := Ideal) (ix1 j) = BitVec.ofNat 32 (j.val / 64) from chunk_at j]
  exact mask_bits c j

end Cert.SwaReferenceIdeal.Read
end
-- ==== Proof.SwaRefB.lean ====
module

public import proofs.«01_k».proof.Proof.SwaRef

@[expose] public section
set_option maxRecDepth 16384
noncomputable section
namespace Cert.SwaReferenceIdeal.Read
open Cert.SwaReferenceIdeal Cert.SwaReferenceIdeal.Gen Idealize.ShloMosaic Idealize.ShloMosaic.TcCoe Cert.Proof
open Cert.SwaKernelIdeal.Value (attnOf Finite attnOf_q attnOf_k attnOf_v attnOf_k0 attnOf_v0 attnOf_g attnOf_sink)
variable (P : FVec Ideal S1x4096x3088 .f32) (e : FVec Ideal S4 .f32) (D : FVec Ideal S1x4096x1024 .f32) (F : Finite P e D)

/-! ### Scores and weights of one row -/

theorem head_q (A : Attn) (n t d : ℕ) : (A.head n).q t d = A.q t (64 * n + d) := rfl

theorem head_g (A : Attn) (n t d : ℕ) : (A.head n).g t d = A.g t (64 * n + d) := rfl

theorem head_k (A : Attn) (h g : Fin 2) (u d : ℕ) : (A.head (2 * h.val + g.val)).k u d = A.k u (64 * h.val + d) := by
  show A.k u (64 * ((2 * h.val + g.val) / 2) + d) = _
  rw [show (2 * h.val + g.val) / 2 = h.val by omega]

theorem head_v (A : Attn) (h g : Fin 2) (u d : ℕ) : (A.head (2 * h.val + g.val)).v u d = A.v u (64 * h.val + d) := by
  show A.v u (64 * ((2 * h.val + g.val) / 2) + d) = _
  rw [show (2 * h.val + g.val) / 2 = h.val by omega]

theorem sees_iff (c i : Fin 64) (j : Fin 192) : sees (64 * c.val + i.val) (64 * c.val + j.val) ↔ 128 ≤ 64 * c.val + j.val := by
  unfold sees
  omega

/-- The head of a column pair. -/
abbrev hd (h g : Fin 2) : Head := (attnOf P e D).head (2 * h.val + g.val)

/-- A largest entry is real where no entry is the infinity above and one is real. -/
theorem largest_real {s t u : Shape} {axes : List (Fin s.rank)} (x : FVec Ideal s .f32) (v : FVec Ideal u .f32) (r : s.ReducesTo axes t) (hu : 0 < u.numel)
    (j : t.Idx) (hx : ∀ i, x i ≠ ⊤) (hv : ∀ i, v i ≠ ⊤) (i : s.Idx) (hi : r.drop i = j) (y : ℝ) (hy : x i = (y : EReal)) :
    ∃ M : ℝ, Host.reduce FloatOps.maximumf x v r hu j = (M : EReal) := by
  rw [Host.reduce_eq_fold]
  have top : Finset.fold max (v (Shape.Idx.first hu)) x (Finset.univ.filter fun i => r.drop i = j) ≠ ⊤ :=
    ne_of_lt (Finset.fold_max_lt _ |>.mpr ⟨lt_top_iff_ne_top.mpr (hv _), fun k _ => lt_top_iff_ne_top.mpr (hx k)⟩)
  have bot : Finset.fold max (v (Shape.Idx.first hu)) x (Finset.univ.filter fun i => r.drop i = j) ≠ ⊥ :=
    ne_of_gt (lt_of_lt_of_le (hy ▸ EReal.bot_lt_coe y) (Finset.le_fold_max _ |>.mpr (Or.inr ⟨i, by simpa using hi, le_rfl⟩)))
  exact ⟨_, (EReal.coe_toReal top bot).symm⟩

theorem drop_last (c : Fin 64) (h g : Fin 2) (i : Fin 64) (l : Fin 193) :
    reducesTo_S1x64x2x2x64x193_S1x64x2x2x64_d5.drop (ix6 (0 : Fin 1) c h g i l) = (ix5 (0 : Fin 1) c h g i : S1x64x2x2x64.Idx) := by
  funext a
  match a with
  | ⟨0, _⟩ => rfl
  | ⟨1, _⟩ => rfl
  | ⟨2, _⟩ => rfl
  | ⟨3, _⟩ => rfl
  | ⟨4, _⟩ => rfl

theorem last_idx (c : Fin 64) (h g : Fin 2) (i : Fin 64) (l : Fin 193) : idx_main_v91 (ix5 (0 : Fin 1) c h g i : S1x64x2x2x64.Idx) l = ix6 (0 : Fin 1) c h g i l := by
  funext a
  match a with
  | ⟨0, _⟩ => rfl
  | ⟨1, _⟩ => rfl
  | ⟨2, _⟩ => rfl
  | ⟨3, _⟩ => rfl
  | ⟨4, _⟩ => rfl
  | ⟨5, _⟩ => rfl

section
include F

theorem dots (c : Fin 64) (h g : Fin 2) (i : Fin 64) (j : Fin 192) : val_main_v21 (F := Ideal) P (ix6 (0 : Fin 1) c h g i j)
    = ((∑ d : Fin 64, (hd P e D h g).q (64 * c.val + i.val) d.val * (hd P e D h g).k (64 * c.val + j.val) d.val : ℝ) : EReal) := by
  pointwise [val_main_v21, val_main_v20]
  simp only [q_at P e D F, k_at P e D F, ← EReal.coe_mul, coe_sum, head_q, head_k]
  congr 1
  exact Finset.sum_congr rfl fun d _ => mul_comm _ _

theorem score_at (c : Fin 64) (h g : Fin 2) (i : Fin 64) (j : Fin 192) : val_main_v66_0 (F := Ideal) P (ix6 (0 : Fin 1) c h g i j)
    = if sees (64 * c.val + i.val) (64 * c.val + j.val) then (((hd P e D h g).score (64 * c.val + i.val) (64 * c.val + j.val) : ℝ) : EReal) else ⊥ := by
  pointwise [val_main_v66_0, val_main_v52, val_main_v51, val_main_v50, val_main_v49, val_main_v48, val_main_v47, val_main_v46, val_main_v45, val_main_v23,
    val_main_v22, val_main_cst_3, val_main_call1_v2, val_main_call1_v0, val_main_cst_11]
  have k : (Ideal.ofBits FTy.f32 4286578688#32 : EReal) = ⊥ := by simp [Ideal.ofBits, Ideal.ieee]
  rw [mask_at, dots P e D F, slope_at, dist_at, show Ideal.ofBits FTy.f32 1040187392#32 = ((1 / 8 : ℝ) : EReal) from eighth_bits, ← EReal.coe_mul, ← EReal.coe_mul,
    ← EReal.coe_sub]
  by_cases s : sees (64 * c.val + i.val) (64 * c.val + j.val)
  · rw [decide_eq_true ((sees_iff c i j).mp s), if_pos s]
    have e0 : (64 * c.val + i.val : ℕ) + (128 : ℤ) - (64 * c.val + j.val : ℕ) = (i.val : ℤ) + 128 - (j.val : ℤ) := by push_cast; ring
    have e1 : Head.far (64 * c.val + i.val) (64 * c.val + j.val) = ((((i.val : ℤ) + 128 - (j.val : ℤ)).natAbs : ℕ) : ℝ) := by
      unfold Head.far
      rw [e0]
    show ((_ : ℝ) : EReal) = _
    unfold Head.score
    rw [e1]
    rfl
  · rw [decide_eq_false fun h => s ((sees_iff c i j).mpr h), if_neg s]
    exact k

theorem sink_at (c : Fin 64) (h g : Fin 2) (i : Fin 64) : val_main_v68 (F := Ideal) e (ix6 (0 : Fin 1) c h g i (0 : Fin 1))
    = (((hd P e D h g).sink : ℝ) : EReal) := by
  rw [show (hd P e D h g).sink = (attnOf P e D).sink (2 * h.val + g.val) from rfl, attnOf_sink P e D ⟨2 * h.val + g.val, by omega⟩, ← F.e]
  pointwise [val_main_v68, val_main_v67]
  exact congrArg (fun a => e (ix1 a)) (Fin.ext (show h.val * 2 + g.val = 2 * h.val + g.val by omega))

theorem entry_at (c : Fin 64) (h g : Fin 2) (i : Fin 64) (l : Fin 193) : val_main_v69 (F := Ideal) P e (ix6 (0 : Fin 1) c h g i l)
    = if k : l.val < 192 then val_main_v66_0 (F := Ideal) P (ix6 (0 : Fin 1) c h g i ⟨l.val, k⟩) else val_main_v68 (F := Ideal) e (ix6 (0 : Fin 1) c h g i (0 : Fin 1)) := by
  pointwise [val_main_v69]
  split
  · rfl
  · exact congrArg (fun a => val_main_v68 (F := Ideal) e (ix6 (0 : Fin 1) c h g i a)) (Subsingleton.elim _ _)

theorem entry_top (x : S1x64x2x2x64x193.Idx) : val_main_v69 (F := Ideal) P e x ≠ ⊤ := by
  obtain ⟨z, c, h, g, i, l, rfl⟩ : ∃ (z : Fin 1) (c : Fin 64) (h g : Fin 2) (i : Fin 64) (l : Fin 193), x = ix6 z c h g i l :=
    ⟨x 0, x 1, x 2, x 3, x 4, x 5, eq_ix6 x⟩
  obtain rfl : z = 0 := Subsingleton.elim _ _
  rw [entry_at P e D F]
  split
  · rw [score_at P e D F]; split
    · exact EReal.coe_ne_top _
    · exact bot_ne_top
  · rw [sink_at P e D F]; exact EReal.coe_ne_top _

theorem entry_sink (c : Fin 64) (h g : Fin 2) (i : Fin 64) : val_main_v69 (F := Ideal) P e (ix6 (0 : Fin 1) c h g i (Fin.last 192)) = (((hd P e D h g).sink : ℝ) : EReal) := by
  rw [entry_at P e D F, dif_neg (show ¬(Fin.last 192).val < 192 by rw [Fin.val_last]; omega)]
  exact sink_at P e D F c h g i

omit F in
theorem lowest (x : S_.Idx) : val_main_cst_12 (F := Ideal) x ≠ ⊤ := by
  rw [val_main_cst_12_apply]
  pointwise
  rw [show (Ideal.ofBits FTy.f32 0xFF800000#32 : EReal) = ⊥ by simp [Ideal.ofBits, Ideal.ieee]]
  exact bot_ne_top

theorem largest_at (c : Fin 64) (h g : Fin 2) (i : Fin 64) : ∃ M : ℝ, val_main_v70 (F := Ideal) P e (ix5 (0 : Fin 1) c h g i) = (M : EReal) :=
  largest_real (val_main_v69 (F := Ideal) P e) (val_main_cst_12 (F := Ideal)) reducesTo_S1x64x2x2x64x193_S1x64x2x2x64_d5 h_S_
    (ix5 (0 : Fin 1) c h g i) (entry_top P e D F) lowest (ix6 (0 : Fin 1) c h g i (Fin.last 192)) (drop_last c h g i (Fin.last 192)) _ (entry_sink P e D F c h g i)

theorem top_at (c : Fin 64) (h g : Fin 2) (i : Fin 64) : ∃ M : ℝ, val_main_v77 (F := Ideal) P e (ix5 (0 : Fin 1) c h g i) = (M : EReal) := by
  obtain ⟨M, hM⟩ := largest_at P e D F c h g i
  refine ⟨M, ?_⟩
  rw [val_main_v77_apply, hM]
  pointwise [val_main_v76, val_main_cst_14]
  rw [show (Ideal.ofBits FTy.f32 0xFF800000#32 : EReal) = ⊥ by simp [Ideal.ofBits, Ideal.ieee]]
  exact max_eq_right bot_le

/-- A row's exponentiated scores, up to one factor. -/
theorem chain_at (c : Fin 64) (h g : Fin 2) (i : Fin 64) : ∃ k : ℝ, k ≠ 0
    ∧ (∀ l : Fin 193, val_main_v90 (F := Ideal) P e (ix6 (0 : Fin 1) c h g i l)
        = (((if l.val < 192 then (hd P e D h g).wt (64 * c.val + i.val) (64 * c.val + l.val) else Real.exp (hd P e D h g).sink) * k : ℝ) : EReal))
    ∧ val_main_v91 (F := Ideal) P e (ix5 (0 : Fin 1) c h g i) = (((hd P e D h g).mass (64 * c.val + i.val) * k : ℝ) : EReal) := by
  obtain ⟨M, hM⟩ := top_at P e D F c h g i
  have hx : ∀ l : Fin 193, val_main_v90 (F := Ideal) P e (ix6 (0 : Fin 1) c h g i l)
        = (((if l.val < 192 then (hd P e D h g).wt (64 * c.val + i.val) (64 * c.val + l.val) else Real.exp (hd P e D h g).sink) * Real.exp (-M) : ℝ) : EReal) := fun l => by
    pointwise [val_main_v90, val_main_v89, val_main_v88, val_main_v87]
    rw [hM, entry_at P e D F]
    by_cases k : l.val < 192
    · rw [dif_pos k, if_pos k, score_at P e D F, exp_seen]; rfl
    · rw [dif_neg k, if_neg k, sink_at P e D F, exp_shift]
  refine ⟨Real.exp (-M), (Real.exp_pos _).ne', hx, ?_⟩
  rw [val_main_v91_apply, val_main_cst_20_apply]
  simp only [last_idx]
  pointwise
  simp only [hx]
  rw [coe_sum, ← Finset.sum_mul, Fin.sum_univ_castSucc, (hd P e D h g).mass_window (64 * c.val + i.val) (64 * c.val) 192 (by omega) (by omega) (by omega)]
  simp only [Fin.val_castSucc, Fin.val_last, lt_irrefl, if_false, Fin.is_lt, if_true]

theorem gv_at (c : Fin 64) (h g : Fin 2) (i : Fin 64) (j : Fin 192) : val_main_v105 (F := Ideal) P D (ix6 (0 : Fin 1) c h g i j)
    = (((hd P e D h g).gv (64 * c.val + i.val) (64 * c.val + j.val) : ℝ) : EReal) := by
  pointwise [val_main_v105]
  simp only [g_at P e D F, v_at P e D F, ← EReal.coe_mul, coe_sum]
  congr 1
  exact Finset.sum_congr rfl fun d _ => by rw [head_g, head_v]

end

end Cert.SwaReferenceIdeal.Read
end
-- ==== Proof.SwaRefC.lean ====
module

public import proofs.«01_k».proof.Proof.SwaRefB
public import proofs.«01_k».proof.Proof.Norm

@[expose] public section
set_option maxRecDepth 16384
noncomputable section
namespace Cert.SwaReferenceIdeal.Read
open Cert.SwaReferenceIdeal Cert.SwaReferenceIdeal.Gen Idealize.ShloMosaic Idealize.ShloMosaic.TcCoe Cert.Proof
open Cert.SwaKernelIdeal.Value (attnOf Finite)
variable (P : FVec Ideal S1x4096x3088 .f32) (e : FVec Ideal S4 .f32) (D : FVec Ideal S1x4096x1024 .f32) (F : Finite P e D)

/-! ### The gradient of one row -/

theorem last_idx2 (c : Fin 64) (h g : Fin 2) (i : Fin 64) (l : Fin 193) : idx_main_v112 (ix5 (0 : Fin 1) c h g i : S1x64x2x2x64.Idx) l = ix6 (0 : Fin 1) c h g i l := by
  funext a
  match a with
  | ⟨0, _⟩ => rfl
  | ⟨1, _⟩ => rfl
  | ⟨2, _⟩ => rfl
  | ⟨3, _⟩ => rfl
  | ⟨4, _⟩ => rfl
  | ⟨5, _⟩ => rfl

theorem padded_at (c : Fin 64) (h g : Fin 2) (i : Fin 64) (l : Fin 193) : val_main_v108 (F := Ideal) P D (ix6 (0 : Fin 1) c h g i l)
    = if k : l.val < 192 then val_main_v105 (F := Ideal) P D (ix6 (0 : Fin 1) c h g i ⟨l.val, k⟩) else 0 := by
  pointwise [val_main_v108, val_main_cst_22]

/-- The one entry that a sum over two axes of size one keeps. -/
theorem unit_sum (x : FVec Ideal S1x64x2x2x64x1 .f32) (z : EReal) (c : Fin 64) (h g : Fin 2) (i : Fin 64) :
    Ideal.hostReduceAdd reducesTo_S1x64x2x2x64x1_S64x2x2x64_d0_5 x z (ix4 c h g i) = z + x (ix6 (0 : Fin 1) c h g i (0 : Fin 1)) := by
  have d0 : ∀ y, (reducesTo_S1x64x2x2x64x1_S64x2x2x64_d0_5.drop y 0).val = (y 1).val := fun y => rfl
  have d1 : ∀ y, (reducesTo_S1x64x2x2x64x1_S64x2x2x64_d0_5.drop y 1).val = (y 2).val := fun y => rfl
  have d2 : ∀ y, (reducesTo_S1x64x2x2x64x1_S64x2x2x64_d0_5.drop y 2).val = (y 3).val := fun y => rfl
  have d3 : ∀ y, (reducesTo_S1x64x2x2x64x1_S64x2x2x64_d0_5.drop y 3).val = (y 4).val := fun y => rfl
  rw [reduce_listed _ (fun _ : Unit => ix6 (0 : Fin 1) c h g i (0 : Fin 1)) (fun _ _ _ => rfl) (ix4 c h g i) (fun y => ?_) x z]
  · rw [Fintype.sum_unique]
  · obtain ⟨a0, a1, a2, a3, a4, a5, rfl⟩ : ∃ (a0 : Fin 1) (a1 : Fin 64) (a2 a3 : Fin 2) (a4 : Fin 64) (a5 : Fin 1), y = ix6 a0 a1 a2 a3 a4 a5 :=
      ⟨y 0, y 1, y 2, y 3, y 4, y 5, eq_ix6 y⟩
    constructor
    · intro q
      have q0 : a1.val = c.val := (d0 (ix6 a0 a1 a2 a3 a4 a5)).symm.trans (congrArg (fun u => (u 0).val) q)
      have q1 : a2.val = h.val := (d1 (ix6 a0 a1 a2 a3 a4 a5)).symm.trans (congrArg (fun u => (u 1).val) q)
      have q2 : a3.val = g.val := (d2 (ix6 a0 a1 a2 a3 a4 a5)).symm.trans (congrArg (fun u => (u 2).val) q)
      have q3 : a4.val = i.val := (d3 (ix6 a0 a1 a2 a3 a4 a5)).symm.trans (congrArg (fun u => (u 3).val) q)
      exact ⟨(), by rw [Subsingleton.elim a0 0, Subsingleton.elim a5 0, Fin.ext q0, Fin.ext q1, Fin.ext q2, Fin.ext q3]⟩
    · rintro ⟨_, q⟩
      rw [← q]
      funext a
      match a with
      | ⟨0, _⟩ => rfl
      | ⟨1, _⟩ => rfl
      | ⟨2, _⟩ => rfl
      | ⟨3, _⟩ => rfl

section
include F

theorem prob_at (c : Fin 64) (h g : Fin 2) (i : Fin 64) (j : Fin 192) : val_main_v98 (F := Ideal) P e (ix6 (0 : Fin 1) c h g i j)
    = (((hd P e D h g).prob (64 * c.val + i.val) (64 * c.val + j.val) : ℝ) : EReal) := by
  obtain ⟨k, hk, hx, hn⟩ := chain_at P e D F c h g i
  pointwise [val_main_v98, val_main_v94, val_main_v93, val_main_v92]
  rw [hx, hn, div_coe _ (mul_ne_zero ((hd P e D h g).mass_ne _) hk), mul_div_mul_right _ _ hk, if_pos j.isLt]
  rfl

theorem back_at (c : Fin 64) (h g : Fin 2) (i : Fin 64) : (∀ j : Fin 192, val_main_v121 (F := Ideal) P e D (ix6 (0 : Fin 1) c h g i (Fin.castSucc j))
      = (((hd P e D h g).ds (64 * c.val + i.val) (64 * c.val + j.val) : ℝ) : EReal))
    ∧ val_main_v121 (F := Ideal) P e D (ix6 (0 : Fin 1) c h g i (Fin.last 192)) = (((hd P e D h g).dsink (64 * c.val + i.val) : ℝ) : EReal) := by
  obtain ⟨k, hk, hx, hn⟩ := chain_at P e D F c h g i
  have hM := (hd P e D h g).mass_ne (64 * c.val + i.val)
  have hMk := mul_ne_zero hM hk
  have ha := (hd P e D h g).avg_window (64 * c.val + i.val) (64 * c.val) 192 (by omega) (by omega) (by omega)
  have hp : ∀ l : Fin 193, val_main_v108 (F := Ideal) P D (ix6 (0 : Fin 1) c h g i l)
      = (((if l.val < 192 then (hd P e D h g).gv (64 * c.val + i.val) (64 * c.val + l.val) else 0 : ℝ)) : EReal) := fun l => by
    rw [padded_at]
    by_cases q : l.val < 192
    · rw [dif_pos q, if_pos q, gv_at P e D F]
    · rw [dif_neg q, if_neg q]; exact EReal.coe_zero.symm
  have hz : val_main_v112 (F := Ideal) P e D (ix5 (0 : Fin 1) c h g i)
      = (((hd P e D h g).avg (64 * c.val + i.val) / ((hd P e D h g).mass (64 * c.val + i.val) * k) : ℝ) : EReal) := by
    rw [val_main_v112_apply, val_main_cst_23_apply]
    simp only [last_idx2]
    pointwise [val_main_v111, val_main_v110, val_main_v109, val_main_v97, val_main_v96, val_main_v95, val_main_v92, val_main_cst_21]
    simp only [hp, hx, hn, ← EReal.coe_mul]
    rw [← EReal.coe_one, div_coe _ (mul_ne_zero hMk hMk)]
    simp only [← EReal.coe_mul]
    rw [coe_sum, Fin.sum_univ_castSucc]
    simp only [Fin.val_castSucc, Fin.val_last, lt_irrefl, if_false, Fin.is_lt, if_true, zero_mul, add_zero]
    rw [ha]
    congr 1
    have := dden_real (fun l : Fin 192 => (hd P e D h g).wt (64 * c.val + i.val) (64 * c.val + l.val)) (fun l => (hd P e D h g).gv (64 * c.val + i.val) (64 * c.val + l.val))
      _ _ hk hM
    rw [zero_sub, neg_inj] at this
    exact this
  have hl : ∀ l : Fin 193, val_main_v121 (F := Ideal) P e D (ix6 (0 : Fin 1) c h g i l)
      = ((((if l.val < 192 then (hd P e D h g).gv (64 * c.val + i.val) (64 * c.val + l.val) else 0 : ℝ) / ((hd P e D h g).mass (64 * c.val + i.val) * k)
          + -((hd P e D h g).avg (64 * c.val + i.val) / ((hd P e D h g).mass (64 * c.val + i.val) * k)))
        * ((if l.val < 192 then (hd P e D h g).wt (64 * c.val + i.val) (64 * c.val + l.val) else Real.exp (hd P e D h g).sink) * k) : ℝ) : EReal) := fun l => by
    pointwise [val_main_v121, val_main_v120, val_main_v119, val_main_v118, val_main_v117, val_main_v116, val_main_v115, val_main_v92, val_main_cst_24]
    rw [unit_sum]
    pointwise [val_main_v114, val_main_v113]
    rw [hp, hx, hn, hz, div_coe _ hMk, ← EReal.coe_neg, ← EReal.coe_add, ← EReal.coe_mul]
  refine ⟨fun j => ?_, ?_⟩
  · rw [hl, Fin.val_castSucc, if_pos j.isLt, if_pos j.isLt, ha,
      de_real (fun l : Fin 192 => (hd P e D h g).wt (64 * c.val + i.val) (64 * c.val + l.val)) (fun l => (hd P e D h g).gv (64 * c.val + i.val) (64 * c.val + l.val)) _ _ hk hM j,
      ← ha]
    rfl
  · rw [hl, Fin.val_last, if_neg (lt_irrefl _), if_neg (lt_irrefl _), zero_div, zero_add, ha, dexk_real _ _ _ _ _ hk hM, ← ha]
    rfl

end

end Cert.SwaReferenceIdeal.Read
end
-- ==== Proof.SwaRefD.lean ====
module

public import proofs.«01_k».proof.Proof.SwaRefC

@[expose] public section
set_option maxRecDepth 16384
noncomputable section
namespace Cert.SwaReferenceIdeal.Read
open Cert.SwaReferenceIdeal Cert.SwaReferenceIdeal.Gen Idealize.ShloMosaic Idealize.ShloMosaic.TcCoe Cert.Proof
open Cert.SwaKernelIdeal.Value (attnOf Finite)
variable (P : FVec Ideal S1x4096x3088 .f32) (e : FVec Ideal S4 .f32) (D : FVec Ideal S1x4096x1024 .f32) (F : Finite P e D)

/-! ### The gradients of all rows -/

theorem last_mem (l : Fin 192) (k : l.val < 193) : (⟨l.val, k⟩ : Fin 193) = Fin.castSucc l := rfl

/-- The rows and chunks of one head, summed over four axes. -/
theorem rows_sum (x : FVec Ideal S1x64x2x2x64x1 .f32) (z : EReal) (h g : Fin 2) :
    Ideal.hostReduceAdd reducesTo_S1x64x2x2x64x1_S2x2_d0_1_4_5 x z (ix2 h g) = z + ∑ k : Fin 64 × Fin 64, x (ix6 (0 : Fin 1) k.1 h g k.2 (0 : Fin 1)) := by
  have d0 : ∀ y, (reducesTo_S1x64x2x2x64x1_S2x2_d0_1_4_5.drop y 0).val = (y 2).val := fun y => rfl
  have d1 : ∀ y, (reducesTo_S1x64x2x2x64x1_S2x2_d0_1_4_5.drop y 1).val = (y 3).val := fun y => rfl
  refine reduce_listed _ (fun k : Fin 64 × Fin 64 => ix6 (0 : Fin 1) k.1 h g k.2 (0 : Fin 1)) (fun p q r => ?_) (ix2 h g) (fun y => ?_) x z
  · exact Prod.ext (congrArg (fun u => u 1) r) (congrArg (fun u => u 4) r)
  · obtain ⟨a0, a1, a2, a3, a4, a5, rfl⟩ : ∃ (a0 : Fin 1) (a1 : Fin 64) (a2 a3 : Fin 2) (a4 : Fin 64) (a5 : Fin 1), y = ix6 a0 a1 a2 a3 a4 a5 :=
      ⟨y 0, y 1, y 2, y 3, y 4, y 5, eq_ix6 y⟩
    constructor
    · intro q
      have q0 : a2.val = h.val := (d0 (ix6 a0 a1 a2 a3 a4 a5)).symm.trans (congrArg (fun u => (u 0).val) q)
      have q1 : a3.val = g.val := (d1 (ix6 a0 a1 a2 a3 a4 a5)).symm.trans (congrArg (fun u => (u 1).val) q)
      exact ⟨(a1, a4), by rw [Subsingleton.elim a0 0, Subsingleton.elim a5 0, Fin.ext q0, Fin.ext q1]⟩
    · rintro ⟨_, q⟩
      rw [← q]
      funext a
      match a with
      | ⟨0, _⟩ => rfl
      | ⟨1, _⟩ => rfl

theorem pick (S : ℕ → ℝ) (C k : ℕ) : ∑ c : Fin 64, (if c.val + k = C then S c.val else 0) = if k ≤ C ∧ C - k < 64 then S (C - k) else 0 := by
  by_cases h : k ≤ C ∧ C - k < 64
  · rw [if_pos h, Finset.sum_eq_single (⟨C - k, h.2⟩ : Fin 64) (fun b _ hb => if_neg fun e => hb (Fin.ext (show b.val = C - k by omega)))
      (fun hn => absurd (Finset.mem_univ _) hn), if_pos (show C - k + k = C by omega)]
  · rw [if_neg h]
    exact Finset.sum_eq_zero fun b _ => if_neg fun e => h ⟨by omega, by omega⟩

/-- A key is seen from three chunks of rows. -/
theorem three_chunks (f : ℕ → ℕ → ℝ) (f0 : ∀ t u, ¬sees t u → f t u = 0) (u : ℕ) (h0 : 128 ≤ u) (h1 : u < 4224) :
    ∑ t ∈ Finset.range 4096, f t u
      = ((if 2 ≤ u / 64 ∧ u / 64 - 2 < 64 then ∑ i : Fin 64, f (64 * (u / 64 - 2) + i.val) (64 * (u / 64 - 2) + (128 + u % 64)) else 0)
        + (if 1 ≤ u / 64 ∧ u / 64 - 1 < 64 then ∑ i : Fin 64, f (64 * (u / 64 - 1) + i.val) (64 * (u / 64 - 1) + (64 + u % 64)) else 0))
        + (if 0 ≤ u / 64 ∧ u / 64 - 0 < 64 then ∑ i : Fin 64, f (64 * (u / 64 - 0) + i.val) (64 * (u / 64 - 0) + u % 64) else 0) := by
  have e2 := pick (fun c => ∑ i : Fin 64, f (64 * c + i.val) (64 * c + (128 + u % 64))) (u / 64) 2
  have e1 := pick (fun c => ∑ i : Fin 64, f (64 * c + i.val) (64 * c + (64 + u % 64))) (u / 64) 1
  have e0 := pick (fun c => ∑ i : Fin 64, f (64 * c + i.val) (64 * c + u % 64)) (u / 64) 0
  rw [← e2, ← e1, ← e0, ← Finset.sum_add_distrib, ← Finset.sum_add_distrib, show (4096 : ℕ) = 64 * 64 by norm_num, sum_tiles]
  refine Finset.sum_congr rfl fun c _ => ?_
  by_cases k2 : c.val + 2 = u / 64
  · rw [if_pos k2, if_neg (by omega), if_neg (by omega), add_zero, add_zero, show 64 * c.val + (128 + u % 64) = u by omega]
  by_cases k1 : c.val + 1 = u / 64
  · rw [if_neg k2, if_pos k1, if_neg (by omega), add_zero, zero_add, show 64 * c.val + (64 + u % 64) = u by omega]
  by_cases k0 : c.val + 0 = u / 64
  · rw [if_neg k2, if_neg k1, if_pos k0, add_zero, zero_add, show 64 * c.val + u % 64 = u by omega]
  rw [if_neg k2, if_neg k1, if_neg k0, add_zero, add_zero]
  refine Finset.sum_eq_zero fun i _ => f0 _ _ fun s => ?_
  have hi := i.isLt
  obtain ⟨s0, s1, _⟩ := s
  omega

theorem part (p q : Prop) [Decidable p] [Decidable q] (hpq : p ↔ q) (b : p → EReal) (y : ℝ) (hb : ∀ h, b h = (y : EReal)) :
    (if h : p then b h else 0) = ((if q then y else 0 : ℝ) : EReal) := by
  by_cases h : p
  · rw [dif_pos h, if_pos (hpq.mp h), hb]
  · rw [dif_neg h, if_neg fun k => h (hpq.mpr k), EReal.coe_zero]

/-- A row's part of the gradient to a key's entry, over the two heads that share the key. -/
def dkTerm (h : Fin 2) (d t u : ℕ) : ℝ := ∑ g : Fin 2, (hd P e D h g).ds t u * (1 / 8) * (hd P e D h g).q t d

/-- A row's part of the gradient to a value's entry. -/
def dvTerm (h : Fin 2) (d t u : ℕ) : ℝ := ∑ g : Fin 2, (hd P e D h g).prob t u * (hd P e D h g).g t d

theorem dkTerm_unseen (h : Fin 2) (d t u : ℕ) (z : ¬sees t u) : dkTerm P e D h d t u = 0 :=
  Finset.sum_eq_zero fun g _ => by rw [Head.ds_unseen _ z, zero_mul, zero_mul]

theorem dvTerm_unseen (h : Fin 2) (d t u : ℕ) (z : ¬sees t u) : dvTerm P e D h d t u = 0 :=
  Finset.sum_eq_zero fun g _ => by rw [Head.prob_unseen _ z, zero_mul]

section
include F

theorem ds_at (c : Fin 64) (h g : Fin 2) (i : Fin 64) (j : Fin 192) : val_main_v130 (F := Ideal) P e D (ix6 (0 : Fin 1) c h j i g)
    = (((hd P e D h g).ds (64 * c.val + i.val) (64 * c.val + j.val) * (1 / 8) : ℝ) : EReal) := by
  have b := (back_at P e D F c h g i).1 j
  pointwise [val_main_v130, val_main_v129, val_main_v128, val_main_v127, val_main_call2_v0, val_main_call2_cst, val_main_cst_26, val_main_v122]
  rw [mask_at, show Ideal.ofBits FTy.f32 1040187392#32 = ((1 / 8 : ℝ) : EReal) from eighth_bits, EReal.coe_mul, last_mem, b]
  by_cases s : sees (64 * c.val + i.val) (64 * c.val + j.val)
  · rw [decide_eq_true ((sees_iff c i j).mp s)]; rfl
  · rw [decide_eq_false fun h => s ((sees_iff c i j).mpr h), (hd P e D h g).ds_unseen s, EReal.coe_zero, zero_mul]
    rfl

theorem dq_at (c : Fin 64) (h g : Fin 2) (i d : Fin 64) : val_main_v131 (F := Ideal) P e D (ix6 (0 : Fin 1) c h i g d)
    = (((hd P e D h g).dq (64 * c.val + i.val) d.val : ℝ) : EReal) := by
  pointwise [val_main_v131]
  simp only [ds_at P e D F, k_at P e D F, ← EReal.coe_mul, coe_sum]
  congr 1
  rw [(hd P e D h g).dq_window (64 * c.val + i.val) (64 * c.val) 192 (by omega) (by omega) (by omega)]
  exact Finset.sum_congr rfl fun j _ => by rw [head_k]

theorem dqRow (n : Fin 4096) (l : Fin 256) : val_main_v159 (F := Ideal) P e D (ix2 n l) = (((attnOf P e D).dq n.val l.val : ℝ) : EReal) := by
  pointwise [val_main_v159, val_main_v158, val_main_v157, val_main_v132]
  refine (dq_at P e D F ⟨n.val / 64, by omega⟩ ⟨l.val / 128, by omega⟩ ⟨l.val / 64 % 2, by omega⟩ ⟨n.val % 64, by omega⟩ ⟨l.val % 64, by omega⟩).trans ?_
  show (((attnOf P e D).head (2 * (l.val / 128) + l.val / 64 % 2)).dq (64 * (n.val / 64) + n.val % 64) (l.val % 64) : EReal) = (((attnOf P e D).head (l.val / 64)).dq n.val (l.val % 64) : ℝ)
  rw [show 2 * (l.val / 128) + l.val / 64 % 2 = l.val / 64 by omega, show 64 * (n.val / 64) + n.val % 64 = n.val by omega]

/-- One chunk's part of the gradient to a key of its band. -/
theorem dkBand (c : Fin 64) (h : Fin 2) (j : Fin 192) (d : Fin 64) : val_main_v134 (F := Ideal) P e D (ix5 (0 : Fin 1) c j h d)
    = ((∑ i : Fin 64, dkTerm P e D h d.val (64 * c.val + i.val) (64 * c.val + j.val) : ℝ) : EReal) := by
  pointwise [val_main_v134, val_main_v133]
  unfold dkTerm
  simp only [ds_at P e D F, q_at P e D F, ← EReal.coe_mul, coe_sum, head_q]

theorem dvBand (c : Fin 64) (h : Fin 2) (j : Fin 192) (d : Fin 64) : val_main_v107 (F := Ideal) P e D (ix5 (0 : Fin 1) c j h d)
    = ((∑ i : Fin 64, dvTerm P e D h d.val (64 * c.val + i.val) (64 * c.val + j.val) : ℝ) : EReal) := by
  pointwise [val_main_v107, val_main_v106]
  unfold dvTerm
  simp only [g_at P e D F, prob_at P e D F, ← EReal.coe_mul, coe_sum, head_g]
  congr 1
  rw [Finset.sum_comm]
  exact Finset.sum_congr rfl fun i _ => Finset.sum_congr rfl fun g _ => mul_comm _ _

omit F in
theorem dk_chunks (n : Fin 4096) (l : Fin 128) : (((attnOf P e D).dk (n.val + 128) l.val : ℝ) : EReal)
    = (((if 2 ≤ (128 + n.val) / 64 ∧ (128 + n.val) / 64 - 2 < 64 then
          ∑ i : Fin 64, dkTerm P e D ⟨l.val / 64, by omega⟩ (l.val % 64) (64 * ((128 + n.val) / 64 - 2) + i.val) (64 * ((128 + n.val) / 64 - 2) + (128 + (128 + n.val) % 64)) else 0 : ℝ) : EReal)
        + ((if 1 ≤ (128 + n.val) / 64 ∧ (128 + n.val) / 64 - 1 < 64 then
          ∑ i : Fin 64, dkTerm P e D ⟨l.val / 64, by omega⟩ (l.val % 64) (64 * ((128 + n.val) / 64 - 1) + i.val) (64 * ((128 + n.val) / 64 - 1) + (64 + (128 + n.val) % 64)) else 0 : ℝ) : EReal))
        + ((if 0 ≤ (128 + n.val) / 64 ∧ (128 + n.val) / 64 - 0 < 64 then
          ∑ i : Fin 64, dkTerm P e D ⟨l.val / 64, by omega⟩ (l.val % 64) (64 * ((128 + n.val) / 64 - 0) + i.val) (64 * ((128 + n.val) / 64 - 0) + (128 + n.val) % 64) else 0 : ℝ) : EReal) := by
  have r : (attnOf P e D).dk (n.val + 128) l.val = ∑ t ∈ Finset.range 4096, dkTerm P e D ⟨l.val / 64, by omega⟩ (l.val % 64) t (128 + n.val) := by
    unfold dkTerm
    simp only [Fin.sum_univ_two]
    rw [Finset.sum_add_distrib, Nat.add_comm n.val]
    rfl
  have h := three_chunks (dkTerm P e D ⟨l.val / 64, by omega⟩ (l.val % 64)) (dkTerm_unseen P e D _ _) (128 + n.val) (by omega) (by omega)
  rw [← EReal.coe_add, ← EReal.coe_add]
  exact congrArg (fun x : ℝ => (x : EReal)) (r.trans h)

theorem dkRow (n : Fin 4096) (l : Fin 128) : val_main_v161 (F := Ideal) P e D (ix2 n l) = (((attnOf P e D).dk (n.val + 128) l.val : ℝ) : EReal) := by
  pointwise [val_main_v161, val_main_v160, val_main_v156, val_main_v154, val_main_v150, val_main_v149, val_main_v148, val_main_v147, val_main_v146,
    val_main_v145, val_main_v144, val_main_v143, val_main_cst_30, val_main_cst_31, val_main_cst_32]
  refine Eq.trans ?_ (dk_chunks P e D n l).symm
  refine congrArg₂ (· + ·) (congrArg₂ (· + ·) (part _ _ (by omega) _ _ fun k => ?_) (part _ _ (by omega) _ _ fun k => ?_)) (part _ _ (by omega) _ _ fun k => ?_)
  · exact dkBand P e D F ⟨(128 + n.val) / 64 - 2, by omega⟩ ⟨l.val / 64, by omega⟩ ⟨128 + (128 + n.val) % 64, by omega⟩ ⟨l.val % 64, by omega⟩
  · exact dkBand P e D F ⟨(128 + n.val) / 64 - 1, by omega⟩ ⟨l.val / 64, by omega⟩ ⟨64 + (128 + n.val) % 64, by omega⟩ ⟨l.val % 64, by omega⟩
  · exact dkBand P e D F ⟨(128 + n.val) / 64, by omega⟩ ⟨l.val / 64, by omega⟩ ⟨(128 + n.val) % 64, by omega⟩ ⟨l.val % 64, by omega⟩

omit F in
theorem dv_chunks (n : Fin 4096) (l : Fin 128) : (((attnOf P e D).dv (n.val + 128) l.val : ℝ) : EReal)
    = (((if 2 ≤ (128 + n.val) / 64 ∧ (128 + n.val) / 64 - 2 < 64 then
          ∑ i : Fin 64, dvTerm P e D ⟨l.val / 64, by omega⟩ (l.val % 64) (64 * ((128 + n.val) / 64 - 2) + i.val) (64 * ((128 + n.val) / 64 - 2) + (128 + (128 + n.val) % 64)) else 0 : ℝ) : EReal)
        + ((if 1 ≤ (128 + n.val) / 64 ∧ (128 + n.val) / 64 - 1 < 64 then
          ∑ i : Fin 64, dvTerm P e D ⟨l.val / 64, by omega⟩ (l.val % 64) (64 * ((128 + n.val) / 64 - 1) + i.val) (64 * ((128 + n.val) / 64 - 1) + (64 + (128 + n.val) % 64)) else 0 : ℝ) : EReal))
        + ((if 0 ≤ (128 + n.val) / 64 ∧ (128 + n.val) / 64 - 0 < 64 then
          ∑ i : Fin 64, dvTerm P e D ⟨l.val / 64, by omega⟩ (l.val % 64) (64 * ((128 + n.val) / 64 - 0) + i.val) (64 * ((128 + n.val) / 64 - 0) + (128 + n.val) % 64) else 0 : ℝ) : EReal) := by
  have r : (attnOf P e D).dv (n.val + 128) l.val = ∑ t ∈ Finset.range 4096, dvTerm P e D ⟨l.val / 64, by omega⟩ (l.val % 64) t (128 + n.val) := by
    unfold dvTerm
    simp only [Fin.sum_univ_two]
    rw [Finset.sum_add_distrib, Nat.add_comm n.val]
    rfl
  have h := three_chunks (dvTerm P e D ⟨l.val / 64, by omega⟩ (l.val % 64)) (dvTerm_unseen P e D _ _) (128 + n.val) (by omega) (by omega)
  rw [← EReal.coe_add, ← EReal.coe_add]
  exact congrArg (fun x : ℝ => (x : EReal)) (r.trans h)

theorem dvRow (n : Fin 4096) (l : Fin 128) : val_main_v163 (F := Ideal) P e D (ix2 n l) = (((attnOf P e D).dv (n.val + 128) l.val : ℝ) : EReal) := by
  pointwise [val_main_v163, val_main_v162, val_main_v153, val_main_v151, val_main_v142, val_main_v141, val_main_v140, val_main_v139, val_main_v138,
    val_main_v137, val_main_v136, val_main_v135, val_main_cst_27, val_main_cst_28, val_main_cst_29]
  refine Eq.trans ?_ (dv_chunks P e D n l).symm
  refine congrArg₂ (· + ·) (congrArg₂ (· + ·) (part _ _ (by omega) _ _ fun k => ?_) (part _ _ (by omega) _ _ fun k => ?_)) (part _ _ (by omega) _ _ fun k => ?_)
  · exact dvBand P e D F ⟨(128 + n.val) / 64 - 2, by omega⟩ ⟨l.val / 64, by omega⟩ ⟨128 + (128 + n.val) % 64, by omega⟩ ⟨l.val % 64, by omega⟩
  · exact dvBand P e D F ⟨(128 + n.val) / 64 - 1, by omega⟩ ⟨l.val / 64, by omega⟩ ⟨64 + (128 + n.val) % 64, by omega⟩ ⟨l.val % 64, by omega⟩
  · exact dvBand P e D F ⟨(128 + n.val) / 64, by omega⟩ ⟨l.val / 64, by omega⟩ ⟨(128 + n.val) % 64, by omega⟩ ⟨l.val % 64, by omega⟩

theorem dsink_at (h g : Fin 2) : val_main_v124 (F := Ideal) P e D (ix2 h g) = (((attnOf P e D).dsink (2 * h.val + g.val) : ℝ) : EReal) := by
  pointwise [val_main_v124, val_main_cst_25]
  rw [rows_sum, zero_add]
  have b : ∀ c i : Fin 64, val_main_v123 (F := Ideal) P e D (ix6 (0 : Fin 1) c h g i (0 : Fin 1)) = (((hd P e D h g).dsink (64 * c.val + i.val) : ℝ) : EReal) := fun c i => by
    refine Eq.trans ?_ (back_at P e D F c h g i).2
    pointwise [val_main_v123]
    rfl
  simp only [b]
  rw [coe_sum, Fintype.sum_prod_type]
  congr 1
  exact (sum_tiles _ 64 64).symm

theorem dsRow (l : Fin 128) : val_main_v166 (F := Ideal) P e D (ix2 (0 : Fin 1) l)
    = (((if l.val < 4 then (attnOf P e D).dsink l.val else 0 : ℝ)) : EReal) := by
  pointwise [val_main_v166, val_main_v165, val_main_v164, val_main_cst_33, val_main_v126, val_main_v125]
  by_cases k : l.val < 4
  · rw [dif_pos k, if_pos k]
    refine (dsink_at P e D F ⟨l.val / 2, by omega⟩ ⟨l.val % 2, by omega⟩).trans ?_
    show (((attnOf P e D).dsink (2 * (l.val / 2) + l.val % 2) : ℝ) : EReal) = _
    rw [show 2 * (l.val / 2) + l.val % 2 = l.val by omega]
  · rw [dif_neg k, if_neg k]
    exact EReal.coe_zero.symm

end

end Cert.SwaReferenceIdeal.Read
end
-- ==== Proof.SwaStep.lean ====
module

public import proofs.«01_k».proof.Proof.Gen.SwaKernelIdeal.Value
public import proofs.«01_k».proof.Proof.SwaBlock
public import Idealize.ShloMosaic.Lib.Pipeline.ValueKit
public import Idealize.ShloMosaic.Lib.Pipeline.ReadBack
public import Idealize.ShloMosaic.Lib.VecWindow
public import Idealize.ShloMosaic.Lib.Pointwise
public import Idealize.ShloMosaic.Lib.StableHlo.RunRead

@[expose] public section
set_option maxRecDepth 16384
noncomputable section
namespace Cert.SwaKernelIdeal.Value
open Cert.SwaKernelIdeal Cert.SwaKernelIdeal.Gen Idealize.ShloMosaic Idealize.ShloMosaic.TcCoe Idealize.SL.Sem Cert.Proof
open Idealize.ShloMosaic.Pipeline (Dat)
variable (m : (ℓ : Loc nD τ sig) → Buf (Elt Ideal) ℓ)

/-! ## What one block of rows leaves -/

section
variable (c : Dev nD) (t : Fin cfg0.N)

/-- The keys, the values and the three running sums after point `n`. -/
abbrev keysAt (n : ℕ) (h : n < cfg0.N) : FVec Ideal S4224x128 .f32 := (outsAt0 m c n h).2.2.2.2.1
abbrev valsAt (n : ℕ) (h : n < cfg0.N) : FVec Ideal S4224x128 .f32 := (outsAt0 m c n h).2.2.2.2.2.1
abbrev dkAt (n : ℕ) (h : n < cfg0.N) : FVec Ideal S4224x128 .f32 := (outsAt0 m c n h).2.2.2.2.2.2.1
abbrev dvAt (n : ℕ) (h : n < cfg0.N) : FVec Ideal S4224x128 .f32 := (outsAt0 m c n h).2.2.2.2.2.2.2
abbrev dsAt (n : ℕ) (h : n < cfg0.N) : FVec Ideal S1x128 .f32 := (outsAt0 m c n h).2.2.2.1

abbrev qB : FVec Ideal S256x256 .f32 := k0_pay14 (iblk m c 0 t)
abbrev eB : FVec Ideal S1x128 .f32 := k0_pay15 (iblk m c 3 t)
abbrev gB : FVec Ideal S256x256 .f32 := k0_pay103 (iblk m c 4 t)
abbrev kB : FVec Ideal S384x128 .f32 := windowOf (keysAt m c t.val t.isLt) (grid0.coords t)
abbrev vB : FVec Ideal S384x128 .f32 := windowOf (valsAt m c t.val t.isLt) (grid0.coords t)

/-- Rows written over a window of an array. -/
abbrev putAt (X : FVec Ideal S4224x128 .f32) (i : grid0.Coords) (w : FVec Ideal S384x128 .f32) : FVec Ideal S4224x128 .f32 :=
  VecWindow.put X (k0_off1 i) S384x128.size w

/-- All rows but the first 128. -/
def below (X : FVec Ideal S4224x128 .f32) : FVec Ideal S4096x128 .f32 := fun x =>
  X ((Rect.unit (s := S4224x128) ![128, 0] S4096x128.size inb_S4224x128_S4096x128_128_0).idx x)

/-- Rows of zeros and below them the rows of a block. -/
def padded (z : FVec Ideal S128x128 .f32) (w : FVec Ideal S4096x128 .f32) : FVec Ideal S4224x128 .f32 := fun x =>
  if h : 128 ≤ (x 0).val then w (ix2 ⟨(x 0).val - 128, by have := (x 0).isLt; change (x 0).val < 4224 at this; omega⟩ (x 1)) else z (ix2 ⟨(x 0).val, by omega⟩ (x 1))

theorem canon_padded (z : FVec Ideal S128x128 .f32) (w : FVec Ideal S4096x128 .f32) :
    View.canon [(⟨Rect.unit ![128, 0] ![4096, 128] inb_S4224x128_S4096x128_128_0, w⟩ : View.Piece (Elt Ideal) S4224x128 .f32), ⟨Rect.unit ![0, 0] ![128, 128] inb_S4224x128_S128x128_0_0, z⟩]
      = padded z w := by
  funext x
  unfold padded
  split
  · next h =>
    have e : x = (Rect.unit ![128, 0] ![4096, 128] inb_S4224x128_S4096x128_128_0).emb (ix2 ⟨(x 0).val - 128, by have := (x 0).isLt; change (x 0).val < 4224 at this; omega⟩ (x 1)) := by
      funext a; apply Fin.ext
      match a with
      | 0 => show (x 0).val = 128 + 1 * ((x 0).val - 128); omega
      | 1 => show (x 1).val = 0 + 1 * (x 1).val; omega
    refine (congrArg _ e).trans ?_
    exact View.canon_cons_emb _ _ _ _
  · next h =>
    rw [View.canon_cons_of_not_mem]
    · have e : x = (Rect.unit ![0, 0] ![128, 128] inb_S4224x128_S128x128_0_0).emb (ix2 ⟨(x 0).val, by omega⟩ (x 1)) := by
        funext a; apply Fin.ext
        match a with
        | 0 => show (x 0).val = 0 + 1 * (x 0).val; omega
        | 1 => show (x 1).val = 0 + 1 * (x 1).val; omega
      refine (congrArg _ e).trans ?_
      exact View.canon_cons_emb _ _ _ _
    · intro hm
      obtain ⟨y, he⟩ := (Rect.unit (s := S4224x128) ![128, 0] ![4096, 128] inb_S4224x128_S4096x128_128_0).exists_idx_of_mem hm
      have h0 := congrArg (fun z : S4224x128.Idx => (z 0).val) he
      change 128 + 1 * (y 0).val = (x 0).val at h0
      omega

theorem canon_putAt (i : grid0.Coords) (Z : FVec Ideal S4224x128 .f32) (w : FVec Ideal S384x128 .f32) :
    View.canon [(⟨Rect.unit (k0_off1 i) ![384, 128] (k0_off1_inb i), w⟩ : View.Piece (Elt Ideal) S4224x128 .f32), ⟨Rect.unit ![0, 0] ![4224, 128] inb_S4224x128_S4224x128_0_0, Z⟩]
      = putAt Z i w := by
  rw [← View.read_writes_junk_eq_canon (View.whole cc0_scratch2)]
  rw [View.read_writes_cons_put _ _ _ _ _ rfl]
  exact congrArg (fun X => putAt X i w) (View.read_writes_full _ _ _ _ _)

theorem keys_A (h0 : t.val % 16 = 0) (h1 : ¬t.val % 16 = 15) : keysAt m c t.val t.isLt = padded k0_pay7 (k0_pay9 (iblk m c 1 t)) := by
  unfold keysAt
  rw [outsAt0_A m c t h0 h1]; frame_out
  exact canon_padded _ _

theorem vals_A (h0 : t.val % 16 = 0) (h1 : ¬t.val % 16 = 15) : valsAt m c t.val t.isLt = padded k0_pay8 (k0_pay10 (iblk m c 2 t)) := by
  unfold valsAt
  rw [outsAt0_A m c t h0 h1]; frame_out
  exact canon_padded _ _

theorem keys_B (h0 : ¬t.val % 16 = 0) (h1 : ¬t.val % 16 = 15) : keysAt m c t.val t.isLt = keysAt m c (t.val - 1) (by omega) := by
  unfold keysAt
  rw [outsAt0_B m c t h0 h1]; frame_out; rfl

theorem keys_C (h0 : ¬t.val % 16 = 0) (h1 : t.val % 16 = 15) : keysAt m c t.val t.isLt = keysAt m c (t.val - 1) (by omega) := by
  unfold keysAt
  rw [outsAt0_C m c t h0 h1]; frame_out; rfl

theorem vals_B (h0 : ¬t.val % 16 = 0) (h1 : ¬t.val % 16 = 15) : valsAt m c t.val t.isLt = valsAt m c (t.val - 1) (by omega) := by
  unfold valsAt
  rw [outsAt0_B m c t h0 h1]; frame_out; rfl

theorem vals_C (h0 : ¬t.val % 16 = 0) (h1 : t.val % 16 = 15) : valsAt m c t.val t.isLt = valsAt m c (t.val - 1) (by omega) := by
  unfold valsAt
  rw [outsAt0_C m c t h0 h1]; frame_out; rfl

theorem dq_A (h0 : t.val % 16 = 0) (h1 : ¬t.val % 16 = 15) :
    (outsAt0 m c t.val t.isLt).1 = dqBlock (grid0.coords t) (qB m c t) (kB m c t) (vB m c t) (eB m c t) (gB m c t) := by
  unfold kB vB keysAt valsAt
  rw [outsAt0_A m c t h0 h1]; frame_out
  generalize View.canon [(⟨Rect.unit ![128, 0] ![4096, 128] inb_S4224x128_S4096x128_128_0, k0_pay9 (iblk m c 1 t)⟩ : View.Piece (Elt Ideal) S4224x128 .f32),
    ⟨Rect.unit ![0, 0] ![128, 128] inb_S4224x128_S128x128_0_0, k0_pay7 (F := Ideal)⟩] = K
  generalize View.canon [(⟨Rect.unit ![128, 0] ![4096, 128] inb_S4224x128_S4096x128_128_0, k0_pay10 (iblk m c 2 t)⟩ : View.Piece (Elt Ideal) S4224x128 .f32),
    ⟨Rect.unit ![0, 0] ![128, 128] inb_S4224x128_S128x128_0_0, k0_pay8 (F := Ideal)⟩] = V
  rfl

theorem dq_B (h0 : ¬t.val % 16 = 0) (h1 : ¬t.val % 16 = 15) :
    (outsAt0 m c t.val t.isLt).1 = dqBlock (grid0.coords t) (qB m c t) (kB m c t) (vB m c t) (eB m c t) (gB m c t) := by
  unfold kB vB
  rw [keys_B m c t h0 h1, vals_B m c t h0 h1, outsAt0_B m c t h0 h1]; frame_out; simp only [read_unread_whole]; rfl

theorem dq_C (h0 : ¬t.val % 16 = 0) (h1 : t.val % 16 = 15) :
    (outsAt0 m c t.val t.isLt).1 = dqBlock (grid0.coords t) (qB m c t) (kB m c t) (vB m c t) (eB m c t) (gB m c t) := by
  unfold kB vB
  rw [keys_C m c t h0 h1, vals_C m c t h0 h1, outsAt0_C m c t h0 h1]; frame_out; simp only [read_unread_whole]; rfl

theorem dk_A (h0 : t.val % 16 = 0) (h1 : ¬t.val % 16 = 15) :
    dkAt m c t.val t.isLt = putAt k0_pay11 (grid0.coords t) (k0_pay2 (dkBlock (grid0.coords t) (qB m c t) (kB m c t) (vB m c t) (eB m c t) (gB m c t))
      (windowOf k0_pay11 (grid0.coords t))) := by
  unfold kB vB keysAt valsAt dkAt
  rw [outsAt0_A m c t h0 h1]; frame_out
  refine (canon_putAt _ _ _).trans ?_
  generalize View.canon [(⟨Rect.unit ![128, 0] ![4096, 128] inb_S4224x128_S4096x128_128_0, k0_pay9 (iblk m c 1 t)⟩ : View.Piece (Elt Ideal) S4224x128 .f32),
    ⟨Rect.unit ![0, 0] ![128, 128] inb_S4224x128_S128x128_0_0, k0_pay7 (F := Ideal)⟩] = K
  generalize View.canon [(⟨Rect.unit ![128, 0] ![4096, 128] inb_S4224x128_S4096x128_128_0, k0_pay10 (iblk m c 2 t)⟩ : View.Piece (Elt Ideal) S4224x128 .f32),
    ⟨Rect.unit ![0, 0] ![128, 128] inb_S4224x128_S128x128_0_0, k0_pay8 (F := Ideal)⟩] = V
  rfl

theorem dk_B (h0 : ¬t.val % 16 = 0) (h1 : ¬t.val % 16 = 15) :
    dkAt m c t.val t.isLt = putAt (dkAt m c (t.val - 1) (by omega)) (grid0.coords t)
      (k0_pay2 (dkBlock (grid0.coords t) (qB m c t) (kB m c t) (vB m c t) (eB m c t) (gB m c t)) (windowOf (dkAt m c (t.val - 1) (by omega)) (grid0.coords t))) := by
  unfold kB vB
  rw [keys_B m c t h0 h1, vals_B m c t h0 h1]
  unfold dkAt
  rw [outsAt0_B m c t h0 h1]; frame_out
  rw [View.read_writes_cons_put _ _ _ _ _ rfl]
  simp only [View.writes_nil, read_unread_whole]
  rfl

theorem dk_C (h0 : ¬t.val % 16 = 0) (h1 : t.val % 16 = 15) :
    (outsAt0 m c t.val t.isLt).2.1 = k0_pay5 (F := Ideal) (below (putAt (dkAt m c (t.val - 1) (by omega)) (grid0.coords t)
      (k0_pay2 (dkBlock (grid0.coords t) (qB m c t) (kB m c t) (vB m c t) (eB m c t) (gB m c t)) (windowOf (dkAt m c (t.val - 1) (by omega)) (grid0.coords t))))) := by
  unfold kB vB
  rw [keys_C m c t h0 h1, vals_C m c t h0 h1]
  rw [outsAt0_C m c t h0 h1]; frame_out
  rw [View.read_writes_cons_put _ _ _ _ _ rfl]
  simp only [View.writes_nil, read_unread_whole]
  rfl

theorem dv_A (h0 : t.val % 16 = 0) (h1 : ¬t.val % 16 = 15) :
    dvAt m c t.val t.isLt = putAt k0_pay12 (grid0.coords t) (k0_pay3 (dvBlock (grid0.coords t) (qB m c t) (kB m c t) (vB m c t) (eB m c t) (gB m c t))
      (windowOf k0_pay12 (grid0.coords t))) := by
  unfold kB vB keysAt valsAt dvAt
  rw [outsAt0_A m c t h0 h1]; frame_out
  refine (canon_putAt _ _ _).trans ?_
  generalize View.canon [(⟨Rect.unit ![128, 0] ![4096, 128] inb_S4224x128_S4096x128_128_0, k0_pay9 (iblk m c 1 t)⟩ : View.Piece (Elt Ideal) S4224x128 .f32),
    ⟨Rect.unit ![0, 0] ![128, 128] inb_S4224x128_S128x128_0_0, k0_pay7 (F := Ideal)⟩] = K
  generalize View.canon [(⟨Rect.unit ![128, 0] ![4096, 128] inb_S4224x128_S4096x128_128_0, k0_pay10 (iblk m c 2 t)⟩ : View.Piece (Elt Ideal) S4224x128 .f32),
    ⟨Rect.unit ![0, 0] ![128, 128] inb_S4224x128_S128x128_0_0, k0_pay8 (F := Ideal)⟩] = V
  rfl

theorem dv_B (h0 : ¬t.val % 16 = 0) (h1 : ¬t.val % 16 = 15) :
    dvAt m c t.val t.isLt = putAt (dvAt m c (t.val - 1) (by omega)) (grid0.coords t)
      (k0_pay3 (dvBlock (grid0.coords t) (qB m c t) (kB m c t) (vB m c t) (eB m c t) (gB m c t)) (windowOf (dvAt m c (t.val - 1) (by omega)) (grid0.coords t))) := by
  unfold kB vB
  rw [keys_B m c t h0 h1, vals_B m c t h0 h1]
  unfold dvAt
  rw [outsAt0_B m c t h0 h1]; frame_out
  rw [View.read_writes_cons_put _ _ _ _ _ rfl]
  simp only [View.writes_nil, read_unread_whole]
  rfl

theorem dv_C (h0 : ¬t.val % 16 = 0) (h1 : t.val % 16 = 15) :
    (outsAt0 m c t.val t.isLt).2.2.1 = k0_pay6 (F := Ideal) (below (putAt (dvAt m c (t.val - 1) (by omega)) (grid0.coords t)
      (k0_pay3 (dvBlock (grid0.coords t) (qB m c t) (kB m c t) (vB m c t) (eB m c t) (gB m c t)) (windowOf (dvAt m c (t.val - 1) (by omega)) (grid0.coords t))))) := by
  unfold kB vB
  rw [keys_C m c t h0 h1, vals_C m c t h0 h1]
  rw [outsAt0_C m c t h0 h1]; frame_out
  rw [View.read_writes_cons_put _ _ _ _ _ rfl]
  simp only [View.writes_nil, read_unread_whole]
  rfl

theorem ds_A (h0 : t.val % 16 = 0) (h1 : ¬t.val % 16 = 15) :
    dsAt m c t.val t.isLt = k0_pay4 (sinkBlock (grid0.coords t) (qB m c t) (kB m c t) (vB m c t) (eB m c t) (gB m c t)) (k0_pay13 (F := Ideal)) := by
  unfold kB vB keysAt valsAt dsAt
  rw [outsAt0_A m c t h0 h1]; frame_out
  generalize View.canon [(⟨Rect.unit ![128, 0] ![4096, 128] inb_S4224x128_S4096x128_128_0, k0_pay9 (iblk m c 1 t)⟩ : View.Piece (Elt Ideal) S4224x128 .f32),
    ⟨Rect.unit ![0, 0] ![128, 128] inb_S4224x128_S128x128_0_0, k0_pay7 (F := Ideal)⟩] = K
  generalize View.canon [(⟨Rect.unit ![128, 0] ![4096, 128] inb_S4224x128_S4096x128_128_0, k0_pay10 (iblk m c 2 t)⟩ : View.Piece (Elt Ideal) S4224x128 .f32),
    ⟨Rect.unit ![0, 0] ![128, 128] inb_S4224x128_S128x128_0_0, k0_pay8 (F := Ideal)⟩] = V
  rfl

theorem ds_B (h0 : ¬t.val % 16 = 0) (h1 : ¬t.val % 16 = 15) :
    dsAt m c t.val t.isLt = k0_pay4 (sinkBlock (grid0.coords t) (qB m c t) (kB m c t) (vB m c t) (eB m c t) (gB m c t)) (dsAt m c (t.val - 1) (by omega)) := by
  unfold kB vB
  rw [keys_B m c t h0 h1, vals_B m c t h0 h1]
  unfold dsAt
  rw [outsAt0_B m c t h0 h1]; frame_out; simp only [read_unread_whole]; rfl

theorem ds_C (h0 : ¬t.val % 16 = 0) (h1 : t.val % 16 = 15) :
    dsAt m c t.val t.isLt = k0_pay4 (sinkBlock (grid0.coords t) (qB m c t) (kB m c t) (vB m c t) (eB m c t) (gB m c t)) (dsAt m c (t.val - 1) (by omega)) := by
  unfold kB vB
  rw [keys_C m c t h0 h1, vals_C m c t h0 h1]
  unfold dsAt
  rw [outsAt0_C m c t h0 h1]; frame_out; simp only [read_unread_whole]; rfl

end
end Cert.SwaKernelIdeal.Value
end
-- ==== Proof.SwaValue.lean ====
module

public import proofs.«01_k».proof.Proof.SwaRead
public import proofs.«01_k».proof.Proof.SwaStep

@[expose] public section
set_option maxRecDepth 16384
noncomputable section
namespace Cert.SwaKernelIdeal.Value
open Cert.SwaKernelIdeal Cert.SwaKernelIdeal.Gen Idealize.ShloMosaic Idealize.ShloMosaic.TcCoe Idealize.SL.Sem Cert.Proof
open Idealize.ShloMosaic.Pipeline (Dat)
variable (m : (ℓ : Loc nD τ sig) → Buf (Elt Ideal) ℓ)

/-! ## The attention's gradient, block by block -/

theorem off_val : ∀ t : Fin cfg0.N, k0_off1 (grid0.coords t) 0 = 256 * t.val ∧ k0_off1 (grid0.coords t) 1 = 0 := (by decide +kernel : ∀ t : Fin grid0.N, _)

theorem windowOf_at (X : FVec Ideal S4224x128 .f32) (t : Fin cfg0.N) (l : Fin 384) (q : Fin 128) :
    windowOf X (grid0.coords t) (ix2 l q) = X (ix2 (⟨256 * t.val + l.val, by have := lt16 t; omega⟩ : Fin 4224) q) := by
  unfold windowOf
  congr 1
  funext a; apply Fin.ext
  match a with
  | 0 => show k0_off1 (grid0.coords t) 0 + 1 * l.val = 256 * t.val + l.val; rw [(off_val t).1]; omega
  | 1 => show k0_off1 (grid0.coords t) 1 + 1 * q.val = q.val; rw [(off_val t).2]; omega

theorem putAt_at (X : FVec Ideal S4224x128 .f32) (t : Fin cfg0.N) (w : FVec Ideal S384x128 .f32) (n : Fin 4224) (q : Fin 128) :
    putAt X (grid0.coords t) w (ix2 n q) = if h : 256 * t.val ≤ n.val ∧ n.val < 256 * t.val + 384 then w (ix2 (⟨n.val - 256 * t.val, by omega⟩ : Fin 384) q) else X (ix2 n q) := by
  obtain ⟨o0, o1⟩ := off_val t
  unfold putAt VecWindow.put
  by_cases h : 256 * t.val ≤ n.val ∧ n.val < 256 * t.val + 384
  · rw [dif_pos h, dif_pos]
    · congr 1
      funext a; apply Fin.ext
      match a with
      | 0 => show n.val - k0_off1 (grid0.coords t) 0 = n.val - 256 * t.val; rw [o0]
      | 1 => show q.val - k0_off1 (grid0.coords t) 1 = q.val; rw [o1]; rfl
    · intro a
      match a with
      | 0 => show k0_off1 (grid0.coords t) 0 ≤ n.val ∧ n.val < k0_off1 (grid0.coords t) 0 + 384; rw [o0]; exact h
      | 1 => show k0_off1 (grid0.coords t) 1 ≤ q.val ∧ q.val < k0_off1 (grid0.coords t) 1 + 128; rw [o1]; have := q.isLt; omega
  · rw [dif_neg h, dif_neg]
    intro hh
    have h0 := hh 0
    change k0_off1 (grid0.coords t) 0 ≤ n.val ∧ n.val < k0_off1 (grid0.coords t) 0 + 384 at h0
    rw [o0] at h0
    exact h h0

/-- A window's rows with a block added. -/
theorem add2 (X : FVec Ideal S4224x128 .f32) (t : Fin cfg0.N) (w : FVec Ideal S384x128 .f32) (n : Fin 4224) (q : Fin 128) (x : ℝ) (f : ℕ → ℝ)
    (hx : X (ix2 n q) = (x : EReal)) (hw : ∀ l : Fin 384, w (ix2 l q) = ((f (256 * t.val + l.val) : ℝ) : EReal)) :
    putAt X (grid0.coords t) (k0_pay2 w (windowOf X (grid0.coords t))) (ix2 n q)
      = ((x + (if 256 * t.val ≤ n.val ∧ n.val < 256 * t.val + 384 then f n.val else 0) : ℝ) : EReal) := by
  rw [putAt_at]
  split
  · next h =>
    pointwise [k0_pay2]
    rw [windowOf_at, hw, EReal.coe_add, ← hx]
    have e : 256 * t.val + (n.val - 256 * t.val) = n.val := by omega
    simp only [e]
  · rw [hx, add_zero]

theorem add3 (X : FVec Ideal S4224x128 .f32) (t : Fin cfg0.N) (w : FVec Ideal S384x128 .f32) (n : Fin 4224) (q : Fin 128) (x : ℝ) (f : ℕ → ℝ)
    (hx : X (ix2 n q) = (x : EReal)) (hw : ∀ l : Fin 384, w (ix2 l q) = ((f (256 * t.val + l.val) : ℝ) : EReal)) :
    putAt X (grid0.coords t) (k0_pay3 w (windowOf X (grid0.coords t))) (ix2 n q)
      = ((x + (if 256 * t.val ≤ n.val ∧ n.val < 256 * t.val + 384 then f n.val else 0) : ℝ) : EReal) :=
  add2 X t w n q x f hx hw

section
variable (c : Dev nD)

/-- The attention the device runs. -/
abbrev att : Attn := attnOf (a0 m c) (a1 m c) (a2 m c)

theorem keys_all : ∀ (n : ℕ) (h : n < cfg0.N), keysAt m c n h = keysAt m c 0 (by decide) := by
  intro n
  induction n with
  | zero => intro h; rfl
  | succ n ih =>
    intro h
    have h16 : n + 1 < 16 := lt_of_lt_of_eq h N_0
    rw [← ih (by omega)]
    by_cases h1 : (n + 1) % 16 = 15
    · exact keys_C m c ⟨n + 1, h⟩ (show ¬(n + 1) % 16 = 0 by omega) h1
    · exact keys_B m c ⟨n + 1, h⟩ (show ¬(n + 1) % 16 = 0 by omega) h1

theorem vals_all : ∀ (n : ℕ) (h : n < cfg0.N), valsAt m c n h = valsAt m c 0 (by decide) := by
  intro n
  induction n with
  | zero => intro h; rfl
  | succ n ih =>
    intro h
    have h16 : n + 1 < 16 := lt_of_lt_of_eq h N_0
    rw [← ih (by omega)]
    by_cases h1 : (n + 1) % 16 = 15
    · exact vals_C m c ⟨n + 1, h⟩ (show ¬(n + 1) % 16 = 0 by omega) h1
    · exact vals_B m c ⟨n + 1, h⟩ (show ¬(n + 1) % 16 = 0 by omega) h1

variable (F : Finite (a0 m c) (a1 m c) (a2 m c))
include F

theorem keys_at (n : ℕ) (h : n < cfg0.N) (u : Fin 4224) (q : Fin 128) : keysAt m c n h (ix2 u q) = (((att m c).k u.val q.val : ℝ) : EReal) := by
  rw [keys_all m c n h, keys_A m c ⟨0, by decide⟩ rfl (by decide)]
  unfold padded
  obtain ⟨u, hu'⟩ := u
  by_cases hu : u < 128
  · rw [attnOf_k0 _ _ _ _ _ hu, dif_neg (show ¬128 ≤ ((ix2 (⟨u, hu'⟩ : Fin 4224) q : S4224x128.Idx) 0).val from not_le.mpr hu)]
    pointwise [k0_pay7]
    exact EReal.coe_zero.symm
  · obtain ⟨t, rfl⟩ : ∃ t, u = t + 128 := ⟨u - 128, by omega⟩
    rw [attnOf_k _ _ _ t q.val (by omega) (by omega), dif_pos (show 128 ≤ ((ix2 (⟨t + 128, hu'⟩ : Fin 4224) q : S4224x128.Idx) 0).val from not_lt.mp hu)]
    exact (kB_at m c _ _ _).trans (F.p _)

theorem vals_at (n : ℕ) (h : n < cfg0.N) (u : Fin 4224) (q : Fin 128) : valsAt m c n h (ix2 u q) = (((att m c).v u.val q.val : ℝ) : EReal) := by
  rw [vals_all m c n h, vals_A m c ⟨0, by decide⟩ rfl (by decide)]
  unfold padded
  obtain ⟨u, hu'⟩ := u
  by_cases hu : u < 128
  · rw [attnOf_v0 _ _ _ _ _ hu, dif_neg (show ¬128 ≤ ((ix2 (⟨u, hu'⟩ : Fin 4224) q : S4224x128.Idx) 0).val from not_le.mpr hu)]
    pointwise [k0_pay8]
    exact EReal.coe_zero.symm
  · obtain ⟨t, rfl⟩ : ∃ t, u = t + 128 := ⟨u - 128, by omega⟩
    rw [attnOf_v _ _ _ t q.val (by omega) (by omega), dif_pos (show 128 ≤ ((ix2 (⟨t + 128, hu'⟩ : Fin 4224) q : S4224x128.Idx) 0).val from not_lt.mp hu)]
    exact (vB_at m c _ _ _).trans (F.p _)

theorem fits (t : Fin cfg0.N) : Fits (att m c) (grid0.coords t 0).val (qB m c t) (kB m c t) (vB m c t) (eB m c t) (gB m c t) where
  q r l := by
    have := lt16 t
    rw [coord t, row, attnOf_q _ _ _ _ _ (by omega) (by omega)]
    exact (qB_at m c t r l).trans (F.p _)
  k l q := by
    rw [coord t]
    unfold kB
    rw [windowOf_at]
    exact keys_at m c F _ _ _ _
  v l q := by
    rw [coord t]
    unfold vB
    rw [windowOf_at]
    exact vals_at m c F _ _ _ _
  e j := by
    rw [attnOf_sink]
    exact (eB_at m c t j).trans (F.e _)
  d r l := by
    have := lt16 t
    rw [coord t, row, attnOf_g _ _ _ _ _ (by omega) (by omega)]
    exact (gB_at m c t r l).trans (F.d _)

/-- What the first `n` blocks of rows add to row `u`. -/
def upto (f : ℕ → ℕ → ℕ → ℝ) (n u q : ℕ) : ℝ := ∑ i ∈ Finset.range n, if 256 * i ≤ u ∧ u < 256 * i + 384 then f i u q else 0

omit F in
theorem upto_succ (f : ℕ → ℕ → ℕ → ℝ) (n u q : ℕ) : upto f (n + 1) u q = upto f n u q + if 256 * n ≤ u ∧ u < 256 * n + 384 then f n u q else 0 :=
  Finset.sum_range_succ _ n

theorem dkBlock_in (t : Fin cfg0.N) (l : Fin 384) (q : Fin 128) :
    dkBlock (grid0.coords t) (qB m c t) (kB m c t) (vB m c t) (eB m c t) (gB m c t) (ix2 l q) = (((att m c).dkPart t.val (256 * t.val + l.val) q.val : ℝ) : EReal) := by
  rw [dkBlock_at (fits m c F t) l q, coord]

theorem dvBlock_in (t : Fin cfg0.N) (l : Fin 384) (q : Fin 128) :
    dvBlock (grid0.coords t) (qB m c t) (kB m c t) (vB m c t) (eB m c t) (gB m c t) (ix2 l q) = (((att m c).dvPart t.val (256 * t.val + l.val) q.val : ℝ) : EReal) := by
  rw [dvBlock_at (fits m c F t) l q, coord]

theorem dk_at (n : ℕ) (h : n < cfg0.N) (h15 : n < 15) (u : Fin 4224) (q : Fin 128) :
    dkAt m c n h (ix2 u q) = ((upto (att m c).dkPart (n + 1) u.val q.val : ℝ) : EReal) := by
  induction n with
  | zero =>
    rw [dk_A m c ⟨0, h⟩ rfl (show ¬0 % 16 = 15 by decide), upto_succ]
    exact add2 _ ⟨0, h⟩ _ u q 0 (fun u => (att m c).dkPart 0 u q.val) (by pointwise [k0_pay11]; exact EReal.coe_zero.symm) fun l => dkBlock_in m c F ⟨0, h⟩ l q
  | succ n ih =>
    rw [dk_B m c ⟨n + 1, h⟩ (show ¬(n + 1) % 16 = 0 by omega) (show ¬(n + 1) % 16 = 15 by omega), upto_succ]
    exact add2 _ ⟨n + 1, h⟩ _ u q _ (fun u => (att m c).dkPart (n + 1) u q.val) (ih (by omega) (by omega)) fun l => dkBlock_in m c F ⟨n + 1, h⟩ l q

theorem dv_at (n : ℕ) (h : n < cfg0.N) (h15 : n < 15) (u : Fin 4224) (q : Fin 128) :
    dvAt m c n h (ix2 u q) = ((upto (att m c).dvPart (n + 1) u.val q.val : ℝ) : EReal) := by
  induction n with
  | zero =>
    rw [dv_A m c ⟨0, h⟩ rfl (show ¬0 % 16 = 15 by decide), upto_succ]
    exact add3 _ ⟨0, h⟩ _ u q 0 (fun u => (att m c).dvPart 0 u q.val) (by pointwise [k0_pay12]; exact EReal.coe_zero.symm) fun l => dvBlock_in m c F ⟨0, h⟩ l q
  | succ n ih =>
    rw [dv_B m c ⟨n + 1, h⟩ (show ¬(n + 1) % 16 = 0 by omega) (show ¬(n + 1) % 16 = 15 by omega), upto_succ]
    exact add3 _ ⟨n + 1, h⟩ _ u q _ (fun u => (att m c).dvPart (n + 1) u q.val) (ih (by omega) (by omega)) fun l => dvBlock_in m c F ⟨n + 1, h⟩ l q

omit F in
theorem add4 (t : Fin cfg0.N) (w x : FVec Ideal S1x128 .f32) (j : Fin 128) (a b : ℝ) (hw : w (ix2 (0 : Fin 1) j) = (a : EReal)) (hx : x (ix2 (0 : Fin 1) j) = (b : EReal)) :
    k0_pay4 w x (ix2 (0 : Fin 1) j) = ((b + a : ℝ) : EReal) := by
  pointwise [k0_pay4]
  rw [hw, hx, EReal.coe_add]

theorem sinkBlock_in (t : Fin cfg0.N) (j : Fin 128) :
    sinkBlock (grid0.coords t) (qB m c t) (kB m c t) (vB m c t) (eB m c t) (gB m c t) (ix2 (0 : Fin 1) j) = ((if j.val < 4 then (att m c).dsinkPart t.val j.val else 0 : ℝ) : EReal) := by
  rw [sinkBlock_at (fits m c F t) j, coord]

theorem ds_at (n : ℕ) (h : n < cfg0.N) (j : Fin 128) :
    dsAt m c n h (ix2 (0 : Fin 1) j) = ((∑ i ∈ Finset.range (n + 1), if j.val < 4 then (att m c).dsinkPart i j.val else 0 : ℝ) : EReal) := by
  induction n with
  | zero =>
    rw [ds_A m c ⟨0, h⟩ rfl (show ¬0 % 16 = 15 by decide), Finset.sum_range_one, ← zero_add (if j.val < 4 then _ else _)]
    exact add4 ⟨0, h⟩ _ _ j _ 0 (sinkBlock_in m c F ⟨0, h⟩ j) (by pointwise [k0_pay13]; exact EReal.coe_zero.symm)
  | succ n ih =>
    have h16 : n + 1 < 16 := lt_of_lt_of_eq h N_0
    rw [Finset.sum_range_succ]
    refine Eq.trans (b := k0_pay4 (sinkBlock (grid0.coords ⟨n + 1, h⟩) (qB m c ⟨n + 1, h⟩) (kB m c ⟨n + 1, h⟩) (vB m c ⟨n + 1, h⟩) (eB m c ⟨n + 1, h⟩) (gB m c ⟨n + 1, h⟩))
      (dsAt m c n (by omega)) (ix2 (0 : Fin 1) j)) ?_ ?_
    · by_cases h1 : (n + 1) % 16 = 15
      · exact congrFun (ds_C m c ⟨n + 1, h⟩ (show ¬(n + 1) % 16 = 0 by omega) h1) _
      · exact congrFun (ds_B m c ⟨n + 1, h⟩ (show ¬(n + 1) % 16 = 0 by omega) h1) _
    · exact add4 ⟨n + 1, h⟩ _ _ j _ _ (sinkBlock_in m c F ⟨n + 1, h⟩ j) (ih (by omega))

/-! ## What the call returns -/

theorem dq_at (t : Fin cfg0.N) (r l : Fin 256) :
    (outsAt0 m c t.val t.isLt).1 (ix2 r l) = (((att m c).dq (256 * t.val + r.val) l.val : ℝ) : EReal) := by
  have h16 := lt16 t
  refine Eq.trans (b := dqBlock (grid0.coords t) (qB m c t) (kB m c t) (vB m c t) (eB m c t) (gB m c t) (ix2 r l)) ?_ ?_
  · by_cases h0 : t.val % 16 = 0
    · exact congrFun (dq_A m c t h0 (by omega)) _
    · by_cases h1 : t.val % 16 = 15
      · exact congrFun (dq_C m c t h0 h1) _
      · exact congrFun (dq_B m c t h0 h1) _
  · rw [dqBlock_at (fits m c F t) r l, coord]

/-- The gradients of the attention, as arrays. -/
def dqF (A : Attn) : FVec Ideal S4096x256 .bf16 := fun j => ((A.dq (j 0).val (j 1).val : ℝ) : EReal)
def dkF (A : Attn) : FVec Ideal S4096x128 .bf16 := fun j => ((A.dk ((j 0).val + 128) (j 1).val : ℝ) : EReal)
def dvF (A : Attn) : FVec Ideal S4096x128 .bf16 := fun j => ((A.dv ((j 0).val + 128) (j 1).val : ℝ) : EReal)
def dsF (A : Attn) : FVec Ideal S1x128 .f32 := fun j => ((if (j 1).val < 4 then A.dsink (j 1).val else 0 : ℝ) : EReal)

theorem final_5 : (dats m 0 c).arrAt 5 (cfgs 0).N = dqF (att m c) := by
  refine (dats m 0 c).arrAt_eq_of_covers 5 _ (by decide +kernel) fun t hf y => ?_
  blk_simp; rw [after0_5]
  have h16 := lt16 t
  obtain ⟨r, l, rfl⟩ : ∃ (y0 y1 : Fin 256), y = ix2 y0 y1 := ⟨y 0, y 1, eq_ix2 y⟩
  have e : ((cfg0.win 5).blk t).view.emb (ix2 r l) = (ix2 (⟨256 * t.val + r.val, by omega⟩ : Fin 4096) l : S4096x256.Idx) := by
    blk_ext [idx t]
  refine Eq.trans ?_ (congrArg (dqF (att m c)) e.symm)
  exact dq_at m c F t r l

omit F in
theorem below5 (X : FVec Ideal S4224x128 .f32) (r : Fin 4096) (l : Fin 128) : k0_pay5 (F := Ideal) (below X) (ix2 r l) = X (ix2 (⟨r.val + 128, by omega⟩ : Fin 4224) l) := by
  pointwise [k0_pay5]
  unfold below
  congr 1
  funext a; apply Fin.ext
  match a with
  | 0 => show 128 + 1 * r.val = r.val + 128; omega
  | 1 => show 0 + 1 * l.val = l.val; omega

omit F in
theorem below6 (X : FVec Ideal S4224x128 .f32) (r : Fin 4096) (l : Fin 128) : k0_pay6 (F := Ideal) (below X) (ix2 r l) = X (ix2 (⟨r.val + 128, by omega⟩ : Fin 4224) l) :=
  below5 X r l

theorem final_6 : (dats m 0 c).arrAt 6 (cfgs 0).N = dkF (att m c) := by
  refine (dats m 0 c).arrAt_eq_of_after_last 6 t0_15 (by decide +kernel) _ fun j => ?_
  blk_simp
  rw [after0_6, dk_C m c t0_15 (by decide) (by decide)]
  obtain ⟨r, l, rfl⟩ : ∃ (y0 : Fin 4096) (y1 : Fin 128), j = ix2 y0 y1 := ⟨j 0, j 1, eq_ix2 j⟩
  refine (below5 _ r l).trans ?_
  refine (add2 _ t0_15 _ _ l _ (fun u => (att m c).dkPart 15 u l.val) (dk_at m c F 14 (by decide) (by decide) _ l) fun q => dkBlock_in m c F t0_15 q l).trans ?_
  exact congrArg (fun x : ℝ => (x : EReal)) ((upto_succ _ 15 _ _).symm.trans ((Finset.sum_range _).trans ((att m c).dk_blocks (r.val + 128) l.val).symm))

theorem final_7 : (dats m 0 c).arrAt 7 (cfgs 0).N = dvF (att m c) := by
  refine (dats m 0 c).arrAt_eq_of_after_last 7 t0_15 (by decide +kernel) _ fun j => ?_
  blk_simp
  rw [after0_7, dv_C m c t0_15 (by decide) (by decide)]
  obtain ⟨r, l, rfl⟩ : ∃ (y0 : Fin 4096) (y1 : Fin 128), j = ix2 y0 y1 := ⟨j 0, j 1, eq_ix2 j⟩
  refine (below6 _ r l).trans ?_
  refine (add3 _ t0_15 _ _ l _ (fun u => (att m c).dvPart 15 u l.val) (dv_at m c F 14 (by decide) (by decide) _ l) fun q => dvBlock_in m c F t0_15 q l).trans ?_
  exact congrArg (fun x : ℝ => (x : EReal)) ((upto_succ _ 15 _ _).symm.trans ((Finset.sum_range _).trans ((att m c).dv_blocks (r.val + 128) l.val).symm))

theorem final_8 : (dats m 0 c).arrAt 8 (cfgs 0).N = dsF (att m c) := by
  refine (dats m 0 c).arrAt_eq_of_after_last 8 t0_15 (by decide +kernel) _ fun j => ?_
  blk_simp
  rw [after0_8]
  obtain ⟨r, l, rfl⟩ : ∃ (y0 : Fin 1) (y1 : Fin 128), j = ix2 y0 y1 := ⟨j 0, j 1, eq_ix2 j⟩
  obtain rfl : r = 0 := Subsingleton.elim _ _
  refine (ds_at m c F 15 (by decide) l).trans ?_
  refine congrArg (fun x : ℝ => (x : EReal)) ?_
  show _ = if l.val < 4 then (att m c).dsink l.val else 0
  split
  · rw [Attn.dsink_blocks, Finset.sum_range]
  · exact Finset.sum_const_zero

end
end Cert.SwaKernelIdeal.Value
end
-- ==== Proof.SwaPair.lean ====
module

public import proofs.«01_k».proof.Defs
public import proofs.«01_k».proof.Proof.SwaRefD
public import proofs.«01_k».proof.Proof.SwaValue
public import proofs.«01_k».proof.Proof.Gen.Pre_swa_finite
public import Idealize.ShloMosaic.Lib.Quiescent
public import Idealize.ShloMosaic.Lib.ReduceAll

@[expose] public section
set_option maxRecDepth 16384
noncomputable section
namespace Cert.Proof
open Idealize.ShloMosaic Idealize.SL.Sem Idealize.ShloMosaic.Pipeline
open Cert.SwaKernelIdeal.Value (attnOf Finite dqF dkF dvF dsF)

theorem and_left {a b : BitVec 1} (h : IntOp.andi a b = 1#1) : a = 1#1 := by revert a b; decide
theorem and_right {a b : BitVec 1} (h : IntOp.andi a b = 1#1) : b = 1#1 := by revert a b; decide

theorem real_self {x : EReal} (h : ∃ d : ℝ, x = d) : x = ((x.toReal : ℝ) : EReal) := by
  obtain ⟨d, rfl⟩ := h
  rfl

/-- The precondition's reading: no entry is infinite. -/
theorem swa_real (P : FVec Ideal Cert.Pre_swa_finite.S1x4096x3088 .f32) (e : FVec Ideal Cert.Pre_swa_finite.S4 .f32)
    (D : FVec Ideal Cert.Pre_swa_finite.S1x4096x1024 .f32) (h : Cert.Pre_swa_finite.fn (F := Ideal) P e D = fun _ => 1#1) : Finite P e D := by
  have h := congrFun h ix0
  unfold Cert.Pre_swa_finite.fn Cert.Pre_swa_finite.fn_part1 at h
  have h2 := and_right h
  have h0 := and_left (and_left h)
  have h1 := and_right (and_left h)
  refine ⟨fun x => real_self ?_, fun x => real_self ?_, fun x => real_self ?_⟩
  · have k := Host.reduce_andi_all _ _ _ _ _ h0 x
    idx_vars x
    pointwise at k
    exact real_of_bounds k
  · have k := Host.reduce_andi_all _ _ _ _ _ h1 x
    idx_vars x
    pointwise at k
    exact real_of_bounds k
  · have k := Host.reduce_andi_all _ _ _ _ _ h2 x
    idx_vars x
    pointwise at k
    exact real_of_bounds k

/-- The kernel's masked score -1e30 is read as minus infinity, and nothing else is read differently. -/
theorem swa_named : preserves_SwaKernel_SwaKernelIdeal :=
  IdealRules.named_const.statement Cert.SwaKernelIdeal.κ "mask" .f32 0xF149F2CA#32 ⊥ rfl

theorem swa_ref_frame : quiescent_SwaReferenceIdeal := fun m g _ =>
  (θ_run _ _ _).mono (fun r h => ⟨fun c => (h c).2.2.2.2, sem_eq_zero_of_no_sems rfl r.2⟩) (Cert.SwaReferenceIdeal.Value.run m g)

theorem swa_pair : algebraic_SwaKernelIdeal_SwaReferenceIdeal_pre_swa_finite := by
  pair_intro
  · run_from Cert.SwaKernelIdeal.Value.run_blocks m g
  · run_from Cert.SwaReferenceIdeal.Value.run m' g'
    · obtain ⟨h0, h1, h2⟩ := hagree c
      rw [Cert.SwaReferenceIdeal.Read.val_main_v159_eq, Cert.SwaKernelIdeal.Value.final_5 m c (swa_real _ _ _ (hpre c))]
      refine (congr (congr (congrArg _ h0) h1) h2).trans ?_
      funext j
      idx_vars j
      exact Cert.SwaReferenceIdeal.Read.dqRow _ _ _ (swa_real _ _ _ (hpre c)) _ _
    · obtain ⟨h0, h1, h2⟩ := hagree c
      rw [Cert.SwaReferenceIdeal.Read.val_main_v161_eq, Cert.SwaKernelIdeal.Value.final_6 m c (swa_real _ _ _ (hpre c))]
      refine (congr (congr (congrArg _ h0) h1) h2).trans ?_
      funext j
      idx_vars j
      exact Cert.SwaReferenceIdeal.Read.dkRow _ _ _ (swa_real _ _ _ (hpre c)) _ _
    · obtain ⟨h0, h1, h2⟩ := hagree c
      rw [Cert.SwaReferenceIdeal.Read.val_main_v163_eq, Cert.SwaKernelIdeal.Value.final_7 m c (swa_real _ _ _ (hpre c))]
      refine (congr (congr (congrArg _ h0) h1) h2).trans ?_
      funext j
      idx_vars j
      exact Cert.SwaReferenceIdeal.Read.dvRow _ _ _ (swa_real _ _ _ (hpre c)) _ _
    · obtain ⟨h0, h1, h2⟩ := hagree c
      rw [Cert.SwaReferenceIdeal.Read.val_main_v166_eq, Cert.SwaKernelIdeal.Value.final_8 m c (swa_real _ _ _ (hpre c))]
      refine (congr (congr (congrArg _ h0) h1) h2).trans ?_
      funext j
      idx_vars j
      obtain rfl : j0 = 0 := Subsingleton.elim _ _
      exact Cert.SwaReferenceIdeal.Read.dsRow _ _ _ (swa_real _ _ _ (hpre c)) _

end Cert.Proof
end
-- ==== Proof.SwafBlock.lean ====
module

public import proofs.«01_k».proof.Proof.Gen.SwafKernelIdeal.Skeleton
public import proofs.«01_k».proof.Proof.SwaBlock

@[expose] public section
set_option maxRecDepth 16384
noncomputable section

namespace Cert.Proof

/-- What one head of the banded attention returns at a row. -/
def Head.out (H : Head) (t d : ℕ) : ℝ := ∑ u ∈ Finset.range 4224, H.prob t u * H.v u d

theorem Head.out_window (H : Head) (t a w : ℕ) (ha : a ≤ 64 * (t / 64)) (hw : 64 * (t / 64) + 192 ≤ a + w) (h : a + w ≤ 4224) (d : ℕ) :
    H.out t d = ∑ l : Fin w, H.prob t (a + l.val) * H.v (a + l.val) d := by
  rw [out, keys _ t a w (fun u s => by rw [H.prob_unseen s, zero_mul]) ha hw h]

/-- The four heads' results side by side. -/
def Attn.out (A : Attn) (t c : ℕ) : ℝ := (A.head (c / 64)).out t (c % 64)

end Cert.Proof

namespace Cert.SwafKernelIdeal.Value
open Cert.SwafKernelIdeal Cert.SwafKernelIdeal.Gen Idealize.ShloMosaic Cert.Proof
open Cert.SwaKernelIdeal.Value (spread top expo expoSink den okOf farOf okOf_at farOf_at pick pick_at row key row_lo row_hi chain_real quarter_bits quarter2_bits
  quarter3_bits quarter4_bits)

/-! ## The four heads of one block of rows, forward -/

local notation "Rows" => FVec Ideal S256x384 FTy.f32

def scores (ok : IVec S256x384 1) (far : Rows) (q : FVec Ideal S256x64 .f32) (k : FVec Ideal S384x64 .f32) (sl : BitVec 32) : Rows :=
  select ok (subf (mulf (matmul dot_S256x64_S384x64_S256x384_1_1_0_0_n_n none q k (constant S256x384 .f32 0x00000000#32))
      (broadcast S256x384 (Scalar.ofBits (F := Ideal) .f32 0x3E000000#32)))
    (mulf (broadcast S256x384 (Scalar.ofBits (F := Ideal) .f32 sl)) far))
    (broadcast S256x384 (Named.named κ "mask" 0xF149F2CA#32 : Ideal .f32))

/-- The scores' weights against the values. -/
def mixed (s : Rows) (e : FVec Ideal S1x1 .f32) (v : FVec Ideal S384x64 .f32) : FVec Ideal S256x64 .f32 :=
  matmul dot_S256x384_S384x64_S256x64_1_0_0_1_n_n none (divf (expo s (top s e)) (spread (den (expo s (top s e)) (expoSink e (top s e))))) v
    (constant S256x64 .f32 0x00000000#32)

section
variable {i : ℕ} (hi : i < 16) (H : Head)

theorem scores_at (ok : IVec S256x384 1) (far : Rows) (q : FVec Ideal S256x64 .f32) (k : FVec Ideal S384x64 .f32) (sl : BitVec 32) (r : Fin 256) (l : Fin 384)
    (hok : ok (ix2 r l) = BitVec.ofBool (decide (sees (row i r) (key i l)))) (hfar : far (ix2 r l) = ((Head.far (row i r) (key i l) : ℝ) : EReal))
    (hq : ∀ d, q (ix2 r d) = ((H.q (row i r) d.val : ℝ) : EReal)) (hk : ∀ d, k (ix2 l d) = ((H.k (key i l) d.val : ℝ) : EReal))
    (hsl : Ideal.ofBits .f32 sl = ((H.slope : ℝ) : EReal)) :
    scores ok far q k sl (ix2 r l) = if sees (row i r) (key i l) then ((H.score (row i r) (key i l) : ℝ) : EReal) else ⊥ := by
  have hm : (Named.named κ "mask" 0xF149F2CA#32 : Ideal .f32) = ⊥ := rfl
  pointwise [scores]
  rw [hm, hok, hfar, hsl, show Ideal.ofBits FTy.f32 1040187392#32 = ((1 / 8 : ℝ) : EReal) from eighth_bits]
  simp only [hq, hk, ← EReal.coe_mul, coe_sum, ← EReal.coe_sub]
  by_cases h : sees (row i r) (key i l)
  · rw [decide_eq_true h, if_pos h]; rfl
  · rw [decide_eq_false h, if_neg h]; rfl

include hi in
theorem mixed_at (s : Rows) (e : FVec Ideal S1x1 .f32) (v : FVec Ideal S384x64 .f32) (r : Fin 256) (d : Fin 64)
    (hs : ∀ l, s (ix2 r l) = if sees (row i r) (key i l) then ((H.score (row i r) (key i l) : ℝ) : EReal) else ⊥)
    (he : e (ix2 0 0) = ((H.sink : ℝ) : EReal)) (hv : ∀ l, v (ix2 l d) = ((H.v (key i l) d.val : ℝ) : EReal)) :
    mixed s e v (ix2 r d) = ((H.out (row i r) d.val : ℝ) : EReal) := by
  obtain ⟨c, hc, hx, hy, hn⟩ := chain_real hi H s e r hs he
  have hp : ∀ l : Fin 384, divf (expo s (top s e)) (spread (den (expo s (top s e)) (expoSink e (top s e)))) (ix2 r l) = ((H.prob (row i r) (key i l) : ℝ) : EReal) := fun l => by
    pointwise [spread]
    rw [hx, hn, div_coe _ (mul_ne_zero (H.mass_ne _) hc), mul_div_mul_right _ _ hc]
    rfl
  unfold mixed
  generalize divf (expo s (top s e)) (spread (den (expo s (top s e)) (expoSink e (top s e)))) = p at hp ⊢
  pointwise
  simp only [hp, hv, ← EReal.coe_mul, coe_sum]
  rw [H.out_window (row i r) (256 * i) 384 (row_lo i r) (row_hi i r) (by omega)]

end

section
variable (i : grid0.Coords) (q : FVec Ideal S256x256 .f32) (k v : FVec Ideal S384x128 .f32) (e : FVec Ideal S1x128 .f32)

def head0 : FVec Ideal S256x64 .f32 :=
  mixed (scores (okOf i) farOf (extractStridedSlice S256x64 ![0, 0] q slices_S256x256_o0_0_S256x64) (extractStridedSlice S384x64 ![0, 0] k slices_S384x128_o0_0_S384x64)
    0x3E800000#32) (pick 0#32 e) (extractStridedSlice S384x64 ![0, 0] v slices_S384x128_o0_0_S384x64)
def head1 : FVec Ideal S256x64 .f32 :=
  mixed (scores (okOf i) farOf (extractStridedSlice S256x64 ![0, 64] q slices_S256x256_o0_64_S256x64) (extractStridedSlice S384x64 ![0, 0] k slices_S384x128_o0_0_S384x64)
    0x3D800000#32) (pick 1#32 e) (extractStridedSlice S384x64 ![0, 0] v slices_S384x128_o0_0_S384x64)
def head2 : FVec Ideal S256x64 .f32 :=
  mixed (scores (okOf i) farOf (extractStridedSlice S256x64 ![0, 128] q slices_S256x256_o0_128_S256x64) (extractStridedSlice S384x64 ![0, 64] k slices_S384x128_o0_64_S384x64)
    0x3C800000#32) (pick 2#32 e) (extractStridedSlice S384x64 ![0, 64] v slices_S384x128_o0_64_S384x64)
def head3 : FVec Ideal S256x64 .f32 :=
  mixed (scores (okOf i) farOf (extractStridedSlice S256x64 ![0, 192] q slices_S256x256_o0_192_S256x64) (extractStridedSlice S384x64 ![0, 64] k slices_S384x128_o0_64_S384x64)
    0x3B800000#32) (pick 3#32 e) (extractStridedSlice S384x64 ![0, 64] v slices_S384x128_o0_64_S384x64)

/-- The heads' results side by side. -/
def outBlock : FVec Ideal S256x256 .bf16 :=
  truncf .bf16 (concatenate S256x256 1 [⟨S256x64, head0 i q k v e⟩, ⟨S256x64, head1 i q k v e⟩, ⟨S256x64, head2 i q k v e⟩, ⟨S256x64, head3 i q k v e⟩]
    concatenates_S256x64_S256x64_S256x64_S256x64_S256x256_d1) bitsLt_bf16_f32

end

/-- The block's vectors hold block `i`'s part of `A`. -/
structure Fits (A : Attn) (i : ℕ) (q : FVec Ideal S256x256 .f32) (k v : FVec Ideal S384x128 .f32) (e : FVec Ideal S1x128 .f32) : Prop where
  q : ∀ r (c : Fin 256), q (ix2 r c) = ((A.q (row i r) c.val : ℝ) : EReal)
  k : ∀ l (c : Fin 128), k (ix2 l c) = ((A.k (key i l) c.val : ℝ) : EReal)
  v : ∀ l (c : Fin 128), v (ix2 l c) = ((A.v (key i l) c.val : ℝ) : EReal)
  e : ∀ j : Fin 4, e (ix2 0 (Fin.castLE (by decide) j)) = ((A.sink j.val : ℝ) : EReal)

section
variable {A : Attn} {i : grid0.Coords} {q : FVec Ideal S256x256 .f32} {k v : FVec Ideal S384x128 .f32} {e : FVec Ideal S1x128 .f32} (h : Fits A (i 0).val q k v e)
include h

theorem head0_at (r : Fin 256) (d : Fin 64) : head0 i q k v e (ix2 r d) = (((A.head 0).out (row (i 0).val r) d.val : ℝ) : EReal) :=
  mixed_at (i 0).isLt (A.head 0) _ _ _ r d
    (fun l => scores_at (A.head 0) _ _ _ _ _ r l (okOf_at i r l) (farOf_at _ r l) (fun x => by pointwise; rw [h.q]; congr 2; simp) (fun x => by pointwise; rw [h.k]; congr 2; simp)
      quarter_bits) ((pick_at e 0).trans (h.e 0)) fun l => by pointwise; rw [h.v]; congr 2; simp

theorem head1_at (r : Fin 256) (d : Fin 64) : head1 i q k v e (ix2 r d) = (((A.head 1).out (row (i 0).val r) d.val : ℝ) : EReal) :=
  mixed_at (i 0).isLt (A.head 1) _ _ _ r d
    (fun l => scores_at (A.head 1) _ _ _ _ _ r l (okOf_at i r l) (farOf_at _ r l) (fun x => by pointwise; rw [h.q]; rfl) (fun x => by pointwise; rw [h.k]; congr 2; simp)
      quarter2_bits) ((pick_at e 1).trans (h.e 1)) fun l => by pointwise; rw [h.v]; congr 2; simp

theorem head2_at (r : Fin 256) (d : Fin 64) : head2 i q k v e (ix2 r d) = (((A.head 2).out (row (i 0).val r) d.val : ℝ) : EReal) :=
  mixed_at (i 0).isLt (A.head 2) _ _ _ r d
    (fun l => scores_at (A.head 2) _ _ _ _ _ r l (okOf_at i r l) (farOf_at _ r l) (fun x => by pointwise; rw [h.q]; rfl) (fun x => by pointwise; rw [h.k]; rfl)
      quarter3_bits) ((pick_at e 2).trans (h.e 2)) fun l => by pointwise; rw [h.v]; rfl

theorem head3_at (r : Fin 256) (d : Fin 64) : head3 i q k v e (ix2 r d) = (((A.head 3).out (row (i 0).val r) d.val : ℝ) : EReal) :=
  mixed_at (i 0).isLt (A.head 3) _ _ _ r d
    (fun l => scores_at (A.head 3) _ _ _ _ _ r l (okOf_at i r l) (farOf_at _ r l) (fun x => by pointwise; rw [h.q]; rfl) (fun x => by pointwise; rw [h.k]; rfl)
      quarter4_bits) ((pick_at e 3).trans (h.e 3)) fun l => by pointwise; rw [h.v]; rfl

theorem outBlock_at (r : Fin 256) (c : Fin 256) : outBlock i q k v e (ix2 r c) = ((A.out (row (i 0).val r) c.val : ℝ) : EReal) := by
  have hc := c.isLt
  pointwise [outBlock]
  unfold Attn.out
  split
  · next h0 =>
    rw [head0_at h, show c.val / 64 = 0 by omega, show c.val % 64 = c.val by omega]
  split
  · next h0 h1 =>
    rw [head1_at h, show c.val / 64 = 1 by omega, show c.val % 64 = c.val - 64 by omega]
  split
  · next h0 h1 h2 =>
    rw [head2_at h, show c.val / 64 = 2 by omega, show c.val % 64 = c.val - 64 - 64 by omega]
  · next h0 h1 h2 =>
    rw [head3_at h, show c.val / 64 = 3 by omega, show c.val % 64 = c.val - 64 - 64 - 64 by omega]

end
end Cert.SwafKernelIdeal.Value
end
-- ==== Proof.SwafValue.lean ====
module

public import proofs.«01_k».proof.Proof.Gen.SwafKernelIdeal.Value
public import proofs.«01_k».proof.Proof.SwafBlock
public import proofs.«01_k».proof.Proof.SwaValue
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section
set_option maxRecDepth 16384
noncomputable section
namespace Cert.SwafKernelIdeal.Value
open Cert.SwafKernelIdeal Cert.SwafKernelIdeal.Gen Idealize.ShloMosaic Idealize.ShloMosaic.TcCoe Idealize.SL.Sem Cert.Proof
open Idealize.ShloMosaic.Pipeline (Dat)
open Cert.SwaKernelIdeal.Value (attnOf Finite attnOf_q attnOf_k attnOf_v attnOf_k0 attnOf_v0 attnOf_sink padded canon_padded windowOf scatter_lane row)
variable (m : (ℓ : Loc nD τ sig) → Buf (Elt Ideal) ℓ)

/-! ## The attention forward: what it reads, and what it returns -/

abbrev a0 (c : Dev nD) : FVec Ideal S1x4096x3088 .f32 := m ((c : Thread nD τ).loc main_arg0)
abbrev a1 (c : Dev nD) : FVec Ideal S4 .f32 := m ((c : Thread nD τ).loc main_arg1)

theorem idx : ∀ t : Fin cfg0.N, win0_0.index t = ![t.val, 8] ∧ win0_1.index t = ![0, 18] ∧ win0_2.index t = ![0, 19] ∧ win0_3.index t = ![0, 0]
    ∧ win0_4.index t = ![t.val, 0] :=
  (by decide +kernel : ∀ t : Fin grid0.N, _)

theorem coord : ∀ t : Fin cfg0.N, (grid0.coords t 0).val = t.val := (by decide +kernel : ∀ t : Fin grid0.N, _)

theorem lt16 (t : Fin cfg0.N) : t.val < 16 := lt_of_lt_of_eq t.isLt N_0

theorem cols (c : Dev nD) (n : Fin 4096) (q : ℕ) (hq : q < 512) :
    (V m c main_v9 : FVec Ideal S4096x3328 .f32) (ix2 n ⟨2048 + q, by omega⟩) = a0 m c (ix3 (0 : Fin 1) n (⟨q, by omega⟩ : Fin 3088)) := by
  unfold_abbrev_sides; after_reads_simp; pointwise
  rw [dif_neg (show ¬2048 + q < 768 by omega), dif_neg (show ¬2048 + q - 768 < 256 by omega), dif_neg (show ¬2048 + q - 768 - 256 < 1024 by omega),
    dif_pos (show 2048 + q - 768 - 256 - 1024 < 512 by omega)]
  after_reads_simp; pointwise
  exact congrArg (fun q' => a0 m c (ix3 (0 : Fin 1) n q')) (Fin.ext (show 2048 + q - 768 - 256 - 1024 = q by omega))

theorem sinks (c : Dev nD) (j : Fin 4) :
    (V m c main_v14 : FVec Ideal S1x128 .f32) (ix2 (0 : Fin 1) (Fin.castLE (by decide) j : Fin 128)) = a1 m c (ix1 j) := by
  unfold_abbrev_sides; after_reads_simp
  refine scatter_lane _ _ (fun p => ?_) _ j
  pointwise
  split
  · after_reads_simp; pointwise
  · after_reads_simp; pointwise

section
variable (c : Dev nD) (t : Fin cfg0.N)

abbrev keysAt (n : ℕ) (h : n < cfg0.N) : FVec Ideal S4224x128 .f32 := (outsAt0 m c n h).2.1
abbrev valsAt (n : ℕ) (h : n < cfg0.N) : FVec Ideal S4224x128 .f32 := (outsAt0 m c n h).2.2

abbrev qB : FVec Ideal S256x256 .f32 := k0_pay6 (iblk m c 0 t)
abbrev eB : FVec Ideal S1x128 .f32 := k0_pay7 (iblk m c 3 t)
abbrev kB : FVec Ideal S384x128 .f32 := windowOf (keysAt m c t.val t.isLt) (grid0.coords t)
abbrev vB : FVec Ideal S384x128 .f32 := windowOf (valsAt m c t.val t.isLt) (grid0.coords t)

theorem qB_at (r : Fin 256) (l : Fin 256) :
    qB m c t (ix2 r l) = a0 m c (ix3 (0 : Fin 1) (⟨256 * t.val + r.val, by have := lt16 t; omega⟩ : Fin 4096) (⟨l.val, by omega⟩ : Fin 3088)) := by
  have h16 := lt16 t
  pointwise [k0_pay6]
  have e : ((cfg0.win 0).blk t).view.emb (ix2 r l) = (ix2 (⟨256 * t.val + r.val, by omega⟩ : Fin 4096) (⟨2048 + l.val, by omega⟩ : Fin 3328) : S4096x3328.Idx) := by
    blk_ext [idx t]
  refine Eq.trans ?_ (cols m c _ l.val (by omega))
  blk_simp [iblk]; rw [e]

theorem kB_at (n : Fin 4096) (l : Fin 128) :
    k0_pay4 (F := Ideal) (iblk m c 1 t) (ix2 n l) = a0 m c (ix3 (0 : Fin 1) n (⟨256 + l.val, by omega⟩ : Fin 3088)) := by
  pointwise [k0_pay4]
  have e : ((cfg0.win 1).blk t).view.emb (ix2 n l) = (ix2 n (⟨2048 + (256 + l.val), by omega⟩ : Fin 3328) : S4096x3328.Idx) := by
    blk_ext [idx t]
  refine Eq.trans ?_ (cols m c _ (256 + l.val) (by omega))
  blk_simp [iblk]; rw [e]

theorem vB_at (n : Fin 4096) (l : Fin 128) :
    k0_pay5 (F := Ideal) (iblk m c 2 t) (ix2 n l) = a0 m c (ix3 (0 : Fin 1) n (⟨384 + l.val, by omega⟩ : Fin 3088)) := by
  pointwise [k0_pay5]
  have e : ((cfg0.win 2).blk t).view.emb (ix2 n l) = (ix2 n (⟨2048 + (384 + l.val), by omega⟩ : Fin 3328) : S4096x3328.Idx) := by
    blk_ext [idx t]
  refine Eq.trans ?_ (cols m c _ (384 + l.val) (by omega))
  blk_simp [iblk]; rw [e]

theorem eB_at (j : Fin 4) : eB m c t (ix2 (0 : Fin 1) (Fin.castLE (by decide) j : Fin 128)) = a1 m c (ix1 j) := by
  pointwise [k0_pay7]
  have e : ((cfg0.win 3).blk t).view.emb (ix2 (0 : Fin 1) (Fin.castLE (by decide) j : Fin 128)) = (ix2 (0 : Fin 1) (Fin.castLE (by decide) j : Fin 128) : S1x128.Idx) := by
    blk_ext [idx t]
  refine Eq.trans ?_ (sinks m c j)
  blk_simp [iblk]; rw [e]

theorem keys_A (h0 : t.val % 16 = 0) : keysAt m c t.val t.isLt = padded k0_pay2 (k0_pay4 (iblk m c 1 t)) := by
  unfold keysAt
  rw [outsAt0_A m c t h0]; frame_out
  exact canon_padded _ _

theorem vals_A (h0 : t.val % 16 = 0) : valsAt m c t.val t.isLt = padded k0_pay3 (k0_pay5 (iblk m c 2 t)) := by
  unfold valsAt
  rw [outsAt0_A m c t h0]; frame_out
  exact canon_padded _ _

theorem keys_B (h0 : ¬t.val % 16 = 0) : keysAt m c t.val t.isLt = keysAt m c (t.val - 1) (by omega) := by
  unfold keysAt
  rw [outsAt0_B m c t h0]; frame_out; rfl

theorem vals_B (h0 : ¬t.val % 16 = 0) : valsAt m c t.val t.isLt = valsAt m c (t.val - 1) (by omega) := by
  unfold valsAt
  rw [outsAt0_B m c t h0]; frame_out; rfl

theorem out_A (h0 : t.val % 16 = 0) : (outsAt0 m c t.val t.isLt).1 = outBlock (grid0.coords t) (qB m c t) (kB m c t) (vB m c t) (eB m c t) := by
  unfold kB vB keysAt valsAt
  rw [outsAt0_A m c t h0]; frame_out
  generalize View.canon [(⟨Rect.unit ![128, 0] ![4096, 128] inb_S4224x128_S4096x128_128_0, k0_pay4 (iblk m c 1 t)⟩ : View.Piece (Elt Ideal) S4224x128 .f32),
    ⟨Rect.unit ![0, 0] ![128, 128] inb_S4224x128_S128x128_0_0, k0_pay2 (F := Ideal)⟩] = K
  generalize View.canon [(⟨Rect.unit ![128, 0] ![4096, 128] inb_S4224x128_S4096x128_128_0, k0_pay5 (iblk m c 2 t)⟩ : View.Piece (Elt Ideal) S4224x128 .f32),
    ⟨Rect.unit ![0, 0] ![128, 128] inb_S4224x128_S128x128_0_0, k0_pay3 (F := Ideal)⟩] = V
  rfl

theorem out_B (h0 : ¬t.val % 16 = 0) : (outsAt0 m c t.val t.isLt).1 = outBlock (grid0.coords t) (qB m c t) (kB m c t) (vB m c t) (eB m c t) := by
  unfold kB vB
  rw [keys_B m c t h0, vals_B m c t h0, outsAt0_B m c t h0]; frame_out; simp only [read_unread_whole]; rfl

end

theorem windowOf_at (X : FVec Ideal S4224x128 .f32) (t : Fin cfg0.N) (l : Fin 384) (q : Fin 128) :
    windowOf X (grid0.coords t) (ix2 l q) = X (ix2 (⟨256 * t.val + l.val, by have := lt16 t; omega⟩ : Fin 4224) q) :=
  Cert.SwaKernelIdeal.Value.windowOf_at X t l q

section
variable (c : Dev nD)

/-- A cotangent that is not read. -/
def noCot : FVec Ideal Cert.SwaKernelIdeal.S1x4096x1024 .f32 := fun _ => 0

abbrev att : Attn := attnOf (a0 m c) (a1 m c) noCot

theorem keys_all : ∀ (n : ℕ) (h : n < cfg0.N), keysAt m c n h = keysAt m c 0 (by decide) := by
  intro n
  induction n with
  | zero => intro h; rfl
  | succ n ih =>
    intro h
    have h16 : n + 1 < 16 := lt_of_lt_of_eq h N_0
    rw [← ih (by omega)]
    exact keys_B m c ⟨n + 1, h⟩ (show ¬(n + 1) % 16 = 0 by omega)

theorem vals_all : ∀ (n : ℕ) (h : n < cfg0.N), valsAt m c n h = valsAt m c 0 (by decide) := by
  intro n
  induction n with
  | zero => intro h; rfl
  | succ n ih =>
    intro h
    have h16 : n + 1 < 16 := lt_of_lt_of_eq h N_0
    rw [← ih (by omega)]
    exact vals_B m c ⟨n + 1, h⟩ (show ¬(n + 1) % 16 = 0 by omega)

variable (F : Finite (a0 m c) (a1 m c) noCot)
include F

theorem keys_at (n : ℕ) (h : n < cfg0.N) (u : Fin 4224) (q : Fin 128) : keysAt m c n h (ix2 u q) = (((att m c).k u.val q.val : ℝ) : EReal) := by
  rw [keys_all m c n h, keys_A m c ⟨0, by decide⟩ rfl]
  unfold padded
  obtain ⟨u, hu'⟩ := u
  by_cases hu : u < 128
  · rw [attnOf_k0 _ _ _ _ _ hu, dif_neg (show ¬128 ≤ ((ix2 (⟨u, hu'⟩ : Fin 4224) q : S4224x128.Idx) 0).val from not_le.mpr hu)]
    pointwise [k0_pay2]
    exact EReal.coe_zero.symm
  · obtain ⟨t, rfl⟩ : ∃ t, u = t + 128 := ⟨u - 128, by omega⟩
    rw [attnOf_k _ _ _ t q.val (by omega) (by omega), dif_pos (show 128 ≤ ((ix2 (⟨t + 128, hu'⟩ : Fin 4224) q : S4224x128.Idx) 0).val from not_lt.mp hu)]
    exact (kB_at m c _ _ _).trans (F.p _)

theorem vals_at (n : ℕ) (h : n < cfg0.N) (u : Fin 4224) (q : Fin 128) : valsAt m c n h (ix2 u q) = (((att m c).v u.val q.val : ℝ) : EReal) := by
  rw [vals_all m c n h, vals_A m c ⟨0, by decide⟩ rfl]
  unfold padded
  obtain ⟨u, hu'⟩ := u
  by_cases hu : u < 128
  · rw [attnOf_v0 _ _ _ _ _ hu, dif_neg (show ¬128 ≤ ((ix2 (⟨u, hu'⟩ : Fin 4224) q : S4224x128.Idx) 0).val from not_le.mpr hu)]
    pointwise [k0_pay3]
    exact EReal.coe_zero.symm
  · obtain ⟨t, rfl⟩ : ∃ t, u = t + 128 := ⟨u - 128, by omega⟩
    rw [attnOf_v _ _ _ t q.val (by omega) (by omega), dif_pos (show 128 ≤ ((ix2 (⟨t + 128, hu'⟩ : Fin 4224) q : S4224x128.Idx) 0).val from not_lt.mp hu)]
    exact (vB_at m c _ _ _).trans (F.p _)

theorem fits (t : Fin cfg0.N) : Fits (att m c) (grid0.coords t 0).val (qB m c t) (kB m c t) (vB m c t) (eB m c t) where
  q r l := by
    have := lt16 t
    rw [coord t, row, attnOf_q _ _ _ _ _ (by omega) (by omega)]
    exact (qB_at m c t r l).trans (F.p _)
  k l q := by
    rw [coord t]
    unfold kB
    rw [windowOf_at]
    exact keys_at m c F _ _ _ _
  v l q := by
    rw [coord t]
    unfold vB
    rw [windowOf_at]
    exact vals_at m c F _ _ _ _
  e j := by
    rw [attnOf_sink]
    exact (eB_at m c t j).trans (F.e _)

theorem out_at (t : Fin cfg0.N) (r l : Fin 256) :
    (outsAt0 m c t.val t.isLt).1 (ix2 r l) = (((att m c).out (256 * t.val + r.val) l.val : ℝ) : EReal) := by
  refine Eq.trans (b := outBlock (grid0.coords t) (qB m c t) (kB m c t) (vB m c t) (eB m c t) (ix2 r l)) ?_ ?_
  · by_cases h0 : t.val % 16 = 0
    · exact congrFun (out_A m c t h0) _
    · exact congrFun (out_B m c t h0) _
  · rw [outBlock_at (fits m c F t) r l, coord]

/-- The attention's result, as an array. -/
def outF (A : Attn) : FVec Ideal S4096x256 .bf16 := fun j => ((A.out (j 0).val (j 1).val : ℝ) : EReal)

theorem final_4 : (dats m 0 c).arrAt 4 (cfgs 0).N = outF (att m c) := by
  refine (dats m 0 c).arrAt_eq_of_covers 4 _ (by decide +kernel) fun t hf y => ?_
  blk_simp; rw [after0_4]
  have h16 := lt16 t
  obtain ⟨r, l, rfl⟩ : ∃ (y0 y1 : Fin 256), y = ix2 y0 y1 := ⟨y 0, y 1, eq_ix2 y⟩
  have e : ((cfg0.win 4).blk t).view.emb (ix2 r l) = (ix2 (⟨256 * t.val + r.val, by omega⟩ : Fin 4096) l : S4096x256.Idx) := by
    blk_ext [idx t]
  refine Eq.trans ?_ (congrArg (outF (att m c)) e.symm)
  exact out_at m c F t r l

end
end Cert.SwafKernelIdeal.Value
end
-- ==== Proof.SwafPair.lean ====
module

public import proofs.«01_k».proof.Defs
public import proofs.«01_k».proof.Proof.Gen.SwafReferenceIdeal.Read
public import proofs.«01_k».proof.Proof.Gen.Pre_proj_finite
public import proofs.«01_k».proof.Proof.SwafValue
public import proofs.«01_k».proof.Proof.SwaPair
public import Idealize.ShloMosaic.Lib.Quiescent
public import Idealize.ShloMosaic.Lib.ReduceAll

@[expose] public section
set_option maxRecDepth 16384
noncomputable section

namespace Cert.SwafReferenceIdeal.Read
open Cert.SwafReferenceIdeal Cert.SwafReferenceIdeal.Gen Idealize.ShloMosaic Idealize.ShloMosaic.TcCoe Cert.Proof
open Cert.SwaKernelIdeal.Value (attnOf Finite)
open Cert.SwaReferenceIdeal.Read (hd head_v)

variable (P : FVec Ideal S1x4096x3088 .f32) (e : FVec Ideal S4 .f32) (D : FVec Ideal Cert.SwaKernelIdeal.S1x4096x1024 .f32) (F : Finite P e D)

/-! ### The forward lines are those the gradient's reference starts with -/

theorem keys_same : val_main_v13 (F := Ideal) P = Cert.SwaReferenceIdeal.Read.val_main_v15 (F := Ideal) P := rfl
theorem vals_same : val_main_v17 (F := Ideal) P = Cert.SwaReferenceIdeal.Read.val_main_v19 (F := Ideal) P := rfl
theorem score_same : val_main_v64 (F := Ideal) P = Cert.SwaReferenceIdeal.Read.val_main_v66_0 (F := Ideal) P := rfl
theorem entry_same : val_main_v67 (F := Ideal) P e = Cert.SwaReferenceIdeal.Read.val_main_v69 (F := Ideal) P e := rfl
theorem top_same : val_main_v70 (F := Ideal) P e = Cert.SwaReferenceIdeal.Read.val_main_v77 (F := Ideal) P e := rfl
theorem exp_same : val_main_v74 (F := Ideal) P e = Cert.SwaReferenceIdeal.Read.val_main_v90 (F := Ideal) P e := rfl
theorem prob_same : val_main_v79 (F := Ideal) P e = Cert.SwaReferenceIdeal.Read.val_main_v98 (F := Ideal) P e := rfl

include F

theorem out_at (c : Fin 64) (h g : Fin 2) (i d : Fin 64) : val_main_v80 (F := Ideal) P e (ix6 (0 : Fin 1) c h d g i)
    = (((hd P e D h g).out (64 * c.val + i.val) d.val : ℝ) : EReal) := by
  pointwise [val_main_v80]
  rw [vals_same, prob_same]
  simp only [Cert.SwaReferenceIdeal.Read.prob_at P e D F, Cert.SwaReferenceIdeal.Read.v_at P e D F, ← EReal.coe_mul, coe_sum]
  rw [(hd P e D h g).out_window (64 * c.val + i.val) (64 * c.val) 192 (by omega) (by omega) (by omega)]
  congr 1
  exact Finset.sum_congr rfl fun j _ => by rw [head_v, mul_comm]

theorem outRow (n : Fin 4096) (l : Fin 256) : val_main_v84 (F := Ideal) P e (ix2 n l) = Cert.SwafKernelIdeal.Value.outF (attnOf P e D) (ix2 n l) := by
  pointwise [val_main_v84, val_main_v83, val_main_v82, val_main_v81]
  refine (out_at P e D F ⟨n.val / 64, by omega⟩ ⟨l.val / 128, by omega⟩ ⟨l.val / 64 % 2, by omega⟩ ⟨n.val % 64, by omega⟩ ⟨l.val % 64, by omega⟩).trans ?_
  show (((attnOf P e D).head (2 * (l.val / 128) + l.val / 64 % 2)).out (64 * (n.val / 64) + n.val % 64) (l.val % 64) : EReal) = (((attnOf P e D).head (l.val / 64)).out n.val (l.val % 64) : ℝ)
  rw [show 2 * (l.val / 128) + l.val / 64 % 2 = l.val / 64 by omega, show 64 * (n.val / 64) + n.val % 64 = n.val by omega]

end Cert.SwafReferenceIdeal.Read

namespace Cert.Proof
open Idealize.ShloMosaic Idealize.SL.Sem Idealize.ShloMosaic.Pipeline
open Cert.SwaKernelIdeal.Value (Finite)
open Cert.SwafKernelIdeal.Value (noCot)

theorem proj_real (P : FVec Ideal Cert.Pre_proj_finite.S1x4096x3088 .f32) (e : FVec Ideal Cert.Pre_proj_finite.S4 .f32)
    (h : Cert.Pre_proj_finite.fn (F := Ideal) P e = fun _ => 1#1) : Finite P e noCot := by
  have h := congrFun h ix0
  unfold Cert.Pre_proj_finite.fn at h
  have h0 := and_left h
  have h1 := and_right h
  refine ⟨fun x => real_self ?_, fun x => real_self ?_, fun x => real_self ⟨0, rfl⟩⟩
  · have k := Host.reduce_andi_all _ _ _ _ _ h0 x
    idx_vars x
    pointwise at k
    exact real_of_bounds k
  · have k := Host.reduce_andi_all _ _ _ _ _ h1 x
    idx_vars x
    pointwise at k
    exact real_of_bounds k

/-- The kernel's masked score -1e30 is read as minus infinity, and nothing else is read differently. -/
theorem swaf_named : preserves_SwafKernel_SwafKernelIdeal :=
  IdealRules.named_const.statement Cert.SwafKernelIdeal.κ "mask" .f32 0xF149F2CA#32 ⊥ rfl

theorem swaf_ref_frame : quiescent_SwafReferenceIdeal := fun m g _ =>
  (θ_run _ _ _).mono (fun r h => ⟨fun c => (h c).2, sem_eq_zero_of_no_sems rfl r.2⟩) (Cert.SwafReferenceIdeal.Value.run m g)

theorem swaf_pair : algebraic_SwafKernelIdeal_SwafReferenceIdeal_pre_proj_finite := by
  pair_intro
  · run_from Cert.SwafKernelIdeal.Value.run_blocks m g
  · run_from Cert.SwafReferenceIdeal.Value.run m' g'
    · obtain ⟨h0, h1⟩ := hagree c
      rw [Cert.SwafReferenceIdeal.Read.val_main_v84_eq, Cert.SwafKernelIdeal.Value.final_4 m c (proj_real _ _ (hpre c))]
      try rw [h0]
      try rw [h1]
      funext j
      idx_vars j
      exact Cert.SwafReferenceIdeal.Read.outRow _ _ _ (proj_real _ _ (hpre c)) _ _

end Cert.Proof
end
-- ==== Proof.PnfPair.lean ====
module

public import proofs.«01_k».proof.Proof.Gen.PnfKernelIdeal.Value
public import proofs.«01_k».proof.Proof.Gen.PnfReferenceIdeal.Read
public import proofs.«01_k».proof.Defs
public import proofs.«01_k».proof.Proof.PnValue
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Quiescent

@[expose] public section
set_option maxRecDepth 16384
noncomputable section
namespace Cert.PnfKernelIdeal.Value
open Cert.PnfKernelIdeal Cert.PnfKernelIdeal.Gen Idealize.ShloMosaic Idealize.ShloMosaic.TcCoe Idealize.SL.Sem
open Idealize.ShloMosaic.Pipeline (Dat)
variable (m : (ℓ : Loc nD τ sig) → Buf (Elt Ideal) ℓ)
open Cert.Proof (ms normed blockRow)
open Cert.PnKernelIdeal.Value (row)

/-! ## The norm before a sub-layer -/

abbrev xA (c : Dev nD) : FVec Ideal S1x4096x1024 .f32 := m ((c : Thread nD τ).loc main_arg0)
abbrev wA (c : Dev nD) : FVec Ideal S1024 .f32 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

theorem block (x : FVec Ideal S512x1024 .f32) (w : FVec Ideal S1x1024 .f32) (r : Fin 512) (l : Fin 1024) :
    k0_pay1 (F := Ideal) x w (ix2 r l) = normed (fun k => x (ix2 r k)) (fun k => w (ix2 0 k)) l := by
  pointwise [k0_pay1, normed, ms]

/-- The row of the whole array that a block's row is. -/
def at_ (t : Fin cfg0.N) (r : Fin 512) : Fin 4096 := blockRow (finCongr N_0 t) r

theorem x_at (c : Dev nD) (t : Fin cfg0.N) (r : Fin 512) (l : Fin 1024) : iblk m c 0 t (ix2 r l) = row (xA m c) (at_ t r) l := by
  blk_simp [iblk]; entry_read; pointwise; blk_ext [idx t] <;> rfl

theorem w_at (c : Dev nD) (t : Fin cfg0.N) (l : Fin 1024) : iblk m c 1 t (ix2 (0 : Fin 1) l) = wA m c (ix1 l) := by
  blk_simp [iblk]; entry_read; pointwise; blk_ext [idx t]

/-- The normed rows. -/
def hF (X : FVec Ideal S1x4096x1024 .f32) (W : FVec Ideal S1024 .f32) : FVec Ideal S4096x1024 .bf16 :=
  fun j => normed (row X (j 0)) (fun k => W (ix1 k)) (j 1)

theorem final_2 (c : Dev nD) : (dats m 0 c).arrAt 2 (cfgs 0).N = hF (xA m c) (wA m c) := by
  refine (dats m 0 c).arrAt_eq_of_covers 2 _ (by decide +kernel) fun t hf y => ?_
  blk_simp; rw [after0_2]; frame_out
  obtain ⟨r, l, rfl⟩ : ∃ (y0 : Fin 512) (y1 : Fin 1024), y = ix2 y0 y1 := ⟨y 0, y 1, eq_ix2 y⟩
  have e : ((cfg0.win 2).blk t).view.emb (ix2 r l) = (ix2 (at_ t r) l : S4096x1024.Idx) := by blk_ext [idx t] <;> rfl
  refine Eq.trans ?_ (congrArg (hF (xA m c) (wA m c)) e.symm)
  refine (block _ _ r l).trans ?_
  simp only [x_at, w_at]
  rfl

end Cert.PnfKernelIdeal.Value

namespace Cert.PnfReferenceIdeal.Read
open Cert.PnfReferenceIdeal Cert.PnfReferenceIdeal.Gen Idealize.ShloMosaic Idealize.ShloMosaic.TcCoe Idealize.SL.Sem Idealize.ShloMosaic.StableHlo Idealize.ShloMosaic.Pipeline
open Cert.Proof (ms normed)
open Cert.PnfKernelIdeal.Value (hF)
open Cert.PnKernelIdeal.Value (row)

variable (X : FVec Ideal S1x4096x1024 .f32) (W : FVec Ideal S1024 .f32)

theorem v6_at (n : Fin 4096) : val_main_v6 (F := Ideal) X (ix3 (0 : Fin 1) n (0 : Fin 1)) = ms (row X n) := by
  pointwise [val_main_v6, val_main_v5, val_main_v4, val_main_v3, val_main_v2, val_main_v1, val_main_v0, val_main_cst, val_main_cst_0, val_main_cst_1, ms]

theorem v14_at (j : S4096x1024.Idx) : val_main_v14 (F := Ideal) X W j = hF X W j := by
  idx_vars j
  pointwise [val_main_v14, val_main_v13, val_main_v12, val_main_v11, val_main_v10, val_main_v9, val_main_v8, val_main_v7]
  rw [v6_at]
  rfl

end Cert.PnfReferenceIdeal.Read

namespace Cert.Proof
open Idealize.ShloMosaic Idealize.SL.Sem Idealize.ShloMosaic.Pipeline

theorem pnf_ref_frame : quiescent_PnfReferenceIdeal := fun m g _ =>
  (θ_run _ _ _).mono (fun r h => ⟨fun c => (h c).2, sem_eq_zero_of_no_sems rfl r.2⟩) (Cert.PnfReferenceIdeal.Value.run m g)

theorem pnf_pair : algebraic_PnfKernelIdeal_PnfReferenceIdeal := by
  pair_intro
  · run_from Cert.PnfKernelIdeal.Value.run_blocks m g
  · run_from Cert.PnfReferenceIdeal.Value.run m' g'
    · rw [Cert.PnfReferenceIdeal.Read.val_main_v14_eq, Cert.PnfKernelIdeal.Value.final_2 m c]
      funext j
      exact Cert.PnfReferenceIdeal.Read.v14_at _ _ j

end Cert.Proof
end
-- ==== Proof.RnfPair.lean ====
module

public import proofs.«01_k».proof.Proof.Gen.RnfKernelIdeal.Value
public import proofs.«01_k».proof.Proof.Gen.RnfReferenceIdeal.Read
public import proofs.«01_k».proof.Defs
public import proofs.«01_k».proof.Proof.RnValue
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Quiescent

@[expose] public section
set_option maxRecDepth 16384
noncomputable section
namespace Cert.RnfKernelIdeal.Value
open Cert.RnfKernelIdeal Cert.RnfKernelIdeal.Gen Idealize.ShloMosaic Idealize.ShloMosaic.TcCoe Idealize.SL.Sem
open Idealize.ShloMosaic.Pipeline (Dat)
variable (m : (ℓ : Loc nD τ sig) → Buf (Elt Ideal) ℓ)
open Cert.Proof (ms normed blockRow)
open Cert.RnKernelIdeal.Value (row wts outRow)

/-! ## A sub-layer's two norms: the one of its output, added to its input, and the next sub-layer's -/

abbrev a0 (c : Dev nD) : FVec Ideal S1x4096x1024 .f32 := m ((c : Thread nD τ).loc main_arg0)
abbrev a1 (c : Dev nD) : FVec Ideal S1x4096x1024 .f32 := m ((c : Thread nD τ).loc main_arg1)
abbrev a2 (c : Dev nD) : FVec Ideal S1024 .f32 := m ((c : Thread nD τ).loc main_arg2)
abbrev a3 (c : Dev nD) : FVec Ideal S1024 .f32 := m ((c : Thread nD τ).loc main_arg3)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

theorem x_block (x y : FVec Ideal S512x1024 .f32) (p : FVec Ideal S1x1024 .f32) (r : Fin 512) (l : Fin 1024) :
    k0_pay1 (F := Ideal) x y p (ix2 r l) = x (ix2 r l) + normed (fun k => y (ix2 r k)) (fun k => p (ix2 0 k)) l := by
  pointwise [k0_pay1, normed, ms]

theorem h_block (x y : FVec Ideal S512x1024 .f32) (p w : FVec Ideal S1x1024 .f32) (r : Fin 512) (l : Fin 1024) :
    k0_pay2 (F := Ideal) x y p w (ix2 r l) = normed (fun k => k0_pay1 (F := Ideal) x y p (ix2 r k)) (fun k => w (ix2 0 k)) l := by
  pointwise [k0_pay2, normed, ms]

/-- The row of the whole array that a block's row is. -/
def at_ (t : Fin cfg0.N) (r : Fin 512) : Fin 4096 := blockRow (finCongr N_0 t) r

theorem x_at (c : Dev nD) (t : Fin cfg0.N) (r : Fin 512) (l : Fin 1024) : iblk m c 0 t (ix2 r l) = row (a0 m c) (at_ t r) l := by
  blk_simp [iblk]; entry_read; pointwise; blk_ext [idx t] <;> rfl

theorem y_at (c : Dev nD) (t : Fin cfg0.N) (r : Fin 512) (l : Fin 1024) : iblk m c 1 t (ix2 r l) = row (a1 m c) (at_ t r) l := by
  blk_simp [iblk]; entry_read; pointwise; blk_ext [idx t] <;> rfl

theorem p_at (c : Dev nD) (t : Fin cfg0.N) (l : Fin 1024) : iblk m c 2 t (ix2 (0 : Fin 1) l) = wts (a2 m c) l := by
  blk_simp [iblk]; entry_read; pointwise; blk_ext [idx t]

theorem w_at (c : Dev nD) (t : Fin cfg0.N) (l : Fin 1024) : iblk m c 3 t (ix2 (0 : Fin 1) l) = wts (a3 m c) l := by
  blk_simp [iblk]; entry_read; pointwise; blk_ext [idx t]

def xF (X M : FVec Ideal S1x4096x1024 .f32) (P : FVec Ideal S1024 .f32) : FVec Ideal S4096x1024 .f32 := fun j => outRow X M P (j 0) (j 1)

def hF (X M : FVec Ideal S1x4096x1024 .f32) (P W : FVec Ideal S1024 .f32) : FVec Ideal S4096x1024 .bf16 :=
  fun j => normed (outRow X M P (j 0)) (wts W) (j 1)

theorem out_at (c : Dev nD) (t : Fin cfg0.N) (r : Fin 512) (l : Fin 1024) :
    k0_pay1 (F := Ideal) (iblk m c 0 t) (iblk m c 1 t) (iblk m c 2 t) (ix2 r l) = outRow (a0 m c) (a1 m c) (a2 m c) (at_ t r) l := by
  refine (x_block _ _ _ r l).trans ?_
  simp only [x_at, y_at, p_at]
  rfl

theorem final_4 (c : Dev nD) : (dats m 0 c).arrAt 4 (cfgs 0).N = xF (a0 m c) (a1 m c) (a2 m c) := by
  refine (dats m 0 c).arrAt_eq_of_covers 4 _ (by decide +kernel) fun t hf y => ?_
  blk_simp; rw [after0_4]; frame_out
  obtain ⟨r, l, rfl⟩ : ∃ (y0 : Fin 512) (y1 : Fin 1024), y = ix2 y0 y1 := ⟨y 0, y 1, eq_ix2 y⟩
  have e : ((cfg0.win 4).blk t).view.emb (ix2 r l) = (ix2 (at_ t r) l : S4096x1024.Idx) := by blk_ext [idx t] <;> rfl
  refine Eq.trans ?_ (congrArg (xF (a0 m c) (a1 m c) (a2 m c)) e.symm)
  exact out_at m c t r l

theorem final_5 (c : Dev nD) : (dats m 0 c).arrAt 5 (cfgs 0).N = hF (a0 m c) (a1 m c) (a2 m c) (a3 m c) := by
  refine (dats m 0 c).arrAt_eq_of_covers 5 _ (by decide +kernel) fun t hf y => ?_
  blk_simp; rw [after0_5]; frame_out
  obtain ⟨r, l, rfl⟩ : ∃ (y0 : Fin 512) (y1 : Fin 1024), y = ix2 y0 y1 := ⟨y 0, y 1, eq_ix2 y⟩
  have e : ((cfg0.win 5).blk t).view.emb (ix2 r l) = (ix2 (at_ t r) l : S4096x1024.Idx) := by blk_ext [idx t] <;> rfl
  refine Eq.trans ?_ (congrArg (hF (a0 m c) (a1 m c) (a2 m c) (a3 m c)) e.symm)
  refine (h_block _ _ _ _ r l).trans ?_
  simp only [out_at, w_at]
  rfl

end Cert.RnfKernelIdeal.Value

namespace Cert.RnfReferenceIdeal.Read
open Cert.RnfReferenceIdeal Cert.RnfReferenceIdeal.Gen Idealize.ShloMosaic Idealize.ShloMosaic.TcCoe Idealize.SL.Sem Idealize.ShloMosaic.StableHlo Idealize.ShloMosaic.Pipeline
open Cert.Proof (ms normed)
open Cert.RnfKernelIdeal.Value (xF hF)
open Cert.RnKernelIdeal.Value (row wts outRow)

variable (X M : FVec Ideal S1x4096x1024 .f32) (P W : FVec Ideal S1024 .f32)

theorem v6_at (n : Fin 4096) : val_main_v6 (F := Ideal) M (ix3 (0 : Fin 1) n (0 : Fin 1)) = ms (row M n) := by
  pointwise [val_main_v6, val_main_v5, val_main_v4, val_main_v3, val_main_v2, val_main_v1, val_main_v0, val_main_cst, val_main_cst_0, val_main_cst_1, ms]

theorem v13_at (n : Fin 4096) (k : Fin 1024) : val_main_v13 (F := Ideal) X M P (ix3 (0 : Fin 1) n k) = outRow X M P n k := by
  pointwise [val_main_v13, val_main_v12, val_main_v11, val_main_v10, val_main_v9, val_main_v8, val_main_v7]
  rw [v6_at]
  rfl

theorem v20_at (n : Fin 4096) : val_main_v20 (F := Ideal) X M P (ix3 (0 : Fin 1) n (0 : Fin 1)) = ms (outRow X M P n) := by
  pointwise [val_main_v20, val_main_v19, val_main_v18, val_main_v17, val_main_v16, val_main_v15, val_main_v14, val_main_cst_2, val_main_cst_3, val_main_cst_4]
  simp only [v13_at]
  rfl

theorem v27_at (j : S4096x1024.Idx) : val_main_v27 (F := Ideal) X M P j = xF X M P j := by
  idx_vars j
  pointwise [val_main_v27]
  rw [v13_at]
  rfl

theorem v29_at (j : S4096x1024.Idx) : val_main_v29 (F := Ideal) X M P W j = hF X M P W j := by
  idx_vars j
  pointwise [val_main_v29, val_main_v28, val_main_v26, val_main_v25, val_main_v24, val_main_v23, val_main_v22, val_main_v21]
  rw [v13_at, v20_at]
  rfl

end Cert.RnfReferenceIdeal.Read

namespace Cert.Proof
open Idealize.ShloMosaic Idealize.SL.Sem Idealize.ShloMosaic.Pipeline

theorem rnf_ref_frame : quiescent_RnfReferenceIdeal := fun m g _ =>
  (θ_run _ _ _).mono (fun r h => ⟨fun c => (h c).2.2, sem_eq_zero_of_no_sems rfl r.2⟩) (Cert.RnfReferenceIdeal.Value.run m g)

theorem rnf_pair : algebraic_RnfKernelIdeal_RnfReferenceIdeal := by
  pair_intro
  · run_from Cert.RnfKernelIdeal.Value.run_blocks m g
  · run_from Cert.RnfReferenceIdeal.Value.run m' g'
    · rw [Cert.RnfReferenceIdeal.Read.val_main_v27_eq, Cert.RnfKernelIdeal.Value.final_4 m c]
      funext j
      exact Cert.RnfReferenceIdeal.Read.v27_at _ _ _ j
    · rw [Cert.RnfReferenceIdeal.Read.val_main_v29_eq, Cert.RnfKernelIdeal.Value.final_5 m c]
      funext j
      exact Cert.RnfReferenceIdeal.Read.v29_at _ _ _ _ j

end Cert.Proof
end
-- ==== Proof.UpPair.lean ====
module

public import proofs.«01_k».proof.Proof.Gen.UpKernelIdeal.Value
public import proofs.«01_k».proof.Proof.Gen.UpReferenceIdeal.Read
public import proofs.«01_k».proof.Defs
public import proofs.«01_k».proof.Proof.FfValue
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Quiescent

@[expose] public section
set_option maxRecDepth 16384
noncomputable section
namespace Cert.UpKernelIdeal.Value
open Cert.UpKernelIdeal Cert.UpKernelIdeal.Gen Idealize.ShloMosaic Idealize.ShloMosaic.TcCoe Idealize.SL.Sem
open Idealize.ShloMosaic.Pipeline (Dat)
variable (m : (ℓ : Loc nD τ sig) → Buf (Elt Ideal) ℓ)
open Cert.FfKernelIdeal.Value (proj packed packed_0 packed_1)

/-! ## The two projections of the gated product, packed, and their product -/

abbrev a0 (c : Dev nD) : FVec Ideal S1x4096x1024 .f32 := m ((c : Thread nD τ).loc main_arg0)
abbrev a1 (c : Dev nD) : FVec Ideal S1024x2816 .f32 := m ((c : Thread nD τ).loc main_arg1)
abbrev a2 (c : Dev nD) : FVec Ideal S1024x2816 .f32 := m ((c : Thread nD τ).loc main_arg2)

/-- The gated product at one entry. -/
def gated (g u : EReal) : EReal := g * Ideal.logistic g * u

theorem gu_block (x : FVec Ideal S512x1024 .bf16) (w : FVec Ideal S2816x1024 .bf16) (r : Fin 512) (l : Fin 2816) :
    k0_pay2 (F := Ideal) x w (ix2 r l) = ∑ k : Fin 1024, x (ix2 r k) * w (ix2 l k) := by
  pointwise [k0_pay2, k0_pay1]

theorem act_block (x : FVec Ideal S512x1024 .bf16) (w : FVec Ideal S2816x1024 .bf16) (r : Fin 512) (l : Fin 1408) :
    k0_pay3 (F := Ideal) x w (ix2 r l) = gated (∑ k : Fin 1024, x (ix2 r k) * w (ix2 ⟨l.val, by omega⟩ k)) (∑ k : Fin 1024, x (ix2 r k) * w (ix2 ⟨1408 + l.val, by omega⟩ k)) := by
  pointwise [k0_pay3, k0_pay1, gated]

theorem idx : ∀ t : Fin cfg0.N, win0_0.index t = ![t.val % 8, 0] ∧ win0_1.index t = ![t.val / 8, 0] ∧ win0_2.index t = ![t.val % 8, t.val / 8]
    ∧ win0_3.index t = ![t.val % 8, t.val / 8] :=
  (by decide +kernel : ∀ t : Fin grid0.N, _)

theorem x_at (c : Dev nD) (t : Fin cfg0.N) (r : Fin 512) (k : Fin 1024) :
    iblk m c 0 t (ix2 r k) = a0 m c (ix3 (0 : Fin 1) (⟨t.val % 8 * 512 + r.val, by omega⟩ : Fin 4096) k) := by
  blk_simp [iblk]; entry_read; pointwise; blk_ext [idx t]

/-- The weights' columns, packed half by half. -/
abbrev wcol (A B : FVec Ideal S1024x2816 .f32) (k : Fin 1024) (q : Fin 5632) : EReal :=
  packed (fun _ q => A (ix2 k q)) (fun _ q => B (ix2 k q)) 0 q

set_option maxHeartbeats 1600000 in
theorem rows_at (c : Dev nD) (q : Fin 5632) (k : Fin 1024) :
    (V m c main_v9 : FVec Ideal S5632x1024 .bf16) (ix2 q k) = wcol (a1 m c) (a2 m c) k q := by
  unfold_abbrev_sides; after_reads_simp; pointwise
  unfold packed
  by_cases h : q.val < 1408
  · simp only [dif_pos h]
    after_reads_simp; pointwise
  · simp only [dif_neg h]
    by_cases h' : q.val - 1408 < 1408
    · simp only [dif_pos h']
      after_reads_simp; pointwise
    · simp only [dif_neg h']
      by_cases h'' : q.val - 1408 - 1408 < 1408
      · simp only [dif_pos h'']
        after_reads_simp; pointwise
      · simp only [dif_neg h'']
        after_reads_simp; pointwise

theorem w_at (c : Dev nD) (t : Fin cfg0.N) (l : Fin 2816) (k : Fin 1024) :
    iblk m c 1 t (ix2 l k) = wcol (a1 m c) (a2 m c) k (⟨t.val / 8 * 2816 + l.val, by have h := lt_of_lt_of_eq t.isLt N_0; omega⟩ : Fin 5632) := by
  have h16 : t.val < 16 := lt_of_lt_of_eq t.isLt N_0
  have e : ((cfg0.win 1).blk t).view.emb (ix2 l k) = (ix2 (⟨t.val / 8 * 2816 + l.val, by omega⟩ : Fin 5632) k : S5632x1024.Idx) := by
    blk_ext [idx t]
  refine Eq.trans ?_ (rows_at m c _ _)
  blk_simp [iblk]; rw [e]

def guF (H : FVec Ideal S1x4096x1024 .f32) (A B : FVec Ideal S1024x2816 .f32) : FVec Ideal S4096x5632 .bf16 := fun j => packed (proj H A) (proj H B) (j 0) (j 1)

def actF (H : FVec Ideal S1x4096x1024 .f32) (A B : FVec Ideal S1024x2816 .f32) : FVec Ideal S4096x2816 .bf16 :=
  fun j => gated (proj H A (j 0) (j 1)) (proj H B (j 0) (j 1))

/-- A row of the input against a packed column is the packed projection. -/
theorem packed_proj (H : FVec Ideal S1x4096x1024 .f32) (A B : FVec Ideal S1024x2816 .f32) (n : Fin 4096) (q : Fin 5632) :
    ∑ k : Fin 1024, H (ix3 (0 : Fin 1) n k) * wcol A B k q = packed (proj H A) (proj H B) n q := by
  unfold wcol packed
  split
  · rfl
  · split
    · rfl
    · split
      · rfl
      · rfl

abbrev dot (X Y : Fin 1024 → EReal) : EReal := ∑ k : Fin 1024, X k * Y k

theorem sum_at (c : Dev nD) (t : Fin cfg0.N) (r : Fin 512) (l : Fin 2816) :
    dot (fun k => iblk m c 0 t (ix2 r k)) (fun k => iblk m c 1 t (ix2 l k))
      = packed (proj (a0 m c) (a1 m c)) (proj (a0 m c) (a2 m c)) (⟨t.val % 8 * 512 + r.val, by omega⟩ : Fin 4096)
        (⟨t.val / 8 * 2816 + l.val, by have h := lt_of_lt_of_eq t.isLt N_0; omega⟩ : Fin 5632) :=
  (Finset.sum_congr rfl fun k _ => congr (congrArg _ (x_at m c t r k)) (w_at m c t l k)).trans (packed_proj _ _ _ _ _)

theorem final_2 (c : Dev nD) : (dats m 0 c).arrAt 2 (cfgs 0).N = guF (a0 m c) (a1 m c) (a2 m c) := by
  refine (dats m 0 c).arrAt_eq_of_covers 2 _ (by decide +kernel) fun t hf y => ?_
  blk_simp; rw [after0_2]; frame_out
  have h16 : t.val < 16 := lt_of_lt_of_eq t.isLt N_0
  obtain ⟨r, l, rfl⟩ : ∃ (y0 : Fin 512) (y1 : Fin 2816), y = ix2 y0 y1 := ⟨y 0, y 1, eq_ix2 y⟩
  have e : ((cfg0.win 2).blk t).view.emb (ix2 r l) = (ix2 (⟨t.val % 8 * 512 + r.val, by omega⟩ : Fin 4096) (⟨t.val / 8 * 2816 + l.val, by omega⟩ : Fin 5632) : S4096x5632.Idx) := by
    blk_ext [idx t]
  refine Eq.trans ?_ (congrArg (guF (a0 m c) (a1 m c) (a2 m c)) e.symm)
  exact (gu_block _ _ r l).trans (sum_at m c t r l)

theorem final_3 (c : Dev nD) : (dats m 0 c).arrAt 3 (cfgs 0).N = actF (a0 m c) (a1 m c) (a2 m c) := by
  refine (dats m 0 c).arrAt_eq_of_covers 3 _ (by decide +kernel) fun t hf y => ?_
  blk_simp; rw [after0_3]; frame_out
  have h16 : t.val < 16 := lt_of_lt_of_eq t.isLt N_0
  obtain ⟨r, l, rfl⟩ : ∃ (y0 : Fin 512) (y1 : Fin 1408), y = ix2 y0 y1 := ⟨y 0, y 1, eq_ix2 y⟩
  have e : ((cfg0.win 3).blk t).view.emb (ix2 r l) = (ix2 (⟨t.val % 8 * 512 + r.val, by omega⟩ : Fin 4096) (⟨t.val / 8 * 1408 + l.val, by omega⟩ : Fin 2816) : S4096x2816.Idx) := by
    blk_ext [idx t]
  refine Eq.trans ?_ (congrArg (actF (a0 m c) (a1 m c) (a2 m c)) e.symm)
  refine (act_block _ _ r l).trans ?_
  refine (congr (congrArg gated (sum_at m c t r ⟨l.val, by omega⟩)) (sum_at m c t r ⟨1408 + l.val, by omega⟩)).trans ?_
  rw [packed_0 _ _ _ (t.val / 8) (by omega) l.val l.isLt, packed_1 _ _ _ (t.val / 8) (by omega) l.val l.isLt]
  rfl

end Cert.UpKernelIdeal.Value

namespace Cert.UpReferenceIdeal.Read
open Cert.UpReferenceIdeal Cert.UpReferenceIdeal.Gen Idealize.ShloMosaic Idealize.ShloMosaic.TcCoe Idealize.SL.Sem Idealize.ShloMosaic.StableHlo Idealize.ShloMosaic.Pipeline
open Cert.FfKernelIdeal.Value (proj packed)
open Cert.UpKernelIdeal.Value (gated guF actF)

variable (H : FVec Ideal S1x4096x1024 .f32) (A B : FVec Ideal S1024x2816 .f32)

theorem v11_at (j : S4096x5632.Idx) : val_main_v11 (F := Ideal) H A B j = guF H A B j := by
  idx_vars j
  pointwise [val_main_v11, val_main_v10, val_main_v9, val_main_v8, val_main_v7, val_main_v6, val_main_v5, val_main_v4, val_main_v1, val_main_v0]
  rfl

theorem sig_at (n : Fin 4096) (q : Fin 2816) : val_main_call0_v5 (F := Ideal) H A (ix3 (0 : Fin 1) n q) = Ideal.logistic (proj H A n q) := by
  pointwise [val_main_call0_v5, val_main_call0_v4, val_main_call0_v3, val_main_call0_v2, val_main_call0_v1, val_main_call0_v0, val_main_call0_cst,
    val_main_call0_cst_0, val_main_v0, proj]
  rfl

theorem v13_at (j : S4096x2816.Idx) : val_main_v13 (F := Ideal) H A B j = actF H A B j := by
  idx_vars j
  pointwise [val_main_v13, val_main_v12, val_main_v3, val_main_v2]
  rw [sig_at]
  pointwise [val_main_v1, val_main_v0]
  rfl

end Cert.UpReferenceIdeal.Read

namespace Cert.Proof
open Idealize.ShloMosaic Idealize.SL.Sem Idealize.ShloMosaic.Pipeline

theorem up_ref_frame : quiescent_UpReferenceIdeal := fun m g _ =>
  (θ_run _ _ _).mono (fun r h => ⟨fun c => (h c).2.2, sem_eq_zero_of_no_sems rfl r.2⟩) (Cert.UpReferenceIdeal.Value.run m g)

theorem up_pair : algebraic_UpKernelIdeal_UpReferenceIdeal := by
  pair_intro
  · run_from Cert.UpKernelIdeal.Value.run_blocks m g
  · run_from Cert.UpReferenceIdeal.Value.run m' g'
    · obtain ⟨h0, h1, h2⟩ := hagree c
      rw [Cert.UpReferenceIdeal.Read.val_main_v11_eq, Cert.UpKernelIdeal.Value.final_2 m c]
      try rw [h0]
      try rw [h1]
      try rw [h2]
      funext j
      exact Cert.UpReferenceIdeal.Read.v11_at _ _ _ j
    · obtain ⟨h0, h1, h2⟩ := hagree c
      rw [Cert.UpReferenceIdeal.Read.val_main_v13_eq, Cert.UpKernelIdeal.Value.final_3 m c]
      try rw [h0]
      try rw [h1]
      try rw [h2]
      funext j
      exact Cert.UpReferenceIdeal.Read.v13_at _ _ _ j

end Cert.Proof
end
-- ==== Proof.ConvfPair.lean ====
module

public import proofs.«01_k».proof.Proof.Gen.ConvfKernelIdeal.Value
public import proofs.«01_k».proof.Proof.Gen.ConvfReferenceIdeal.Read
public import proofs.«01_k».proof.Defs
public import Idealize.ShloMosaic.Lib.WritesUnit
public import proofs.«01_k».proof.Proof.ConvValue
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Quiescent

@[expose] public section
set_option maxRecDepth 16384
noncomputable section
namespace Cert.ConvfKernelIdeal.Value
open Cert.ConvfKernelIdeal Cert.ConvfKernelIdeal.Gen Idealize.ShloMosaic Idealize.ShloMosaic.TcCoe Idealize.SL.Sem
open Idealize.ShloMosaic.Pipeline (Dat)
variable (m : (ℓ : Loc nD τ sig) → Buf (Elt Ideal) ℓ)

/-! ## The causal convolution before the state space layer, forward -/

abbrev a0 (c : Dev nD) : FVec Ideal S1x4096x3088 .f32 := m ((c : Thread nD τ).loc main_arg0)
abbrev a1 (c : Dev nD) : FVec Ideal S4x1024 .f32 := m ((c : Thread nD τ).loc main_arg1)
abbrev a2 (c : Dev nD) : FVec Ideal S1024 .f32 := m ((c : Thread nD τ).loc main_arg2)

/-- The columns the convolution reads, with eight rows of zeros put before them. -/
def xq (X : FVec Ideal S1x4096x3088 .f32) (n : ℕ) (l : Fin 1024) : EReal :=
  if h : 8 ≤ n ∧ n < 4104 then X (ix3 (0 : Fin 1) ⟨n - 8, by omega⟩ ⟨1024 + l.val, by omega⟩) else 0

/-- The convolution's value before the activation. -/
def yq (X : FVec Ideal S1x4096x3088 .f32) (W : FVec Ideal S4x1024 .f32) (B : FVec Ideal S1024 .f32) (r : ℕ) (l : Fin 1024) : EReal :=
  B (ix1 l) + W (ix2 0 l) * xq X (r + 5) l + W (ix2 1 l) * xq X (r + 6) l + W (ix2 2 l) * xq X (r + 7) l + W (ix2 3 l) * xq X (r + 8) l

/-- The convolution, activated. -/
def convF (X : FVec Ideal S1x4096x3088 .f32) (W : FVec Ideal S4x1024 .f32) (B : FVec Ideal S1024 .f32) : FVec Ideal S4096x1024 .f32 :=
  fun j => yq X W B (j 0).val (j 1) * Ideal.logistic (yq X W B (j 0).val (j 1))

theorem idx : ∀ t : Fin cfg0.N, win0_0.index t = ![t.val, 1] ∧ win0_1.index t = ![0, 0] ∧ win0_2.index t = ![0, 0] ∧ win0_3.index t = ![t.val, 0] :=
  (by decide +kernel : ∀ t : Fin grid0.N, _)

set_option maxHeartbeats 1600000 in
theorem packed_at (c : Dev nD) (R : Fin 4096) (l : Fin 1024) :
    (V m c main_v9 : FVec Ideal S4096x3328 .f32) (ix2 R (⟨1024 + l.val, by omega⟩ : Fin 3328)) = a0 m c (ix3 (0 : Fin 1) R ⟨1024 + l.val, by omega⟩) := by
  unfold_abbrev_sides; after_reads_simp; pointwise
  rw [dif_neg (by omega), dif_neg (by omega), dif_pos (by omega)]
  after_reads_simp; pointwise
  blk_ext []

theorem x_at (c : Dev nD) (t : Fin cfg0.N) (r : Fin 512) (l : Fin 1024) : X0_0 m c t (ix2 r l) = xq (a0 m c) (t.val * 512 + (8 + r.val)) l := by
  have h8 : t.val < 8 := lt_of_lt_of_eq t.isLt N_0
  unfold X0_0 xq Pipeline.Window.fill
  rw [dif_pos (moved0_0 t _), dif_pos (by omega)]
  refine Eq.trans ?_ (packed_at m c ⟨t.val * 512 + (8 + r.val) - 8, by omega⟩ l)
  blk_ext [iblk, idx t]

theorem bias_at (c : Dev nD) (l : Fin 1024) : (V m c main_v10 : FVec Ideal S1x1024 .f32) (ix2 (0 : Fin 1) l) = a2 m c (ix1 l) := by
  unfold_abbrev_sides; after_reads_simp; pointwise

/-- A block's input rows with the eight before them. -/
def ext (c : Dev nD) (t : Fin cfg0.N) : FVec Ideal S520x1024 .f32 := fun j => xq (a0 m c) (t.val * 512 + (j 0).val) (j 1)

theorem ext_emb (c : Dev nD) (t : Fin cfg0.N) (k n : ℕ) (inb) (x : (Rect.unit (s := S520x1024) ![k, 0] ![n, 1024] inb).shape.Idx) :
    ext m c t ((Rect.unit (s := S520x1024) ![k, 0] ![n, 1024] inb).emb x) = xq (a0 m c) (t.val * 512 + (k + (x 0).val)) (x 1) := by
  have e0 : ((Rect.unit (s := S520x1024) ![k, 0] ![n, 1024] inb).emb x 0).val = k + (x 0).val := ValueKit.rect_emb_unit_val (s := S520x1024) _ _ _ x 0
  have e1 : (Rect.unit (s := S520x1024) ![k, 0] ![n, 1024] inb).emb x 1 = x 1 := Fin.ext ((ValueKit.rect_emb_unit_val (s := S520x1024) _ _ _ x 1).trans (Nat.zero_add _))
  unfold ext
  rw [e0, e1]

theorem fill_at (c : Dev nD) (t : Fin cfg0.N) (x : S512x1024.Idx) : k0_pay3 (X0_0 m c t) x = xq (a0 m c) (t.val * 512 + (8 + (x 0).val)) (x 1) := by
  obtain ⟨x0, x1, rfl⟩ : ∃ (x0 : Fin 512) (x1 : Fin 1024), x = ix2 x0 x1 := ⟨x 0, x 1, eq_ix2 x⟩
  unfold k0_pay3
  rw [shapeCast_self, shapeCast_self]
  exact x_at m c t x0 x1

/-- The first point: nothing lies before the first row. -/
theorem ext_first (c : Dev nD) (t : Fin cfg0.N) (h : t.val % 8 = 0) (y : S520x1024.Idx) :
    View.canon (Val := Elt Ideal) (s := S520x1024) (e := .f32)
      [⟨Rect.unit ![8, 0] ![512, 1024] inb_S520x1024_S512x1024_8_0, k0_pay3 (X0_0 m c t)⟩,
        ⟨Rect.unit ![0, 0] ![8, 1024] inb_S520x1024_S8x1024_0_0, k0_pay2 (F := Ideal)⟩] y = ext m c t y := by
  refine Cert.ConvKernelIdeal.Value.canon_blocks (e := .f32) (ext m c t)
    [⟨Rect.unit ![8, 0] ![512, 1024] inb_S520x1024_S512x1024_8_0, k0_pay3 (X0_0 m c t)⟩,
        ⟨Rect.unit ![0, 0] ![8, 1024] inb_S520x1024_S8x1024_0_0, k0_pay2 (F := Ideal)⟩] ⟨fun x => ?_, fun x => ?_, trivial⟩ y ?_
  · exact (fill_at m c t x).trans (ext_emb m c t 8 512 inb_S520x1024_S512x1024_8_0 x).symm
  · refine Eq.trans ?_ (ext_emb m c t 0 8 inb_S520x1024_S8x1024_0_0 x).symm
    have h8 : t.val < 8 := lt_of_lt_of_eq t.isLt N_0
    have hx : (x 0).val < 8 := (x 0).isLt
    unfold xq
    rw [dif_neg (by omega)]
    exact (by pointwise [k0_pay2] : (k0_pay2 (F := Ideal)) x = 0)
  · simp only [List.mem_cons, List.not_mem_nil, or_false, exists_eq_or_imp, exists_eq_left, Rect.mem_set_unit]
    rcases Nat.lt_or_ge (y 0).val 8 with h | h
    · exact Or.inr (Fin.forall_fin_two.2 ⟨⟨Nat.zero_le _, h⟩, Nat.zero_le _, (y 1).isLt⟩)
    · exact Or.inl (Fin.forall_fin_two.2 ⟨⟨h, (y 0).isLt⟩, Nat.zero_le _, (y 1).isLt⟩)

/-- A later point: before the block lie the rows the point before left. -/
theorem ext_later (c : Dev nD) (t : Fin cfg0.N) (X : FVec Ideal S520x1024 .f32) (f : (View.whole cc0_scratch0).ty.Contents (Elt Ideal)) (hf : View.read (Elt Ideal) (View.whole cc0_scratch0) f = X)
    (hX : ∀ (r : Fin 8) (l : Fin 1024), X (ix2 ⟨r.val, by omega⟩ l) = xq (a0 m c) (t.val * 512 + r.val) l) :
    View.read (Elt Ideal) (View.whole cc0_scratch0) ((View.whole cc0_scratch0).writes (Elt Ideal) f
      [⟨Rect.unit (s := S520x1024) ![8, 0] ![512, 1024] inb_S520x1024_S512x1024_8_0, k0_pay3 (X0_0 m c t)⟩]) = ext m c t := by
  funext y
  obtain ⟨y0, y1, rfl⟩ : ∃ (y0 : Fin 520) (y1 : Fin 1024), y = ix2 y0 y1 := ⟨y 0, y 1, eq_ix2 y⟩
  rcases Nat.lt_or_ge y0.val 8 with h | h
  · refine (View.read_writes_cons_unit_of_not_mem (s := S520x1024) (e := .f32) _ _ _ _ _ _ rfl 0 (Or.inl h)).trans ?_
    rw [View.writes_nil, hf]
    exact hX ⟨y0.val, h⟩ y1
  · have e : (ix2 y0 y1 : S520x1024.Idx) = (Rect.unit (s := S520x1024) ![8, 0] ![512, 1024] inb_S520x1024_S512x1024_8_0).emb (ix2 ⟨y0.val - 8, by omega⟩ y1) := by
      blk_ext []
    rw [e]
    refine (View.read_writes_cons_emb _ _ _ _ _ _).trans ?_
    exact (fill_at m c t _).trans (ext_emb m c t 8 512 _ _).symm

/-- What a point leaves for the next: its block's last eight rows. -/
theorem left_at (c : Dev nD) (t : Fin cfg0.N) (r : Fin 8) (l : Fin 1024) :
    (outsAt0 m c t.val t.isLt).2 (ix2 ⟨r.val, by omega⟩ l) = xq (a0 m c) ((t.val + 1) * 512 + r.val) l := by
  have key : ∀ (Q : FVec Ideal S8x1024 .f32) (L : List (View.Piece (Elt Ideal) S520x1024 .f32)), Q (ix2 r l) = xq (a0 m c) ((t.val + 1) * 512 + r.val) l →
      View.canon (Val := Elt Ideal) (s := S520x1024) (e := .f32) (⟨Rect.unit ![0, 0] ![8, 1024] inb_S520x1024_S8x1024_0_0, Q⟩ :: L) (ix2 ⟨r.val, by omega⟩ l)
        = xq (a0 m c) ((t.val + 1) * 512 + r.val) l := by
    intro Q L hQ
    have e : (ix2 (⟨r.val, by omega⟩ : Fin 520) l : S520x1024.Idx) = (Rect.unit (s := S520x1024) ![0, 0] ![8, 1024] inb_S520x1024_S8x1024_0_0).emb (ix2 r l) := by
      blk_ext []
    rw [e]
    exact (View.canon_cons_emb _ _ _ _).trans hQ
  have e : (Rect.unit (s := S520x1024) ![512, 0] ![8, 1024] inb_S520x1024_S8x1024_512_0).emb (ix2 r l)
     = (Rect.unit (s := S520x1024) ![8, 0] ![512, 1024] inb_S520x1024_S512x1024_8_0).emb (ix2 (⟨504 + r.val, by omega⟩ : Fin 512) l) := by
      blk_ext []
  have n : t.val * 512 + (512 + r.val) = (t.val + 1) * 512 + r.val := by omega
  by_cases h : t.val % 8 = 0
  · rw [outsAt0_A m c t h]; frame_out; simp only [View.readCov_eq_canon']
    refine key _ _ ?_
    unfold k0_pay1
    rw [shapeCast_self]
    refine (ext_first m c t h _).trans ?_
    refine (ext_emb m c t 512 8 _ _).trans ?_
    show xq (a0 m c) (t.val * 512 + (512 + r.val)) l = _
    rw [n]
  · rw [outsAt0_B m c t h]; frame_out; simp only [View.readCov_eq_canon']
    refine key _ _ ?_
    unfold k0_pay1
    rw [shapeCast_self]
    show View.canon _ ((Rect.unit (s := S520x1024) ![512, 0] ![8, 1024] inb_S520x1024_S8x1024_512_0).emb (ix2 r l)) = _
    rw [e]
    refine (View.canon_cons_emb _ _ _ _).trans ?_
    refine (fill_at m c t _).trans ?_
    show xq (a0 m c) (t.val * 512 + (8 + (504 + r.val))) l = _
    rw [← n]
    exact congrArg (fun k => xq (a0 m c) k l) (by omega)

theorem ext_row (c : Dev nD) (t : Fin cfg0.N) (r : Fin 512) (k : ℕ) (hk : k ≤ 8) (l : Fin 1024) :
    ext m c t (ix2 (⟨k + r.val, by omega⟩ : Fin 520) l) = xq (a0 m c) (t.val * 512 + r.val + k) l := by
  show xq (a0 m c) (t.val * 512 + (k + r.val)) l = _
  rw [show t.val * 512 + (k + r.val) = t.val * 512 + r.val + k by omega]

/-- A block of the result. -/
theorem block_at (c : Dev nD) (t : Fin cfg0.N) (r : Fin 512) (l : Fin 1024) :
    (outsAt0 m c t.val t.isLt).1 (ix2 r l) = yq (a0 m c) (a1 m c) (a2 m c) (t.val * 512 + r.val) l * Ideal.logistic (yq (a0 m c) (a1 m c) (a2 m c) (t.val * 512 + r.val) l) := by
  have hw : ∀ k : Fin 4, iblk m c 1 t (ix2 k l) = a1 m c (ix2 k l) := fun k => by blk_point [iblk, V, idx t]
  have hb : iblk m c 2 t (ix2 (0 : Fin 1) l) = a2 m c (ix1 l) := by
    have e : ((cfg0.win 2).blk t).view.emb (ix2 (0 : Fin 1) l) = (ix2 (0 : Fin 1) l : S1x1024.Idx) := by blk_ext [idx t]
    refine Eq.trans ?_ (bias_at m c l)
    blk_simp [iblk]; rw [e]
  by_cases h : t.val % 8 = 0
  · rw [outsAt0_A m c t h]; frame_out; simp only [View.readCov_eq_canon', ext_first m c t h]
    pointwise [k0_pay4]
    rw [hw, hw, hw, hw, hb, ext_row m c t r 5 (by omega), ext_row m c t r 6 (by omega), ext_row m c t r 7 (by omega), ext_row m c t r 8 (by omega)]
    rfl
  · rw [outsAt0_B m c t h]; frame_out; simp only [View.readCov_eq_canon']
    have hX : ∀ (r : Fin 8) (l : Fin 1024), (outsAt0 m c (t.val - 1) (Nat.lt_of_le_of_lt (Nat.sub_le _ _) t.isLt)).2 (ix2 ⟨r.val, by omega⟩ l)
        = xq (a0 m c) (t.val * 512 + r.val) l := fun r l => by
      refine (left_at m c ⟨t.val - 1, Nat.lt_of_le_of_lt (Nat.sub_le _ _) t.isLt⟩ r l).trans ?_
      show xq (a0 m c) ((t.val - 1 + 1) * 512 + r.val) l = _
      rw [show t.val - 1 + 1 = t.val by omega]
    erw [ext_later m c t _ _ (read_unread_whole _ _ _) hX]
    have e8 : View.canon (Val := Elt Ideal) (s := S520x1024) (e := .f32) [⟨Rect.unit ![8, 0] ![512, 1024] inb_S520x1024_S512x1024_8_0, k0_pay3 (X0_0 m c t)⟩] (ix2 (⟨8 + r.val, by omega⟩ : Fin 520) l)
        = xq (a0 m c) (t.val * 512 + r.val + 8) l := by
      have e : (ix2 (⟨8 + r.val, by omega⟩ : Fin 520) l : S520x1024.Idx) = (Rect.unit (s := S520x1024) ![8, 0] ![512, 1024] inb_S520x1024_S512x1024_8_0).emb (ix2 r l) := by
        blk_ext []
      rw [e]
      refine (View.canon_cons_emb _ _ _ _).trans ((fill_at m c t _).trans ?_)
      show xq (a0 m c) (t.val * 512 + (8 + r.val)) l = _
      rw [show t.val * 512 + (8 + r.val) = t.val * 512 + r.val + 8 by omega]
    pointwise [k0_pay4]
    rw [hw, hw, hw, hw, hb, ext_row m c t r 5 (by omega), ext_row m c t r 6 (by omega), ext_row m c t r 7 (by omega), e8]
    rfl

set_option maxHeartbeats 1600000 in
theorem final_3 (c : Dev nD) : (dats m 0 c).arrAt 3 (cfgs 0).N = convF (a0 m c) (a1 m c) (a2 m c) := by
  refine (dats m 0 c).arrAt_eq_of_covers 3 _ (by decide +kernel) fun t hf y => ?_
  blk_simp; rw [after0_3]
  have h8 : t.val < 8 := lt_of_lt_of_eq t.isLt N_0
  obtain ⟨r, l, rfl⟩ : ∃ (y0 : Fin 512) (y1 : Fin 1024), y = ix2 y0 y1 := ⟨y 0, y 1, eq_ix2 y⟩
  have e : ((cfg0.win 3).blk t).view.emb (ix2 r l) = (ix2 (⟨t.val * 512 + r.val, by omega⟩ : Fin 4096) l : S4096x1024.Idx) := by blk_ext [idx t]
  exact (block_at m c t r l).trans (congrArg (convF (a0 m c) (a1 m c) (a2 m c)) e.symm)

end Cert.ConvfKernelIdeal.Value

namespace Cert.ConvfReferenceIdeal.Read
open Cert.ConvfReferenceIdeal Cert.ConvfReferenceIdeal.Gen Idealize.ShloMosaic Idealize.ShloMosaic.TcCoe Idealize.SL.Sem Idealize.ShloMosaic.StableHlo Idealize.ShloMosaic.Pipeline
open Cert.ConvfKernelIdeal.Value (xq yq convF)

variable (X : FVec Ideal S1x4096x3088 .f32) (W : FVec Ideal S4x1024 .f32) (B : FVec Ideal S1024 .f32)

/-- The input with three zero rows before it. -/
theorem v2_at (n : Fin 4099) (l : Fin 1024) : val_main_v2 (F := Ideal) X (ix3 (0 : Fin 1) n l) = xq X (n.val + 5) l := by
  pointwise [val_main_v2, val_main_v1, val_main_v0, val_main_cst]
  unfold xq
  by_cases h : n.val < 3
  · rw [dif_pos h, dif_neg (by omega)]
  · rw [dif_neg h, dif_pos (by omega)]
    have e : n.val + 5 - 8 = n.val - 3 := by omega
    simp only [e]

theorem y_at (r : Fin 4096) (l : Fin 1024) : val_main_v32 (F := Ideal) X W B (ix3 (0 : Fin 1) r l) = yq X W B r.val l := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3]
  rw [v2_at, v2_at, v2_at, v2_at]
  unfold yq
  rw [show 1 + r.val + 5 = r.val + 6 from by omega, show 2 + r.val + 5 = r.val + 7 from by omega, show 3 + r.val + 5 = r.val + 8 from by omega,
    mul_comm (xq X (r.val + 5) l), mul_comm (xq X (r.val + 6) l), mul_comm (xq X (r.val + 7) l), mul_comm (xq X (r.val + 8) l)]
  abel

theorem out_at (j : S4096x1024.Idx) : val_main_v34 (F := Ideal) X W B j = convF X W B j := by
  idx_vars j
  pointwise [val_main_v34, val_main_v33, val_main_call0_v5, val_main_call0_v4, val_main_call0_v3, val_main_call0_v2, val_main_call0_v1, val_main_call0_v0, val_main_call0_cst,
    val_main_call0_cst_0]
  rw [y_at]
  rfl

end Cert.ConvfReferenceIdeal.Read

namespace Cert.Proof
open Idealize.ShloMosaic Idealize.SL.Sem Idealize.ShloMosaic.Pipeline

theorem convf_ref_frame : quiescent_ConvfReferenceIdeal := fun m g _ =>
  (θ_run _ _ _).mono (fun r h => ⟨fun c => (h c).2, sem_eq_zero_of_no_sems rfl r.2⟩) (Cert.ConvfReferenceIdeal.Value.run m g)

theorem convf_pair : algebraic_ConvfKernelIdeal_ConvfReferenceIdeal := by
  pair_intro
  · run_from Cert.ConvfKernelIdeal.Value.run_blocks m g
  · run_from Cert.ConvfReferenceIdeal.Value.run m' g'
    · rw [Cert.ConvfReferenceIdeal.Read.val_main_v34_eq, Cert.ConvfKernelIdeal.Value.final_3 m c]
      obtain ⟨h0, h1, h2⟩ := hagree c
      try rw [h0]
      try rw [h1]
      try rw [h2]
      funext j
      exact Cert.ConvfReferenceIdeal.Read.out_at _ _ _ j

end Cert.Proof
end
-- ==== Proof.GconvfPair.lean ====
module

public import proofs.«01_k».proof.Proof.Gen.GconvfKernelIdeal.Value
public import proofs.«01_k».proof.Proof.Gen.GconvfReferenceIdeal.Read
public import proofs.«01_k».proof.Defs
public import Idealize.ShloMosaic.Lib.WritesUnit
public import proofs.«01_k».proof.Proof.ConvValue
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Quiescent

@[expose] public section
set_option maxRecDepth 16384
noncomputable section
namespace Cert.GconvfKernelIdeal.Value
open Cert.GconvfKernelIdeal Cert.GconvfKernelIdeal.Gen Idealize.ShloMosaic Idealize.ShloMosaic.TcCoe Idealize.SL.Sem
open Idealize.ShloMosaic.Pipeline (Dat)
variable (m : (ℓ : Loc nD τ sig) → Buf (Elt Ideal) ℓ)

/-! ## The causal convolution before the delta rule layer, forward -/

abbrev a0 (c : Dev nD) : FVec Ideal S1x4096x3088 .f32 := m ((c : Thread nD τ).loc main_arg0)
abbrev a1 (c : Dev nD) : FVec Ideal S4x768 .f32 := m ((c : Thread nD τ).loc main_arg1)

/-- The columns the convolution reads, with eight rows of zeros put before them. -/
def xq (X : FVec Ideal S1x4096x3088 .f32) (n : ℕ) (l : Fin 768) : EReal :=
  if h : 8 ≤ n ∧ n < 4104 then X (ix3 (0 : Fin 1) ⟨n - 8, by omega⟩ ⟨2056 + l.val, by omega⟩) else 0

/-- The convolution's value before the activation. -/
def yq (X : FVec Ideal S1x4096x3088 .f32) (W : FVec Ideal S4x768 .f32) (r : ℕ) (l : Fin 768) : EReal :=
  W (ix2 0 l) * xq X (r + 5) l + W (ix2 1 l) * xq X (r + 6) l + W (ix2 2 l) * xq X (r + 7) l + W (ix2 3 l) * xq X (r + 8) l

/-- The convolution, activated. -/
def convF (X : FVec Ideal S1x4096x3088 .f32) (W : FVec Ideal S4x768 .f32) : FVec Ideal S4096x768 .f32 :=
  fun j => yq X W (j 0).val (j 1) * Ideal.logistic (yq X W (j 0).val (j 1))

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

set_option maxHeartbeats 1600000 in
theorem packed_at (c : Dev nD) (R : Fin 4096) (l : Fin 768) :
    (V m c main_v9 : FVec Ideal S4096x3328 .f32) (ix2 R (⟨0 + l.val, by omega⟩ : Fin 3328)) = a0 m c (ix3 (0 : Fin 1) R ⟨2056 + l.val, by omega⟩) := by
  unfold_abbrev_sides; after_reads_simp; pointwise

  after_reads_simp; pointwise
  blk_ext []

theorem x_at (c : Dev nD) (t : Fin cfg0.N) (r : Fin 512) (l : Fin 768) : X0_0 m c t (ix2 r l) = xq (a0 m c) (t.val * 512 + (8 + r.val)) l := by
  have h8 : t.val < 8 := lt_of_lt_of_eq t.isLt N_0
  unfold X0_0 xq Pipeline.Window.fill
  rw [dif_pos (moved0_0 t _), dif_pos (by omega)]
  refine Eq.trans ?_ (packed_at m c ⟨t.val * 512 + (8 + r.val) - 8, by omega⟩ l)
  blk_ext [iblk, idx t]

theorem bias_at (c : Dev nD) (l : Fin 768) : (V m c main_v10 : FVec Ideal S1x768 .f32) (ix2 (0 : Fin 1) l) = (0 : EReal) := by
  unfold_abbrev_sides; after_reads_simp; pointwise
  exact EReal.coe_zero

/-- A block's input rows with the eight before them. -/
def ext (c : Dev nD) (t : Fin cfg0.N) : FVec Ideal S520x768 .f32 := fun j => xq (a0 m c) (t.val * 512 + (j 0).val) (j 1)

theorem ext_emb (c : Dev nD) (t : Fin cfg0.N) (k n : ℕ) (inb) (x : (Rect.unit (s := S520x768) ![k, 0] ![n, 768] inb).shape.Idx) :
    ext m c t ((Rect.unit (s := S520x768) ![k, 0] ![n, 768] inb).emb x) = xq (a0 m c) (t.val * 512 + (k + (x 0).val)) (x 1) := by
  have e0 : ((Rect.unit (s := S520x768) ![k, 0] ![n, 768] inb).emb x 0).val = k + (x 0).val := ValueKit.rect_emb_unit_val (s := S520x768) _ _ _ x 0
  have e1 : (Rect.unit (s := S520x768) ![k, 0] ![n, 768] inb).emb x 1 = x 1 := Fin.ext ((ValueKit.rect_emb_unit_val (s := S520x768) _ _ _ x 1).trans (Nat.zero_add _))
  unfold ext
  rw [e0, e1]

theorem fill_at (c : Dev nD) (t : Fin cfg0.N) (x : S512x768.Idx) : k0_pay3 (X0_0 m c t) x = xq (a0 m c) (t.val * 512 + (8 + (x 0).val)) (x 1) := by
  obtain ⟨x0, x1, rfl⟩ : ∃ (x0 : Fin 512) (x1 : Fin 768), x = ix2 x0 x1 := ⟨x 0, x 1, eq_ix2 x⟩
  unfold k0_pay3
  rw [shapeCast_self, shapeCast_self]
  exact x_at m c t x0 x1

/-- The first point: nothing lies before the first row. -/
theorem ext_first (c : Dev nD) (t : Fin cfg0.N) (h : t.val % 8 = 0) (y : S520x768.Idx) :
    View.canon (Val := Elt Ideal) (s := S520x768) (e := .f32)
      [⟨Rect.unit ![8, 0] ![512, 768] inb_S520x768_S512x768_8_0, k0_pay3 (X0_0 m c t)⟩,
        ⟨Rect.unit ![0, 0] ![8, 768] inb_S520x768_S8x768_0_0, k0_pay2 (F := Ideal)⟩] y = ext m c t y := by
  refine Cert.ConvKernelIdeal.Value.canon_blocks (e := .f32) (ext m c t)
    [⟨Rect.unit ![8, 0] ![512, 768] inb_S520x768_S512x768_8_0, k0_pay3 (X0_0 m c t)⟩,
        ⟨Rect.unit ![0, 0] ![8, 768] inb_S520x768_S8x768_0_0, k0_pay2 (F := Ideal)⟩] ⟨fun x => ?_, fun x => ?_, trivial⟩ y ?_
  · exact (fill_at m c t x).trans (ext_emb m c t 8 512 inb_S520x768_S512x768_8_0 x).symm
  · refine Eq.trans ?_ (ext_emb m c t 0 8 inb_S520x768_S8x768_0_0 x).symm
    have h8 : t.val < 8 := lt_of_lt_of_eq t.isLt N_0
    have hx : (x 0).val < 8 := (x 0).isLt
    unfold xq
    rw [dif_neg (by omega)]
    exact (by pointwise [k0_pay2] : (k0_pay2 (F := Ideal)) x = 0)
  · simp only [List.mem_cons, List.not_mem_nil, or_false, exists_eq_or_imp, exists_eq_left, Rect.mem_set_unit]
    rcases Nat.lt_or_ge (y 0).val 8 with h | h
    · exact Or.inr (Fin.forall_fin_two.2 ⟨⟨Nat.zero_le _, h⟩, Nat.zero_le _, (y 1).isLt⟩)
    · exact Or.inl (Fin.forall_fin_two.2 ⟨⟨h, (y 0).isLt⟩, Nat.zero_le _, (y 1).isLt⟩)

/-- A later point: before the block lie the rows the point before left. -/
theorem ext_later (c : Dev nD) (t : Fin cfg0.N) (X : FVec Ideal S520x768 .f32) (f : (View.whole cc0_scratch0).ty.Contents (Elt Ideal)) (hf : View.read (Elt Ideal) (View.whole cc0_scratch0) f = X)
    (hX : ∀ (r : Fin 8) (l : Fin 768), X (ix2 ⟨r.val, by omega⟩ l) = xq (a0 m c) (t.val * 512 + r.val) l) :
    View.read (Elt Ideal) (View.whole cc0_scratch0) ((View.whole cc0_scratch0).writes (Elt Ideal) f
      [⟨Rect.unit (s := S520x768) ![8, 0] ![512, 768] inb_S520x768_S512x768_8_0, k0_pay3 (X0_0 m c t)⟩]) = ext m c t := by
  funext y
  obtain ⟨y0, y1, rfl⟩ : ∃ (y0 : Fin 520) (y1 : Fin 768), y = ix2 y0 y1 := ⟨y 0, y 1, eq_ix2 y⟩
  rcases Nat.lt_or_ge y0.val 8 with h | h
  · refine (View.read_writes_cons_unit_of_not_mem (s := S520x768) (e := .f32) _ _ _ _ _ _ rfl 0 (Or.inl h)).trans ?_
    rw [View.writes_nil, hf]
    exact hX ⟨y0.val, h⟩ y1
  · have e : (ix2 y0 y1 : S520x768.Idx) = (Rect.unit (s := S520x768) ![8, 0] ![512, 768] inb_S520x768_S512x768_8_0).emb (ix2 ⟨y0.val - 8, by omega⟩ y1) := by
      blk_ext []
    rw [e]
    refine (View.read_writes_cons_emb _ _ _ _ _ _).trans ?_
    exact (fill_at m c t _).trans (ext_emb m c t 8 512 _ _).symm

/-- What a point leaves for the next: its block's last eight rows. -/
theorem left_at (c : Dev nD) (t : Fin cfg0.N) (r : Fin 8) (l : Fin 768) :
    (outsAt0 m c t.val t.isLt).2 (ix2 ⟨r.val, by omega⟩ l) = xq (a0 m c) ((t.val + 1) * 512 + r.val) l := by
  have key : ∀ (Q : FVec Ideal S8x768 .f32) (L : List (View.Piece (Elt Ideal) S520x768 .f32)), Q (ix2 r l) = xq (a0 m c) ((t.val + 1) * 512 + r.val) l →
      View.canon (Val := Elt Ideal) (s := S520x768) (e := .f32) (⟨Rect.unit ![0, 0] ![8, 768] inb_S520x768_S8x768_0_0, Q⟩ :: L) (ix2 ⟨r.val, by omega⟩ l)
        = xq (a0 m c) ((t.val + 1) * 512 + r.val) l := by
    intro Q L hQ
    have e : (ix2 (⟨r.val, by omega⟩ : Fin 520) l : S520x768.Idx) = (Rect.unit (s := S520x768) ![0, 0] ![8, 768] inb_S520x768_S8x768_0_0).emb (ix2 r l) := by
      blk_ext []
    rw [e]
    exact (View.canon_cons_emb _ _ _ _).trans hQ
  have e : (Rect.unit (s := S520x768) ![512, 0] ![8, 768] inb_S520x768_S8x768_512_0).emb (ix2 r l)
     = (Rect.unit (s := S520x768) ![8, 0] ![512, 768] inb_S520x768_S512x768_8_0).emb (ix2 (⟨504 + r.val, by omega⟩ : Fin 512) l) := by
      blk_ext []
  have n : t.val * 512 + (512 + r.val) = (t.val + 1) * 512 + r.val := by omega
  by_cases h : t.val % 8 = 0
  · rw [outsAt0_A m c t h]; frame_out; simp only [View.readCov_eq_canon']
    refine key _ _ ?_
    unfold k0_pay1
    rw [shapeCast_self]
    refine (ext_first m c t h _).trans ?_
    refine (ext_emb m c t 512 8 _ _).trans ?_
    show xq (a0 m c) (t.val * 512 + (512 + r.val)) l = _
    rw [n]
  · rw [outsAt0_B m c t h]; frame_out; simp only [View.readCov_eq_canon']
    refine key _ _ ?_
    unfold k0_pay1
    rw [shapeCast_self]
    show View.canon _ ((Rect.unit (s := S520x768) ![512, 0] ![8, 768] inb_S520x768_S8x768_512_0).emb (ix2 r l)) = _
    rw [e]
    refine (View.canon_cons_emb _ _ _ _).trans ?_
    refine (fill_at m c t _).trans ?_
    show xq (a0 m c) (t.val * 512 + (8 + (504 + r.val))) l = _
    rw [← n]
    exact congrArg (fun k => xq (a0 m c) k l) (by omega)

theorem ext_row (c : Dev nD) (t : Fin cfg0.N) (r : Fin 512) (k : ℕ) (hk : k ≤ 8) (l : Fin 768) :
    ext m c t (ix2 (⟨k + r.val, by omega⟩ : Fin 520) l) = xq (a0 m c) (t.val * 512 + r.val + k) l := by
  show xq (a0 m c) (t.val * 512 + (k + r.val)) l = _
  rw [show t.val * 512 + (k + r.val) = t.val * 512 + r.val + k by omega]

/-- A block of the result. -/
theorem block_at (c : Dev nD) (t : Fin cfg0.N) (r : Fin 512) (l : Fin 768) :
    (outsAt0 m c t.val t.isLt).1 (ix2 r l) = yq (a0 m c) (a1 m c) (t.val * 512 + r.val) l * Ideal.logistic (yq (a0 m c) (a1 m c) (t.val * 512 + r.val) l) := by
  have hw : ∀ k : Fin 4, iblk m c 1 t (ix2 k l) = a1 m c (ix2 k l) := fun k => by blk_point [iblk, V, idx t]
  have hb : iblk m c 2 t (ix2 (0 : Fin 1) l) = (0 : EReal) := by
    have e : ((cfg0.win 2).blk t).view.emb (ix2 (0 : Fin 1) l) = (ix2 (0 : Fin 1) l : S1x768.Idx) := by blk_ext [idx t]
    refine Eq.trans ?_ (bias_at m c l)
    blk_simp [iblk]; rw [e]
  by_cases h : t.val % 8 = 0
  · rw [outsAt0_A m c t h]; frame_out; simp only [View.readCov_eq_canon', ext_first m c t h]
    pointwise [k0_pay4]
    rw [hw, hw, hw, hw, hb, ext_row m c t r 5 (by omega), ext_row m c t r 6 (by omega), ext_row m c t r 7 (by omega), ext_row m c t r 8 (by omega)]
    simp only [zero_add]; rfl
  · rw [outsAt0_B m c t h]; frame_out; simp only [View.readCov_eq_canon']
    have hX : ∀ (r : Fin 8) (l : Fin 768), (outsAt0 m c (t.val - 1) (Nat.lt_of_le_of_lt (Nat.sub_le _ _) t.isLt)).2 (ix2 ⟨r.val, by omega⟩ l)
        = xq (a0 m c) (t.val * 512 + r.val) l := fun r l => by
      refine (left_at m c ⟨t.val - 1, Nat.lt_of_le_of_lt (Nat.sub_le _ _) t.isLt⟩ r l).trans ?_
      show xq (a0 m c) ((t.val - 1 + 1) * 512 + r.val) l = _
      rw [show t.val - 1 + 1 = t.val by omega]
    erw [ext_later m c t _ _ (read_unread_whole _ _ _) hX]
    have e8 : View.canon (Val := Elt Ideal) (s := S520x768) (e := .f32) [⟨Rect.unit ![8, 0] ![512, 768] inb_S520x768_S512x768_8_0, k0_pay3 (X0_0 m c t)⟩] (ix2 (⟨8 + r.val, by omega⟩ : Fin 520) l)
        = xq (a0 m c) (t.val * 512 + r.val + 8) l := by
      have e : (ix2 (⟨8 + r.val, by omega⟩ : Fin 520) l : S520x768.Idx) = (Rect.unit (s := S520x768) ![8, 0] ![512, 768] inb_S520x768_S512x768_8_0).emb (ix2 r l) := by
        blk_ext []
      rw [e]
      refine (View.canon_cons_emb _ _ _ _).trans ((fill_at m c t _).trans ?_)
      show xq (a0 m c) (t.val * 512 + (8 + r.val)) l = _
      rw [show t.val * 512 + (8 + r.val) = t.val * 512 + r.val + 8 by omega]
    pointwise [k0_pay4]
    rw [hw, hw, hw, hw, hb, ext_row m c t r 5 (by omega), ext_row m c t r 6 (by omega), ext_row m c t r 7 (by omega), e8]
    simp only [zero_add]; rfl

set_option maxHeartbeats 1600000 in
theorem final_3 (c : Dev nD) : (dats m 0 c).arrAt 3 (cfgs 0).N = convF (a0 m c) (a1 m c) := by
  refine (dats m 0 c).arrAt_eq_of_covers 3 _ (by decide +kernel) fun t hf y => ?_
  blk_simp; rw [after0_3]
  have h8 : t.val < 8 := lt_of_lt_of_eq t.isLt N_0
  obtain ⟨r, l, rfl⟩ : ∃ (y0 : Fin 512) (y1 : Fin 768), y = ix2 y0 y1 := ⟨y 0, y 1, eq_ix2 y⟩
  have e : ((cfg0.win 3).blk t).view.emb (ix2 r l) = (ix2 (⟨t.val * 512 + r.val, by omega⟩ : Fin 4096) l : S4096x768.Idx) := by blk_ext [idx t]
  exact (block_at m c t r l).trans (congrArg (convF (a0 m c) (a1 m c)) e.symm)

end Cert.GconvfKernelIdeal.Value

namespace Cert.GconvfReferenceIdeal.Read
open Cert.GconvfReferenceIdeal Cert.GconvfReferenceIdeal.Gen Idealize.ShloMosaic Idealize.ShloMosaic.TcCoe Idealize.SL.Sem Idealize.ShloMosaic.StableHlo Idealize.ShloMosaic.Pipeline
open Cert.GconvfKernelIdeal.Value (xq yq convF)

variable (X : FVec Ideal S1x4096x3088 .f32) (W : FVec Ideal S4x768 .f32)

/-- The input with three zero rows before it. -/
theorem v2_at (n : Fin 4099) (l : Fin 768) : val_main_v2 (F := Ideal) X (ix3 (0 : Fin 1) n l) = xq X (n.val + 5) l := by
  pointwise [val_main_v2, val_main_v1, val_main_v0, val_main_cst]
  unfold xq
  by_cases h : n.val < 3
  · rw [dif_pos h, dif_neg (by omega)]
  · rw [dif_neg h, dif_pos (by omega)]
    have e : n.val + 5 - 8 = n.val - 3 := by omega
    simp only [e]

theorem y_at (r : Fin 4096) (l : Fin 768) : val_main_v29 (F := Ideal) X W (ix3 (0 : Fin 1) r l) = yq X W r.val l := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3]
  rw [v2_at, v2_at, v2_at, v2_at]
  unfold yq
  rw [show 1 + r.val + 5 = r.val + 6 from by omega, show 2 + r.val + 5 = r.val + 7 from by omega, show 3 + r.val + 5 = r.val + 8 from by omega,
    mul_comm (xq X (r.val + 5) l), mul_comm (xq X (r.val + 6) l), mul_comm (xq X (r.val + 7) l), mul_comm (xq X (r.val + 8) l)]

theorem out_at (j : S4096x768.Idx) : val_main_v31 (F := Ideal) X W j = convF X W j := by
  idx_vars j
  pointwise [val_main_v31, val_main_v30, val_main_call0_v5, val_main_call0_v4, val_main_call0_v3, val_main_call0_v2, val_main_call0_v1, val_main_call0_v0, val_main_call0_cst,
    val_main_call0_cst_0]
  rw [y_at]
  rfl

end Cert.GconvfReferenceIdeal.Read

namespace Cert.Proof
open Idealize.ShloMosaic Idealize.SL.Sem Idealize.ShloMosaic.Pipeline

theorem gconvf_ref_frame : quiescent_GconvfReferenceIdeal := fun m g _ =>
  (θ_run _ _ _).mono (fun r h => ⟨fun c => (h c).2, sem_eq_zero_of_no_sems rfl r.2⟩) (Cert.GconvfReferenceIdeal.Value.run m g)

theorem gconvf_pair : algebraic_GconvfKernelIdeal_GconvfReferenceIdeal := by
  pair_intro
  · run_from Cert.GconvfKernelIdeal.Value.run_blocks m g
  · run_from Cert.GconvfReferenceIdeal.Value.run m' g'
    · rw [Cert.GconvfReferenceIdeal.Read.val_main_v31_eq, Cert.GconvfKernelIdeal.Value.final_3 m c]
      obtain ⟨h0, h1⟩ := hagree c
      try rw [h0]
      try rw [h1]
      funext j
      exact Cert.GconvfReferenceIdeal.Read.out_at _ _ j

end Cert.Proof
end
-- ==== Proof.GconvValue.lean ====
module

public import proofs.«01_k».proof.Proof.ConvRef
public import proofs.«01_k».proof.Proof.Gen.GconvKernelIdeal.Value
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section
set_option maxRecDepth 16384
noncomputable section
namespace Cert.GconvKernelIdeal.Value
open Cert.GconvKernelIdeal Cert.GconvKernelIdeal.Gen Idealize.ShloMosaic Idealize.ShloMosaic.TcCoe Idealize.SL.Sem
open Idealize.ShloMosaic.Pipeline (Dat)
open Cert.ConvKernelIdeal.Value (canon_blocks)

/-! ## The convolution and its gradient, entry by entry -/

/-- The input with eight rows of zeros put before it, in the columns the convolution reads. -/
def xp (X : FVec Ideal S4096x3088 .f32) (n : ℕ) (l : Fin 768) : EReal :=
  if h : 8 ≤ n ∧ n < 4104 then X (ix2 ⟨n - 8, by omega⟩ ⟨2056 + l.val, by omega⟩) else 0

/-- The convolution's value before the activation. -/
def yv (X : FVec Ideal S4096x3088 .f32) (W : FVec Ideal S4x768 .f32) (r : ℕ) (l : Fin 768) : EReal :=
  W (ix2 0 l) * xp X (r + 5) l + W (ix2 1 l) * xp X (r + 6) l + W (ix2 2 l) * xp X (r + 7) l + W (ix2 3 l) * xp X (r + 8) l

/-- The cotangent carried through the activation, as the kernel multiplies it out; zero past the last row. -/
def dyv (X : FVec Ideal S4096x3088 .f32) (W : FVec Ideal S4x768 .f32) (D : FVec Ideal S4096x768 .f32)
    (r : ℕ) (l : Fin 768) : EReal :=
  if h : r < 4096 then
    D (ix2 ⟨r, h⟩ l) * (Ideal.logistic (yv X W r l) * (1 + yv X W r l * (1 - Ideal.logistic (yv X W r l))))
  else 0

variable (m : (ℓ : Loc nD τ sig) → Buf (Elt Ideal) ℓ)

theorem idx : ∀ t : Fin cfg0.N, win0_0.index t = ![7 - t.val, 0] ∧ win0_1.index t = ![(7 - t.val) * 64 - 1, 0]
    ∧ win0_2.index t = ![7 - t.val, 0] ∧ win0_3.index t = ![0, 0] ∧ win0_4.index t = ![0, 0]
    ∧ win0_5.index t = ![7 - t.val, 0] ∧ win0_6.index t = ![0, 0] ∧ win0_7.index t = ![0, 0] ∧ (grid0.coords t 0).val = t.val :=
  (by decide +kernel : ∀ t : Fin grid0.N, _)

/-- The last point of the walk is the first block of rows. -/
theorem first_block : ∀ t : Fin cfg0.N, Scalar.cmpi .eq (Scalar.subi 7#32 (BitVec.ofNat 32 (grid0.coords t 0).val)) 0#32 = if t.val = 7 then 1#1 else 0#1 :=
  (by decide +kernel : ∀ t : Fin grid0.N, _)

set_option maxHeartbeats 1600000 in
/-- The repacked input, read in the columns the convolution takes. -/
theorem packed_at (c : Dev nD) (R : Fin 4096) (l : Fin 768) :
    V m c main_v8 (ix2 R (⟨0 + l.val, by omega⟩ : Fin 3328)) = m ((c : Thread nD τ).loc main_arg0) (ix2 R ⟨2056 + l.val, by omega⟩) := by
  unfold_abbrev_sides
  after_reads_simp
  pointwise
  after_reads_simp
  pointwise
  blk_ext []

theorem x0_at (c : Dev nD) (t : Fin cfg0.N) (r : Fin 512) (l : Fin 768) :
    X0_0 m c t (ix2 r l) = xp (m ((c : Thread nD τ).loc main_arg0)) ((7 - t.val) * 512 + (8 + r.val)) l := by
  unfold X0_0 xp Pipeline.Window.fill
  rw [dif_pos (moved0_0 t _), dif_pos (by omega)]
  refine Eq.trans ?_ (packed_at m c ⟨(7 - t.val) * 512 + (8 + r.val) - 8, by omega⟩ l)
  blk_ext [iblk, idx t]

theorem x1_at (c : Dev nD) (t : Fin cfg0.N) (r : Fin 8) (l : Fin 768) (h : t.val < 7) :
    X0_1 m c t (ix2 r l) = xp (m ((c : Thread nD τ).loc main_arg0)) ((7 - t.val) * 512 + r.val) l := by
  unfold X0_1 xp Pipeline.Window.fill
  rw [dif_pos (moved0_1 t _), dif_pos (by omega)]
  refine Eq.trans ?_ (packed_at m c ⟨(7 - t.val) * 512 + r.val - 8, by omega⟩ l)
  blk_ext [iblk, idx t]

/-- The scratch that holds a block's input rows with the eight before them. -/
theorem ext_canon (c : Dev nD) (t : Fin cfg0.N) (y : S520x768.Idx) :
    View.canon (Val := Elt Ideal) (s := S520x768) (e := .f32)
      [⟨Rect.unit ![8, 0] ![512, 768] inb_S520x768_S512x768_8_0, k0_pay8 (X0_0 m c t)⟩,
        ⟨Rect.unit ![0, 0] ![8, 768] inb_S520x768_S8x768_0_0, k0_pay7 (grid0.coords t) (X0_1 m c t)⟩] y
      = xp (m ((c : Thread nD τ).loc main_arg0)) ((7 - t.val) * 512 + (y 0).val) (y 1) := by
  refine canon_blocks (e := .f32) (fun y : S520x768.Idx => xp (m ((c : Thread nD τ).loc main_arg0)) ((7 - t.val) * 512 + (y 0).val) (y 1))
    [⟨Rect.unit ![8, 0] ![512, 768] inb_S520x768_S512x768_8_0, k0_pay8 (X0_0 m c t)⟩,
        ⟨Rect.unit ![0, 0] ![8, 768] inb_S520x768_S8x768_0_0, k0_pay7 (grid0.coords t) (X0_1 m c t)⟩] ⟨fun x => ?_, fun x => ?_, trivial⟩ y ?_
  · have e0 : ((Rect.unit (s := S520x768) ![8, 0] ![512, 768] inb_S520x768_S512x768_8_0).emb x 0).val = 8 + (x 0).val := ValueKit.rect_emb_unit_val (s := S520x768) _ _ _ x 0
    have e1 : (Rect.unit (s := S520x768) ![8, 0] ![512, 768] inb_S520x768_S512x768_8_0).emb x 1 = x 1 := Fin.ext ((ValueKit.rect_emb_unit_val (s := S520x768) _ _ _ x 1).trans (Nat.zero_add _))
    show k0_pay8 (X0_0 m c t) x = xp _ ((7 - t.val) * 512 + _) _
    rw [e0, e1]
    obtain ⟨x0, x1, rfl⟩ : ∃ (x0 : Fin 512) (x1 : Fin 768), x = ix2 x0 x1 := ⟨x 0, x 1, eq_ix2 x⟩
    unfold k0_pay8
    rw [shapeCast_self, shapeCast_self]
    exact x0_at m c t x0 x1
  · have e0 : ((Rect.unit (s := S520x768) ![0, 0] ![8, 768] inb_S520x768_S8x768_0_0).emb x 0).val = 0 + (x 0).val := ValueKit.rect_emb_unit_val (s := S520x768) _ _ _ x 0
    have e1 : (Rect.unit (s := S520x768) ![0, 0] ![8, 768] inb_S520x768_S8x768_0_0).emb x 1 = x 1 := Fin.ext ((ValueKit.rect_emb_unit_val (s := S520x768) _ _ _ x 1).trans (Nat.zero_add _))
    show k0_pay7 (grid0.coords t) (X0_1 m c t) x = xp _ ((7 - t.val) * 512 + _) _
    rw [e0, e1]
    obtain ⟨x0, x1, rfl⟩ : ∃ (x0 : Fin 8) (x1 : Fin 768), x = ix2 x0 x1 := ⟨x 0, x 1, eq_ix2 x⟩
    pointwise [k0_pay7]
    rw [first_block t]
    by_cases h : t.val = 7
    · rw [if_pos h]
      show (0 : EReal) = _
      unfold xp
      rw [dif_neg (by omega)]
    · rw [if_neg h]
      show X0_1 m c t (ix2 x0 x1) = _
      rw [x1_at m c t x0 x1 (by have h8 : t.val < 8 := lt_of_lt_of_eq t.isLt N_0; omega)]
  · simp only [List.mem_cons, List.not_mem_nil, or_false, exists_eq_or_imp, exists_eq_left, Rect.mem_set_unit]
    rcases Nat.lt_or_ge (y 0).val 8 with h | h
    · exact Or.inr (Fin.forall_fin_two.2 ⟨⟨Nat.zero_le _, h⟩, Nat.zero_le _, (y 1).isLt⟩)
    · exact Or.inl (Fin.forall_fin_two.2 ⟨⟨h, (y 0).isLt⟩, Nat.zero_le _, (y 1).isLt⟩)

set_option maxHeartbeats 1600000 in
/-- The row the launch reads as a bias is zero. -/
theorem bias_at (c : Dev nD) (l : Fin 768) : V m c main_v9 (ix2 (0 : Fin 1) l) = (0 : EReal) := by
  unfold_abbrev_sides
  after_reads_simp
  pointwise
  exact EReal.coe_zero

/-- A block's input rows, moved by the rows a load starts at. -/
def rows (c : Dev nD) (t : Fin cfg0.N) (k : ℕ) : FVec Ideal S512x768 .f32 :=
  fun j => xp (m ((c : Thread nD τ).loc main_arg0)) ((7 - t.val) * 512 + (j 0).val + k) (j 1)

/-- A block's rows of the cotangent carried through the activation. -/
def dyb (c : Dev nD) (t : Fin cfg0.N) : FVec Ideal S512x768 .f32 :=
  fun j => dyv (m ((c : Thread nD τ).loc main_arg0)) (m ((c : Thread nD τ).loc main_arg1)) (m ((c : Thread nD τ).loc main_arg2))
    ((7 - t.val) * 512 + (j 0).val) (j 1)

theorem rows_eq (c : Dev nD) (t : Fin cfg0.N) (k : ℕ) (inb) :
    (fun j => xp (m ((c : Thread nD τ).loc main_arg0)) ((7 - t.val) * 512 + ((Rect.unit (s := S520x768) ![k, 0] ![512, 768] inb).idx j 0).val)
      ((Rect.unit (s := S520x768) ![k, 0] ![512, 768] inb).idx j 1)) = rows m c t k := by
  funext j
  have e0 : ((Rect.unit (s := S520x768) ![k, 0] ![512, 768] inb).idx j 0).val = k + (j 0).val := ValueKit.rect_emb_unit_val (s := S520x768) ![k, 0] ![512, 768] inb j 0
  have e1 : (Rect.unit (s := S520x768) ![k, 0] ![512, 768] inb).idx j 1 = j 1 := Fin.ext ((ValueKit.rect_emb_unit_val _ _ _ j 1).trans (Nat.zero_add _))
  rw [e0, e1, Nat.add_comm k, ← Nat.add_assoc]
  rfl

theorem dy_pay (c : Dev nD) (t : Fin cfg0.N) :
    k0_pay10
        (k0_pay9 (iblk m c 4 t) (View.ld (iblk m c 3 t) (Rect.unit (s := S4x768) ![0, 0] ![1, 768] inb_S4x768_S1x768_0_0)) (rows m c t 5)
          (View.ld (iblk m c 3 t) (Rect.unit (s := S4x768) ![1, 0] ![1, 768] inb_S4x768_S1x768_1_0)) (rows m c t 6))
        (View.ld (iblk m c 3 t) (Rect.unit (s := S4x768) ![2, 0] ![1, 768] inb_S4x768_S1x768_2_0)) (rows m c t 7)
        (View.ld (iblk m c 3 t) (Rect.unit (s := S4x768) ![3, 0] ![1, 768] inb_S4x768_S1x768_3_0)) (rows m c t 8)
        (iblk m c 2 t) = dyb m c t := by
  funext j
  idx_vars j
  unfold dyb dyv yv
  rw [dif_pos (by show (7 - t.val) * 512 + j0.val < 4096; omega)]
  have hw : ∀ k : Fin 4, iblk m c 3 t (ix2 k j1) = m ((c : Thread nD τ).loc main_arg1) (ix2 k j1) := fun k => by blk_point [iblk, V, idx t]
  have hd : iblk m c 2 t (ix2 j0 j1) = m ((c : Thread nD τ).loc main_arg2) (ix2 (⟨(7 - t.val) * 512 + j0.val, by omega⟩ : Fin 4096) j1) := by
    blk_point [iblk, V, idx t]
  have hb : iblk m c 4 t (ix2 (0 : Fin 1) j1) = (0 : EReal) := by
    have e : ((cfg0.win 4).blk t).view.emb (ix2 (0 : Fin 1) j1) = (ix2 (0 : Fin 1) j1 : S1x768.Idx) := by blk_ext [idx t]
    refine Eq.trans ?_ (bias_at m c j1)
    blk_simp [iblk]; rw [e]
  pointwise [k0_pay10, k0_pay9, rows]
  rw [hw, hw, hw, hw, hd, hb]
  simp only [zero_add]

theorem dy_pay' (v) (w0) (x0) (w1) (x1) (d) :
    k0_pay11 (F := Ideal) v w0 x0 w1 x1 d = k0_pay10 v w0 x0 w1 x1 d := by
  unfold k0_pay11
  exact shapeCast_self _ _

end Cert.GconvKernelIdeal.Value
-- ==== Proof.GconvGrad.lean ====
module

public import proofs.«01_k».proof.Proof.GconvValue
public import Idealize.ShloMosaic.Lib.WritesUnit

@[expose] public section
set_option maxRecDepth 16384
noncomputable section
namespace Cert.GconvKernelIdeal.Value
open Cert.GconvKernelIdeal Cert.GconvKernelIdeal.Gen Idealize.ShloMosaic Idealize.ShloMosaic.TcCoe Idealize.SL.Sem
open Idealize.ShloMosaic.Pipeline (Dat)
open Cert.ConvKernelIdeal.Value (canon_blocks)
variable (m : (ℓ : Loc nD τ sig) → Buf (Elt Ideal) ℓ)

/-- The taps. -/
abbrev wA (c : Dev nD) : FVec Ideal S4x768 .f32 := m ((c : Thread nD τ).loc main_arg1)

/-- The gradient before the activation, at the arguments. -/
abbrev dyA (c : Dev nD) (r : ℕ) (l : Fin 768) : Ideal .f32 :=
  dyv (m ((c : Thread nD τ).loc main_arg0)) (m ((c : Thread nD τ).loc main_arg1)) (m ((c : Thread nD τ).loc main_arg2)) r l

/-- Rows of the cotangent past a block's end as well as in it. -/
def dyx (c : Dev nD) (t : Fin cfg0.N) : FVec Ideal S520x768 .f32 :=
  fun j => dyA m c ((7 - t.val) * 512 + (j 0).val) (j 1)

theorem dyx_emb (c : Dev nD) (t : Fin cfg0.N) (k n : ℕ) (inb) (x : (Rect.unit (s := S520x768) ![k, 0] ![n, 768] inb).shape.Idx) :
    dyx m c t ((Rect.unit (s := S520x768) ![k, 0] ![n, 768] inb).emb x)
      = dyA m c ((7 - t.val) * 512 + (k + (x 0).val)) (x 1) := by
  have e0 : ((Rect.unit (s := S520x768) ![k, 0] ![n, 768] inb).emb x 0).val = k + (x 0).val := ValueKit.rect_emb_unit_val (s := S520x768) _ _ _ x 0
  have e1 : (Rect.unit (s := S520x768) ![k, 0] ![n, 768] inb).emb x 1 = x 1 := Fin.ext ((ValueKit.rect_emb_unit_val (s := S520x768) _ _ _ x 1).trans (Nat.zero_add _))
  unfold dyx
  rw [e0, e1]

/-- The first point: nothing lies past the last row. -/
theorem dyx_first (c : Dev nD) (t : Fin cfg0.N) (h : t.val % 8 = 0) (y : S520x768.Idx) :
    View.canon (Val := Elt Ideal) (s := S520x768) (e := .f32)
      [⟨Rect.unit ![0, 0] ![512, 768] inb_S520x768_S512x768_0_0, dyb m c t⟩,
        ⟨Rect.unit ![512, 0] ![8, 768] inb_S520x768_S8x768_512_0, k0_pay4 (F := Ideal)⟩] y = dyx m c t y := by
  refine canon_blocks (e := .f32) (dyx m c t)
    [⟨Rect.unit ![0, 0] ![512, 768] inb_S520x768_S512x768_0_0, dyb m c t⟩,
        ⟨Rect.unit ![512, 0] ![8, 768] inb_S520x768_S8x768_512_0, k0_pay4 (F := Ideal)⟩] ⟨fun x => ?_, fun x => ?_, trivial⟩ y ?_
  · refine Eq.trans ?_ (dyx_emb m c t 0 512 inb_S520x768_S512x768_0_0 x).symm
    rw [Nat.zero_add]; rfl
  · refine Eq.trans ?_ (dyx_emb m c t 512 8 inb_S520x768_S8x768_512_0 x).symm
    have h8 : t.val < 8 := lt_of_lt_of_eq t.isLt N_0
    unfold dyA dyv
    rw [dif_neg (by omega)]
    exact (by pointwise [k0_pay4] : (k0_pay4 (F := Ideal)) x = 0)
  · simp only [List.mem_cons, List.not_mem_nil, or_false, exists_eq_or_imp, exists_eq_left, Rect.mem_set_unit]
    rcases Nat.lt_or_ge (y 0).val 512 with h | h
    · exact Or.inl (Fin.forall_fin_two.2 ⟨⟨Nat.zero_le _, h⟩, Nat.zero_le _, (y 1).isLt⟩)
    · exact Or.inr (Fin.forall_fin_two.2 ⟨⟨h, (y 0).isLt⟩, Nat.zero_le _, (y 1).isLt⟩)

/-- A later point: past the block lie the rows the point before left. -/
theorem dyx_later (c : Dev nD) (t : Fin cfg0.N) (X : FVec Ideal S520x768 .f32) (f : (View.whole cc0_scratch1).ty.Contents (Elt Ideal)) (hf : View.read (Elt Ideal) (View.whole cc0_scratch1) f = X)
    (hX : ∀ (r : Fin 8) (l : Fin 768), X (ix2 ⟨512 + r.val, by omega⟩ l)
      = dyA m c ((7 - t.val) * 512 + (512 + r.val)) l) :
    View.read (Elt Ideal) (View.whole cc0_scratch1) ((View.whole cc0_scratch1).writes (Elt Ideal) f
      [⟨Rect.unit (s := S520x768) ![0, 0] ![512, 768] inb_S520x768_S512x768_0_0, dyb m c t⟩]) = dyx m c t := by
  funext y
  obtain ⟨y0, y1, rfl⟩ : ∃ (y0 : Fin 520) (y1 : Fin 768), y = ix2 y0 y1 := ⟨y 0, y 1, eq_ix2 y⟩
  rcases Nat.lt_or_ge y0.val 512 with h | h
  · have e : (ix2 y0 y1 : S520x768.Idx) = (Rect.unit (s := S520x768) ![0, 0] ![512, 768] inb_S520x768_S512x768_0_0).emb (ix2 ⟨y0.val, h⟩ y1) := by
      blk_ext []
    rw [e]
    refine (View.read_writes_cons_emb _ _ _ _ _ _).trans ?_
    refine Eq.trans ?_ (dyx_emb m c t 0 512 _ _).symm
    rw [Nat.zero_add]; rfl
  · refine (View.read_writes_cons_unit_of_not_mem (s := S520x768) (e := .f32) _ _ _ _ _ _ rfl 0 (Or.inr h)).trans ?_
    rw [View.writes_nil, hf]
    obtain ⟨r, hr⟩ : ∃ r : Fin 8, y0 = ⟨512 + r.val, by omega⟩ := ⟨⟨y0.val - 512, by omega⟩, Fin.ext (by show y0.val = 512 + (y0.val - 512); omega)⟩
    rw [hr]
    exact hX r y1

/-- What a point leaves for the next: its block's first eight rows. -/
theorem left_at (c : Dev nD) (t : Fin cfg0.N) (r : Fin 8) (l : Fin 768) :
    (outsAt0 m c t.val t.isLt).2.2.2 (ix2 ⟨512 + r.val, by omega⟩ l)
      = dyA m c ((7 - t.val) * 512 + r.val) l := by
  have key : ∀ (P : FVec Ideal S8x768 .f32) (L : List (View.Piece (Elt Ideal) S520x768 .f32)), P (ix2 r l) = dyA m c ((7 - t.val) * 512 + r.val) l →
      View.canon (Val := Elt Ideal) (s := S520x768) (e := .f32) (⟨Rect.unit ![512, 0] ![8, 768] inb_S520x768_S8x768_512_0, P⟩ :: L) (ix2 ⟨512 + r.val, by omega⟩ l) = dyA m c ((7 - t.val) * 512 + r.val) l := by
    intro P L hP
    have e : (ix2 (⟨512 + r.val, by omega⟩ : Fin 520) l : S520x768.Idx) = (Rect.unit (s := S520x768) ![512, 0] ![8, 768] inb_S520x768_S8x768_512_0).emb (ix2 r l) := by
      blk_ext []
    rw [e]
    exact (View.canon_cons_emb _ _ _ _).trans hP
  have e : (Rect.unit (s := S520x768) ![0, 0] ![8, 768] inb_S520x768_S8x768_0_0).emb (ix2 r l)
     = (Rect.unit (s := S520x768) ![0, 0] ![512, 768] inb_S520x768_S512x768_0_0).emb (ix2 (⟨r.val, by omega⟩ : Fin 512) l) := by
      blk_ext []
  by_cases h : t.val % 8 = 0
  · rw [outsAt0_A m c t h]; frame_out; simp only [View.readCov_eq_canon', ext_canon, rows_eq, dy_pay']; erw [dy_pay m c t]
    refine key _ _ ?_
    unfold k0_pay3
    rw [shapeCast_self]
    refine (dyx_first m c t h _).trans ?_
    refine (dyx_emb m c t 0 8 _ _).trans ?_
    rw [Nat.zero_add]; rfl
  · rw [outsAt0_B m c t h]; frame_out; simp only [View.readCov_eq_canon', ext_canon, rows_eq, dy_pay']; erw [dy_pay m c t]
    refine key _ _ ?_
    unfold k0_pay3
    rw [shapeCast_self]
    show View.canon _ ((Rect.unit (s := S520x768) ![0, 0] ![8, 768] inb_S520x768_S8x768_0_0).emb (ix2 r l)) = _
    rw [e]
    exact View.canon_cons_emb _ _ _ _

/-- A block of the gradient to the input. -/
theorem dx_at (c : Dev nD) (t : Fin cfg0.N) (r : Fin 512) (l : Fin 768) :
    (outsAt0 m c t.val t.isLt).1 (ix2 r l)
      = wA m c (ix2 (0 : Fin 4) l) * dyx m c t (ix2 ⟨3 + r.val, by omega⟩ l)
        + wA m c (ix2 (1 : Fin 4) l) * dyx m c t (ix2 ⟨2 + r.val, by omega⟩ l)
        + wA m c (ix2 (2 : Fin 4) l) * dyx m c t (ix2 ⟨1 + r.val, by omega⟩ l)
        + wA m c (ix2 (3 : Fin 4) l) * dyx m c t (ix2 ⟨r.val, by omega⟩ l) := by
  have hw : ∀ k : Fin 4, iblk m c 3 t (ix2 k l) = wA m c (ix2 k l) := fun k => by blk_point [iblk, V, idx t]
  by_cases h : t.val % 8 = 0
  · rw [outsAt0_A m c t h]; frame_out; simp only [View.readCov_eq_canon', ext_canon, rows_eq, dy_pay']; erw [dy_pay m c t]
    simp only [dyx_first m c t h]
    pointwise [k0_pay13, k0_pay12]
    rw [hw, hw, hw, hw]
  · rw [outsAt0_B m c t h]; frame_out; simp only [View.readCov_eq_canon', ext_canon, rows_eq, dy_pay']; erw [dy_pay m c t]
    have h8 : t.val < 8 := lt_of_lt_of_eq t.isLt N_0
    have hX : ∀ (r : Fin 8) (l : Fin 768), (outsAt0 m c (t.val - 1) (Nat.lt_of_le_of_lt (Nat.sub_le _ _) t.isLt)).2.2.2 (ix2 ⟨512 + r.val, by omega⟩ l)
        = dyA m c ((7 - t.val) * 512 + (512 + r.val)) l := fun r l => by
      refine (left_at m c ⟨t.val - 1, Nat.lt_of_le_of_lt (Nat.sub_le _ _) t.isLt⟩ r l).trans ?_
      show dyA m c ((7 - (t.val - 1)) * 512 + r.val) l = _
      rw [show (7 - (t.val - 1)) * 512 + r.val = (7 - t.val) * 512 + (512 + r.val) from by omega]
    erw [dyx_later m c t _ _ (read_unread_whole _ _ _) hX]
    pointwise [k0_pay13, k0_pay12]
    rw [hw, hw, hw, hw]
    have e : (ix2 (⟨r.val, by omega⟩ : Fin 520) l : S520x768.Idx) = (Rect.unit (s := S520x768) ![0, 0] ![512, 768] inb_S520x768_S512x768_0_0).emb (ix2 r l) := by
      blk_ext []
    rw [e, dyx_emb m c t 0 512 _ _]
    erw [View.canon_cons_emb]
    rw [Nat.zero_add]; rfl

/-- The sums a point adds to the tap gradients. -/
def dwT (c : Dev nD) (t : Fin cfg0.N) : FVec Ideal S4x768 .f32 :=
  fun y => ∑ r : Fin 512, dyb m c t (ix2 r (y 1)) * rows m c t (5 + (y 0).val) (ix2 r (y 1))

/-- One tap's row. -/
theorem dw_row (c : Dev nD) (t : Fin cfg0.N) (acc : FVec Ideal S4x768 .f32) (k : ℕ) (hk : k < 4) (inb) (x : (Rect.unit (s := S4x768) ![k, 0] ![1, 768] inb).shape.Idx) :
    k0_pay14 (dyb m c t) (View.ld (Val := Elt Ideal) (S := S4x768) (e' := .f32) acc (Rect.unit (s := S4x768) ![k, 0] ![1, 768] inb)) (rows m c t (5 + k)) x
      = (fun y => acc y + dwT m c t y) ((Rect.unit (s := S4x768) ![k, 0] ![1, 768] inb).emb x) := by
  have e0 : ((Rect.unit (s := S4x768) ![k, 0] ![1, 768] inb).emb x 0).val = k + (x 0).val := ValueKit.rect_emb_unit_val (s := S4x768) _ _ _ x 0
  have e1 : (Rect.unit (s := S4x768) ![k, 0] ![1, 768] inb).emb x 1 = x 1 := Fin.ext ((ValueKit.rect_emb_unit_val (s := S4x768) _ _ _ x 1).trans (Nat.zero_add _))
  show _ = acc ((Rect.unit (s := S4x768) ![k, 0] ![1, 768] inb).emb x) + dwT m c t ((Rect.unit (s := S4x768) ![k, 0] ![1, 768] inb).emb x)
  have ed : dwT m c t ((Rect.unit (s := S4x768) ![k, 0] ![1, 768] inb).emb x)
      = ∑ r : Fin 512, dyb m c t (ix2 r (x 1)) * rows m c t (5 + k) (ix2 r (x 1)) := by
    unfold dwT
    rw [e0, e1, show (x 0).val = 0 from Nat.lt_one_iff.1 (x 0).isLt, Nat.add_zero]
  rw [ed]
  generalize hA : View.ld (Val := Elt Ideal) (S := S4x768) (e' := .f32) acc (Rect.unit (s := S4x768) ![k, 0] ![1, 768] inb) = A
  have hx : acc ((Rect.unit (s := S4x768) ![k, 0] ![1, 768] inb).emb x) = A x := by rw [← hA]; rfl
  rw [hx]
  obtain ⟨x0, x1, rfl⟩ : ∃ (x0 : Fin 1) (x1 : Fin 768), x = ix2 x0 x1 := ⟨x 0, x 1, eq_ix2 x⟩
  pointwise [k0_pay14]

theorem dw_step (c : Dev nD) (t : Fin cfg0.N) (acc : FVec Ideal S4x768 .f32) (L : List (View.Piece (Elt Ideal) S4x768 .f32)) (y : S4x768.Idx) :
    View.canon (Val := Elt Ideal) (s := S4x768) (e := .f32)
      ([⟨Rect.unit ![3, 0] ![1, 768] inb_S4x768_S1x768_3_0, k0_pay1 (dyb m c t) (View.ld (Val := Elt Ideal) (S := S4x768) (e' := .f32) acc (Rect.unit (s := S4x768) ![3, 0] ![1, 768] inb_S4x768_S1x768_3_0)) (rows m c t 8)⟩,
        ⟨Rect.unit ![2, 0] ![1, 768] inb_S4x768_S1x768_2_0, k0_pay16 (dyb m c t) (View.ld (Val := Elt Ideal) (S := S4x768) (e' := .f32) acc (Rect.unit (s := S4x768) ![2, 0] ![1, 768] inb_S4x768_S1x768_2_0)) (rows m c t 7)⟩,
        ⟨Rect.unit ![1, 0] ![1, 768] inb_S4x768_S1x768_1_0, k0_pay15 (dyb m c t) (View.ld (Val := Elt Ideal) (S := S4x768) (e' := .f32) acc (Rect.unit (s := S4x768) ![1, 0] ![1, 768] inb_S4x768_S1x768_1_0)) (rows m c t 6)⟩,
        ⟨Rect.unit ![0, 0] ![1, 768] inb_S4x768_S1x768_0_0, k0_pay14 (dyb m c t) (View.ld (Val := Elt Ideal) (S := S4x768) (e' := .f32) acc (Rect.unit (s := S4x768) ![0, 0] ![1, 768] inb_S4x768_S1x768_0_0)) (rows m c t 5)⟩] ++ L) y
      = acc y + dwT m c t y := by
  refine View.canon_append_of_piecesOf (e := .f32) (fun y => acc y + dwT m c t y) L _ ?_ y ?_
  · exact ⟨fun x => dw_row m c t acc 3 (by omega) _ x, fun x => dw_row m c t acc 2 (by omega) _ x,
      fun x => dw_row m c t acc 1 (by omega) _ x, fun x => dw_row m c t acc 0 (by omega) _ x, trivial⟩
  simp only [List.mem_cons, List.not_mem_nil, or_false, exists_eq_or_imp, exists_eq_left, Rect.mem_set_unit]
  have h1 : ∀ a, (y 0).val = a → ∀ a', (![a, 0] : Fin 2 → ℕ) a' ≤ (y a').val ∧ (y a').val < (![a, 0] : Fin 2 → ℕ) a' + (![1, 768] : Fin 2 → ℕ) a' := fun a e =>
    Fin.forall_fin_two.2 ⟨⟨e.ge, by rw [e]; exact Nat.lt_succ_self a⟩, Nat.zero_le _, (y 1).isLt⟩
  have h4 : (y 0).val < 4 := (y 0).isLt
  rcases (by omega : (y 0).val = 3 ∨ (y 0).val = 2 ∨ (y 0).val = 1 ∨ (y 0).val = 0) with h | h | h | h
  · exact Or.inl (h1 3 h)
  · exact Or.inr (Or.inl (h1 2 h))
  · exact Or.inr (Or.inr (Or.inl (h1 1 h)))
  · exact Or.inr (Or.inr (Or.inr (h1 0 h)))

theorem dw_first (c : Dev nD) (t : Fin cfg0.N) (h : t.val % 8 = 0) (y : S4x768.Idx) :
    (outsAt0 m c t.val t.isLt).2.1 y = 0 + dwT m c t y := by
  rw [outsAt0_A m c t h]; frame_out
  simp (disch := decide) only [↓ View.readCov_skip, ↓ View.readCov_fill]
  simp only [View.readCov_eq_canon', ext_canon, rows_eq, dy_pay']; erw [dy_pay m c t]
  have e := dw_step m c t (k0_pay5 (F := Ideal)) [⟨Rect.unit (s := S4x768) ![0, 0] ![4, 768] inb_S4x768_S4x768_0_0, k0_pay5 (F := Ideal)⟩] y
  rw [(by pointwise [k0_pay5] : (k0_pay5 (F := Ideal)) y = 0)] at e
  exact e

theorem dw_later (c : Dev nD) (t : Fin cfg0.N) (h : ¬ t.val % 8 = 0) (y : S4x768.Idx) :
    (outsAt0 m c t.val t.isLt).2.1 y = (outsAt0 m c (t.val - 1) (Nat.lt_of_le_of_lt (Nat.sub_le _ _) t.isLt)).2.1 y + dwT m c t y := by
  rw [outsAt0_B m c t h]; frame_out; simp only [View.readCov_eq_canon', ext_canon, rows_eq, dy_pay']; erw [dy_pay m c t]
  exact dw_step m c t _ [] y

/-- The gradient to the taps, summed over all rows. -/
def dwF (c : Dev nD) : FVec Ideal S4x768 .f32 :=
  fun j => ∑ n : Fin 4096, dyA m c n.val (j 1) * xp (m ((c : Thread nD τ).loc main_arg0)) (n.val + (5 + (j 0).val)) (j 1)

/-- The gradient to the input. -/
def dxF (c : Dev nD) : FVec Ideal S4096x768 .bf16 :=
  fun j => wA m c (ix2 (0 : Fin 4) (j 1)) * dyA m c ((j 0).val + 3) (j 1) + wA m c (ix2 (1 : Fin 4) (j 1)) * dyA m c ((j 0).val + 2) (j 1)
      + wA m c (ix2 (2 : Fin 4) (j 1)) * dyA m c ((j 0).val + 1) (j 1) + wA m c (ix2 (3 : Fin 4) (j 1)) * dyA m c ((j 0).val) (j 1)

theorem final_6 (c : Dev nD) : (dats m 0 c).arrAt 6 (cfgs 0).N = dwF m c := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) (dwT m c) (dw_first m c) (dw_later m c) (le_of_eq N_0) t0_7 rfl j, zero_add]
  obtain ⟨y0, y1, rfl⟩ : ∃ (y0 : Fin 4) (y1 : Fin 768), j = ix2 y0 y1 := ⟨j 0, j 1, eq_ix2 j⟩
  refine Eq.trans ?_ (Cert.ConvKernelIdeal.Value.sum_blocks fun n => dyA m c n y1 * xp (m ((c : Thread nD τ).loc main_arg0)) (n + (5 + y0.val)) y1)
  rfl

theorem final_5 (c : Dev nD) : (dats m 0 c).arrAt 5 (cfgs 0).N = dxF m c := by
  refine (dats m 0 c).arrAt_eq_of_covers 5 _ (by decide +kernel) fun t hf y => ?_
  blk_simp; rw [after0_5]
  obtain ⟨y0, y1, rfl⟩ : ∃ (y0 : Fin 512) (y1 : Fin 768), y = ix2 y0 y1 := ⟨y 0, y 1, eq_ix2 y⟩
  have e : ((cfg0.win 5).blk t).view.emb (ix2 y0 y1) = (ix2 (⟨(7 - t.val) * 512 + y0.val, by omega⟩ : Fin 4096) y1 : S4096x768.Idx) := by blk_ext [idx t]
  refine (dx_at m c t y0 y1).trans (Eq.trans ?_ (congrArg (dxF m c) e.symm))
  unfold dxF dyx
  show wA m c (ix2 0 y1) * dyA m c ((7 - t.val) * 512 + (3 + y0.val)) y1 + wA m c (ix2 1 y1) * dyA m c ((7 - t.val) * 512 + (2 + y0.val)) y1
     + wA m c (ix2 2 y1) * dyA m c ((7 - t.val) * 512 + (1 + y0.val)) y1 + wA m c (ix2 3 y1) * dyA m c ((7 - t.val) * 512 + y0.val) y1
    = wA m c (ix2 0 y1) * dyA m c ((7 - t.val) * 512 + y0.val + 3) y1 + wA m c (ix2 1 y1) * dyA m c ((7 - t.val) * 512 + y0.val + 2) y1
     + wA m c (ix2 2 y1) * dyA m c ((7 - t.val) * 512 + y0.val + 1) y1 + wA m c (ix2 3 y1) * dyA m c ((7 - t.val) * 512 + y0.val) y1
  rw [Nat.add_comm 3, Nat.add_comm 2, Nat.add_comm 1]
  simp only [Nat.add_assoc]
end Cert.GconvKernelIdeal.Value
-- ==== Proof.GconvRef.lean ====
module

public import proofs.«01_k».proof.Proof.GconvGrad
public import proofs.«01_k».proof.Proof.Gen.GconvReferenceIdeal.Read

@[expose] public section

set_option maxRecDepth 16384

noncomputable section

namespace Cert.GconvReferenceIdeal.Read

open Cert.GconvReferenceIdeal Cert.GconvReferenceIdeal.Gen Idealize.ShloMosaic Idealize.ShloMosaic.TcCoe Idealize.SL.Sem Idealize.ShloMosaic.StableHlo Idealize.ShloMosaic.Pipeline
open Cert.GconvKernelIdeal.Value (xp yv dyv)

variable (X : FVec Ideal S4096x3088 .f32) (W : FVec Ideal S4x768 .f32) (D : FVec Ideal S4096x768 .f32)

/-- The input with three zero rows before it. -/
theorem v3_at (n : Fin 4099) (l : Fin 768) : val_main_v3 (F := Ideal) X (ix3 (0 : Fin 1) n l) = xp X (n.val + 5) l := by
  pointwise [val_main_v3, val_main_v2, val_main_v1, val_main_v0, val_main_cst]
  unfold xp
  by_cases h : n.val < 3
  · rw [dif_pos h, dif_neg (by omega)]
  · rw [dif_neg h, dif_pos (by omega)]
    have e : n.val + 5 - 8 = n.val - 3 := by omega
    simp only [e]

/-- The convolution's value. -/
theorem v31_at (r : Fin 4096) (l : Fin 768) : val_main_v31 (F := Ideal) X W (ix3 (0 : Fin 1) r l) = yv X W r.val l := by
  pointwise [val_main_v31, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5]
  rw [v3_at, v3_at, v3_at, v3_at]
  unfold yv
  rw [show 1 + r.val + 5 = r.val + 6 from by omega, show 2 + r.val + 5 = r.val + 7 from by omega, show 3 + r.val + 5 = r.val + 8 from by omega,
    mul_comm (xp X (r.val + 5) l), mul_comm (xp X (r.val + 6) l), mul_comm (xp X (r.val + 7) l), mul_comm (xp X (r.val + 8) l)]

/-- A sum over two axes of size one is the one entry. -/
theorem sum_unit (x : S1x1x768.Idx → EReal) (l : Fin 768) :
    Ideal.hostReduceAdd reducesTo_S1x1x768_S768_d0_1 x 0 (ix1 l) = x (ix3 (0 : Fin 1) (0 : Fin 1) l) := by
  unfold Ideal.hostReduceAdd
  rw [zero_add, show Finset.univ.filter (fun i => reducesTo_S1x1x768_S768_d0_1.drop i = ix1 l) = {ix3 (0 : Fin 1) (0 : Fin 1) l} from ?_, Finset.sum_singleton]
  ext i
  rw [Finset.mem_filter, Finset.mem_singleton]
  have e : ∀ (a b : Fin 1) (k : Fin 768), reducesTo_S1x1x768_S768_d0_1.drop (ix3 a b k) = ix1 k := fun a b k => by
    funext q
    match q with
    | ⟨0, _⟩ => rfl
  obtain ⟨a, b, k, rfl⟩ : ∃ (a b : Fin 1) (k : Fin 768), i = ix3 a b k := ⟨i 0, i 1, i 2, eq_ix3 i⟩
  rw [e]
  constructor
  · rintro ⟨-, h⟩
    have : k = l := congrFun h 0
    rw [this, Subsingleton.elim a 0, Subsingleton.elim b 0]
  · intro h
    have : k = l := congrFun h 2
    exact ⟨Finset.mem_univ _, by rw [this]⟩

theorem v34_at (hD : ∀ j, ∃ d : ℝ, D j = d) (r : Fin 4096) (l : Fin 768) : val_main_v34 (F := Ideal) X W D (ix3 (0 : Fin 1) r l) = dyv X W D r.val l := by
  pointwise [val_main_v34, val_main_call1_v2, val_main_call1_v1, val_main_call1_v0, val_main_v33, val_main_v32_2, val_main_v32_1, val_main_call0_v7, val_main_call0_v6, val_main_call0_cst_1, val_main_call0_v4, val_main_call0_v3, val_main_call0_v2, val_main_call0_v1, val_main_call0_v0, val_main_call0_cst, val_main_call0_cst_0]
  unfold dyv
  rw [dif_pos r.isLt, v31_at]
  obtain ⟨d, hd⟩ := hD (ix2 r l)
  rw [hd]
  exact Cert.ConvReferenceIdeal.Read.silu_grad d _

theorem tap_sum (hD : ∀ j, ∃ d : ℝ, D j = d) (l : Fin 768) :
    val_main_v40 (F := Ideal) X W D (ix1 l) = ∑ r : Fin 4096, dyv X W D r.val l * xp X (r.val + 8) l
    ∧ val_main_v49 (F := Ideal) X W D (ix1 l) = ∑ r : Fin 4096, dyv X W D r.val l * xp X (r.val + 7) l
    ∧ val_main_v60 (F := Ideal) X W D (ix1 l) = ∑ r : Fin 4096, dyv X W D r.val l * xp X (r.val + 6) l
    ∧ val_main_v71 (F := Ideal) X W D (ix1 l) = ∑ r : Fin 4096, dyv X W D r.val l * xp X (r.val + 5) l := by
  refine ⟨?_, ?_, ?_, ?_⟩
  · pointwise [val_main_v40, val_main_v37, val_main_v36, val_main_v35, val_main_v25, val_main_cst_1, val_main_cst_2]
    rw [sum_unit]
    pointwise
    refine Finset.sum_congr rfl fun r _ => ?_
    rw [v3_at, v34_at X W D hD, mul_comm]
    exact congrArg (fun n => dyv X W D r.val l * xp X n l) (by show 3 + r.val + 5 = r.val + 8; omega)
  · pointwise [val_main_v49, val_main_v46, val_main_v45, val_main_v44, val_main_v18, val_main_cst_5, val_main_cst_6]
    rw [sum_unit]
    pointwise
    refine Finset.sum_congr rfl fun r _ => ?_
    rw [v3_at, v34_at X W D hD, mul_comm]
    exact congrArg (fun n => dyv X W D r.val l * xp X n l) (by show 2 + r.val + 5 = r.val + 7; omega)
  · pointwise [val_main_v60, val_main_v57, val_main_v56, val_main_v55, val_main_v11, val_main_cst_9, val_main_cst_10]
    rw [sum_unit]
    pointwise
    refine Finset.sum_congr rfl fun r _ => ?_
    rw [v3_at, v34_at X W D hD, mul_comm]
    exact congrArg (fun n => dyv X W D r.val l * xp X n l) (by show 1 + r.val + 5 = r.val + 6; omega)
  · pointwise [val_main_v71, val_main_v68, val_main_v67, val_main_v66, val_main_v5, val_main_cst_13, val_main_cst_14]
    rw [sum_unit]
    pointwise
    refine Finset.sum_congr rfl fun r _ => ?_
    rw [v3_at, v34_at X W D hD, mul_comm]

theorem v74_at (hD : ∀ j, ∃ d : ℝ, D j = d) (j : S4x768.Idx) :
    val_main_v74 (F := Ideal) X W D j = ∑ r : Fin 4096, dyv X W D r.val (j 1) * xp X (r.val + (5 + (j 0).val)) (j 1) := by
  idx_vars j
  pointwise [val_main_v74, val_main_v73, val_main_v72,  val_main_v63, val_main_v62, val_main_v61, val_main_v52, val_main_v51, val_main_v50, val_main_v42, val_main_v41, val_main_cst_15, val_main_cst_11, val_main_cst_7, val_main_cst_3]
  obtain ⟨h3, h2, h1, h0⟩ := tap_sum X W D hD j1
  rw [h3, h2, h1, h0]
  fin_cases j0 <;> simp

theorem v80_at (hD : ∀ j, ∃ d : ℝ, D j = d) (j : S4096x768.Idx) : val_main_v80 (F := Ideal) X W D j =
    W (ix2 (0 : Fin 4) (j 1)) * dyv X W D ((j 0).val + 3) (j 1) + W (ix2 (1 : Fin 4) (j 1)) * dyv X W D ((j 0).val + 2) (j 1)
      + W (ix2 (2 : Fin 4) (j 1)) * dyv X W D ((j 0).val + 1) (j 1) + W (ix2 (3 : Fin 4) (j 1)) * dyv X W D ((j 0).val) (j 1) := by
  obtain ⟨r, l, rfl⟩ : ∃ (r : Fin 4096) (l : Fin 768), j = ix2 r l := ⟨j 0, j 1, eq_ix2 j⟩
  have key : ∀ (n k : ℕ) (w : EReal) (hn : n = r.val + k), (if h : n < 4096 then val_main_v34 (F := Ideal) X W D (ix3 (0 : Fin 1) ⟨n, h⟩ l) * w else 0) = w * dyv X W D (r.val + k) l := by
    rintro n k w rfl
    by_cases h : r.val + k < 4096
    · rw [dif_pos h, v34_at X W D hD, mul_comm]
    · rw [dif_neg h]; unfold dyv; rw [dif_neg h, mul_zero]
  pointwise [val_main_v80, val_main_v79, val_main_v78,  val_main_v76, val_main_v75, val_main_v65, val_main_v64, val_main_v54, val_main_v53, val_main_v43, val_main_v70, val_main_v69, val_main_v59, val_main_v58, val_main_v48, val_main_v47, val_main_v39, val_main_v38, val_main_cst_16, val_main_cst_12, val_main_cst_8, val_main_cst_4,
    val_main_v28, val_main_v27, val_main_v26, val_main_v21, val_main_v20, val_main_v19, val_main_v14, val_main_v13, val_main_v12, val_main_v8, val_main_v7, val_main_v6]
  simp only [show 2 ≤ 3 + r.val from by omega, show 1 ≤ 3 + r.val from by omega, true_and]
  rw [key (3 + r.val) 3 _ (by omega), key (3 + r.val - 2) 1 _ (by omega), key (3 + r.val - 1) 2 _ (by omega), v34_at X W D hD, mul_comm (dyv X W D r.val l)]
  abel

end Cert.GconvReferenceIdeal.Read
-- ==== Proof.GconvPair.lean ====
module

public import proofs.«01_k».proof.Defs
public import proofs.«01_k».proof.Proof.GconvRef
public import proofs.«01_k».proof.Proof.Reals
public import proofs.«01_k».proof.Proof.Gen.Pre_gct_finite
public import Idealize.ShloMosaic.Lib.Quiescent

@[expose] public section

set_option maxRecDepth 16384

noncomputable section

namespace Cert.Proof

open Idealize.ShloMosaic Idealize.SL.Sem Idealize.ShloMosaic.Pipeline

/-- The precondition's reading: every entry of the cotangent is a real number. -/
theorem gct_real (a b) (D : FVec Ideal Cert.Pre_gct_finite.S4096x768 .f32) (h : Cert.Pre_gct_finite.fn (F := Ideal) a b D = fun _ => 1#1)
    (j : Cert.Pre_gct_finite.S4096x768.Idx) : ∃ d : ℝ, D j = d := by
  have h := congrFun h j
  idx_vars j
  unfold Cert.Pre_gct_finite.fn at h
  pointwise at h
  exact real_of_bounds h

theorem gconv_ref_frame : quiescent_GconvReferenceIdeal := fun m g _ =>
  (θ_run _ _ _).mono (fun r h => ⟨fun c => (h c).2.2, sem_eq_zero_of_no_sems rfl r.2⟩) (Cert.GconvReferenceIdeal.Value.run m g)

theorem gconv_pair : algebraic_GconvKernelIdeal_GconvReferenceIdeal_pre_gct_finite := by
  pair_intro
  · run_from Cert.GconvKernelIdeal.Value.run_blocks m g
  · run_from Cert.GconvReferenceIdeal.Value.run m' g'
    · obtain ⟨h0, h1, h2⟩ := hagree c
      rw [Cert.GconvReferenceIdeal.Read.val_main_v80_eq, h0, h1, h2, Cert.GconvKernelIdeal.Value.final_5 m c]
      funext j
      exact Cert.GconvReferenceIdeal.Read.v80_at _ _ _ (gct_real _ _ _ (hpre c)) j
    · obtain ⟨h0, h1, h2⟩ := hagree c
      rw [Cert.GconvReferenceIdeal.Read.val_main_v74_eq, h0, h1, h2, Cert.GconvKernelIdeal.Value.final_6 m c]
      funext j
      exact Cert.GconvReferenceIdeal.Read.v74_at _ _ _ (gct_real _ _ _ (hpre c)) j

end Cert.Proof
end
-- ==== Proof.SsdfScan.lean ====
module

public import proofs.«01_k».proof.Proof.Soft

@[expose] public section
noncomputable section

namespace Cert.Proof
open Finset

/-- One head of the state space recurrence: the logarithms of the decays, what the rows write with, what they read with,
    and the inputs. -/
structure Scan where
  a : ℕ → ℝ
  b : ℕ → ℕ → ℝ
  c : ℕ → ℕ → ℝ
  x : ℕ → ℕ → ℝ

namespace Scan
variable (S : Scan)

/-- The logarithm of the decay over the first `m` rows. -/
def cs (m : ℕ) : ℝ := ∑ s ∈ range m, S.a s

/-- What row `t` reads of what row `s` has written. -/
def meet (t s : ℕ) : ℝ := ∑ n : Fin 128, S.c t n.val * S.b s n.val

/-- The result at row `t`. -/
def y (t p : ℕ) : ℝ := ∑ s ∈ range (t + 1), S.meet t s * Real.exp (S.cs (t + 1) - S.cs (s + 1)) * S.x s p

/-- The state after the first `m` rows. -/
def st (m p n : ℕ) : ℝ := ∑ s ∈ range m, S.x s p * Real.exp (S.cs m - S.cs (s + 1)) * S.b s n

/-- The logarithm of the decay from row `m` on, up to and with row `m + r`. -/
def loc (m r : ℕ) : ℝ := S.cs (m + r + 1) - S.cs m

end Scan

theorem sum_upto (N r : ℕ) (h : r < N) (f : ℕ → ℝ) : ∑ s ∈ range (r + 1), f s = ∑ s : Fin N, if s.val ≤ r then f s.val else 0 := by
  rw [Fin.sum_univ_eq_sum_range (fun s => if s ≤ r then f s else 0) N, ← sum_filter]
  refine sum_congr ?_ fun _ _ => rfl
  ext s
  simp only [mem_range, mem_filter]
  omega

namespace Scan
variable (S : Scan)

theorem loc_sum (m N r : ℕ) (h : r < N) : S.loc m r = ∑ s : Fin N, if s.val ≤ r then S.a (m + s.val) else 0 := by
  rw [← sum_upto N r h fun s => S.a (m + s)]
  unfold loc cs
  rw [show m + r + 1 = m + (r + 1) by omega, sum_range_add]
  ring

theorem cs_sum (N t : ℕ) (h : t < N) : S.cs (t + 1) = ∑ s : Fin N, if s.val ≤ t then S.a s.val else 0 := sum_upto N t h S.a

/-- A row's result from the rows of its block before it, and from the state before the block. -/
theorem y_block (m N r p : ℕ) (h : r < N) : S.y (m + r) p
    = (∑ s : Fin N, (S.meet (m + r) (m + s.val) * (if s.val ≤ r then Real.exp (S.loc m r - S.loc m s.val) else 0)) * S.x (m + s.val) p)
      + (∑ n : Fin 128, S.c (m + r) n.val * S.st m p n.val) * Real.exp (S.loc m r) := by
  unfold y
  rw [show m + r + 1 = m + (r + 1) by omega, sum_range_add, sum_upto N r h, add_comm]
  congr 1
  · refine sum_congr rfl fun s _ => ?_
    split
    · unfold loc
      rw [show S.cs (m + (r + 1)) - S.cs (m + s.val + 1) = S.cs (m + r + 1) - S.cs m - (S.cs (m + s.val + 1) - S.cs m) by
        rw [show m + (r + 1) = m + r + 1 by omega]; ring]
    · simp
  · unfold st meet loc
    simp only [mul_sum, sum_mul]
    rw [sum_comm]
    refine sum_congr rfl fun n _ => sum_congr rfl fun s _ => ?_
    rw [show S.cs (m + (r + 1)) - S.cs (s + 1) = (S.cs m - S.cs (s + 1)) + (S.cs (m + r + 1) - S.cs m) by
      rw [show m + (r + 1) = m + r + 1 by omega]; ring, Real.exp_add]
    ring

/-- The state after a block from the state before it. -/
theorem st_block (m N p n : ℕ) : S.st (m + (N + 1)) p n
    = S.st m p n * Real.exp (S.loc m N) + ∑ s : Fin (N + 1), S.x (m + s.val) p * Real.exp (S.loc m N - S.loc m s.val) * S.b (m + s.val) n := by
  unfold st loc
  rw [sum_range_add, sum_mul, ← Fin.sum_univ_eq_sum_range (fun s => S.x (m + s) p * Real.exp (S.cs (m + (N + 1)) - S.cs (m + s + 1)) * S.b (m + s) n)]
  congr 1
  · refine sum_congr rfl fun s _ => ?_
    rw [show S.cs (m + (N + 1)) - S.cs (s + 1) = (S.cs m - S.cs (s + 1)) + (S.cs (m + N + 1) - S.cs m) by
      rw [show m + (N + 1) = m + N + 1 by omega]; ring, Real.exp_add]
    ring
  · refine sum_congr rfl fun s _ => ?_
    rw [show S.cs (m + (N + 1)) - S.cs (m + s.val + 1) = S.cs (m + N + 1) - S.cs m - (S.cs (m + s.val + 1) - S.cs m) by
      rw [show m + (N + 1) = m + N + 1 by omega]; ring]

theorem y_all (N t p : ℕ) (h : t < N) : S.y t p
    = ∑ s : Fin N, S.x s.val p * (S.meet t s.val * (if s.val ≤ t then Real.exp (S.cs (t + 1) - S.cs (s.val + 1)) else 0)) := by
  unfold y
  rw [sum_upto N t h]
  refine sum_congr rfl fun s _ => ?_
  split <;> ring

theorem st_all (N m p n : ℕ) (h : m ≤ N) : S.st m p n
    = ∑ s : Fin N, S.b s.val n * ((if s.val < m then Real.exp (S.cs m - S.cs (s.val + 1)) else 0) * S.x s.val p) := by
  unfold st
  rw [Fin.sum_univ_eq_sum_range (fun s => S.b s n * ((if s < m then Real.exp (S.cs m - S.cs (s + 1)) else 0) * S.x s p)) N,
    ← sum_subset (range_subset_range.mpr h) fun s _ hs => by rw [if_neg (fun q => hs (mem_range.mpr q))]; ring]
  refine sum_congr rfl fun s hs => ?_
  rw [if_pos (mem_range.mp hs)]
  ring

end Scan
end Cert.Proof
end
-- ==== Proof.SsdfBlock.lean ====
module

public import proofs.«01_k».proof.Proof.Gen.SsdfKernelIdeal.Skeleton
public import proofs.«01_k».proof.Proof.SwaBlock
public import proofs.«01_k».proof.Proof.SsdfScan

@[expose] public section
set_option maxRecDepth 16384
noncomputable section

namespace Cert.SsdfKernelIdeal.Value
open Cert.SsdfKernelIdeal Cert.SsdfKernelIdeal.Gen Idealize.ShloMosaic Cert.Proof
open Cert.SwaKernelIdeal.Value (lane_sel pick pick_at)

/-! ## One head of one block of rows -/

local notation "Col" => FVec Ideal S256x1 FTy.f32
local notation "Wide" => FVec Ideal S256x128 FTy.f32
local notation "Square" => FVec Ideal S256x256 FTy.f32

/-- One lane of every row. -/
def pickCol (b : BitVec 32) (e : Wide) : Col :=
  shapeCast S256x1 (multiReduction .add [1] S256 (select (cmpi .eq (iota .tc S256x128 32 [1] iota_S256x128_d1_w32) (broadcast S256x128 b)) e
    (broadcast S256x128 (Scalar.ofBits (F := Ideal) .f32 0x00000000#32))) 0x00000000#32 reduces_S256x128_S256 (.inl rfl) rfl) shapeCasts_S256_S256x1

/-- A column laid out as a row, through the identity matrix. -/
def rowForm (v : Col) : FVec Ideal S1x256 .f32 :=
  shapeCast S1x256 (multiReduction .add [0] S256 (mulf k0_pay11 (broadcastTo S256x256 v broadcasts_S256x1_S256x256)) 0x00000000#32
    reduces_S256x256_S256 (.inl rfl) rfl) shapeCasts_S256_S1x256

def noSquare : Square := broadcast S256x256 (Scalar.ofBits (F := Ideal) .f32 0x00000000#32)

/-- How much of a row's writing is left at a later row. -/
def decay (v : Col) : Square :=
  select k0_pay10 (exp (select k0_pay10 (subf (broadcastTo S256x256 v broadcasts_S256x1_S256x256) (broadcastTo S256x256 (rowForm v) broadcasts_S1x256_S256x256)) noSquare)) noSquare

def lastOf (v : Col) : FVec Ideal S1x1 .f32 :=
  shapeCast S1x1 (multiReduction .add [0] S1 (select (cmpi .eq (iota .tc S256x1 32 [0] iota_S256x1_d0_w32) (broadcast S256x1 255#32)) v
    (broadcast S256x1 (Scalar.ofBits (F := Ideal) .f32 0x00000000#32))) 0x00000000#32 reduces_S256x1_S1 (.inl rfl) rfl) shapeCasts_S1_S1x1

def scaled (x : FVec Ideal S256x64 .f32) (dt : Col) : FVec Ideal S256x64 .f32 := mulf x (broadcastTo S256x64 dt broadcasts_S256x1_S256x64)

/-- A head's result. -/
def yHead (x : FVec Ideal S256x64 .f32) (dt a : Col) (st : FVec Ideal S64x128 .f32) (b c : Wide) (d : FVec Ideal S1x1 .f32) : FVec Ideal S256x64 .f32 :=
  addf (addf
    (matmul dot_S256x256_S256x64_S256x64_1_0_0_1_n_n none (mulf (matmul dot_S256x128_S256x128_S256x256_1_1_0_0_n_n none c b (constant S256x256 .f32 0x00000000#32)) (decay a))
      (scaled x dt) (constant S256x64 .f32 0x00000000#32))
    (mulf (matmul dot_S256x128_S64x128_S256x64_1_1_0_0_n_n none c st (constant S256x64 .f32 0x00000000#32)) (broadcastTo S256x64 (exp a) broadcasts_S256x1_S256x64)))
    (mulf x (broadcastTo S256x64 d broadcasts_S1x1_S256x64))

/-- A head's state after the block. -/
def sHead (x : FVec Ideal S256x64 .f32) (dt a : Col) (st : FVec Ideal S64x128 .f32) (b : Wide) : FVec Ideal S64x128 .f32 :=
  addf (mulf st (broadcastTo S64x128 (exp (lastOf a)) broadcasts_S1x1_S64x128))
    (matmul dot_S256x64_S256x128_S64x128_0_0_1_1_n_n none
      (mulf (scaled x dt) (broadcastTo S256x64 (exp (subf (broadcastTo S256x1 (lastOf a) broadcasts_S1x1_S256x1) a)) broadcasts_S256x1_S256x64)) b
      (constant S64x128 .f32 0x00000000#32))

theorem pickCol_at (e : Wide) (j : Fin 128) (r : Fin 256) : pickCol (BitVec.ofNat 32 j.val) e (ix2 r 0) = e (ix2 r j) := by
  pointwise [pickCol]
  rw [Finset.sum_congr rfl fun x _ => lane_sel x j _]
  simp only [Fin.val_inj]
  rw [Finset.sum_ite_eq' Finset.univ j, if_pos (Finset.mem_univ _)]

/-- A comparison of two small numbers, as a bit. -/
theorem eq_bit (x j : Fin 256) : IntOp.cmpi .eq (BitVec.ofNat 32 x.val) (BitVec.ofNat 32 j.val) = BitVec.ofBool (decide (x = j)) := by
  have hx := x.isLt
  have hj := j.isLt
  by_cases h : x = j
  · subst h; simp [IntOp.cmpi]
  · have n : ¬BitVec.ofNat 32 x.val = BitVec.ofNat 32 j.val := by
      intro q
      apply h
      have := congrArg BitVec.toNat q
      simp only [BitVec.toNat_ofNat] at this
      exact Fin.ext (by omega)
    simp [IntOp.cmpi, beq_eq_false_iff_ne.mpr n, h]

theorem bit_one (b : Bool) : (((BitVec.setWidth 32 (BitVec.ofBool b)).toInt : ℝ) : EReal) = if b then 1 else 0 := by
  cases b <;> simp

theorem sel_bit (p : Prop) [Decidable p] (a b : EReal) : Scalar.select (BitVec.ofBool (decide p)) a b = if p then a else b := by
  by_cases h : p <;> simp [Scalar.select, h]

theorem eye_at (r l : Fin 256) : k0_pay11 (F := Ideal) (ix2 r l) = if r = l then 1 else 0 := by
  pointwise [k0_pay11]
  rw [eq_bit]
  refine (bit_one _).trans ?_
  simp

theorem tri_at (r l : Fin 256) : k0_pay10 (ix2 r l) = BitVec.ofBool (decide (l.val ≤ r.val)) := by
  pointwise [k0_pay10]
  have hr := r.isLt
  have hl := l.isLt
  simp only [IntOp.cmpi]
  congr 1
  rw [BitVec.sle_eq_decide]
  simp only [decide_eq_decide]
  rw [BitVec.toInt_eq_toNat_of_lt (by simp; omega), BitVec.toInt_eq_toNat_of_lt (by simp; omega)]
  simp only [BitVec.toNat_ofNat]
  omega

theorem rowForm_at (v : Col) (l : Fin 256) : rowForm v (ix2 0 l) = v (ix2 l 0) := by
  pointwise [rowForm]
  simp only [eye_at]
  rw [Finset.sum_congr rfl fun s _ => show (if s = l then (1 : EReal) else 0) * v (ix2 s 0) = if s = l then v (ix2 s 0) else 0 by split <;> simp]
  rw [Finset.sum_ite_eq' Finset.univ l, if_pos (Finset.mem_univ _)]

theorem lastOf_at (v : Col) : lastOf v (ix2 0 0) = v (ix2 255 0) := by
  pointwise [lastOf]
  rw [Finset.sum_congr rfl fun s _ => show _ = if s = (255 : Fin 256) then v (ix2 s 0) else 0 by
    rw [show (255#32 : BitVec 32) = BitVec.ofNat 32 (255 : Fin 256).val from rfl, eq_bit, sel_bit]]
  rw [Finset.sum_ite_eq' Finset.univ (255 : Fin 256), if_pos (Finset.mem_univ _)]

theorem decay_at (v : Col) (f : ℕ → ℝ) (h : ∀ r : Fin 256, v (ix2 r 0) = ((f r.val : ℝ) : EReal)) (r l : Fin 256) :
    decay v (ix2 r l) = ((if l.val ≤ r.val then Real.exp (f r.val - f l.val) else 0 : ℝ) : EReal) := by
  pointwise [decay, noSquare]
  rw [tri_at, sel_bit, sel_bit, rowForm_at, h, h]
  by_cases q : l.val ≤ r.val
  · simp only [if_pos q]
    rw [← EReal.coe_sub, exp_coe]
  · simp only [if_neg q]
    rfl

/-- What a head reads in the block of rows that starts at row `m`. -/
structure Reads (S : Scan) (m : ℕ) (x : FVec Ideal S256x64 .f32) (dt a : Col) (st : FVec Ideal S64x128 .f32) (b c : Wide) : Prop where
  x : ∀ r d, x (ix2 r d) * dt (ix2 r 0) = ((S.x (m + r.val) d.val : ℝ) : EReal)
  a : ∀ r, a (ix2 r 0) = ((S.loc m r.val : ℝ) : EReal)
  st : ∀ d n, st (ix2 d n) = ((S.st m d.val n.val : ℝ) : EReal)
  b : ∀ r n, b (ix2 r n) = ((S.b (m + r.val) n.val : ℝ) : EReal)
  c : ∀ r n, c (ix2 r n) = ((S.c (m + r.val) n.val : ℝ) : EReal)

section
variable {S : Scan} {m : ℕ} {x : FVec Ideal S256x64 .f32} {dt a : Col} {st : FVec Ideal S64x128 .f32} {b c : Wide} (h : Reads S m x dt a st b c)
include h

theorem scaled_at (r : Fin 256) (d : Fin 64) : scaled x dt (ix2 r d) = ((S.x (m + r.val) d.val : ℝ) : EReal) := by
  pointwise [scaled]
  exact h.x r d

theorem yHead_at (d : FVec Ideal S1x1 .f32) (r : Fin 256) (p : Fin 64) :
    yHead x dt a st b c d (ix2 r p) = ((S.y (m + r.val) p.val : ℝ) : EReal) + x (ix2 r p) * d (ix2 0 0) := by
  pointwise [yHead]
  simp only [scaled_at h, decay_at a (S.loc m) h.a, h.a, h.b, h.c, h.st, exp_coe, ← EReal.coe_mul, coe_sum]
  rw [← EReal.coe_add, S.y_block m 256 r.val p.val r.isLt]
  rfl

theorem sHead_at (p : Fin 64) (n : Fin 128) : sHead x dt a st b (ix2 p n) = ((S.st (m + 256) p.val n.val : ℝ) : EReal) := by
  pointwise [sHead]
  simp only [scaled_at h, lastOf_at, h.a, h.b, h.st, exp_coe, ← EReal.coe_mul, ← EReal.coe_sub, coe_sum]
  rw [← EReal.coe_add, S.st_block m 255 p.val n.val]
  rfl

end
end Cert.SsdfKernelIdeal.Value
end
-- ==== Proof.SsdfHeads.lean ====
module

public import proofs.«01_k».proof.Proof.SsdfBlock

@[expose] public section
set_option maxRecDepth 16384
noncomputable section

namespace Cert.Proof

/-- The eight heads: each with decays and inputs of its own, four of them sharing what they write and read with. -/
structure Ssd where
  a : ℕ → ℕ → ℝ
  b : ℕ → ℕ → ℕ → ℝ
  c : ℕ → ℕ → ℕ → ℝ
  x : ℕ → ℕ → ℝ

def Ssd.head (A : Ssd) (h : ℕ) : Scan := ⟨A.a h, A.b (h / 4), A.c (h / 4), fun t p => A.x t (64 * h + p)⟩

end Cert.Proof

namespace Cert.SsdfKernelIdeal.Value
open Cert.SsdfKernelIdeal Cert.SsdfKernelIdeal.Gen Idealize.ShloMosaic Cert.Proof
open Cert.SwaKernelIdeal.Value (lane_sel pick pick_at)

/-! ## The eight heads of one block of rows -/

local notation "Wide" => FVec Ideal S256x128 FTy.f32
local notation "Part" => FVec Ideal S256x64 FTy.f32

section
variable (DT AC : Wide) (X : FVec Ideal S256x512 .f32) (B0 B1 C0 C1 : Wide) (ST : FVec Ideal S512x128 .f32) (D : FVec Ideal S1x128 .f32)

/-- The head whose channels start at `o` and whose lane is `k`. -/
def yPart (o : ℕ) (k : BitVec 32) (hx : S256x512.Slices ![0, o] S256x64) (hs : S512x128.Slices ![o, 0] S64x128) (B C : Wide) : Part :=
  yHead (extractStridedSlice S256x64 ![0, o] X hx) (pickCol k DT) (pickCol k AC) (extractStridedSlice S64x128 ![o, 0] ST hs) B C (pick k D)

def sPart (o : ℕ) (k : BitVec 32) (hx : S256x512.Slices ![0, o] S256x64) (hs : S512x128.Slices ![o, 0] S64x128) (B : Wide) : FVec Ideal S64x128 .f32 :=
  sHead (extractStridedSlice S256x64 ![0, o] X hx) (pickCol k DT) (pickCol k AC) (extractStridedSlice S64x128 ![o, 0] ST hs) B

abbrev y0 : Part := yPart DT AC X ST D 0 0#32 slices_S256x512_o0_0_S256x64 slices_S512x128_o0_0_S64x128 B0 C0
abbrev y1 : Part := yPart DT AC X ST D 64 1#32 slices_S256x512_o0_64_S256x64 slices_S512x128_o64_0_S64x128 B0 C0
abbrev y2 : Part := yPart DT AC X ST D 128 2#32 slices_S256x512_o0_128_S256x64 slices_S512x128_o128_0_S64x128 B0 C0
abbrev y3 : Part := yPart DT AC X ST D 192 3#32 slices_S256x512_o0_192_S256x64 slices_S512x128_o192_0_S64x128 B0 C0
abbrev y4 : Part := yPart DT AC X ST D 256 4#32 slices_S256x512_o0_256_S256x64 slices_S512x128_o256_0_S64x128 B1 C1
abbrev y5 : Part := yPart DT AC X ST D 320 5#32 slices_S256x512_o0_320_S256x64 slices_S512x128_o320_0_S64x128 B1 C1
abbrev y6 : Part := yPart DT AC X ST D 384 6#32 slices_S256x512_o0_384_S256x64 slices_S512x128_o384_0_S64x128 B1 C1
abbrev y7 : Part := yPart DT AC X ST D 448 7#32 slices_S256x512_o0_448_S256x64 slices_S512x128_o448_0_S64x128 B1 C1

/-- The heads' results side by side. -/
def joined : FVec Ideal S256x512 .f32 :=
  concatenate S256x512 1 [⟨S256x64, y0 DT AC X B0 C0 ST D⟩, ⟨S256x64, y1 DT AC X B0 C0 ST D⟩, ⟨S256x64, y2 DT AC X B0 C0 ST D⟩, ⟨S256x64, y3 DT AC X B0 C0 ST D⟩,
    ⟨S256x64, y4 DT AC X B1 C1 ST D⟩, ⟨S256x64, y5 DT AC X B1 C1 ST D⟩, ⟨S256x64, y6 DT AC X B1 C1 ST D⟩, ⟨S256x64, y7 DT AC X B1 C1 ST D⟩]
    concatenates_S256x64_S256x64_S256x64_S256x64_S256x64_S256x64_S256x64_S256x64_S256x512_d1

/-- The block's result: gated, normed within each half, weighted. -/
def outBlock (Z : FVec Ideal S256x512 .f32) (W : FVec Ideal S1x512 .f32) : FVec Ideal S256x512 .bf16 :=
  k0_pay1 W
    (k0_pay135 Z (y0 DT AC X B0 C0 ST D) (y1 DT AC X B0 C0 ST D) (y2 DT AC X B0 C0 ST D) (y3 DT AC X B0 C0 ST D) (y4 DT AC X B1 C1 ST D) (y5 DT AC X B1 C1 ST D) (y6 DT AC X B1 C1 ST D) (y7 DT AC X B1 C1 ST D))
    (k0_pay136 Z (y0 DT AC X B0 C0 ST D) (y1 DT AC X B0 C0 ST D) (y2 DT AC X B0 C0 ST D) (y3 DT AC X B0 C0 ST D) (y4 DT AC X B1 C1 ST D) (y5 DT AC X B1 C1 ST D) (y6 DT AC X B1 C1 ST D) (y7 DT AC X B1 C1 ST D))
    (k0_pay137 Z (y0 DT AC X B0 C0 ST D) (y1 DT AC X B0 C0 ST D) (y2 DT AC X B0 C0 ST D) (y3 DT AC X B0 C0 ST D) (y4 DT AC X B1 C1 ST D) (y5 DT AC X B1 C1 ST D) (y6 DT AC X B1 C1 ST D) (y7 DT AC X B1 C1 ST D))

/-- The heads' states after the block, one above the other. -/
def stBlock : FVec Ideal S512x128 .f32 :=
  k0_pay2 (sPart DT AC X ST 0 0#32 slices_S256x512_o0_0_S256x64 slices_S512x128_o0_0_S64x128 B0)
    (sPart DT AC X ST 64 1#32 slices_S256x512_o0_64_S256x64 slices_S512x128_o64_0_S64x128 B0)
    (sPart DT AC X ST 128 2#32 slices_S256x512_o0_128_S256x64 slices_S512x128_o128_0_S64x128 B0)
    (sPart DT AC X ST 192 3#32 slices_S256x512_o0_192_S256x64 slices_S512x128_o192_0_S64x128 B0)
    (sPart DT AC X ST 256 4#32 slices_S256x512_o0_256_S256x64 slices_S512x128_o256_0_S64x128 B1)
    (sPart DT AC X ST 320 5#32 slices_S256x512_o0_320_S256x64 slices_S512x128_o320_0_S64x128 B1)
    (sPart DT AC X ST 384 6#32 slices_S256x512_o0_384_S256x64 slices_S512x128_o384_0_S64x128 B1)
    (sPart DT AC X ST 448 7#32 slices_S256x512_o0_448_S256x64 slices_S512x128_o448_0_S64x128 B1)

end

/-- The block's vectors hold the part of `A` that starts at row `m`. -/
structure Fits (A : Ssd) (m : ℕ) (DT AC : Wide) (X : FVec Ideal S256x512 .f32) (B0 B1 C0 C1 : Wide) (ST : FVec Ideal S512x128 .f32) : Prop where
  x : ∀ r (q : Fin 512) (l : Fin 128), l.val = q.val / 64 → X (ix2 r q) * DT (ix2 r l) = ((A.x (m + r.val) q.val : ℝ) : EReal)
  a : ∀ r (l : Fin 128), l.val < 8 → AC (ix2 r l) = (((A.head l.val).loc m r.val : ℝ) : EReal)
  st : ∀ (q : Fin 512) n, ST (ix2 q n) = (((A.head (q.val / 64)).st m (q.val % 64) n.val : ℝ) : EReal)
  b0 : ∀ r n, B0 (ix2 r n) = ((A.b 0 (m + r.val) n.val : ℝ) : EReal)
  b1 : ∀ r n, B1 (ix2 r n) = ((A.b 1 (m + r.val) n.val : ℝ) : EReal)
  c0 : ∀ r n, C0 (ix2 r n) = ((A.c 0 (m + r.val) n.val : ℝ) : EReal)
  c1 : ∀ r n, C1 (ix2 r n) = ((A.c 1 (m + r.val) n.val : ℝ) : EReal)

section
variable {A : Ssd} {m : ℕ} {DT AC : Wide} {X : FVec Ideal S256x512 .f32} {B0 B1 C0 C1 : Wide} {ST : FVec Ideal S512x128 .f32} (h : Fits A m DT AC X B0 B1 C0 C1 ST)
include h

theorem reads (k : Fin 128) (hk : k.val < 8) (hx : S256x512.Slices ![0, 64 * k.val] S256x64) (hs : S512x128.Slices ![64 * k.val, 0] S64x128) (B C : Wide)
    (hb : ∀ r n, B (ix2 r n) = ((A.b (k.val / 4) (m + r.val) n.val : ℝ) : EReal)) (hc : ∀ r n, C (ix2 r n) = ((A.c (k.val / 4) (m + r.val) n.val : ℝ) : EReal)) :
    Reads (A.head k.val) m (extractStridedSlice S256x64 ![0, 64 * k.val] X hx) (pickCol (BitVec.ofNat 32 k.val) DT) (pickCol (BitVec.ofNat 32 k.val) AC)
      (extractStridedSlice S64x128 ![64 * k.val, 0] ST hs) B C where
  x r d := by
    rw [pickCol_at]
    pointwise
    exact h.x r ⟨64 * k.val + d.val, by omega⟩ k (by show k.val = (64 * k.val + d.val) / 64; omega)
  a r := by rw [pickCol_at]; exact h.a r k hk
  st d n := by
    pointwise
    refine (h.st ⟨64 * k.val + d.val, by omega⟩ n).trans ?_
    rw [show (64 * k.val + d.val) / 64 = k.val by omega, show (64 * k.val + d.val) % 64 = d.val by omega]
  b := hb
  c := hc

theorem yPart_at (D : FVec Ideal S1x128 .f32) (k : Fin 128) (hk : k.val < 8) (hx : S256x512.Slices ![0, 64 * k.val] S256x64)
    (hs : S512x128.Slices ![64 * k.val, 0] S64x128) (B C : Wide)
    (hb : ∀ r n, B (ix2 r n) = ((A.b (k.val / 4) (m + r.val) n.val : ℝ) : EReal)) (hc : ∀ r n, C (ix2 r n) = ((A.c (k.val / 4) (m + r.val) n.val : ℝ) : EReal))
    (r : Fin 256) (p : Fin 64) (q : Fin 512) (hq : q.val = 64 * k.val + p.val) :
    yPart DT AC X ST D (64 * k.val) (BitVec.ofNat 32 k.val) hx hs B C (ix2 r p)
      = (((A.head k.val).y (m + r.val) p.val : ℝ) : EReal) + X (ix2 r q) * D (ix2 0 k) := by
  unfold yPart
  rw [yHead_at (reads h k hk hx hs B C hb hc), pick_at]
  congr 2
  pointwise
  exact congrArg X (congrArg (ix2 r) (Fin.ext hq.symm))

theorem sPart_at (k : Fin 128) (hk : k.val < 8) (hx : S256x512.Slices ![0, 64 * k.val] S256x64)
    (hs : S512x128.Slices ![64 * k.val, 0] S64x128) (B : Wide)
    (hb : ∀ r n, B (ix2 r n) = ((A.b (k.val / 4) (m + r.val) n.val : ℝ) : EReal)) (C : Wide) (hc : ∀ r n, C (ix2 r n) = ((A.c (k.val / 4) (m + r.val) n.val : ℝ) : EReal))
    (p : Fin 64) (n : Fin 128) :
    sPart DT AC X ST (64 * k.val) (BitVec.ofNat 32 k.val) hx hs B (ix2 p n) = (((A.head k.val).st (m + 256) p.val n.val : ℝ) : EReal) := by
  unfold sPart
  rw [sHead_at (reads h k hk hx hs B C hb hc)]

theorem joined_at (D : FVec Ideal S1x128 .f32) (r : Fin 256) (q : Fin 512) (l : Fin 128) (hl : l.val = q.val / 64) :
    joined DT AC X B0 B1 C0 C1 ST D (ix2 r q) = (((A.head (q.val / 64)).y (m + r.val) (q.val % 64) : ℝ) : EReal) + X (ix2 r q) * D (ix2 0 l) := by
  obtain ⟨l, hl'⟩ := l
  change l = q.val / 64 at hl
  subst hl
  have part : ∀ (k : Fin 128) (hk : k.val < 8) (hx : S256x512.Slices ![0, 64 * k.val] S256x64) (hs : S512x128.Slices ![64 * k.val, 0] S64x128) (B C : Wide)
      (hb : ∀ r n, B (ix2 r n) = ((A.b (k.val / 4) (m + r.val) n.val : ℝ) : EReal)) (hc : ∀ r n, C (ix2 r n) = ((A.c (k.val / 4) (m + r.val) n.val : ℝ) : EReal))
      (p : Fin 64), q.val = 64 * k.val + p.val → yPart DT AC X ST D (64 * k.val) (BitVec.ofNat 32 k.val) hx hs B C (ix2 r p)
      = (((A.head (q.val / 64)).y (m + r.val) (q.val % 64) : ℝ) : EReal) + X (ix2 r q) * D (ix2 0 ⟨q.val / 64, hl'⟩) := by
    intro k hk hx hs B C hb hc p e
    rw [yPart_at h D k hk hx hs B C hb hc r p q e]
    have e1 : q.val / 64 = k.val := by omega
    have e2 : q.val % 64 = p.val := by omega
    rw [e2, show (⟨q.val / 64, hl'⟩ : Fin 128) = k from Fin.ext e1, e1]
  have hq := q.isLt
  pointwise [joined]
  split
  · exact part 0 (by decide) _ _ _ _ h.b0 h.c0 _ (by simp)
  split
  · exact part 1 (by decide) _ _ _ _ h.b0 h.c0 _ (by simp; omega)
  split
  · exact part 2 (by decide) _ _ _ _ h.b0 h.c0 _ (by simp; omega)
  split
  · exact part 3 (by decide) _ _ _ _ h.b0 h.c0 _ (by simp; omega)
  split
  · exact part 4 (by decide) _ _ _ _ h.b1 h.c1 _ (by simp; omega)
  split
  · exact part 5 (by decide) _ _ _ _ h.b1 h.c1 _ (by simp; omega)
  split
  · exact part 6 (by decide) _ _ _ _ h.b1 h.c1 _ (by simp; omega)
  · exact part 7 (by decide) _ _ _ _ h.b1 h.c1 _ (by simp; omega)

theorem stBlock_at (q : Fin 512) (n : Fin 128) :
    stBlock DT AC X B0 B1 ST (ix2 q n) = (((A.head (q.val / 64)).st (m + 256) (q.val % 64) n.val : ℝ) : EReal) := by
  have part : ∀ (k : Fin 128) (hk : k.val < 8) (hx : S256x512.Slices ![0, 64 * k.val] S256x64) (hs : S512x128.Slices ![64 * k.val, 0] S64x128) (B C : Wide)
      (hb : ∀ r n, B (ix2 r n) = ((A.b (k.val / 4) (m + r.val) n.val : ℝ) : EReal)) (hc : ∀ r n, C (ix2 r n) = ((A.c (k.val / 4) (m + r.val) n.val : ℝ) : EReal))
      (p : Fin 64), q.val = 64 * k.val + p.val → sPart DT AC X ST (64 * k.val) (BitVec.ofNat 32 k.val) hx hs B (ix2 p n)
      = (((A.head (q.val / 64)).st (m + 256) (q.val % 64) n.val : ℝ) : EReal) := by
    intro k hk hx hs B C hb hc p e
    rw [sPart_at h k hk hx hs B hb C hc p n, show q.val / 64 = k.val by omega, show q.val % 64 = p.val by omega]
  have hq := q.isLt
  pointwise [stBlock, k0_pay2]
  split
  · exact part 0 (by decide) _ _ _ _ h.b0 h.c0 _ (by simp)
  split
  · exact part 1 (by decide) _ _ _ _ h.b0 h.c0 _ (by simp; omega)
  split
  · exact part 2 (by decide) _ _ _ _ h.b0 h.c0 _ (by simp; omega)
  split
  · exact part 3 (by decide) _ _ _ _ h.b0 h.c0 _ (by simp; omega)
  split
  · exact part 4 (by decide) _ _ _ _ h.b1 h.c1 _ (by simp; omega)
  split
  · exact part 5 (by decide) _ _ _ _ h.b1 h.c1 _ (by simp; omega)
  split
  · exact part 6 (by decide) _ _ _ _ h.b1 h.c1 _ (by simp; omega)
  · exact part 7 (by decide) _ _ _ _ h.b1 h.c1 _ (by simp; omega)

end
end Cert.SsdfKernelIdeal.Value
end
-- ==== Proof.SsdfSpec.lean ====
module

public import proofs.«01_k».proof.Proof.SsdfHeads

@[expose] public section
set_option maxRecDepth 16384
noncomputable section

namespace Cert.SsdfKernelIdeal.Value
open Cert.SsdfKernelIdeal Cert.SsdfKernelIdeal.Gen Idealize.ShloMosaic Cert.Proof

/-! ## The recurrence as a function of the arguments -/

/-- The logarithm of `1 + exp u`, as both programs form it. -/
def softplus (u : ℝ) : ℝ := max u 0 + Real.log (1 + Real.exp (-|u|))

theorem softplus_coe (u : ℝ) : max (u : EReal) 0 + Ideal.log1p (Ideal.exp (-((|u| : ℝ) : EReal))) = ((softplus u : ℝ) : EReal) := by
  have e : Ideal.log1p (Ideal.exp (-((|u| : ℝ) : EReal))) = ((Real.log (1 + Real.exp (-|u|)) : ℝ) : EReal) := by
    rw [← EReal.coe_neg, exp_coe]
    unfold Ideal.log1p
    rw [← EReal.coe_one, ← EReal.coe_add]
    have p : 0 < 1 + Real.exp (-|u|) := by positivity
    exact if_neg p.not_ge
  have k : max (u : EReal) 0 = ((max u 0 : ℝ) : EReal) := (EReal.coe_strictMono.monotone.map_max (a := u) (b := 0)).symm
  rw [e, k, ← EReal.coe_add]
  rfl

theorem absf_coe (v : ℝ) : FloatOps.absf (F := Ideal) (φ := FTy.f32) (v : EReal) = ((|v| : ℝ) : EReal) := by
  show max (v : EReal) (-(v : EReal)) = _
  rw [← EReal.coe_neg, abs_eq_max_neg]
  exact (EReal.coe_strictMono.monotone.map_max (a := v) (b := -v)).symm

theorem softplus_of {u : EReal} {v : ℝ} (h : u = v) :
    (if u ≠ u then u else max u 0 + Ideal.log1p (Ideal.exp (0 - FloatOps.absf (F := Ideal) (φ := FTy.f32) u))) = ((softplus v : ℝ) : EReal) := by
  subst h
  rw [if_neg (fun h => h rfl), absf_coe, zero_sub]
  exact softplus_coe v

section
variable (P : FVec Ideal S1x4096x3088 .f32) (X : FVec Ideal S1x4096x1024 .f32) (db al dk : FVec Ideal S8 .f32) (w : FVec Ideal S512 .f32)

def rate (t h : ℕ) : ℝ :=
  softplus ((P (ix3 (0 : Fin 1) (Fin.ofNat 4096 t) (Fin.ofNat 3088 (2048 + h)))).toReal + (db (ix1 (Fin.ofNat 8 h))).toReal)

def entry (t q : ℕ) : ℝ := (X (ix3 (0 : Fin 1) (Fin.ofNat 4096 t) (Fin.ofNat 1024 q))).toReal

def ssdOf : Ssd where
  a h t := rate P db t h * -Real.exp (al (ix1 (Fin.ofNat 8 h))).toReal
  b g t n := entry X t (512 + 128 * g + n)
  c g t n := entry X t (768 + 128 * g + n)
  x t q := entry X t q * rate P db t (q / 64)

theorem entry_at (t q : ℕ) (ht : t < 4096) (hq : q < 1024) : entry X t q = (X (ix3 (0 : Fin 1) ⟨t, ht⟩ ⟨q, hq⟩)).toReal := by
  have h0 : Fin.ofNat 4096 t = ⟨t, ht⟩ := Fin.ext (Nat.mod_eq_of_lt ht)
  have h1 : Fin.ofNat 1024 q = ⟨q, hq⟩ := Fin.ext (Nat.mod_eq_of_lt hq)
  unfold entry
  rw [h0, h1]

theorem rate_at (t h : ℕ) (ht : t < 4096) (hh : h < 8) :
    rate P db t h = softplus ((P (ix3 (0 : Fin 1) ⟨t, ht⟩ ⟨2048 + h, by omega⟩)).toReal + (db (ix1 ⟨h, hh⟩)).toReal) := by
  have h0 : Fin.ofNat 4096 t = ⟨t, ht⟩ := Fin.ext (Nat.mod_eq_of_lt ht)
  have h1 : Fin.ofNat 3088 (2048 + h) = ⟨2048 + h, by omega⟩ := Fin.ext (Nat.mod_eq_of_lt (by omega))
  have h2 : Fin.ofNat 8 h = ⟨h, hh⟩ := Fin.ext (Nat.mod_eq_of_lt hh)
  unfold rate
  rw [h0, h1, h2]

theorem a_at (h t : ℕ) (hh : h < 8) : (ssdOf P X db al).a h t = rate P db t h * -Real.exp (al (ix1 ⟨h, hh⟩)).toReal := by
  have h2 : Fin.ofNat 8 h = ⟨h, hh⟩ := Fin.ext (Nat.mod_eq_of_lt hh)
  unfold ssdOf
  simp only [h2]

/-- The arguments the recurrence is made of are finite. -/
structure Known : Prop where
  p : ∀ j, P j = (((P j).toReal : ℝ) : EReal)
  x : ∀ j, X j = (((X j).toReal : ℝ) : EReal)
  db : ∀ j, db j = (((db j).toReal : ℝ) : EReal)
  al : ∀ j, al j = (((al j).toReal : ℝ) : EReal)

/-- The recurrence's result with the skipped part, gated. -/
def mixed (t : Fin 4096) (q : Fin 512) : EReal :=
  ((((ssdOf P X db al).head (q.val / 64)).y t.val (q.val % 64) : ℝ) + X (ix3 (0 : Fin 1) t (⟨q.val, by omega⟩ : Fin 1024)) * dk (ix1 (⟨q.val / 64, by omega⟩ : Fin 8)))
    * (P (ix3 (0 : Fin 1) t (⟨512 + q.val, by omega⟩ : Fin 3088)) * Ideal.logistic (P (ix3 (0 : Fin 1) t (⟨512 + q.val, by omega⟩ : Fin 3088))))

def halfMate (q : Fin 512) (k : Fin 256) : Fin 512 := ⟨256 * (q.val / 256) + k.val, by omega⟩

/-- The result at a row and a channel: normed within the channel's half. -/
def outAt (t : Fin 4096) (q : Fin 512) : EReal :=
  mixed P X db al dk t q
    * Ideal.rsqrt (Ideal.div (∑ k, mixed P X db al dk t (halfMate q k) * mixed P X db al dk t (halfMate q k)) (Ideal.ofBits .f32 0x43800000#32) + Ideal.ofBits .f32 0x358637BD#32)
    * w (ix1 q)

def outOf : FVec Ideal S4096x512 .bf16 := fun j => outAt P X db al dk w (j 0) (j 1)

def stateAt (i : Fin 16) (q : Fin 512) (n : Fin 128) : EReal := ((((ssdOf P X db al).head (q.val / 64)).st (256 * i.val) (q.val % 64) n.val : ℝ) : EReal)

/-- The states before each block. -/
def statesOf : FVec Ideal S16x512x128 .f32 := fun j => stateAt P X db al (j 0) (j 1) (j 2)

end

/-- The norm of gated rows, as the block forms it. -/
theorem norm_at (DT AC : FVec Ideal S256x128 .f32) (X : FVec Ideal S256x512 .f32) (B0 B1 C0 C1 : FVec Ideal S256x128 .f32) (ST : FVec Ideal S512x128 .f32) (D : FVec Ideal S1x128 .f32)
    (Z : FVec Ideal S256x512 .f32) (W : FVec Ideal S1x512 .f32) (r : Fin 256) (q : Fin 512) (g : Fin 512 → EReal)
    (hg : ∀ q, joined DT AC X B0 B1 C0 C1 ST D (ix2 r q) * (Z (ix2 r q) * Ideal.logistic (Z (ix2 r q))) = g q) :
    outBlock DT AC X B0 B1 C0 C1 ST D Z W (ix2 r q)
      = g q * Ideal.rsqrt (Ideal.div (∑ k, g (halfMate q k) * g (halfMate q k)) (Ideal.ofBits .f32 0x43800000#32) + Ideal.ofBits .f32 0x358637BD#32) * W (ix2 0 q) := by
  have e : k0_pay134 Z (y0 DT AC X B0 C0 ST D) (y1 DT AC X B0 C0 ST D) (y2 DT AC X B0 C0 ST D) (y3 DT AC X B0 C0 ST D) (y4 DT AC X B1 C1 ST D) (y5 DT AC X B1 C1 ST D)
      (y6 DT AC X B1 C1 ST D) (y7 DT AC X B1 C1 ST D) = mulf (joined DT AC X B0 B1 C0 C1 ST D) (mulf Z (logistic Z)) := rfl
  have e' : ∀ q, mulf (joined DT AC X B0 B1 C0 C1 ST D) (mulf Z (logistic Z)) (ix2 r q) = g q := hg
  unfold outBlock k0_pay1 k0_pay135 k0_pay137 k0_pay136
  rw [e]
  generalize mulf (joined DT AC X B0 B1 C0 C1 ST D) (mulf Z (logistic Z)) = G at e'
  obtain ⟨q, hq⟩ := q
  by_cases h : q < 256
  · have m : ∀ k, halfMate ⟨q, hq⟩ k = ⟨k.val, by omega⟩ := fun k => Fin.ext (by show 256 * (q / 256) + k.val = k.val; omega)
    simp only [m]
    pointwise
    rw [dif_pos h]
    pointwise
    simp only [e', zero_add, add_zero, Nat.zero_add]
  · have m : ∀ k, halfMate ⟨q, hq⟩ k = ⟨256 + k.val, by omega⟩ := fun k => Fin.ext (by show 256 * (q / 256) + k.val = 256 + k.val; omega)
    simp only [m]
    pointwise
    rw [dif_neg h]
    pointwise
    simp only [e', zero_add, add_zero, show 256 + (q - 256) = q by omega]

end Cert.SsdfKernelIdeal.Value
end
-- ==== Proof.SsdfRef.lean ====
module

public import proofs.«01_k».proof.Proof.SsdfSpec
public import proofs.«01_k».proof.Proof.Gen.SsdfReferenceIdeal.Read
public import Idealize.ShloMosaic.Lib.Pointwise
public import Idealize.ShloMosaic.Lib.StableHlo.RunRead

@[expose] public section
set_option maxRecDepth 16384
noncomputable section

namespace Cert.SsdfReferenceIdeal.Read
open Cert.SsdfReferenceIdeal Cert.SsdfReferenceIdeal.Gen Idealize.ShloMosaic Cert.Proof
open Cert.SsdfKernelIdeal.Value (sel_bit softplus softplus_of rate rate_at entry entry_at ssdOf a_at Known)

/-! ## The recurrence, summed directly -/

theorem fold_sum {N : ℕ} (f : Fin N → EReal) : (List.finRange N).foldl (fun r n => r + f n) 0 = ∑ n, f n := by
  have step : ∀ (l : List (Fin N)) (v : EReal), l.foldl (fun r n => r + f n) v = v + (l.map f).sum := by
    intro l
    induction l with
    | nil => intro v; simp
    | cons n l ih => intro v; simp only [List.foldl_cons, List.map_cons, List.sum_cons, ih, add_assoc]
  rw [step, zero_add, Fin.sum_univ_def]

/-- The window's position that reads a row, for the result at row `t`. -/
def windowRow (t : Fin 4096) : (⟨2, ![4096, 1]⟩ : Shape).Idx ≃ Fin 4096 where
  toFun i := ⟨((i (0 : Fin 2)).val + t.val + 1) % 4096, by omega⟩
  invFun s := ix2 (⟨(s.val + 4095 - t.val) % 4096, by omega⟩ : Fin 4096) (0 : Fin 1)
  left_inv i := by
    obtain ⟨k, z, rfl⟩ : ∃ (k : Fin 4096) (z : Fin 1), i = ix2 k z := ⟨i 0, i 1, eq_ix2 i⟩
    obtain rfl : z = 0 := Subsingleton.elim _ _
    refine congrArg (fun k : Fin 4096 => (ix2 k (0 : Fin 1) : (⟨2, ![4096, 1]⟩ : Shape).Idx)) (Fin.ext ?_)
    show ((k.val + t.val + 1) % 4096 + 4095 - t.val) % 4096 = k.val
    omega
  right_inv s := by
    refine Fin.ext ?_
    show ((s.val + 4095 - t.val) % 4096 + t.val + 1) % 4096 = s.val
    omega

/-- A running sum down a column is the sum of the rows up to it. -/
theorem running_sum (x : FVec Ideal S4096x8 .f32) (t : Fin 4096) (h : Fin 8) :
    Ideal.hostReduceWindowAdd ![4096, 1] ![1, 1] ![4095, 0] ![0, 0] reduceWindows_S4096x8_S4096x8_w4096s1p4095_0_w1s1p0_0 x 0 (ix2 t h)
      = ∑ s : Fin 4096, if s.val ≤ t.val then x (ix2 s h) else 0 := by
  unfold Ideal.hostReduceWindowAdd Host.reduceWindow
  dsimp only
  refine (fold_sum _).trans ?_
  refine Fintype.sum_equiv ((⟨2, ![4096, 1]⟩ : Shape).rowMajor.symm.trans (windowRow t)) _ _ fun n => ?_
  show _ = if ((windowRow t) ((⟨2, ![4096, 1]⟩ : Shape).rowMajor.symm n)).val ≤ t.val then x (ix2 ((windowRow t) ((⟨2, ![4096, 1]⟩ : Shape).rowMajor.symm n)) h) else 0
  have e0 : ∀ i : (⟨2, ![4096, 1]⟩ : Shape).Idx, (i 0).val < 4096 := fun i => (i 0).isLt
  have e1 : ∀ i : (⟨2, ![4096, 1]⟩ : Shape).Idx, (i 1).val = 0 := fun i => Nat.lt_one_iff.mp (i 1).isLt
  have hk := e0 ((⟨2, ![4096, 1]⟩ : Shape).rowMajor.symm n)
  have hz := e1 ((⟨2, ![4096, 1]⟩ : Shape).rowMajor.symm n)
  have ht := t.isLt
  have hh := h.isLt
  have hw : ((windowRow t) ((⟨2, ![4096, 1]⟩ : Shape).rowMajor.symm n)).val = (((⟨2, ![4096, 1]⟩ : Shape).rowMajor.symm n 0).val + t.val + 1) % 4096 := rfl
  split_ifs with g1 g2 g2
  · have l := (g1 0).1
    change 4095 ≤ t.val * 1 + ((⟨2, ![4096, 1]⟩ : Shape).rowMajor.symm n 0).val at l
    congr 1
    funext a
    refine Fin.ext ?_
    fin_cases a
    · show t.val * 1 + ((⟨2, ![4096, 1]⟩ : Shape).rowMajor.symm n 0).val - 4095 = ((windowRow t) ((⟨2, ![4096, 1]⟩ : Shape).rowMajor.symm n)).val
      omega
    · show h.val * 1 + ((⟨2, ![4096, 1]⟩ : Shape).rowMajor.symm n 1).val - 0 = h.val
      omega
  · have l := (g1 0).1
    change 4095 ≤ t.val * 1 + ((⟨2, ![4096, 1]⟩ : Shape).rowMajor.symm n 0).val at l
    omega
  · refine absurd (fun a => ?_) g1
    fin_cases a
    · show 4095 ≤ t.val * 1 + ((⟨2, ![4096, 1]⟩ : Shape).rowMajor.symm n 0).val ∧ t.val * 1 + ((⟨2, ![4096, 1]⟩ : Shape).rowMajor.symm n 0).val - 4095 < 4096
      omega
    · show 0 ≤ h.val * 1 + ((⟨2, ![4096, 1]⟩ : Shape).rowMajor.symm n 1).val ∧ h.val * 1 + ((⟨2, ![4096, 1]⟩ : Shape).rowMajor.symm n 1).val - 0 < 8
      omega
  · rfl

theorem sge_bit (a b : ℕ) (ha : a < 2 ^ 31) (hb : b < 2 ^ 31) :
    IntOp.cmpi .sge (BitVec.ofNat 32 a) (BitVec.ofNat 32 b) = BitVec.ofBool (decide (b ≤ a)) := by
  simp only [IntOp.cmpi]
  congr 1
  rw [BitVec.sle_eq_decide]
  simp only [decide_eq_decide]
  rw [BitVec.toInt_eq_toNat_of_lt (by simp; omega), BitVec.toInt_eq_toNat_of_lt (by simp; omega)]
  simp only [BitVec.toNat_ofNat]
  omega

theorem slt_bit (a b : ℕ) (ha : a < 2 ^ 31) (hb : b < 2 ^ 31) :
    IntOp.cmpi .slt (BitVec.ofNat 32 a) (BitVec.ofNat 32 b) = BitVec.ofBool (decide (a < b)) := by
  simp only [IntOp.cmpi]
  congr 1
  rw [BitVec.slt_eq_decide]
  simp only [decide_eq_decide]
  rw [BitVec.toInt_eq_toNat_of_lt (by simp; omega), BitVec.toInt_eq_toNat_of_lt (by simp; omega)]
  simp only [BitVec.toNat_ofNat]
  omega

/-- The exponential of a difference of logarithms, kept where a row counts. -/
theorem kept_exp (q : Prop) [Decidable q] (b : BitVec 1) (hb : b = BitVec.ofBool (decide q)) (u v : EReal) (x y : ℝ) (hu : u = (x : EReal)) (hv : v = (y : EReal)) :
    Scalar.select b (Ideal.exp (Scalar.select b (u - v) (Ideal.ofBits .f32 0x00000000#32))) (Ideal.ofBits .f32 0x00000000#32)
      = ((if q then Real.exp (x - y) else 0 : ℝ) : EReal) := by
  rw [hb, sel_bit, sel_bit, hu, hv]
  by_cases c : q
  · simp only [if_pos c]
    rw [← EReal.coe_sub, exp_coe]
  · simp [c, Ideal.ofBits, Ideal.ieee]

section
variable (P : FVec Ideal S1x4096x3088 .f32) (X : FVec Ideal S1x4096x1024 .f32) (db al dk : FVec Ideal S8 .f32) (w : FVec Ideal S512 .f32)

/-! ### Reading the reference's values -/

theorem skipped_at (t : Fin 4096) (h : Fin 8) (p : Fin 64) : val_main_v4 (F := Ideal) X (ix3 t h p) = X (ix3 (0 : Fin 1) t (⟨64 * h.val + p.val, by omega⟩ : Fin 1024)) := by
  pointwise [val_main_v4, val_main_v3, val_main_v2]
  exact congrArg (fun q => X (ix3 (0 : Fin 1) t q)) (Fin.ext (by show h.val * 64 + p.val = 64 * h.val + p.val; omega))

theorem write_at (t : Fin 4096) (h : Fin 8) (n : Fin 128) :
    val_main_v8 (F := Ideal) X (ix3 t h n) = X (ix3 (0 : Fin 1) t (⟨512 + 128 * (h.val / 4) + n.val, by omega⟩ : Fin 1024)) := by
  pointwise [val_main_v8, val_main_v7, val_main_v6, val_main_v5, val_main_v2]
  exact congrArg (fun q => X (ix3 (0 : Fin 1) t q)) (Fin.ext (by show 512 + (h.val / 4 * 128 + n.val) = 512 + 128 * (h.val / 4) + n.val; omega))

theorem read_at (t : Fin 4096) (h : Fin 8) (n : Fin 128) :
    val_main_v12 (F := Ideal) X (ix3 t h n) = X (ix3 (0 : Fin 1) t (⟨768 + 128 * (h.val / 4) + n.val, by omega⟩ : Fin 1024)) := by
  pointwise [val_main_v12, val_main_v11, val_main_v10, val_main_v9, val_main_v2]
  exact congrArg (fun q => X (ix3 (0 : Fin 1) t q)) (Fin.ext (by show 768 + (h.val / 4 * 128 + n.val) = 768 + 128 * (h.val / 4) + n.val; omega))

theorem gate_at (t : Fin 4096) (q : Fin 512) : val_main_v49 (F := Ideal) P (ix2 t q)
    = P (ix3 (0 : Fin 1) t (⟨512 + q.val, by omega⟩ : Fin 3088)) * Ideal.logistic (P (ix3 (0 : Fin 1) t (⟨512 + q.val, by omega⟩ : Fin 3088))) := by
  pointwise [val_main_v49, val_main_call5_v5, val_main_call5_v4, val_main_call5_cst_0, val_main_call5_v3, val_main_call5_v2, val_main_call5_cst, val_main_call5_v1, val_main_call5_v0,
    val_main_v1, val_main_v0]
  rfl

variable (K : Known P X db al)
include K

theorem rate_of (t : Fin 4096) (h : Fin 8) : val_main_v18 (F := Ideal) P db (ix2 t h) = ((rate P db t.val h.val : ℝ) : EReal) := by
  rw [rate_at _ _ _ _ t.isLt h.isLt]
  refine Eq.trans ?_ (softplus_of ((congrArg₂ (· + ·) (K.p _) (K.db _)).trans (EReal.coe_add _ _).symm))
  pointwise [val_main_v18, val_main_call0_v11, val_main_call0_v10, val_main_call0_v9, val_main_call0_v8, val_main_call0_v7, val_main_call0_v6, val_main_call0_v5, val_main_call0_v4,
    val_main_call0_v3, val_main_call0_v2, val_main_call0_v1, val_main_call0_v0, val_main_call0_cst, val_main_v17, val_main_v16, val_main_v15, val_main_v14, val_main_v13]
  rw [zero_sub]

theorem step_of (t : Fin 4096) (h : Fin 8) : val_main_v26 (F := Ideal) P db al (ix2 t h) = ((((ssdOf P X db al).head h.val).a t.val : ℝ) : EReal) := by
  show _ = (((ssdOf P X db al).a h.val t.val : ℝ) : EReal)
  rw [a_at _ _ _ _ _ _ h.isLt]
  pointwise [val_main_v26, val_main_v25, val_main_v24, val_main_v23, val_main_v22]
  rw [rate_of P X db al K, K.al, exp_coe, ← EReal.coe_neg, ← EReal.coe_mul]
  rfl

theorem sums_of (t : Fin 4096) (h : Fin 8) : val_main_v27 (F := Ideal) P db al (ix2 t h) = ((((ssdOf P X db al).head h.val).cs (t.val + 1) : ℝ) : EReal) := by
  rw [Scan.cs_sum _ 4096 _ t.isLt, ← coe_sum]
  refine Eq.trans (b := Ideal.hostReduceWindowAdd ![4096, 1] ![1, 1] ![4095, 0] ![0, 0] reduceWindows_S4096x8_S4096x8_w4096s1p4095_0_w1s1p0_0 (val_main_v26 (F := Ideal) P db al) 0 (ix2 t h)) ?_ ?_
  · unfold val_main_v27 Host.reduceWindowAdd
    have e : val_main_call1_call0_v0 (F := Ideal) (Shape.Idx.first h_S_) = 0 := by
      pointwise [val_main_call1_call0_v0, val_main_call1_call0_cst]
    rw [e]
    rfl
  · rw [running_sum]
    refine Finset.sum_congr rfl fun s _ => ?_
    split
    · exact step_of P X db al K s h
    · rfl

theorem below_of (t s : Fin 4096) : val_main_v30 (F := Ideal) (ix2 t s) = BitVec.ofBool (decide (s.val ≤ t.val)) := by
  have ht := t.isLt
  have hs := s.isLt
  pointwise [val_main_v30, val_main_v29, val_main_c, val_main_call2_v5, val_main_call2_c_0, val_main_call2_v4, val_main_call2_v3, val_main_call2_v2, val_main_call2_v1, val_main_call2_v0,
    val_main_call2_c]
  rw [show IntOp.addi (BitVec.ofNat 32 t.val) 0#32 = BitVec.ofNat 32 t.val from BitVec.add_zero _, sge_bit _ _ (by omega) (by omega)]
  by_cases q : s.val ≤ t.val <;> simp [q, Scalar.select]

theorem decay_of (h : Fin 8) (t s : Fin 4096) : val_main_v38 (F := Ideal) P db al (ix3 h t s)
    = ((if s.val ≤ t.val then Real.exp (((ssdOf P X db al).head h.val).cs (t.val + 1) - ((ssdOf P X db al).head h.val).cs (s.val + 1)) else 0 : ℝ) : EReal) := by
  pointwise [val_main_v38, val_main_call4_v2, val_main_call4_v1, val_main_call4_v0, val_main_cst_0, val_main_v37, val_main_v36, val_main_call3_v2, val_main_call3_v1, val_main_call3_v0, val_main_cst,
    val_main_v35, val_main_v34, val_main_v33, val_main_v32, val_main_v31, val_main_v28]
  exact kept_exp _ _ (below_of P X db al K t s) _ _ _ _ (sums_of P X db al K t h) (sums_of P X db al K s h)

theorem written_of (s : Fin 4096) (h : Fin 8) (n : Fin 128) : val_main_v8 (F := Ideal) X (ix3 s h n) = ((((ssdOf P X db al).head h.val).b s.val n.val : ℝ) : EReal) := by
  rw [write_at, K.x, ← entry_at X s.val _ s.isLt _]
  rfl

theorem asked_of (t : Fin 4096) (h : Fin 8) (n : Fin 128) : val_main_v12 (F := Ideal) X (ix3 t h n) = ((((ssdOf P X db al).head h.val).c t.val n.val : ℝ) : EReal) := by
  rw [read_at, K.x, ← entry_at X t.val _ t.isLt _]
  rfl

theorem meet_of (h : Fin 8) (t s : Fin 4096) : val_main_v39 (F := Ideal) X (ix3 h t s) = ((((ssdOf P X db al).head h.val).meet t.val s.val : ℝ) : EReal) := by
  unfold Scan.meet
  rw [← coe_sum]
  pointwise [val_main_v39]
  refine Finset.sum_congr rfl fun n _ => ?_
  rw [asked_of P X db al K, written_of P X db al K, ← EReal.coe_mul]

theorem input_of (s : Fin 4096) (h : Fin 8) (p : Fin 64) : val_main_v21 (F := Ideal) P X db (ix3 s h p) = ((((ssdOf P X db al).head h.val).x s.val p.val : ℝ) : EReal) := by
  show _ = ((entry X s.val (64 * h.val + p.val) * rate P db s.val ((64 * h.val + p.val) / 64) : ℝ) : EReal)
  rw [entry_at _ _ _ s.isLt (by omega), show (64 * h.val + p.val) / 64 = h.val by omega, EReal.coe_mul, ← K.x, ← rate_of P X db al K s h]
  pointwise [val_main_v21, val_main_v20, val_main_v19]
  rw [skipped_at]

theorem result_of (h : Fin 8) (p : Fin 64) (t : Fin 4096) : val_main_v41 (F := Ideal) P X db al (ix3 h p t) = ((((ssdOf P X db al).head h.val).y t.val p.val : ℝ) : EReal) := by
  rw [Scan.y_all _ 4096 _ _ t.isLt, ← coe_sum]
  pointwise [val_main_v41, val_main_v40]
  refine Finset.sum_congr rfl fun s _ => ?_
  rw [input_of P X db al K, meet_of P X db al K, decay_of P X db al K, ← EReal.coe_mul, ← EReal.coe_mul]

/-! ## The result -/

theorem mixed_of (t : Fin 4096) (q : Fin 512) : val_main_v50 (F := Ideal) P X db al dk (ix2 t q) = Cert.SsdfKernelIdeal.Value.mixed P X db al dk t q := by
  unfold Cert.SsdfKernelIdeal.Value.mixed
  pointwise [val_main_v50, val_main_v48, val_main_v47, val_main_v46, val_main_v45, val_main_v44, val_main_v43, val_main_v42]
  rw [skipped_at, gate_at P, result_of P X db al K]
  refine congrArg (fun k => (_ + X (ix3 (0 : Fin 1) t k) * _) * _) (Fin.ext ?_)
  show 64 * (q.val / 64) + q.val % 64 = q.val
  omega

theorem out_of (t : Fin 4096) (q : Fin 512) : val_main_v93 (F := Ideal) P X db al dk w (ix2 t q) = Cert.SsdfKernelIdeal.Value.outAt P X db al dk w t q := by
  unfold Cert.SsdfKernelIdeal.Value.outAt
  pointwise [val_main_v93, val_main_v92, val_main_v91, val_main_v90, val_main_v89, val_main_v61, val_main_v60, val_main_v59, val_main_v58, val_main_v57, val_main_cst_3, val_main_v56, val_main_v55,
    val_main_cst_2, val_main_v54, val_main_v53, val_main_cst_1, val_main_v52, val_main_v51]
  have e : ∀ k : Fin 256, (⟨q.val / 256 * 256 + k.val, by omega⟩ : Fin 512) = Cert.SsdfKernelIdeal.Value.halfMate q k := fun k =>
    Fin.ext (by show q.val / 256 * 256 + k.val = 256 * (q.val / 256) + k.val; omega)
  simp only [e, mixed_of P X db al dk K]

/-! ## The states -/

theorem before_of (c : Fin 16) (s : Fin 4096) : val_main_v70 (F := Ideal) (ix2 c s) = BitVec.ofBool (decide (s.val < 256 * c.val)) := by
  have hc := c.isLt
  have hs := s.isLt
  pointwise [val_main_v70, val_main_v69, val_main_v68, val_main_v67, val_main_v66, val_main_v65, val_main_c_4, val_main_v64, val_main_v63, val_main_v62]
  rw [show IntOp.muli 256#32 (BitVec.ofNat 32 c.val) = BitVec.ofNat 32 (256 * c.val) from (BitVec.ofNat_mul ..).symm, slt_bit _ _ (by omega) (by omega)]

theorem start_of (c : Fin 16) (h : Fin 8) : val_main_v73 (F := Ideal) P db al (ix2 c h) = ((((ssdOf P X db al).head h.val).cs (256 * c.val) : ℝ) : EReal) := by
  have hc := c.isLt
  have r : val_main_v73 (F := Ideal) P db al (ix2 c h) = val_main_v72 (F := Ideal) P db al (ix2 (⟨256 * c.val, by omega⟩ : Fin 4096) h) := by
    pointwise [val_main_v73]
  rw [r]
  pointwise [val_main_v72]
  rw [sums_of P X db al K, step_of P X db al K, ← EReal.coe_sub]
  refine congrArg _ ?_
  unfold Scan.cs
  rw [Finset.sum_range_succ]
  exact add_sub_cancel_right _ _

theorem fade_of (c : Fin 16) (s : Fin 4096) (h : Fin 8) : val_main_v81 (F := Ideal) P db al (ix3 c s h)
    = ((if s.val < 256 * c.val then Real.exp (((ssdOf P X db al).head h.val).cs (256 * c.val) - ((ssdOf P X db al).head h.val).cs (s.val + 1)) else 0 : ℝ) : EReal) := by
  pointwise [val_main_v81, val_main_call7_v2, val_main_call7_v1, val_main_call7_v0, val_main_cst_6, val_main_v80, val_main_v79, val_main_call6_v2, val_main_call6_v1, val_main_call6_v0, val_main_cst_5,
    val_main_v78, val_main_v77, val_main_v76, val_main_v75, val_main_v74, val_main_v71]
  exact kept_exp _ _ (before_of P X db al K c s) _ _ _ _ (start_of P X db al K c h) (sums_of P X db al K s h)

theorem states_of (c : Fin 16) (q : Fin 512) (n : Fin 128) : val_main_v94 (F := Ideal) P X db al (ix3 c q n) = Cert.SsdfKernelIdeal.Value.stateAt P X db al c q n := by
  unfold Cert.SsdfKernelIdeal.Value.stateAt
  rw [Scan.st_all _ 4096 _ _ _ (by omega), ← coe_sum]
  pointwise [val_main_v94, val_main_v88, val_main_v87, val_main_v86, val_main_v85, val_main_v84, val_main_v83, val_main_v82]
  refine Finset.sum_congr rfl fun s _ => ?_
  rw [written_of P X db al K, fade_of P X db al K, input_of P X db al K, ← EReal.coe_mul, ← EReal.coe_mul]

end
end Cert.SsdfReferenceIdeal.Read
end
-- ==== Proof.SsdfValue.lean ====
module

public import proofs.«01_k».proof.Proof.Gen.SsdfKernelIdeal.Value
public import proofs.«01_k».proof.Proof.SsdfSpec
public import Idealize.ShloMosaic.Lib.Pipeline.ValueKit
public import Idealize.ShloMosaic.Lib.Pipeline.ReadBack
public import Idealize.ShloMosaic.Lib.Routing.OpsSet
public import Idealize.ShloMosaic.Lib.Pointwise
public import Idealize.ShloMosaic.Lib.StableHlo.RunRead

@[expose] public section
set_option maxRecDepth 16384
noncomputable section
namespace Cert.SsdfKernelIdeal.Value
open Cert.SsdfKernelIdeal Cert.SsdfKernelIdeal.Gen Idealize.ShloMosaic Idealize.ShloMosaic.TcCoe Idealize.SL.Sem Cert.Proof
open Idealize.ShloMosaic.Pipeline (Dat)
variable (m : (ℓ : Loc nD τ sig) → Buf (Elt Ideal) ℓ)

/-! ## The recurrence forward: what each block reads and returns -/

abbrev a0 (c : Dev nD) : FVec Ideal S1x4096x3088 .f32 := m ((c : Thread nD τ).loc main_arg0)
abbrev a1 (c : Dev nD) : FVec Ideal S1x4096x1024 .f32 := m ((c : Thread nD τ).loc main_arg1)
abbrev a2 (c : Dev nD) : FVec Ideal S8 .f32 := m ((c : Thread nD τ).loc main_arg2)
abbrev a3 (c : Dev nD) : FVec Ideal S8 .f32 := m ((c : Thread nD τ).loc main_arg3)
abbrev a4 (c : Dev nD) : FVec Ideal S8 .f32 := m ((c : Thread nD τ).loc main_arg4)
abbrev a5 (c : Dev nD) : FVec Ideal S512 .f32 := m ((c : Thread nD τ).loc main_arg5)

theorem idx : ∀ t : Fin cfg0.N, win0_0.index t = ![t.val, 5] ∧ win0_1.index t = ![t.val, 0] ∧ win0_2.index t = ![t.val, 24] ∧ win0_3.index t = ![0, 0]
    ∧ win0_4.index t = ![0, 0] ∧ win0_5.index t = ![0, 0] ∧ win0_6.index t = ![0, 0] ∧ win0_7.index t = ![t.val, 0] ∧ win0_8.index t = ![t.val, 0, 0] :=
  (by decide +kernel : ∀ t : Fin grid0.N, _)

theorem lt16 (t : Fin cfg0.N) : t.val < 16 := lt_of_lt_of_eq t.isLt N_0

theorem cols_z (c : Dev nD) (n : Fin 4096) (q : ℕ) (hq : q < 512) :
    (V m c main_v9 : FVec Ideal S4096x3328 .f32) (ix2 n ⟨2560 + q, by omega⟩) = a0 m c (ix3 (0 : Fin 1) n (⟨512 + q, by omega⟩ : Fin 3088)) := by
  unfold_abbrev_sides; after_reads_simp; pointwise
  rw [dif_neg (show ¬2560 + q < 768 by omega), dif_neg (show ¬2560 + q - 768 < 256 by omega), dif_neg (show ¬2560 + q - 768 - 256 < 1024 by omega),
    dif_neg (show ¬2560 + q - 768 - 256 - 1024 < 512 by omega), dif_pos (show 2560 + q - 768 - 256 - 1024 - 512 < 512 by omega)]
  after_reads_simp; pointwise
  exact congrArg (fun q' => a0 m c (ix3 (0 : Fin 1) n q')) (Fin.ext (show 512 + (2560 + q - 768 - 256 - 1024 - 512) = 512 + q by omega))

theorem cols_dt (c : Dev nD) (n : Fin 4096) (q : ℕ) (hq : q < 8) :
    (V m c main_v9 : FVec Ideal S4096x3328 .f32) (ix2 n ⟨3072 + q, by omega⟩) = a0 m c (ix3 (0 : Fin 1) n (⟨2048 + q, by omega⟩ : Fin 3088)) := by
  unfold_abbrev_sides; after_reads_simp; pointwise
  rw [dif_neg (show ¬3072 + q < 768 by omega), dif_neg (show ¬3072 + q - 768 < 256 by omega), dif_neg (show ¬3072 + q - 768 - 256 < 1024 by omega),
    dif_neg (show ¬3072 + q - 768 - 256 - 1024 < 512 by omega), dif_neg (show ¬3072 + q - 768 - 256 - 1024 - 512 < 512 by omega),
    dif_pos (show 3072 + q - 768 - 256 - 1024 - 512 - 512 < 8 by omega)]
  after_reads_simp; pointwise
  exact congrArg (fun q' => a0 m c (ix3 (0 : Fin 1) n q')) (Fin.ext (show 2048 + (3072 + q - 768 - 256 - 1024 - 512 - 512) = 2048 + q by omega))

theorem scat : ∀ k : Fin 8, scatter_S1x128_S2_S8_0_0_01_0.resultIdx? (ix1 k : S8.Idx) (fun _ => 0#32 : IVec S2 32) = some (ix2 (0 : Fin 1) (Fin.castLE (by decide) k : Fin 128)) := by
  decide +kernel

theorem lane_of_eight (x : FVec Ideal S1x128 .f32) (i : IVec S2 32) (hi : ∀ p, i (ix1 p) = 0#32) (u : FVec Ideal S8 .f32) (j : Fin 8) :
    Host.scatter scatter_S1x128_S2_S8_0_0_01_0 (fun _ b => b) x i u (ix2 (0 : Fin 1) (Fin.castLE (by decide) j : Fin 128)) = u (ix1 j) := by
  obtain rfl : i = fun _ => 0#32 := funext fun p => by rw [eq_ix1 p]; exact hi _
  refine Routing.scatter_set_hit _ _ _ _ _ _ (fun k hk => ?_) (ix1 j) (scat j)
  obtain ⟨k, rfl⟩ : ∃ k0 : Fin 8, k = ix1 k0 := ⟨k 0, eq_ix1 k⟩
  rw [scat k] at hk
  have h := congrArg (fun z : S1x128.Idx => (z 1).val) (Option.some.inj hk)
  change k.val = j.val at h
  rw [Fin.ext h]

theorem lanes_2 (c : Dev nD) (j : Fin 8) : (V m c main_v15 : FVec Ideal S1x128 .f32) (ix2 (0 : Fin 1) (Fin.castLE (by decide) j : Fin 128)) = a2 m c (ix1 j) := by
  unfold_abbrev_sides; after_reads_simp
  refine lane_of_eight _ _ (fun p => ?_) _ j
  pointwise
  split <;> (after_reads_simp; pointwise)

theorem lanes_3 (c : Dev nD) (j : Fin 8) : (V m c main_v20 : FVec Ideal S1x128 .f32) (ix2 (0 : Fin 1) (Fin.castLE (by decide) j : Fin 128)) = a3 m c (ix1 j) := by
  unfold_abbrev_sides; after_reads_simp
  refine lane_of_eight _ _ (fun p => ?_) _ j
  pointwise
  split <;> (after_reads_simp; pointwise)

theorem lanes_4 (c : Dev nD) (j : Fin 8) : (V m c main_v25 : FVec Ideal S1x128 .f32) (ix2 (0 : Fin 1) (Fin.castLE (by decide) j : Fin 128)) = a4 m c (ix1 j) := by
  unfold_abbrev_sides; after_reads_simp
  refine lane_of_eight _ _ (fun p => ?_) _ j
  pointwise
  split <;> (after_reads_simp; pointwise)

section
variable (c : Dev nD) (t : Fin cfg0.N)

abbrev stAt (n : ℕ) (h : n < cfg0.N) : FVec Ideal S512x128 .f32 := (outsAt0 m c n h).2.2

abbrev zB : FVec Ideal S256x512 .f32 := k0_pay5 (X0_0 m c t)
abbrev xbcB : FVec Ideal S256x1024 .f32 := k0_pay6 (iblk m c 1 t)
abbrev dtB : FVec Ideal S256x128 .f32 :=
  k0_pay15 (k0_pay12 (iblk m c 2 t) (iblk m c 3 t)) (Scalar.ofBits .f32 0x00000000#32) (k0_pay13 (iblk m c 2 t) (iblk m c 3 t)) k0_pay14
abbrev acB : FVec Ideal S256x128 .f32 :=
  k0_pay16 (k0_pay7 (iblk m c 4 t)) k0_pay10 (k0_pay12 (iblk m c 2 t) (iblk m c 3 t)) (Scalar.ofBits .f32 0x00000000#32) (k0_pay13 (iblk m c 2 t) (iblk m c 3 t)) k0_pay14
abbrev dB : FVec Ideal S1x128 .f32 := k0_pay8 (iblk m c 5 t)
abbrev wB : FVec Ideal S1x512 .f32 := k0_pay9 (iblk m c 6 t)

abbrev resOf (ST : FVec Ideal S512x128 .f32) : FVec Ideal S256x512 .bf16 :=
  outBlock (dtB m c t) (acB m c t) (k0_pay17 (xbcB m c t)) (k0_pay20 (xbcB m c t)) (k0_pay21 (xbcB m c t)) (k0_pay22 (xbcB m c t)) (k0_pay23 (xbcB m c t)) ST
    (dB m c t) (zB m c t) (wB m c t)
abbrev nextOf (ST : FVec Ideal S512x128 .f32) : FVec Ideal S512x128 .f32 :=
  stBlock (dtB m c t) (acB m c t) (k0_pay17 (xbcB m c t)) (k0_pay20 (xbcB m c t)) (k0_pay21 (xbcB m c t)) ST

theorem res_A (h0 : t.val % 16 = 0) : (outsAt0 m c t.val t.isLt).1 = resOf m c t k0_pay3 := by
  rw [outsAt0_A m c t h0]; frame_out; rfl
theorem saved_A (h0 : t.val % 16 = 0) : (outsAt0 m c t.val t.isLt).2.1 = k0_pay4 (F := Ideal) (k0_pay3 (F := Ideal)) := by
  rw [outsAt0_A m c t h0]; frame_out
theorem next_A (h0 : t.val % 16 = 0) : stAt m c t.val t.isLt = nextOf m c t k0_pay3 := by
  unfold stAt; rw [outsAt0_A m c t h0]; frame_out; rfl
theorem res_B (h0 : ¬t.val % 16 = 0) : (outsAt0 m c t.val t.isLt).1 = resOf m c t (stAt m c (t.val - 1) (by omega)) := by
  rw [outsAt0_B m c t h0]; frame_out; simp only [read_unread_whole]; rfl
theorem saved_B (h0 : ¬t.val % 16 = 0) : (outsAt0 m c t.val t.isLt).2.1 = k0_pay4 (F := Ideal) (stAt m c (t.val - 1) (by omega)) := by
  rw [outsAt0_B m c t h0]; frame_out; simp only [read_unread_whole]
theorem next_B (h0 : ¬t.val % 16 = 0) : stAt m c t.val t.isLt = nextOf m c t (stAt m c (t.val - 1) (by omega)) := by
  unfold stAt; rw [outsAt0_B m c t h0]; frame_out; simp only [read_unread_whole]; rfl

/-! ### The blocks' entries -/

theorem zB_at (r : Fin 256) (q : Fin 512) :
    zB m c t (ix2 r q) = a0 m c (ix3 (0 : Fin 1) (⟨256 * t.val + r.val, by have := lt16 t; omega⟩ : Fin 4096) (⟨512 + q.val, by omega⟩ : Fin 3088)) := by
  have h16 := lt16 t
  pointwise [k0_pay5]
  have e : ∀ k : ((cfg0.win 0).xblock (cfg0.grid.coords t)).Idx, (k (0 : Fin 2)).val = r.val → (k (1 : Fin 2)).val = q.val
      → ((cfg0.win 0).blk t).view.emb k = (ix2 (⟨256 * t.val + r.val, by omega⟩ : Fin 4096) (⟨2560 + q.val, by omega⟩ : Fin 3328) : S4096x3328.Idx) := by
    intro k k0 k1
    blk_ext [idx t]
  refine Eq.trans ?_ (cols_z m c _ q.val q.isLt)
  unfold X0_0 Pipeline.Window.fill
  rw [dif_pos (moved0_0 t _)]
  refine Eq.trans ?_ (congrArg (V m c main_v9 : FVec Ideal S4096x3328 .f32) (e (fun a => ⟨((ix2 r q : S256x512.Idx) a).val, ((cfg0.win 0).moved_iff _ _).mp (moved0_0 t (ix2 r q)) a⟩) rfl rfl))
  rfl

theorem xbcB_at (r : Fin 256) (q : Fin 1024) :
    xbcB m c t (ix2 r q) = a1 m c (ix3 (0 : Fin 1) (⟨256 * t.val + r.val, by have := lt16 t; omega⟩ : Fin 4096) q) := by
  have h16 := lt16 t
  pointwise [k0_pay6]
  have e : ((cfg0.win 1).blk t).view.emb (ix2 r q) = (ix2 (⟨256 * t.val + r.val, by omega⟩ : Fin 4096) q : S4096x1024.Idx) := by
    blk_ext [idx t]
  have l : (V m c main_v10 : FVec Ideal S4096x1024 .f32) (ix2 (⟨256 * t.val + r.val, by omega⟩ : Fin 4096) q) = a1 m c (ix3 (0 : Fin 1) (⟨256 * t.val + r.val, by omega⟩ : Fin 4096) q) := by
    unfold_abbrev_sides; after_reads_simp; pointwise
  refine Eq.trans ?_ l
  blk_simp [iblk]; rw [e]

theorem dtIn_at (r : Fin 256) (h : Fin 8) : (iblk m c 2 t : FVec Ideal S256x128 .f32) (ix2 r (Fin.castLE (by decide) h : Fin 128))
    = a0 m c (ix3 (0 : Fin 1) (⟨256 * t.val + r.val, by have := lt16 t; omega⟩ : Fin 4096) (⟨2048 + h.val, by omega⟩ : Fin 3088)) := by
  have h16 := lt16 t
  have e : ((cfg0.win 2).blk t).view.emb (ix2 r (Fin.castLE (by decide) h : Fin 128)) = (ix2 (⟨256 * t.val + r.val, by omega⟩ : Fin 4096) (⟨3072 + h.val, by omega⟩ : Fin 3328) : S4096x3328.Idx) := by
    blk_ext [idx t]
    rfl
  refine Eq.trans ?_ (cols_dt m c _ h.val h.isLt)
  blk_simp [iblk]; rw [e]

theorem biasIn_at (h : Fin 8) : (iblk m c 3 t : FVec Ideal S1x128 .f32) (ix2 (0 : Fin 1) (Fin.castLE (by decide) h : Fin 128)) = a2 m c (ix1 h) := by
  have e : ((cfg0.win 3).blk t).view.emb (ix2 (0 : Fin 1) (Fin.castLE (by decide) h : Fin 128)) = (ix2 (0 : Fin 1) (Fin.castLE (by decide) h : Fin 128) : S1x128.Idx) := by
    blk_ext [idx t]
  refine Eq.trans ?_ (lanes_2 m c h)
  blk_simp [iblk]; rw [e]

theorem alogIn_at (h : Fin 8) : k0_pay7 (F := Ideal) (iblk m c 4 t) (ix2 (0 : Fin 1) (Fin.castLE (by decide) h : Fin 128)) = a3 m c (ix1 h) := by
  pointwise [k0_pay7]
  have e : ((cfg0.win 4).blk t).view.emb (ix2 (0 : Fin 1) (Fin.castLE (by decide) h : Fin 128)) = (ix2 (0 : Fin 1) (Fin.castLE (by decide) h : Fin 128) : S1x128.Idx) := by
    blk_ext [idx t]
  refine Eq.trans ?_ (lanes_3 m c h)
  blk_simp [iblk]; rw [e]

theorem dB_at (h : Fin 8) : dB m c t (ix2 (0 : Fin 1) (Fin.castLE (by decide) h : Fin 128)) = a4 m c (ix1 h) := by
  pointwise [k0_pay8]
  have e : ((cfg0.win 5).blk t).view.emb (ix2 (0 : Fin 1) (Fin.castLE (by decide) h : Fin 128)) = (ix2 (0 : Fin 1) (Fin.castLE (by decide) h : Fin 128) : S1x128.Idx) := by
    blk_ext [idx t]
  refine Eq.trans ?_ (lanes_4 m c h)
  blk_simp [iblk]; rw [e]

theorem wB_at (q : Fin 512) : wB m c t (ix2 (0 : Fin 1) q) = a5 m c (ix1 q) := by
  pointwise [k0_pay9]
  have e : ((cfg0.win 6).blk t).view.emb (ix2 (0 : Fin 1) q) = (ix2 (0 : Fin 1) q : S1x512.Idx) := by
    blk_ext [idx t]
  have l : (V m c main_v26 : FVec Ideal S1x512 .f32) (ix2 (0 : Fin 1) q) = a5 m c (ix1 q) := by
    unfold_abbrev_sides; after_reads_simp; pointwise
  refine Eq.trans ?_ l
  blk_simp [iblk]; rw [e]

variable (K : Known (a0 m c) (a1 m c) (a2 m c) (a3 m c))
include K

abbrev S : Ssd := ssdOf (a0 m c) (a1 m c) (a2 m c) (a3 m c)

theorem dtB_at (r : Fin 256) (h : Fin 8) :
    dtB m c t (ix2 r (Fin.castLE (by decide) h : Fin 128)) = ((rate (a0 m c) (a2 m c) (256 * t.val + r.val) h.val : ℝ) : EReal) := by
  have h16 := lt16 t
  rw [rate_at _ _ _ _ (by omega) h.isLt]
  refine Eq.trans ?_ (softplus_of ((congrArg₂ (· + ·) (K.p _) (K.db _)).trans (EReal.coe_add _ _).symm))
  pointwise [dtB, k0_pay15, k0_pay14, k0_pay13, k0_pay12]
  rw [dtIn_at, biasIn_at]

theorem acB_at (r : Fin 256) (h : Fin 8) :
    acB m c t (ix2 r (Fin.castLE (by decide) h : Fin 128)) = ((((S m c).head h.val).loc (256 * t.val) r.val : ℝ) : EReal) := by
  rw [Scan.loc_sum _ _ 256 _ r.isLt]
  pointwise [acB, k0_pay16]
  rw [← coe_sum]
  refine Finset.sum_congr rfl fun x _ => ?_
  rw [tri_at, show FloatOps.sitofp (F := Ideal) FTy.f32 (BitVec.setWidth 32 (BitVec.ofBool (decide (x.val ≤ r.val)))) = if x.val ≤ r.val then (1 : EReal) else 0 from
    (bit_one _).trans (by simp)]
  by_cases q : x.val ≤ r.val
  · rw [if_pos q, if_pos q, one_mul]
    refine Eq.trans (b := ((rate (a0 m c) (a2 m c) (256 * t.val + x.val) h.val : ℝ) : EReal) * (0 - Ideal.exp (((a3 m c (ix1 h)).toReal : ℝ) : EReal))) ?_ ?_
    · rw [← K.al, ← alogIn_at m c t h, ← dtB_at m c t K x h]
      unfold dtB
      pointwise
    · show _ = (((S m c).a h.val (256 * t.val + x.val) : ℝ) : EReal)
      rw [a_at _ _ _ _ _ _ h.isLt, exp_coe, zero_sub, ← EReal.coe_neg, ← EReal.coe_mul]
  · rw [if_neg q, if_neg q, zero_mul]
    rfl

theorem fits (ST : FVec Ideal S512x128 .f32) (hst : ∀ (q : Fin 512) n, ST (ix2 q n) = ((((S m c).head (q.val / 64)).st (256 * t.val) (q.val % 64) n.val : ℝ) : EReal)) :
    Fits (S m c) (256 * t.val) (dtB m c t) (acB m c t) (k0_pay17 (xbcB m c t)) (k0_pay20 (xbcB m c t)) (k0_pay21 (xbcB m c t)) (k0_pay22 (xbcB m c t)) (k0_pay23 (xbcB m c t)) ST where
  x r q l hl := by
    have h16 := lt16 t
    rw [show l = (Fin.castLE (by decide) (⟨q.val / 64, by omega⟩ : Fin 8) : Fin 128) from Fin.ext hl, dtB_at m c t K]
    show _ = ((entry (a1 m c) (256 * t.val + r.val) q.val * rate (a0 m c) (a2 m c) (256 * t.val + r.val) (q.val / 64) : ℝ) : EReal)
    rw [entry_at _ _ _ (by omega) (by omega), EReal.coe_mul, ← K.x]
    congr 1
    pointwise [k0_pay17]
    exact xbcB_at m c t r _
  a r l hl := by
    exact acB_at m c t K r (⟨l.val, hl⟩ : Fin 8)
  st := hst
  b0 r n := by
    have h16 := lt16 t
    show _ = ((entry (a1 m c) (256 * t.val + r.val) (512 + 128 * 0 + n.val) : ℝ) : EReal)
    rw [entry_at _ _ _ (by omega) (by omega), ← K.x]
    pointwise [k0_pay20, k0_pay18]
    exact xbcB_at m c t r _
  b1 r n := by
    have h16 := lt16 t
    show _ = ((entry (a1 m c) (256 * t.val + r.val) (512 + 128 * 1 + n.val) : ℝ) : EReal)
    rw [entry_at _ _ _ (by omega) (by omega), ← K.x]
    pointwise [k0_pay21, k0_pay18]
    refine (xbcB_at m c t r _).trans ?_
    exact congrArg (fun q => a1 m c (ix3 (0 : Fin 1) _ q)) (Fin.ext (by show 512 + (128 + n.val) = 512 + 128 * 1 + n.val; omega))
  c0 r n := by
    have h16 := lt16 t
    show _ = ((entry (a1 m c) (256 * t.val + r.val) (768 + 128 * 0 + n.val) : ℝ) : EReal)
    rw [entry_at _ _ _ (by omega) (by omega), ← K.x]
    pointwise [k0_pay22, k0_pay19]
    exact xbcB_at m c t r _
  c1 r n := by
    have h16 := lt16 t
    show _ = ((entry (a1 m c) (256 * t.val + r.val) (768 + 128 * 1 + n.val) : ℝ) : EReal)
    rw [entry_at _ _ _ (by omega) (by omega), ← K.x]
    pointwise [k0_pay23, k0_pay19]
    refine (xbcB_at m c t r _).trans ?_
    exact congrArg (fun q => a1 m c (ix3 (0 : Fin 1) _ q)) (Fin.ext (by show 768 + (128 + n.val) = 768 + 128 * 1 + n.val; omega))

end

section
variable (c : Dev nD) (K : Known (a0 m c) (a1 m c) (a2 m c) (a3 m c))
include K

theorem start_at (q : Fin 512) (n : Fin 128) : k0_pay3 (F := Ideal) (ix2 q n) = ((((S m c).head (q.val / 64)).st (256 * 0) (q.val % 64) n.val : ℝ) : EReal) := by
  pointwise [k0_pay3]
  simp [Scan.st]

/-- The state a block leaves is the recurrence's after its last row. -/
theorem state_at : ∀ (k : ℕ) (h : k < cfg0.N) (q : Fin 512) (n : Fin 128),
    stAt m c k h (ix2 q n) = ((((S m c).head (q.val / 64)).st (256 * (k + 1)) (q.val % 64) n.val : ℝ) : EReal) := by
  intro k
  induction k with
  | zero =>
    intro h q n
    rw [next_A m c ⟨0, h⟩ rfl]
    exact stBlock_at (fits m c ⟨0, h⟩ K k0_pay3 (start_at m c K)) q n
  | succ k ih =>
    intro h q n
    have h16 : k + 1 < 16 := lt_of_lt_of_eq h N_0
    rw [next_B m c ⟨k + 1, h⟩ (show ¬(k + 1) % 16 = 0 by omega)]
    exact stBlock_at (fits m c ⟨k + 1, h⟩ K _ (ih (by omega))) q n

variable (t : Fin cfg0.N)

/-- The state before a block. -/
theorem enter : ∃ ST : FVec Ideal S512x128 .f32, (∀ (q : Fin 512) n, ST (ix2 q n) = ((((S m c).head (q.val / 64)).st (256 * t.val) (q.val % 64) n.val : ℝ) : EReal))
    ∧ (outsAt0 m c t.val t.isLt).1 = resOf m c t ST ∧ (outsAt0 m c t.val t.isLt).2.1 = k0_pay4 (F := Ideal) ST := by
  by_cases h0 : t.val % 16 = 0
  · have h16 := lt16 t
    have e : t.val = 0 := by omega
    exact ⟨k0_pay3, by rw [e]; exact start_at m c K, res_A m c t h0, saved_A m c t h0⟩
  · refine ⟨stAt m c (t.val - 1) (by omega), fun q n => ?_, res_B m c t h0, saved_B m c t h0⟩
    rw [state_at m c K, show t.val - 1 + 1 = t.val by omega]

theorem res_at (r : Fin 256) (q : Fin 512) : (outsAt0 m c t.val t.isLt).1 (ix2 r q)
    = outAt (a0 m c) (a1 m c) (a2 m c) (a3 m c) (a4 m c) (a5 m c) (⟨256 * t.val + r.val, by have := lt16 t; omega⟩ : Fin 4096) q := by
  have h16 := lt16 t
  obtain ⟨ST, hst, e, -⟩ := enter m c K t
  rw [e]
  refine (norm_at _ _ _ _ _ _ _ _ _ _ _ r q (mixed (a0 m c) (a1 m c) (a2 m c) (a3 m c) (a4 m c) (⟨256 * t.val + r.val, by omega⟩ : Fin 4096)) fun q => ?_).trans ?_
  · rw [joined_at (fits m c t K ST hst) _ r q (Fin.castLE (by decide) (⟨q.val / 64, by omega⟩ : Fin 8) : Fin 128) rfl, dB_at, zB_at]
    unfold mixed
    congr 3
    pointwise [k0_pay17]
    exact xbcB_at m c t r _
  · rw [wB_at]
    rfl

theorem saved_at (q : Fin 512) (n : Fin 128) : (outsAt0 m c t.val t.isLt).2.1 (ix3 (0 : Fin 1) q n)
    = stateAt (a0 m c) (a1 m c) (a2 m c) (a3 m c) (⟨t.val, lt16 t⟩ : Fin 16) q n := by
  obtain ⟨ST, hst, -, e⟩ := enter m c K t
  rw [e]
  pointwise [k0_pay4]
  exact hst q n

theorem final_7 : (dats m 0 c).arrAt 7 (cfgs 0).N = outOf (a0 m c) (a1 m c) (a2 m c) (a3 m c) (a4 m c) (a5 m c) := by
  refine (dats m 0 c).arrAt_eq_of_covers 7 _ (by decide +kernel) fun t hf y => ?_
  blk_simp; rw [after0_7]
  have h16 := lt16 t
  obtain ⟨r, l, rfl⟩ : ∃ (y0 : Fin 256) (y1 : Fin 512), y = ix2 y0 y1 := ⟨y 0, y 1, eq_ix2 y⟩
  have e : ((cfg0.win 7).blk t).view.emb (ix2 r l) = (ix2 (⟨256 * t.val + r.val, by omega⟩ : Fin 4096) l : S4096x512.Idx) := by
    blk_ext [idx t]
  refine Eq.trans ?_ (congrArg (outOf (a0 m c) (a1 m c) (a2 m c) (a3 m c) (a4 m c) (a5 m c)) e.symm)
  exact res_at m c K t r l

theorem final_8 : (dats m 0 c).arrAt 8 (cfgs 0).N = statesOf (a0 m c) (a1 m c) (a2 m c) (a3 m c) := by
  refine (dats m 0 c).arrAt_eq_of_covers 8 _ (by decide +kernel) fun t hf y => ?_
  blk_simp; rw [after0_8]
  have h16 := lt16 t
  obtain ⟨i, q, n, rfl⟩ : ∃ (y0 : Fin 1) (y1 : Fin 512) (y2 : Fin 128), y = ix3 y0 y1 y2 := ⟨y 0, y 1, y 2, eq_ix3 y⟩
  obtain rfl : i = 0 := Subsingleton.elim _ _
  have e : ((cfg0.win 8).blk t).view.emb (ix3 (0 : Fin 1) q n) = (ix3 (⟨t.val, h16⟩ : Fin 16) q n : S16x512x128.Idx) := by
    blk_ext [idx t]
  refine Eq.trans ?_ (congrArg (statesOf (a0 m c) (a1 m c) (a2 m c) (a3 m c)) e.symm)
  exact saved_at m c K t q n

end
end Cert.SsdfKernelIdeal.Value
end
-- ==== Proof.SsdfPair.lean ====
module

public import proofs.«01_k».proof.Defs
public import proofs.«01_k».proof.Proof.Gen.Pre_ssd_finite
public import proofs.«01_k».proof.Proof.SsdfRef
public import proofs.«01_k».proof.Proof.SsdfValue
public import proofs.«01_k».proof.Proof.SwaPair
public import Idealize.ShloMosaic.Lib.Quiescent
public import Idealize.ShloMosaic.Lib.ReduceAll

@[expose] public section
set_option maxRecDepth 16384
noncomputable section

namespace Cert.Proof
open Idealize.ShloMosaic Idealize.SL.Sem Idealize.ShloMosaic.Pipeline
open Cert.SsdfKernelIdeal.Value (Known)

/-- The stated precondition makes every number the recurrence is formed from finite. -/
theorem ssd_real (P : FVec Ideal Cert.Pre_ssd_finite.S1x4096x3088 .f32) (X : FVec Ideal Cert.Pre_ssd_finite.S1x4096x1024 .f32) (db al dk : FVec Ideal Cert.Pre_ssd_finite.S8 .f32)
    (w : FVec Ideal Cert.Pre_ssd_finite.S512 .f32) (h : Cert.Pre_ssd_finite.fn (F := Ideal) P X db al dk w = fun _ => 1#1) : Known P X db al := by
  have h := congrFun h ix0
  unfold Cert.Pre_ssd_finite.fn Cert.Pre_ssd_finite.fn_part1 at h
  have h3 := and_right h
  have h := and_left h
  have h2 := and_right h
  have h := and_left h
  have h1 := and_right h
  have h0 := and_left h
  refine ⟨fun x => real_self ?_, fun x => real_self ?_, fun x => real_self ?_, fun x => real_self ?_⟩
  · have k := Host.reduce_andi_all _ _ _ _ _ h0 x
    idx_vars x
    pointwise at k
    exact real_of_bounds k
  · have k := Host.reduce_andi_all _ _ _ _ _ h1 x
    idx_vars x
    pointwise at k
    exact real_of_bounds k
  · have k := Host.reduce_andi_all _ _ _ _ _ h2 x
    idx_vars x
    pointwise at k
    exact real_of_bounds k
  · have k := Host.reduce_andi_all _ _ _ _ _ h3 x
    idx_vars x
    pointwise at k
    exact real_of_bounds k

theorem ssdf_ref_frame : quiescent_SsdfReferenceIdeal := fun m g _ =>
  (θ_run _ _ _).mono (fun r h => ⟨fun c => (h c).2.2, sem_eq_zero_of_no_sems rfl r.2⟩) (Cert.SsdfReferenceIdeal.Value.run m g)

theorem ssdf_pair : algebraic_SsdfKernelIdeal_SsdfReferenceIdeal_pre_ssd_finite := by
  pair_intro
  · run_from Cert.SsdfKernelIdeal.Value.run_blocks m g
  · run_from Cert.SsdfReferenceIdeal.Value.run m' g'
    · obtain ⟨h0, h1, h2, h3, h4, h5⟩ := hagree c
      rw [Cert.SsdfReferenceIdeal.Read.val_main_v93_eq, Cert.SsdfKernelIdeal.Value.final_7 m c (ssd_real _ _ _ _ _ _ (hpre c))]
      refine (congr (congr (congr (congr (congr (congrArg _ h0) h1) h2) h3) h4) h5).trans ?_
      funext j
      idx_vars j
      exact Cert.SsdfReferenceIdeal.Read.out_of _ _ _ _ _ _ (ssd_real _ _ _ _ _ _ (hpre c)) _ _
    · obtain ⟨h0, h1, h2, h3, h4, h5⟩ := hagree c
      rw [Cert.SsdfReferenceIdeal.Read.val_main_v94_eq, Cert.SsdfKernelIdeal.Value.final_8 m c (ssd_real _ _ _ _ _ _ (hpre c))]
      refine (congr (congr (congr (congrArg _ h0) h1) h2) h3).trans ?_
      funext j
      idx_vars j
      exact Cert.SsdfReferenceIdeal.Read.states_of _ _ _ _ (ssd_real _ _ _ _ _ _ (hpre c)) _ _ _

end Cert.Proof
end
-- ==== Proof.NnPair.lean ====
module

public import proofs.«01_k».proof.Proof.Gen.NnKernelIdeal.Value
public import proofs.«01_k».proof.Proof.Gen.NnReferenceIdeal.Read
public import proofs.«01_k».proof.Defs
public import proofs.«01_k».proof.Proof.UpPair
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Quiescent

@[expose] public section
set_option maxRecDepth 16384
noncomputable section
namespace Cert.NnKernelIdeal.Value
open Cert.NnKernelIdeal Cert.NnKernelIdeal.Gen Idealize.ShloMosaic Idealize.ShloMosaic.TcCoe Idealize.SL.Sem
open Idealize.ShloMosaic.Pipeline (Dat)
variable (m : (ℓ : Loc nD τ sig) → Buf (Elt Ideal) ℓ)

open Cert.FfKernelIdeal.Value (packed packed_0 packed_1)
open Cert.UpKernelIdeal.Value (wcol)

/-! ## The gradient of the feed-forward input: the packed gradients by the packed weights -/

abbrev a0 (c : Dev nD) : FVec Ideal S4096x5632 .f32 := m ((c : Thread nD τ).loc main_arg0)
abbrev a1 (c : Dev nD) : FVec Ideal S1024x2816 .f32 := m ((c : Thread nD τ).loc main_arg1)
abbrev a2 (c : Dev nD) : FVec Ideal S1024x2816 .f32 := m ((c : Thread nD τ).loc main_arg2)

/-- A sum over `n` terms is the sum over the first `a` and the sum over the other `b`. -/
theorem sum_split {n : ℕ} (a b : ℕ) (e : a + b = n) (f : Fin n → EReal) :
    ∑ k : Fin n, f k = ∑ k : Fin a, f ⟨k.val, by omega⟩ + ∑ k : Fin b, f ⟨a + k.val, by omega⟩ := by
  subst e
  exact Fin.sum_univ_add f

theorem block (x : FVec Ideal S512x5632 .bf16) (w : FVec Ideal S5632x1024 .bf16) (r : Fin 512) (l : Fin 1024) :
    k0_pay1 (F := Ideal) x w (ix2 r l) = ∑ k : Fin 5632, x (ix2 r k) * w (ix2 k l) := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem lt8 (t : Fin cfg0.N) : t.val < 8 := lt_of_lt_of_eq t.isLt N_0

theorem d_at (c : Dev nD) (t : Fin cfg0.N) (r : Fin 512) (k : Fin 5632) :
    iblk m c 0 t (ix2 r k) = a0 m c (ix2 (⟨t.val * 512 + r.val, by have h := lt8 t; omega⟩ : Fin 4096) k) := by
  have h := lt8 t
  blk_simp [iblk]; entry_read; pointwise; blk_ext [idx t]

set_option maxHeartbeats 1600000 in
theorem rows_at (c : Dev nD) (q : Fin 5632) (k : Fin 1024) :
    (V m c main_v8 : FVec Ideal S5632x1024 .bf16) (ix2 q k) = wcol (a1 m c) (a2 m c) k q := by
  unfold_abbrev_sides; after_reads_simp; pointwise
  unfold packed
  iterate 3
    refine dite_congr rfl (fun h => ?_) (fun h => ?_)
    · after_reads_simp; pointwise
  after_reads_simp; pointwise

theorem w_at (c : Dev nD) (t : Fin cfg0.N) (q : Fin 5632) (k : Fin 1024) : iblk m c 1 t (ix2 q k) = wcol (a1 m c) (a2 m c) k q := by
  have e : ((cfg0.win 1).blk t).view.emb (ix2 q k) = (ix2 q k : S5632x1024.Idx) := by blk_ext [idx t]
  refine Eq.trans ?_ (rows_at m c _ _)
  blk_simp [iblk]; rw [e]

def inF (D : FVec Ideal S4096x5632 .f32) (A B : FVec Ideal S1024x2816 .f32) : FVec Ideal S4096x1024 .f32 :=
  fun j => ∑ q : Fin 5632, D (ix2 (j 0) q) * wcol A B (j 1) q

theorem final_2 (c : Dev nD) : (dats m 0 c).arrAt 2 (cfgs 0).N = inF (a0 m c) (a1 m c) (a2 m c) := by
  refine (dats m 0 c).arrAt_eq_of_covers 2 _ (by decide +kernel) fun t hf y => ?_
  blk_simp; rw [after0_2]; frame_out
  have h8 := lt8 t
  obtain ⟨r, l, rfl⟩ : ∃ (y0 : Fin 512) (y1 : Fin 1024), y = ix2 y0 y1 := ⟨y 0, y 1, eq_ix2 y⟩
  have e : ((cfg0.win 2).blk t).view.emb (ix2 r l) = (ix2 (⟨t.val * 512 + r.val, by omega⟩ : Fin 4096) l : S4096x1024.Idx) := by blk_ext [idx t]
  refine Eq.trans ?_ (congrArg (inF (a0 m c) (a1 m c) (a2 m c)) e.symm)
  exact (block _ _ r l).trans (Finset.sum_congr rfl fun k _ => congr (congrArg _ (d_at m c t r k)) (w_at m c t k l))

/-- A sum against packed columns is four sums: the two halves of the one matrix and the two halves of the other. -/
theorem packed_sum (d : Fin 5632 → EReal) (F G : Fin 2816 → EReal) :
    ∑ q : Fin 5632, d q * packed (fun _ => F) (fun _ => G) 0 q
      = (∑ k : Fin 1408, d ⟨k.val, by omega⟩ * F ⟨k.val, by omega⟩ + ∑ k : Fin 1408, d ⟨2816 + k.val, by omega⟩ * F ⟨1408 + k.val, by omega⟩)
        + (∑ k : Fin 1408, d ⟨1408 + k.val, by omega⟩ * G ⟨k.val, by omega⟩ + ∑ k : Fin 1408, d ⟨4224 + k.val, by omega⟩ * G ⟨1408 + k.val, by omega⟩) := by
  rw [sum_split 2816 2816 rfl, sum_split 1408 1408 rfl, sum_split 1408 1408 rfl]
  have e0 (k : Fin 1408) (h : k.val < 5632) : packed (fun _ => F) (fun _ => G) 0 ⟨k.val, h⟩ = F ⟨k.val, by omega⟩ :=
    (congrArg (packed (fun _ => F) (fun _ => G) 0) (Fin.ext (by simp))).trans ((packed_0 (fun _ => F) (fun _ => G) 0 0 (by omega) k.val k.isLt).trans (congrArg F (Fin.ext (by simp))))
  have e1 (k : Fin 1408) (h : 1408 + k.val < 5632) : packed (fun _ => F) (fun _ => G) 0 ⟨1408 + k.val, h⟩ = G ⟨k.val, by omega⟩ :=
    (congrArg (packed (fun _ => F) (fun _ => G) 0) (Fin.ext (by simp))).trans ((packed_1 (fun _ => F) (fun _ => G) 0 0 (by omega) k.val k.isLt).trans (congrArg G (Fin.ext (by simp))))
  have e2 (k : Fin 1408) (h : 2816 + k.val < 5632) : packed (fun _ => F) (fun _ => G) 0 ⟨2816 + k.val, h⟩ = F ⟨1408 + k.val, by omega⟩ :=
    (congrArg (packed (fun _ => F) (fun _ => G) 0) (Fin.ext (by simp))).trans ((packed_0 (fun _ => F) (fun _ => G) 0 1 (by omega) k.val k.isLt).trans (congrArg F (Fin.ext (by simp))))
  have e3 (k : Fin 1408) (h : 2816 + (1408 + k.val) < 5632) : packed (fun _ => F) (fun _ => G) 0 ⟨2816 + (1408 + k.val), h⟩ = G ⟨1408 + k.val, by omega⟩ :=
    (congrArg (packed (fun _ => F) (fun _ => G) 0) (Fin.ext (by simp))).trans ((packed_1 (fun _ => F) (fun _ => G) 0 1 (by omega) k.val k.isLt).trans (congrArg G (Fin.ext (by simp))))
  have e4 (k : Fin 1408) (h : 2816 + (1408 + k.val) < 5632) : d ⟨2816 + (1408 + k.val), h⟩ = d ⟨4224 + k.val, by omega⟩ := congrArg d (Fin.ext (show 2816 + (1408 + k.val) = 4224 + k.val by omega))
  simp only [e0, e1, e2, e3, e4]
  exact add_add_add_comm _ _ _ _

end Cert.NnKernelIdeal.Value

namespace Cert.NnReferenceIdeal.Read
open Cert.NnReferenceIdeal Cert.NnReferenceIdeal.Gen Idealize.ShloMosaic Idealize.ShloMosaic.TcCoe Idealize.SL.Sem Idealize.ShloMosaic.StableHlo Idealize.ShloMosaic.Pipeline

open Cert.FfKernelIdeal.Value (packed)
open Cert.NnKernelIdeal.Value (inF sum_split packed_sum)

variable (D : FVec Ideal S4096x5632 .f32) (A B : FVec Ideal S1024x2816 .f32)

theorem gate_0 (n : Fin 4096) (k : Fin 1408) : val_main_v4 (F := Ideal) D (ix2 n ⟨k.val, by omega⟩) = D (ix2 n ⟨k.val, by omega⟩) := by
  pointwise [val_main_v4, val_main_v0]
theorem gate_1 (n : Fin 4096) (k : Fin 1408) : val_main_v4 (F := Ideal) D (ix2 n ⟨1408 + k.val, by omega⟩) = D (ix2 n ⟨2816 + k.val, by omega⟩) := by
  pointwise [val_main_v4, val_main_v2]
theorem up_0 (n : Fin 4096) (k : Fin 1408) : val_main_v7 (F := Ideal) D (ix2 n ⟨k.val, by omega⟩) = D (ix2 n ⟨1408 + k.val, by omega⟩) := by
  pointwise [val_main_v7, val_main_v1]
theorem up_1 (n : Fin 4096) (k : Fin 1408) : val_main_v7 (F := Ideal) D (ix2 n ⟨1408 + k.val, by omega⟩) = D (ix2 n ⟨4224 + k.val, by omega⟩) := by
  pointwise [val_main_v7, val_main_v3]

theorem v6_at (n : Fin 4096) (l : Fin 1024) : val_main_v6 (F := Ideal) D A (ix2 n l) = ∑ k : Fin 2816, val_main_v4 (F := Ideal) D (ix2 n k) * A (ix2 l k) := by
  pointwise [val_main_v6, val_main_v5]
theorem v9_at (n : Fin 4096) (l : Fin 1024) : val_main_v9 (F := Ideal) D B (ix2 n l) = ∑ k : Fin 2816, val_main_v7 (F := Ideal) D (ix2 n k) * B (ix2 l k) := by
  pointwise [val_main_v9, val_main_v8]

theorem v10_at (j : S4096x1024.Idx) : val_main_v10 (F := Ideal) D A B j = inF D A B j := by
  idx_vars j
  refine Eq.trans ?_ (packed_sum (fun q => D (ix2 _ q)) (fun q => A (ix2 _ q)) (fun q => B (ix2 _ q))).symm
  pointwise [val_main_v10]
  rw [v6_at, v9_at, sum_split 1408 1408 rfl, sum_split 1408 1408 rfl]
  simp only [gate_0, gate_1, up_0, up_1]

end Cert.NnReferenceIdeal.Read

namespace Cert.Proof
open Idealize.ShloMosaic Idealize.SL.Sem Idealize.ShloMosaic.Pipeline

theorem nn_ref_frame : quiescent_NnReferenceIdeal := fun m g _ =>
  (θ_run _ _ _).mono (fun r h => ⟨fun c => (h c).2, sem_eq_zero_of_no_sems rfl r.2⟩) (Cert.NnReferenceIdeal.Value.run m g)

theorem nn_pair : algebraic_NnKernelIdeal_NnReferenceIdeal := by
  pair_intro
  · run_from Cert.NnKernelIdeal.Value.run_blocks m g
  · run_from Cert.NnReferenceIdeal.Value.run m' g'
    · rw [Cert.NnKernelIdeal.Value.final_2 m c]
      funext j
      exact Cert.NnReferenceIdeal.Read.v10_at _ _ _ j

end Cert.Proof
end
-- ==== Proof.NtPair.lean ====
module

public import proofs.«01_k».proof.Proof.Gen.NtKernelIdeal.Value
public import proofs.«01_k».proof.Proof.Gen.NtReferenceIdeal.Read
public import proofs.«01_k».proof.Defs
public import proofs.«01_k».proof.Proof.NnPair
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Quiescent

@[expose] public section
set_option maxRecDepth 16384
noncomputable section
namespace Cert.NtKernelIdeal.Value
open Cert.NtKernelIdeal Cert.NtKernelIdeal.Gen Idealize.ShloMosaic Idealize.ShloMosaic.TcCoe Idealize.SL.Sem
open Idealize.ShloMosaic.Pipeline (Dat)
variable (m : (ℓ : Loc nD τ sig) → Buf (Elt Ideal) ℓ)

open Cert.NnKernelIdeal.Value (sum_split)

/-! ## The gradient of a layer's input: the projection's gradient by the weight, columns reordered and padded -/

abbrev a0 (c : Dev nD) : FVec Ideal S4096x3088 .f32 := m ((c : Thread nD τ).loc main_arg0)
abbrev a1 (c : Dev nD) : FVec Ideal S1024x3088 .f32 := m ((c : Thread nD τ).loc main_arg1)

theorem block (x : FVec Ideal S512x3328 .bf16) (w : FVec Ideal S1024x3328 .bf16) (r : Fin 512) (l : Fin 1024) :
    k0_pay1 (F := Ideal) x w (ix2 r l) = ∑ k : Fin 3328, x (ix2 r k) * w (ix2 l k) := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem lt8 (t : Fin cfg0.N) : t.val < 8 := lt_of_lt_of_eq t.isLt N_0

/-- The columns of a projection in the order the kernel keeps them: seven pieces, two of them followed by columns of zeros. -/
def padded (x : Fin 3088 → EReal) (q : Fin 3328) : EReal :=
  if h : q.val < 768 then x ⟨2056 + q.val, by omega⟩
  else if h : q.val - 768 < 256 then x ⟨2824 + (q.val - 768), by omega⟩
  else if h : q.val - 768 - 256 < 1024 then x ⟨1024 + (q.val - 768 - 256), by omega⟩
  else if h : q.val - 768 - 256 - 1024 < 512 then x ⟨q.val - 768 - 256 - 1024, by omega⟩
  else if h : q.val - 768 - 256 - 1024 - 512 < 512 then x ⟨512 + (q.val - 768 - 256 - 1024 - 512), by omega⟩
  else if h : q.val - 768 - 256 - 1024 - 512 - 512 < 8 then x ⟨2048 + (q.val - 768 - 256 - 1024 - 512 - 512), by omega⟩
  else if h : q.val - 768 - 256 - 1024 - 512 - 512 - 8 < 120 then 0
  else if h : q.val - 768 - 256 - 1024 - 512 - 512 - 8 - 120 < 8 then x ⟨3080 + (q.val - 768 - 256 - 1024 - 512 - 512 - 8 - 120), by omega⟩
  else 0

set_option maxHeartbeats 1600000 in
theorem cols_d (c : Dev nD) (n : Fin 4096) (q : Fin 3328) :
    (V m c main_v9 : FVec Ideal S4096x3328 .bf16) (ix2 n q) = padded (fun k => a0 m c (ix2 n k)) q := by
  unfold_abbrev_sides; after_reads_simp; pointwise
  unfold padded
  iterate 8
    refine dite_congr rfl (fun h => ?_) (fun h => ?_)
    · after_reads_simp; pointwise
  after_reads_simp; pointwise

set_option maxHeartbeats 1600000 in
theorem cols_w (c : Dev nD) (n : Fin 1024) (q : Fin 3328) :
    (V m c main_v19 : FVec Ideal S1024x3328 .bf16) (ix2 n q) = padded (fun k => a1 m c (ix2 n k)) q := by
  unfold_abbrev_sides; after_reads_simp; pointwise
  unfold padded
  iterate 8
    refine dite_congr rfl (fun h => ?_) (fun h => ?_)
    · after_reads_simp; pointwise
  after_reads_simp; pointwise

theorem d_at (c : Dev nD) (t : Fin cfg0.N) (r : Fin 512) (q : Fin 3328) :
    iblk m c 0 t (ix2 r q) = padded (fun k => a0 m c (ix2 (⟨t.val * 512 + r.val, by have h := lt8 t; omega⟩ : Fin 4096) k)) q := by
  have h := lt8 t
  have e : ((cfg0.win 0).blk t).view.emb (ix2 r q) = (ix2 (⟨t.val * 512 + r.val, by omega⟩ : Fin 4096) q : S4096x3328.Idx) := by blk_ext [idx t]
  refine Eq.trans ?_ (cols_d m c _ _)
  blk_simp [iblk]; rw [e]

theorem w_at (c : Dev nD) (t : Fin cfg0.N) (l : Fin 1024) (q : Fin 3328) : iblk m c 1 t (ix2 l q) = padded (fun k => a1 m c (ix2 l k)) q := by
  have e : ((cfg0.win 1).blk t).view.emb (ix2 l q) = (ix2 l q : S1024x3328.Idx) := by blk_ext [idx t]
  refine Eq.trans ?_ (cols_w m c _ _)
  blk_simp [iblk]; rw [e]

/-- The sum over `b` places from place `a` on. -/
def seg {n : ℕ} (f : Fin n → EReal) (a b : ℕ) (e : a + b ≤ n) : EReal := ∑ k : Fin b, f ⟨a + k.val, by omega⟩

theorem seg_all {n : ℕ} (f : Fin n → EReal) : ∑ k : Fin n, f k = seg f 0 n (by omega) :=
  Finset.sum_congr rfl fun k _ => congrArg f (Fin.ext (Nat.zero_add k.val).symm)

theorem seg_split {n : ℕ} (f : Fin n → EReal) (a b b1 b2 a' : ℕ) (e : a + b ≤ n) (h : b1 + b2 = b) (h' : a + b1 = a') :
    seg f a b e = seg f a b1 (by omega) + seg f a' b2 (by omega) := by
  subst h'
  refine (sum_split b1 b2 h _).trans (congrArg (seg f a b1 (by omega) + ·) ?_)
  exact Finset.sum_congr rfl fun k _ => congrArg f (Fin.ext (Nat.add_assoc a b1 k.val).symm)

/-- Where each padded column lies among the columns themselves. -/
theorem padded_at (z : Fin 3088 → EReal) (q k : ℕ) (hq : q < 3328) (hk : k < 3088)
    (h : (q < 768 ∧ k = 2056 + q) ∨ (768 ≤ q ∧ q < 1024 ∧ k + 768 = 2824 + q) ∨ (1024 ≤ q ∧ q < 2048 ∧ k = q) ∨ (2048 ≤ q ∧ q < 3072 ∧ k + 2048 = q)
      ∨ (3072 ≤ q ∧ q < 3080 ∧ k + 3072 = 2048 + q) ∨ (3200 ≤ q ∧ q < 3208 ∧ k + 3200 = 3080 + q)) : padded z ⟨q, hq⟩ = z ⟨k, hk⟩ := by
  unfold padded; dsimp only
  split_ifs <;> first | omega | exact congrArg z (Fin.ext (by dsimp only; omega))

/-- The columns of zeros. -/
theorem padded_zero (z : Fin 3088 → EReal) (q : ℕ) (hq : q < 3328) (h : (3080 ≤ q ∧ q < 3200) ∨ 3208 ≤ q) : padded z ⟨q, hq⟩ = 0 := by
  unfold padded; dsimp only
  split_ifs <;> first | omega | rfl

section
variable (x y : Fin 3088 → EReal)

abbrev wide (q : Fin 3328) : EReal := padded x q * padded y q
abbrev plain (k : Fin 3088) : EReal := x k * y k

theorem seg_at (o s b : ℕ) (e : o + b ≤ 3328) (e' : s + b ≤ 3088)
    (h : ∀ k, k < b → (o + k < 768 ∧ s = 2056 + o) ∨ (768 ≤ o + k ∧ o + k < 1024 ∧ s + 768 = 2824 + o) ∨ (1024 ≤ o + k ∧ o + k < 2048 ∧ s = o)
      ∨ (2048 ≤ o + k ∧ o + k < 3072 ∧ s + 2048 = o) ∨ (3072 ≤ o + k ∧ o + k < 3080 ∧ s + 3072 = 2048 + o) ∨ (3200 ≤ o + k ∧ o + k < 3208 ∧ s + 3200 = 3080 + o)) :
    seg (wide x y) o b e = seg (plain x y) s b e' :=
  Finset.sum_congr rfl fun k _ => by
    have hk := h k.val k.isLt
    exact congr (congrArg _ (padded_at x _ _ _ _ (by omega))) (padded_at y _ _ _ _ (by omega))

theorem seg_zero (o b : ℕ) (e : o + b ≤ 3328) (h : (3080 ≤ o ∧ o + b ≤ 3200) ∨ 3208 ≤ o) : seg (wide x y) o b e = 0 :=
  Finset.sum_eq_zero fun k _ => by
    show padded x _ * padded y _ = 0
    rw [padded_zero x _ _ (by omega), zero_mul]

/-- The order of the columns and the columns of zeros do not change a sum of products. -/
theorem padded_sum : ∑ q : Fin 3328, wide x y q = ∑ k : Fin 3088, plain x y k := by
  rw [seg_all, seg_all (plain x y)]
  rw [seg_split (wide x y) 0 3328 768 2560 768 _ rfl rfl, seg_split (wide x y) 768 2560 256 2304 1024 _ rfl rfl, seg_split (wide x y) 1024 2304 1024 1280 2048 _ rfl rfl,
    seg_split (wide x y) 2048 1280 1024 256 3072 _ rfl rfl, seg_split (wide x y) 3072 256 8 248 3080 _ rfl rfl, seg_split (wide x y) 3080 248 120 128 3200 _ rfl rfl,
    seg_split (wide x y) 3200 128 8 120 3208 _ rfl rfl]
  rw [seg_split (plain x y) 0 3088 1024 2064 1024 _ rfl rfl, seg_split (plain x y) 1024 2064 1024 1040 2048 _ rfl rfl, seg_split (plain x y) 2048 1040 8 1032 2056 _ rfl rfl,
    seg_split (plain x y) 2056 1032 768 264 2824 _ rfl rfl, seg_split (plain x y) 2824 264 256 8 3080 _ rfl rfl]
  rw [seg_at x y 0 2056 768 _ (by omega) (by omega), seg_at x y 768 2824 256 _ (by omega) (by omega), seg_at x y 1024 1024 1024 _ (by omega) (by omega),
    seg_at x y 2048 0 1024 _ (by omega) (by omega), seg_at x y 3072 2048 8 _ (by omega) (by omega), seg_zero x y 3080 120 _ (by omega),
    seg_at x y 3200 3080 8 _ (by omega) (by omega), seg_zero x y 3208 120 _ (by omega)]
  simp only [zero_add, add_zero]
  ac_rfl

end

def inF (D : FVec Ideal S4096x3088 .f32) (W : FVec Ideal S1024x3088 .f32) : FVec Ideal S4096x1024 .f32 :=
  fun j => ∑ k : Fin 3088, plain (fun k => D (ix2 (j 0) k)) (fun k => W (ix2 (j 1) k)) k

theorem final_2 (c : Dev nD) : (dats m 0 c).arrAt 2 (cfgs 0).N = inF (a0 m c) (a1 m c) := by
  refine (dats m 0 c).arrAt_eq_of_covers 2 _ (by decide +kernel) fun t hf y => ?_
  blk_simp; rw [after0_2]; frame_out
  have h8 := lt8 t
  obtain ⟨r, l, rfl⟩ : ∃ (y0 : Fin 512) (y1 : Fin 1024), y = ix2 y0 y1 := ⟨y 0, y 1, eq_ix2 y⟩
  have e : ((cfg0.win 2).blk t).view.emb (ix2 r l) = (ix2 (⟨t.val * 512 + r.val, by omega⟩ : Fin 4096) l : S4096x1024.Idx) := by blk_ext [idx t]
  refine Eq.trans ?_ (congrArg (inF (a0 m c) (a1 m c)) e.symm)
  refine (block _ _ r l).trans ((Finset.sum_congr rfl fun k _ => congr (congrArg _ (d_at m c t r k)) (w_at m c t l k)).trans ?_)
  exact padded_sum _ _

end Cert.NtKernelIdeal.Value

namespace Cert.NtReferenceIdeal.Read
open Cert.NtReferenceIdeal Cert.NtReferenceIdeal.Gen Idealize.ShloMosaic Idealize.ShloMosaic.TcCoe Idealize.SL.Sem Idealize.ShloMosaic.StableHlo Idealize.ShloMosaic.Pipeline

open Cert.NtKernelIdeal.Value (inF)

theorem v1_at (D : FVec Ideal S4096x3088 .f32) (W : FVec Ideal S1024x3088 .f32) (j : S4096x1024.Idx) : val_main_v1 (F := Ideal) D W j = inF D W j := by
  idx_vars j
  pointwise [val_main_v1, val_main_v0]
  rfl

end Cert.NtReferenceIdeal.Read

namespace Cert.Proof
open Idealize.ShloMosaic Idealize.SL.Sem Idealize.ShloMosaic.Pipeline

theorem nt_ref_frame : quiescent_NtReferenceIdeal := fun m g _ =>
  (θ_run _ _ _).mono (fun r h => ⟨fun c => (h c).2, sem_eq_zero_of_no_sems rfl r.2⟩) (Cert.NtReferenceIdeal.Value.run m g)

theorem nt_pair : algebraic_NtKernelIdeal_NtReferenceIdeal := by
  pair_intro
  · run_from Cert.NtKernelIdeal.Value.run_blocks m g
  · run_from Cert.NtReferenceIdeal.Value.run m' g'
    · rw [Cert.NtKernelIdeal.Value.final_2 m c]
      funext j
      exact Cert.NtReferenceIdeal.Read.v1_at _ _ j

end Cert.Proof
end
-- ==== Proof.TnPair.lean ====
module

public import proofs.«01_k».proof.Proof.Gen.TnKernelIdeal.Value
public import proofs.«01_k».proof.Proof.Gen.TnReferenceIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Quiescent

@[expose] public section
set_option maxRecDepth 16384
noncomputable section
namespace Cert.TnKernelIdeal.Value
open Cert.TnKernelIdeal Cert.TnKernelIdeal.Gen Idealize.ShloMosaic Idealize.ShloMosaic.TcCoe Idealize.SL.Sem
open Idealize.ShloMosaic.Pipeline (Dat)
variable (m : (ℓ : Loc nD τ sig) → Buf (Elt Ideal) ℓ)

/-! ## The gradient of a weight: the transpose of one array by another -/

abbrev a0 (c : Dev nD) : FVec Ideal S4096x5632 .f32 := m ((c : Thread nD τ).loc main_arg0)
abbrev a1 (c : Dev nD) : FVec Ideal S4096x1024 .f32 := m ((c : Thread nD τ).loc main_arg1)

theorem block (x : FVec Ideal S4096x1408 .bf16) (w : FVec Ideal S4096x512 .bf16) (r : Fin 1408) (l : Fin 512) :
    k0_pay1 (F := Ideal) x w (ix2 r l) = ∑ k : Fin 4096, x (ix2 k r) * w (ix2 k l) := by
  pointwise [k0_pay1]

theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem lt8 (t : Fin cfg0.N) : t.val < 8 := lt_of_lt_of_eq t.isLt N_0

theorem d_at (c : Dev nD) (t : Fin cfg0.N) (k : Fin 4096) (r : Fin 1408) :
    iblk m c 0 t (ix2 k r) = a0 m c (ix2 k (⟨t.val / 2 * 1408 + r.val, by have h := lt8 t; omega⟩ : Fin 5632)) := by
  have h := lt8 t
  blk_simp [iblk]; entry_read; pointwise; blk_ext [idx t]

theorem h_at (c : Dev nD) (t : Fin cfg0.N) (k : Fin 4096) (l : Fin 512) :
    iblk m c 1 t (ix2 k l) = a1 m c (ix2 k (⟨t.val % 2 * 512 + l.val, by omega⟩ : Fin 1024)) := by
  blk_simp [iblk]; entry_read; pointwise; blk_ext [idx t]

def gradF (D : FVec Ideal S4096x5632 .f32) (H : FVec Ideal S4096x1024 .f32) : FVec Ideal S5632x1024 .f32 := fun j => ∑ k : Fin 4096, D (ix2 k (j 0)) * H (ix2 k (j 1))

theorem final_2 (c : Dev nD) : (dats m 0 c).arrAt 2 (cfgs 0).N = gradF (a0 m c) (a1 m c) := by
  refine (dats m 0 c).arrAt_eq_of_covers 2 _ (by decide +kernel) fun t hf y => ?_
  blk_simp; rw [after0_2]; unfold outsAt0; frame_out
  have h8 := lt8 t
  obtain ⟨r, l, rfl⟩ : ∃ (y0 : Fin 1408) (y1 : Fin 512), y = ix2 y0 y1 := ⟨y 0, y 1, eq_ix2 y⟩
  have e : ((cfg0.win 2).blk t).view.emb (ix2 r l) = (ix2 (⟨t.val / 2 * 1408 + r.val, by omega⟩ : Fin 5632) (⟨t.val % 2 * 512 + l.val, by omega⟩ : Fin 1024) : S5632x1024.Idx) := by
    blk_ext [idx t]
  refine Eq.trans ?_ (congrArg (gradF (a0 m c) (a1 m c)) e.symm)
  exact (block _ _ r l).trans (Finset.sum_congr rfl fun k _ => congr (congrArg _ (d_at m c t k r)) (h_at m c t k l))

end Cert.TnKernelIdeal.Value

namespace Cert.TnReferenceIdeal.Read
open Cert.TnReferenceIdeal Cert.TnReferenceIdeal.Gen Idealize.ShloMosaic Idealize.ShloMosaic.TcCoe Idealize.SL.Sem Idealize.ShloMosaic.StableHlo Idealize.ShloMosaic.Pipeline

open Cert.TnKernelIdeal.Value (gradF)

theorem v1_at (D : FVec Ideal S4096x5632 .f32) (H : FVec Ideal S4096x1024 .f32) (j : S5632x1024.Idx) : val_main_v1 (F := Ideal) D H j = gradF D H j := by
  idx_vars j
  pointwise [val_main_v1, val_main_v0]
  rfl

end Cert.TnReferenceIdeal.Read

namespace Cert.Proof
open Idealize.ShloMosaic Idealize.SL.Sem Idealize.ShloMosaic.Pipeline

theorem tn_ref_frame : quiescent_TnReferenceIdeal := fun m g _ =>
  (θ_run _ _ _).mono (fun r h => ⟨fun c => (h c).2, sem_eq_zero_of_no_sems rfl r.2⟩) (Cert.TnReferenceIdeal.Value.run m g)

theorem tn_pair : algebraic_TnKernelIdeal_TnReferenceIdeal := by
  pair_intro
  · run_from Cert.TnKernelIdeal.Value.run_blocks m g
  · run_from Cert.TnReferenceIdeal.Value.run m' g'
    · rw [Cert.TnKernelIdeal.Value.final_2 m c]
      funext j
      exact Cert.TnReferenceIdeal.Read.v1_at _ _ j

end Cert.Proof
end
-- ==== Proof.SumPair.lean ====
module

public import proofs.«01_k».proof.Proof.Gen.SumKernelIdeal.Value
public import proofs.«01_k».proof.Proof.Gen.SumReferenceIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Quiescent

@[expose] public section
set_option maxRecDepth 16384
noncomputable section
namespace Cert.SumKernelIdeal.Value
open Cert.SumKernelIdeal Cert.SumKernelIdeal.Gen Idealize.ShloMosaic Idealize.ShloMosaic.TcCoe Idealize.SL.Sem
open Idealize.ShloMosaic.Pipeline (Dat)
variable (m : (ℓ : Loc nD τ sig) → Buf (Elt Ideal) ℓ)

/-! ## The sum of the eight devices' gradients -/

/-- The eight slices at one entry, added in order of the devices. -/
theorem sum_at (x : FVec Ideal S8x264x128 .f32) (r : Fin 264) (l : Fin 128) : G1 (F := Ideal) x (ix2 r l) = ∑ d : Fin 8, x (ix3 d r l) := by
  rw [Fin.sum_univ_eight]
  unfold G1
  pointwise [k0_pay1]

end Cert.SumKernelIdeal.Value

namespace Cert.SumReferenceIdeal.Read
open Cert.SumReferenceIdeal Cert.SumReferenceIdeal.Gen Idealize.ShloMosaic Idealize.ShloMosaic.TcCoe Idealize.SL.Sem Idealize.ShloMosaic.StableHlo Idealize.ShloMosaic.Pipeline

open Cert.SumKernelIdeal.Value (sum_at)

theorem v0_at (x : FVec Ideal S8x264x128 .f32) (r : Fin 264) (l : Fin 128) : val_main_v0 (F := Ideal) x (ix2 r l) = ∑ d : Fin 8, x (ix3 d r l) := by
  pointwise [val_main_v0, val_main_cst]

end Cert.SumReferenceIdeal.Read

namespace Cert.Proof
open Idealize.ShloMosaic Idealize.SL.Sem Idealize.ShloMosaic.Pipeline

theorem sum_ref_frame : quiescent_SumReferenceIdeal := fun m g _ =>
  (θ_run _ _ _).mono (fun r h => ⟨fun c => (h c).2, sem_eq_zero_of_no_sems rfl r.2⟩) (Cert.SumReferenceIdeal.Value.run m g)

theorem sum_pair : algebraic_SumKernelIdeal_SumReferenceIdeal := by
  pair_intro
  · run_from Cert.SumKernelIdeal.Value.run m g
  · run_from Cert.SumReferenceIdeal.Value.run m' g'
    · have h0 := hagree c
      rw [Cert.SumReferenceIdeal.Read.val_main_v0_eq]
      try rw [h0]
      funext j
      rw [eq_ix2 j]
      exact (Cert.SumReferenceIdeal.Read.v0_at _ _ _).trans (Cert.SumKernelIdeal.Value.sum_at _ _ _).symm

end Cert.Proof
end
-- ==== Proof.AdamPair.lean ====
module

public import proofs.«01_k».proof.Proof.Gen.AdamKernelIdeal.Value
public import proofs.«01_k».proof.Proof.Gen.AdamReferenceIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Quiescent

@[expose] public section
set_option maxRecDepth 16384
noncomputable section
namespace Cert.AdamKernelIdeal.Value
open Cert.AdamKernelIdeal Cert.AdamKernelIdeal.Gen Idealize.ShloMosaic Idealize.ShloMosaic.TcCoe Idealize.SL.Sem
open Idealize.ShloMosaic.Pipeline (Dat)
variable (m : (ℓ : Loc nD τ sig) → Buf (Elt Ideal) ℓ)

/-! ## The optimiser's step on one weight -/

abbrev a0 (c : Dev nD) : FVec Ideal S2x1024x772 .f32 := m ((c : Thread nD τ).loc main_arg0)
abbrev a1 (c : Dev nD) : FVec Ideal S2x1024x772 .f32 := m ((c : Thread nD τ).loc main_arg1)
abbrev a2 (c : Dev nD) : FVec Ideal S2x1024x772 .f32 := m ((c : Thread nD τ).loc main_arg2)
abbrev a3 (c : Dev nD) : FVec Ideal S2x1024x772 .f32 := m ((c : Thread nD τ).loc main_arg3)

/-- A constant of the step, from its word. -/
abbrev lit (b : BitVec 32) : EReal := Ideal.ofBits .f32 b

/-- The first moment after the step. -/
def mom (g m : EReal) : EReal := lit 0x3F666666#32 * m + lit 0x3DCCCCCD#32 * g
/-- The second moment after the step. -/
def sqm (g v : EReal) : EReal := lit 0x3F7FBE77#32 * v + lit 0x3A83126F#32 * (g * g)
/-- The change of the weight. -/
def upd (w g m v : EReal) : EReal :=
  lit 0xBA83126F#32 * (Ideal.div (Ideal.div (mom g m) (lit 0x3F26BD02#32)) (Ideal.sqrt (Ideal.div (sqm g v) (lit 0x3C231ACC#32)) + lit 0x322BCC77#32) + lit 0x3C23D70A#32 * w)

theorem mom_block (g x : FVec Ideal S512x772 .f32) (r : Fin 512) (l : Fin 772) : k0_pay2 (F := Ideal) g x (ix2 r l) = mom (g (ix2 r l)) (x (ix2 r l)) := by
  pointwise [k0_pay2, k0_pay1, mom]
theorem sqm_block (g x : FVec Ideal S512x772 .f32) (r : Fin 512) (l : Fin 772) : k0_pay3 (F := Ideal) g x (ix2 r l) = sqm (g (ix2 r l)) (x (ix2 r l)) := by
  pointwise [k0_pay3, k0_pay1, sqm]
theorem upd_block (w g x y : FVec Ideal S512x772 .f32) (r : Fin 512) (l : Fin 772) :
    k0_pay4 (F := Ideal) g x y w (ix2 r l) = upd (w (ix2 r l)) (g (ix2 r l)) (x (ix2 r l)) (y (ix2 r l)) := by
  pointwise [k0_pay4]
  rw [mom_block, sqm_block]
  rfl

/-- The rows of the flattened weight. -/
def flat (x : FVec Ideal S2x1024x772 .f32) (n : Fin 2048) (l : Fin 772) : EReal :=
  x (ix3 (⟨n.val / 1024, by omega⟩ : Fin 2) (⟨n.val % 1024, by omega⟩ : Fin 1024) l)

def momF (G M : FVec Ideal S2x1024x772 .f32) : FVec Ideal S2048x772 .f32 := fun j => mom (flat G (j 0) (j 1)) (flat M (j 0) (j 1))
def sqmF (G W : FVec Ideal S2x1024x772 .f32) : FVec Ideal S2048x772 .f32 := fun j => sqm (flat G (j 0) (j 1)) (flat W (j 0) (j 1))
def updF (X G M W : FVec Ideal S2x1024x772 .f32) : FVec Ideal S2048x772 .f32 :=
  fun j => upd (flat X (j 0) (j 1)) (flat G (j 0) (j 1)) (flat M (j 0) (j 1)) (flat W (j 0) (j 1))

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

section
variable (c : Dev nD) (t : Fin cfg0.N) (r : Fin 512) (l : Fin 772)

abbrev rowOf : Fin 2048 := ⟨t.val * 512 + r.val, by have h := lt_of_lt_of_eq t.isLt N_0; omega⟩

theorem v0_at (n : Fin 2048) : (V m c main_v0 : FVec Ideal S2048x772 .f32) (ix2 n l) = flat (a0 m c) n l := by
  unfold_abbrev_sides; after_reads_simp; pointwise; rfl
theorem v1_at (n : Fin 2048) : (V m c main_v1 : FVec Ideal S2048x772 .f32) (ix2 n l) = flat (a1 m c) n l := by
  unfold_abbrev_sides; after_reads_simp; pointwise; rfl
theorem v2_at (n : Fin 2048) : (V m c main_v2 : FVec Ideal S2048x772 .f32) (ix2 n l) = flat (a2 m c) n l := by
  unfold_abbrev_sides; after_reads_simp; pointwise; rfl
theorem v3_at (n : Fin 2048) : (V m c main_v3 : FVec Ideal S2048x772 .f32) (ix2 n l) = flat (a3 m c) n l := by
  unfold_abbrev_sides; after_reads_simp; pointwise; rfl

theorem w_at : iblk m c 0 t (ix2 r l) = flat (a0 m c) (rowOf t r) l := by
  refine Eq.trans ?_ (v0_at m c l (rowOf t r)); blk_simp [iblk]; blk_ext [idx t]
theorem g_at : iblk m c 1 t (ix2 r l) = flat (a1 m c) (rowOf t r) l := by
  refine Eq.trans ?_ (v1_at m c l (rowOf t r)); blk_simp [iblk]; blk_ext [idx t]
theorem m_at : iblk m c 2 t (ix2 r l) = flat (a2 m c) (rowOf t r) l := by
  refine Eq.trans ?_ (v2_at m c l (rowOf t r)); blk_simp [iblk]; blk_ext [idx t]
theorem s_at : iblk m c 3 t (ix2 r l) = flat (a3 m c) (rowOf t r) l := by
  refine Eq.trans ?_ (v3_at m c l (rowOf t r)); blk_simp [iblk]; blk_ext [idx t]

end

theorem final_4 (c : Dev nD) : (dats m 0 c).arrAt 4 (cfgs 0).N = updF (a0 m c) (a1 m c) (a2 m c) (a3 m c) := by
  refine (dats m 0 c).arrAt_eq_of_covers 4 _ (by decide +kernel) fun t hf y => ?_
  blk_simp; rw [after0_4]; frame_out
  obtain ⟨r, l, rfl⟩ : ∃ (y0 : Fin 512) (y1 : Fin 772), y = ix2 y0 y1 := ⟨y 0, y 1, eq_ix2 y⟩
  have e : ((cfg0.win 4).blk t).view.emb (ix2 r l) = (ix2 (rowOf t r) l : S2048x772.Idx) := by blk_ext [idx t]
  refine Eq.trans ?_ (congrArg (updF (a0 m c) (a1 m c) (a2 m c) (a3 m c)) e.symm)
  exact (upd_block _ _ _ _ r l).trans (congr (congr (congr (congrArg upd (w_at m c t r l)) (g_at m c t r l)) (m_at m c t r l)) (s_at m c t r l))

theorem final_5 (c : Dev nD) : (dats m 0 c).arrAt 5 (cfgs 0).N = momF (a1 m c) (a2 m c) := by
  refine (dats m 0 c).arrAt_eq_of_covers 5 _ (by decide +kernel) fun t hf y => ?_
  blk_simp; rw [after0_5]; frame_out
  obtain ⟨r, l, rfl⟩ : ∃ (y0 : Fin 512) (y1 : Fin 772), y = ix2 y0 y1 := ⟨y 0, y 1, eq_ix2 y⟩
  have e : ((cfg0.win 5).blk t).view.emb (ix2 r l) = (ix2 (rowOf t r) l : S2048x772.Idx) := by blk_ext [idx t]
  refine Eq.trans ?_ (congrArg (momF (a1 m c) (a2 m c)) e.symm)
  exact (mom_block _ _ r l).trans (congr (congrArg mom (g_at m c t r l)) (m_at m c t r l))

theorem final_6 (c : Dev nD) : (dats m 0 c).arrAt 6 (cfgs 0).N = sqmF (a1 m c) (a3 m c) := by
  refine (dats m 0 c).arrAt_eq_of_covers 6 _ (by decide +kernel) fun t hf y => ?_
  blk_simp; rw [after0_6]; frame_out
  obtain ⟨r, l, rfl⟩ : ∃ (y0 : Fin 512) (y1 : Fin 772), y = ix2 y0 y1 := ⟨y 0, y 1, eq_ix2 y⟩
  have e : ((cfg0.win 6).blk t).view.emb (ix2 r l) = (ix2 (rowOf t r) l : S2048x772.Idx) := by blk_ext [idx t]
  refine Eq.trans ?_ (congrArg (sqmF (a1 m c) (a3 m c)) e.symm)
  exact (sqm_block _ _ r l).trans (congr (congrArg sqm (g_at m c t r l)) (s_at m c t r l))

end Cert.AdamKernelIdeal.Value

namespace Cert.AdamReferenceIdeal.Read
open Cert.AdamReferenceIdeal Cert.AdamReferenceIdeal.Gen Idealize.ShloMosaic Idealize.ShloMosaic.TcCoe Idealize.SL.Sem Idealize.ShloMosaic.StableHlo Idealize.ShloMosaic.Pipeline

open Cert.AdamKernelIdeal.Value (mom sqm upd flat momF sqmF updF)

variable (X G M W : FVec Ideal S2x1024x772 .f32)

theorem v4_at (p : Fin 2) (q : Fin 1024) (l : Fin 772) : val_main_v4 (F := Ideal) G M (ix3 p q l) = mom (G (ix3 p q l)) (M (ix3 p q l)) := by
  pointwise [val_main_v4, val_main_v3, val_main_v2, val_main_v1, val_main_v0, val_main_cst, val_main_cst_0, mom]
theorem v10_at (p : Fin 2) (q : Fin 1024) (l : Fin 772) : val_main_v10 (F := Ideal) G W (ix3 p q l) = sqm (G (ix3 p q l)) (W (ix3 p q l)) := by
  pointwise [val_main_v10, val_main_v9, val_main_v8, val_main_v7, val_main_v6, val_main_v5, val_main_cst_1, val_main_cst_2, sqm]
theorem v23_at (p : Fin 2) (q : Fin 1024) (l : Fin 772) :
    val_main_v23 (F := Ideal) X G M W (ix3 p q l) = upd (X (ix3 p q l)) (G (ix3 p q l)) (M (ix3 p q l)) (W (ix3 p q l)) := by
  pointwise [val_main_v23, val_main_v22, val_main_v21, val_main_v20, val_main_v19, val_main_v18, val_main_v17, val_main_v16, val_main_v15, val_main_v14,
    val_main_v13, val_main_v12, val_main_v11, val_main_cst_3, val_main_cst_4, val_main_cst_5, val_main_cst_6, val_main_cst_7]
  rw [v4_at, v10_at]
  rfl

theorem v24_at (j : S2048x772.Idx) : val_main_v24 (F := Ideal) X G M W j = updF X G M W j := by
  idx_vars j
  pointwise [val_main_v24]
  exact v23_at _ _ _ _ _ _ _
theorem v25_at (j : S2048x772.Idx) : val_main_v25 (F := Ideal) G M j = momF G M j := by
  idx_vars j
  pointwise [val_main_v25]
  exact v4_at _ _ _ _ _
theorem v26_at (j : S2048x772.Idx) : val_main_v26 (F := Ideal) G W j = sqmF G W j := by
  idx_vars j
  pointwise [val_main_v26]
  exact v10_at _ _ _ _ _

end Cert.AdamReferenceIdeal.Read

namespace Cert.Proof
open Idealize.ShloMosaic Idealize.SL.Sem Idealize.ShloMosaic.Pipeline

theorem adam_ref_frame : quiescent_AdamReferenceIdeal := fun m g _ =>
  (θ_run _ _ _).mono (fun r h => ⟨fun c => (h c).2.2.2, sem_eq_zero_of_no_sems rfl r.2⟩) (Cert.AdamReferenceIdeal.Value.run m g)

theorem adam_pair : algebraic_AdamKernelIdeal_AdamReferenceIdeal := by
  pair_intro
  · run_from Cert.AdamKernelIdeal.Value.run_blocks m g
  · run_from Cert.AdamReferenceIdeal.Value.run m' g'
    · rw [Cert.AdamReferenceIdeal.Read.val_main_v24_eq, Cert.AdamKernelIdeal.Value.final_4 m c]
      funext j
      exact Cert.AdamReferenceIdeal.Read.v24_at _ _ _ _ j
    · rw [Cert.AdamReferenceIdeal.Read.val_main_v25_eq, Cert.AdamKernelIdeal.Value.final_5 m c]
      funext j
      exact Cert.AdamReferenceIdeal.Read.v25_at _ _ j
    · rw [Cert.AdamReferenceIdeal.Read.val_main_v26_eq, Cert.AdamKernelIdeal.Value.final_6 m c]
      funext j
      exact Cert.AdamReferenceIdeal.Read.v26_at _ _ j

end Cert.Proof
end
-- ==== Proof.lean ====
/- The proof of the claims stated in Defs.lean: the frames of every program, and for every pair that the kernel keeps
   its text under idealization and computes what its reference computes. -/
module

public import proofs.«01_k».proof.Defs
public import proofs.«01_k».proof.Proof.Gen.ConvKernel.Frame
public import proofs.«01_k».proof.Proof.Gen.ConvKernelIdeal.Frame
public import proofs.«01_k».proof.Proof.Gen.ConvKernelIdeal.Value
public import proofs.«01_k».proof.Proof.Gen.ConvReferenceIdeal.Read
public import proofs.«01_k».proof.Proof.Gen.FfKernel.Frame
public import proofs.«01_k».proof.Proof.Gen.FfKernelIdeal.Frame
public import proofs.«01_k».proof.Proof.Gen.FfKernelIdeal.Value
public import proofs.«01_k».proof.Proof.Gen.FfReferenceIdeal.Read
public import proofs.«01_k».proof.Proof.Gen.PnKernel.Frame
public import proofs.«01_k».proof.Proof.Gen.PnKernelIdeal.Frame
public import proofs.«01_k».proof.Proof.Gen.PnKernelIdeal.Value
public import proofs.«01_k».proof.Proof.Gen.PnReferenceIdeal.Read
public import proofs.«01_k».proof.Proof.Gen.RnKernel.Frame
public import proofs.«01_k».proof.Proof.Gen.RnKernelIdeal.Frame
public import proofs.«01_k».proof.Proof.Gen.RnKernelIdeal.Value
public import proofs.«01_k».proof.Proof.Gen.RnReferenceIdeal.Read
public import proofs.«01_k».proof.Proof.Gen.RlKernel.Frame
public import proofs.«01_k».proof.Proof.Gen.RlKernelIdeal.Frame
public import proofs.«01_k».proof.Proof.Gen.RlKernelIdeal.Value
public import proofs.«01_k».proof.Proof.Gen.RlReferenceIdeal.Read
public import proofs.«01_k».proof.Proof.Gen.SwaKernel.Frame
public import proofs.«01_k».proof.Proof.Gen.SwaKernelIdeal.Frame
public import proofs.«01_k».proof.Proof.Gen.SwaKernelIdeal.Value
public import proofs.«01_k».proof.Proof.Gen.SwaReferenceIdeal.Read
public import proofs.«01_k».proof.Proof.Gen.SwafKernel.Frame
public import proofs.«01_k».proof.Proof.Gen.SwafKernelIdeal.Frame
public import proofs.«01_k».proof.Proof.Gen.SwafKernelIdeal.Value
public import proofs.«01_k».proof.Proof.Gen.SwafReferenceIdeal.Read
public import proofs.«01_k».proof.Proof.Gen.PnfKernel.Frame
public import proofs.«01_k».proof.Proof.Gen.PnfKernelIdeal.Frame
public import proofs.«01_k».proof.Proof.Gen.PnfKernelIdeal.Value
public import proofs.«01_k».proof.Proof.Gen.PnfReferenceIdeal.Read
public import proofs.«01_k».proof.Proof.Gen.RnfKernel.Frame
public import proofs.«01_k».proof.Proof.Gen.RnfKernelIdeal.Frame
public import proofs.«01_k».proof.Proof.Gen.RnfKernelIdeal.Value
public import proofs.«01_k».proof.Proof.Gen.RnfReferenceIdeal.Read
public import proofs.«01_k».proof.Proof.Gen.UpKernel.Frame
public import proofs.«01_k».proof.Proof.Gen.UpKernelIdeal.Frame
public import proofs.«01_k».proof.Proof.Gen.UpKernelIdeal.Value
public import proofs.«01_k».proof.Proof.Gen.UpReferenceIdeal.Read
public import proofs.«01_k».proof.Proof.Gen.ConvfKernel.Frame
public import proofs.«01_k».proof.Proof.Gen.ConvfKernelIdeal.Frame
public import proofs.«01_k».proof.Proof.Gen.ConvfKernelIdeal.Value
public import proofs.«01_k».proof.Proof.Gen.ConvfReferenceIdeal.Read
public import proofs.«01_k».proof.Proof.Gen.GconvfKernel.Frame
public import proofs.«01_k».proof.Proof.Gen.GconvfKernelIdeal.Frame
public import proofs.«01_k».proof.Proof.Gen.GconvfKernelIdeal.Value
public import proofs.«01_k».proof.Proof.Gen.GconvfReferenceIdeal.Read
public import proofs.«01_k».proof.Proof.Gen.GconvKernel.Frame
public import proofs.«01_k».proof.Proof.Gen.GconvKernelIdeal.Frame
public import proofs.«01_k».proof.Proof.Gen.GconvKernelIdeal.Value
public import proofs.«01_k».proof.Proof.Gen.GconvReferenceIdeal.Read
public import proofs.«01_k».proof.Proof.Gen.SsdfKernel.Frame
public import proofs.«01_k».proof.Proof.Gen.SsdfKernelIdeal.Frame
public import proofs.«01_k».proof.Proof.Gen.SsdfKernelIdeal.Value
public import proofs.«01_k».proof.Proof.Gen.SsdfReferenceIdeal.Read
public import proofs.«01_k».proof.Proof.Gen.SsdbKernel.Frame
public import proofs.«01_k».proof.Proof.Gen.SsdbKernelIdeal.Frame
public import proofs.«01_k».proof.Proof.Gen.GdnbKernel.Frame
public import proofs.«01_k».proof.Proof.Gen.GdnbKernelIdeal.Frame
public import proofs.«01_k».proof.Proof.Gen.GdnfKernel.Frame
public import proofs.«01_k».proof.Proof.Gen.GdnfKernelIdeal.Frame
public import proofs.«01_k».proof.Proof.Gen.NnKernel.Frame
public import proofs.«01_k».proof.Proof.Gen.NnKernelIdeal.Frame
public import proofs.«01_k».proof.Proof.Gen.NnKernelIdeal.Value
public import proofs.«01_k».proof.Proof.Gen.NnReferenceIdeal.Read
public import proofs.«01_k».proof.Proof.Gen.NtKernel.Frame
public import proofs.«01_k».proof.Proof.Gen.NtKernelIdeal.Frame
public import proofs.«01_k».proof.Proof.Gen.NtKernelIdeal.Value
public import proofs.«01_k».proof.Proof.Gen.NtReferenceIdeal.Read
public import proofs.«01_k».proof.Proof.Gen.TnKernel.Frame
public import proofs.«01_k».proof.Proof.Gen.TnKernelIdeal.Frame
public import proofs.«01_k».proof.Proof.Gen.TnKernelIdeal.Value
public import proofs.«01_k».proof.Proof.Gen.TnReferenceIdeal.Read
public import proofs.«01_k».proof.Proof.Gen.SumKernel.Frame
public import proofs.«01_k».proof.Proof.Gen.SumKernelIdeal.Frame
public import proofs.«01_k».proof.Proof.Gen.SumKernelIdeal.Value
public import proofs.«01_k».proof.Proof.Gen.SumReferenceIdeal.Read
public import proofs.«01_k».proof.Proof.Gen.AdamKernel.Frame
public import proofs.«01_k».proof.Proof.Gen.AdamKernelIdeal.Frame
public import proofs.«01_k».proof.Proof.Gen.AdamKernelIdeal.Value
public import proofs.«01_k».proof.Proof.Gen.AdamReferenceIdeal.Read
public import proofs.«01_k».proof.Proof.Gen.Pre_ct_finite
public import proofs.«01_k».proof.Proof.Gen.Pre_swa_finite
public import proofs.«01_k».proof.Proof.Gen.Pre_proj_finite
public import proofs.«01_k».proof.Proof.Gen.Pre_gct_finite
public import proofs.«01_k».proof.Proof.Gen.Pre_ssd_finite
public import proofs.«01_k».proof.Proof.ConvPair
public import proofs.«01_k».proof.Proof.FfPair
public import proofs.«01_k».proof.Proof.PnPair
public import proofs.«01_k».proof.Proof.RnPair
public import proofs.«01_k».proof.Proof.RlPair
public import proofs.«01_k».proof.Proof.SwaPair
public import proofs.«01_k».proof.Proof.SwafPair
public import proofs.«01_k».proof.Proof.PnfPair
public import proofs.«01_k».proof.Proof.RnfPair
public import proofs.«01_k».proof.Proof.UpPair
public import proofs.«01_k».proof.Proof.ConvfPair
public import proofs.«01_k».proof.Proof.GconvfPair
public import proofs.«01_k».proof.Proof.GconvPair
public import proofs.«01_k».proof.Proof.SsdfPair
public import proofs.«01_k».proof.Proof.NnPair
public import proofs.«01_k».proof.Proof.NtPair
public import proofs.«01_k».proof.Proof.TnPair
public import proofs.«01_k».proof.Proof.SumPair
public import proofs.«01_k».proof.Proof.AdamPair
public import Idealize.ShloMosaic.Adequacy
public import Idealize.ShloMosaic.Init

@[expose] public section

noncomputable section

namespace Cert.Proof

open Idealize.ShloMosaic Idealize.SL.Sem

theorem claim : Cert.Claim := ⟨
  Cert.ConvKernel.Gen.facts, Cert.ConvKernelIdeal.Gen.facts, Cert.ConvReferenceIdeal.Gen.facts, Cert.FfKernel.Gen.facts, Cert.FfKernelIdeal.Gen.facts,
  Cert.FfReferenceIdeal.Gen.facts, Cert.PnKernel.Gen.facts, Cert.PnKernelIdeal.Gen.facts, Cert.PnReferenceIdeal.Gen.facts, Cert.RnKernel.Gen.facts,
  Cert.RnKernelIdeal.Gen.facts, Cert.RnReferenceIdeal.Gen.facts, Cert.RlKernel.Gen.facts, Cert.RlKernelIdeal.Gen.facts,
  Cert.RlReferenceIdeal.Gen.facts, Cert.SwaKernel.Gen.facts, Cert.SwaKernelIdeal.Gen.facts, Cert.SwaReferenceIdeal.Gen.facts,
  Cert.SwafKernel.Gen.facts, Cert.SwafKernelIdeal.Gen.facts, Cert.SwafReferenceIdeal.Gen.facts, Cert.PnfKernel.Gen.facts,
  Cert.PnfKernelIdeal.Gen.facts, Cert.PnfReferenceIdeal.Gen.facts, Cert.RnfKernel.Gen.facts, Cert.RnfKernelIdeal.Gen.facts,
  Cert.RnfReferenceIdeal.Gen.facts, Cert.UpKernel.Gen.facts, Cert.UpKernelIdeal.Gen.facts, Cert.UpReferenceIdeal.Gen.facts, Cert.ConvfKernel.Gen.facts,
  Cert.ConvfKernelIdeal.Gen.facts, Cert.ConvfReferenceIdeal.Gen.facts, Cert.GconvfKernel.Gen.facts, Cert.GconvfKernelIdeal.Gen.facts,
  Cert.GconvfReferenceIdeal.Gen.facts, Cert.GconvKernel.Gen.facts, Cert.GconvKernelIdeal.Gen.facts, Cert.GconvReferenceIdeal.Gen.facts,
  Cert.SsdfKernel.Gen.facts, Cert.SsdfKernelIdeal.Gen.facts, Cert.SsdfReferenceIdeal.Gen.facts, Cert.SsdbKernel.Gen.facts,
  Cert.SsdbKernelIdeal.Gen.facts, Cert.GdnbKernel.Gen.facts, Cert.GdnbKernelIdeal.Gen.facts, Cert.GdnfKernel.Gen.facts, Cert.GdnfKernelIdeal.Gen.facts,
  Cert.NnKernel.Gen.facts, Cert.NnKernelIdeal.Gen.facts, Cert.NnReferenceIdeal.Gen.facts, Cert.NtKernel.Gen.facts, Cert.NtKernelIdeal.Gen.facts,
  Cert.NtReferenceIdeal.Gen.facts, Cert.TnKernel.Gen.facts, Cert.TnKernelIdeal.Gen.facts, Cert.TnReferenceIdeal.Gen.facts, Cert.SumKernel.Gen.facts,
  Cert.SumKernelIdeal.Gen.facts, Cert.SumReferenceIdeal.Gen.facts, Cert.AdamKernel.Gen.facts, Cert.AdamKernelIdeal.Gen.facts,
  Cert.AdamReferenceIdeal.Gen.facts, Cert.Pre_ct_finite.Gen.facts, Cert.Pre_swa_finite.Gen.facts, Cert.Pre_proj_finite.Gen.facts,
  Cert.Pre_gct_finite.Gen.facts, Cert.Pre_ssd_finite.Gen.facts, fun m ρ _ => Cert.ConvKernel.Gen.frame m ρ,
  fun m ρ _ => Cert.ConvKernelIdeal.Gen.frame m ρ, fun m ρ _ => Cert.ConvKernelIdeal.Gen.frame m ρ, conv_ref_frame,
  fun m ρ _ => conv_ref_frame m ρ trivial, fun m ρ _ => Cert.FfKernel.Gen.frame m ρ, fun m ρ _ => Cert.FfKernelIdeal.Gen.frame m ρ, ff_ref_frame,
  fun m ρ _ => Cert.PnKernel.Gen.frame m ρ, fun m ρ _ => Cert.PnKernelIdeal.Gen.frame m ρ, pn_ref_frame, fun m ρ _ => Cert.RnKernel.Gen.frame m ρ,
  fun m ρ _ => Cert.RnKernelIdeal.Gen.frame m ρ, rn_ref_frame, fun m ρ _ => Cert.RlKernel.Gen.frame m ρ, fun m ρ _ => Cert.RlKernelIdeal.Gen.frame m ρ,
  rl_ref_frame, fun m ρ _ => Cert.SwaKernel.Gen.frame m ρ, fun m ρ _ => Cert.SwaKernelIdeal.Gen.frame m ρ,
  fun m ρ _ => Cert.SwaKernelIdeal.Gen.frame m ρ, swa_ref_frame, fun m ρ _ => swa_ref_frame m ρ trivial, fun m ρ _ => Cert.SwafKernel.Gen.frame m ρ,
  fun m ρ _ => Cert.SwafKernelIdeal.Gen.frame m ρ, fun m ρ _ => Cert.SwafKernelIdeal.Gen.frame m ρ, swaf_ref_frame,
  fun m ρ _ => swaf_ref_frame m ρ trivial, fun m ρ _ => Cert.PnfKernel.Gen.frame m ρ, fun m ρ _ => Cert.PnfKernelIdeal.Gen.frame m ρ, pnf_ref_frame,
  fun m ρ _ => Cert.RnfKernel.Gen.frame m ρ, fun m ρ _ => Cert.RnfKernelIdeal.Gen.frame m ρ, rnf_ref_frame, fun m ρ _ => Cert.UpKernel.Gen.frame m ρ,
  fun m ρ _ => Cert.UpKernelIdeal.Gen.frame m ρ, up_ref_frame, fun m ρ _ => Cert.ConvfKernel.Gen.frame m ρ,
  fun m ρ _ => Cert.ConvfKernelIdeal.Gen.frame m ρ, convf_ref_frame, fun m ρ _ => Cert.GconvfKernel.Gen.frame m ρ,
  fun m ρ _ => Cert.GconvfKernelIdeal.Gen.frame m ρ, gconvf_ref_frame, fun m ρ _ => Cert.GconvKernel.Gen.frame m ρ,
  fun m ρ _ => Cert.GconvKernelIdeal.Gen.frame m ρ, fun m ρ _ => Cert.GconvKernelIdeal.Gen.frame m ρ, gconv_ref_frame,
  fun m ρ _ => gconv_ref_frame m ρ trivial, fun m ρ _ => Cert.SsdfKernel.Gen.frame m ρ, fun m ρ _ => Cert.SsdfKernelIdeal.Gen.frame m ρ,
  fun m ρ _ => Cert.SsdfKernelIdeal.Gen.frame m ρ, ssdf_ref_frame, fun m ρ _ => ssdf_ref_frame m ρ trivial, fun m ρ _ => Cert.SsdbKernel.Gen.frame m ρ,
  fun m ρ _ => Cert.SsdbKernelIdeal.Gen.frame m ρ, fun m ρ _ => Cert.GdnbKernel.Gen.frame m ρ, fun m ρ _ => Cert.GdnbKernelIdeal.Gen.frame m ρ,
  fun m ρ _ => Cert.GdnfKernel.Gen.frame m ρ, fun m ρ _ => Cert.GdnfKernelIdeal.Gen.frame m ρ, fun m ρ _ => Cert.NnKernel.Gen.frame m ρ,
  fun m ρ _ => Cert.NnKernelIdeal.Gen.frame m ρ, nn_ref_frame, fun m ρ _ => Cert.NtKernel.Gen.frame m ρ, fun m ρ _ => Cert.NtKernelIdeal.Gen.frame m ρ,
  nt_ref_frame, fun m ρ _ => Cert.TnKernel.Gen.frame m ρ, fun m ρ _ => Cert.TnKernelIdeal.Gen.frame m ρ, tn_ref_frame,
  fun m ρ _ => Cert.SumKernel.Gen.frame m ρ, fun m ρ _ => Cert.SumKernelIdeal.Gen.frame m ρ, sum_ref_frame, fun m ρ _ => Cert.AdamKernel.Gen.frame m ρ,
  fun m ρ _ => Cert.AdamKernelIdeal.Gen.frame m ρ, adam_ref_frame, trivial, conv_pair, trivial, ff_pair, trivial, pn_pair, trivial, rn_pair, trivial,
  rl_pair, swa_named, swa_pair, swaf_named, swaf_pair, trivial, pnf_pair, trivial, rnf_pair, trivial, up_pair, trivial, convf_pair, trivial,
  gconvf_pair, trivial, gconv_pair, trivial, ssdf_pair, trivial, trivial, trivial, trivial, nn_pair, trivial, nt_pair, trivial, tn_pair, trivial,
  sum_pair, trivial, adam_pair⟩

end Cert.Proof

end
